-- ==== Defs.lean ====
def Pre_Ffn [hPre_pages_in_pool : Cert.Pre_pages_in_pool.Facts] (m : (ℓ : Loc Cert.Ffn.nD Cert.Ffn.τ Cert.Ffn.sig) → Buf (Elt Bits) ℓ) : Prop :=
  ∀ c : Dev Cert.Ffn.nD,
    (Cert.Pre_pages_in_pool.fn (F := Bits) (m ((c.tc : Thread Cert.Ffn.nD Cert.Ffn.τ).loc Cert.Ffn.main_arg0)) (m ((c.tc : Thread Cert.Ffn.nD Cert.Ffn.τ).loc Cert.Ffn.main_arg1)) (m ((c.tc : Thread Cert.Ffn.nD Cert.Ffn.τ).loc Cert.Ffn.main_arg2)) (m ((c.tc : Thread Cert.Ffn.nD Cert.Ffn.τ).loc Cert.Ffn.main_arg3)) (m ((c.tc : Thread Cert.Ffn.nD Cert.Ffn.τ).loc Cert.Ffn.main_arg4)) (m ((c.tc : Thread Cert.Ffn.nD Cert.Ffn.τ).loc Cert.Ffn.main_arg5)) (m ((c.tc : Thread Cert.Ffn.nD Cert.Ffn.τ).loc Cert.Ffn.main_arg6)) (m ((c.tc : Thread Cert.Ffn.nD Cert.Ffn.τ).loc Cert.Ffn.main_arg7)) (m ((c.tc : Thread Cert.Ffn.nD Cert.Ffn.τ).loc Cert.Ffn.main_arg8)) (m ((c.tc : Thread Cert.Ffn.nD Cert.Ffn.τ).loc Cert.Ffn.main_arg9)) (m ((c.tc : Thread Cert.Ffn.nD Cert.Ffn.τ).loc Cert.Ffn.main_arg10)) (m ((c.tc : Thread Cert.Ffn.nD Cert.Ffn.τ).loc Cert.Ffn.main_arg11)) (m ((c.tc : Thread Cert.Ffn.nD Cert.Ffn.τ).loc Cert.Ffn.main_arg12)) (m ((c.tc : Thread Cert.Ffn.nD Cert.Ffn.τ).loc Cert.Ffn.main_arg13)) (m ((c.tc : Thread Cert.Ffn.nD Cert.Ffn.τ).loc Cert.Ffn.main_arg14))) = (fun _ => 1#1)

def Pre_FfnIdeal [hPre_pages_in_pool : Cert.Pre_pages_in_pool.Facts] (m : (ℓ : Loc Cert.FfnIdeal.nD Cert.FfnIdeal.τ Cert.FfnIdeal.sig) → Buf (Elt Ideal) ℓ) : Prop :=
  ∀ c : Dev Cert.FfnIdeal.nD,
    (Cert.Pre_pages_in_pool.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)) (m ((c.tc : Thread Cert.FfnIdeal.nD Cert.FfnIdeal.τ).loc Cert.FfnIdeal.main_arg5)) (m ((c.tc : Thread Cert.FfnIdeal.nD Cert.FfnIdeal.τ).loc Cert.FfnIdeal.main_arg6)) (m ((c.tc : Thread Cert.FfnIdeal.nD Cert.FfnIdeal.τ).loc Cert.FfnIdeal.main_arg7)) (m ((c.tc : Thread Cert.FfnIdeal.nD Cert.FfnIdeal.τ).loc Cert.FfnIdeal.main_arg8)) (m ((c.tc : Thread Cert.FfnIdeal.nD Cert.FfnIdeal.τ).loc Cert.FfnIdeal.main_arg9)) (m ((c.tc : Thread Cert.FfnIdeal.nD Cert.FfnIdeal.τ).loc Cert.FfnIdeal.main_arg10)) (m ((c.tc : Thread Cert.FfnIdeal.nD Cert.FfnIdeal.τ).loc Cert.FfnIdeal.main_arg11)) (m ((c.tc : Thread Cert.FfnIdeal.nD Cert.FfnIdeal.τ).loc Cert.FfnIdeal.main_arg12)) (m ((c.tc : Thread Cert.FfnIdeal.nD Cert.FfnIdeal.τ).loc Cert.FfnIdeal.main_arg13)) (m ((c.tc : Thread Cert.FfnIdeal.nD Cert.FfnIdeal.τ).loc Cert.FfnIdeal.main_arg14))) = (fun _ => 1#1)

def Pre_FfnRefIdeal (m : (ℓ : Loc Cert.FfnRefIdeal.nD Cert.FfnRefIdeal.τ Cert.FfnRefIdeal.sig) → Buf (Elt Ideal) ℓ) : Prop :=
  True

def Pre_FfnRefIdeal_pages_in_pool [hPre_pages_in_pool : Cert.Pre_pages_in_pool.Facts] (m : (ℓ : Loc Cert.FfnRefIdeal.nD Cert.FfnRefIdeal.τ Cert.FfnRefIdeal.sig) → Buf (Elt Ideal) ℓ) : Prop :=
  ∀ c : Dev Cert.FfnRefIdeal.nD,
    (Cert.Pre_pages_in_pool.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4)) (m ((c.tc : Thread Cert.FfnRefIdeal.nD Cert.FfnRefIdeal.τ).loc Cert.FfnRefIdeal.main_arg5)) (m ((c.tc : Thread Cert.FfnRefIdeal.nD Cert.FfnRefIdeal.τ).loc Cert.FfnRefIdeal.main_arg6)) (m ((c.tc : Thread Cert.FfnRefIdeal.nD Cert.FfnRefIdeal.τ).loc Cert.FfnRefIdeal.main_arg7)) (m ((c.tc : Thread Cert.FfnRefIdeal.nD Cert.FfnRefIdeal.τ).loc Cert.FfnRefIdeal.main_arg8)) (m ((c.tc : Thread Cert.FfnRefIdeal.nD Cert.FfnRefIdeal.τ).loc Cert.FfnRefIdeal.main_arg9)) (m ((c.tc : Thread Cert.FfnRefIdeal.nD Cert.FfnRefIdeal.τ).loc Cert.FfnRefIdeal.main_arg10)) (m ((c.tc : Thread Cert.FfnRefIdeal.nD Cert.FfnRefIdeal.τ).loc Cert.FfnRefIdeal.main_arg11)) (m ((c.tc : Thread Cert.FfnRefIdeal.nD Cert.FfnRefIdeal.τ).loc Cert.FfnRefIdeal.main_arg12)) (m ((c.tc : Thread Cert.FfnRefIdeal.nD Cert.FfnRefIdeal.τ).loc Cert.FfnRefIdeal.main_arg13)) (m ((c.tc : Thread Cert.FfnRefIdeal.nD Cert.FfnRefIdeal.τ).loc Cert.FfnRefIdeal.main_arg14))) = (fun _ => 1#1)

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def Pre_InStep (m : (ℓ : Loc Cert.InStep.nD Cert.InStep.τ Cert.InStep.sig) → Buf (Elt Bits) ℓ) : Prop :=
  True

def Pre_InStepIdeal (m : (ℓ : Loc Cert.InStepIdeal.nD Cert.InStepIdeal.τ Cert.InStepIdeal.sig) → Buf (Elt Ideal) ℓ) : Prop :=
  True

def Pre_InStepRefIdeal (m : (ℓ : Loc Cert.InStepRefIdeal.nD Cert.InStepRefIdeal.τ Cert.InStepRefIdeal.sig) → Buf (Elt Ideal) ℓ) : Prop :=
  True

def Pre_FfnStep (m : (ℓ : Loc Cert.FfnStep.nD Cert.FfnStep.τ Cert.FfnStep.sig) → Buf (Elt Bits) ℓ) : Prop :=
  True

def Pre_FfnStepIdeal (m : (ℓ : Loc Cert.FfnStepIdeal.nD Cert.FfnStepIdeal.τ Cert.FfnStepIdeal.sig) → Buf (Elt Ideal) ℓ) : Prop :=
  True

def Pre_FfnStepRefIdeal (m : (ℓ : Loc Cert.FfnStepRefIdeal.nD Cert.FfnStepRefIdeal.τ Cert.FfnStepRefIdeal.sig) → Buf (Elt Ideal) ℓ) : Prop :=
  True

def quiescent_Ffn [hFfn : Cert.Ffn.Facts] [hPre_pages_in_pool : Cert.Pre_pages_in_pool.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5)
      ∧ r.2.mem ((c.tc : Thread Cert.Ffn.nD Cert.Ffn.τ).loc Cert.Ffn.main_arg6) = m ((c.tc : Thread Cert.Ffn.nD Cert.Ffn.τ).loc Cert.Ffn.main_arg6)
      ∧ r.2.mem ((c.tc : Thread Cert.Ffn.nD Cert.Ffn.τ).loc Cert.Ffn.main_arg7) = m ((c.tc : Thread Cert.Ffn.nD Cert.Ffn.τ).loc Cert.Ffn.main_arg7)
      ∧ r.2.mem ((c.tc : Thread Cert.Ffn.nD Cert.Ffn.τ).loc Cert.Ffn.main_arg8) = m ((c.tc : Thread Cert.Ffn.nD Cert.Ffn.τ).loc Cert.Ffn.main_arg8)
      ∧ r.2.mem ((c.tc : Thread Cert.Ffn.nD Cert.Ffn.τ).loc Cert.Ffn.main_arg9) = m ((c.tc : Thread Cert.Ffn.nD Cert.Ffn.τ).loc Cert.Ffn.main_arg9)
      ∧ r.2.mem ((c.tc : Thread Cert.Ffn.nD Cert.Ffn.τ).loc Cert.Ffn.main_arg10) = m ((c.tc : Thread Cert.Ffn.nD Cert.Ffn.τ).loc Cert.Ffn.main_arg10)
      ∧ r.2.mem ((c.tc : Thread Cert.Ffn.nD Cert.Ffn.τ).loc Cert.Ffn.main_arg11) = m ((c.tc : Thread Cert.Ffn.nD Cert.Ffn.τ).loc Cert.Ffn.main_arg11)
      ∧ r.2.mem ((c.tc : Thread Cert.Ffn.nD Cert.Ffn.τ).loc Cert.Ffn.main_arg12) = m ((c.tc : Thread Cert.Ffn.nD Cert.Ffn.τ).loc Cert.Ffn.main_arg12)
      ∧ r.2.mem ((c.tc : Thread Cert.Ffn.nD Cert.Ffn.τ).loc Cert.Ffn.main_arg13) = m ((c.tc : Thread Cert.Ffn.nD Cert.Ffn.τ).loc Cert.Ffn.main_arg13)
      ∧ r.2.mem ((c.tc : Thread Cert.Ffn.nD Cert.Ffn.τ).loc Cert.Ffn.main_arg14) = m ((c.tc : Thread Cert.Ffn.nD Cert.Ffn.τ).loc Cert.Ffn.main_arg14))
      ∧ r.2.sem = fun _ => 0)

def quiescent_FfnIdeal [hFfnIdeal : Cert.FfnIdeal.Facts] [hPre_pages_in_pool : Cert.Pre_pages_in_pool.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
      ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7)
      ∧ r.2.mem ((c.tc : Thread Cert.FfnIdeal.nD Cert.FfnIdeal.τ).loc Cert.FfnIdeal.main_arg8) = m ((c.tc : Thread Cert.FfnIdeal.nD Cert.FfnIdeal.τ).loc Cert.FfnIdeal.main_arg8)
      ∧ r.2.mem ((c.tc : Thread Cert.FfnIdeal.nD Cert.FfnIdeal.τ).loc Cert.FfnIdeal.main_arg9) = m ((c.tc : Thread Cert.FfnIdeal.nD Cert.FfnIdeal.τ).loc Cert.FfnIdeal.main_arg9)
      ∧ r.2.mem ((c.tc : Thread Cert.FfnIdeal.nD Cert.FfnIdeal.τ).loc Cert.FfnIdeal.main_arg10) = m ((c.tc : Thread Cert.FfnIdeal.nD Cert.FfnIdeal.τ).loc Cert.FfnIdeal.main_arg10)
      ∧ r.2.mem ((c.tc : Thread Cert.FfnIdeal.nD Cert.FfnIdeal.τ).loc Cert.FfnIdeal.main_arg11) = m ((c.tc : Thread Cert.FfnIdeal.nD Cert.FfnIdeal.τ).loc Cert.FfnIdeal.main_arg11)
      ∧ r.2.mem ((c.tc : Thread Cert.FfnIdeal.nD Cert.FfnIdeal.τ).loc Cert.FfnIdeal.main_arg12) = m ((c.tc : Thread Cert.FfnIdeal.nD Cert.FfnIdeal.τ).loc Cert.FfnIdeal.main_arg12)
      ∧ r.2.mem ((c.tc : Thread Cert.FfnIdeal.nD Cert.FfnIdeal.τ).loc Cert.FfnIdeal.main_arg13) = m ((c.tc : Thread Cert.FfnIdeal.nD Cert.FfnIdeal.τ).loc Cert.FfnIdeal.main_arg13)
      ∧ r.2.mem ((c.tc : Thread Cert.FfnIdeal.nD Cert.FfnIdeal.τ).loc Cert.FfnIdeal.main_arg14) = m ((c.tc : Thread Cert.FfnIdeal.nD Cert.FfnIdeal.τ).loc Cert.FfnIdeal.main_arg14))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5)
      ∧ r.2.mem ((c.tc : Thread Cert.FfnRefIdeal.nD Cert.FfnRefIdeal.τ).loc Cert.FfnRefIdeal.main_arg6) = m ((c.tc : Thread Cert.FfnRefIdeal.nD Cert.FfnRefIdeal.τ).loc Cert.FfnRefIdeal.main_arg6)
      ∧ r.2.mem ((c.tc : Thread Cert.FfnRefIdeal.nD Cert.FfnRefIdeal.τ).loc Cert.FfnRefIdeal.main_arg7) = m ((c.tc : Thread Cert.FfnRefIdeal.nD Cert.FfnRefIdeal.τ).loc Cert.FfnRefIdeal.main_arg7)
      ∧ r.2.mem ((c.tc : Thread Cert.FfnRefIdeal.nD Cert.FfnRefIdeal.τ).loc Cert.FfnRefIdeal.main_arg8) = m ((c.tc : Thread Cert.FfnRefIdeal.nD Cert.FfnRefIdeal.τ).loc Cert.FfnRefIdeal.main_arg8)
      ∧ r.2.mem ((c.tc : Thread Cert.FfnRefIdeal.nD Cert.FfnRefIdeal.τ).loc Cert.FfnRefIdeal.main_arg9) = m ((c.tc : Thread Cert.FfnRefIdeal.nD Cert.FfnRefIdeal.τ).loc Cert.FfnRefIdeal.main_arg9)
      ∧ r.2.mem ((c.tc : Thread Cert.FfnRefIdeal.nD Cert.FfnRefIdeal.τ).loc Cert.FfnRefIdeal.main_arg10) = m ((c.tc : Thread Cert.FfnRefIdeal.nD Cert.FfnRefIdeal.τ).loc Cert.FfnRefIdeal.main_arg10)
      ∧ r.2.mem ((c.tc : Thread Cert.FfnRefIdeal.nD Cert.FfnRefIdeal.τ).loc Cert.FfnRefIdeal.main_arg11) = m ((c.tc : Thread Cert.FfnRefIdeal.nD Cert.FfnRefIdeal.τ).loc Cert.FfnRefIdeal.main_arg11)
      ∧ r.2.mem ((c.tc : Thread Cert.FfnRefIdeal.nD Cert.FfnRefIdeal.τ).loc Cert.FfnRefIdeal.main_arg12) = m ((c.tc : Thread Cert.FfnRefIdeal.nD Cert.FfnRefIdeal.τ).loc Cert.FfnRefIdeal.main_arg12)
      ∧ r.2.mem ((c.tc : Thread Cert.FfnRefIdeal.nD Cert.FfnRefIdeal.τ).loc Cert.FfnRefIdeal.main_arg13) = m ((c.tc : Thread Cert.FfnRefIdeal.nD Cert.FfnRefIdeal.τ).loc Cert.FfnRefIdeal.main_arg13)
      ∧ r.2.mem ((c.tc : Thread Cert.FfnRefIdeal.nD Cert.FfnRefIdeal.τ).loc Cert.FfnRefIdeal.main_arg14) = m ((c.tc : Thread Cert.FfnRefIdeal.nD Cert.FfnRefIdeal.τ).loc Cert.FfnRefIdeal.main_arg14))
      ∧ r.2.sem = fun _ => 0)

def quiescent_FfnRefIdeal_pre_pages_in_pool [hFfnRefIdeal : Cert.FfnRefIdeal.Facts] [hPre_pages_in_pool : Cert.Pre_pages_in_pool.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal_pages_in_pool m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5)
      ∧ r.2.mem ((c.tc : Thread Cert.FfnRefIdeal.nD Cert.FfnRefIdeal.τ).loc Cert.FfnRefIdeal.main_arg6) = m ((c.tc : Thread Cert.FfnRefIdeal.nD Cert.FfnRefIdeal.τ).loc Cert.FfnRefIdeal.main_arg6)
      ∧ r.2.mem ((c.tc : Thread Cert.FfnRefIdeal.nD Cert.FfnRefIdeal.τ).loc Cert.FfnRefIdeal.main_arg7) = m ((c.tc : Thread Cert.FfnRefIdeal.nD Cert.FfnRefIdeal.τ).loc Cert.FfnRefIdeal.main_arg7)
      ∧ r.2.mem ((c.tc : Thread Cert.FfnRefIdeal.nD Cert.FfnRefIdeal.τ).loc Cert.FfnRefIdeal.main_arg8) = m ((c.tc : Thread Cert.FfnRefIdeal.nD Cert.FfnRefIdeal.τ).loc Cert.FfnRefIdeal.main_arg8)
      ∧ r.2.mem ((c.tc : Thread Cert.FfnRefIdeal.nD Cert.FfnRefIdeal.τ).loc Cert.FfnRefIdeal.main_arg9) = m ((c.tc : Thread Cert.FfnRefIdeal.nD Cert.FfnRefIdeal.τ).loc Cert.FfnRefIdeal.main_arg9)
      ∧ r.2.mem ((c.tc : Thread Cert.FfnRefIdeal.nD Cert.FfnRefIdeal.τ).loc Cert.FfnRefIdeal.main_arg10) = m ((c.tc : Thread Cert.FfnRefIdeal.nD Cert.FfnRefIdeal.τ).loc Cert.FfnRefIdeal.main_arg10)
      ∧ r.2.mem ((c.tc : Thread Cert.FfnRefIdeal.nD Cert.FfnRefIdeal.τ).loc Cert.FfnRefIdeal.main_arg11) = m ((c.tc : Thread Cert.FfnRefIdeal.nD Cert.FfnRefIdeal.τ).loc Cert.FfnRefIdeal.main_arg11)
      ∧ r.2.mem ((c.tc : Thread Cert.FfnRefIdeal.nD Cert.FfnRefIdeal.τ).loc Cert.FfnRefIdeal.main_arg12) = m ((c.tc : Thread Cert.FfnRefIdeal.nD Cert.FfnRefIdeal.τ).loc Cert.FfnRefIdeal.main_arg12)
      ∧ r.2.mem ((c.tc : Thread Cert.FfnRefIdeal.nD Cert.FfnRefIdeal.τ).loc Cert.FfnRefIdeal.main_arg13) = m ((c.tc : Thread Cert.FfnRefIdeal.nD Cert.FfnRefIdeal.τ).loc Cert.FfnRefIdeal.main_arg13)
      ∧ r.2.mem ((c.tc : Thread Cert.FfnRefIdeal.nD Cert.FfnRefIdeal.τ).loc Cert.FfnRefIdeal.main_arg14) = m ((c.tc : Thread Cert.FfnRefIdeal.nD Cert.FfnRefIdeal.τ).loc Cert.FfnRefIdeal.main_arg14))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2)
      ∧ r.2.mem ((c.tc : Thread Cert.InProj.nD Cert.InProj.τ).loc Cert.InProj.main_arg3) = m ((c.tc : Thread Cert.InProj.nD Cert.InProj.τ).loc Cert.InProj.main_arg3)
      ∧ r.2.mem ((c.tc : Thread Cert.InProj.nD Cert.InProj.τ).loc Cert.InProj.main_arg4) = m ((c.tc : Thread Cert.InProj.nD Cert.InProj.τ).loc Cert.InProj.main_arg4)
      ∧ r.2.mem ((c.tc : Thread Cert.InProj.nD Cert.InProj.τ).loc Cert.InProj.main_arg5) = m ((c.tc : Thread Cert.InProj.nD Cert.InProj.τ).loc Cert.InProj.main_arg5))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
      ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3)
      ∧ r.2.mem ((c.tc : Thread Cert.InProjIdeal.nD Cert.InProjIdeal.τ).loc Cert.InProjIdeal.main_arg4) = m ((c.tc : Thread Cert.InProjIdeal.nD Cert.InProjIdeal.τ).loc Cert.InProjIdeal.main_arg4)
      ∧ r.2.mem ((c.tc : Thread Cert.InProjIdeal.nD Cert.InProjIdeal.τ).loc Cert.InProjIdeal.main_arg5) = m ((c.tc : Thread Cert.InProjIdeal.nD Cert.InProjIdeal.τ).loc Cert.InProjIdeal.main_arg5))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1)
      ∧ r.2.mem ((c.tc : Thread Cert.InProjRefIdeal.nD Cert.InProjRefIdeal.τ).loc Cert.InProjRefIdeal.main_arg2) = m ((c.tc : Thread Cert.InProjRefIdeal.nD Cert.InProjRefIdeal.τ).loc Cert.InProjRefIdeal.main_arg2)
      ∧ r.2.mem ((c.tc : Thread Cert.InProjRefIdeal.nD Cert.InProjRefIdeal.τ).loc Cert.InProjRefIdeal.main_arg3) = m ((c.tc : Thread Cert.InProjRefIdeal.nD Cert.InProjRefIdeal.τ).loc Cert.InProjRefIdeal.main_arg3)
      ∧ r.2.mem ((c.tc : Thread Cert.InProjRefIdeal.nD Cert.InProjRefIdeal.τ).loc Cert.InProjRefIdeal.main_arg4) = m ((c.tc : Thread Cert.InProjRefIdeal.nD Cert.InProjRefIdeal.τ).loc Cert.InProjRefIdeal.main_arg4)
      ∧ r.2.mem ((c.tc : Thread Cert.InProjRefIdeal.nD Cert.InProjRefIdeal.τ).loc Cert.InProjRefIdeal.main_arg5) = m ((c.tc : Thread Cert.InProjRefIdeal.nD Cert.InProjRefIdeal.τ).loc Cert.InProjRefIdeal.main_arg5))
      ∧ r.2.sem = fun _ => 0)

def quiescent_InStep [hInStep : Cert.InStep.Facts] : Prop :=
  ∀ (m : (ℓ : Loc Cert.InStep.nD Cert.InStep.τ Cert.InStep.sig) → Buf (Elt Bits) ℓ) (g : Dev Cert.InStep.nD → PrngReg), Pre_InStep m →
    θ_run (Cert.InStep.defs (F := Bits)) (onTc (τ := Cert.InStep.τ) (Cert.InStep.main (F := Bits))) ⟨m, fun _ => 0, g⟩ (fun r => (∀ c : Dev Cert.InStep.nD,
      r.2.mem ((c.tc : Thread Cert.InStep.nD Cert.InStep.τ).loc Cert.InStep.main_arg0) = m ((c.tc : Thread Cert.InStep.nD Cert.InStep.τ).loc Cert.InStep.main_arg0)
      ∧ r.2.mem ((c.tc : Thread Cert.InStep.nD Cert.InStep.τ).loc Cert.InStep.main_arg1) = m ((c.tc : Thread Cert.InStep.nD Cert.InStep.τ).loc Cert.InStep.main_arg1)
      ∧ r.2.mem ((c.tc : Thread Cert.InStep.nD Cert.InStep.τ).loc Cert.InStep.main_arg2) = m ((c.tc : Thread Cert.InStep.nD Cert.InStep.τ).loc Cert.InStep.main_arg2)
      ∧ r.2.mem ((c.tc : Thread Cert.InStep.nD Cert.InStep.τ).loc Cert.InStep.main_arg3) = m ((c.tc : Thread Cert.InStep.nD Cert.InStep.τ).loc Cert.InStep.main_arg3)
      ∧ r.2.mem ((c.tc : Thread Cert.InStep.nD Cert.InStep.τ).loc Cert.InStep.main_arg4) = m ((c.tc : Thread Cert.InStep.nD Cert.InStep.τ).loc Cert.InStep.main_arg4)
      ∧ r.2.mem ((c.tc : Thread Cert.InStep.nD Cert.InStep.τ).loc Cert.InStep.main_arg5) = m ((c.tc : Thread Cert.InStep.nD Cert.InStep.τ).loc Cert.InStep.main_arg5)
      ∧ r.2.mem ((c.tc : Thread Cert.InStep.nD Cert.InStep.τ).loc Cert.InStep.main_arg6) = m ((c.tc : Thread Cert.InStep.nD Cert.InStep.τ).loc Cert.InStep.main_arg6))
      ∧ r.2.sem = fun _ => 0)

def quiescent_InStepIdeal [hInStepIdeal : Cert.InStepIdeal.Facts] : Prop :=
  ∀ (m : (ℓ : Loc Cert.InStepIdeal.nD Cert.InStepIdeal.τ Cert.InStepIdeal.sig) → Buf (Elt Ideal) ℓ) (g : Dev Cert.InStepIdeal.nD → PrngReg), Pre_InStepIdeal m →
    θ_run (Cert.InStepIdeal.defs (F := Ideal)) (onTc (τ := Cert.InStepIdeal.τ) (Cert.InStepIdeal.main (F := Ideal))) ⟨m, fun _ => 0, g⟩ (fun r => (∀ c : Dev Cert.InStepIdeal.nD,
      r.2.mem ((c.tc : Thread Cert.InStepIdeal.nD Cert.InStepIdeal.τ).loc Cert.InStepIdeal.main_arg0) = m ((c.tc : Thread Cert.InStepIdeal.nD Cert.InStepIdeal.τ).loc Cert.InStepIdeal.main_arg0)
      ∧ r.2.mem ((c.tc : Thread Cert.InStepIdeal.nD Cert.InStepIdeal.τ).loc Cert.InStepIdeal.main_arg1) = m ((c.tc : Thread Cert.InStepIdeal.nD Cert.InStepIdeal.τ).loc Cert.InStepIdeal.main_arg1)
      ∧ r.2.mem ((c.tc : Thread Cert.InStepIdeal.nD Cert.InStepIdeal.τ).loc Cert.InStepIdeal.main_arg2) = m ((c.tc : Thread Cert.InStepIdeal.nD Cert.InStepIdeal.τ).loc Cert.InStepIdeal.main_arg2)
      ∧ r.2.mem ((c.tc : Thread Cert.InStepIdeal.nD Cert.InStepIdeal.τ).loc Cert.InStepIdeal.main_arg3) = m ((c.tc : Thread Cert.InStepIdeal.nD Cert.InStepIdeal.τ).loc Cert.InStepIdeal.main_arg3)
      ∧ r.2.mem ((c.tc : Thread Cert.InStepIdeal.nD Cert.InStepIdeal.τ).loc Cert.InStepIdeal.main_arg4) = m ((c.tc : Thread Cert.InStepIdeal.nD Cert.InStepIdeal.τ).loc Cert.InStepIdeal.main_arg4)
      ∧ r.2.mem ((c.tc : Thread Cert.InStepIdeal.nD Cert.InStepIdeal.τ).loc Cert.InStepIdeal.main_arg5) = m ((c.tc : Thread Cert.InStepIdeal.nD Cert.InStepIdeal.τ).loc Cert.InStepIdeal.main_arg5)
      ∧ r.2.mem ((c.tc : Thread Cert.InStepIdeal.nD Cert.InStepIdeal.τ).loc Cert.InStepIdeal.main_arg6) = m ((c.tc : Thread Cert.InStepIdeal.nD Cert.InStepIdeal.τ).loc Cert.InStepIdeal.main_arg6))
      ∧ r.2.sem = fun _ => 0)

def quiescent_InStepRefIdeal [hInStepRefIdeal : Cert.InStepRefIdeal.Facts] : Prop :=
  ∀ (m : (ℓ : Loc Cert.InStepRefIdeal.nD Cert.InStepRefIdeal.τ Cert.InStepRefIdeal.sig) → Buf (Elt Ideal) ℓ) (g : Dev Cert.InStepRefIdeal.nD → PrngReg), Pre_InStepRefIdeal m →
    θ_run (Cert.InStepRefIdeal.defs (F := Ideal)) (onTc (τ := Cert.InStepRefIdeal.τ) (Cert.InStepRefIdeal.main (F := Ideal))) ⟨m, fun _ => 0, g⟩ (fun r => (∀ c : Dev Cert.InStepRefIdeal.nD,
      r.2.mem ((c.tc : Thread Cert.InStepRefIdeal.nD Cert.InStepRefIdeal.τ).loc Cert.InStepRefIdeal.main_arg0) = m ((c.tc : Thread Cert.InStepRefIdeal.nD Cert.InStepRefIdeal.τ).loc Cert.InStepRefIdeal.main_arg0)
      ∧ r.2.mem ((c.tc : Thread Cert.InStepRefIdeal.nD Cert.InStepRefIdeal.τ).loc Cert.InStepRefIdeal.main_arg1) = m ((c.tc : Thread Cert.InStepRefIdeal.nD Cert.InStepRefIdeal.τ).loc Cert.InStepRefIdeal.main_arg1)
      ∧ r.2.mem ((c.tc : Thread Cert.InStepRefIdeal.nD Cert.InStepRefIdeal.τ).loc Cert.InStepRefIdeal.main_arg2) = m ((c.tc : Thread Cert.InStepRefIdeal.nD Cert.InStepRefIdeal.τ).loc Cert.InStepRefIdeal.main_arg2)
      ∧ r.2.mem ((c.tc : Thread Cert.InStepRefIdeal.nD Cert.InStepRefIdeal.τ).loc Cert.InStepRefIdeal.main_arg3) = m ((c.tc : Thread Cert.InStepRefIdeal.nD Cert.InStepRefIdeal.τ).loc Cert.InStepRefIdeal.main_arg3)
      ∧ r.2.mem ((c.tc : Thread Cert.InStepRefIdeal.nD Cert.InStepRefIdeal.τ).loc Cert.InStepRefIdeal.main_arg4) = m ((c.tc : Thread Cert.InStepRefIdeal.nD Cert.InStepRefIdeal.τ).loc Cert.InStepRefIdeal.main_arg4)
      ∧ r.2.mem ((c.tc : Thread Cert.InStepRefIdeal.nD Cert.InStepRefIdeal.τ).loc Cert.InStepRefIdeal.main_arg5) = m ((c.tc : Thread Cert.InStepRefIdeal.nD Cert.InStepRefIdeal.τ).loc Cert.InStepRefIdeal.main_arg5)
      ∧ r.2.mem ((c.tc : Thread Cert.InStepRefIdeal.nD Cert.InStepRefIdeal.τ).loc Cert.InStepRefIdeal.main_arg6) = m ((c.tc : Thread Cert.InStepRefIdeal.nD Cert.InStepRefIdeal.τ).loc Cert.InStepRefIdeal.main_arg6))
      ∧ r.2.sem = fun _ => 0)

def quiescent_FfnStep [hFfnStep : Cert.FfnStep.Facts] : Prop :=
  ∀ (m : (ℓ : Loc Cert.FfnStep.nD Cert.FfnStep.τ Cert.FfnStep.sig) → Buf (Elt Bits) ℓ) (g : Dev Cert.FfnStep.nD → PrngReg), Pre_FfnStep m →
    θ_run (Cert.FfnStep.defs (F := Bits)) (onTc (τ := Cert.FfnStep.τ) (Cert.FfnStep.main (F := Bits))) ⟨m, fun _ => 0, g⟩ (fun r => (∀ c : Dev Cert.FfnStep.nD,
      r.2.mem ((c.tc : Thread Cert.FfnStep.nD Cert.FfnStep.τ).loc Cert.FfnStep.main_arg0) = m ((c.tc : Thread Cert.FfnStep.nD Cert.FfnStep.τ).loc Cert.FfnStep.main_arg0)
      ∧ r.2.mem ((c.tc : Thread Cert.FfnStep.nD Cert.FfnStep.τ).loc Cert.FfnStep.main_arg1) = m ((c.tc : Thread Cert.FfnStep.nD Cert.FfnStep.τ).loc Cert.FfnStep.main_arg1)
      ∧ r.2.mem ((c.tc : Thread Cert.FfnStep.nD Cert.FfnStep.τ).loc Cert.FfnStep.main_arg2) = m ((c.tc : Thread Cert.FfnStep.nD Cert.FfnStep.τ).loc Cert.FfnStep.main_arg2)
      ∧ r.2.mem ((c.tc : Thread Cert.FfnStep.nD Cert.FfnStep.τ).loc Cert.FfnStep.main_arg3) = m ((c.tc : Thread Cert.FfnStep.nD Cert.FfnStep.τ).loc Cert.FfnStep.main_arg3)
      ∧ r.2.mem ((c.tc : Thread Cert.FfnStep.nD Cert.FfnStep.τ).loc Cert.FfnStep.main_arg4) = m ((c.tc : Thread Cert.FfnStep.nD Cert.FfnStep.τ).loc Cert.FfnStep.main_arg4)
      ∧ r.2.mem ((c.tc : Thread Cert.FfnStep.nD Cert.FfnStep.τ).loc Cert.FfnStep.main_arg5) = m ((c.tc : Thread Cert.FfnStep.nD Cert.FfnStep.τ).loc Cert.FfnStep.main_arg5)
      ∧ r.2.mem ((c.tc : Thread Cert.FfnStep.nD Cert.FfnStep.τ).loc Cert.FfnStep.main_arg6) = m ((c.tc : Thread Cert.FfnStep.nD Cert.FfnStep.τ).loc Cert.FfnStep.main_arg6)
      ∧ r.2.mem ((c.tc : Thread Cert.FfnStep.nD Cert.FfnStep.τ).loc Cert.FfnStep.main_arg7) = m ((c.tc : Thread Cert.FfnStep.nD Cert.FfnStep.τ).loc Cert.FfnStep.main_arg7)
      ∧ r.2.mem ((c.tc : Thread Cert.FfnStep.nD Cert.FfnStep.τ).loc Cert.FfnStep.main_arg8) = m ((c.tc : Thread Cert.FfnStep.nD Cert.FfnStep.τ).loc Cert.FfnStep.main_arg8)
      ∧ r.2.mem ((c.tc : Thread Cert.FfnStep.nD Cert.FfnStep.τ).loc Cert.FfnStep.main_arg9) = m ((c.tc : Thread Cert.FfnStep.nD Cert.FfnStep.τ).loc Cert.FfnStep.main_arg9)
      ∧ r.2.mem ((c.tc : Thread Cert.FfnStep.nD Cert.FfnStep.τ).loc Cert.FfnStep.main_arg10) = m ((c.tc : Thread Cert.FfnStep.nD Cert.FfnStep.τ).loc Cert.FfnStep.main_arg10)
      ∧ r.2.mem ((c.tc : Thread Cert.FfnStep.nD Cert.FfnStep.τ).loc Cert.FfnStep.main_arg11) = m ((c.tc : Thread Cert.FfnStep.nD Cert.FfnStep.τ).loc Cert.FfnStep.main_arg11)
      ∧ r.2.mem ((c.tc : Thread Cert.FfnStep.nD Cert.FfnStep.τ).loc Cert.FfnStep.main_arg12) = m ((c.tc : Thread Cert.FfnStep.nD Cert.FfnStep.τ).loc Cert.FfnStep.main_arg12))
      ∧ r.2.sem = fun _ => 0)

def quiescent_FfnStepIdeal [hFfnStepIdeal : Cert.FfnStepIdeal.Facts] : Prop :=
  ∀ (m : (ℓ : Loc Cert.FfnStepIdeal.nD Cert.FfnStepIdeal.τ Cert.FfnStepIdeal.sig) → Buf (Elt Ideal) ℓ) (g : Dev Cert.FfnStepIdeal.nD → PrngReg), Pre_FfnStepIdeal m →
    θ_run (Cert.FfnStepIdeal.defs (F := Ideal)) (onTc (τ := Cert.FfnStepIdeal.τ) (Cert.FfnStepIdeal.main (F := Ideal))) ⟨m, fun _ => 0, g⟩ (fun r => (∀ c : Dev Cert.FfnStepIdeal.nD,
      r.2.mem ((c.tc : Thread Cert.FfnStepIdeal.nD Cert.FfnStepIdeal.τ).loc Cert.FfnStepIdeal.main_arg0) = m ((c.tc : Thread Cert.FfnStepIdeal.nD Cert.FfnStepIdeal.τ).loc Cert.FfnStepIdeal.main_arg0)
      ∧ r.2.mem ((c.tc : Thread Cert.FfnStepIdeal.nD Cert.FfnStepIdeal.τ).loc Cert.FfnStepIdeal.main_arg1) = m ((c.tc : Thread Cert.FfnStepIdeal.nD Cert.FfnStepIdeal.τ).loc Cert.FfnStepIdeal.main_arg1)
      ∧ r.2.mem ((c.tc : Thread Cert.FfnStepIdeal.nD Cert.FfnStepIdeal.τ).loc Cert.FfnStepIdeal.main_arg2) = m ((c.tc : Thread Cert.FfnStepIdeal.nD Cert.FfnStepIdeal.τ).loc Cert.FfnStepIdeal.main_arg2)
      ∧ r.2.mem ((c.tc : Thread Cert.FfnStepIdeal.nD Cert.FfnStepIdeal.τ).loc Cert.FfnStepIdeal.main_arg3) = m ((c.tc : Thread Cert.FfnStepIdeal.nD Cert.FfnStepIdeal.τ).loc Cert.FfnStepIdeal.main_arg3)
      ∧ r.2.mem ((c.tc : Thread Cert.FfnStepIdeal.nD Cert.FfnStepIdeal.τ).loc Cert.FfnStepIdeal.main_arg4) = m ((c.tc : Thread Cert.FfnStepIdeal.nD Cert.FfnStepIdeal.τ).loc Cert.FfnStepIdeal.main_arg4)
      ∧ r.2.mem ((c.tc : Thread Cert.FfnStepIdeal.nD Cert.FfnStepIdeal.τ).loc Cert.FfnStepIdeal.main_arg5) = m ((c.tc : Thread Cert.FfnStepIdeal.nD Cert.FfnStepIdeal.τ).loc Cert.FfnStepIdeal.main_arg5)
      ∧ r.2.mem ((c.tc : Thread Cert.FfnStepIdeal.nD Cert.FfnStepIdeal.τ).loc Cert.FfnStepIdeal.main_arg6) = m ((c.tc : Thread Cert.FfnStepIdeal.nD Cert.FfnStepIdeal.τ).loc Cert.FfnStepIdeal.main_arg6)
      ∧ r.2.mem ((c.tc : Thread Cert.FfnStepIdeal.nD Cert.FfnStepIdeal.τ).loc Cert.FfnStepIdeal.main_arg7) = m ((c.tc : Thread Cert.FfnStepIdeal.nD Cert.FfnStepIdeal.τ).loc Cert.FfnStepIdeal.main_arg7)
      ∧ r.2.mem ((c.tc : Thread Cert.FfnStepIdeal.nD Cert.FfnStepIdeal.τ).loc Cert.FfnStepIdeal.main_arg8) = m ((c.tc : Thread Cert.FfnStepIdeal.nD Cert.FfnStepIdeal.τ).loc Cert.FfnStepIdeal.main_arg8)
      ∧ r.2.mem ((c.tc : Thread Cert.FfnStepIdeal.nD Cert.FfnStepIdeal.τ).loc Cert.FfnStepIdeal.main_arg9) = m ((c.tc : Thread Cert.FfnStepIdeal.nD Cert.FfnStepIdeal.τ).loc Cert.FfnStepIdeal.main_arg9)
      ∧ r.2.mem ((c.tc : Thread Cert.FfnStepIdeal.nD Cert.FfnStepIdeal.τ).loc Cert.FfnStepIdeal.main_arg10) = m ((c.tc : Thread Cert.FfnStepIdeal.nD Cert.FfnStepIdeal.τ).loc Cert.FfnStepIdeal.main_arg10)
      ∧ r.2.mem ((c.tc : Thread Cert.FfnStepIdeal.nD Cert.FfnStepIdeal.τ).loc Cert.FfnStepIdeal.main_arg11) = m ((c.tc : Thread Cert.FfnStepIdeal.nD Cert.FfnStepIdeal.τ).loc Cert.FfnStepIdeal.main_arg11)
      ∧ r.2.mem ((c.tc : Thread Cert.FfnStepIdeal.nD Cert.FfnStepIdeal.τ).loc Cert.FfnStepIdeal.main_arg12) = m ((c.tc : Thread Cert.FfnStepIdeal.nD Cert.FfnStepIdeal.τ).loc Cert.FfnStepIdeal.main_arg12))
      ∧ r.2.sem = fun _ => 0)

def quiescent_FfnStepRefIdeal [hFfnStepRefIdeal : Cert.FfnStepRefIdeal.Facts] : Prop :=
  ∀ (m : (ℓ : Loc Cert.FfnStepRefIdeal.nD Cert.FfnStepRefIdeal.τ Cert.FfnStepRefIdeal.sig) → Buf (Elt Ideal) ℓ) (g : Dev Cert.FfnStepRefIdeal.nD → PrngReg), Pre_FfnStepRefIdeal m →
    θ_run (Cert.FfnStepRefIdeal.defs (F := Ideal)) (onTc (τ := Cert.FfnStepRefIdeal.τ) (Cert.FfnStepRefIdeal.main (F := Ideal))) ⟨m, fun _ => 0, g⟩ (fun r => (∀ c : Dev Cert.FfnStepRefIdeal.nD,
      r.2.mem ((c.tc : Thread Cert.FfnStepRefIdeal.nD Cert.FfnStepRefIdeal.τ).loc Cert.FfnStepRefIdeal.main_arg0) = m ((c.tc : Thread Cert.FfnStepRefIdeal.nD Cert.FfnStepRefIdeal.τ).loc Cert.FfnStepRefIdeal.main_arg0)
      ∧ r.2.mem ((c.tc : Thread Cert.FfnStepRefIdeal.nD Cert.FfnStepRefIdeal.τ).loc Cert.FfnStepRefIdeal.main_arg1) = m ((c.tc : Thread Cert.FfnStepRefIdeal.nD Cert.FfnStepRefIdeal.τ).loc Cert.FfnStepRefIdeal.main_arg1)
      ∧ r.2.mem ((c.tc : Thread Cert.FfnStepRefIdeal.nD Cert.FfnStepRefIdeal.τ).loc Cert.FfnStepRefIdeal.main_arg2) = m ((c.tc : Thread Cert.FfnStepRefIdeal.nD Cert.FfnStepRefIdeal.τ).loc Cert.FfnStepRefIdeal.main_arg2)
      ∧ r.2.mem ((c.tc : Thread Cert.FfnStepRefIdeal.nD Cert.FfnStepRefIdeal.τ).loc Cert.FfnStepRefIdeal.main_arg3) = m ((c.tc : Thread Cert.FfnStepRefIdeal.nD Cert.FfnStepRefIdeal.τ).loc Cert.FfnStepRefIdeal.main_arg3)
      ∧ r.2.mem ((c.tc : Thread Cert.FfnStepRefIdeal.nD Cert.FfnStepRefIdeal.τ).loc Cert.FfnStepRefIdeal.main_arg4) = m ((c.tc : Thread Cert.FfnStepRefIdeal.nD Cert.FfnStepRefIdeal.τ).loc Cert.FfnStepRefIdeal.main_arg4)
      ∧ r.2.mem ((c.tc : Thread Cert.FfnStepRefIdeal.nD Cert.FfnStepRefIdeal.τ).loc Cert.FfnStepRefIdeal.main_arg5) = m ((c.tc : Thread Cert.FfnStepRefIdeal.nD Cert.FfnStepRefIdeal.τ).loc Cert.FfnStepRefIdeal.main_arg5)
      ∧ r.2.mem ((c.tc : Thread Cert.FfnStepRefIdeal.nD Cert.FfnStepRefIdeal.τ).loc Cert.FfnStepRefIdeal.main_arg6) = m ((c.tc : Thread Cert.FfnStepRefIdeal.nD Cert.FfnStepRefIdeal.τ).loc Cert.FfnStepRefIdeal.main_arg6)
      ∧ r.2.mem ((c.tc : Thread Cert.FfnStepRefIdeal.nD Cert.FfnStepRefIdeal.τ).loc Cert.FfnStepRefIdeal.main_arg7) = m ((c.tc : Thread Cert.FfnStepRefIdeal.nD Cert.FfnStepRefIdeal.τ).loc Cert.FfnStepRefIdeal.main_arg7)
      ∧ r.2.mem ((c.tc : Thread Cert.FfnStepRefIdeal.nD Cert.FfnStepRefIdeal.τ).loc Cert.FfnStepRefIdeal.main_arg8) = m ((c.tc : Thread Cert.FfnStepRefIdeal.nD Cert.FfnStepRefIdeal.τ).loc Cert.FfnStepRefIdeal.main_arg8)
      ∧ r.2.mem ((c.tc : Thread Cert.FfnStepRefIdeal.nD Cert.FfnStepRefIdeal.τ).loc Cert.FfnStepRefIdeal.main_arg9) = m ((c.tc : Thread Cert.FfnStepRefIdeal.nD Cert.FfnStepRefIdeal.τ).loc Cert.FfnStepRefIdeal.main_arg9)
      ∧ r.2.mem ((c.tc : Thread Cert.FfnStepRefIdeal.nD Cert.FfnStepRefIdeal.τ).loc Cert.FfnStepRefIdeal.main_arg10) = m ((c.tc : Thread Cert.FfnStepRefIdeal.nD Cert.FfnStepRefIdeal.τ).loc Cert.FfnStepRefIdeal.main_arg10)
      ∧ r.2.mem ((c.tc : Thread Cert.FfnStepRefIdeal.nD Cert.FfnStepRefIdeal.τ).loc Cert.FfnStepRefIdeal.main_arg11) = m ((c.tc : Thread Cert.FfnStepRefIdeal.nD Cert.FfnStepRefIdeal.τ).loc Cert.FfnStepRefIdeal.main_arg11)
      ∧ r.2.mem ((c.tc : Thread Cert.FfnStepRefIdeal.nD Cert.FfnStepRefIdeal.τ).loc Cert.FfnStepRefIdeal.main_arg12) = m ((c.tc : Thread Cert.FfnStepRefIdeal.nD Cert.FfnStepRefIdeal.τ).loc Cert.FfnStepRefIdeal.main_arg12))
      ∧ r.2.sem = fun _ => 0)

def preserves_Ffn_FfnIdeal : Prop :=
  True

def algebraic_FfnIdeal_FfnRefIdeal [hFfnIdeal : Cert.FfnIdeal.Facts] [hFfnRefIdeal : Cert.FfnRefIdeal.Facts] [hPre_pages_in_pool : Cert.Pre_pages_in_pool.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)
      ∧ m' ((c.tc : Thread Cert.FfnRefIdeal.nD Cert.FfnRefIdeal.τ).loc Cert.FfnRefIdeal.main_arg6) = m ((c.tc : Thread Cert.FfnIdeal.nD Cert.FfnIdeal.τ).loc Cert.FfnIdeal.main_arg6)
      ∧ m' ((c.tc : Thread Cert.FfnRefIdeal.nD Cert.FfnRefIdeal.τ).loc Cert.FfnRefIdeal.main_arg7) = m ((c.tc : Thread Cert.FfnIdeal.nD Cert.FfnIdeal.τ).loc Cert.FfnIdeal.main_arg7)
      ∧ m' ((c.tc : Thread Cert.FfnRefIdeal.nD Cert.FfnRefIdeal.τ).loc Cert.FfnRefIdeal.main_arg8) = m ((c.tc : Thread Cert.FfnIdeal.nD Cert.FfnIdeal.τ).loc Cert.FfnIdeal.main_arg8)
      ∧ m' ((c.tc : Thread Cert.FfnRefIdeal.nD Cert.FfnRefIdeal.τ).loc Cert.FfnRefIdeal.main_arg9) = m ((c.tc : Thread Cert.FfnIdeal.nD Cert.FfnIdeal.τ).loc Cert.FfnIdeal.main_arg9)
      ∧ m' ((c.tc : Thread Cert.FfnRefIdeal.nD Cert.FfnRefIdeal.τ).loc Cert.FfnRefIdeal.main_arg10) = m ((c.tc : Thread Cert.FfnIdeal.nD Cert.FfnIdeal.τ).loc Cert.FfnIdeal.main_arg10)
      ∧ m' ((c.tc : Thread Cert.FfnRefIdeal.nD Cert.FfnRefIdeal.τ).loc Cert.FfnRefIdeal.main_arg11) = m ((c.tc : Thread Cert.FfnIdeal.nD Cert.FfnIdeal.τ).loc Cert.FfnIdeal.main_arg11)
      ∧ m' ((c.tc : Thread Cert.FfnRefIdeal.nD Cert.FfnRefIdeal.τ).loc Cert.FfnRefIdeal.main_arg12) = m ((c.tc : Thread Cert.FfnIdeal.nD Cert.FfnIdeal.τ).loc Cert.FfnIdeal.main_arg12)
      ∧ m' ((c.tc : Thread Cert.FfnRefIdeal.nD Cert.FfnRefIdeal.τ).loc Cert.FfnRefIdeal.main_arg13) = m ((c.tc : Thread Cert.FfnIdeal.nD Cert.FfnIdeal.τ).loc Cert.FfnIdeal.main_arg13)
      ∧ m' ((c.tc : Thread Cert.FfnRefIdeal.nD Cert.FfnRefIdeal.τ).loc Cert.FfnRefIdeal.main_arg14) = m ((c.tc : Thread Cert.FfnIdeal.nD Cert.FfnIdeal.τ).loc Cert.FfnIdeal.main_arg14)) →
    ∃ (v0 : (c : Dev Cert.FfnIdeal.nD) → Buf (Elt Ideal) ((c.tc : Thread Cert.FfnIdeal.nD Cert.FfnIdeal.τ).loc Cert.FfnIdeal.main_v17_0)) (v1 : (c : Dev Cert.FfnIdeal.nD) → Buf (Elt Ideal) ((c.tc : Thread Cert.FfnIdeal.nD Cert.FfnIdeal.τ).loc Cert.FfnIdeal.main_v17_1)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v17_0) = v0 c
          ∧ r.2.mem ((c.tc : Thread Cert.FfnIdeal.nD Cert.FfnIdeal.τ).loc Cert.FfnIdeal.main_v17_1) = v1 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
          ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
          ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7)
          ∧ r.2.mem ((c.tc : Thread Cert.FfnIdeal.nD Cert.FfnIdeal.τ).loc Cert.FfnIdeal.main_arg8) = m ((c.tc : Thread Cert.FfnIdeal.nD Cert.FfnIdeal.τ).loc Cert.FfnIdeal.main_arg8)
          ∧ r.2.mem ((c.tc : Thread Cert.FfnIdeal.nD Cert.FfnIdeal.τ).loc Cert.FfnIdeal.main_arg9) = m ((c.tc : Thread Cert.FfnIdeal.nD Cert.FfnIdeal.τ).loc Cert.FfnIdeal.main_arg9)
          ∧ r.2.mem ((c.tc : Thread Cert.FfnIdeal.nD Cert.FfnIdeal.τ).loc Cert.FfnIdeal.main_arg10) = m ((c.tc : Thread Cert.FfnIdeal.nD Cert.FfnIdeal.τ).loc Cert.FfnIdeal.main_arg10)
          ∧ r.2.mem ((c.tc : Thread Cert.FfnIdeal.nD Cert.FfnIdeal.τ).loc Cert.FfnIdeal.main_arg11) = m ((c.tc : Thread Cert.FfnIdeal.nD Cert.FfnIdeal.τ).loc Cert.FfnIdeal.main_arg11)
          ∧ r.2.mem ((c.tc : Thread Cert.FfnIdeal.nD Cert.FfnIdeal.τ).loc Cert.FfnIdeal.main_arg12) = m ((c.tc : Thread Cert.FfnIdeal.nD Cert.FfnIdeal.τ).loc Cert.FfnIdeal.main_arg12)
          ∧ r.2.mem ((c.tc : Thread Cert.FfnIdeal.nD Cert.FfnIdeal.τ).loc Cert.FfnIdeal.main_arg13) = m ((c.tc : Thread Cert.FfnIdeal.nD Cert.FfnIdeal.τ).loc Cert.FfnIdeal.main_arg13)
          ∧ r.2.mem ((c.tc : Thread Cert.FfnIdeal.nD Cert.FfnIdeal.τ).loc Cert.FfnIdeal.main_arg14) = m ((c.tc : Thread Cert.FfnIdeal.nD Cert.FfnIdeal.τ).loc Cert.FfnIdeal.main_arg14))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v76) = v0 c
          ∧ r.2.mem ((c.tc : Thread Cert.FfnRefIdeal.nD Cert.FfnRefIdeal.τ).loc Cert.FfnRefIdeal.main_v71) = v1 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5)
          ∧ r.2.mem ((c.tc : Thread Cert.FfnRefIdeal.nD Cert.FfnRefIdeal.τ).loc Cert.FfnRefIdeal.main_arg6) = m' ((c.tc : Thread Cert.FfnRefIdeal.nD Cert.FfnRefIdeal.τ).loc Cert.FfnRefIdeal.main_arg6)
          ∧ r.2.mem ((c.tc : Thread Cert.FfnRefIdeal.nD Cert.FfnRefIdeal.τ).loc Cert.FfnRefIdeal.main_arg7) = m' ((c.tc : Thread Cert.FfnRefIdeal.nD Cert.FfnRefIdeal.τ).loc Cert.FfnRefIdeal.main_arg7)
          ∧ r.2.mem ((c.tc : Thread Cert.FfnRefIdeal.nD Cert.FfnRefIdeal.τ).loc Cert.FfnRefIdeal.main_arg8) = m' ((c.tc : Thread Cert.FfnRefIdeal.nD Cert.FfnRefIdeal.τ).loc Cert.FfnRefIdeal.main_arg8)
          ∧ r.2.mem ((c.tc : Thread Cert.FfnRefIdeal.nD Cert.FfnRefIdeal.τ).loc Cert.FfnRefIdeal.main_arg9) = m' ((c.tc : Thread Cert.FfnRefIdeal.nD Cert.FfnRefIdeal.τ).loc Cert.FfnRefIdeal.main_arg9)
          ∧ r.2.mem ((c.tc : Thread Cert.FfnRefIdeal.nD Cert.FfnRefIdeal.τ).loc Cert.FfnRefIdeal.main_arg10) = m' ((c.tc : Thread Cert.FfnRefIdeal.nD Cert.FfnRefIdeal.τ).loc Cert.FfnRefIdeal.main_arg10)
          ∧ r.2.mem ((c.tc : Thread Cert.FfnRefIdeal.nD Cert.FfnRefIdeal.τ).loc Cert.FfnRefIdeal.main_arg11) = m' ((c.tc : Thread Cert.FfnRefIdeal.nD Cert.FfnRefIdeal.τ).loc Cert.FfnRefIdeal.main_arg11)
          ∧ r.2.mem ((c.tc : Thread Cert.FfnRefIdeal.nD Cert.FfnRefIdeal.τ).loc Cert.FfnRefIdeal.main_arg12) = m' ((c.tc : Thread Cert.FfnRefIdeal.nD Cert.FfnRefIdeal.τ).loc Cert.FfnRefIdeal.main_arg12)
          ∧ r.2.mem ((c.tc : Thread Cert.FfnRefIdeal.nD Cert.FfnRefIdeal.τ).loc Cert.FfnRefIdeal.main_arg13) = m' ((c.tc : Thread Cert.FfnRefIdeal.nD Cert.FfnRefIdeal.τ).loc Cert.FfnRefIdeal.main_arg13)
          ∧ r.2.mem ((c.tc : Thread Cert.FfnRefIdeal.nD Cert.FfnRefIdeal.τ).loc Cert.FfnRefIdeal.main_arg14) = m' ((c.tc : Thread Cert.FfnRefIdeal.nD Cert.FfnRefIdeal.τ).loc Cert.FfnRefIdeal.main_arg14))

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)
      ∧ m' ((c.tc : Thread Cert.InProjRefIdeal.nD Cert.InProjRefIdeal.τ).loc Cert.InProjRefIdeal.main_arg2) = m ((c.tc : Thread Cert.InProjIdeal.nD Cert.InProjIdeal.τ).loc Cert.InProjIdeal.main_arg2)
      ∧ m' ((c.tc : Thread Cert.InProjRefIdeal.nD Cert.InProjRefIdeal.τ).loc Cert.InProjRefIdeal.main_arg3) = m ((c.tc : Thread Cert.InProjIdeal.nD Cert.InProjIdeal.τ).loc Cert.InProjIdeal.main_arg3)
      ∧ m' ((c.tc : Thread Cert.InProjRefIdeal.nD Cert.InProjRefIdeal.τ).loc Cert.InProjRefIdeal.main_arg4) = m ((c.tc : Thread Cert.InProjIdeal.nD Cert.InProjIdeal.τ).loc Cert.InProjIdeal.main_arg4)
      ∧ m' ((c.tc : Thread Cert.InProjRefIdeal.nD Cert.InProjRefIdeal.τ).loc Cert.InProjRefIdeal.main_arg5) = m ((c.tc : Thread Cert.InProjIdeal.nD Cert.InProjIdeal.τ).loc Cert.InProjIdeal.main_arg5)) →
    ∃ (v0 : (c : Dev Cert.InProjIdeal.nD) → Buf (Elt Ideal) ((c.tc : Thread Cert.InProjIdeal.nD Cert.InProjIdeal.τ).loc Cert.InProjIdeal.main_v25_0)) (v1 : (c : Dev Cert.InProjIdeal.nD) → Buf (Elt Ideal) ((c.tc : Thread Cert.InProjIdeal.nD Cert.InProjIdeal.τ).loc Cert.InProjIdeal.main_v25_1)) (v2 : (c : Dev Cert.InProjIdeal.nD) → Buf (Elt Ideal) ((c.tc : Thread Cert.InProjIdeal.nD Cert.InProjIdeal.τ).loc Cert.InProjIdeal.main_v25_2)) (v3 : (c : Dev Cert.InProjIdeal.nD) → Buf (Elt Ideal) ((c.tc : Thread Cert.InProjIdeal.nD Cert.InProjIdeal.τ).loc Cert.InProjIdeal.main_v25_3)) (v4 : (c : Dev Cert.InProjIdeal.nD) → Buf (Elt Ideal) ((c.tc : Thread Cert.InProjIdeal.nD Cert.InProjIdeal.τ).loc Cert.InProjIdeal.main_v25_4)) (v5 : (c : Dev Cert.InProjIdeal.nD) → Buf (Elt Ideal) ((c.tc : Thread Cert.InProjIdeal.nD Cert.InProjIdeal.τ).loc Cert.InProjIdeal.main_v25_5)) (v6 : (c : Dev Cert.InProjIdeal.nD) → Buf (Elt Ideal) ((c.tc : Thread Cert.InProjIdeal.nD Cert.InProjIdeal.τ).loc Cert.InProjIdeal.main_v25_6)) (v7 : (c : Dev Cert.InProjIdeal.nD) → Buf (Elt Ideal) ((c.tc : Thread Cert.InProjIdeal.nD Cert.InProjIdeal.τ).loc Cert.InProjIdeal.main_v25_7)) (v8 : (c : Dev Cert.InProjIdeal.nD) → Buf (Elt Ideal) ((c.tc : Thread Cert.InProjIdeal.nD Cert.InProjIdeal.τ).loc Cert.InProjIdeal.main_v25_8)) (v9 : (c : Dev Cert.InProjIdeal.nD) → Buf (Elt Ideal) ((c.tc : Thread Cert.InProjIdeal.nD Cert.InProjIdeal.τ).loc Cert.InProjIdeal.main_v25_9)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v25_0) = v0 c
          ∧ r.2.mem ((c.tc : Thread Cert.InProjIdeal.nD Cert.InProjIdeal.τ).loc Cert.InProjIdeal.main_v25_1) = v1 c
          ∧ r.2.mem ((c.tc : Thread Cert.InProjIdeal.nD Cert.InProjIdeal.τ).loc Cert.InProjIdeal.main_v25_2) = v2 c
          ∧ r.2.mem ((c.tc : Thread Cert.InProjIdeal.nD Cert.InProjIdeal.τ).loc Cert.InProjIdeal.main_v25_3) = v3 c
          ∧ r.2.mem ((c.tc : Thread Cert.InProjIdeal.nD Cert.InProjIdeal.τ).loc Cert.InProjIdeal.main_v25_4) = v4 c
          ∧ r.2.mem ((c.tc : Thread Cert.InProjIdeal.nD Cert.InProjIdeal.τ).loc Cert.InProjIdeal.main_v25_5) = v5 c
          ∧ r.2.mem ((c.tc : Thread Cert.InProjIdeal.nD Cert.InProjIdeal.τ).loc Cert.InProjIdeal.main_v25_6) = v6 c
          ∧ r.2.mem ((c.tc : Thread Cert.InProjIdeal.nD Cert.InProjIdeal.τ).loc Cert.InProjIdeal.main_v25_7) = v7 c
          ∧ r.2.mem ((c.tc : Thread Cert.InProjIdeal.nD Cert.InProjIdeal.τ).loc Cert.InProjIdeal.main_v25_8) = v8 c
          ∧ r.2.mem ((c.tc : Thread Cert.InProjIdeal.nD Cert.InProjIdeal.τ).loc Cert.InProjIdeal.main_v25_9) = v9 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
          ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3)
          ∧ r.2.mem ((c.tc : Thread Cert.InProjIdeal.nD Cert.InProjIdeal.τ).loc Cert.InProjIdeal.main_arg4) = m ((c.tc : Thread Cert.InProjIdeal.nD Cert.InProjIdeal.τ).loc Cert.InProjIdeal.main_arg4)
          ∧ r.2.mem ((c.tc : Thread Cert.InProjIdeal.nD Cert.InProjIdeal.τ).loc Cert.InProjIdeal.main_arg5) = m ((c.tc : Thread Cert.InProjIdeal.nD Cert.InProjIdeal.τ).loc Cert.InProjIdeal.main_arg5))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v87) = v0 c
          ∧ r.2.mem ((c.tc : Thread Cert.InProjRefIdeal.nD Cert.InProjRefIdeal.τ).loc Cert.InProjRefIdeal.main_v88) = v1 c
          ∧ r.2.mem ((c.tc : Thread Cert.InProjRefIdeal.nD Cert.InProjRefIdeal.τ).loc Cert.InProjRefIdeal.main_v89) = v2 c
          ∧ r.2.mem ((c.tc : Thread Cert.InProjRefIdeal.nD Cert.InProjRefIdeal.τ).loc Cert.InProjRefIdeal.main_v91) = v3 c
          ∧ r.2.mem ((c.tc : Thread Cert.InProjRefIdeal.nD Cert.InProjRefIdeal.τ).loc Cert.InProjRefIdeal.main_v94) = v4 c
          ∧ r.2.mem ((c.tc : Thread Cert.InProjRefIdeal.nD Cert.InProjRefIdeal.τ).loc Cert.InProjRefIdeal.main_v96) = v5 c
          ∧ r.2.mem ((c.tc : Thread Cert.InProjRefIdeal.nD Cert.InProjRefIdeal.τ).loc Cert.InProjRefIdeal.main_v99) = v6 c
          ∧ r.2.mem ((c.tc : Thread Cert.InProjRefIdeal.nD Cert.InProjRefIdeal.τ).loc Cert.InProjRefIdeal.main_v101) = v7 c
          ∧ r.2.mem ((c.tc : Thread Cert.InProjRefIdeal.nD Cert.InProjRefIdeal.τ).loc Cert.InProjRefIdeal.main_v103) = v8 c
          ∧ r.2.mem ((c.tc : Thread Cert.InProjRefIdeal.nD Cert.InProjRefIdeal.τ).loc Cert.InProjRefIdeal.main_v81) = v9 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1)
          ∧ r.2.mem ((c.tc : Thread Cert.InProjRefIdeal.nD Cert.InProjRefIdeal.τ).loc Cert.InProjRefIdeal.main_arg2) = m' ((c.tc : Thread Cert.InProjRefIdeal.nD Cert.InProjRefIdeal.τ).loc Cert.InProjRefIdeal.main_arg2)
          ∧ r.2.mem ((c.tc : Thread Cert.InProjRefIdeal.nD Cert.InProjRefIdeal.τ).loc Cert.InProjRefIdeal.main_arg3) = m' ((c.tc : Thread Cert.InProjRefIdeal.nD Cert.InProjRefIdeal.τ).loc Cert.InProjRefIdeal.main_arg3)
          ∧ r.2.mem ((c.tc : Thread Cert.InProjRefIdeal.nD Cert.InProjRefIdeal.τ).loc Cert.InProjRefIdeal.main_arg4) = m' ((c.tc : Thread Cert.InProjRefIdeal.nD Cert.InProjRefIdeal.τ).loc Cert.InProjRefIdeal.main_arg4)
          ∧ r.2.mem ((c.tc : Thread Cert.InProjRefIdeal.nD Cert.InProjRefIdeal.τ).loc Cert.InProjRefIdeal.main_arg5) = m' ((c.tc : Thread Cert.InProjRefIdeal.nD Cert.InProjRefIdeal.τ).loc Cert.InProjRefIdeal.main_arg5))

def preserves_InStep_InStepIdeal : Prop :=
  True

def algebraic_InStepIdeal_InStepRefIdeal [hInStepIdeal : Cert.InStepIdeal.Facts] [hInStepRefIdeal : Cert.InStepRefIdeal.Facts] : Prop :=
  ∀ (m : (ℓ : Loc Cert.InStepIdeal.nD Cert.InStepIdeal.τ Cert.InStepIdeal.sig) → Buf (Elt Ideal) ℓ) (g : Dev Cert.InStepIdeal.nD → PrngReg)
    (m' : (ℓ : Loc Cert.InStepRefIdeal.nD Cert.InStepRefIdeal.τ Cert.InStepRefIdeal.sig) → Buf (Elt Ideal) ℓ) (g' : Dev Cert.InStepRefIdeal.nD → PrngReg), Pre_InStepIdeal m →
    (∀ c : Dev Cert.InStepIdeal.nD,
      m' ((c.tc : Thread Cert.InStepRefIdeal.nD Cert.InStepRefIdeal.τ).loc Cert.InStepRefIdeal.main_arg0) = m ((c.tc : Thread Cert.InStepIdeal.nD Cert.InStepIdeal.τ).loc Cert.InStepIdeal.main_arg0)
      ∧ m' ((c.tc : Thread Cert.InStepRefIdeal.nD Cert.InStepRefIdeal.τ).loc Cert.InStepRefIdeal.main_arg1) = m ((c.tc : Thread Cert.InStepIdeal.nD Cert.InStepIdeal.τ).loc Cert.InStepIdeal.main_arg1)
      ∧ m' ((c.tc : Thread Cert.InStepRefIdeal.nD Cert.InStepRefIdeal.τ).loc Cert.InStepRefIdeal.main_arg2) = m ((c.tc : Thread Cert.InStepIdeal.nD Cert.InStepIdeal.τ).loc Cert.InStepIdeal.main_arg2)
      ∧ m' ((c.tc : Thread Cert.InStepRefIdeal.nD Cert.InStepRefIdeal.τ).loc Cert.InStepRefIdeal.main_arg3) = m ((c.tc : Thread Cert.InStepIdeal.nD Cert.InStepIdeal.τ).loc Cert.InStepIdeal.main_arg3)
      ∧ m' ((c.tc : Thread Cert.InStepRefIdeal.nD Cert.InStepRefIdeal.τ).loc Cert.InStepRefIdeal.main_arg4) = m ((c.tc : Thread Cert.InStepIdeal.nD Cert.InStepIdeal.τ).loc Cert.InStepIdeal.main_arg4)
      ∧ m' ((c.tc : Thread Cert.InStepRefIdeal.nD Cert.InStepRefIdeal.τ).loc Cert.InStepRefIdeal.main_arg5) = m ((c.tc : Thread Cert.InStepIdeal.nD Cert.InStepIdeal.τ).loc Cert.InStepIdeal.main_arg5)
      ∧ m' ((c.tc : Thread Cert.InStepRefIdeal.nD Cert.InStepRefIdeal.τ).loc Cert.InStepRefIdeal.main_arg6) = m ((c.tc : Thread Cert.InStepIdeal.nD Cert.InStepIdeal.τ).loc Cert.InStepIdeal.main_arg6)) →
    ∃ (v0 : (c : Dev Cert.InStepIdeal.nD) → Buf (Elt Ideal) ((c.tc : Thread Cert.InStepIdeal.nD Cert.InStepIdeal.τ).loc Cert.InStepIdeal.main_v29_0)) (v1 : (c : Dev Cert.InStepIdeal.nD) → Buf (Elt Ideal) ((c.tc : Thread Cert.InStepIdeal.nD Cert.InStepIdeal.τ).loc Cert.InStepIdeal.main_v29_1)) (v2 : (c : Dev Cert.InStepIdeal.nD) → Buf (Elt Ideal) ((c.tc : Thread Cert.InStepIdeal.nD Cert.InStepIdeal.τ).loc Cert.InStepIdeal.main_v29_2)) (v3 : (c : Dev Cert.InStepIdeal.nD) → Buf (Elt Ideal) ((c.tc : Thread Cert.InStepIdeal.nD Cert.InStepIdeal.τ).loc Cert.InStepIdeal.main_v29_3)) (v4 : (c : Dev Cert.InStepIdeal.nD) → Buf (Elt Ideal) ((c.tc : Thread Cert.InStepIdeal.nD Cert.InStepIdeal.τ).loc Cert.InStepIdeal.main_v29_4)) (v5 : (c : Dev Cert.InStepIdeal.nD) → Buf (Elt Ideal) ((c.tc : Thread Cert.InStepIdeal.nD Cert.InStepIdeal.τ).loc Cert.InStepIdeal.main_v29_5)) (v6 : (c : Dev Cert.InStepIdeal.nD) → Buf (Elt Ideal) ((c.tc : Thread Cert.InStepIdeal.nD Cert.InStepIdeal.τ).loc Cert.InStepIdeal.main_v29_6)),
      θ_run (Cert.InStepIdeal.defs (F := Ideal)) (onTc (τ := Cert.InStepIdeal.τ) (Cert.InStepIdeal.main (F := Ideal))) ⟨m, fun _ => 0, g⟩ (fun r => ∀ c : Dev Cert.InStepIdeal.nD,
          r.2.mem ((c.tc : Thread Cert.InStepIdeal.nD Cert.InStepIdeal.τ).loc Cert.InStepIdeal.main_v29_0) = v0 c
          ∧ r.2.mem ((c.tc : Thread Cert.InStepIdeal.nD Cert.InStepIdeal.τ).loc Cert.InStepIdeal.main_v29_1) = v1 c
          ∧ r.2.mem ((c.tc : Thread Cert.InStepIdeal.nD Cert.InStepIdeal.τ).loc Cert.InStepIdeal.main_v29_2) = v2 c
          ∧ r.2.mem ((c.tc : Thread Cert.InStepIdeal.nD Cert.InStepIdeal.τ).loc Cert.InStepIdeal.main_v29_3) = v3 c
          ∧ r.2.mem ((c.tc : Thread Cert.InStepIdeal.nD Cert.InStepIdeal.τ).loc Cert.InStepIdeal.main_v29_4) = v4 c
          ∧ r.2.mem ((c.tc : Thread Cert.InStepIdeal.nD Cert.InStepIdeal.τ).loc Cert.InStepIdeal.main_v29_5) = v5 c
          ∧ r.2.mem ((c.tc : Thread Cert.InStepIdeal.nD Cert.InStepIdeal.τ).loc Cert.InStepIdeal.main_v29_6) = v6 c
          ∧ r.2.mem ((c.tc : Thread Cert.InStepIdeal.nD Cert.InStepIdeal.τ).loc Cert.InStepIdeal.main_arg0) = m ((c.tc : Thread Cert.InStepIdeal.nD Cert.InStepIdeal.τ).loc Cert.InStepIdeal.main_arg0)
          ∧ r.2.mem ((c.tc : Thread Cert.InStepIdeal.nD Cert.InStepIdeal.τ).loc Cert.InStepIdeal.main_arg1) = m ((c.tc : Thread Cert.InStepIdeal.nD Cert.InStepIdeal.τ).loc Cert.InStepIdeal.main_arg1)
          ∧ r.2.mem ((c.tc : Thread Cert.InStepIdeal.nD Cert.InStepIdeal.τ).loc Cert.InStepIdeal.main_arg2) = m ((c.tc : Thread Cert.InStepIdeal.nD Cert.InStepIdeal.τ).loc Cert.InStepIdeal.main_arg2)
          ∧ r.2.mem ((c.tc : Thread Cert.InStepIdeal.nD Cert.InStepIdeal.τ).loc Cert.InStepIdeal.main_arg3) = m ((c.tc : Thread Cert.InStepIdeal.nD Cert.InStepIdeal.τ).loc Cert.InStepIdeal.main_arg3)
          ∧ r.2.mem ((c.tc : Thread Cert.InStepIdeal.nD Cert.InStepIdeal.τ).loc Cert.InStepIdeal.main_arg4) = m ((c.tc : Thread Cert.InStepIdeal.nD Cert.InStepIdeal.τ).loc Cert.InStepIdeal.main_arg4)
          ∧ r.2.mem ((c.tc : Thread Cert.InStepIdeal.nD Cert.InStepIdeal.τ).loc Cert.InStepIdeal.main_arg5) = m ((c.tc : Thread Cert.InStepIdeal.nD Cert.InStepIdeal.τ).loc Cert.InStepIdeal.main_arg5)
          ∧ r.2.mem ((c.tc : Thread Cert.InStepIdeal.nD Cert.InStepIdeal.τ).loc Cert.InStepIdeal.main_arg6) = m ((c.tc : Thread Cert.InStepIdeal.nD Cert.InStepIdeal.τ).loc Cert.InStepIdeal.main_arg6))
      ∧ θ_run (Cert.InStepRefIdeal.defs (F := Ideal)) (onTc (τ := Cert.InStepRefIdeal.τ) (Cert.InStepRefIdeal.main (F := Ideal))) ⟨m', fun _ => 0, g'⟩ (fun r => ∀ c : Dev Cert.InStepRefIdeal.nD,
          r.2.mem ((c.tc : Thread Cert.InStepRefIdeal.nD Cert.InStepRefIdeal.τ).loc Cert.InStepRefIdeal.main_v82) = v0 c
          ∧ r.2.mem ((c.tc : Thread Cert.InStepRefIdeal.nD Cert.InStepRefIdeal.τ).loc Cert.InStepRefIdeal.main_v83) = v1 c
          ∧ r.2.mem ((c.tc : Thread Cert.InStepRefIdeal.nD Cert.InStepRefIdeal.τ).loc Cert.InStepRefIdeal.main_v84) = v2 c
          ∧ r.2.mem ((c.tc : Thread Cert.InStepRefIdeal.nD Cert.InStepRefIdeal.τ).loc Cert.InStepRefIdeal.main_v87) = v3 c
          ∧ r.2.mem ((c.tc : Thread Cert.InStepRefIdeal.nD Cert.InStepRefIdeal.τ).loc Cert.InStepRefIdeal.main_v89) = v4 c
          ∧ r.2.mem ((c.tc : Thread Cert.InStepRefIdeal.nD Cert.InStepRefIdeal.τ).loc Cert.InStepRefIdeal.main_v91) = v5 c
          ∧ r.2.mem ((c.tc : Thread Cert.InStepRefIdeal.nD Cert.InStepRefIdeal.τ).loc Cert.InStepRefIdeal.main_v92) = v6 c
          ∧ r.2.mem ((c.tc : Thread Cert.InStepRefIdeal.nD Cert.InStepRefIdeal.τ).loc Cert.InStepRefIdeal.main_arg0) = m' ((c.tc : Thread Cert.InStepRefIdeal.nD Cert.InStepRefIdeal.τ).loc Cert.InStepRefIdeal.main_arg0)
          ∧ r.2.mem ((c.tc : Thread Cert.InStepRefIdeal.nD Cert.InStepRefIdeal.τ).loc Cert.InStepRefIdeal.main_arg1) = m' ((c.tc : Thread Cert.InStepRefIdeal.nD Cert.InStepRefIdeal.τ).loc Cert.InStepRefIdeal.main_arg1)
          ∧ r.2.mem ((c.tc : Thread Cert.InStepRefIdeal.nD Cert.InStepRefIdeal.τ).loc Cert.InStepRefIdeal.main_arg2) = m' ((c.tc : Thread Cert.InStepRefIdeal.nD Cert.InStepRefIdeal.τ).loc Cert.InStepRefIdeal.main_arg2)
          ∧ r.2.mem ((c.tc : Thread Cert.InStepRefIdeal.nD Cert.InStepRefIdeal.τ).loc Cert.InStepRefIdeal.main_arg3) = m' ((c.tc : Thread Cert.InStepRefIdeal.nD Cert.InStepRefIdeal.τ).loc Cert.InStepRefIdeal.main_arg3)
          ∧ r.2.mem ((c.tc : Thread Cert.InStepRefIdeal.nD Cert.InStepRefIdeal.τ).loc Cert.InStepRefIdeal.main_arg4) = m' ((c.tc : Thread Cert.InStepRefIdeal.nD Cert.InStepRefIdeal.τ).loc Cert.InStepRefIdeal.main_arg4)
          ∧ r.2.mem ((c.tc : Thread Cert.InStepRefIdeal.nD Cert.InStepRefIdeal.τ).loc Cert.InStepRefIdeal.main_arg5) = m' ((c.tc : Thread Cert.InStepRefIdeal.nD Cert.InStepRefIdeal.τ).loc Cert.InStepRefIdeal.main_arg5)
          ∧ r.2.mem ((c.tc : Thread Cert.InStepRefIdeal.nD Cert.InStepRefIdeal.τ).loc Cert.InStepRefIdeal.main_arg6) = m' ((c.tc : Thread Cert.InStepRefIdeal.nD Cert.InStepRefIdeal.τ).loc Cert.InStepRefIdeal.main_arg6))

def preserves_FfnStep_FfnStepIdeal : Prop :=
  True

def algebraic_FfnStepIdeal_FfnStepRefIdeal [hFfnStepIdeal : Cert.FfnStepIdeal.Facts] [hFfnStepRefIdeal : Cert.FfnStepRefIdeal.Facts] : Prop :=
  ∀ (m : (ℓ : Loc Cert.FfnStepIdeal.nD Cert.FfnStepIdeal.τ Cert.FfnStepIdeal.sig) → Buf (Elt Ideal) ℓ) (g : Dev Cert.FfnStepIdeal.nD → PrngReg)
    (m' : (ℓ : Loc Cert.FfnStepRefIdeal.nD Cert.FfnStepRefIdeal.τ Cert.FfnStepRefIdeal.sig) → Buf (Elt Ideal) ℓ) (g' : Dev Cert.FfnStepRefIdeal.nD → PrngReg), Pre_FfnStepIdeal m →
    (∀ c : Dev Cert.FfnStepIdeal.nD,
      m' ((c.tc : Thread Cert.FfnStepRefIdeal.nD Cert.FfnStepRefIdeal.τ).loc Cert.FfnStepRefIdeal.main_arg0) = m ((c.tc : Thread Cert.FfnStepIdeal.nD Cert.FfnStepIdeal.τ).loc Cert.FfnStepIdeal.main_arg0)
      ∧ m' ((c.tc : Thread Cert.FfnStepRefIdeal.nD Cert.FfnStepRefIdeal.τ).loc Cert.FfnStepRefIdeal.main_arg1) = m ((c.tc : Thread Cert.FfnStepIdeal.nD Cert.FfnStepIdeal.τ).loc Cert.FfnStepIdeal.main_arg1)
      ∧ m' ((c.tc : Thread Cert.FfnStepRefIdeal.nD Cert.FfnStepRefIdeal.τ).loc Cert.FfnStepRefIdeal.main_arg2) = m ((c.tc : Thread Cert.FfnStepIdeal.nD Cert.FfnStepIdeal.τ).loc Cert.FfnStepIdeal.main_arg2)
      ∧ m' ((c.tc : Thread Cert.FfnStepRefIdeal.nD Cert.FfnStepRefIdeal.τ).loc Cert.FfnStepRefIdeal.main_arg3) = m ((c.tc : Thread Cert.FfnStepIdeal.nD Cert.FfnStepIdeal.τ).loc Cert.FfnStepIdeal.main_arg3)
      ∧ m' ((c.tc : Thread Cert.FfnStepRefIdeal.nD Cert.FfnStepRefIdeal.τ).loc Cert.FfnStepRefIdeal.main_arg4) = m ((c.tc : Thread Cert.FfnStepIdeal.nD Cert.FfnStepIdeal.τ).loc Cert.FfnStepIdeal.main_arg4)
      ∧ m' ((c.tc : Thread Cert.FfnStepRefIdeal.nD Cert.FfnStepRefIdeal.τ).loc Cert.FfnStepRefIdeal.main_arg5) = m ((c.tc : Thread Cert.FfnStepIdeal.nD Cert.FfnStepIdeal.τ).loc Cert.FfnStepIdeal.main_arg5)
      ∧ m' ((c.tc : Thread Cert.FfnStepRefIdeal.nD Cert.FfnStepRefIdeal.τ).loc Cert.FfnStepRefIdeal.main_arg6) = m ((c.tc : Thread Cert.FfnStepIdeal.nD Cert.FfnStepIdeal.τ).loc Cert.FfnStepIdeal.main_arg6)
      ∧ m' ((c.tc : Thread Cert.FfnStepRefIdeal.nD Cert.FfnStepRefIdeal.τ).loc Cert.FfnStepRefIdeal.main_arg7) = m ((c.tc : Thread Cert.FfnStepIdeal.nD Cert.FfnStepIdeal.τ).loc Cert.FfnStepIdeal.main_arg7)
      ∧ m' ((c.tc : Thread Cert.FfnStepRefIdeal.nD Cert.FfnStepRefIdeal.τ).loc Cert.FfnStepRefIdeal.main_arg8) = m ((c.tc : Thread Cert.FfnStepIdeal.nD Cert.FfnStepIdeal.τ).loc Cert.FfnStepIdeal.main_arg8)
      ∧ m' ((c.tc : Thread Cert.FfnStepRefIdeal.nD Cert.FfnStepRefIdeal.τ).loc Cert.FfnStepRefIdeal.main_arg9) = m ((c.tc : Thread Cert.FfnStepIdeal.nD Cert.FfnStepIdeal.τ).loc Cert.FfnStepIdeal.main_arg9)
      ∧ m' ((c.tc : Thread Cert.FfnStepRefIdeal.nD Cert.FfnStepRefIdeal.τ).loc Cert.FfnStepRefIdeal.main_arg10) = m ((c.tc : Thread Cert.FfnStepIdeal.nD Cert.FfnStepIdeal.τ).loc Cert.FfnStepIdeal.main_arg10)
      ∧ m' ((c.tc : Thread Cert.FfnStepRefIdeal.nD Cert.FfnStepRefIdeal.τ).loc Cert.FfnStepRefIdeal.main_arg11) = m ((c.tc : Thread Cert.FfnStepIdeal.nD Cert.FfnStepIdeal.τ).loc Cert.FfnStepIdeal.main_arg11)
      ∧ m' ((c.tc : Thread Cert.FfnStepRefIdeal.nD Cert.FfnStepRefIdeal.τ).loc Cert.FfnStepRefIdeal.main_arg12) = m ((c.tc : Thread Cert.FfnStepIdeal.nD Cert.FfnStepIdeal.τ).loc Cert.FfnStepIdeal.main_arg12)) →
    ∃ (v0 : (c : Dev Cert.FfnStepIdeal.nD) → Buf (Elt Ideal) ((c.tc : Thread Cert.FfnStepIdeal.nD Cert.FfnStepIdeal.τ).loc Cert.FfnStepIdeal.main_v19_0)) (v1 : (c : Dev Cert.FfnStepIdeal.nD) → Buf (Elt Ideal) ((c.tc : Thread Cert.FfnStepIdeal.nD Cert.FfnStepIdeal.τ).loc Cert.FfnStepIdeal.main_v19_1)),
      θ_run (Cert.FfnStepIdeal.defs (F := Ideal)) (onTc (τ := Cert.FfnStepIdeal.τ) (Cert.FfnStepIdeal.main (F := Ideal))) ⟨m, fun _ => 0, g⟩ (fun r => ∀ c : Dev Cert.FfnStepIdeal.nD,
          r.2.mem ((c.tc : Thread Cert.FfnStepIdeal.nD Cert.FfnStepIdeal.τ).loc Cert.FfnStepIdeal.main_v19_0) = v0 c
          ∧ r.2.mem ((c.tc : Thread Cert.FfnStepIdeal.nD Cert.FfnStepIdeal.τ).loc Cert.FfnStepIdeal.main_v19_1) = v1 c
          ∧ r.2.mem ((c.tc : Thread Cert.FfnStepIdeal.nD Cert.FfnStepIdeal.τ).loc Cert.FfnStepIdeal.main_arg0) = m ((c.tc : Thread Cert.FfnStepIdeal.nD Cert.FfnStepIdeal.τ).loc Cert.FfnStepIdeal.main_arg0)
          ∧ r.2.mem ((c.tc : Thread Cert.FfnStepIdeal.nD Cert.FfnStepIdeal.τ).loc Cert.FfnStepIdeal.main_arg1) = m ((c.tc : Thread Cert.FfnStepIdeal.nD Cert.FfnStepIdeal.τ).loc Cert.FfnStepIdeal.main_arg1)
          ∧ r.2.mem ((c.tc : Thread Cert.FfnStepIdeal.nD Cert.FfnStepIdeal.τ).loc Cert.FfnStepIdeal.main_arg2) = m ((c.tc : Thread Cert.FfnStepIdeal.nD Cert.FfnStepIdeal.τ).loc Cert.FfnStepIdeal.main_arg2)
          ∧ r.2.mem ((c.tc : Thread Cert.FfnStepIdeal.nD Cert.FfnStepIdeal.τ).loc Cert.FfnStepIdeal.main_arg3) = m ((c.tc : Thread Cert.FfnStepIdeal.nD Cert.FfnStepIdeal.τ).loc Cert.FfnStepIdeal.main_arg3)
          ∧ r.2.mem ((c.tc : Thread Cert.FfnStepIdeal.nD Cert.FfnStepIdeal.τ).loc Cert.FfnStepIdeal.main_arg4) = m ((c.tc : Thread Cert.FfnStepIdeal.nD Cert.FfnStepIdeal.τ).loc Cert.FfnStepIdeal.main_arg4)
          ∧ r.2.mem ((c.tc : Thread Cert.FfnStepIdeal.nD Cert.FfnStepIdeal.τ).loc Cert.FfnStepIdeal.main_arg5) = m ((c.tc : Thread Cert.FfnStepIdeal.nD Cert.FfnStepIdeal.τ).loc Cert.FfnStepIdeal.main_arg5)
          ∧ r.2.mem ((c.tc : Thread Cert.FfnStepIdeal.nD Cert.FfnStepIdeal.τ).loc Cert.FfnStepIdeal.main_arg6) = m ((c.tc : Thread Cert.FfnStepIdeal.nD Cert.FfnStepIdeal.τ).loc Cert.FfnStepIdeal.main_arg6)
          ∧ r.2.mem ((c.tc : Thread Cert.FfnStepIdeal.nD Cert.FfnStepIdeal.τ).loc Cert.FfnStepIdeal.main_arg7) = m ((c.tc : Thread Cert.FfnStepIdeal.nD Cert.FfnStepIdeal.τ).loc Cert.FfnStepIdeal.main_arg7)
          ∧ r.2.mem ((c.tc : Thread Cert.FfnStepIdeal.nD Cert.FfnStepIdeal.τ).loc Cert.FfnStepIdeal.main_arg8) = m ((c.tc : Thread Cert.FfnStepIdeal.nD Cert.FfnStepIdeal.τ).loc Cert.FfnStepIdeal.main_arg8)
          ∧ r.2.mem ((c.tc : Thread Cert.FfnStepIdeal.nD Cert.FfnStepIdeal.τ).loc Cert.FfnStepIdeal.main_arg9) = m ((c.tc : Thread Cert.FfnStepIdeal.nD Cert.FfnStepIdeal.τ).loc Cert.FfnStepIdeal.main_arg9)
          ∧ r.2.mem ((c.tc : Thread Cert.FfnStepIdeal.nD Cert.FfnStepIdeal.τ).loc Cert.FfnStepIdeal.main_arg10) = m ((c.tc : Thread Cert.FfnStepIdeal.nD Cert.FfnStepIdeal.τ).loc Cert.FfnStepIdeal.main_arg10)
          ∧ r.2.mem ((c.tc : Thread Cert.FfnStepIdeal.nD Cert.FfnStepIdeal.τ).loc Cert.FfnStepIdeal.main_arg11) = m ((c.tc : Thread Cert.FfnStepIdeal.nD Cert.FfnStepIdeal.τ).loc Cert.FfnStepIdeal.main_arg11)
          ∧ r.2.mem ((c.tc : Thread Cert.FfnStepIdeal.nD Cert.FfnStepIdeal.τ).loc Cert.FfnStepIdeal.main_arg12) = m ((c.tc : Thread Cert.FfnStepIdeal.nD Cert.FfnStepIdeal.τ).loc Cert.FfnStepIdeal.main_arg12))
      ∧ θ_run (Cert.FfnStepRefIdeal.defs (F := Ideal)) (onTc (τ := Cert.FfnStepRefIdeal.τ) (Cert.FfnStepRefIdeal.main (F := Ideal))) ⟨m', fun _ => 0, g'⟩ (fun r => ∀ c : Dev Cert.FfnStepRefIdeal.nD,
          r.2.mem ((c.tc : Thread Cert.FfnStepRefIdeal.nD Cert.FfnStepRefIdeal.τ).loc Cert.FfnStepRefIdeal.main_v76) = v0 c
          ∧ r.2.mem ((c.tc : Thread Cert.FfnStepRefIdeal.nD Cert.FfnStepRefIdeal.τ).loc Cert.FfnStepRefIdeal.main_v78) = v1 c
          ∧ r.2.mem ((c.tc : Thread Cert.FfnStepRefIdeal.nD Cert.FfnStepRefIdeal.τ).loc Cert.FfnStepRefIdeal.main_arg0) = m' ((c.tc : Thread Cert.FfnStepRefIdeal.nD Cert.FfnStepRefIdeal.τ).loc Cert.FfnStepRefIdeal.main_arg0)
          ∧ r.2.mem ((c.tc : Thread Cert.FfnStepRefIdeal.nD Cert.FfnStepRefIdeal.τ).loc Cert.FfnStepRefIdeal.main_arg1) = m' ((c.tc : Thread Cert.FfnStepRefIdeal.nD Cert.FfnStepRefIdeal.τ).loc Cert.FfnStepRefIdeal.main_arg1)
          ∧ r.2.mem ((c.tc : Thread Cert.FfnStepRefIdeal.nD Cert.FfnStepRefIdeal.τ).loc Cert.FfnStepRefIdeal.main_arg2) = m' ((c.tc : Thread Cert.FfnStepRefIdeal.nD Cert.FfnStepRefIdeal.τ).loc Cert.FfnStepRefIdeal.main_arg2)
          ∧ r.2.mem ((c.tc : Thread Cert.FfnStepRefIdeal.nD Cert.FfnStepRefIdeal.τ).loc Cert.FfnStepRefIdeal.main_arg3) = m' ((c.tc : Thread Cert.FfnStepRefIdeal.nD Cert.FfnStepRefIdeal.τ).loc Cert.FfnStepRefIdeal.main_arg3)
          ∧ r.2.mem ((c.tc : Thread Cert.FfnStepRefIdeal.nD Cert.FfnStepRefIdeal.τ).loc Cert.FfnStepRefIdeal.main_arg4) = m' ((c.tc : Thread Cert.FfnStepRefIdeal.nD Cert.FfnStepRefIdeal.τ).loc Cert.FfnStepRefIdeal.main_arg4)
          ∧ r.2.mem ((c.tc : Thread Cert.FfnStepRefIdeal.nD Cert.FfnStepRefIdeal.τ).loc Cert.FfnStepRefIdeal.main_arg5) = m' ((c.tc : Thread Cert.FfnStepRefIdeal.nD Cert.FfnStepRefIdeal.τ).loc Cert.FfnStepRefIdeal.main_arg5)
          ∧ r.2.mem ((c.tc : Thread Cert.FfnStepRefIdeal.nD Cert.FfnStepRefIdeal.τ).loc Cert.FfnStepRefIdeal.main_arg6) = m' ((c.tc : Thread Cert.FfnStepRefIdeal.nD Cert.FfnStepRefIdeal.τ).loc Cert.FfnStepRefIdeal.main_arg6)
          ∧ r.2.mem ((c.tc : Thread Cert.FfnStepRefIdeal.nD Cert.FfnStepRefIdeal.τ).loc Cert.FfnStepRefIdeal.main_arg7) = m' ((c.tc : Thread Cert.FfnStepRefIdeal.nD Cert.FfnStepRefIdeal.τ).loc Cert.FfnStepRefIdeal.main_arg7)
          ∧ r.2.mem ((c.tc : Thread Cert.FfnStepRefIdeal.nD Cert.FfnStepRefIdeal.τ).loc Cert.FfnStepRefIdeal.main_arg8) = m' ((c.tc : Thread Cert.FfnStepRefIdeal.nD Cert.FfnStepRefIdeal.τ).loc Cert.FfnStepRefIdeal.main_arg8)
          ∧ r.2.mem ((c.tc : Thread Cert.FfnStepRefIdeal.nD Cert.FfnStepRefIdeal.τ).loc Cert.FfnStepRefIdeal.main_arg9) = m' ((c.tc : Thread Cert.FfnStepRefIdeal.nD Cert.FfnStepRefIdeal.τ).loc Cert.FfnStepRefIdeal.main_arg9)
          ∧ r.2.mem ((c.tc : Thread Cert.FfnStepRefIdeal.nD Cert.FfnStepRefIdeal.τ).loc Cert.FfnStepRefIdeal.main_arg10) = m' ((c.tc : Thread Cert.FfnStepRefIdeal.nD Cert.FfnStepRefIdeal.τ).loc Cert.FfnStepRefIdeal.main_arg10)
          ∧ r.2.mem ((c.tc : Thread Cert.FfnStepRefIdeal.nD Cert.FfnStepRefIdeal.τ).loc Cert.FfnStepRefIdeal.main_arg11) = m' ((c.tc : Thread Cert.FfnStepRefIdeal.nD Cert.FfnStepRefIdeal.τ).loc Cert.FfnStepRefIdeal.main_arg11)
          ∧ r.2.mem ((c.tc : Thread Cert.FfnStepRefIdeal.nD Cert.FfnStepRefIdeal.τ).loc Cert.FfnStepRefIdeal.main_arg12) = m' ((c.tc : Thread Cert.FfnStepRefIdeal.nD Cert.FfnStepRefIdeal.τ).loc Cert.FfnStepRefIdeal.main_arg12))

def Claim : Prop :=
  ∃ (hFfn : Cert.Ffn.Facts) (hFfnIdeal : Cert.FfnIdeal.Facts) (hFfnRefIdeal : Cert.FfnRefIdeal.Facts) (hInProj : Cert.InProj.Facts) (hInProjIdeal : Cert.InProjIdeal.Facts) (hInProjRefIdeal : Cert.InProjRefIdeal.Facts) (hInStep : Cert.InStep.Facts) (hInStepIdeal : Cert.InStepIdeal.Facts) (hInStepRefIdeal : Cert.InStepRefIdeal.Facts) (hFfnStep : Cert.FfnStep.Facts) (hFfnStepIdeal : Cert.FfnStepIdeal.Facts) (hFfnStepRefIdeal : Cert.FfnStepRefIdeal.Facts) (hPre_pages_in_pool : Cert.Pre_pages_in_pool.Facts),
    quiescent_Ffn (hFfn := hFfn) (hPre_pages_in_pool := hPre_pages_in_pool)
    ∧ quiescent_FfnIdeal (hFfnIdeal := hFfnIdeal) (hPre_pages_in_pool := hPre_pages_in_pool)
    ∧ quiescent_FfnRefIdeal (hFfnRefIdeal := hFfnRefIdeal)
    ∧ quiescent_FfnRefIdeal_pre_pages_in_pool (hFfnRefIdeal := hFfnRefIdeal) (hPre_pages_in_pool := hPre_pages_in_pool)
    ∧ quiescent_InProj (hInProj := hInProj)
    ∧ quiescent_InProjIdeal (hInProjIdeal := hInProjIdeal)
    ∧ quiescent_InProjRefIdeal (hInProjRefIdeal := hInProjRefIdeal)
    ∧ quiescent_InStep (hInStep := hInStep)
    ∧ quiescent_InStepIdeal (hInStepIdeal := hInStepIdeal)
    ∧ quiescent_InStepRefIdeal (hInStepRefIdeal := hInStepRefIdeal)
    ∧ quiescent_FfnStep (hFfnStep := hFfnStep)
    ∧ quiescent_FfnStepIdeal (hFfnStepIdeal := hFfnStepIdeal)
    ∧ quiescent_FfnStepRefIdeal (hFfnStepRefIdeal := hFfnStepRefIdeal)
    ∧ preserves_Ffn_FfnIdeal
    ∧ algebraic_FfnIdeal_FfnRefIdeal (hFfnIdeal := hFfnIdeal) (hFfnRefIdeal := hFfnRefIdeal) (hPre_pages_in_pool := hPre_pages_in_pool)
    ∧ preserves_InProj_InProjIdeal
    ∧ algebraic_InProjIdeal_InProjRefIdeal (hInProjIdeal := hInProjIdeal) (hInProjRefIdeal := hInProjRefIdeal)
    ∧ preserves_InStep_InStepIdeal
    ∧ algebraic_InStepIdeal_InStepRefIdeal (hInStepIdeal := hInStepIdeal) (hInStepRefIdeal := hInStepRefIdeal)
    ∧ preserves_FfnStep_FfnStepIdeal
    ∧ algebraic_FfnStepIdeal_FfnStepRefIdeal (hFfnStepIdeal := hFfnStepIdeal) (hFfnStepRefIdeal := hFfnStepRefIdeal)
-- ==== Pre_pages_in_pool.lean ====
abbrev S8x2048x1024 : Shape := ⟨3, ![8, 2048, 1024]⟩
abbrev S8x2048x512 : Shape := ⟨3, ![8, 2048, 512]⟩
abbrev S16384x512 : Shape := ⟨2, ![16384, 512]⟩
abbrev S16384x1024 : Shape := ⟨2, ![16384, 1024]⟩
abbrev S1x512x1024 : Shape := ⟨3, ![1, 512, 1024]⟩
abbrev S1x1024x1024 : Shape := ⟨3, ![1, 1024, 1024]⟩
abbrev S1x1024 : Shape := ⟨2, ![1, 1024]⟩
abbrev S1x1024x5632 : Shape := ⟨3, ![1, 1024, 5632]⟩
abbrev S1x3x2816 : Shape := ⟨3, ![1, 3, 2816]⟩
abbrev S1x2816x1024 : Shape := ⟨3, ![1, 2816, 1024]⟩
abbrev S128x64 : Shape := ⟨2, ![128, 64]⟩
abbrev S128x512 : Shape := ⟨2, ![128, 512]⟩
abbrev S1x10240x8x64x128 : Shape := ⟨5, ![1, 10240, 8, 64, 128]⟩
abbrev S_ : Shape := ⟨0, ![]⟩

class Facts : Prop where
  bcast_S_S128x64 : S_.BroadcastsInDim S128x64 (![] : Fin 0 → Fin S128x64.rank)
  reducesTo_S128x64_S_d0_1 : S128x64.ReducesTo [0, 1] S_
  h_S_ : 0 < S_.numel

variable [Facts]

def fn {F : FTy → Type} [FloatOps F] (main_arg0 : FVec F S8x2048x1024 .f32) (main_arg1 : FVec F S8x2048x512 .bf16) (main_arg2 : FVec F S16384x512 .bf16) (main_arg3 : FVec F S16384x1024 .bf16) (main_arg4 : FVec F S16384x1024 .bf16) (main_arg5 : FVec F S1x512x1024 .f32) (main_arg6 : FVec F S1x512x1024 .f32) (main_arg7 : FVec F S1x1024x1024 .f32) (main_arg8 : FVec F S1x1024 .f32) (main_arg9 : FVec F S1x1024x5632 .f32) (main_arg10 : FVec F S1x3x2816 .f32) (main_arg11 : FVec F S1x2816x1024 .f32) (main_arg12 : IVec S128x64 32) (main_arg13 : FVec F S128x512 .f32) (main_arg14 : FVec F S1x10240x8x64x128 .f32) : IVec S_ 1 :=
  let main_c : IVec S_ 32 := constantI S_ 32 0#32
  let main_v0 : IVec S128x64 32 := broadcastInDim S128x64 ![] bcast_S_S128x64 main_c
  let main_v1 : IVec S128x64 1 := cmpi .sge main_arg12 main_v0
  let main_c_0 : IVec S_ 32 := constantI S_ 32 10240#32
  let main_v2 : IVec S128x64 32 := broadcastInDim S128x64 ![] bcast_S_S128x64 main_c_0
  let main_v3 : IVec S128x64 1 := cmpi .slt main_arg12 main_v2
  let main_v4 : IVec S128x64 1 := andi main_v1 main_v3
  let main_c_1 : IVec S_ 1 := constantI S_ 1 1#1
  let main_v5 : IVec S_ 1 := (fun x v => Host.reduce IntOp.andi x v reducesTo_S128x64_S_d0_1 h_S_) main_v4 main_c_1
  main_v5
-- ==== Ffn.lean ====
abbrev S8x2048x1024 : Shape := ⟨3, ![8, 2048, 1024]⟩
abbrev S8x2048x512 : Shape := ⟨3, ![8, 2048, 512]⟩
abbrev S16384x512 : Shape := ⟨2, ![16384, 512]⟩
abbrev S16384x1024 : Shape := ⟨2, ![16384, 1024]⟩
abbrev S1x512x1024 : Shape := ⟨3, ![1, 512, 1024]⟩
abbrev S1x1024x1024 : Shape := ⟨3, ![1, 1024, 1024]⟩
abbrev S1x1024 : Shape := ⟨2, ![1, 1024]⟩
abbrev S1x1024x5632 : Shape := ⟨3, ![1, 1024, 5632]⟩
abbrev S1x3x2816 : Shape := ⟨3, ![1, 3, 2816]⟩
abbrev S1x2816x1024 : Shape := ⟨3, ![1, 2816, 1024]⟩
abbrev S128x64 : Shape := ⟨2, ![128, 64]⟩
abbrev S128x512 : Shape := ⟨2, ![128, 512]⟩
abbrev S1x10240x8x64x128 : Shape := ⟨5, ![1, 10240, 8, 64, 128]⟩
abbrev S512x1024 : Shape := ⟨2, ![512, 1024]⟩
abbrev S1024x1024 : Shape := ⟨2, ![1024, 1024]⟩
abbrev S1024 : Shape := ⟨1, ![1024]⟩
abbrev S1024x5632 : Shape := ⟨2, ![1024, 5632]⟩
abbrev S3x2816 : Shape := ⟨2, ![3, 2816]⟩
abbrev S2816x1024 : Shape := ⟨2, ![2816, 1024]⟩
abbrev S8192 : Shape := ⟨1, ![8192]⟩
abbrev S128x1x512 : Shape := ⟨3, ![128, 1, 512]⟩
abbrev S8x2x2816 : Shape := ⟨3, ![8, 2, 2816]⟩
abbrev S1024x8x128 : Shape := ⟨3, ![1024, 8, 128]⟩
abbrev S512x512 : Shape := ⟨2, ![512, 512]⟩
abbrev S1x1x512 : Shape := ⟨3, ![1, 1, 512]⟩
abbrev S1x2x2816 : Shape := ⟨3, ![1, 2, 2816]⟩
abbrev S32x8x128 : Shape := ⟨3, ![32, 8, 128]⟩
abbrev S8x2816 : Shape := ⟨2, ![8, 2816]⟩
abbrev S32x8x64x128 : Shape := ⟨4, ![32, 8, 64, 128]⟩
abbrev S1 : Shape := ⟨1, ![1]⟩
abbrev S_ : Shape := ⟨0, ![]⟩
abbrev S1x8x64x128 : Shape := ⟨4, ![1, 8, 64, 128]⟩
abbrev S8x64x128 : Shape := ⟨3, ![8, 64, 128]⟩
abbrev S1x1x8x64x128 : Shape := ⟨5, ![1, 1, 8, 64, 128]⟩
abbrev S512 : Shape := ⟨1, ![512]⟩
abbrev S512x1 : Shape := ⟨2, ![512, 1]⟩
abbrev S1024x256 : Shape := ⟨2, ![1024, 256]⟩
abbrev S512x256 : Shape := ⟨2, ![512, 256]⟩
abbrev S1x256 : Shape := ⟨2, ![1, 256]⟩
abbrev S8x256 : Shape := ⟨2, ![8, 256]⟩
abbrev S520x256 : Shape := ⟨2, ![520, 256]⟩
abbrev S2x256 : Shape := ⟨2, ![2, 256]⟩
abbrev S1x2x256 : Shape := ⟨3, ![1, 2, 256]⟩
abbrev S256x1024 : Shape := ⟨2, ![256, 1024]⟩
abbrev S1x32x8x64x128 : Shape := ⟨5, ![1, 32, 8, 64, 128]⟩
abbrev S1x512 : Shape := ⟨2, ![1, 512]⟩
abbrev S8x512 : Shape := ⟨2, ![8, 512]⟩
abbrev S16x512 : Shape := ⟨2, ![16, 512]⟩
abbrev S512x128 : Shape := ⟨2, ![512, 128]⟩
abbrev S16x128 : Shape := ⟨2, ![16, 128]⟩
abbrev S8x128 : Shape := ⟨2, ![8, 128]⟩
abbrev S1x8x128 : Shape := ⟨3, ![1, 8, 128]⟩

abbrev nBuf : Space → Nat
  | .hbm => 34
  | .vmem => 28
  | .smem => 1
  | _ => 0

abbrev bufTy : (tb : Table) → Fin (tcTables nBuf tb) → BufTy
  | .hbm, ⟨0, _⟩ => ⟨S8x2048x1024, .f32⟩
  | .hbm, ⟨1, _⟩ => ⟨S8x2048x512, .bf16⟩
  | .hbm, ⟨2, _⟩ => ⟨S16384x512, .bf16⟩
  | .hbm, ⟨3, _⟩ => ⟨S16384x1024, .bf16⟩
  | .hbm, ⟨4, _⟩ => ⟨S16384x1024, .bf16⟩
  | .hbm, ⟨5, _⟩ => ⟨S1x512x1024, .f32⟩
  | .hbm, ⟨6, _⟩ => ⟨S1x512x1024, .f32⟩
  | .hbm, ⟨7, _⟩ => ⟨S1x1024x1024, .f32⟩
  | .hbm, ⟨8, _⟩ => ⟨S1x1024, .f32⟩
  | .hbm, ⟨9, _⟩ => ⟨S1x1024x5632, .f32⟩
  | .hbm, ⟨10, _⟩ => ⟨S1x3x2816, .f32⟩
  | .hbm, ⟨11, _⟩ => ⟨S1x2816x1024, .f32⟩
  | .hbm, ⟨12, _⟩ => ⟨S128x64, .i32⟩
  | .hbm, ⟨13, _⟩ => ⟨S128x512, .f32⟩
  | .hbm, ⟨14, _⟩ => ⟨S1x10240x8x64x128, .f32⟩
  | .hbm, ⟨15, _⟩ => ⟨S16384x1024, .f32⟩
  | .hbm, ⟨16, _⟩ => ⟨S16384x512, .bf16⟩
  | .hbm, ⟨17, _⟩ => ⟨S512x1024, .f32⟩
  | .hbm, ⟨18, _⟩ => ⟨S512x1024, .bf16⟩
  | .hbm, ⟨19, _⟩ => ⟨S512x1024, .f32⟩
  | .hbm, ⟨20, _⟩ => ⟨S512x1024, .bf16⟩
  | .hbm, ⟨21, _⟩ => ⟨S1024x1024, .f32⟩
  | .hbm, ⟨22, _⟩ => ⟨S1024x1024, .bf16⟩
  | .hbm, ⟨23, _⟩ => ⟨S1024, .f32⟩
  | .hbm, ⟨24, _⟩ => ⟨S1x1024, .f32⟩
  | .hbm, ⟨25, _⟩ => ⟨S1024x5632, .f32⟩
  | .hbm, ⟨26, _⟩ => ⟨S1024x5632, .bf16⟩
  | .hbm, ⟨27, _⟩ => ⟨S3x2816, .f32⟩
  | .hbm, ⟨28, _⟩ => ⟨S2816x1024, .f32⟩
  | .hbm, ⟨29, _⟩ => ⟨S2816x1024, .bf16⟩
  | .hbm, ⟨30, _⟩ => ⟨S128x1x512, .f32⟩
  | .hbm, ⟨31, _⟩ => ⟨S16384x1024, .f32⟩
  | .hbm, ⟨32, _⟩ => ⟨S8x2x2816, .f32⟩
  | .hbm, ⟨33, _⟩ => ⟨S1024x8x128, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S1024x1024, .bf16⟩
  | .local _ .vmem, ⟨13, _⟩ => ⟨S1x1024, .f32⟩
  | .local _ .vmem, ⟨14, _⟩ => ⟨S1024x5632, .bf16⟩
  | .local _ .vmem, ⟨15, _⟩ => ⟨S3x2816, .f32⟩
  | .local _ .vmem, ⟨16, _⟩ => ⟨S2816x1024, .bf16⟩
  | .local _ .vmem, ⟨17, _⟩ => ⟨S1x1x512, .f32⟩
  | .local _ .vmem, ⟨18, _⟩ => ⟨S1x1x512, .f32⟩
  | .local _ .vmem, ⟨19, _⟩ => ⟨S512x1024, .f32⟩
  | .local _ .vmem, ⟨20, _⟩ => ⟨S512x1024, .f32⟩
  | .local _ .vmem, ⟨21, _⟩ => ⟨S1x2x2816, .f32⟩
  | .local _ .vmem, ⟨22, _⟩ => ⟨S1x2x2816, .f32⟩
  | .local _ .vmem, ⟨23, _⟩ => ⟨S32x8x128, .f32⟩
  | .local _ .vmem, ⟨24, _⟩ => ⟨S32x8x128, .f32⟩
  | .local _ .vmem, ⟨25, _⟩ => ⟨S512x1024, .f32⟩
  | .local _ .vmem, ⟨26, _⟩ => ⟨S8x2816, .f32⟩
  | .local _ .vmem, ⟨27, _⟩ => ⟨S32x8x64x128, .f32⟩
  | .local _ .smem, ⟨0, _⟩ => ⟨S8192, .i32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v16 : Ref sig .tc := ⟨.hbm, 30, rfl⟩
abbrev main_v17_0 : Ref sig .tc := ⟨.hbm, 31, rfl⟩
abbrev main_v17_1 : Ref sig .tc := ⟨.hbm, 32, rfl⟩
abbrev main_v17_2 : Ref sig .tc := ⟨.hbm, 33, rfl⟩
abbrev main_v15 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg14_1 : Ref sig .tc := ⟨.vmem, 22, rfl⟩
abbrev cc0_stg15_0 : Ref sig .tc := ⟨.vmem, 23, rfl⟩
abbrev cc0_stg15_1 : Ref sig .tc := ⟨.vmem, 24, rfl⟩
abbrev cc0_scratch0 : Ref sig .tc := ⟨.vmem, 25, rfl⟩
abbrev cc0_scratch1 : Ref sig .tc := ⟨.vmem, 26, rfl⟩
abbrev cc0_scratch2 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem12_1 : DmaSem sig := 18
abbrev cc0_sem13_0 : DmaSem sig := 19
abbrev cc0_sem13_1 : DmaSem sig := 20
abbrev cc0_sem14_0 : DmaSem sig := 21
abbrev cc0_sem14_1 : DmaSem sig := 22
abbrev cc0_sem15_0 : DmaSem sig := 23
abbrev cc0_sem15_1 : DmaSem sig := 24

abbrev nD : Nat := 1
abbrev τ : Topo := Topo.v7x

variable {F : FTy → Type} [FloatOps F]

abbrev grid0 : Pipeline.Grid := ⟨1, ![32], ![false]⟩

abbrev pre0 : Pipeline.Prefetch sig := ⟨1, ![main_v15.idx], fun | 0 => main_v15.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let c7168_i32 : BitVec 32 := 7168#32
  let arg0 : BitVec 32 := BitVec.ofNat 32 (i 0).val
  let c32_i32 : BitVec 32 := 32#32
  let v0 : BitVec 32 := Scalar.muli arg0 c32_i32
  let v1 : BitVec 32 := Scalar.addi c7168_i32 v0
  let c0_i32 : BitVec 32 := 0#32
  let v2 : BitVec 32 := Scalar.addi v1 c0_i32
  let v3 : Index := Scalar.indexCast v2
  ![v3.toNat]
def k0_off2 (v4 : BitVec 32) : Fin 5 → Nat :=
  let c0_i32_0 : BitVec 32 := 0#32
  let c0_i32_6 : BitVec 32 := 0#32
  let c0_i32_7 : BitVec 32 := 0#32
  let c0_i32_8 : BitVec 32 := 0#32
  ![0, v4.toNat, 0, 0, 0]

def k0_chk1 (v4 : BitVec 32) : Prop :=
  (∀ a, (k0_off2 v4) a + S1x1x8x64x128.size a ≤ S1x10240x8x64x128.size a)
theorem k0_off2_inb : ∀ (v4 : BitVec 32) (k0_hw1 : k0_chk1 v4), ∀ a, (k0_off2 v4) a + S1x1x8x64x128.size a ≤ S1x10240x8x64x128.size a := fun v4 k0_hw1 => k0_hw1

def k0_off3 (i : grid0.Coords) : Fin 1 → Nat :=
  let c7168_i32 : BitVec 32 := 7168#32
  let arg0 : BitVec 32 := BitVec.ofNat 32 (i 0).val
  let c32_i32 : BitVec 32 := 32#32
  let v0 : BitVec 32 := Scalar.muli arg0 c32_i32
  let v1 : BitVec 32 := Scalar.addi c7168_i32 v0
  let c1_i32 : BitVec 32 := 1#32
  let v11 : BitVec 32 := Scalar.addi v1 c1_i32
  let v12 : Index := Scalar.indexCast v11
  ![v12.toNat]
def k0_off4 (v13 : BitVec 32) : Fin 5 → Nat :=
  let c0_i32_9 : BitVec 32 := 0#32
  let c0_i32_15 : BitVec 32 := 0#32
  let c0_i32_16 : BitVec 32 := 0#32
  let c0_i32_17 : BitVec 32 := 0#32
  ![0, v13.toNat, 0, 0, 0]

def k0_chk2 (v13 : BitVec 32) : Prop :=
  (∀ a, (k0_off4 v13) a + S1x1x8x64x128.size a ≤ S1x10240x8x64x128.size a)
theorem k0_off4_inb : ∀ (v13 : BitVec 32) (k0_hw2 : k0_chk2 v13), ∀ a, (k0_off4 v13) a + S1x1x8x64x128.size a ≤ S1x10240x8x64x128.size a := fun v13 k0_hw2 => k0_hw2

def k0_off5 (i : grid0.Coords) : Fin 1 → Nat :=
  let c7168_i32 : BitVec 32 := 7168#32
  let arg0 : BitVec 32 := BitVec.ofNat 32 (i 0).val
  let c32_i32 : BitVec 32 := 32#32
  let v0 : BitVec 32 := Scalar.muli arg0 c32_i32
  let v1 : BitVec 32 := Scalar.addi c7168_i32 v0
  let c2_i32 : BitVec 32 := 2#32
  let v20 : BitVec 32 := Scalar.addi v1 c2_i32
  let v21 : Index := Scalar.indexCast v20
  ![v21.toNat]
def k0_off6 (v22 : BitVec 32) : Fin 5 → Nat :=
  let c0_i32_18 : BitVec 32 := 0#32
  let c0_i32_24 : BitVec 32 := 0#32
  let c0_i32_25 : BitVec 32 := 0#32
  let c0_i32_26 : BitVec 32 := 0#32
  ![0, v22.toNat, 0, 0, 0]

def k0_chk3 (v22 : BitVec 32) : Prop :=
  (∀ a, (k0_off6 v22) a + S1x1x8x64x128.size a ≤ S1x10240x8x64x128.size a)
theorem k0_off6_inb : ∀ (v22 : BitVec 32) (k0_hw3 : k0_chk3 v22), ∀ a, (k0_off6 v22) a + S1x1x8x64x128.size a ≤ S1x10240x8x64x128.size a := fun v22 k0_hw3 => k0_hw3

def k0_off7 (i : grid0.Coords) : Fin 1 → Nat :=
  let c7168_i32 : BitVec 32 := 7168#32
  let arg0 : BitVec 32 := BitVec.ofNat 32 (i 0).val
  let c32_i32 : BitVec 32 := 32#32
  let v0 : BitVec 32 := Scalar.muli arg0 c32_i32
  let v1 : BitVec 32 := Scalar.addi c7168_i32 v0
  let c3_i32 : BitVec 32 := 3#32
  let v29 : BitVec 32 := Scalar.addi v1 c3_i32
  let v30 : Index := Scalar.indexCast v29
  ![v30.toNat]
def k0_off8 (v31 : BitVec 32) : Fin 5 → Nat :=
  let c0_i32_27 : BitVec 32 := 0#32
  let c0_i32_33 : BitVec 32 := 0#32
  let c0_i32_34 : BitVec 32 := 0#32
  let c0_i32_35 : BitVec 32 := 0#32
  ![0, v31.toNat, 0, 0, 0]

def k0_chk4 (v31 : BitVec 32) : Prop :=
  (∀ a, (k0_off8 v31) a + S1x1x8x64x128.size a ≤ S1x10240x8x64x128.size a)
theorem k0_off8_inb : ∀ (v31 : BitVec 32) (k0_hw4 : k0_chk4 v31), ∀ a, (k0_off8 v31) a + S1x1x8x64x128.size a ≤ S1x10240x8x64x128.size a := fun v31 k0_hw4 => k0_hw4

def k0_off9 (i : grid0.Coords) : Fin 1 → Nat :=
  let c7168_i32 : BitVec 32 := 7168#32
  let arg0 : BitVec 32 := BitVec.ofNat 32 (i 0).val
  let c32_i32 : BitVec 32 := 32#32
  let v0 : BitVec 32 := Scalar.muli arg0 c32_i32
  let v1 : BitVec 32 := Scalar.addi c7168_i32 v0
  let c4_i32 : BitVec 32 := 4#32
  let v38 : BitVec 32 := Scalar.addi v1 c4_i32
  let v39 : Index := Scalar.indexCast v38
  ![v39.toNat]
def k0_off10 (v40 : BitVec 32) : Fin 5 → Nat :=
  let c0_i32_36 : BitVec 32 := 0#32
  let c0_i32_42 : BitVec 32 := 0#32
  let c0_i32_43 : BitVec 32 := 0#32
  let c0_i32_44 : BitVec 32 := 0#32
  ![0, v40.toNat, 0, 0, 0]

def k0_chk5 (v40 : BitVec 32) : Prop :=
  (∀ a, (k0_off10 v40) a + S1x1x8x64x128.size a ≤ S1x10240x8x64x128.size a)
theorem k0_off10_inb : ∀ (v40 : BitVec 32) (k0_hw5 : k0_chk5 v40), ∀ a, (k0_off10 v40) a + S1x1x8x64x128.size a ≤ S1x10240x8x64x128.size a := fun v40 k0_hw5 => k0_hw5

def k0_off11 (i : grid0.Coords) : Fin 1 → Nat :=
  let c7168_i32 : BitVec 32 := 7168#32
  let arg0 : BitVec 32 := BitVec.ofNat 32 (i 0).val
  let c32_i32 : BitVec 32 := 32#32
  let v0 : BitVec 32 := Scalar.muli arg0 c32_i32
  let v1 : BitVec 32 := Scalar.addi c7168_i32 v0
  let c5_i32 : BitVec 32 := 5#32
  let v47 : BitVec 32 := Scalar.addi v1 c5_i32
  let v48 : Index := Scalar.indexCast v47
  ![v48.toNat]
def k0_off12 (v49 : BitVec 32) : Fin 5 → Nat :=
  let c0_i32_45 : BitVec 32 := 0#32
  let c0_i32_51 : BitVec 32 := 0#32
  let c0_i32_52 : BitVec 32 := 0#32
  let c0_i32_53 : BitVec 32 := 0#32
  ![0, v49.toNat, 0, 0, 0]

def k0_chk6 (v49 : BitVec 32) : Prop :=
  (∀ a, (k0_off12 v49) a + S1x1x8x64x128.size a ≤ S1x10240x8x64x128.size a)
theorem k0_off12_inb : ∀ (v49 : BitVec 32) (k0_hw6 : k0_chk6 v49), ∀ a, (k0_off12 v49) a + S1x1x8x64x128.size a ≤ S1x10240x8x64x128.size a := fun v49 k0_hw6 => k0_hw6

def k0_off13 (i : grid0.Coords) : Fin 1 → Nat :=
  let c7168_i32 : BitVec 32 := 7168#32
  let arg0 : BitVec 32 := BitVec.ofNat 32 (i 0).val
  let c32_i32 : BitVec 32 := 32#32
  let v0 : BitVec 32 := Scalar.muli arg0 c32_i32
  let v1 : BitVec 32 := Scalar.addi c7168_i32 v0
  let c6_i32 : BitVec 32 := 6#32
  let v56 : BitVec 32 := Scalar.addi v1 c6_i32
  let v57 : Index := Scalar.indexCast v56
  ![v57.toNat]
def k0_off14 (v58 : BitVec 32) : Fin 5 → Nat :=
  let c0_i32_54 : BitVec 32 := 0#32
  let c0_i32_60 : BitVec 32 := 0#32
  let c0_i32_61 : BitVec 32 := 0#32
  let c0_i32_62 : BitVec 32 := 0#32
  ![0, v58.toNat, 0, 0, 0]

def k0_chk7 (v58 : BitVec 32) : Prop :=
  (∀ a, (k0_off14 v58) a + S1x1x8x64x128.size a ≤ S1x10240x8x64x128.size a)
theorem k0_off14_inb : ∀ (v58 : BitVec 32) (k0_hw7 : k0_chk7 v58), ∀ a, (k0_off14 v58) a + S1x1x8x64x128.size a ≤ S1x10240x8x64x128.size a := fun v58 k0_hw7 => k0_hw7

def k0_off15 (i : grid0.Coords) : Fin 1 → Nat :=
  let c7168_i32 : BitVec 32 := 7168#32
  let arg0 : BitVec 32 := BitVec.ofNat 32 (i 0).val
  let c32_i32 : BitVec 32 := 32#32
  let v0 : BitVec 32 := Scalar.muli arg0 c32_i32
  let v1 : BitVec 32 := Scalar.addi c7168_i32 v0
  let c7_i32 : BitVec 32 := 7#32
  let v65 : BitVec 32 := Scalar.addi v1 c7_i32
  let v66 : Index := Scalar.indexCast v65
  ![v66.toNat]
def k0_off16 (v67 : BitVec 32) : Fin 5 → Nat :=
  let c0_i32_63 : BitVec 32 := 0#32
  let c0_i32_69 : BitVec 32 := 0#32
  let c0_i32_70 : BitVec 32 := 0#32
  let c0_i32_71 : BitVec 32 := 0#32
  ![0, v67.toNat, 0, 0, 0]

def k0_chk8 (v67 : BitVec 32) : Prop :=
  (∀ a, (k0_off16 v67) a + S1x1x8x64x128.size a ≤ S1x10240x8x64x128.size a)
theorem k0_off16_inb : ∀ (v67 : BitVec 32) (k0_hw8 : k0_chk8 v67), ∀ a, (k0_off16 v67) a + S1x1x8x64x128.size a ≤ S1x10240x8x64x128.size a := fun v67 k0_hw8 => k0_hw8

def k0_off17 (i : grid0.Coords) : Fin 1 → Nat :=
  let c7168_i32 : BitVec 32 := 7168#32
  let arg0 : BitVec 32 := BitVec.ofNat 32 (i 0).val
  let c32_i32 : BitVec 32 := 32#32
  let v0 : BitVec 32 := Scalar.muli arg0 c32_i32
  let v1 : BitVec 32 := Scalar.addi c7168_i32 v0
  let c8_i32 : BitVec 32 := 8#32
  let v74 : BitVec 32 := Scalar.addi v1 c8_i32
  let v75 : Index := Scalar.indexCast v74
  ![v75.toNat]
def k0_off18 (v76 : BitVec 32) : Fin 5 → Nat :=
  let c0_i32_72 : BitVec 32 := 0#32
  let c0_i32_78 : BitVec 32 := 0#32
  let c0_i32_79 : BitVec 32 := 0#32
  let c0_i32_80 : BitVec 32 := 0#32
  ![0, v76.toNat, 0, 0, 0]

def k0_chk9 (v76 : BitVec 32) : Prop :=
  (∀ a, (k0_off18 v76) a + S1x1x8x64x128.size a ≤ S1x10240x8x64x128.size a)
theorem k0_off18_inb : ∀ (v76 : BitVec 32) (k0_hw9 : k0_chk9 v76), ∀ a, (k0_off18 v76) a + S1x1x8x64x128.size a ≤ S1x10240x8x64x128.size a := fun v76 k0_hw9 => k0_hw9

def k0_off19 (i : grid0.Coords) : Fin 1 → Nat :=
  let c7168_i32 : BitVec 32 := 7168#32
  let arg0 : BitVec 32 := BitVec.ofNat 32 (i 0).val
  let c32_i32 : BitVec 32 := 32#32
  let v0 : BitVec 32 := Scalar.muli arg0 c32_i32
  let v1 : BitVec 32 := Scalar.addi c7168_i32 v0
  let c9_i32 : BitVec 32 := 9#32
  let v83 : BitVec 32 := Scalar.addi v1 c9_i32
  let v84 : Index := Scalar.indexCast v83
  ![v84.toNat]
def k0_off20 (v85 : BitVec 32) : Fin 5 → Nat :=
  let c0_i32_81 : BitVec 32 := 0#32
  let c0_i32_87 : BitVec 32 := 0#32
  let c0_i32_88 : BitVec 32 := 0#32
  let c0_i32_89 : BitVec 32 := 0#32
  ![0, v85.toNat, 0, 0, 0]

def k0_chk10 (v85 : BitVec 32) : Prop :=
  (∀ a, (k0_off20 v85) a + S1x1x8x64x128.size a ≤ S1x10240x8x64x128.size a)
theorem k0_off20_inb : ∀ (v85 : BitVec 32) (k0_hw10 : k0_chk10 v85), ∀ a, (k0_off20 v85) a + S1x1x8x64x128.size a ≤ S1x10240x8x64x128.size a := fun v85 k0_hw10 => k0_hw10

def k0_off21 (i : grid0.Coords) : Fin 1 → Nat :=
  let c7168_i32 : BitVec 32 := 7168#32
  let arg0 : BitVec 32 := BitVec.ofNat 32 (i 0).val
  let c32_i32 : BitVec 32 := 32#32
  let v0 : BitVec 32 := Scalar.muli arg0 c32_i32
  let v1 : BitVec 32 := Scalar.addi c7168_i32 v0
  let c10_i32 : BitVec 32 := 10#32
  let v92 : BitVec 32 := Scalar.addi v1 c10_i32
  let v93 : Index := Scalar.indexCast v92
  ![v93.toNat]
def k0_off22 (v94 : BitVec 32) : Fin 5 → Nat :=
  let c0_i32_90 : BitVec 32 := 0#32
  let c0_i32_96 : BitVec 32 := 0#32
  let c0_i32_97 : BitVec 32 := 0#32
  let c0_i32_98 : BitVec 32 := 0#32
  ![0, v94.toNat, 0, 0, 0]

def k0_chk11 (v94 : BitVec 32) : Prop :=
  (∀ a, (k0_off22 v94) a + S1x1x8x64x128.size a ≤ S1x10240x8x64x128.size a)
theorem k0_off22_inb : ∀ (v94 : BitVec 32) (k0_hw11 : k0_chk11 v94), ∀ a, (k0_off22 v94) a + S1x1x8x64x128.size a ≤ S1x10240x8x64x128.size a := fun v94 k0_hw11 => k0_hw11

def k0_off23 (i : grid0.Coords) : Fin 1 → Nat :=
  let c7168_i32 : BitVec 32 := 7168#32
  let arg0 : BitVec 32 := BitVec.ofNat 32 (i 0).val
  let c32_i32 : BitVec 32 := 32#32
  let v0 : BitVec 32 := Scalar.muli arg0 c32_i32
  let v1 : BitVec 32 := Scalar.addi c7168_i32 v0
  let c11_i32 : BitVec 32 := 11#32
  let v101 : BitVec 32 := Scalar.addi v1 c11_i32
  let v102 : Index := Scalar.indexCast v101
  ![v102.toNat]
def k0_off24 (v103 : BitVec 32) : Fin 5 → Nat :=
  let c0_i32_99 : BitVec 32 := 0#32
  let c0_i32_105 : BitVec 32 := 0#32
  let c0_i32_106 : BitVec 32 := 0#32
  let c0_i32_107 : BitVec 32 := 0#32
  ![0, v103.toNat, 0, 0, 0]

def k0_chk12 (v103 : BitVec 32) : Prop :=
  (∀ a, (k0_off24 v103) a + S1x1x8x64x128.size a ≤ S1x10240x8x64x128.size a)
theorem k0_off24_inb : ∀ (v103 : BitVec 32) (k0_hw12 : k0_chk12 v103), ∀ a, (k0_off24 v103) a + S1x1x8x64x128.size a ≤ S1x10240x8x64x128.size a := fun v103 k0_hw12 => k0_hw12

def k0_off25 (i : grid0.Coords) : Fin 1 → Nat :=
  let c7168_i32 : BitVec 32 := 7168#32
  let arg0 : BitVec 32 := BitVec.ofNat 32 (i 0).val
  let c32_i32 : BitVec 32 := 32#32
  let v0 : BitVec 32 := Scalar.muli arg0 c32_i32
  let v1 : BitVec 32 := Scalar.addi c7168_i32 v0
  let c12_i32 : BitVec 32 := 12#32
  let v110 : BitVec 32 := Scalar.addi v1 c12_i32
  let v111 : Index := Scalar.indexCast v110
  ![v111.toNat]
def k0_off26 (v112 : BitVec 32) : Fin 5 → Nat :=
  let c0_i32_108 : BitVec 32 := 0#32
  let c0_i32_114 : BitVec 32 := 0#32
  let c0_i32_115 : BitVec 32 := 0#32
  let c0_i32_116 : BitVec 32 := 0#32
  ![0, v112.toNat, 0, 0, 0]

def k0_chk13 (v112 : BitVec 32) : Prop :=
  (∀ a, (k0_off26 v112) a + S1x1x8x64x128.size a ≤ S1x10240x8x64x128.size a)
theorem k0_off26_inb : ∀ (v112 : BitVec 32) (k0_hw13 : k0_chk13 v112), ∀ a, (k0_off26 v112) a + S1x1x8x64x128.size a ≤ S1x10240x8x64x128.size a := fun v112 k0_hw13 => k0_hw13

def k0_off27 (i : grid0.Coords) : Fin 1 → Nat :=
  let c7168_i32 : BitVec 32 := 7168#32
  let arg0 : BitVec 32 := BitVec.ofNat 32 (i 0).val
  let c32_i32 : BitVec 32 := 32#32
  let v0 : BitVec 32 := Scalar.muli arg0 c32_i32
  let v1 : BitVec 32 := Scalar.addi c7168_i32 v0
  let c13_i32 : BitVec 32 := 13#32
  let v119 : BitVec 32 := Scalar.addi v1 c13_i32
  let v120 : Index := Scalar.indexCast v119
  ![v120.toNat]
def k0_off28 (v121 : BitVec 32) : Fin 5 → Nat :=
  let c0_i32_117 : BitVec 32 := 0#32
  let c0_i32_123 : BitVec 32 := 0#32
  let c0_i32_124 : BitVec 32 := 0#32
  let c0_i32_125 : BitVec 32 := 0#32
  ![0, v121.toNat, 0, 0, 0]

def k0_chk14 (v121 : BitVec 32) : Prop :=
  (∀ a, (k0_off28 v121) a + S1x1x8x64x128.size a ≤ S1x10240x8x64x128.size a)
theorem k0_off28_inb : ∀ (v121 : BitVec 32) (k0_hw14 : k0_chk14 v121), ∀ a, (k0_off28 v121) a + S1x1x8x64x128.size a ≤ S1x10240x8x64x128.size a := fun v121 k0_hw14 => k0_hw14

def k0_off29 (i : grid0.Coords) : Fin 1 → Nat :=
  let c7168_i32 : BitVec 32 := 7168#32
  let arg0 : BitVec 32 := BitVec.ofNat 32 (i 0).val
  let c32_i32 : BitVec 32 := 32#32
  let v0 : BitVec 32 := Scalar.muli arg0 c32_i32
  let v1 : BitVec 32 := Scalar.addi c7168_i32 v0
  let c14_i32 : BitVec 32 := 14#32
  let v128 : BitVec 32 := Scalar.addi v1 c14_i32
  let v129 : Index := Scalar.indexCast v128
  ![v129.toNat]
def k0_off30 (v130 : BitVec 32) : Fin 5 → Nat :=
  let c0_i32_126 : BitVec 32 := 0#32
  let c0_i32_132 : BitVec 32 := 0#32
  let c0_i32_133 : BitVec 32 := 0#32
  let c0_i32_134 : BitVec 32 := 0#32
  ![0, v130.toNat, 0, 0, 0]

def k0_chk15 (v130 : BitVec 32) : Prop :=
  (∀ a, (k0_off30 v130) a + S1x1x8x64x128.size a ≤ S1x10240x8x64x128.size a)
theorem k0_off30_inb : ∀ (v130 : BitVec 32) (k0_hw15 : k0_chk15 v130), ∀ a, (k0_off30 v130) a + S1x1x8x64x128.size a ≤ S1x10240x8x64x128.size a := fun v130 k0_hw15 => k0_hw15

def k0_off31 (i : grid0.Coords) : Fin 1 → Nat :=
  let c7168_i32 : BitVec 32 := 7168#32
  let arg0 : BitVec 32 := BitVec.ofNat 32 (i 0).val
  let c32_i32 : BitVec 32 := 32#32
  let v0 : BitVec 32 := Scalar.muli arg0 c32_i32
  let v1 : BitVec 32 := Scalar.addi c7168_i32 v0
  let c15_i32 : BitVec 32 := 15#32
  let v137 : BitVec 32 := Scalar.addi v1 c15_i32
  let v138 : Index := Scalar.indexCast v137
  ![v138.toNat]
def k0_off32 (v139 : BitVec 32) : Fin 5 → Nat :=
  let c0_i32_135 : BitVec 32 := 0#32
  let c0_i32_141 : BitVec 32 := 0#32
  let c0_i32_142 : BitVec 32 := 0#32
  let c0_i32_143 : BitVec 32 := 0#32
  ![0, v139.toNat, 0, 0, 0]

def k0_chk16 (v139 : BitVec 32) : Prop :=
  (∀ a, (k0_off32 v139) a + S1x1x8x64x128.size a ≤ S1x10240x8x64x128.size a)
theorem k0_off32_inb : ∀ (v139 : BitVec 32) (k0_hw16 : k0_chk16 v139), ∀ a, (k0_off32 v139) a + S1x1x8x64x128.size a ≤ S1x10240x8x64x128.size a := fun v139 k0_hw16 => k0_hw16

def k0_off33 (i : grid0.Coords) : Fin 1 → Nat :=
  let c7168_i32 : BitVec 32 := 7168#32
  let arg0 : BitVec 32 := BitVec.ofNat 32 (i 0).val
  let c32_i32 : BitVec 32 := 32#32
  let v0 : BitVec 32 := Scalar.muli arg0 c32_i32
  let v1 : BitVec 32 := Scalar.addi c7168_i32 v0
  let c16_i32 : BitVec 32 := 16#32
  let v146 : BitVec 32 := Scalar.addi v1 c16_i32
  let v147 : Index := Scalar.indexCast v146
  ![v147.toNat]
def k0_off34 (v148 : BitVec 32) : Fin 5 → Nat :=
  let c0_i32_144 : BitVec 32 := 0#32
  let c0_i32_150 : BitVec 32 := 0#32
  let c0_i32_151 : BitVec 32 := 0#32
  let c0_i32_152 : BitVec 32 := 0#32
  ![0, v148.toNat, 0, 0, 0]

def k0_chk17 (v148 : BitVec 32) : Prop :=
  (∀ a, (k0_off34 v148) a + S1x1x8x64x128.size a ≤ S1x10240x8x64x128.size a)
theorem k0_off34_inb : ∀ (v148 : BitVec 32) (k0_hw17 : k0_chk17 v148), ∀ a, (k0_off34 v148) a + S1x1x8x64x128.size a ≤ S1x10240x8x64x128.size a := fun v148 k0_hw17 => k0_hw17

def k0_off35 (i : grid0.Coords) : Fin 1 → Nat :=
  let c7168_i32 : BitVec 32 := 7168#32
  let arg0 : BitVec 32 := BitVec.ofNat 32 (i 0).val
  let c32_i32 : BitVec 32 := 32#32
  let v0 : BitVec 32 := Scalar.muli arg0 c32_i32
  let v1 : BitVec 32 := Scalar.addi c7168_i32 v0
  let c17_i32 : BitVec 32 := 17#32
  let v155 : BitVec 32 := Scalar.addi v1 c17_i32
  let v156 : Index := Scalar.indexCast v155
  ![v156.toNat]
def k0_off36 (v157 : BitVec 32) : Fin 5 → Nat :=
  let c0_i32_153 : BitVec 32 := 0#32
  let c0_i32_159 : BitVec 32 := 0#32
  let c0_i32_160 : BitVec 32 := 0#32
  let c0_i32_161 : BitVec 32 := 0#32
  ![0, v157.toNat, 0, 0, 0]

def k0_chk18 (v157 : BitVec 32) : Prop :=
  (∀ a, (k0_off36 v157) a + S1x1x8x64x128.size a ≤ S1x10240x8x64x128.size a)
theorem k0_off36_inb : ∀ (v157 : BitVec 32) (k0_hw18 : k0_chk18 v157), ∀ a, (k0_off36 v157) a + S1x1x8x64x128.size a ≤ S1x10240x8x64x128.size a := fun v157 k0_hw18 => k0_hw18

def k0_off37 (i : grid0.Coords) : Fin 1 → Nat :=
  let c7168_i32 : BitVec 32 := 7168#32
  let arg0 : BitVec 32 := BitVec.ofNat 32 (i 0).val
  let c32_i32 : BitVec 32 := 32#32
  let v0 : BitVec 32 := Scalar.muli arg0 c32_i32
  let v1 : BitVec 32 := Scalar.addi c7168_i32 v0
  let c18_i32 : BitVec 32 := 18#32
  let v164 : BitVec 32 := Scalar.addi v1 c18_i32
  let v165 : Index := Scalar.indexCast v164
  ![v165.toNat]
def k0_off38 (v166 : BitVec 32) : Fin 5 → Nat :=
  let c0_i32_162 : BitVec 32 := 0#32
  let c0_i32_168 : BitVec 32 := 0#32
  let c0_i32_169 : BitVec 32 := 0#32
  let c0_i32_170 : BitVec 32 := 0#32
  ![0, v166.toNat, 0, 0, 0]

def k0_chk19 (v166 : BitVec 32) : Prop :=
  (∀ a, (k0_off38 v166) a + S1x1x8x64x128.size a ≤ S1x10240x8x64x128.size a)
theorem k0_off38_inb : ∀ (v166 : BitVec 32) (k0_hw19 : k0_chk19 v166), ∀ a, (k0_off38 v166) a + S1x1x8x64x128.size a ≤ S1x10240x8x64x128.size a := fun v166 k0_hw19 => k0_hw19

def k0_off39 (i : grid0.Coords) : Fin 1 → Nat :=
  let c7168_i32 : BitVec 32 := 7168#32
  let arg0 : BitVec 32 := BitVec.ofNat 32 (i 0).val
  let c32_i32 : BitVec 32 := 32#32
  let v0 : BitVec 32 := Scalar.muli arg0 c32_i32
  let v1 : BitVec 32 := Scalar.addi c7168_i32 v0
  let c19_i32 : BitVec 32 := 19#32
  let v173 : BitVec 32 := Scalar.addi v1 c19_i32
  let v174 : Index := Scalar.indexCast v173
  ![v174.toNat]
def k0_off40 (v175 : BitVec 32) : Fin 5 → Nat :=
  let c0_i32_171 : BitVec 32 := 0#32
  let c0_i32_177 : BitVec 32 := 0#32
  let c0_i32_178 : BitVec 32 := 0#32
  let c0_i32_179 : BitVec 32 := 0#32
  ![0, v175.toNat, 0, 0, 0]

def k0_chk20 (v175 : BitVec 32) : Prop :=
  (∀ a, (k0_off40 v175) a + S1x1x8x64x128.size a ≤ S1x10240x8x64x128.size a)
theorem k0_off40_inb : ∀ (v175 : BitVec 32) (k0_hw20 : k0_chk20 v175), ∀ a, (k0_off40 v175) a + S1x1x8x64x128.size a ≤ S1x10240x8x64x128.size a := fun v175 k0_hw20 => k0_hw20

def k0_off41 (i : grid0.Coords) : Fin 1 → Nat :=
  let c7168_i32 : BitVec 32 := 7168#32
  let arg0 : BitVec 32 := BitVec.ofNat 32 (i 0).val
  let c32_i32 : BitVec 32 := 32#32
  let v0 : BitVec 32 := Scalar.muli arg0 c32_i32
  let v1 : BitVec 32 := Scalar.addi c7168_i32 v0
  let c20_i32 : BitVec 32 := 20#32
  let v182 : BitVec 32 := Scalar.addi v1 c20_i32
  let v183 : Index := Scalar.indexCast v182
  ![v183.toNat]
def k0_off42 (v184 : BitVec 32) : Fin 5 → Nat :=
  let c0_i32_180 : BitVec 32 := 0#32
  let c0_i32_186 : BitVec 32 := 0#32
  let c0_i32_187 : BitVec 32 := 0#32
  let c0_i32_188 : BitVec 32 := 0#32
  ![0, v184.toNat, 0, 0, 0]

def k0_chk21 (v184 : BitVec 32) : Prop :=
  (∀ a, (k0_off42 v184) a + S1x1x8x64x128.size a ≤ S1x10240x8x64x128.size a)
theorem k0_off42_inb : ∀ (v184 : BitVec 32) (k0_hw21 : k0_chk21 v184), ∀ a, (k0_off42 v184) a + S1x1x8x64x128.size a ≤ S1x10240x8x64x128.size a := fun v184 k0_hw21 => k0_hw21

def k0_off43 (i : grid0.Coords) : Fin 1 → Nat :=
  let c7168_i32 : BitVec 32 := 7168#32
  let arg0 : BitVec 32 := BitVec.ofNat 32 (i 0).val
  let c32_i32 : BitVec 32 := 32#32
  let v0 : BitVec 32 := Scalar.muli arg0 c32_i32
  let v1 : BitVec 32 := Scalar.addi c7168_i32 v0
  let c21_i32 : BitVec 32 := 21#32
  let v191 : BitVec 32 := Scalar.addi v1 c21_i32
  let v192 : Index := Scalar.indexCast v191
  ![v192.toNat]
def k0_off44 (v193 : BitVec 32) : Fin 5 → Nat :=
  let c0_i32_189 : BitVec 32 := 0#32
  let c0_i32_195 : BitVec 32 := 0#32
  let c0_i32_196 : BitVec 32 := 0#32
  let c0_i32_197 : BitVec 32 := 0#32
  ![0, v193.toNat, 0, 0, 0]

def k0_chk22 (v193 : BitVec 32) : Prop :=
  (∀ a, (k0_off44 v193) a + S1x1x8x64x128.size a ≤ S1x10240x8x64x128.size a)
theorem k0_off44_inb : ∀ (v193 : BitVec 32) (k0_hw22 : k0_chk22 v193), ∀ a, (k0_off44 v193) a + S1x1x8x64x128.size a ≤ S1x10240x8x64x128.size a := fun v193 k0_hw22 => k0_hw22

def k0_off45 (i : grid0.Coords) : Fin 1 → Nat :=
  let c7168_i32 : BitVec 32 := 7168#32
  let arg0 : BitVec 32 := BitVec.ofNat 32 (i 0).val
  let c32_i32 : BitVec 32 := 32#32
  let v0 : BitVec 32 := Scalar.muli arg0 c32_i32
  let v1 : BitVec 32 := Scalar.addi c7168_i32 v0
  let c22_i32 : BitVec 32 := 22#32
  let v200 : BitVec 32 := Scalar.addi v1 c22_i32
  let v201 : Index := Scalar.indexCast v200
  ![v201.toNat]
def k0_off46 (v202 : BitVec 32) : Fin 5 → Nat :=
  let c0_i32_198 : BitVec 32 := 0#32
  let c0_i32_204 : BitVec 32 := 0#32
  let c0_i32_205 : BitVec 32 := 0#32
  let c0_i32_206 : BitVec 32 := 0#32
  ![0, v202.toNat, 0, 0, 0]

def k0_chk23 (v202 : BitVec 32) : Prop :=
  (∀ a, (k0_off46 v202) a + S1x1x8x64x128.size a ≤ S1x10240x8x64x128.size a)
theorem k0_off46_inb : ∀ (v202 : BitVec 32) (k0_hw23 : k0_chk23 v202), ∀ a, (k0_off46 v202) a + S1x1x8x64x128.size a ≤ S1x10240x8x64x128.size a := fun v202 k0_hw23 => k0_hw23

def k0_off47 (i : grid0.Coords) : Fin 1 → Nat :=
  let c7168_i32 : BitVec 32 := 7168#32
  let arg0 : BitVec 32 := BitVec.ofNat 32 (i 0).val
  let c32_i32 : BitVec 32 := 32#32
  let v0 : BitVec 32 := Scalar.muli arg0 c32_i32
  let v1 : BitVec 32 := Scalar.addi c7168_i32 v0
  let c23_i32 : BitVec 32 := 23#32
  let v209 : BitVec 32 := Scalar.addi v1 c23_i32
  let v210 : Index := Scalar.indexCast v209
  ![v210.toNat]
def k0_off48 (v211 : BitVec 32) : Fin 5 → Nat :=
  let c0_i32_207 : BitVec 32 := 0#32
  let c0_i32_213 : BitVec 32 := 0#32
  let c0_i32_214 : BitVec 32 := 0#32
  let c0_i32_215 : BitVec 32 := 0#32
  ![0, v211.toNat, 0, 0, 0]

def k0_chk24 (v211 : BitVec 32) : Prop :=
  (∀ a, (k0_off48 v211) a + S1x1x8x64x128.size a ≤ S1x10240x8x64x128.size a)
theorem k0_off48_inb : ∀ (v211 : BitVec 32) (k0_hw24 : k0_chk24 v211), ∀ a, (k0_off48 v211) a + S1x1x8x64x128.size a ≤ S1x10240x8x64x128.size a := fun v211 k0_hw24 => k0_hw24

def k0_off49 (i : grid0.Coords) : Fin 1 → Nat :=
  let c7168_i32 : BitVec 32 := 7168#32
  let arg0 : BitVec 32 := BitVec.ofNat 32 (i 0).val
  let c32_i32 : BitVec 32 := 32#32
  let v0 : BitVec 32 := Scalar.muli arg0 c32_i32
  let v1 : BitVec 32 := Scalar.addi c7168_i32 v0
  let c24_i32 : BitVec 32 := 24#32
  let v218 : BitVec 32 := Scalar.addi v1 c24_i32
  let v219 : Index := Scalar.indexCast v218
  ![v219.toNat]
def k0_off50 (v220 : BitVec 32) : Fin 5 → Nat :=
  let c0_i32_216 : BitVec 32 := 0#32
  let c0_i32_222 : BitVec 32 := 0#32
  let c0_i32_223 : BitVec 32 := 0#32
  let c0_i32_224 : BitVec 32 := 0#32
  ![0, v220.toNat, 0, 0, 0]

def k0_chk25 (v220 : BitVec 32) : Prop :=
  (∀ a, (k0_off50 v220) a + S1x1x8x64x128.size a ≤ S1x10240x8x64x128.size a)
theorem k0_off50_inb : ∀ (v220 : BitVec 32) (k0_hw25 : k0_chk25 v220), ∀ a, (k0_off50 v220) a + S1x1x8x64x128.size a ≤ S1x10240x8x64x128.size a := fun v220 k0_hw25 => k0_hw25

def k0_off51 (i : grid0.Coords) : Fin 1 → Nat :=
  let c7168_i32 : BitVec 32 := 7168#32
  let arg0 : BitVec 32 := BitVec.ofNat 32 (i 0).val
  let c32_i32 : BitVec 32 := 32#32
  let v0 : BitVec 32 := Scalar.muli arg0 c32_i32
  let v1 : BitVec 32 := Scalar.addi c7168_i32 v0
  let c25_i32 : BitVec 32 := 25#32
  let v227 : BitVec 32 := Scalar.addi v1 c25_i32
  let v228 : Index := Scalar.indexCast v227
  ![v228.toNat]
def k0_off52 (v229 : BitVec 32) : Fin 5 → Nat :=
  let c0_i32_225 : BitVec 32 := 0#32
  let c0_i32_231 : BitVec 32 := 0#32
  let c0_i32_232 : BitVec 32 := 0#32
  let c0_i32_233 : BitVec 32 := 0#32
  ![0, v229.toNat, 0, 0, 0]

def k0_chk26 (v229 : BitVec 32) : Prop :=
  (∀ a, (k0_off52 v229) a + S1x1x8x64x128.size a ≤ S1x10240x8x64x128.size a)
theorem k0_off52_inb : ∀ (v229 : BitVec 32) (k0_hw26 : k0_chk26 v229), ∀ a, (k0_off52 v229) a + S1x1x8x64x128.size a ≤ S1x10240x8x64x128.size a := fun v229 k0_hw26 => k0_hw26

def k0_off53 (i : grid0.Coords) : Fin 1 → Nat :=
  let c7168_i32 : BitVec 32 := 7168#32
  let arg0 : BitVec 32 := BitVec.ofNat 32 (i 0).val
  let c32_i32 : BitVec 32 := 32#32
  let v0 : BitVec 32 := Scalar.muli arg0 c32_i32
  let v1 : BitVec 32 := Scalar.addi c7168_i32 v0
  let c26_i32 : BitVec 32 := 26#32
  let v236 : BitVec 32 := Scalar.addi v1 c26_i32
  let v237 : Index := Scalar.indexCast v236
  ![v237.toNat]
def k0_off54 (v238 : BitVec 32) : Fin 5 → Nat :=
  let c0_i32_234 : BitVec 32 := 0#32
  let c0_i32_240 : BitVec 32 := 0#32
  let c0_i32_241 : BitVec 32 := 0#32
  let c0_i32_242 : BitVec 32 := 0#32
  ![0, v238.toNat, 0, 0, 0]

def k0_chk27 (v238 : BitVec 32) : Prop :=
  (∀ a, (k0_off54 v238) a + S1x1x8x64x128.size a ≤ S1x10240x8x64x128.size a)
theorem k0_off54_inb : ∀ (v238 : BitVec 32) (k0_hw27 : k0_chk27 v238), ∀ a, (k0_off54 v238) a + S1x1x8x64x128.size a ≤ S1x10240x8x64x128.size a := fun v238 k0_hw27 => k0_hw27

def k0_off55 (i : grid0.Coords) : Fin 1 → Nat :=
  let c7168_i32 : BitVec 32 := 7168#32
  let arg0 : BitVec 32 := BitVec.ofNat 32 (i 0).val
  let c32_i32 : BitVec 32 := 32#32
  let v0 : BitVec 32 := Scalar.muli arg0 c32_i32
  let v1 : BitVec 32 := Scalar.addi c7168_i32 v0
  let c27_i32 : BitVec 32 := 27#32
  let v245 : BitVec 32 := Scalar.addi v1 c27_i32
  let v246 : Index := Scalar.indexCast v245
  ![v246.toNat]
def k0_off56 (v247 : BitVec 32) : Fin 5 → Nat :=
  let c0_i32_243 : BitVec 32 := 0#32
  let c0_i32_249 : BitVec 32 := 0#32
  let c0_i32_250 : BitVec 32 := 0#32
  let c0_i32_251 : BitVec 32 := 0#32
  ![0, v247.toNat, 0, 0, 0]

def k0_chk28 (v247 : BitVec 32) : Prop :=
  (∀ a, (k0_off56 v247) a + S1x1x8x64x128.size a ≤ S1x10240x8x64x128.size a)
theorem k0_off56_inb : ∀ (v247 : BitVec 32) (k0_hw28 : k0_chk28 v247), ∀ a, (k0_off56 v247) a + S1x1x8x64x128.size a ≤ S1x10240x8x64x128.size a := fun v247 k0_hw28 => k0_hw28

def k0_off57 (i : grid0.Coords) : Fin 1 → Nat :=
  let c7168_i32 : BitVec 32 := 7168#32
  let arg0 : BitVec 32 := BitVec.ofNat 32 (i 0).val
  let c32_i32 : BitVec 32 := 32#32
  let v0 : BitVec 32 := Scalar.muli arg0 c32_i32
  let v1 : BitVec 32 := Scalar.addi c7168_i32 v0
  let c28_i32 : BitVec 32 := 28#32
  let v254 : BitVec 32 := Scalar.addi v1 c28_i32
  let v255 : Index := Scalar.indexCast v254
  ![v255.toNat]
def k0_off58 (v256 : BitVec 32) : Fin 5 → Nat :=
  let c0_i32_252 : BitVec 32 := 0#32
  let c0_i32_258 : BitVec 32 := 0#32
  let c0_i32_259 : BitVec 32 := 0#32
  let c0_i32_260 : BitVec 32 := 0#32
  ![0, v256.toNat, 0, 0, 0]

def k0_chk29 (v256 : BitVec 32) : Prop :=
  (∀ a, (k0_off58 v256) a + S1x1x8x64x128.size a ≤ S1x10240x8x64x128.size a)
theorem k0_off58_inb : ∀ (v256 : BitVec 32) (k0_hw29 : k0_chk29 v256), ∀ a, (k0_off58 v256) a + S1x1x8x64x128.size a ≤ S1x10240x8x64x128.size a := fun v256 k0_hw29 => k0_hw29

def k0_off59 (i : grid0.Coords) : Fin 1 → Nat :=
  let c7168_i32 : BitVec 32 := 7168#32
  let arg0 : BitVec 32 := BitVec.ofNat 32 (i 0).val
  let c32_i32 : BitVec 32 := 32#32
  let v0 : BitVec 32 := Scalar.muli arg0 c32_i32
  let v1 : BitVec 32 := Scalar.addi c7168_i32 v0
  let c29_i32 : BitVec 32 := 29#32
  let v263 : BitVec 32 := Scalar.addi v1 c29_i32
  let v264 : Index := Scalar.indexCast v263
  ![v264.toNat]
def k0_off60 (v265 : BitVec 32) : Fin 5 → Nat :=
  let c0_i32_261 : BitVec 32 := 0#32
  let c0_i32_267 : BitVec 32 := 0#32
  let c0_i32_268 : BitVec 32 := 0#32
  let c0_i32_269 : BitVec 32 := 0#32
  ![0, v265.toNat, 0, 0, 0]

def k0_chk30 (v265 : BitVec 32) : Prop :=
  (∀ a, (k0_off60 v265) a + S1x1x8x64x128.size a ≤ S1x10240x8x64x128.size a)
theorem k0_off60_inb : ∀ (v265 : BitVec 32) (k0_hw30 : k0_chk30 v265), ∀ a, (k0_off60 v265) a + S1x1x8x64x128.size a ≤ S1x10240x8x64x128.size a := fun v265 k0_hw30 => k0_hw30

def k0_off61 (i : grid0.Coords) : Fin 1 → Nat :=
  let c7168_i32 : BitVec 32 := 7168#32
  let arg0 : BitVec 32 := BitVec.ofNat 32 (i 0).val
  let c32_i32 : BitVec 32 := 32#32
  let v0 : BitVec 32 := Scalar.muli arg0 c32_i32
  let v1 : BitVec 32 := Scalar.addi c7168_i32 v0
  let c30_i32 : BitVec 32 := 30#32
  let v272 : BitVec 32 := Scalar.addi v1 c30_i32
  let v273 : Index := Scalar.indexCast v272
  ![v273.toNat]
def k0_off62 (v274 : BitVec 32) : Fin 5 → Nat :=
  let c0_i32_270 : BitVec 32 := 0#32
  let c0_i32_276 : BitVec 32 := 0#32
  let c0_i32_277 : BitVec 32 := 0#32
  let c0_i32_278 : BitVec 32 := 0#32
  ![0, v274.toNat, 0, 0, 0]

def k0_chk31 (v274 : BitVec 32) : Prop :=
  (∀ a, (k0_off62 v274) a + S1x1x8x64x128.size a ≤ S1x10240x8x64x128.size a)
theorem k0_off62_inb : ∀ (v274 : BitVec 32) (k0_hw31 : k0_chk31 v274), ∀ a, (k0_off62 v274) a + S1x1x8x64x128.size a ≤ S1x10240x8x64x128.size a := fun v274 k0_hw31 => k0_hw31

def k0_off63 (i : grid0.Coords) : Fin 1 → Nat :=
  let c7168_i32 : BitVec 32 := 7168#32
  let arg0 : BitVec 32 := BitVec.ofNat 32 (i 0).val
  let c32_i32 : BitVec 32 := 32#32
  let v0 : BitVec 32 := Scalar.muli arg0 c32_i32
  let v1 : BitVec 32 := Scalar.addi c7168_i32 v0
  let c31_i32 : BitVec 32 := 31#32
  let v281 : BitVec 32 := Scalar.addi v1 c31_i32
  let v282 : Index := Scalar.indexCast v281
  ![v282.toNat]
def k0_off64 (v283 : BitVec 32) : Fin 5 → Nat :=
  let c0_i32_279 : BitVec 32 := 0#32
  let c0_i32_285 : BitVec 32 := 0#32
  let c0_i32_286 : BitVec 32 := 0#32
  let c0_i32_287 : BitVec 32 := 0#32
  ![0, v283.toNat, 0, 0, 0]

def k0_chk32 (v283 : BitVec 32) : Prop :=
  (∀ a, (k0_off64 v283) a + S1x1x8x64x128.size a ≤ S1x10240x8x64x128.size a)
theorem k0_off64_inb : ∀ (v283 : BitVec 32) (k0_hw32 : k0_chk32 v283), ∀ a, (k0_off64 v283) a + S1x1x8x64x128.size a ≤ S1x10240x8x64x128.size a := fun v283 k0_hw32 => k0_hw32

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let c32_i32 : BitVec 32 := 32#32
  let v0 : BitVec 32 := Scalar.muli arg0 c32_i32
  let c7168_i32 : BitVec 32 := 7168#32
  let v1 : BitVec 32 := Scalar.addi c7168_i32 v0
  let c64_i32 : BitVec 32 := 64#32
  let v2 : BitVec 32 := Scalar.divsi v1 c64_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c64_i32 c0_i32_1
  let v9 : BitVec 32 := Scalar.extui v8
  let c0_i32_2 : BitVec 32 := 0#32
  let v10 : BitVec 1 := Scalar.cmpi .slt c64_i32 c0_i32_2
  let v11 : BitVec 32 := Scalar.extui v10
  let v12 : BitVec 32 := Scalar.subi v9 v11
  let v13 : BitVec 1 := Scalar.cmpi .ne v7 v12
  let v14 : BitVec 32 := Scalar.remsi v1 c64_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c0_i32_4 : BitVec 32 := 0#32
  let c0_i32_5 : BitVec 32 := 0#32
  let c0_i32_6 : BitVec 32 := 0#32
  ![v18.toNat, c0_i32_4.toNat, c0_i32_5.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_16 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x5632 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S3x2816 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S2816x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S1x1x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1x2x2816 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S32x8x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== FfnRefIdeal.lean ====
abbrev S8x2048x1024 : Shape := ⟨3, ![8, 2048, 1024]⟩
abbrev S8x2048x512 : Shape := ⟨3, ![8, 2048, 512]⟩
abbrev S16384x512 : Shape := ⟨2, ![16384, 512]⟩
abbrev S16384x1024 : Shape := ⟨2, ![16384, 1024]⟩
abbrev S1x512x1024 : Shape := ⟨3, ![1, 512, 1024]⟩
abbrev S1x1024x1024 : Shape := ⟨3, ![1, 1024, 1024]⟩
abbrev S1x1024 : Shape := ⟨2, ![1, 1024]⟩
abbrev S1x1024x5632 : Shape := ⟨3, ![1, 1024, 5632]⟩
abbrev S1x3x2816 : Shape := ⟨3, ![1, 3, 2816]⟩
abbrev S1x2816x1024 : Shape := ⟨3, ![1, 2816, 1024]⟩
abbrev S128x64 : Shape := ⟨2, ![128, 64]⟩
abbrev S128x512 : Shape := ⟨2, ![128, 512]⟩
abbrev S1x10240x8x64x128 : Shape := ⟨5, ![1, 10240, 8, 64, 128]⟩
abbrev S512x1024 : Shape := ⟨2, ![512, 1024]⟩
abbrev S_ : Shape := ⟨0, ![]⟩
abbrev S1024x1024 : Shape := ⟨2, ![1024, 1024]⟩
abbrev S1024 : Shape := ⟨1, ![1024]⟩
abbrev S1024x5632 : Shape := ⟨2, ![1024, 5632]⟩
abbrev S3x2816 : Shape := ⟨2, ![3, 2816]⟩
abbrev S2816x1024 : Shape := ⟨2, ![2816, 1024]⟩
abbrev S8x2048 : Shape := ⟨2, ![8, 2048]⟩
abbrev S8x2048x1 : Shape := ⟨3, ![8, 2048, 1]⟩
abbrev S1x1x1024 : Shape := ⟨3, ![1, 1, 1024]⟩
abbrev S8x2048x5632 : Shape := ⟨3, ![8, 2048, 5632]⟩
abbrev S8x2048x2816 : Shape := ⟨3, ![8, 2048, 2816]⟩
abbrev S8x2x2816 : Shape := ⟨3, ![8, 2, 2816]⟩
abbrev S8x2050x2816 : Shape := ⟨3, ![8, 2050, 2816]⟩
abbrev S1x2816 : Shape := ⟨2, ![1, 2816]⟩
abbrev S2816 : Shape := ⟨1, ![2816]⟩
abbrev S1x1x2816 : Shape := ⟨3, ![1, 1, 2816]⟩

abbrev nBuf : Space → Nat
  | .hbm => 108
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S8x2048x512, .bf16⟩
  | .hbm, ⟨2, _⟩ => ⟨S16384x512, .bf16⟩
  | .hbm, ⟨3, _⟩ => ⟨S16384x1024, .bf16⟩
  | .hbm, ⟨4, _⟩ => ⟨S16384x1024, .bf16⟩
  | .hbm, ⟨5, _⟩ => ⟨S1x512x1024, .f32⟩
  | .hbm, ⟨6, _⟩ => ⟨S1x512x1024, .f32⟩
  | .hbm, ⟨7, _⟩ => ⟨S1x1024x1024, .f32⟩
  | .hbm, ⟨8, _⟩ => ⟨S1x1024, .f32⟩
  | .hbm, ⟨9, _⟩ => ⟨S1x1024x5632, .f32⟩
  | .hbm, ⟨10, _⟩ => ⟨S1x3x2816, .f32⟩
  | .hbm, ⟨11, _⟩ => ⟨S1x2816x1024, .f32⟩
  | .hbm, ⟨12, _⟩ => ⟨S128x64, .i32⟩
  | .hbm, ⟨13, _⟩ => ⟨S128x512, .f32⟩
  | .hbm, ⟨14, _⟩ => ⟨S1x10240x8x64x128, .f32⟩
  | .hbm, ⟨15, _⟩ => ⟨S8x2048x512, .f32⟩
  | .hbm, ⟨16, _⟩ => ⟨S512x1024, .f32⟩
  | .hbm, ⟨17, _⟩ => ⟨S8x2048x1024, .f32⟩
  | .hbm, ⟨18, _⟩ => ⟨S8x2048x512, .bf16⟩
  | .hbm, ⟨19, _⟩ => ⟨S8x2048x512, .f32⟩
  | .hbm, ⟨20, _⟩ => ⟨S512x1024, .f32⟩
  | .hbm, ⟨21, _⟩ => ⟨S8x2048x1024, .f32⟩
  | .hbm, ⟨22, _⟩ => ⟨S8x2048x1024, .bf16⟩
  | .hbm, ⟨23, _⟩ => ⟨S8x2048x1024, .f32⟩
  | .hbm, ⟨24, _⟩ => ⟨S8x2048x1024, .f32⟩
  | .hbm, ⟨25, _⟩ => ⟨S8x2048x1024, .f32⟩
  | .hbm, ⟨26, _⟩ => ⟨S_, .f32⟩
  | .hbm, ⟨27, _⟩ => ⟨S8x2048x1024, .f32⟩
  | .hbm, ⟨28, _⟩ => ⟨S8x2048x1024, .f32⟩
  | .hbm, ⟨29, _⟩ => ⟨S_, .f32⟩
  | .hbm, ⟨30, _⟩ => ⟨S8x2048x1024, .f32⟩
  | .hbm, ⟨31, _⟩ => ⟨S8x2048x1024, .f32⟩
  | .hbm, ⟨32, _⟩ => ⟨S8x2048x1024, .f32⟩
  | .hbm, ⟨33, _⟩ => ⟨S8x2048x1024, .bf16⟩
  | .hbm, ⟨34, _⟩ => ⟨S8x2048x1024, .f32⟩
  | .hbm, ⟨35, _⟩ => ⟨S8x2048x1024, .f32⟩
  | .hbm, ⟨36, _⟩ => ⟨S8x2048x1024, .f32⟩
  | .hbm, ⟨37, _⟩ => ⟨S_, .f32⟩
  | .hbm, ⟨38, _⟩ => ⟨S8x2048x1024, .f32⟩
  | .hbm, ⟨39, _⟩ => ⟨S8x2048x1024, .f32⟩
  | .hbm, ⟨40, _⟩ => ⟨S_, .f32⟩
  | .hbm, ⟨41, _⟩ => ⟨S8x2048x1024, .f32⟩
  | .hbm, ⟨42, _⟩ => ⟨S8x2048x1024, .f32⟩
  | .hbm, ⟨43, _⟩ => ⟨S8x2048x1024, .f32⟩
  | .hbm, ⟨44, _⟩ => ⟨S8x2048x1024, .f32⟩
  | .hbm, ⟨45, _⟩ => ⟨S1024x1024, .f32⟩
  | .hbm, ⟨46, _⟩ => ⟨S8x2048x1024, .f32⟩
  | .hbm, ⟨47, _⟩ => ⟨S8x2048x1024, .f32⟩
  | .hbm, ⟨48, _⟩ => ⟨S1024, .f32⟩
  | .hbm, ⟨49, _⟩ => ⟨S1024x5632, .f32⟩
  | .hbm, ⟨50, _⟩ => ⟨S3x2816, .f32⟩
  | .hbm, ⟨51, _⟩ => ⟨S2816x1024, .f32⟩
  | .hbm, ⟨52, _⟩ => ⟨S8x2048x1024, .f32⟩
  | .hbm, ⟨53, _⟩ => ⟨S_, .f32⟩
  | .hbm, ⟨54, _⟩ => ⟨S8x2048, .f32⟩
  | .hbm, ⟨55, _⟩ => ⟨S8x2048x1, .f32⟩
  | .hbm, ⟨56, _⟩ => ⟨S_, .f32⟩
  | .hbm, ⟨57, _⟩ => ⟨S8x2048x1, .f32⟩
  | .hbm, ⟨58, _⟩ => ⟨S8x2048x1, .f32⟩
  | .hbm, ⟨59, _⟩ => ⟨S_, .f32⟩
  | .hbm, ⟨60, _⟩ => ⟨S8x2048x1, .f32⟩
  | .hbm, ⟨61, _⟩ => ⟨S8x2048x1, .f32⟩
  | .hbm, ⟨62, _⟩ => ⟨S8x2048x1, .f32⟩
  | .hbm, ⟨63, _⟩ => ⟨S8x2048x1024, .f32⟩
  | .hbm, ⟨64, _⟩ => ⟨S8x2048x1024, .f32⟩
  | .hbm, ⟨65, _⟩ => ⟨S1x1x1024, .f32⟩
  | .hbm, ⟨66, _⟩ => ⟨S8x2048x1024, .f32⟩
  | .hbm, ⟨67, _⟩ => ⟨S8x2048x1024, .f32⟩
  | .hbm, ⟨68, _⟩ => ⟨S8x2048x5632, .f32⟩
  | .hbm, ⟨69, _⟩ => ⟨S8x2048x2816, .f32⟩
  | .hbm, ⟨70, _⟩ => ⟨S8x2048x2816, .f32⟩
  | .hbm, ⟨71, _⟩ => ⟨S_, .f32⟩
  | .hbm, ⟨72, _⟩ => ⟨S8x2x2816, .f32⟩
  | .hbm, ⟨73, _⟩ => ⟨S8x2050x2816, .f32⟩
  | .hbm, ⟨74, _⟩ => ⟨S8x2048x2816, .f32⟩
  | .hbm, ⟨75, _⟩ => ⟨S1x2816, .f32⟩
  | .hbm, ⟨76, _⟩ => ⟨S2816, .f32⟩
  | .hbm, ⟨77, _⟩ => ⟨S1x1x2816, .f32⟩
  | .hbm, ⟨78, _⟩ => ⟨S8x2048x2816, .f32⟩
  | .hbm, ⟨79, _⟩ => ⟨S8x2048x2816, .f32⟩
  | .hbm, ⟨80, _⟩ => ⟨S8x2048x2816, .f32⟩
  | .hbm, ⟨81, _⟩ => ⟨S1x2816, .f32⟩
  | .hbm, ⟨82, _⟩ => ⟨S2816, .f32⟩
  | .hbm, ⟨83, _⟩ => ⟨S1x1x2816, .f32⟩
  | .hbm, ⟨84, _⟩ => ⟨S8x2048x2816, .f32⟩
  | .hbm, ⟨85, _⟩ => ⟨S8x2048x2816, .f32⟩
  | .hbm, ⟨86, _⟩ => ⟨S8x2048x2816, .f32⟩
  | .hbm, ⟨87, _⟩ => ⟨S8x2048x2816, .f32⟩
  | .hbm, ⟨88, _⟩ => ⟨S1x2816, .f32⟩
  | .hbm, ⟨89, _⟩ => ⟨S2816, .f32⟩
  | .hbm, ⟨90, _⟩ => ⟨S1x1x2816, .f32⟩
  | .hbm, ⟨91, _⟩ => ⟨S8x2048x2816, .f32⟩
  | .hbm, ⟨92, _⟩ => ⟨S8x2048x2816, .f32⟩
  | .hbm, ⟨93, _⟩ => ⟨S8x2048x2816, .f32⟩
  | .hbm, ⟨94, _⟩ => ⟨S8x2x2816, .f32⟩
  | .hbm, ⟨95, _⟩ => ⟨S8x2048x2816, .f32⟩
  | .hbm, ⟨96, _⟩ => ⟨S8x2048x2816, .f32⟩
  | .hbm, ⟨97, _⟩ => ⟨S_, .f32⟩
  | .hbm, ⟨98, _⟩ => ⟨S8x2048x2816, .f32⟩
  | .hbm, ⟨99, _⟩ => ⟨S8x2048x2816, .f32⟩
  | .hbm, ⟨100, _⟩ => ⟨S_, .f32⟩
  | .hbm, ⟨101, _⟩ => ⟨S8x2048x2816, .f32⟩
  | .hbm, ⟨102, _⟩ => ⟨S8x2048x2816, .f32⟩
  | .hbm, ⟨103, _⟩ => ⟨S8x2048x2816, .f32⟩
  | .hbm, ⟨104, _⟩ => ⟨S8x2048x2816, .f32⟩
  | .hbm, ⟨105, _⟩ => ⟨S8x2048x1024, .f32⟩
  | .hbm, ⟨106, _⟩ => ⟨S8x2048x1024, .f32⟩
  | .hbm, ⟨107, _⟩ => ⟨S16384x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst : Ref sig .tc := ⟨.hbm, 26, rfl⟩
abbrev main_v11 : Ref sig .tc := ⟨.hbm, 27, rfl⟩
abbrev main_v12 : Ref sig .tc := ⟨.hbm, 28, rfl⟩
abbrev main_cst_0 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_cst_1 : Ref sig .tc := ⟨.hbm, 37, rfl⟩
abbrev main_v20 : Ref sig .tc := ⟨.hbm, 38, rfl⟩
abbrev main_v21 : Ref sig .tc := ⟨.hbm, 39, rfl⟩
abbrev main_cst_2 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_cst_3 : Ref sig .tc := ⟨.hbm, 53, rfl⟩
abbrev main_v34 : Ref sig .tc := ⟨.hbm, 54, rfl⟩
abbrev main_v35 : Ref sig .tc := ⟨.hbm, 55, rfl⟩
abbrev main_cst_4 : Ref sig .tc := ⟨.hbm, 56, rfl⟩
abbrev main_v36 : Ref sig .tc := ⟨.hbm, 57, rfl⟩
abbrev main_v37 : Ref sig .tc := ⟨.hbm, 58, rfl⟩
abbrev main_cst_5 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_cst_6 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_call0_v0 : Ref sig .tc := ⟨.hbm, 95, rfl⟩
abbrev main_call0_v1 : Ref sig .tc := ⟨.hbm, 96, rfl⟩
abbrev main_call0_cst : Ref sig .tc := ⟨.hbm, 97, rfl⟩
abbrev main_call0_v2 : Ref sig .tc := ⟨.hbm, 98, rfl⟩
abbrev main_call0_v3 : Ref sig .tc := ⟨.hbm, 99, rfl⟩
abbrev main_call0_cst_0 : Ref sig .tc := ⟨.hbm, 100, rfl⟩
abbrev main_call0_v4 : Ref sig .tc := ⟨.hbm, 101, rfl⟩
abbrev main_call0_v5 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩

abbrev nD : Nat := 1
abbrev τ : Topo := Topo.v7x

variable {F : FTy → Type} [FloatOps F]
-- ==== InProj.lean ====
abbrev S8x2048x1024 : Shape := ⟨3, ![8, 2048, 1024]⟩
abbrev S1x1024 : Shape := ⟨2, ![1, 1024]⟩
abbrev S1x1024x5120 : Shape := ⟨3, ![1, 1024, 5120]⟩
abbrev S1x64 : Shape := ⟨2, ![1, 64]⟩
abbrev S1x3x512 : Shape := ⟨3, ![1, 3, 512]⟩
abbrev S1024x5120 : Shape := ⟨2, ![1024, 5120]⟩
abbrev S1024 : Shape := ⟨1, ![1024]⟩
abbrev S64 : Shape := ⟨1, ![64]⟩
abbrev S8x64 : Shape := ⟨2, ![8, 64]⟩
abbrev S512 : Shape := ⟨1, ![512]⟩
abbrev S1x512 : Shape := ⟨2, ![1, 512]⟩
abbrev S256x256 : Shape := ⟨2, ![256, 256]⟩
abbrev S_ : Shape := ⟨0, ![]⟩
abbrev S3x512 : Shape := ⟨2, ![3, 512]⟩
abbrev S16384x1024 : Shape := ⟨2, ![16384, 1024]⟩
abbrev S16384x512 : Shape := ⟨2, ![16384, 512]⟩
abbrev S8x512x2048 : Shape := ⟨3, ![8, 512, 2048]⟩
abbrev S8x8x512x256 : Shape := ⟨4, ![8, 8, 512, 256]⟩
abbrev S32x2x512 : Shape := ⟨3, ![32, 2, 512]⟩
abbrev S8x2x512 : Shape := ⟨3, ![8, 2, 512]⟩
abbrev S512x1024 : Shape := ⟨2, ![512, 1024]⟩
abbrev S512x512 : Shape := ⟨2, ![512, 512]⟩
abbrev S1x512x512 : Shape := ⟨3, ![1, 512, 512]⟩
abbrev S1x2x512x256 : Shape := ⟨4, ![1, 2, 512, 256]⟩
abbrev S1x2x512 : Shape := ⟨3, ![1, 2, 512]⟩
abbrev S8x512 : Shape := ⟨2, ![8, 512]⟩
abbrev S512x1 : Shape := ⟨2, ![512, 1]⟩
abbrev S1024x512 : Shape := ⟨2, ![1024, 512]⟩
abbrev S512x256 : Shape := ⟨2, ![512, 256]⟩
abbrev S1024x1024 : Shape := ⟨2, ![1024, 1024]⟩
abbrev S1x1x512x256 : Shape := ⟨4, ![1, 1, 512, 256]⟩
abbrev S256x512 : Shape := ⟨2, ![256, 512]⟩
abbrev S1x1x512 : Shape := ⟨3, ![1, 1, 512]⟩
abbrev S520x512 : Shape := ⟨2, ![520, 512]⟩
abbrev S2x512 : Shape := ⟨2, ![2, 512]⟩

abbrev nBuf : Space → Nat
  | .hbm => 47
  | .vmem => 29
  | .smem => 0
  | _ => 0

abbrev bufTy : (tb : Table) → Fin (tcTables nBuf tb) → BufTy
  | .hbm, ⟨0, _⟩ => ⟨S8x2048x1024, .f32⟩
  | .hbm, ⟨1, _⟩ => ⟨S1x1024, .f32⟩
  | .hbm, ⟨2, _⟩ => ⟨S1x1024x5120, .f32⟩
  | .hbm, ⟨3, _⟩ => ⟨S1x64, .f32⟩
  | .hbm, ⟨4, _⟩ => ⟨S1x64, .f32⟩
  | .hbm, ⟨5, _⟩ => ⟨S1x3x512, .f32⟩
  | .hbm, ⟨6, _⟩ => ⟨S1024x5120, .f32⟩
  | .hbm, ⟨7, _⟩ => ⟨S1024x5120, .bf16⟩
  | .hbm, ⟨8, _⟩ => ⟨S1024, .f32⟩
  | .hbm, ⟨9, _⟩ => ⟨S1x1024, .f32⟩
  | .hbm, ⟨10, _⟩ => ⟨S64, .f32⟩
  | .hbm, ⟨11, _⟩ => ⟨S1x64, .f32⟩
  | .hbm, ⟨12, _⟩ => ⟨S8x64, .f32⟩
  | .hbm, ⟨13, _⟩ => ⟨S512, .f32⟩
  | .hbm, ⟨14, _⟩ => ⟨S1x512, .f32⟩
  | .hbm, ⟨15, _⟩ => ⟨S64, .f32⟩
  | .hbm, ⟨16, _⟩ => ⟨S1x64, .f32⟩
  | .hbm, ⟨17, _⟩ => ⟨S8x64, .f32⟩
  | .hbm, ⟨18, _⟩ => ⟨S512, .f32⟩
  | .hbm, ⟨19, _⟩ => ⟨S1x512, .f32⟩
  | .hbm, ⟨20, _⟩ => ⟨S256x256, .i32⟩
  | .hbm, ⟨21, _⟩ => ⟨S_, .i32⟩
  | .hbm, ⟨22, _⟩ => ⟨S256x256, .i32⟩
  | .hbm, ⟨23, _⟩ => ⟨S256x256, .i32⟩
  | .hbm, ⟨24, _⟩ => ⟨S256x256, .i32⟩
  | .hbm, ⟨25, _⟩ => ⟨S_, .i32⟩
  | .hbm, ⟨26, _⟩ => ⟨S256x256, .i32⟩
  | .hbm, ⟨27, _⟩ => ⟨S256x256, .i32⟩
  | .hbm, ⟨28, _⟩ => ⟨S256x256, .i1⟩
  | .hbm, ⟨29, _⟩ => ⟨S_, .f32⟩
  | .hbm, ⟨30, _⟩ => ⟨S_, .f32⟩
  | .hbm, ⟨31, _⟩ => ⟨S256x256, .f32⟩
  | .hbm, ⟨32, _⟩ => ⟨S256x256, .f32⟩
  | .hbm, ⟨33, _⟩ => ⟨S256x256, .f32⟩
  | .hbm, ⟨34, _⟩ => ⟨S256x256, .bf16⟩
  | .hbm, ⟨35, _⟩ => ⟨S3x512, .f32⟩
  | .hbm, ⟨36, _⟩ => ⟨S16384x1024, .f32⟩
  | .hbm, ⟨37, _⟩ => ⟨S16384x512, .bf16⟩
  | .hbm, ⟨38, _⟩ => ⟨S8x512x2048, .f32⟩
  | .hbm, ⟨39, _⟩ => ⟨S8x512x2048, .f32⟩
  | .hbm, ⟨40, _⟩ => ⟨S16384x512, .bf16⟩
  | .hbm, ⟨41, _⟩ => ⟨S8x8x512x256, .bf16⟩
  | .hbm, ⟨42, _⟩ => ⟨S32x2x512, .f32⟩
  | .hbm, ⟨43, _⟩ => ⟨S16384x512, .bf16⟩
  | .hbm, ⟨44, _⟩ => ⟨S16384x1024, .bf16⟩
  | .hbm, ⟨45, _⟩ => ⟨S16384x1024, .bf16⟩
  | .hbm, ⟨46, _⟩ => ⟨S8x2x512, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x5120, .bf16⟩
  | .local _ .vmem, ⟨4, _⟩ => ⟨S1x512, .f32⟩
  | .local _ .vmem, ⟨5, _⟩ => ⟨S1x512, .f32⟩
  | .local _ .vmem, ⟨6, _⟩ => ⟨S256x256, .bf16⟩
  | .local _ .vmem, ⟨7, _⟩ => ⟨S3x512, .f32⟩
  | .local _ .vmem, ⟨8, _⟩ => ⟨S512x512, .bf16⟩
  | .local _ .vmem, ⟨9, _⟩ => ⟨S512x512, .bf16⟩
  | .local _ .vmem, ⟨10, _⟩ => ⟨S1x512x512, .f32⟩
  | .local _ .vmem, ⟨11, _⟩ => ⟨S1x512x512, .f32⟩
  | .local _ .vmem, ⟨12, _⟩ => ⟨S1x512x512, .f32⟩
  | .local _ .vmem, ⟨13, _⟩ => ⟨S1x512x512, .f32⟩
  | .local _ .vmem, ⟨14, _⟩ => ⟨S512x512, .bf16⟩
  | .local _ .vmem, ⟨15, _⟩ => ⟨S512x512, .bf16⟩
  | .local _ .vmem, ⟨16, _⟩ => ⟨S1x2x512x256, .bf16⟩
  | .local _ .vmem, ⟨17, _⟩ => ⟨S1x2x512x256, .bf16⟩
  | .local _ .vmem, ⟨18, _⟩ => ⟨S1x2x512, .f32⟩
  | .local _ .vmem, ⟨19, _⟩ => ⟨S1x2x512, .f32⟩
  | .local _ .vmem, ⟨20, _⟩ => ⟨S512x512, .bf16⟩
  | .local _ .vmem, ⟨21, _⟩ => ⟨S512x512, .bf16⟩
  | .local _ .vmem, ⟨22, _⟩ => ⟨S512x1024, .bf16⟩
  | .local _ .vmem, ⟨23, _⟩ => ⟨S512x1024, .bf16⟩
  | .local _ .vmem, ⟨24, _⟩ => ⟨S512x1024, .bf16⟩
  | .local _ .vmem, ⟨25, _⟩ => ⟨S512x1024, .bf16⟩
  | .local _ .vmem, ⟨26, _⟩ => ⟨S1x2x512, .f32⟩
  | .local _ .vmem, ⟨27, _⟩ => ⟨S1x2x512, .f32⟩
  | .local _ .vmem, ⟨28, _⟩ => ⟨S8x512, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_c : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_c_0 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst : Ref sig .tc := ⟨.hbm, 29, rfl⟩
abbrev main_cst_1 : Ref sig .tc := ⟨.hbm, 30, rfl⟩
abbrev main_call0_v0 : Ref sig .tc := ⟨.hbm, 31, rfl⟩
abbrev main_call0_v1 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25_0 : Ref sig .tc := ⟨.hbm, 37, rfl⟩
abbrev main_v25_1 : Ref sig .tc := ⟨.hbm, 38, rfl⟩
abbrev main_v25_2 : Ref sig .tc := ⟨.hbm, 39, rfl⟩
abbrev main_v25_3 : Ref sig .tc := ⟨.hbm, 40, rfl⟩
abbrev main_v25_4 : Ref sig .tc := ⟨.hbm, 41, rfl⟩
abbrev main_v25_5 : Ref sig .tc := ⟨.hbm, 42, rfl⟩
abbrev main_v25_6 : Ref sig .tc := ⟨.hbm, 43, rfl⟩
abbrev main_v25_7 : Ref sig .tc := ⟨.hbm, 44, rfl⟩
abbrev main_v25_8 : Ref sig .tc := ⟨.hbm, 45, rfl⟩
abbrev main_v25_9 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg15_1 : Ref sig .tc := ⟨.vmem, 25, rfl⟩
abbrev cc0_stg16_0 : Ref sig .tc := ⟨.vmem, 26, rfl⟩
abbrev cc0_stg16_1 : Ref sig .tc := ⟨.vmem, 27, rfl⟩
abbrev cc0_scratch0 : Ref sig .tc := ⟨.vmem, 28, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem14_1 : DmaSem sig := 23
abbrev cc0_sem15_0 : DmaSem sig := 24
abbrev cc0_sem15_1 : DmaSem sig := 25
abbrev cc0_sem16_0 : DmaSem sig := 26
abbrev cc0_sem16_1 : DmaSem sig := 27

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_9 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 4 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, v26.toNat, c0_i32_10.toNat, c0_i32_11.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x5120 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S3x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x512x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x2x512x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x2x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S1x2x512 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== InProjRefIdeal.lean ====
abbrev S8x2048x1024 : Shape := ⟨3, ![8, 2048, 1024]⟩
abbrev S1x1024 : Shape := ⟨2, ![1, 1024]⟩
abbrev S1x1024x5120 : Shape := ⟨3, ![1, 1024, 5120]⟩
abbrev S1x64 : Shape := ⟨2, ![1, 64]⟩
abbrev S1x3x512 : Shape := ⟨3, ![1, 3, 512]⟩
abbrev S1024 : Shape := ⟨1, ![1024]⟩
abbrev S1024x5120 : Shape := ⟨2, ![1024, 5120]⟩
abbrev S64 : Shape := ⟨1, ![64]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S8x2048x5120 : Shape := ⟨3, ![8, 2048, 5120]⟩
abbrev S8x2048x512 : Shape := ⟨3, ![8, 2048, 512]⟩
abbrev S8x2048x8x64 : Shape := ⟨4, ![8, 2048, 8, 64]⟩
abbrev S8x2048x8 : Shape := ⟨3, ![8, 2048, 8]⟩
abbrev S8x2048x8x1 : Shape := ⟨4, ![8, 2048, 8, 1]⟩
abbrev S1x1x1x64 : Shape := ⟨4, ![1, 1, 1, 64]⟩
abbrev S8x2x512 : Shape := ⟨3, ![8, 2, 512]⟩
abbrev S3x512 : Shape := ⟨2, ![3, 512]⟩
abbrev S8x2050x512 : Shape := ⟨3, ![8, 2050, 512]⟩
abbrev S1x512 : Shape := ⟨2, ![1, 512]⟩
abbrev S512 : Shape := ⟨1, ![512]⟩
abbrev S1x1x512 : Shape := ⟨3, ![1, 1, 512]⟩
abbrev S16384x512 : Shape := ⟨2, ![16384, 512]⟩
abbrev S8x512x2048 : Shape := ⟨3, ![8, 512, 2048]⟩
abbrev S8x8x256x512 : Shape := ⟨4, ![8, 8, 256, 512]⟩
abbrev S8x8x512x256 : Shape := ⟨4, ![8, 8, 512, 256]⟩
abbrev S32x2x256x512 : Shape := ⟨4, ![32, 2, 256, 512]⟩
abbrev S32x2x512 : Shape := ⟨3, ![32, 2, 512]⟩
abbrev S16384x1024 : Shape := ⟨2, ![16384, 1024]⟩

abbrev nBuf : Space → Nat
  | .hbm => 123
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S1x1024, .f32⟩
  | .hbm, ⟨2, _⟩ => ⟨S1x1024x5120, .f32⟩
  | .hbm, ⟨3, _⟩ => ⟨S1x64, .f32⟩
  | .hbm, ⟨4, _⟩ => ⟨S1x64, .f32⟩
  | .hbm, ⟨5, _⟩ => ⟨S1x3x512, .f32⟩
  | .hbm, ⟨6, _⟩ => ⟨S1024, .f32⟩
  | .hbm, ⟨7, _⟩ => ⟨S1024x5120, .f32⟩
  | .hbm, ⟨8, _⟩ => ⟨S64, .f32⟩
  | .hbm, ⟨9, _⟩ => ⟨S64, .f32⟩
  | .hbm, ⟨10, _⟩ => ⟨S8x2048x1024, .f32⟩
  | .hbm, ⟨11, _⟩ => ⟨S_, .f32⟩
  | .hbm, ⟨12, _⟩ => ⟨S8x2048, .f32⟩
  | .hbm, ⟨13, _⟩ => ⟨S8x2048x1, .f32⟩
  | .hbm, ⟨14, _⟩ => ⟨S_, .f32⟩
  | .hbm, ⟨15, _⟩ => ⟨S8x2048x1, .f32⟩
  | .hbm, ⟨16, _⟩ => ⟨S8x2048x1, .f32⟩
  | .hbm, ⟨17, _⟩ => ⟨S_, .f32⟩
  | .hbm, ⟨18, _⟩ => ⟨S8x2048x1, .f32⟩
  | .hbm, ⟨19, _⟩ => ⟨S8x2048x1, .f32⟩
  | .hbm, ⟨20, _⟩ => ⟨S8x2048x1, .f32⟩
  | .hbm, ⟨21, _⟩ => ⟨S8x2048x1024, .f32⟩
  | .hbm, ⟨22, _⟩ => ⟨S8x2048x1024, .f32⟩
  | .hbm, ⟨23, _⟩ => ⟨S1x1x1024, .f32⟩
  | .hbm, ⟨24, _⟩ => ⟨S8x2048x1024, .f32⟩
  | .hbm, ⟨25, _⟩ => ⟨S8x2048x1024, .f32⟩
  | .hbm, ⟨26, _⟩ => ⟨S8x2048x5120, .f32⟩
  | .hbm, ⟨27, _⟩ => ⟨S8x2048x512, .f32⟩
  | .hbm, ⟨28, _⟩ => ⟨S8x2048x512, .f32⟩
  | .hbm, ⟨29, _⟩ => ⟨S8x2048x512, .f32⟩
  | .hbm, ⟨30, _⟩ => ⟨S8x2048x512, .f32⟩
  | .hbm, ⟨31, _⟩ => ⟨S8x2048x512, .f32⟩
  | .hbm, ⟨32, _⟩ => ⟨S8x2048x512, .f32⟩
  | .hbm, ⟨33, _⟩ => ⟨S8x2048x1024, .f32⟩
  | .hbm, ⟨34, _⟩ => ⟨S8x2048x1024, .f32⟩
  | .hbm, ⟨35, _⟩ => ⟨S8x2048x8x64, .f32⟩
  | .hbm, ⟨36, _⟩ => ⟨S8x2048x8x64, .f32⟩
  | .hbm, ⟨37, _⟩ => ⟨S_, .f32⟩
  | .hbm, ⟨38, _⟩ => ⟨S8x2048x8, .f32⟩
  | .hbm, ⟨39, _⟩ => ⟨S8x2048x8x1, .f32⟩
  | .hbm, ⟨40, _⟩ => ⟨S_, .f32⟩
  | .hbm, ⟨41, _⟩ => ⟨S8x2048x8x1, .f32⟩
  | .hbm, ⟨42, _⟩ => ⟨S8x2048x8x1, .f32⟩
  | .hbm, ⟨43, _⟩ => ⟨S_, .f32⟩
  | .hbm, ⟨44, _⟩ => ⟨S8x2048x8x1, .f32⟩
  | .hbm, ⟨45, _⟩ => ⟨S8x2048x8x1, .f32⟩
  | .hbm, ⟨46, _⟩ => ⟨S8x2048x8x1, .f32⟩
  | .hbm, ⟨47, _⟩ => ⟨S8x2048x8x64, .f32⟩
  | .hbm, ⟨48, _⟩ => ⟨S8x2048x8x64, .f32⟩
  | .hbm, ⟨49, _⟩ => ⟨S1x1x1x64, .f32⟩
  | .hbm, ⟨50, _⟩ => ⟨S8x2048x8x64, .f32⟩
  | .hbm, ⟨51, _⟩ => ⟨S8x2048x8x64, .f32⟩
  | .hbm, ⟨52, _⟩ => ⟨S_, .f32⟩
  | .hbm, ⟨53, _⟩ => ⟨S8x2048x8x64, .f32⟩
  | .hbm, ⟨54, _⟩ => ⟨S8x2048x8x64, .f32⟩
  | .hbm, ⟨55, _⟩ => ⟨S8x2048x8x64, .f32⟩
  | .hbm, ⟨56, _⟩ => ⟨S8x2048x8x64, .f32⟩
  | .hbm, ⟨57, _⟩ => ⟨S_, .f32⟩
  | .hbm, ⟨58, _⟩ => ⟨S8x2048x8, .f32⟩
  | .hbm, ⟨59, _⟩ => ⟨S8x2048x8x1, .f32⟩
  | .hbm, ⟨60, _⟩ => ⟨S_, .f32⟩
  | .hbm, ⟨61, _⟩ => ⟨S8x2048x8x1, .f32⟩
  | .hbm, ⟨62, _⟩ => ⟨S8x2048x8x1, .f32⟩
  | .hbm, ⟨63, _⟩ => ⟨S_, .f32⟩
  | .hbm, ⟨64, _⟩ => ⟨S8x2048x8x1, .f32⟩
  | .hbm, ⟨65, _⟩ => ⟨S8x2048x8x1, .f32⟩
  | .hbm, ⟨66, _⟩ => ⟨S8x2048x8x1, .f32⟩
  | .hbm, ⟨67, _⟩ => ⟨S8x2048x8x64, .f32⟩
  | .hbm, ⟨68, _⟩ => ⟨S8x2048x8x64, .f32⟩
  | .hbm, ⟨69, _⟩ => ⟨S1x1x1x64, .f32⟩
  | .hbm, ⟨70, _⟩ => ⟨S8x2048x8x64, .f32⟩
  | .hbm, ⟨71, _⟩ => ⟨S8x2048x8x64, .f32⟩
  | .hbm, ⟨72, _⟩ => ⟨S8x2048x8x64, .f32⟩
  | .hbm, ⟨73, _⟩ => ⟨S8x2048x512, .f32⟩
  | .hbm, ⟨74, _⟩ => ⟨S_, .f32⟩
  | .hbm, ⟨75, _⟩ => ⟨S8x2x512, .f32⟩
  | .hbm, ⟨76, _⟩ => ⟨S3x512, .f32⟩
  | .hbm, ⟨77, _⟩ => ⟨S8x2050x512, .f32⟩
  | .hbm, ⟨78, _⟩ => ⟨S8x2048x512, .f32⟩
  | .hbm, ⟨79, _⟩ => ⟨S1x512, .f32⟩
  | .hbm, ⟨80, _⟩ => ⟨S512, .f32⟩
  | .hbm, ⟨81, _⟩ => ⟨S1x1x512, .f32⟩
  | .hbm, ⟨82, _⟩ => ⟨S8x2048x512, .f32⟩
  | .hbm, ⟨83, _⟩ => ⟨S8x2048x512, .f32⟩
  | .hbm, ⟨84, _⟩ => ⟨S8x2048x512, .f32⟩
  | .hbm, ⟨85, _⟩ => ⟨S1x512, .f32⟩
  | .hbm, ⟨86, _⟩ => ⟨S512, .f32⟩
  | .hbm, ⟨87, _⟩ => ⟨S1x1x512, .f32⟩
  | .hbm, ⟨88, _⟩ => ⟨S8x2048x512, .f32⟩
  | .hbm, ⟨89, _⟩ => ⟨S8x2048x512, .f32⟩
  | .hbm, ⟨90, _⟩ => ⟨S8x2048x512, .f32⟩
  | .hbm, ⟨91, _⟩ => ⟨S8x2048x512, .f32⟩
  | .hbm, ⟨92, _⟩ => ⟨S1x512, .f32⟩
  | .hbm, ⟨93, _⟩ => ⟨S512, .f32⟩
  | .hbm, ⟨94, _⟩ => ⟨S1x1x512, .f32⟩
  | .hbm, ⟨95, _⟩ => ⟨S8x2048x512, .f32⟩
  | .hbm, ⟨96, _⟩ => ⟨S8x2048x512, .f32⟩
  | .hbm, ⟨97, _⟩ => ⟨S8x2048x512, .f32⟩
  | .hbm, ⟨98, _⟩ => ⟨S8x2x512, .f32⟩
  | .hbm, ⟨99, _⟩ => ⟨S8x2048x512, .f32⟩
  | .hbm, ⟨100, _⟩ => ⟨S8x2048x512, .f32⟩
  | .hbm, ⟨101, _⟩ => ⟨S_, .f32⟩
  | .hbm, ⟨102, _⟩ => ⟨S8x2048x8x64, .f32⟩
  | .hbm, ⟨103, _⟩ => ⟨S8x2048x8x64, .f32⟩
  | .hbm, ⟨104, _⟩ => ⟨S16384x512, .f32⟩
  | .hbm, ⟨105, _⟩ => ⟨S16384x512, .bf16⟩
  | .hbm, ⟨106, _⟩ => ⟨S8x512x2048, .f32⟩
  | .hbm, ⟨107, _⟩ => ⟨S8x512x2048, .f32⟩
  | .hbm, ⟨108, _⟩ => ⟨S16384x512, .f32⟩
  | .hbm, ⟨109, _⟩ => ⟨S16384x512, .bf16⟩
  | .hbm, ⟨110, _⟩ => ⟨S8x8x256x512, .f32⟩
  | .hbm, ⟨111, _⟩ => ⟨S8x8x512x256, .f32⟩
  | .hbm, ⟨112, _⟩ => ⟨S8x8x512x256, .bf16⟩
  | .hbm, ⟨113, _⟩ => ⟨S32x2x256x512, .f32⟩
  | .hbm, ⟨114, _⟩ => ⟨S_, .f32⟩
  | .hbm, ⟨115, _⟩ => ⟨S32x2x512, .f32⟩
  | .hbm, ⟨116, _⟩ => ⟨S8x2048x512, .f32⟩
  | .hbm, ⟨117, _⟩ => ⟨S16384x512, .f32⟩
  | .hbm, ⟨118, _⟩ => ⟨S16384x512, .bf16⟩
  | .hbm, ⟨119, _⟩ => ⟨S16384x1024, .f32⟩
  | .hbm, ⟨120, _⟩ => ⟨S16384x1024, .bf16⟩
  | .hbm, ⟨121, _⟩ => ⟨S16384x1024, .f32⟩
  | .hbm, ⟨122, _⟩ => ⟨S16384x1024, .bf16⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_cst_2 : Ref sig .tc := ⟨.hbm, 37, rfl⟩
abbrev main_v28 : Ref sig .tc := ⟨.hbm, 38, rfl⟩
abbrev main_v29 : Ref sig .tc := ⟨.hbm, 39, rfl⟩
abbrev main_cst_3 : Ref sig .tc := ⟨.hbm, 40, rfl⟩
abbrev main_v30 : Ref sig .tc := ⟨.hbm, 41, rfl⟩
abbrev main_v31 : Ref sig .tc := ⟨.hbm, 42, rfl⟩
abbrev main_cst_4 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_cst_5 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_cst_6 : Ref sig .tc := ⟨.hbm, 57, rfl⟩
abbrev main_v44 : Ref sig .tc := ⟨.hbm, 58, rfl⟩
abbrev main_v45 : Ref sig .tc := ⟨.hbm, 59, rfl⟩
abbrev main_cst_7 : Ref sig .tc := ⟨.hbm, 60, rfl⟩
abbrev main_v46 : Ref sig .tc := ⟨.hbm, 61, rfl⟩
abbrev main_v47 : Ref sig .tc := ⟨.hbm, 62, rfl⟩
abbrev main_cst_8 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_cst_9 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_v83 : Ref sig .tc := ⟨.hbm, 100, rfl⟩
abbrev main_cst_10 : Ref sig .tc := ⟨.hbm, 101, rfl⟩
abbrev main_v84 : Ref sig .tc := ⟨.hbm, 102, rfl⟩
abbrev main_v85 : Ref sig .tc := ⟨.hbm, 103, rfl⟩
abbrev main_v86 : Ref sig .tc := ⟨.hbm, 104, rfl⟩
abbrev main_v87 : Ref sig .tc := ⟨.hbm, 105, rfl⟩
abbrev main_v88 : Ref sig .tc := ⟨.hbm, 106, rfl⟩
abbrev main_v89 : Ref sig .tc := ⟨.hbm, 107, rfl⟩
abbrev main_v90 : Ref sig .tc := ⟨.hbm, 108, rfl⟩
abbrev main_v91 : Ref sig .tc := ⟨.hbm, 109, rfl⟩
abbrev main_v92 : Ref sig .tc := ⟨.hbm, 110, rfl⟩
abbrev main_v93 : Ref sig .tc := ⟨.hbm, 111, rfl⟩
abbrev main_v94 : Ref sig .tc := ⟨.hbm, 112, rfl⟩
abbrev main_v95 : Ref sig .tc := ⟨.hbm, 113, rfl⟩
abbrev main_cst_11 : Ref sig .tc := ⟨.hbm, 114, rfl⟩
abbrev main_v96 : Ref sig .tc := ⟨.hbm, 115, rfl⟩
abbrev main_v97 : Ref sig .tc := ⟨.hbm, 116, rfl⟩
abbrev main_v98 : Ref sig .tc := ⟨.hbm, 117, rfl⟩
abbrev main_v99 : Ref sig .tc := ⟨.hbm, 118, rfl⟩
abbrev main_v100 : Ref sig .tc := ⟨.hbm, 119, rfl⟩
abbrev main_v101 : Ref sig .tc := ⟨.hbm, 120, rfl⟩
abbrev main_v102 : Ref sig .tc := ⟨.hbm, 121, rfl⟩
abbrev main_v103 : Ref sig .tc := ⟨.hbm, 122, rfl⟩

abbrev nD : Nat := 1
abbrev τ : Topo := Topo.v7x

variable {F : FTy → Type} [FloatOps F]
-- ==== InStep.lean ====
abbrev S128x1x1024 : Shape := ⟨3, ![128, 1, 1024]⟩
abbrev S1x1024 : Shape := ⟨2, ![1, 1024]⟩
abbrev S1x1024x5120 : Shape := ⟨3, ![1, 1024, 5120]⟩
abbrev S1x64 : Shape := ⟨2, ![1, 64]⟩
abbrev S1x3x512 : Shape := ⟨3, ![1, 3, 512]⟩
abbrev S1x128x2x512 : Shape := ⟨4, ![1, 128, 2, 512]⟩
abbrev S1024x5120 : Shape := ⟨2, ![1024, 5120]⟩
abbrev S1024 : Shape := ⟨1, ![1024]⟩
abbrev S64 : Shape := ⟨1, ![64]⟩
abbrev S8x64 : Shape := ⟨2, ![8, 64]⟩
abbrev S512 : Shape := ⟨1, ![512]⟩
abbrev S1x512 : Shape := ⟨2, ![1, 512]⟩
abbrev S256x256 : Shape := ⟨2, ![256, 256]⟩
abbrev S_ : Shape := ⟨0, ![]⟩
abbrev S3x512 : Shape := ⟨2, ![3, 512]⟩
abbrev S128x1024 : Shape := ⟨2, ![128, 1024]⟩
abbrev S1x128x1x512 : Shape := ⟨4, ![1, 128, 1, 512]⟩
abbrev S128x512 : Shape := ⟨2, ![128, 512]⟩
abbrev S128 : Shape := ⟨1, ![128]⟩
abbrev S128x1 : Shape := ⟨2, ![128, 1]⟩
abbrev S1024x512 : Shape := ⟨2, ![1024, 512]⟩
abbrev S128x256 : Shape := ⟨2, ![128, 256]⟩
abbrev S1024x1024 : Shape := ⟨2, ![1024, 1024]⟩

abbrev nBuf : Space → Nat
  | .hbm => 49
  | .vmem => 16
  | .smem => 0
  | _ => 0

abbrev bufTy : (tb : Table) → Fin (tcTables nBuf tb) → BufTy
  | .hbm, ⟨0, _⟩ => ⟨S128x1x1024, .f32⟩
  | .hbm, ⟨1, _⟩ => ⟨S1x1024, .f32⟩
  | .hbm, ⟨2, _⟩ => ⟨S1x1024x5120, .f32⟩
  | .hbm, ⟨3, _⟩ => ⟨S1x64, .f32⟩
  | .hbm, ⟨4, _⟩ => ⟨S1x64, .f32⟩
  | .hbm, ⟨5, _⟩ => ⟨S1x3x512, .f32⟩
  | .hbm, ⟨6, _⟩ => ⟨S1x128x2x512, .f32⟩
  | .hbm, ⟨7, _⟩ => ⟨S1024x5120, .f32⟩
  | .hbm, ⟨8, _⟩ => ⟨S1024x5120, .bf16⟩
  | .hbm, ⟨9, _⟩ => ⟨S1024, .f32⟩
  | .hbm, ⟨10, _⟩ => ⟨S1x1024, .f32⟩
  | .hbm, ⟨11, _⟩ => ⟨S64, .f32⟩
  | .hbm, ⟨12, _⟩ => ⟨S1x64, .f32⟩
  | .hbm, ⟨13, _⟩ => ⟨S8x64, .f32⟩
  | .hbm, ⟨14, _⟩ => ⟨S512, .f32⟩
  | .hbm, ⟨15, _⟩ => ⟨S1x512, .f32⟩
  | .hbm, ⟨16, _⟩ => ⟨S64, .f32⟩
  | .hbm, ⟨17, _⟩ => ⟨S1x64, .f32⟩
  | .hbm, ⟨18, _⟩ => ⟨S8x64, .f32⟩
  | .hbm, ⟨19, _⟩ => ⟨S512, .f32⟩
  | .hbm, ⟨20, _⟩ => ⟨S1x512, .f32⟩
  | .hbm, ⟨21, _⟩ => ⟨S256x256, .i32⟩
  | .hbm, ⟨22, _⟩ => ⟨S_, .i32⟩
  | .hbm, ⟨23, _⟩ => ⟨S256x256, .i32⟩
  | .hbm, ⟨24, _⟩ => ⟨S256x256, .i32⟩
  | .hbm, ⟨25, _⟩ => ⟨S256x256, .i32⟩
  | .hbm, ⟨26, _⟩ => ⟨S_, .i32⟩
  | .hbm, ⟨27, _⟩ => ⟨S256x256, .i32⟩
  | .hbm, ⟨28, _⟩ => ⟨S256x256, .i32⟩
  | .hbm, ⟨29, _⟩ => ⟨S256x256, .i1⟩
  | .hbm, ⟨30, _⟩ => ⟨S_, .f32⟩
  | .hbm, ⟨31, _⟩ => ⟨S_, .f32⟩
  | .hbm, ⟨32, _⟩ => ⟨S256x256, .f32⟩
  | .hbm, ⟨33, _⟩ => ⟨S256x256, .f32⟩
  | .hbm, ⟨34, _⟩ => ⟨S256x256, .f32⟩
  | .hbm, ⟨35, _⟩ => ⟨S256x256, .bf16⟩
  | .hbm, ⟨36, _⟩ => ⟨S3x512, .f32⟩
  | .hbm, ⟨37, _⟩ => ⟨S128x1024, .f32⟩
  | .hbm, ⟨38, _⟩ => ⟨S1x128x1x512, .f32⟩
  | .hbm, ⟨39, _⟩ => ⟨S128x512, .f32⟩
  | .hbm, ⟨40, _⟩ => ⟨S1x128x1x512, .f32⟩
  | .hbm, ⟨41, _⟩ => ⟨S128x512, .f32⟩
  | .hbm, ⟨42, _⟩ => ⟨S128x512, .f32⟩
  | .hbm, ⟨43, _⟩ => ⟨S128x512, .f32⟩
  | .hbm, ⟨44, _⟩ => ⟨S128x512, .f32⟩
  | .hbm, ⟨45, _⟩ => ⟨S128x512, .bf16⟩
  | .hbm, ⟨46, _⟩ => ⟨S128x1024, .bf16⟩
  | .hbm, ⟨47, _⟩ => ⟨S128x1024, .bf16⟩
  | .hbm, ⟨48, _⟩ => ⟨S128x512, .f32⟩
  | .local _ .vmem, ⟨0, _⟩ => ⟨S128x1024, .f32⟩
  | .local _ .vmem, ⟨1, _⟩ => ⟨S1x1024, .f32⟩
  | .local _ .vmem, ⟨2, _⟩ => ⟨S1024x5120, .bf16⟩
  | .local _ .vmem, ⟨3, _⟩ => ⟨S1x512, .f32⟩
  | .local _ .vmem, ⟨4, _⟩ => ⟨S1x512, .f32⟩
  | .local _ .vmem, ⟨5, _⟩ => ⟨S256x256, .bf16⟩
  | .local _ .vmem, ⟨6, _⟩ => ⟨S3x512, .f32⟩
  | .local _ .vmem, ⟨7, _⟩ => ⟨S128x512, .f32⟩
  | .local _ .vmem, ⟨8, _⟩ => ⟨S128x512, .f32⟩
  | .local _ .vmem, ⟨9, _⟩ => ⟨S128x512, .f32⟩
  | .local _ .vmem, ⟨10, _⟩ => ⟨S128x512, .f32⟩
  | .local _ .vmem, ⟨11, _⟩ => ⟨S128x512, .f32⟩
  | .local _ .vmem, ⟨12, _⟩ => ⟨S128x512, .bf16⟩
  | .local _ .vmem, ⟨13, _⟩ => ⟨S128x1024, .bf16⟩
  | .local _ .vmem, ⟨14, _⟩ => ⟨S128x1024, .bf16⟩
  | .local _ .vmem, ⟨15, _⟩ => ⟨S128x512, .f32⟩
  | _, _ => ⟨S128x1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_c : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_c_0 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst : Ref sig .tc := ⟨.hbm, 30, rfl⟩
abbrev main_cst_1 : Ref sig .tc := ⟨.hbm, 31, rfl⟩
abbrev main_call0_v0 : Ref sig .tc := ⟨.hbm, 32, rfl⟩
abbrev main_call0_v1 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29_0 : Ref sig .tc := ⟨.hbm, 42, rfl⟩
abbrev main_v29_1 : Ref sig .tc := ⟨.hbm, 43, rfl⟩
abbrev main_v29_2 : Ref sig .tc := ⟨.hbm, 44, rfl⟩
abbrev main_v29_3 : Ref sig .tc := ⟨.hbm, 45, rfl⟩
abbrev main_v29_4 : Ref sig .tc := ⟨.hbm, 46, rfl⟩
abbrev main_v29_5 : Ref sig .tc := ⟨.hbm, 47, rfl⟩
abbrev main_v29_6 : Ref sig .tc := ⟨.hbm, 48, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x5120 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S3x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S128x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]

abbrev stage0_9 : Fin 1 → Memref sig .tc .vmem S128x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true]

abbrev stage0_10 : Fin 1 → Memref sig .tc .vmem S128x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true]

abbrev stage0_11 : Fin 1 → Memref sig .tc .vmem S128x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![true]

abbrev stage0_12 : Fin 1 → Memref sig .tc .vmem S128x512 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![true]

abbrev stage0_13 : Fin 1 → Memref sig .tc .vmem S128x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![true]

abbrev stage0_14 : Fin 1 → Memref sig .tc .vmem S128x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![true]

abbrev stage0_15 : Fin 1 → Memref sig .tc .vmem S128x512 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![true]
-- ==== InStepRefIdeal.lean ====
abbrev S128x1x1024 : Shape := ⟨3, ![128, 1, 1024]⟩
abbrev S1x1024 : Shape := ⟨2, ![1, 1024]⟩
abbrev S1x1024x5120 : Shape := ⟨3, ![1, 1024, 5120]⟩
abbrev S1x64 : Shape := ⟨2, ![1, 64]⟩
abbrev S1x3x512 : Shape := ⟨3, ![1, 3, 512]⟩
abbrev S1x128x2x512 : Shape := ⟨4, ![1, 128, 2, 512]⟩
abbrev S1024 : Shape := ⟨1, ![1024]⟩
abbrev S1024x5120 : Shape := ⟨2, ![1024, 5120]⟩
abbrev S64 : Shape := ⟨1, ![64]⟩
abbrev S_ : Shape := ⟨0, ![]⟩
abbrev S128x1 : Shape := ⟨2, ![128, 1]⟩
abbrev S128x1x1 : Shape := ⟨3, ![128, 1, 1]⟩
abbrev S1x1x1024 : Shape := ⟨3, ![1, 1, 1024]⟩
abbrev S128x1x5120 : Shape := ⟨3, ![128, 1, 5120]⟩
abbrev S128x1x512 : Shape := ⟨3, ![128, 1, 512]⟩
abbrev S128x1x8x64 : Shape := ⟨4, ![128, 1, 8, 64]⟩
abbrev S128x1x8 : Shape := ⟨3, ![128, 1, 8]⟩
abbrev S128x1x8x1 : Shape := ⟨4, ![128, 1, 8, 1]⟩
abbrev S1x1x1x64 : Shape := ⟨4, ![1, 1, 1, 64]⟩
abbrev S128x2x512 : Shape := ⟨3, ![128, 2, 512]⟩
abbrev S3x512 : Shape := ⟨2, ![3, 512]⟩
abbrev S128x3x512 : Shape := ⟨3, ![128, 3, 512]⟩
abbrev S1x512 : Shape := ⟨2, ![1, 512]⟩
abbrev S512 : Shape := ⟨1, ![512]⟩
abbrev S1x1x512 : Shape := ⟨3, ![1, 1, 512]⟩
abbrev S128x512 : Shape := ⟨2, ![128, 512]⟩
abbrev S128x1024 : Shape := ⟨2, ![128, 1024]⟩

abbrev nBuf : Space → Nat
  | .hbm => 110
  | .vmem => 0
  | .smem => 0
  | _ => 0

abbrev bufTy : (tb : Table) → Fin (tcTables nBuf tb) → BufTy
  | .hbm, ⟨0, _⟩ => ⟨S128x1x1024, .f32⟩
  | .hbm, ⟨1, _⟩ => ⟨S1x1024, .f32⟩
  | .hbm, ⟨2, _⟩ => ⟨S1x1024x5120, .f32⟩
  | .hbm, ⟨3, _⟩ => ⟨S1x64, .f32⟩
  | .hbm, ⟨4, _⟩ => ⟨S1x64, .f32⟩
  | .hbm, ⟨5, _⟩ => ⟨S1x3x512, .f32⟩
  | .hbm, ⟨6, _⟩ => ⟨S1x128x2x512, .f32⟩
  | .hbm, ⟨7, _⟩ => ⟨S1024, .f32⟩
  | .hbm, ⟨8, _⟩ => ⟨S1024x5120, .f32⟩
  | .hbm, ⟨9, _⟩ => ⟨S64, .f32⟩
  | .hbm, ⟨10, _⟩ => ⟨S64, .f32⟩
  | .hbm, ⟨11, _⟩ => ⟨S128x1x1024, .f32⟩
  | .hbm, ⟨12, _⟩ => ⟨S_, .f32⟩
  | .hbm, ⟨13, _⟩ => ⟨S128x1, .f32⟩
  | .hbm, ⟨14, _⟩ => ⟨S128x1x1, .f32⟩
  | .hbm, ⟨15, _⟩ => ⟨S_, .f32⟩
  | .hbm, ⟨16, _⟩ => ⟨S128x1x1, .f32⟩
  | .hbm, ⟨17, _⟩ => ⟨S128x1x1, .f32⟩
  | .hbm, ⟨18, _⟩ => ⟨S_, .f32⟩
  | .hbm, ⟨19, _⟩ => ⟨S128x1x1, .f32⟩
  | .hbm, ⟨20, _⟩ => ⟨S128x1x1, .f32⟩
  | .hbm, ⟨21, _⟩ => ⟨S128x1x1, .f32⟩
  | .hbm, ⟨22, _⟩ => ⟨S128x1x1024, .f32⟩
  | .hbm, ⟨23, _⟩ => ⟨S128x1x1024, .f32⟩
  | .hbm, ⟨24, _⟩ => ⟨S1x1x1024, .f32⟩
  | .hbm, ⟨25, _⟩ => ⟨S128x1x1024, .f32⟩
  | .hbm, ⟨26, _⟩ => ⟨S128x1x1024, .f32⟩
  | .hbm, ⟨27, _⟩ => ⟨S128x1x5120, .f32⟩
  | .hbm, ⟨28, _⟩ => ⟨S128x1x512, .f32⟩
  | .hbm, ⟨29, _⟩ => ⟨S128x1x512, .f32⟩
  | .hbm, ⟨30, _⟩ => ⟨S128x1x512, .f32⟩
  | .hbm, ⟨31, _⟩ => ⟨S128x1x512, .f32⟩
  | .hbm, ⟨32, _⟩ => ⟨S128x1x512, .f32⟩
  | .hbm, ⟨33, _⟩ => ⟨S128x1x512, .f32⟩
  | .hbm, ⟨34, _⟩ => ⟨S128x1x1024, .f32⟩
  | .hbm, ⟨35, _⟩ => ⟨S128x1x1024, .f32⟩
  | .hbm, ⟨36, _⟩ => ⟨S128x1x8x64, .f32⟩
  | .hbm, ⟨37, _⟩ => ⟨S128x1x8x64, .f32⟩
  | .hbm, ⟨38, _⟩ => ⟨S_, .f32⟩
  | .hbm, ⟨39, _⟩ => ⟨S128x1x8, .f32⟩
  | .hbm, ⟨40, _⟩ => ⟨S128x1x8x1, .f32⟩
  | .hbm, ⟨41, _⟩ => ⟨S_, .f32⟩
  | .hbm, ⟨42, _⟩ => ⟨S128x1x8x1, .f32⟩
  | .hbm, ⟨43, _⟩ => ⟨S128x1x8x1, .f32⟩
  | .hbm, ⟨44, _⟩ => ⟨S_, .f32⟩
  | .hbm, ⟨45, _⟩ => ⟨S128x1x8x1, .f32⟩
  | .hbm, ⟨46, _⟩ => ⟨S128x1x8x1, .f32⟩
  | .hbm, ⟨47, _⟩ => ⟨S128x1x8x1, .f32⟩
  | .hbm, ⟨48, _⟩ => ⟨S128x1x8x64, .f32⟩
  | .hbm, ⟨49, _⟩ => ⟨S128x1x8x64, .f32⟩
  | .hbm, ⟨50, _⟩ => ⟨S1x1x1x64, .f32⟩
  | .hbm, ⟨51, _⟩ => ⟨S128x1x8x64, .f32⟩
  | .hbm, ⟨52, _⟩ => ⟨S128x1x8x64, .f32⟩
  | .hbm, ⟨53, _⟩ => ⟨S_, .f32⟩
  | .hbm, ⟨54, _⟩ => ⟨S128x1x8x64, .f32⟩
  | .hbm, ⟨55, _⟩ => ⟨S128x1x8x64, .f32⟩
  | .hbm, ⟨56, _⟩ => ⟨S128x1x8x64, .f32⟩
  | .hbm, ⟨57, _⟩ => ⟨S128x1x8x64, .f32⟩
  | .hbm, ⟨58, _⟩ => ⟨S_, .f32⟩
  | .hbm, ⟨59, _⟩ => ⟨S128x1x8, .f32⟩
  | .hbm, ⟨60, _⟩ => ⟨S128x1x8x1, .f32⟩
  | .hbm, ⟨61, _⟩ => ⟨S_, .f32⟩
  | .hbm, ⟨62, _⟩ => ⟨S128x1x8x1, .f32⟩
  | .hbm, ⟨63, _⟩ => ⟨S128x1x8x1, .f32⟩
  | .hbm, ⟨64, _⟩ => ⟨S_, .f32⟩
  | .hbm, ⟨65, _⟩ => ⟨S128x1x8x1, .f32⟩
  | .hbm, ⟨66, _⟩ => ⟨S128x1x8x1, .f32⟩
  | .hbm, ⟨67, _⟩ => ⟨S128x1x8x1, .f32⟩
  | .hbm, ⟨68, _⟩ => ⟨S128x1x8x64, .f32⟩
  | .hbm, ⟨69, _⟩ => ⟨S128x1x8x64, .f32⟩
  | .hbm, ⟨70, _⟩ => ⟨S1x1x1x64, .f32⟩
  | .hbm, ⟨71, _⟩ => ⟨S128x1x8x64, .f32⟩
  | .hbm, ⟨72, _⟩ => ⟨S128x1x8x64, .f32⟩
  | .hbm, ⟨73, _⟩ => ⟨S128x1x8x64, .f32⟩
  | .hbm, ⟨74, _⟩ => ⟨S128x1x512, .f32⟩
  | .hbm, ⟨75, _⟩ => ⟨S128x2x512, .f32⟩
  | .hbm, ⟨76, _⟩ => ⟨S3x512, .f32⟩
  | .hbm, ⟨77, _⟩ => ⟨S128x3x512, .f32⟩
  | .hbm, ⟨78, _⟩ => ⟨S128x1x512, .f32⟩
  | .hbm, ⟨79, _⟩ => ⟨S1x512, .f32⟩
  | .hbm, ⟨80, _⟩ => ⟨S512, .f32⟩
  | .hbm, ⟨81, _⟩ => ⟨S1x1x512, .f32⟩
  | .hbm, ⟨82, _⟩ => ⟨S128x1x512, .f32⟩
  | .hbm, ⟨83, _⟩ => ⟨S128x1x512, .f32⟩
  | .hbm, ⟨84, _⟩ => ⟨S128x1x512, .f32⟩
  | .hbm, ⟨85, _⟩ => ⟨S1x512, .f32⟩
  | .hbm, ⟨86, _⟩ => ⟨S512, .f32⟩
  | .hbm, ⟨87, _⟩ => ⟨S1x1x512, .f32⟩
  | .hbm, ⟨88, _⟩ => ⟨S128x1x512, .f32⟩
  | .hbm, ⟨89, _⟩ => ⟨S128x1x512, .f32⟩
  | .hbm, ⟨90, _⟩ => ⟨S128x1x512, .f32⟩
  | .hbm, ⟨91, _⟩ => ⟨S128x1x512, .f32⟩
  | .hbm, ⟨92, _⟩ => ⟨S1x512, .f32⟩
  | .hbm, ⟨93, _⟩ => ⟨S512, .f32⟩
  | .hbm, ⟨94, _⟩ => ⟨S1x1x512, .f32⟩
  | .hbm, ⟨95, _⟩ => ⟨S128x1x512, .f32⟩
  | .hbm, ⟨96, _⟩ => ⟨S128x1x512, .f32⟩
  | .hbm, ⟨97, _⟩ => ⟨S128x1x512, .f32⟩
  | .hbm, ⟨98, _⟩ => ⟨S128x2x512, .f32⟩
  | .hbm, ⟨99, _⟩ => ⟨S128x512, .f32⟩
  | .hbm, ⟨100, _⟩ => ⟨S128x512, .f32⟩
  | .hbm, ⟨101, _⟩ => ⟨S128x512, .f32⟩
  | .hbm, ⟨102, _⟩ => ⟨S128x1x512, .f32⟩
  | .hbm, ⟨103, _⟩ => ⟨S128x512, .f32⟩
  | .hbm, ⟨104, _⟩ => ⟨S128x512, .bf16⟩
  | .hbm, ⟨105, _⟩ => ⟨S128x1024, .f32⟩
  | .hbm, ⟨106, _⟩ => ⟨S128x1024, .bf16⟩
  | .hbm, ⟨107, _⟩ => ⟨S128x1024, .f32⟩
  | .hbm, ⟨108, _⟩ => ⟨S128x1024, .bf16⟩
  | .hbm, ⟨109, _⟩ => ⟨S128x512, .f32⟩
  | _, _ => ⟨S128x1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_2 : Ref sig .tc := ⟨.hbm, 38, rfl⟩
abbrev main_v28 : Ref sig .tc := ⟨.hbm, 39, rfl⟩
abbrev main_v29 : Ref sig .tc := ⟨.hbm, 40, rfl⟩
abbrev main_cst_3 : Ref sig .tc := ⟨.hbm, 41, rfl⟩
abbrev main_v30 : Ref sig .tc := ⟨.hbm, 42, rfl⟩
abbrev main_v31 : Ref sig .tc := ⟨.hbm, 43, rfl⟩
abbrev main_cst_4 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_cst_5 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_cst_6 : Ref sig .tc := ⟨.hbm, 58, rfl⟩
abbrev main_v44 : Ref sig .tc := ⟨.hbm, 59, rfl⟩
abbrev main_v45 : Ref sig .tc := ⟨.hbm, 60, rfl⟩
abbrev main_cst_7 : Ref sig .tc := ⟨.hbm, 61, rfl⟩
abbrev main_v46 : Ref sig .tc := ⟨.hbm, 62, rfl⟩
abbrev main_v47 : Ref sig .tc := ⟨.hbm, 63, rfl⟩
abbrev main_cst_8 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_v83 : Ref sig .tc := ⟨.hbm, 100, rfl⟩
abbrev main_v84 : Ref sig .tc := ⟨.hbm, 101, rfl⟩
abbrev main_v85 : Ref sig .tc := ⟨.hbm, 102, rfl⟩
abbrev main_v86 : Ref sig .tc := ⟨.hbm, 103, rfl⟩
abbrev main_v87 : Ref sig .tc := ⟨.hbm, 104, rfl⟩
abbrev main_v88 : Ref sig .tc := ⟨.hbm, 105, rfl⟩
abbrev main_v89 : Ref sig .tc := ⟨.hbm, 106, rfl⟩
abbrev main_v90 : Ref sig .tc := ⟨.hbm, 107, rfl⟩
abbrev main_v91 : Ref sig .tc := ⟨.hbm, 108, rfl⟩
abbrev main_v92 : Ref sig .tc := ⟨.hbm, 109, rfl⟩

abbrev nD : Nat := 1
abbrev τ : Topo := Topo.v7x

variable {F : FTy → Type} [FloatOps F]
-- ==== FfnStep.lean ====
abbrev S128x1x1024 : Shape := ⟨3, ![128, 1, 1024]⟩
abbrev S128x8x64 : Shape := ⟨3, ![128, 8, 64]⟩
abbrev S128x512 : Shape := ⟨2, ![128, 512]⟩
abbrev S128x1024 : Shape := ⟨2, ![128, 1024]⟩
abbrev S1x512x1024 : Shape := ⟨3, ![1, 512, 1024]⟩
abbrev S1x1024x1024 : Shape := ⟨3, ![1, 1024, 1024]⟩
abbrev S1x1024 : Shape := ⟨2, ![1, 1024]⟩
abbrev S1x1024x5632 : Shape := ⟨3, ![1, 1024, 5632]⟩
abbrev S1x3x2816 : Shape := ⟨3, ![1, 3, 2816]⟩
abbrev S1x2816x1024 : Shape := ⟨3, ![1, 2816, 1024]⟩
abbrev S1x128x2x2816 : Shape := ⟨4, ![1, 128, 2, 2816]⟩
abbrev S512x1024 : Shape := ⟨2, ![512, 1024]⟩
abbrev S1024x1024 : Shape := ⟨2, ![1024, 1024]⟩
abbrev S1024 : Shape := ⟨1, ![1024]⟩
abbrev S1024x5632 : Shape := ⟨2, ![1024, 5632]⟩
abbrev S3x2816 : Shape := ⟨2, ![3, 2816]⟩
abbrev S2816x1024 : Shape := ⟨2, ![2816, 1024]⟩
abbrev S1x128x1x2816 : Shape := ⟨4, ![1, 128, 1, 2816]⟩
abbrev S128x2816 : Shape := ⟨2, ![128, 2816]⟩
abbrev S128 : Shape := ⟨1, ![128]⟩
abbrev S128x1 : Shape := ⟨2, ![128, 1]⟩
abbrev S1024x256 : Shape := ⟨2, ![1024, 256]⟩
abbrev S128x256 : Shape := ⟨2, ![128, 256]⟩
abbrev S1x256 : Shape := ⟨2, ![1, 256]⟩
abbrev S256x1024 : Shape := ⟨2, ![256, 1024]⟩

abbrev nBuf : Space → Nat
  | .hbm => 34
  | .vmem => 17
  | .smem => 0
  | _ => 0

abbrev bufTy : (tb : Table) → Fin (tcTables nBuf tb) → BufTy
  | .hbm, ⟨0, _⟩ => ⟨S128x1x1024, .f32⟩
  | .hbm, ⟨1, _⟩ => ⟨S128x8x64, .f32⟩
  | .hbm, ⟨2, _⟩ => ⟨S128x512, .bf16⟩
  | .hbm, ⟨3, _⟩ => ⟨S128x1024, .bf16⟩
  | .hbm, ⟨4, _⟩ => ⟨S128x1024, .bf16⟩
  | .hbm, ⟨5, _⟩ => ⟨S1x512x1024, .f32⟩
  | .hbm, ⟨6, _⟩ => ⟨S1x512x1024, .f32⟩
  | .hbm, ⟨7, _⟩ => ⟨S1x1024x1024, .f32⟩
  | .hbm, ⟨8, _⟩ => ⟨S1x1024, .f32⟩
  | .hbm, ⟨9, _⟩ => ⟨S1x1024x5632, .f32⟩
  | .hbm, ⟨10, _⟩ => ⟨S1x3x2816, .f32⟩
  | .hbm, ⟨11, _⟩ => ⟨S1x2816x1024, .f32⟩
  | .hbm, ⟨12, _⟩ => ⟨S1x128x2x2816, .f32⟩
  | .hbm, ⟨13, _⟩ => ⟨S128x1024, .f32⟩
  | .hbm, ⟨14, _⟩ => ⟨S128x512, .f32⟩
  | .hbm, ⟨15, _⟩ => ⟨S512x1024, .f32⟩
  | .hbm, ⟨16, _⟩ => ⟨S512x1024, .bf16⟩
  | .hbm, ⟨17, _⟩ => ⟨S512x1024, .f32⟩
  | .hbm, ⟨18, _⟩ => ⟨S512x1024, .bf16⟩
  | .hbm, ⟨19, _⟩ => ⟨S1024x1024, .f32⟩
  | .hbm, ⟨20, _⟩ => ⟨S1024x1024, .bf16⟩
  | .hbm, ⟨21, _⟩ => ⟨S1024, .f32⟩
  | .hbm, ⟨22, _⟩ => ⟨S1x1024, .f32⟩
  | .hbm, ⟨23, _⟩ => ⟨S1024x5632, .f32⟩
  | .hbm, ⟨24, _⟩ => ⟨S1024x5632, .bf16⟩
  | .hbm, ⟨25, _⟩ => ⟨S3x2816, .f32⟩
  | .hbm, ⟨26, _⟩ => ⟨S2816x1024, .f32⟩
  | .hbm, ⟨27, _⟩ => ⟨S2816x1024, .bf16⟩
  | .hbm, ⟨28, _⟩ => ⟨S1x128x1x2816, .f32⟩
  | .hbm, ⟨29, _⟩ => ⟨S128x2816, .f32⟩
  | .hbm, ⟨30, _⟩ => ⟨S1x128x1x2816, .f32⟩
  | .hbm, ⟨31, _⟩ => ⟨S128x2816, .f32⟩
  | .hbm, ⟨32, _⟩ => ⟨S128x1024, .f32⟩
  | .hbm, ⟨33, _⟩ => ⟨S128x2816, .f32⟩
  | .local _ .vmem, ⟨0, _⟩ => ⟨S128x1024, .f32⟩
  | .local _ .vmem, ⟨1, _⟩ => ⟨S128x512, .f32⟩
  | .local _ .vmem, ⟨2, _⟩ => ⟨S128x512, .bf16⟩
  | .local _ .vmem, ⟨3, _⟩ => ⟨S128x1024, .bf16⟩
  | .local _ .vmem, ⟨4, _⟩ => ⟨S128x1024, .bf16⟩
  | .local _ .vmem, ⟨5, _⟩ => ⟨S512x1024, .bf16⟩
  | .local _ .vmem, ⟨6, _⟩ => ⟨S512x1024, .bf16⟩
  | .local _ .vmem, ⟨7, _⟩ => ⟨S1024x1024, .bf16⟩
  | .local _ .vmem, ⟨8, _⟩ => ⟨S1x1024, .f32⟩
  | .local _ .vmem, ⟨9, _⟩ => ⟨S1024x5632, .bf16⟩
  | .local _ .vmem, ⟨10, _⟩ => ⟨S3x2816, .f32⟩
  | .local _ .vmem, ⟨11, _⟩ => ⟨S2816x1024, .bf16⟩
  | .local _ .vmem, ⟨12, _⟩ => ⟨S128x2816, .f32⟩
  | .local _ .vmem, ⟨13, _⟩ => ⟨S128x2816, .f32⟩
  | .local _ .vmem, ⟨14, _⟩ => ⟨S128x1024, .f32⟩
  | .local _ .vmem, ⟨15, _⟩ => ⟨S128x2816, .f32⟩
  | .local _ .vmem, ⟨16, _⟩ => ⟨S128x1024, .f32⟩
  | _, _ => ⟨S128x1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19_0 : Ref sig .tc := ⟨.hbm, 32, rfl⟩
abbrev main_v19_1 : Ref sig .tc := ⟨.hbm, 33, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_scratch0 : Ref sig .tc := ⟨.vmem, 16, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S128x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S128x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x5632 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S3x2816 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S2816x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S128x2816 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![true]

abbrev stage0_13 : Fin 1 → Memref sig .tc .vmem S128x2816 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![true]

abbrev stage0_14 : Fin 1 → Memref sig .tc .vmem S128x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![true]

abbrev stage0_15 : Fin 1 → Memref sig .tc .vmem S128x2816 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![true]
-- ==== FfnStepRefIdeal.lean ====
abbrev S128x1x1024 : Shape := ⟨3, ![128, 1, 1024]⟩
abbrev S128x8x64 : Shape := ⟨3, ![128, 8, 64]⟩
abbrev S128x512 : Shape := ⟨2, ![128, 512]⟩
abbrev S128x1024 : Shape := ⟨2, ![128, 1024]⟩
abbrev S1x512x1024 : Shape := ⟨3, ![1, 512, 1024]⟩
abbrev S1x1024x1024 : Shape := ⟨3, ![1, 1024, 1024]⟩
abbrev S1x1024 : Shape := ⟨2, ![1, 1024]⟩
abbrev S1x1024x5632 : Shape := ⟨3, ![1, 1024, 5632]⟩
abbrev S1x3x2816 : Shape := ⟨3, ![1, 3, 2816]⟩
abbrev S1x2816x1024 : Shape := ⟨3, ![1, 2816, 1024]⟩
abbrev S1x128x2x2816 : Shape := ⟨4, ![1, 128, 2, 2816]⟩
abbrev S128x1x512 : Shape := ⟨3, ![128, 1, 512]⟩
abbrev S512x1024 : Shape := ⟨2, ![512, 1024]⟩
abbrev S_ : Shape := ⟨0, ![]⟩
abbrev S1024x1024 : Shape := ⟨2, ![1024, 1024]⟩
abbrev S1024 : Shape := ⟨1, ![1024]⟩
abbrev S128x1 : Shape := ⟨2, ![128, 1]⟩
abbrev S128x1x1 : Shape := ⟨3, ![128, 1, 1]⟩
abbrev S1x1x1024 : Shape := ⟨3, ![1, 1, 1024]⟩
abbrev S1024x5632 : Shape := ⟨2, ![1024, 5632]⟩
abbrev S128x1x5632 : Shape := ⟨3, ![128, 1, 5632]⟩
abbrev S128x1x2816 : Shape := ⟨3, ![128, 1, 2816]⟩
abbrev S128x2x2816 : Shape := ⟨3, ![128, 2, 2816]⟩
abbrev S3x2816 : Shape := ⟨2, ![3, 2816]⟩
abbrev S128x3x2816 : Shape := ⟨3, ![128, 3, 2816]⟩
abbrev S1x2816 : Shape := ⟨2, ![1, 2816]⟩
abbrev S2816 : Shape := ⟨1, ![2816]⟩
abbrev S1x1x2816 : Shape := ⟨3, ![1, 1, 2816]⟩
abbrev S2816x1024 : Shape := ⟨2, ![2816, 1024]⟩
abbrev S128x2816 : Shape := ⟨2, ![128, 2816]⟩

abbrev nBuf : Space → Nat
  | .hbm => 107
  | .vmem => 0
  | .smem => 0
  | _ => 0

abbrev bufTy : (tb : Table) → Fin (tcTables nBuf tb) → BufTy
  | .hbm, ⟨0, _⟩ => ⟨S128x1x1024, .f32⟩
  | .hbm, ⟨1, _⟩ => ⟨S128x8x64, .f32⟩
  | .hbm, ⟨2, _⟩ => ⟨S128x512, .bf16⟩
  | .hbm, ⟨3, _⟩ => ⟨S128x1024, .bf16⟩
  | .hbm, ⟨4, _⟩ => ⟨S128x1024, .bf16⟩
  | .hbm, ⟨5, _⟩ => ⟨S1x512x1024, .f32⟩
  | .hbm, ⟨6, _⟩ => ⟨S1x512x1024, .f32⟩
  | .hbm, ⟨7, _⟩ => ⟨S1x1024x1024, .f32⟩
  | .hbm, ⟨8, _⟩ => ⟨S1x1024, .f32⟩
  | .hbm, ⟨9, _⟩ => ⟨S1x1024x5632, .f32⟩
  | .hbm, ⟨10, _⟩ => ⟨S1x3x2816, .f32⟩
  | .hbm, ⟨11, _⟩ => ⟨S1x2816x1024, .f32⟩
  | .hbm, ⟨12, _⟩ => ⟨S1x128x2x2816, .f32⟩
  | .hbm, ⟨13, _⟩ => ⟨S128x1x512, .f32⟩
  | .hbm, ⟨14, _⟩ => ⟨S512x1024, .f32⟩
  | .hbm, ⟨15, _⟩ => ⟨S128x1x1024, .f32⟩
  | .hbm, ⟨16, _⟩ => ⟨S128x1x512, .bf16⟩
  | .hbm, ⟨17, _⟩ => ⟨S128x1x512, .f32⟩
  | .hbm, ⟨18, _⟩ => ⟨S512x1024, .f32⟩
  | .hbm, ⟨19, _⟩ => ⟨S128x1x1024, .f32⟩
  | .hbm, ⟨20, _⟩ => ⟨S128x1x1024, .bf16⟩
  | .hbm, ⟨21, _⟩ => ⟨S128x1x1024, .f32⟩
  | .hbm, ⟨22, _⟩ => ⟨S128x1x1024, .f32⟩
  | .hbm, ⟨23, _⟩ => ⟨S128x1x1024, .f32⟩
  | .hbm, ⟨24, _⟩ => ⟨S_, .f32⟩
  | .hbm, ⟨25, _⟩ => ⟨S128x1x1024, .f32⟩
  | .hbm, ⟨26, _⟩ => ⟨S128x1x1024, .f32⟩
  | .hbm, ⟨27, _⟩ => ⟨S_, .f32⟩
  | .hbm, ⟨28, _⟩ => ⟨S128x1x1024, .f32⟩
  | .hbm, ⟨29, _⟩ => ⟨S128x1x1024, .f32⟩
  | .hbm, ⟨30, _⟩ => ⟨S128x1x1024, .f32⟩
  | .hbm, ⟨31, _⟩ => ⟨S128x1x1024, .bf16⟩
  | .hbm, ⟨32, _⟩ => ⟨S128x1x1024, .f32⟩
  | .hbm, ⟨33, _⟩ => ⟨S128x1x1024, .f32⟩
  | .hbm, ⟨34, _⟩ => ⟨S128x1x1024, .f32⟩
  | .hbm, ⟨35, _⟩ => ⟨S_, .f32⟩
  | .hbm, ⟨36, _⟩ => ⟨S128x1x1024, .f32⟩
  | .hbm, ⟨37, _⟩ => ⟨S128x1x1024, .f32⟩
  | .hbm, ⟨38, _⟩ => ⟨S_, .f32⟩
  | .hbm, ⟨39, _⟩ => ⟨S128x1x1024, .f32⟩
  | .hbm, ⟨40, _⟩ => ⟨S128x1x1024, .f32⟩
  | .hbm, ⟨41, _⟩ => ⟨S128x1x1024, .f32⟩
  | .hbm, ⟨42, _⟩ => ⟨S128x1x1024, .f32⟩
  | .hbm, ⟨43, _⟩ => ⟨S1024x1024, .f32⟩
  | .hbm, ⟨44, _⟩ => ⟨S128x1x1024, .f32⟩
  | .hbm, ⟨45, _⟩ => ⟨S128x1x1024, .f32⟩
  | .hbm, ⟨46, _⟩ => ⟨S1024, .f32⟩
  | .hbm, ⟨47, _⟩ => ⟨S128x1x1024, .f32⟩
  | .hbm, ⟨48, _⟩ => ⟨S_, .f32⟩
  | .hbm, ⟨49, _⟩ => ⟨S128x1, .f32⟩
  | .hbm, ⟨50, _⟩ => ⟨S128x1x1, .f32⟩
  | .hbm, ⟨51, _⟩ => ⟨S_, .f32⟩
  | .hbm, ⟨52, _⟩ => ⟨S128x1x1, .f32⟩
  | .hbm, ⟨53, _⟩ => ⟨S128x1x1, .f32⟩
  | .hbm, ⟨54, _⟩ => ⟨S_, .f32⟩
  | .hbm, ⟨55, _⟩ => ⟨S128x1x1, .f32⟩
  | .hbm, ⟨56, _⟩ => ⟨S128x1x1, .f32⟩
  | .hbm, ⟨57, _⟩ => ⟨S128x1x1, .f32⟩
  | .hbm, ⟨58, _⟩ => ⟨S128x1x1024, .f32⟩
  | .hbm, ⟨59, _⟩ => ⟨S128x1x1024, .f32⟩
  | .hbm, ⟨60, _⟩ => ⟨S1x1x1024, .f32⟩
  | .hbm, ⟨61, _⟩ => ⟨S128x1x1024, .f32⟩
  | .hbm, ⟨62, _⟩ => ⟨S128x1x1024, .f32⟩
  | .hbm, ⟨63, _⟩ => ⟨S1024x5632, .f32⟩
  | .hbm, ⟨64, _⟩ => ⟨S128x1x5632, .f32⟩
  | .hbm, ⟨65, _⟩ => ⟨S128x1x2816, .f32⟩
  | .hbm, ⟨66, _⟩ => ⟨S128x1x2816, .f32⟩
  | .hbm, ⟨67, _⟩ => ⟨S128x2x2816, .f32⟩
  | .hbm, ⟨68, _⟩ => ⟨S3x2816, .f32⟩
  | .hbm, ⟨69, _⟩ => ⟨S128x3x2816, .f32⟩
  | .hbm, ⟨70, _⟩ => ⟨S128x1x2816, .f32⟩
  | .hbm, ⟨71, _⟩ => ⟨S1x2816, .f32⟩
  | .hbm, ⟨72, _⟩ => ⟨S2816, .f32⟩
  | .hbm, ⟨73, _⟩ => ⟨S1x1x2816, .f32⟩
  | .hbm, ⟨74, _⟩ => ⟨S128x1x2816, .f32⟩
  | .hbm, ⟨75, _⟩ => ⟨S128x1x2816, .f32⟩
  | .hbm, ⟨76, _⟩ => ⟨S128x1x2816, .f32⟩
  | .hbm, ⟨77, _⟩ => ⟨S1x2816, .f32⟩
  | .hbm, ⟨78, _⟩ => ⟨S2816, .f32⟩
  | .hbm, ⟨79, _⟩ => ⟨S1x1x2816, .f32⟩
  | .hbm, ⟨80, _⟩ => ⟨S128x1x2816, .f32⟩
  | .hbm, ⟨81, _⟩ => ⟨S128x1x2816, .f32⟩
  | .hbm, ⟨82, _⟩ => ⟨S128x1x2816, .f32⟩
  | .hbm, ⟨83, _⟩ => ⟨S128x1x2816, .f32⟩
  | .hbm, ⟨84, _⟩ => ⟨S1x2816, .f32⟩
  | .hbm, ⟨85, _⟩ => ⟨S2816, .f32⟩
  | .hbm, ⟨86, _⟩ => ⟨S1x1x2816, .f32⟩
  | .hbm, ⟨87, _⟩ => ⟨S128x1x2816, .f32⟩
  | .hbm, ⟨88, _⟩ => ⟨S128x1x2816, .f32⟩
  | .hbm, ⟨89, _⟩ => ⟨S128x1x2816, .f32⟩
  | .hbm, ⟨90, _⟩ => ⟨S128x2x2816, .f32⟩
  | .hbm, ⟨91, _⟩ => ⟨S128x1x2816, .f32⟩
  | .hbm, ⟨92, _⟩ => ⟨S128x1x2816, .f32⟩
  | .hbm, ⟨93, _⟩ => ⟨S_, .f32⟩
  | .hbm, ⟨94, _⟩ => ⟨S128x1x2816, .f32⟩
  | .hbm, ⟨95, _⟩ => ⟨S128x1x2816, .f32⟩
  | .hbm, ⟨96, _⟩ => ⟨S_, .f32⟩
  | .hbm, ⟨97, _⟩ => ⟨S128x1x2816, .f32⟩
  | .hbm, ⟨98, _⟩ => ⟨S128x1x2816, .f32⟩
  | .hbm, ⟨99, _⟩ => ⟨S128x1x2816, .f32⟩
  | .hbm, ⟨100, _⟩ => ⟨S128x1x2816, .f32⟩
  | .hbm, ⟨101, _⟩ => ⟨S2816x1024, .f32⟩
  | .hbm, ⟨102, _⟩ => ⟨S128x1x1024, .f32⟩
  | .hbm, ⟨103, _⟩ => ⟨S128x1x1024, .f32⟩
  | .hbm, ⟨104, _⟩ => ⟨S128x1024, .f32⟩
  | .hbm, ⟨105, _⟩ => ⟨S128x1x2816, .f32⟩
  | .hbm, ⟨106, _⟩ => ⟨S128x2816, .f32⟩
  | _, _ => ⟨S128x1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst : Ref sig .tc := ⟨.hbm, 24, rfl⟩
abbrev main_v11 : Ref sig .tc := ⟨.hbm, 25, rfl⟩
abbrev main_v12 : Ref sig .tc := ⟨.hbm, 26, rfl⟩
abbrev main_cst_0 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_cst_1 : Ref sig .tc := ⟨.hbm, 35, rfl⟩
abbrev main_v20 : Ref sig .tc := ⟨.hbm, 36, rfl⟩
abbrev main_v21 : Ref sig .tc := ⟨.hbm, 37, rfl⟩
abbrev main_cst_2 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_cst_3 : Ref sig .tc := ⟨.hbm, 48, rfl⟩
abbrev main_v31 : Ref sig .tc := ⟨.hbm, 49, rfl⟩
abbrev main_v32 : Ref sig .tc := ⟨.hbm, 50, rfl⟩
abbrev main_cst_4 : Ref sig .tc := ⟨.hbm, 51, rfl⟩
abbrev main_v33 : Ref sig .tc := ⟨.hbm, 52, rfl⟩
abbrev main_v34 : Ref sig .tc := ⟨.hbm, 53, rfl⟩
abbrev main_cst_5 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_call0_v0 : Ref sig .tc := ⟨.hbm, 91, rfl⟩
abbrev main_call0_v1 : Ref sig .tc := ⟨.hbm, 92, rfl⟩
abbrev main_call0_cst : Ref sig .tc := ⟨.hbm, 93, rfl⟩
abbrev main_call0_v2 : Ref sig .tc := ⟨.hbm, 94, rfl⟩
abbrev main_call0_v3 : Ref sig .tc := ⟨.hbm, 95, rfl⟩
abbrev main_call0_cst_0 : Ref sig .tc := ⟨.hbm, 96, rfl⟩
abbrev main_call0_v4 : Ref sig .tc := ⟨.hbm, 97, rfl⟩
abbrev main_call0_v5 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩

abbrev nD : Nat := 1
abbrev τ : Topo := Topo.v7x

variable {F : FTy → Type} [FloatOps F]
-- ==== Proof.Rows.lean ====
/- The row functions that the calls and their reference share: a root-mean-square normalised row times a weight
   column, and the same normalisation inside one head of 64 lanes, as functions of numbers alone. -/
module

public import Idealize.ShloMosaic.Lib.Pointwise

@[expose] public section

set_option maxRecDepth 16384

noncomputable section

open Idealize.ShloMosaic
open scoped BigOperators

namespace Cert.Rows

/-- The normalised row `x` scaled by `w`, at lane `k`. -/
def rms (x w : Fin 1024 → EReal) (k : Fin 1024) : EReal :=
  x k * Ideal.rsqrt (Ideal.div (∑ j, x j * x j) (Ideal.ofBits .f32 0x44800000#32) + Ideal.ofBits .f32 0x358637BD#32) * w k

/-- The normalised row against one column of a weight matrix. -/
def pr (x w M : Fin 1024 → EReal) : EReal := ∑ k, rms x w k * M k

/-- Lane `d` of the head that lane `c` belongs to. -/
def lane (c : Fin 512) (d : Fin 64) : Fin 512 := ⟨c.val / 64 * 64 + d.val, by omega⟩

/-- Lane `c` of a row of eight heads, divided by the root mean square of its head. -/
def hd (p : Fin 512 → EReal) (c : Fin 512) : EReal :=
  p c * Ideal.rsqrt (Ideal.div (∑ d, p (lane c d) * p (lane c d)) (Ideal.ofBits .f32 0x42800000#32) + Ideal.ofBits .f32 0x358637BD#32)

theorem ofBits_64 : Ideal.ofBits .f32 0x42800000#32 = ((64 : ℝ) : EReal) := by
  simp [Ideal.ofBits, Ideal.ieee, -EReal.coe_mul]; norm_num

theorem ofBits_inv64 : Ideal.ofBits .f32 0x3C800000#32 = ((1 / 64 : ℝ) : EReal) := by
  simp [Ideal.ofBits, Ideal.ieee, -EReal.coe_mul]; norm_num

theorem ofBits_half : Ideal.ofBits .f32 0x3F000000#32 = ((1 / 2 : ℝ) : EReal) := by
  simp [Ideal.ofBits, Ideal.ieee, -EReal.coe_mul]; norm_num

/-- A sum of numbers at least zero, scaled by one factor. -/
theorem sum_scale {n : ℕ} (f : Fin n → EReal) (h : ∀ k, 0 ≤ f k) (v : EReal) : ∑ k, f k * v = (∑ k, f k) * v := by
  have : ∀ s : Finset (Fin n), ∑ k ∈ s, f k * v = (∑ k ∈ s, f k) * v := by
    intro s
    induction s using Finset.induction_on with
    | empty => simp
    | insert a s ha ih =>
      rw [Finset.sum_insert ha, Finset.sum_insert ha, ih,
        EReal.right_distrib_of_nonneg (h a) (Finset.sum_nonneg fun k _ => h k)]
  exact this Finset.univ

theorem sq_nonneg' (x : EReal) : 0 ≤ x * x := by
  rcases le_total 0 x with h | h
  · exact mul_nonneg h h
  · have := mul_nonneg (EReal.neg_nonneg.2 h) (EReal.neg_nonneg.2 h)
    rwa [neg_mul_neg] at this

/-- The product with the matrix that holds one sixty-fourth inside each head's block of 64 and zero elsewhere is the mean
    over the head. -/
theorem mean_block (f : Fin 256 → EReal) (h : ∀ k, 0 ≤ f k) (b : Fin 256) :
    ∑ k : Fin 256, f k * (if k.val / 64 = b.val / 64 then Ideal.ofBits .f32 0x3C800000#32 else 0)
      = Ideal.div (∑ d : Fin 64, f ⟨b.val / 64 * 64 + d.val, by omega⟩) (Ideal.ofBits .f32 0x42800000#32) := by
  rw [ofBits_64, Ideal.div_coe (by norm_num), ← ofBits_inv64, ← sum_scale _ (fun _ => h _), Fin.sum_univ_tiles 4 64 rfl]
  rw [Finset.sum_eq_single (⟨b.val / 64, by omega⟩ : Fin 4)]
  · refine Finset.sum_congr rfl fun d _ => ?_
    rw [if_pos (by simp only []; omega)]
  · intro j _ hj
    refine Finset.sum_eq_zero fun d _ => ?_
    rw [if_neg, mul_zero]
    simp only []
    intro e
    exact hj (Fin.ext (by simp only []; omega))
  · intro hn; exact absurd (Finset.mem_univ _) hn

/-- The kernel's spelling of the logistic function. -/
theorem half_tanh (x : EReal) :
    Ideal.ofBits .f32 0x3F000000#32 * Ideal.tanh (Ideal.ofBits .f32 0x3F000000#32 * x) + Ideal.ofBits .f32 0x3F000000#32
      = Ideal.logistic x := by
  rw [ofBits_half]
  induction x with
  | bot =>
    rw [EReal.coe_mul_bot_of_pos (by norm_num), Ideal.tanh_bot, Ideal.logistic_bot]
    have : (-1 : EReal) = ((-1 : ℝ) : EReal) := by norm_num
    rw [this, ← EReal.coe_mul, ← EReal.coe_add]; norm_num
  | top =>
    rw [EReal.coe_mul_top_of_pos (by norm_num), Ideal.tanh_top, Ideal.logistic_top]
    have : (1 : EReal) = ((1 : ℝ) : EReal) := by norm_num
    rw [this, ← EReal.coe_mul, ← EReal.coe_add]; norm_num
  | coe r =>
    rw [← EReal.coe_mul, Ideal.tanh_coe, ← EReal.coe_mul, ← EReal.coe_add, Ideal.logistic_coe, EReal.coe_eq_coe_iff,
      Real.tanh_eq_sinh_div_cosh, Real.sinh_eq, Real.cosh_eq]
    have e1 : Real.exp (-r) = Real.exp (-(1 / 2 * r)) * Real.exp (-(1 / 2 * r)) := by
      rw [← Real.exp_add]; ring_nf
    have e2 : Real.exp (1 / 2 * r) * Real.exp (-(1 / 2 * r)) = 1 := by
      rw [← Real.exp_add]; simp
    rw [e1]
    have p1 := Real.exp_pos (1 / 2 * r)
    have p2 := Real.exp_pos (-(1 / 2 * r))
    generalize Real.exp (1 / 2 * r) = a at p1 e2 ⊢
    generalize Real.exp (-(1 / 2 * r)) = b at p2 e2 ⊢
    have l : 1 / 2 * ((a - b) / 2 / ((a + b) / 2)) + 1 / 2 = a / (a + b) := by field_simp; ring
    rw [l, inv_eq_one_div, div_eq_div_iff (by positivity) (by positivity)]
    linear_combination b * e2

end Cert.Rows

end

end
-- ==== Proof.InProjAt.lean ====
/- What the prompt reference's results are at one index, as functions of numbers. -/
module

public import proofs.«01_k».proof.Proof.Rows
public import proofs.«01_k».proof.Proof.Gen.InProjRefIdeal.Run

@[expose] public section

set_option maxRecDepth 16384

noncomputable section

open Idealize.ShloMosaic Idealize.ShloMosaic.TcCoe Idealize.SL.Sem
open scoped BigOperators

namespace Cert.InProjRefIdeal.At

open Cert.InProjRefIdeal Cert.InProjRefIdeal.Gen Cert.Rows

/-- The normalised rows. -/
def XN (a0 : FVec Ideal S8x2048x1024 .f32) (a1 : FVec Ideal S1x1024 .f32) : FVec Ideal S8x2048x1024 .f32 :=
  mulf (mulf a0 (broadcastInDim S8x2048x1024 ![0, 1, 2] bcast_S8x2048x1_S8x2048x1024_0_1_2 (Host.rsqrt (addf (Host.divf (broadcastInDim S8x2048x1 ![0, 1] bcast_S8x2048_S8x2048x1_0_1 (Host.reduceAdd (mulf a0 a0) (constant S_ .f32 0x00000000#32) reducesTo_S8x2048x1024_S8x2048_d2 h_S_)) (broadcastInDim S8x2048x1 ![] bcast_S_S8x2048x1 (constant S_ .f32 0x44800000#32))) (broadcastInDim S8x2048x1 ![] bcast_S_S8x2048x1 (constant S_ .f32 0x358637BD#32)))))) (broadcastInDim S8x2048x1024 ![0, 1, 2] bcast_S1x1x1024_S8x2048x1024_0_1_2 (broadcastInDim S1x1x1024 ![2] bcast_S1024_S1x1x1024_2 (shapeCast _ a1 shapeCasts_S1x1024_S1024)))

/-- The rows against the whole weight matrix. -/
def PJ (a0 : FVec Ideal S8x2048x1024 .f32) (a1 : FVec Ideal S1x1024 .f32) (a2 : FVec Ideal S1x1024x5120 .f32) : FVec Ideal S8x2048x5120 .f32 :=
  Host.dotGeneral dot_S8x2048x1024_S1024x5120_S8x2048x5120_2_0_01_1_n_n none (XN a0 a1) (shapeCast _ a2 shapeCasts_S1x1024x5120_S1024x5120)

/-- The keys with their heads apart. -/
def K4 (a0 : FVec Ideal S8x2048x1024 .f32) (a1 : FVec Ideal S1x1024 .f32) (a2 : FVec Ideal S1x1024x5120 .f32) (a4 : FVec Ideal S1x64 .f32) : FVec Ideal S8x2048x8x64 .f32 :=
  mulf (mulf (shapeCast _ (extractStridedSlice S8x2048x512 ![0, 0, 512] (PJ a0 a1 a2) slices_S8x2048x5120_S8x2048x512_0_0_512) shapeCasts_S8x2048x512_S8x2048x8x64) (broadcastInDim S8x2048x8x64 ![0, 1, 2, 3] bcast_S8x2048x8x1_S8x2048x8x64_0_1_2_3 (Host.rsqrt (addf (Host.divf (broadcastInDim S8x2048x8x1 ![0, 1, 2] bcast_S8x2048x8_S8x2048x8x1_0_1_2 (Host.reduceAdd (mulf (shapeCast _ (extractStridedSlice S8x2048x512 ![0, 0, 512] (PJ a0 a1 a2) slices_S8x2048x5120_S8x2048x512_0_0_512) shapeCasts_S8x2048x512_S8x2048x8x64) (shapeCast _ (extractStridedSlice S8x2048x512 ![0, 0, 512] (PJ a0 a1 a2) slices_S8x2048x5120_S8x2048x512_0_0_512) shapeCasts_S8x2048x512_S8x2048x8x64)) (constant S_ .f32 0x00000000#32) reducesTo_S8x2048x8x64_S8x2048x8_d3 h_S_)) (broadcastInDim S8x2048x8x1 ![] bcast_S_S8x2048x8x1 (constant S_ .f32 0x42800000#32))) (broadcastInDim S8x2048x8x1 ![] bcast_S_S8x2048x8x1 (constant S_ .f32 0x358637BD#32)))))) (broadcastInDim S8x2048x8x64 ![0, 1, 2, 3] bcast_S1x1x1x64_S8x2048x8x64_0_1_2_3 (broadcastInDim S1x1x1x64 ![3] bcast_S64_S1x1x1x64_3 (shapeCast _ a4 shapeCasts_S1x64_S64)))

/-- The rows that enter the convolution. -/
def U3 (a0 : FVec Ideal S8x2048x1024 .f32) (a1 : FVec Ideal S1x1024 .f32) (a2 : FVec Ideal S1x1024x5120 .f32) : FVec Ideal S8x2048x512 .f32 :=
  mulf (extractStridedSlice S8x2048x512 ![0, 0, 2048] (PJ a0 a1 a2) slices_S8x2048x5120_S8x2048x512_0_0_2048) (extractStridedSlice S8x2048x512 ![0, 0, 2560] (PJ a0 a1 a2) slices_S8x2048x5120_S8x2048x512_0_0_2560)

/-- Two rows of zeros followed by the rows that enter the convolution. -/
def CC (a0 : FVec Ideal S8x2048x1024 .f32) (a1 : FVec Ideal S1x1024 .f32) (a2 : FVec Ideal S1x1024x5120 .f32) : FVec Ideal S8x2050x512 .f32 :=
  concatenate S8x2050x512 1 [⟨S8x2x512, (broadcastInDim S8x2x512 ![] bcast_S_S8x2x512 (constant S_ .f32 0x00000000#32))⟩, ⟨S8x2048x512, (U3 a0 a1 a2)⟩] concatenates_S8x2x512_S8x2048x512_S8x2050x512_d1

/-- The queries, scaled for a base-two exponential. -/
def Q (a0 : FVec Ideal S8x2048x1024 .f32) (a1 : FVec Ideal S1x1024 .f32) (a2 : FVec Ideal S1x1024x5120 .f32) (a3 : FVec Ideal S1x64 .f32) : FVec Ideal S16384x512 .bf16 :=
  truncf .bf16 (shapeCast _ (mulf (mulf (mulf (mulf (shapeCast _ (extractStridedSlice S8x2048x512 ![0, 0, 0] (PJ a0 a1 a2) slices_S8x2048x5120_S8x2048x512_0_0_0) shapeCasts_S8x2048x512_S8x2048x8x64) (broadcastInDim S8x2048x8x64 ![0, 1, 2, 3] bcast_S8x2048x8x1_S8x2048x8x64_0_1_2_3 (Host.rsqrt (addf (Host.divf (broadcastInDim S8x2048x8x1 ![0, 1, 2] bcast_S8x2048x8_S8x2048x8x1_0_1_2 (Host.reduceAdd (mulf (shapeCast _ (extractStridedSlice S8x2048x512 ![0, 0, 0] (PJ a0 a1 a2) slices_S8x2048x5120_S8x2048x512_0_0_0) shapeCasts_S8x2048x512_S8x2048x8x64) (shapeCast _ (extractStridedSlice S8x2048x512 ![0, 0, 0] (PJ a0 a1 a2) slices_S8x2048x5120_S8x2048x512_0_0_0) shapeCasts_S8x2048x512_S8x2048x8x64)) (constant S_ .f32 0x00000000#32) reducesTo_S8x2048x8x64_S8x2048x8_d3 h_S_)) (broadcastInDim S8x2048x8x1 ![] bcast_S_S8x2048x8x1 (constant S_ .f32 0x42800000#32))) (broadcastInDim S8x2048x8x1 ![] bcast_S_S8x2048x8x1 (constant S_ .f32 0x358637BD#32)))))) (broadcastInDim S8x2048x8x64 ![0, 1, 2, 3] bcast_S1x1x1x64_S8x2048x8x64_0_1_2_3 (broadcastInDim S1x1x1x64 ![3] bcast_S64_S1x1x1x64_3 (shapeCast _ a3 shapeCasts_S1x64_S64)))) (broadcastInDim S8x2048x8x64 ![] bcast_S_S8x2048x8x64 (constant S_ .f32 0x3E000000#32))) (broadcastInDim S8x2048x8x64 ![] bcast_S_S8x2048x8x64 (constant S_ .f32 0x3FB8AA3B#32))) shapeCasts_S8x2048x8x64_S16384x512) bitsLt_bf16_f32

/-- The keys, lanes before time. -/
def KT (a0 : FVec Ideal S8x2048x1024 .f32) (a1 : FVec Ideal S1x1024 .f32) (a2 : FVec Ideal S1x1024x5120 .f32) (a4 : FVec Ideal S1x64 .f32) : FVec Ideal S8x512x2048 .f32 :=
  transpose S8x512x2048 [0, 2, 1] (shapeCast _ (K4 a0 a1 a2 a4) shapeCasts_S8x2048x8x64_S8x2048x512) transposes_S8x2048x512_S8x512x2048_0_2_1

/-- The values, lanes before time. -/
def VT (a0 : FVec Ideal S8x2048x1024 .f32) (a1 : FVec Ideal S1x1024 .f32) (a2 : FVec Ideal S1x1024x5120 .f32) : FVec Ideal S8x512x2048 .f32 :=
  transpose S8x512x2048 [0, 2, 1] (shapeCast _ (shapeCast _ (extractStridedSlice S8x2048x512 ![0, 0, 1024] (PJ a0 a1 a2) slices_S8x2048x5120_S8x2048x512_0_0_1024) shapeCasts_S8x2048x512_S8x2048x8x64) shapeCasts_S8x2048x8x64_S8x2048x512) transposes_S8x2048x512_S8x512x2048_0_2_1

/-- The keys, row by row. -/
def KB (a0 : FVec Ideal S8x2048x1024 .f32) (a1 : FVec Ideal S1x1024 .f32) (a2 : FVec Ideal S1x1024x5120 .f32) (a4 : FVec Ideal S1x64 .f32) : FVec Ideal S16384x512 .bf16 :=
  truncf .bf16 (shapeCast _ (K4 a0 a1 a2 a4) shapeCasts_S8x2048x8x64_S16384x512) bitsLt_bf16_f32

/-- The values of each block of 256 rows, lanes first. -/
def VB (a0 : FVec Ideal S8x2048x1024 .f32) (a1 : FVec Ideal S1x1024 .f32) (a2 : FVec Ideal S1x1024x5120 .f32) : FVec Ideal S8x8x512x256 .bf16 :=
  truncf .bf16 (transpose S8x8x512x256 [0, 1, 3, 2] (shapeCast _ (shapeCast _ (extractStridedSlice S8x2048x512 ![0, 0, 1024] (PJ a0 a1 a2) slices_S8x2048x5120_S8x2048x512_0_0_1024) shapeCasts_S8x2048x512_S8x2048x8x64) shapeCasts_S8x2048x8x64_S8x8x256x512) transposes_S8x8x256x512_S8x8x512x256_0_1_3_2) bitsLt_bf16_f32

/-- The sums of the keys over each block of 256 rows. -/
def KS (a0 : FVec Ideal S8x2048x1024 .f32) (a1 : FVec Ideal S1x1024 .f32) (a2 : FVec Ideal S1x1024x5120 .f32) (a4 : FVec Ideal S1x64 .f32) : FVec Ideal S32x2x512 .f32 :=
  Host.reduceAdd (shapeCast _ (K4 a0 a1 a2 a4) shapeCasts_S8x2048x8x64_S32x2x256x512) (constant S_ .f32 0x00000000#32) reducesTo_S32x2x256x512_S32x2x512_d2 h_S_

/-- The convolved branch. -/
def S (a0 : FVec Ideal S8x2048x1024 .f32) (a1 : FVec Ideal S1x1024 .f32) (a2 : FVec Ideal S1x1024x5120 .f32) (a5 : FVec Ideal S1x3x512 .f32) : FVec Ideal S16384x512 .bf16 :=
  truncf .bf16 (shapeCast _ (mulf (extractStridedSlice S8x2048x512 ![0, 0, 1536] (PJ a0 a1 a2) slices_S8x2048x5120_S8x2048x512_0_0_1536) (addf (addf (mulf (extractStridedSlice S8x2048x512 ![0, 0, 0] (CC a0 a1 a2) slices_S8x2050x512_S8x2048x512_0_0_0) (broadcastInDim S8x2048x512 ![0, 1, 2] bcast_S1x1x512_S8x2048x512_0_1_2 (broadcastInDim S1x1x512 ![2] bcast_S512_S1x1x512_2 (shapeCast _ (extractStridedSlice S1x512 ![0, 0] (shapeCast _ a5 shapeCasts_S1x3x512_S3x512) slices_S3x512_S1x512_0_0) shapeCasts_S1x512_S512)))) (mulf (extractStridedSlice S8x2048x512 ![0, 1, 0] (CC a0 a1 a2) slices_S8x2050x512_S8x2048x512_0_1_0) (broadcastInDim S8x2048x512 ![0, 1, 2] bcast_S1x1x512_S8x2048x512_0_1_2 (broadcastInDim S1x1x512 ![2] bcast_S512_S1x1x512_2 (shapeCast _ (extractStridedSlice S1x512 ![1, 0] (shapeCast _ a5 shapeCasts_S1x3x512_S3x512) slices_S3x512_S1x512_1_0) shapeCasts_S1x512_S512))))) (mulf (extractStridedSlice S8x2048x512 ![0, 2, 0] (CC a0 a1 a2) slices_S8x2050x512_S8x2048x512_0_2_0) (broadcastInDim S8x2048x512 ![0, 1, 2] bcast_S1x1x512_S8x2048x512_0_1_2 (broadcastInDim S1x1x512 ![2] bcast_S512_S1x1x512_2 (shapeCast _ (extractStridedSlice S1x512 ![2, 0] (shapeCast _ a5 shapeCasts_S1x3x512_S3x512) slices_S3x512_S1x512_2_0) shapeCasts_S1x512_S512)))))) shapeCasts_S8x2048x512_S16384x512) bitsLt_bf16_f32

/-- The first gate. -/
def GA (a0 : FVec Ideal S8x2048x1024 .f32) (a1 : FVec Ideal S1x1024 .f32) (a2 : FVec Ideal S1x1024x5120 .f32) : FVec Ideal S16384x1024 .bf16 :=
  truncf .bf16 (shapeCast _ (extractStridedSlice S8x2048x1024 ![0, 0, 3072] (PJ a0 a1 a2) slices_S8x2048x5120_S8x2048x1024_0_0_3072) shapeCasts_S8x2048x1024_S16384x1024) bitsLt_bf16_f32

/-- The second gate. -/
def GB (a0 : FVec Ideal S8x2048x1024 .f32) (a1 : FVec Ideal S1x1024 .f32) (a2 : FVec Ideal S1x1024x5120 .f32) : FVec Ideal S16384x1024 .bf16 :=
  truncf .bf16 (shapeCast _ (extractStridedSlice S8x2048x1024 ![0, 0, 4096] (PJ a0 a1 a2) slices_S8x2048x5120_S8x2048x1024_0_0_4096) shapeCasts_S8x2048x1024_S16384x1024) bitsLt_bf16_f32

/-- The last two rows that entered the convolution. -/
def CS (a0 : FVec Ideal S8x2048x1024 .f32) (a1 : FVec Ideal S1x1024 .f32) (a2 : FVec Ideal S1x1024x5120 .f32) : FVec Ideal S8x2x512 .f32 :=
  extractStridedSlice S8x2x512 ![0, 2048, 0] (CC a0 a1 a2) slices_S8x2050x512_S8x2x512_0_2048_0

variable (a0 : FVec Ideal S8x2048x1024 .f32) (a1 : FVec Ideal S1x1024 .f32) (a2 : FVec Ideal S1x1024x5120 .f32)
variable (a3 a4 : FVec Ideal S1x64 .f32) (a5 : FVec Ideal S1x3x512 .f32)

/-- Row `s` of sequence `b` against column `c`. -/
def p (b : Fin 8) (s : Fin 2048) (c : Fin 5120) : EReal :=
  pr (fun k => a0 (ix3 b s k)) (fun k => a1 (ix2 0 k)) (fun k => a2 (ix3 0 k c))

/-- A query lane. -/
def q (b : Fin 8) (s : Fin 2048) (c : Fin 512) : EReal :=
  hd (fun j => p a0 a1 a2 b s ⟨0 + j.val, by omega⟩) c * a3 (ix2 0 ⟨c.val % 64, by omega⟩) * Ideal.ofBits .f32 0x3E000000#32
    * Ideal.ofBits .f32 0x3FB8AA3B#32

/-- A key lane. -/
def k (b : Fin 8) (s : Fin 2048) (c : Fin 512) : EReal :=
  hd (fun j => p a0 a1 a2 b s ⟨512 + j.val, by omega⟩) c * a4 (ix2 0 ⟨c.val % 64, by omega⟩)

/-- A value lane. -/
def v (b : Fin 8) (s : Fin 2048) (c : Fin 512) : EReal := p a0 a1 a2 b s ⟨1024 + c.val, by omega⟩

/-- A lane that enters the convolution. -/
def u (b : Fin 8) (s : Fin 2048) (c : Fin 512) : EReal :=
  p a0 a1 a2 b s ⟨2048 + c.val, by omega⟩ * p a0 a1 a2 b s ⟨2560 + c.val, by omega⟩

/-- The same with two rows of zeros before it. -/
def z (b : Fin 8) (i : Fin 2050) (c : Fin 512) : EReal :=
  if h : i.val < 2 then Ideal.ofBits .f32 0x00000000#32 else u a0 a1 a2 b ⟨i.val - 2, by omega⟩ c

/-- The convolved branch. -/
def sv (b : Fin 8) (s : Fin 2048) (c : Fin 512) : EReal :=
  p a0 a1 a2 b s ⟨1536 + c.val, by omega⟩
    * (z a0 a1 a2 b ⟨s.val, by omega⟩ c * a5 (ix3 0 0 c) + z a0 a1 a2 b ⟨1 + s.val, by omega⟩ c * a5 (ix3 0 1 c)
      + u a0 a1 a2 b s c * a5 (ix3 0 2 c))

theorem PJ_at (b : Fin 8) (s : Fin 2048) (c : Fin 5120) : PJ a0 a1 a2 (ix3 b s c) = p a0 a1 a2 b s c := by
  pointwise [PJ, XN, p, pr, rms]

theorem K4_at (b : Fin 8) (s : Fin 2048) (c : Fin 512) :
    K4 a0 a1 a2 a4 (ix4 b s ⟨c.val / 64, by omega⟩ ⟨c.val % 64, by omega⟩) = k a0 a1 a2 a4 b s c := by
  pointwise [K4, k, hd, lane, ← PJ_at]

theorem U3_at (b : Fin 8) (s : Fin 2048) (c : Fin 512) : U3 a0 a1 a2 (ix3 b s c) = u a0 a1 a2 b s c := by
  pointwise [U3, u, ← PJ_at]

theorem CC_at (b : Fin 8) (i : Fin 2050) (c : Fin 512) : CC a0 a1 a2 (ix3 b i c) = z a0 a1 a2 b i c := by
  pointwise [CC, z, ← U3_at]

theorem Q_at (r : Fin 16384) (c : Fin 512) : Q a0 a1 a2 a3 (ix2 r c)
    = q a0 a1 a2 a3 ⟨r.val / 2048, by omega⟩ ⟨r.val % 2048, by omega⟩ c := by
  pointwise [Q, q, hd, lane, ← PJ_at]

theorem KT_at (b : Fin 8) (c : Fin 512) (s : Fin 2048) : KT a0 a1 a2 a4 (ix3 b c s) = k a0 a1 a2 a4 b s c := by
  pointwise [KT, ← K4_at]

theorem VT_at (b : Fin 8) (c : Fin 512) (s : Fin 2048) : VT a0 a1 a2 (ix3 b c s) = v a0 a1 a2 b s c := by
  pointwise [VT, v, ← PJ_at]

theorem KB_at (r : Fin 16384) (c : Fin 512) : KB a0 a1 a2 a4 (ix2 r c)
    = k a0 a1 a2 a4 ⟨r.val / 2048, by omega⟩ ⟨r.val % 2048, by omega⟩ c := by
  pointwise [KB, ← K4_at]

theorem VB_at (b g : Fin 8) (c : Fin 512) (j : Fin 256) : VB a0 a1 a2 (ix4 b g c j)
    = v a0 a1 a2 b ⟨g.val * 256 + j.val, by omega⟩ c := by
  pointwise [VB, v, ← PJ_at]

theorem KS_at (t : Fin 32) (h : Fin 2) (c : Fin 512) : KS a0 a1 a2 a4 (ix3 t h c)
    = ∑ j : Fin 256, k a0 a1 a2 a4 ⟨t.val / 4, by omega⟩ ⟨t.val % 4 * 512 + h.val * 256 + j.val, by omega⟩ c := by
  pointwise [KS, ← K4_at]

theorem S_at (r : Fin 16384) (c : Fin 512) : S a0 a1 a2 a5 (ix2 r c)
    = sv a0 a1 a2 a5 ⟨r.val / 2048, by omega⟩ ⟨r.val % 2048, by omega⟩ c := by
  pointwise [S, sv, ← PJ_at, ← CC_at]
  pointwise [CC, z, ← U3_at]

theorem GA_at (r : Fin 16384) (c : Fin 1024) : GA a0 a1 a2 (ix2 r c)
    = p a0 a1 a2 ⟨r.val / 2048, by omega⟩ ⟨r.val % 2048, by omega⟩ ⟨3072 + c.val, by omega⟩ := by
  pointwise [GA, ← PJ_at]

theorem GB_at (r : Fin 16384) (c : Fin 1024) : GB a0 a1 a2 (ix2 r c)
    = p a0 a1 a2 ⟨r.val / 2048, by omega⟩ ⟨r.val % 2048, by omega⟩ ⟨4096 + c.val, by omega⟩ := by
  pointwise [GB, ← PJ_at]

theorem CS_at (b : Fin 8) (i : Fin 2) (c : Fin 512) : CS a0 a1 a2 (ix3 b i c)
    = u a0 a1 a2 b ⟨2046 + i.val, by omega⟩ c := by
  pointwise [CS, CC, ← U3_at]
  rw [dif_neg (by omega)]
  exact congrArg (fun i => U3 a0 a1 a2 (ix3 b i c)) (Fin.ext (by simp only; omega))

end Cert.InProjRefIdeal.At

end

end
-- ==== Proof.InProj.lean ====
/- The prompt call of the in-projection: what its results hold after the run, index by index, is what the reference's
   results hold. -/
module

public import proofs.«01_k».proof.Proof.InProjAt
public import proofs.«01_k».proof.Proof.Gen.InProjIdeal.Frame
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)
open scoped BigOperators

namespace Cert.InProjIdeal.Pure

open Cert.InProjIdeal Cert.InProjIdeal.Gen Cert.Rows

/-- The row that normalises to the payloads' common operand. -/
theorem xn_at (x : FVec Ideal S512x1024 .f32) (n : FVec Ideal S1x1024 .f32) (r : Fin 512) (k : Fin 1024) :
    k0_pay4 (F := Ideal) x n (ix2 r k) = rms (fun k => x (ix2 r k)) (fun k => n (ix2 0 k)) k := by
  pointwise [k0_pay4, rms]

/-- The block matrix holds one sixty-fourth where its two lanes belong to one head. -/
def Blocks (bd : FVec Ideal S256x256 .bf16) : Prop :=
  ∀ a b : Fin 256, bd (ix2 a b) = if a.val / 64 = b.val / 64 then Ideal.ofBits .f32 0x3C800000#32 else 0

/-- Two products with the block matrix, side by side, are the means over the heads. -/
theorem mean_at (f : Fin 512 → EReal) (bd : FVec Ideal S256x256 .bf16) (hb : Blocks bd) (c : Fin 512) :
    (if h : c.val < 256 then ∑ k : Fin 256, (f ⟨k.val, by omega⟩ * f ⟨k.val, by omega⟩) * bd (ix2 k ⟨c.val, h⟩)
      else ∑ k : Fin 256, (f ⟨256 + k.val, by omega⟩ * f ⟨256 + k.val, by omega⟩) * bd (ix2 k ⟨c.val - 256, by omega⟩))
      = Ideal.div (∑ d, f (lane c d) * f (lane c d)) (Ideal.ofBits .f32 0x42800000#32) := by
  unfold Blocks at hb
  split
  · rename_i h
    simp only [hb]
    rw [mean_block (fun k => f ⟨k.val, by omega⟩ * f ⟨k.val, by omega⟩) (fun _ => sq_nonneg' _) ⟨c.val, h⟩]
    rfl
  · rename_i h
    simp only [hb]
    rw [mean_block (fun k => f ⟨256 + k.val, by omega⟩ * f ⟨256 + k.val, by omega⟩) (fun _ => sq_nonneg' _) ⟨c.val - 256, by omega⟩]
    congr 1
    refine Finset.sum_congr rfl fun d _ => ?_
    have e : (⟨256 + ((c.val - 256) / 64 * 64 + d.val), by omega⟩ : Fin 512) = lane c d := Fin.ext (by simp only [lane]; omega)
    simp only [e]

/-- The normalisation inside a head, its mean taken by the block matrix. -/
theorem hd_blocks (f : Fin 512 → EReal) (bd : FVec Ideal S256x256 .bf16) (hb : Blocks bd) (c : Fin 512) :
    hd f c = f c * Ideal.rsqrt
      ((if h : c.val < 256 then ∑ k : Fin 256, (f ⟨k.val, by omega⟩ * f ⟨k.val, by omega⟩) * bd (ix2 k ⟨c.val, h⟩)
      else ∑ k : Fin 256, (f ⟨256 + k.val, by omega⟩ * f ⟨256 + k.val, by omega⟩) * bd (ix2 k ⟨c.val - 256, by omega⟩))
        + Ideal.ofBits .f32 0x358637BD#32) := by
  unfold hd
  rw [mean_at f bd hb c]

theorem q_pay (x : FVec Ideal S512x1024 .f32) (n : FVec Ideal S1x1024 .f32) (w : FVec Ideal S1024x512 .bf16)
    (qn : FVec Ideal S1x512 .f32) (bd : FVec Ideal S256x256 .bf16) (hb : Blocks bd) (r : Fin 512) (c : Fin 512) :
    k0_pay15 (F := Ideal) (k0_pay5 x n w qn bd) (ix2 r c)
      = hd (fun j => pr (fun k => x (ix2 r k)) (fun k => n (ix2 0 k)) (fun k => w (ix2 k j))) c * qn (ix2 0 c)
          * Ideal.ofBits .f32 0x3E000000#32 * Ideal.ofBits .f32 0x3FB8AA3B#32 := by
  pointwise [k0_pay15, k0_pay5]
  simp only [xn_at]
  rw [hd_blocks _ bd hb c]
  rfl

theorem k_pay (x : FVec Ideal S512x1024 .f32) (n : FVec Ideal S1x1024 .f32) (w : FVec Ideal S1024x512 .bf16)
    (kn : FVec Ideal S1x512 .f32) (bd : FVec Ideal S256x256 .bf16) (hb : Blocks bd) (r : Fin 512) (c : Fin 512) :
    k0_pay6 (F := Ideal) (k0_pay4 x n) w kn bd (ix2 r c)
      = hd (fun j => pr (fun k => x (ix2 r k)) (fun k => n (ix2 0 k)) (fun k => w (ix2 k j))) c * kn (ix2 0 c) := by
  pointwise [k0_pay6]
  simp only [xn_at]
  rw [hd_blocks _ bd hb c]
  rfl

theorem v_pay (x : FVec Ideal S512x1024 .f32) (n : FVec Ideal S1x1024 .f32) (w : FVec Ideal S1024x512 .bf16) (r : Fin 512)
    (c : Fin 512) :
    k0_pay7 (F := Ideal) (k0_pay4 x n) w (ix2 r c) = pr (fun k => x (ix2 r k)) (fun k => n (ix2 0 k)) (fun k => w (ix2 k c)) := by
  pointwise [k0_pay7, k0_pay4, pr, rms]

theorem c_pay (x : FVec Ideal S512x1024 .f32) (n : FVec Ideal S1x1024 .f32) (w : FVec Ideal S1024x512 .bf16) (r : Fin 512)
    (c : Fin 512) :
    k0_pay8 (F := Ideal) (k0_pay4 x n) w (ix2 r c) = pr (fun k => x (ix2 r k)) (fun k => n (ix2 0 k)) (fun k => w (ix2 k c)) := by
  pointwise [k0_pay8, k0_pay4, pr, rms]

theorem ga_pay (x : FVec Ideal S512x1024 .f32) (n : FVec Ideal S1x1024 .f32) (w : FVec Ideal S1024x1024 .bf16) (r : Fin 512)
    (c : Fin 1024) :
    k0_pay10 (F := Ideal) (k0_pay4 x n) w (ix2 r c) = pr (fun k => x (ix2 r k)) (fun k => n (ix2 0 k)) (fun k => w (ix2 k c)) := by
  pointwise [k0_pay10, k0_pay4, pr, rms]

theorem gb_pay (x : FVec Ideal S512x1024 .f32) (n : FVec Ideal S1x1024 .f32) (w : FVec Ideal S1024x1024 .bf16) (r : Fin 512)
    (c : Fin 1024) :
    k0_pay11 (F := Ideal) (k0_pay4 x n) w (ix2 r c) = pr (fun k => x (ix2 r k)) (fun k => n (ix2 0 k)) (fun k => w (ix2 k c)) := by
  pointwise [k0_pay11, k0_pay4, pr, rms]

theorem u_pay (x : FVec Ideal S512x1024 .f32) (n : FVec Ideal S1x1024 .f32) (w w' : FVec Ideal S1024x512 .bf16) (r : Fin 512)
    (c : Fin 512) :
    k0_pay9 (F := Ideal) (k0_pay4 x n) w w' (ix2 r c)
      = pr (fun k => x (ix2 r k)) (fun k => n (ix2 0 k)) (fun k => w (ix2 k c))
        * pr (fun k => x (ix2 r k)) (fun k => n (ix2 0 k)) (fun k => w' (ix2 k c)) := by
  pointwise [k0_pay9, k0_pay4, pr, rms]

theorem s_pay (g u : FVec Ideal S512x512 .f32) (f0 f1 f2 : FVec Ideal S1x512 .f32) (cr : FVec Ideal S8x512 .f32) (r : Fin 512)
    (c : Fin 512) :
    k0_pay3 (F := Ideal) g u (k0_pay12 f0) (k0_pay13 f1) (k0_pay14 f2) cr (ix2 r c)
      = g (ix2 r c) *
        ((if h : 6 + r.val < 8 then cr (ix2 ⟨6 + r.val, h⟩ c) else u (ix2 ⟨6 + r.val - 8, by omega⟩ c)) * f0 (ix2 0 c)
          + (if h : 7 + r.val < 8 then cr (ix2 ⟨7 + r.val, h⟩ c) else u (ix2 ⟨7 + r.val - 8, by omega⟩ c)) * f1 (ix2 0 c)
          + u (ix2 r c) * f2 (ix2 0 c)) := by
  pointwise [k0_pay3, k0_pay12, k0_pay13, k0_pay14]

theorem last8 (u : FVec Ideal S512x512 .f32) (i : Fin 8) (c : Fin 512) :
    k0_pay1 (F := Ideal) u (ix2 i c) = u (ix2 ⟨504 + i.val, by omega⟩ c) := by
  pointwise [k0_pay1]

theorem last2 (u : FVec Ideal S512x512 .f32) (i : Fin 2) (c : Fin 512) :
    k0_pay2 (F := Ideal) u (ix3 0 i c) = u (ix2 ⟨510 + i.val, by omega⟩ c) := by
  pointwise [k0_pay2]

theorem zeros (i : Fin 8) (c : Fin 512) : k0_pay25 (F := Ideal) (ix2 i c) = 0 := by
  pointwise [k0_pay25]

theorem kb_pay (k : FVec Ideal S512x512 .f32) (r c : Fin 512) : k0_pay16 (F := Ideal) k (ix2 r c) = k (ix2 r c) := by
  pointwise [k0_pay16]

theorem kt_pay (k : FVec Ideal S512x512 .f32) (r c : Fin 512) : k0_pay17 (F := Ideal) k (ix3 0 c r) = k (ix2 r c) := by
  pointwise [k0_pay17]

theorem vt_pay (k : FVec Ideal S512x512 .f32) (r c : Fin 512) : k0_pay19 (F := Ideal) k (ix3 0 c r) = k (ix2 r c) := by
  pointwise [k0_pay19, k0_pay18]

theorem vb0_pay (k : FVec Ideal S512x512 .f32) (c : Fin 512) (j : Fin 256) :
    k0_pay21 (F := Ideal) (k0_pay20 k) (ix4 0 0 c j) = k (ix2 ⟨0 + j.val, by omega⟩ c) := by
  pointwise [k0_pay21, k0_pay20, k0_pay18]

theorem vb1_pay (k : FVec Ideal S512x512 .f32) (c : Fin 512) (j : Fin 256) :
    k0_pay23 (F := Ideal) (k0_pay18 k) (ix4 0 0 c j) = k (ix2 ⟨256 + j.val, by omega⟩ c) := by
  pointwise [k0_pay23, k0_pay18]

theorem ks0_pay (k : FVec Ideal S512x512 .f32) (c : Fin 512) :
    k0_pay22 (F := Ideal) k (ix3 0 0 c) = ∑ j : Fin 256, k (ix2 ⟨0 + j.val, by omega⟩ c) := by
  pointwise [k0_pay22]

theorem ks1_pay (k : FVec Ideal S512x512 .f32) (c : Fin 512) :
    k0_pay24 (F := Ideal) k (ix3 0 0 c) = ∑ j : Fin 256, k (ix2 ⟨256 + j.val, by omega⟩ c) := by
  pointwise [k0_pay24]

/-- The weight matrix's slab of one layer. -/
theorem wcast (a : FVec Ideal S1x1024x5120 .f32) (k : Fin 1024) (j : Fin 5120) :
    (truncf .bf16 (shapeCast S1024x5120 a shapeCasts_S1x1024x5120_S1024x5120) bitsLt_bf16_f32 : FVec Ideal S1024x5120 .bf16) (ix2 k j)
      = a (ix3 0 k j) := by
  pointwise []

open Cert.InProjRefIdeal (At.p At.q At.k At.v At.u At.z At.sv)

theorem q_eq (x : FVec Ideal S512x1024 .f32) (n : FVec Ideal S1x1024 .f32)
    (a0 : FVec Ideal Cert.InProjRefIdeal.S8x2048x1024 .f32) (a1 : FVec Ideal Cert.InProjRefIdeal.S1x1024 .f32)
    (a2 : FVec Ideal Cert.InProjRefIdeal.S1x1024x5120 .f32) (b : Fin 8) (s : Fin 512 → Fin 2048)
    (hx : ∀ r k, x (ix2 r k) = a0 (ix3 b (s r) k)) (hn : ∀ k, n (ix2 0 k) = a1 (ix2 0 k))
    (w : FVec Ideal S1024x512 .bf16) (hw : ∀ (k : Fin 1024) (j : Fin 512), w (ix2 k j) = a2 (ix3 0 k ⟨0 + j.val, by omega⟩))
    (qn : FVec Ideal S1x512 .f32) (a3 : FVec Ideal Cert.InProjRefIdeal.S1x64 .f32) (hq : ∀ b : Fin 512, qn (ix2 0 b) = a3 (ix2 0 ⟨b.val % 64, by omega⟩))
    (bd : FVec Ideal S256x256 .bf16) (hb : Blocks bd) (r c : Fin 512) :
    k0_pay15 (F := Ideal) (k0_pay5 x n w qn bd) (ix2 r c) = At.q a0 a1 a2 a3 b (s r) c := by
  rw [q_pay _ _ _ _ _ hb, At.q]; simp only [hx, hn, hw, hq, At.p]

theorem k_eq (x : FVec Ideal S512x1024 .f32) (n : FVec Ideal S1x1024 .f32)
    (a0 : FVec Ideal Cert.InProjRefIdeal.S8x2048x1024 .f32) (a1 : FVec Ideal Cert.InProjRefIdeal.S1x1024 .f32)
    (a2 : FVec Ideal Cert.InProjRefIdeal.S1x1024x5120 .f32) (b : Fin 8) (s : Fin 512 → Fin 2048)
    (hx : ∀ r k, x (ix2 r k) = a0 (ix3 b (s r) k)) (hn : ∀ k, n (ix2 0 k) = a1 (ix2 0 k))
    (w : FVec Ideal S1024x512 .bf16) (hw : ∀ (k : Fin 1024) (j : Fin 512), w (ix2 k j) = a2 (ix3 0 k ⟨512 + j.val, by omega⟩))
    (qn : FVec Ideal S1x512 .f32) (a3 : FVec Ideal Cert.InProjRefIdeal.S1x64 .f32) (hq : ∀ b : Fin 512, qn (ix2 0 b) = a3 (ix2 0 ⟨b.val % 64, by omega⟩))
    (bd : FVec Ideal S256x256 .bf16) (hb : Blocks bd) (r c : Fin 512) :
    k0_pay6 (F := Ideal) (k0_pay4 x n) w qn bd (ix2 r c) = At.k a0 a1 a2 a3 b (s r) c := by
  rw [k_pay _ _ _ _ _ hb, At.k]; simp only [hx, hn, hw, hq, At.p]

theorem v_eq (x : FVec Ideal S512x1024 .f32) (n : FVec Ideal S1x1024 .f32)
    (a0 : FVec Ideal Cert.InProjRefIdeal.S8x2048x1024 .f32) (a1 : FVec Ideal Cert.InProjRefIdeal.S1x1024 .f32)
    (a2 : FVec Ideal Cert.InProjRefIdeal.S1x1024x5120 .f32) (b : Fin 8) (s : Fin 512 → Fin 2048)
    (hx : ∀ r k, x (ix2 r k) = a0 (ix3 b (s r) k)) (hn : ∀ k, n (ix2 0 k) = a1 (ix2 0 k))
    (w : FVec Ideal S1024x512 .bf16) (hw : ∀ (k : Fin 1024) (j : Fin 512), w (ix2 k j) = a2 (ix3 0 k ⟨1024 + j.val, by omega⟩)) (r c : Fin 512) :
    k0_pay7 (F := Ideal) (k0_pay4 x n) w (ix2 r c) = At.v a0 a1 a2 b (s r) c := by
  rw [v_pay, At.v]; simp only [hx, hn, hw, At.p]

theorem u_eq (x : FVec Ideal S512x1024 .f32) (n : FVec Ideal S1x1024 .f32)
    (a0 : FVec Ideal Cert.InProjRefIdeal.S8x2048x1024 .f32) (a1 : FVec Ideal Cert.InProjRefIdeal.S1x1024 .f32)
    (a2 : FVec Ideal Cert.InProjRefIdeal.S1x1024x5120 .f32) (b : Fin 8) (s : Fin 512 → Fin 2048)
    (hx : ∀ r k, x (ix2 r k) = a0 (ix3 b (s r) k)) (hn : ∀ k, n (ix2 0 k) = a1 (ix2 0 k))
    (w w' : FVec Ideal S1024x512 .bf16) (hw : ∀ (k : Fin 1024) (j : Fin 512), w (ix2 k j) = a2 (ix3 0 k ⟨2048 + j.val, by omega⟩)) (hw' : ∀ (k : Fin 1024) (j : Fin 512), w' (ix2 k j) = a2 (ix3 0 k ⟨2560 + j.val, by omega⟩)) (r c : Fin 512) :
    k0_pay9 (F := Ideal) (k0_pay4 x n) w w' (ix2 r c) = At.u a0 a1 a2 b (s r) c := by
  rw [u_pay, At.u]; simp only [hx, hn, hw, hw', At.p]

theorem ga_eq (x : FVec Ideal S512x1024 .f32) (n : FVec Ideal S1x1024 .f32)
    (a0 : FVec Ideal Cert.InProjRefIdeal.S8x2048x1024 .f32) (a1 : FVec Ideal Cert.InProjRefIdeal.S1x1024 .f32)
    (a2 : FVec Ideal Cert.InProjRefIdeal.S1x1024x5120 .f32) (b : Fin 8) (s : Fin 512 → Fin 2048)
    (hx : ∀ r k, x (ix2 r k) = a0 (ix3 b (s r) k)) (hn : ∀ k, n (ix2 0 k) = a1 (ix2 0 k))
    (w : FVec Ideal S1024x1024 .bf16) (hw : ∀ (k : Fin 1024) (j : Fin 1024), w (ix2 k j) = a2 (ix3 0 k ⟨3072 + j.val, by omega⟩)) (r : Fin 512) (c : Fin 1024) :
    k0_pay10 (F := Ideal) (k0_pay4 x n) w (ix2 r c) = At.p a0 a1 a2 b (s r) ⟨3072 + c.val, by omega⟩ := by
  rw [ga_pay]; simp only [hx, hn, hw, At.p]

theorem gb_eq (x : FVec Ideal S512x1024 .f32) (n : FVec Ideal S1x1024 .f32)
    (a0 : FVec Ideal Cert.InProjRefIdeal.S8x2048x1024 .f32) (a1 : FVec Ideal Cert.InProjRefIdeal.S1x1024 .f32)
    (a2 : FVec Ideal Cert.InProjRefIdeal.S1x1024x5120 .f32) (b : Fin 8) (s : Fin 512 → Fin 2048)
    (hx : ∀ r k, x (ix2 r k) = a0 (ix3 b (s r) k)) (hn : ∀ k, n (ix2 0 k) = a1 (ix2 0 k))
    (w : FVec Ideal S1024x1024 .bf16) (hw : ∀ (k : Fin 1024) (j : Fin 1024), w (ix2 k j) = a2 (ix3 0 k ⟨4096 + j.val, by omega⟩)) (r : Fin 512) (c : Fin 1024) :
    k0_pay11 (F := Ideal) (k0_pay4 x n) w (ix2 r c) = At.p a0 a1 a2 b (s r) ⟨4096 + c.val, by omega⟩ := by
  rw [gb_pay]; simp only [hx, hn, hw, At.p]

/-- The convolved branch, the two rows before the tile being the carried ones. -/
theorem s_eq (x : FVec Ideal S512x1024 .f32) (n : FVec Ideal S1x1024 .f32)
    (a0 : FVec Ideal Cert.InProjRefIdeal.S8x2048x1024 .f32) (a1 : FVec Ideal Cert.InProjRefIdeal.S1x1024 .f32)
    (a2 : FVec Ideal Cert.InProjRefIdeal.S1x1024x5120 .f32) (b : Fin 8) (s : Fin 512 → Fin 2048)
    (hx : ∀ r k, x (ix2 r k) = a0 (ix3 b (s r) k)) (hn : ∀ k, n (ix2 0 k) = a1 (ix2 0 k)) (o : Nat) (hs : ∀ r : Fin 512, (s r).val = o + r.val)
    (w1 w2 w3 : FVec Ideal S1024x512 .bf16) (hw1 : ∀ (k : Fin 1024) (j : Fin 512), w1 (ix2 k j) = a2 (ix3 0 k ⟨1536 + j.val, by omega⟩)) (hw2 : ∀ (k : Fin 1024) (j : Fin 512), w2 (ix2 k j) = a2 (ix3 0 k ⟨2048 + j.val, by omega⟩)) (hw3 : ∀ (k : Fin 1024) (j : Fin 512), w3 (ix2 k j) = a2 (ix3 0 k ⟨2560 + j.val, by omega⟩))
    (f0 f1 f2 : FVec Ideal S1x512 .f32) (a5 : FVec Ideal Cert.InProjRefIdeal.S1x3x512 .f32)
    (hf0 : ∀ b, f0 (ix2 0 b) = a5 (ix3 0 0 b)) (hf1 : ∀ b, f1 (ix2 0 b) = a5 (ix3 0 1 b)) (hf2 : ∀ b, f2 (ix2 0 b) = a5 (ix3 0 2 b))
    (cr : FVec Ideal S8x512 .f32)
    (hc : ∀ (i : Fin 2) (j : Fin 2050) (c : Fin 512), j.val = o + i.val → cr (ix2 ⟨6 + i.val, by omega⟩ c) = At.z a0 a1 a2 b j c)
    (r c : Fin 512) :
    k0_pay3 (F := Ideal) (k0_pay8 (k0_pay4 x n) w1) (k0_pay9 (k0_pay4 x n) w2 w3) (k0_pay12 f0) (k0_pay13 f1) (k0_pay14 f2) cr (ix2 r c)
      = At.sv a0 a1 a2 a5 b (s r) c := by
  have hu : ∀ r c : Fin 512, k0_pay9 (F := Ideal) (k0_pay4 x n) w2 w3 (ix2 r c) = At.u a0 a1 a2 b (s r) c :=
    u_eq x n a0 a1 a2 b s hx hn w2 w3 hw2 hw3
  have e0 : (if h : 6 + r.val < 8 then cr (ix2 ⟨6 + r.val, h⟩ c) else At.u a0 a1 a2 b (s ⟨6 + r.val - 8, by omega⟩) c)
      = At.z a0 a1 a2 b ⟨(s r).val, by omega⟩ c := by
    have h1 := hs r
    split
    · rename_i h
      exact hc ⟨r.val, by omega⟩ _ c h1
    · rename_i h
      have h2 := hs ⟨6 + r.val - 8, by omega⟩
      simp only at h2
      unfold At.z
      rw [dif_neg (by simp only; omega)]
      exact congrArg (fun i => At.u a0 a1 a2 b i c) (Fin.ext (by simp only; omega))
  have e1 : (if h : 7 + r.val < 8 then cr (ix2 ⟨7 + r.val, h⟩ c) else At.u a0 a1 a2 b (s ⟨7 + r.val - 8, by omega⟩) c)
      = At.z a0 a1 a2 b ⟨1 + (s r).val, by omega⟩ c := by
    have h1 := hs r
    split
    · rename_i h
      have := hc ⟨1 + r.val, by omega⟩ ⟨1 + (s r).val, by omega⟩ c (by simp only; omega)
      rw [← this]
      exact congrArg (fun i => cr (ix2 i c)) (Fin.ext (by simp only; omega))
    · rename_i h
      have h2 := hs ⟨7 + r.val - 8, by omega⟩
      simp only at h2
      unfold At.z
      rw [dif_neg (by simp only; omega)]
      exact congrArg (fun i => At.u a0 a1 a2 b i c) (Fin.ext (by simp only; omega))
  rw [s_pay, c_pay]
  simp only [hu]
  rw [e0, e1, At.sv]
  simp only [hx, hn, hw1, hf0, hf1, hf2, At.p]

end Cert.InProjIdeal.Pure

namespace Cert.InProjIdeal.Val

open Cert.InProjIdeal Cert.InProjIdeal.Gen Cert.Rows Cert.InProjIdeal.Pure

variable (m : (ℓ : Loc nD τ sig) → Buf (Elt Ideal) ℓ)

theorem idx : ∀ t : Fin cfg0.N, win0_0.index t = ![t.val, 0]
    ∧ win0_1.index t = ![0, 0]
    ∧ win0_2.index t = ![0, 0]
    ∧ win0_3.index t = ![0, 0]
    ∧ win0_4.index t = ![0, 0]
    ∧ win0_5.index t = ![0, 0]
    ∧ win0_6.index t = ![0, 0]
    ∧ win0_7.index t = ![t.val, 0]
    ∧ win0_8.index t = ![t.val / 4, 0, t.val % 4]
    ∧ win0_9.index t = ![t.val / 4, 0, t.val % 4]
    ∧ win0_10.index t = ![t.val, 0]
    ∧ win0_11.index t = ![t.val / 4, t.val % 4, 0, 0]
    ∧ win0_12.index t = ![t.val, 0, 0]
    ∧ win0_13.index t = ![t.val, 0]
    ∧ win0_14.index t = ![t.val, 0]
    ∧ win0_15.index t = ![t.val, 0]
    ∧ win0_16.index t = ![t.val / 4, 0, 0] :=
  (by decide +kernel : ∀ t : Fin grid0.N, _)

/-- The sequence a tile belongs to. -/
def sq (t : Fin cfg0.N) : Fin 8 := ⟨t.val / 4, by have := lt_of_lt_of_eq t.isLt N_0; omega⟩

/-- The row of its sequence that a tile's row is. -/
def tm (t : Fin cfg0.N) (r : Fin 512) : Fin 2048 := ⟨t.val % 4 * 512 + r.val, by omega⟩

/-- The host's quotients of lane numbers by the head width, compared as words. -/
theorem same_head : ∀ a b : Fin 256,
    IntOp.cmpi CmpIPredicate.eq (IntOp.divsi ArithUnit.host (BitVec.ofNat 32 a.val) 64#32)
      (IntOp.divsi ArithUnit.host (BitVec.ofNat 32 b.val) 64#32) = if a.val / 64 = b.val / 64 then 1#1 else 0#1 := by
  have key : ∀ a : Fin 256, IntOp.divsi ArithUnit.host (BitVec.ofNat 32 a.val) 64#32 = BitVec.ofNat 32 (a.val / 64) := by
    decide +kernel
  have cmp : ∀ a b : Fin 4, IntOp.cmpi CmpIPredicate.eq (BitVec.ofNat 32 a.val) (BitVec.ofNat 32 b.val)
      = if a.val = b.val then 1#1 else 0#1 := by decide +kernel
  intro a b
  rw [key, key]
  exact cmp ⟨a.val / 64, by omega⟩ ⟨b.val / 64, by omega⟩

theorem bd_at (c : Dev nD) (a b : Fin 256) :
    (show FVec Ideal S256x256 .bf16 from V m c main_v22) (ix2 a b)
      = if a.val / 64 = b.val / 64 then Ideal.ofBits .f32 0x3C800000#32 else 0 := by
  show StableHlo.after _ _ _ _ = _
  simp only [List.flatten_cons, List.flatten_nil, List.append_nil, hostOps0, hostOps0_1, hostOps0_2, List.cons_append,
    List.nil_append]
  entry_read
  show (select (cmpi CmpIPredicate.eq
            (Host.divsi (iotaInDim S256x256 32 0)
              (broadcastInDim S256x256 ![] bcast_S_S256x256 (constantI S_ 32 64#32)))
            (Host.divsi (iotaInDim S256x256 32 1)
              (broadcastInDim S256x256 ![] bcast_S_S256x256 (constantI S_ 32 64#32))))
       (broadcastInDim S256x256 ![] bcast_S_S256x256 (constant S_ FTy.f32 1015021568#32))
       (broadcastInDim S256x256 ![] bcast_S_S256x256 (constant S_ FTy.f32 0#32)) : FVec Ideal S256x256 .f32) (ix2 a b) = _
  pointwise []
  rw [same_head]
  by_cases h : a.val / 64 = b.val / 64
  · rw [if_pos h, if_pos h]; rfl
  · rw [if_neg h, if_neg h]; rfl

theorem blocks (c : Dev nD) (t : Fin cfg0.N) : Blocks (iblk m c 5 t) := by
  intro a b
  rw [← bd_at m c a b]
  blk_ext [iblk, idx t]

theorem rowcast (a : FVec Ideal S8x2048x1024 .f32) (r : Fin 16384) (k : Fin 1024) :
    (shapeCast S16384x1024 a shapeCasts_S8x2048x1024_S16384x1024 : FVec Ideal S16384x1024 .f32) (ix2 r k)
      = a (ix3 ⟨r.val / 2048, by omega⟩ ⟨r.val % 2048, by omega⟩ k) := by
  pointwise []

theorem x_at (c : Dev nD) (t : Fin cfg0.N) (r : Fin 512) (k : Fin 1024) :
    (show FVec Ideal S512x1024 .f32 from iblk m c 0 t) (ix2 r k)
      = (show FVec Ideal S8x2048x1024 .f32 from m ((c : Thread nD τ).loc main_arg0)) (ix3 (sq t) (tm t r) k) := by
  have ht := lt_of_lt_of_eq t.isLt N_0
  trans (show FVec Ideal S16384x1024 .f32 from V m c (Pipeline.arrRef spec0 0)) (ix2 ⟨t.val * 512 + r.val, by omega⟩ k)
  · blk_ext [iblk, idx t]
  · show StableHlo.after _ _ _ _ = _
    simp only [List.flatten_cons, List.flatten_nil, List.append_nil, hostOps0, hostOps0_1, hostOps0_2, List.cons_append,
      List.nil_append]
    entry_read
    refine (rowcast _ _ k).trans ?_
    exact congrArg₂ (fun i j => (show FVec Ideal S8x2048x1024 .f32 from m ((c : Thread nD τ).loc main_arg0)) (ix3 i j k))
      (Fin.ext (by simp only [sq]; omega)) (Fin.ext (by simp only [tm]; omega))

/-- A host array read whole. -/
theorem n_at (c : Dev nD) (t : Fin cfg0.N) (k : Fin 1024) :
    (show FVec Ideal S1x1024 .f32 from iblk m c 1 t) (ix2 0 k)
      = (show FVec Ideal S1x1024 .f32 from m ((c : Thread nD τ).loc main_arg1)) (ix2 0 k) := by
  trans (show FVec Ideal S1x1024 .f32 from V m c (Pipeline.arrRef spec0 1)) (ix2 0 k)
  · blk_ext [iblk, idx t]
  · show StableHlo.after _ _ _ _ = _
    simp only [List.flatten_cons, List.flatten_nil, List.append_nil, hostOps0, hostOps0_1, hostOps0_2, List.cons_append,
      List.nil_append]
    entry_read
    pointwise []

theorem w_at (c : Dev nD) (t : Fin cfg0.N) (k : Fin 1024) (j : Fin 5120) :
    (show FVec Ideal S1024x5120 .bf16 from iblk m c 2 t) (ix2 k j)
      = (show FVec Ideal S1x1024x5120 .f32 from m ((c : Thread nD τ).loc main_arg2)) (ix3 0 k j) := by
  trans (show FVec Ideal S1024x5120 .bf16 from V m c (Pipeline.arrRef spec0 2)) (ix2 k j)
  · blk_ext [iblk, idx t]
  · show StableHlo.after _ _ _ _ = _
    simp only [List.flatten_cons, List.flatten_nil, List.append_nil, hostOps0, hostOps0_1, hostOps0_2, List.cons_append,
      List.nil_append]
    entry_read
    exact wcast _ k j

theorem qn_at (c : Dev nD) (t : Fin cfg0.N) (b : Fin 512) :
    (show FVec Ideal S1x512 .f32 from iblk m c 3 t) (ix2 0 b)
      = (show FVec Ideal S1x64 .f32 from m ((c : Thread nD τ).loc main_arg3)) (ix2 0 ⟨b.val % 64, by omega⟩) := by
  trans (show FVec Ideal S1x512 .f32 from V m c (Pipeline.arrRef spec0 3)) (ix2 0 b)
  · blk_ext [iblk, idx t]
  · show StableHlo.after _ _ _ _ = _
    simp only [List.flatten_cons, List.flatten_nil, List.append_nil, hostOps0, hostOps0_1, hostOps0_2, List.cons_append,
      List.nil_append]
    entry_read
    pointwise []

theorem kn_at (c : Dev nD) (t : Fin cfg0.N) (b : Fin 512) :
    (show FVec Ideal S1x512 .f32 from iblk m c 4 t) (ix2 0 b)
      = (show FVec Ideal S1x64 .f32 from m ((c : Thread nD τ).loc main_arg4)) (ix2 0 ⟨b.val % 64, by omega⟩) := by
  trans (show FVec Ideal S1x512 .f32 from V m c (Pipeline.arrRef spec0 4)) (ix2 0 b)
  · blk_ext [iblk, idx t]
  · show StableHlo.after _ _ _ _ = _
    simp only [List.flatten_cons, List.flatten_nil, List.append_nil, hostOps0, hostOps0_1, hostOps0_2, List.cons_append,
      List.nil_append]
    entry_read
    pointwise []

theorem f_at (c : Dev nD) (t : Fin cfg0.N) (i : Fin 3) (b : Fin 512) :
    (show FVec Ideal S3x512 .f32 from iblk m c 6 t) (ix2 i b)
      = (show FVec Ideal S1x3x512 .f32 from m ((c : Thread nD τ).loc main_arg5)) (ix3 0 i b) := by
  trans (show FVec Ideal S3x512 .f32 from V m c (Pipeline.arrRef spec0 6)) (ix2 i b)
  · blk_ext [iblk, idx t]
  · show StableHlo.after _ _ _ _ = _
    simp only [List.flatten_cons, List.flatten_nil, List.append_nil, hostOps0, hostOps0_1, hostOps0_2, List.cons_append,
      List.nil_append]
    entry_read
    pointwise []

/-- Columns of the weight matrix from `o` on, read from the block. -/
theorem slab (c : Dev nD) (t : Fin cfg0.N) (o n : Nat) (h : o + n ≤ 5120) {inb} (k : Fin 1024) (j : Fin n) :
    View.ld (iblk m c 2 t) (Rect.unit (s := S1024x5120) ![0, o] ![1024, n] inb) (ix2 k j)
      = (show FVec Ideal S1x1024x5120 .f32 from m ((c : Thread nD τ).loc main_arg2)) (ix3 0 k ⟨o + j.val, by omega⟩) := by
  refine Eq.trans ?_ (w_at m c t k ⟨o + j.val, by omega⟩)
  exact View.ld_unit_apply_of (S := S1024x5120) (Val := Elt Ideal) (e := .bf16) (iblk m c 2 t) ![0, o] ![1024, n] inb (ix2 k j) (ix2 k ⟨o + j.val, by omega⟩)
    fun a => match a with
    | ⟨0, _⟩ => (Nat.zero_add _).symm
    | ⟨1, _⟩ => rfl

/-- One tap of the convolution, read from the block. -/
theorem tap (c : Dev nD) (t : Fin cfg0.N) (i : Fin 3) {inb} (b : Fin 512) :
    View.ld (iblk m c 6 t) (Rect.unit (s := S3x512) ![i.val, 0] ![1, 512] inb) (ix2 0 b)
      = (show FVec Ideal S1x3x512 .f32 from m ((c : Thread nD τ).loc main_arg5)) (ix3 0 i b) := by
  refine Eq.trans ?_ (f_at m c t i b)
  exact View.ld_unit_apply_of (S := S3x512) (Val := Elt Ideal) (e := .f32) (iblk m c 6 t) ![i.val, 0] ![1, 512] inb (ix2 0 b) (ix2 i b)
    fun a => match a with
    | ⟨0, _⟩ => rfl
    | ⟨1, _⟩ => (Nat.zero_add _).symm

theorem pt_7 (c : Dev nD) (t : Fin cfg0.N) (r b : Fin 512) :
    (outsAt0 m c t.val t.isLt).1 (ix2 r b)
      = Cert.InProjRefIdeal.At.q (m ((c : Thread nD τ).loc main_arg0)) (m ((c : Thread nD τ).loc main_arg1)) (m ((c : Thread nD τ).loc main_arg2)) (m ((c : Thread nD τ).loc main_arg3)) (sq t) (tm t r) b := by
  by_cases e : t.val % 4 = 0
  · rw [outsAt0_A m c t e]; frame_out
    exact q_eq _ _ _ _ _ (sq t) (tm t) (x_at m c t) (n_at m c t) _ (slab m c t 0 512 (by decide)) _ _ (qn_at m c t) _ (blocks m c t) r b
  · rw [outsAt0_B m c t e]; frame_out
    exact q_eq _ _ _ _ _ (sq t) (tm t) (x_at m c t) (n_at m c t) _ (slab m c t 0 512 (by decide)) _ _ (qn_at m c t) _ (blocks m c t) r b

/-- The queries after the run. -/
theorem final_7 (c : Dev nD) : (dats m 0 c).arrAt 7 (cfgs 0).N
    = Cert.InProjRefIdeal.At.Q (m ((c : Thread nD τ).loc main_arg0)) (m ((c : Thread nD τ).loc main_arg1)) (m ((c : Thread nD τ).loc main_arg2)) (m ((c : Thread nD τ).loc main_arg3)) := by
  refine (dats m 0 c).arrAt_eq_of_covers 7 _ (by decide +kernel) fun t hf y => ?_
  have ht := lt_of_lt_of_eq t.isLt N_0
  blk_simp; rw [after0_7]
  obtain ⟨r, b, rfl⟩ : ∃ (r : Fin 512) (b : Fin 512), y = ix2 r b := ⟨y 0, y 1, by blk_ext⟩
  trans (Cert.InProjRefIdeal.At.Q (m ((c : Thread nD τ).loc main_arg0)) (m ((c : Thread nD τ).loc main_arg1)) (m ((c : Thread nD τ).loc main_arg2)) (m ((c : Thread nD τ).loc main_arg3))) (ix2 ⟨t.val * 512 + r.val, by omega⟩ b)
  · rw [Cert.InProjRefIdeal.At.Q_at]
    exact (pt_7 m c t r b).trans (congrArg₂ (fun i j => Cert.InProjRefIdeal.At.q (m ((c : Thread nD τ).loc main_arg0)) (m ((c : Thread nD τ).loc main_arg1)) (m ((c : Thread nD τ).loc main_arg2)) (m ((c : Thread nD τ).loc main_arg3)) i j b) (Fin.ext (by simp only [sq]; omega)) (Fin.ext (by simp only [tm]; omega)))
  · blk_ext [idx t, sq, tm]

theorem pt_8 (c : Dev nD) (t : Fin cfg0.N) (r b : Fin 512) :
    (outsAt0 m c t.val t.isLt).2.1 (ix3 0 b r)
      = Cert.InProjRefIdeal.At.k (m ((c : Thread nD τ).loc main_arg0)) (m ((c : Thread nD τ).loc main_arg1)) (m ((c : Thread nD τ).loc main_arg2)) (m ((c : Thread nD τ).loc main_arg4)) (sq t) (tm t r) b := by
  by_cases e : t.val % 4 = 0
  · rw [outsAt0_A m c t e]; frame_out
    rw [kt_pay]; exact k_eq _ _ _ _ _ (sq t) (tm t) (x_at m c t) (n_at m c t) _ (slab m c t 512 512 (by decide)) _ _ (kn_at m c t) _ (blocks m c t) r b
  · rw [outsAt0_B m c t e]; frame_out
    rw [kt_pay]; exact k_eq _ _ _ _ _ (sq t) (tm t) (x_at m c t) (n_at m c t) _ (slab m c t 512 512 (by decide)) _ _ (kn_at m c t) _ (blocks m c t) r b

/-- The keys, lanes before time, after the run. -/
theorem final_8 (c : Dev nD) : (dats m 0 c).arrAt 8 (cfgs 0).N
    = Cert.InProjRefIdeal.At.KT (m ((c : Thread nD τ).loc main_arg0)) (m ((c : Thread nD τ).loc main_arg1)) (m ((c : Thread nD τ).loc main_arg2)) (m ((c : Thread nD τ).loc main_arg4)) := by
  refine (dats m 0 c).arrAt_eq_of_covers 8 _ (by decide +kernel) fun t hf y => ?_
  have ht := lt_of_lt_of_eq t.isLt N_0
  blk_simp; rw [after0_8]
  obtain ⟨b, r, rfl⟩ : ∃ (b r : Fin 512), y = ix3 0 b r := ⟨y 1, y 2, by blk_ext⟩
  trans (Cert.InProjRefIdeal.At.KT (m ((c : Thread nD τ).loc main_arg0)) (m ((c : Thread nD τ).loc main_arg1)) (m ((c : Thread nD τ).loc main_arg2)) (m ((c : Thread nD τ).loc main_arg4))) (ix3 (sq t) b (tm t r))
  · rw [Cert.InProjRefIdeal.At.KT_at]
    exact pt_8 m c t r b
  · blk_ext [idx t, sq, tm]

theorem pt_9 (c : Dev nD) (t : Fin cfg0.N) (r b : Fin 512) :
    (outsAt0 m c t.val t.isLt).2.2.1 (ix3 0 b r)
      = Cert.InProjRefIdeal.At.v (m ((c : Thread nD τ).loc main_arg0)) (m ((c : Thread nD τ).loc main_arg1)) (m ((c : Thread nD τ).loc main_arg2)) (sq t) (tm t r) b := by
  by_cases e : t.val % 4 = 0
  · rw [outsAt0_A m c t e]; frame_out
    rw [vt_pay]; exact v_eq _ _ _ _ _ (sq t) (tm t) (x_at m c t) (n_at m c t) _ (slab m c t 1024 512 (by decide)) r b
  · rw [outsAt0_B m c t e]; frame_out
    rw [vt_pay]; exact v_eq _ _ _ _ _ (sq t) (tm t) (x_at m c t) (n_at m c t) _ (slab m c t 1024 512 (by decide)) r b

/-- The values, lanes before time, after the run. -/
theorem final_9 (c : Dev nD) : (dats m 0 c).arrAt 9 (cfgs 0).N
    = Cert.InProjRefIdeal.At.VT (m ((c : Thread nD τ).loc main_arg0)) (m ((c : Thread nD τ).loc main_arg1)) (m ((c : Thread nD τ).loc main_arg2)) := by
  refine (dats m 0 c).arrAt_eq_of_covers 9 _ (by decide +kernel) fun t hf y => ?_
  have ht := lt_of_lt_of_eq t.isLt N_0
  blk_simp; rw [after0_9]
  obtain ⟨b, r, rfl⟩ : ∃ (b r : Fin 512), y = ix3 0 b r := ⟨y 1, y 2, by blk_ext⟩
  trans (Cert.InProjRefIdeal.At.VT (m ((c : Thread nD τ).loc main_arg0)) (m ((c : Thread nD τ).loc main_arg1)) (m ((c : Thread nD τ).loc main_arg2))) (ix3 (sq t) b (tm t r))
  · rw [Cert.InProjRefIdeal.At.VT_at]
    exact pt_9 m c t r b
  · blk_ext [idx t, sq, tm]

theorem pt_10 (c : Dev nD) (t : Fin cfg0.N) (r b : Fin 512) :
    (outsAt0 m c t.val t.isLt).2.2.2.1 (ix2 r b)
      = Cert.InProjRefIdeal.At.k (m ((c : Thread nD τ).loc main_arg0)) (m ((c : Thread nD τ).loc main_arg1)) (m ((c : Thread nD τ).loc main_arg2)) (m ((c : Thread nD τ).loc main_arg4)) (sq t) (tm t r) b := by
  by_cases e : t.val % 4 = 0
  · rw [outsAt0_A m c t e]; frame_out
    rw [kb_pay]; exact k_eq _ _ _ _ _ (sq t) (tm t) (x_at m c t) (n_at m c t) _ (slab m c t 512 512 (by decide)) _ _ (kn_at m c t) _ (blocks m c t) r b
  · rw [outsAt0_B m c t e]; frame_out
    rw [kb_pay]; exact k_eq _ _ _ _ _ (sq t) (tm t) (x_at m c t) (n_at m c t) _ (slab m c t 512 512 (by decide)) _ _ (kn_at m c t) _ (blocks m c t) r b

/-- The keys, row by row, after the run. -/
theorem final_10 (c : Dev nD) : (dats m 0 c).arrAt 10 (cfgs 0).N
    = Cert.InProjRefIdeal.At.KB (m ((c : Thread nD τ).loc main_arg0)) (m ((c : Thread nD τ).loc main_arg1)) (m ((c : Thread nD τ).loc main_arg2)) (m ((c : Thread nD τ).loc main_arg4)) := by
  refine (dats m 0 c).arrAt_eq_of_covers 10 _ (by decide +kernel) fun t hf y => ?_
  have ht := lt_of_lt_of_eq t.isLt N_0
  blk_simp; rw [after0_10]
  obtain ⟨r, b, rfl⟩ : ∃ (r : Fin 512) (b : Fin 512), y = ix2 r b := ⟨y 0, y 1, by blk_ext⟩
  trans (Cert.InProjRefIdeal.At.KB (m ((c : Thread nD τ).loc main_arg0)) (m ((c : Thread nD τ).loc main_arg1)) (m ((c : Thread nD τ).loc main_arg2)) (m ((c : Thread nD τ).loc main_arg4))) (ix2 ⟨t.val * 512 + r.val, by omega⟩ b)
  · rw [Cert.InProjRefIdeal.At.KB_at]
    exact (pt_10 m c t r b).trans (congrArg₂ (fun i j => Cert.InProjRefIdeal.At.k (m ((c : Thread nD τ).loc main_arg0)) (m ((c : Thread nD τ).loc main_arg1)) (m ((c : Thread nD τ).loc main_arg2)) (m ((c : Thread nD τ).loc main_arg4)) i j b) (Fin.ext (by simp only [sq]; omega)) (Fin.ext (by simp only [tm]; omega)))
  · blk_ext [idx t, sq, tm]

theorem pt_11 (c : Dev nD) (t : Fin cfg0.N) (g : Fin 2) (b : Fin 512) (j : Fin 256) :
    (outsAt0 m c t.val t.isLt).2.2.2.2.1 (ix4 0 g b j)
      = Cert.InProjRefIdeal.At.v (m ((c : Thread nD τ).loc main_arg0)) (m ((c : Thread nD τ).loc main_arg1)) (m ((c : Thread nD τ).loc main_arg2)) (sq t) (tm t ⟨g.val * 256 + j.val, by omega⟩) b := by
  by_cases e : t.val % 4 = 0
  · rw [outsAt0_A m c t e]; frame_out
    canon_tiles x h
    case piece0 =>
      obtain ⟨b', j', rfl⟩ : ∃ (b' : Fin 512) (j' : Fin 256), x = ix4 0 0 b' j' := ⟨x 2, x 3, by blk_ext⟩
      obtain rfl : b = b' := Fin.ext h2
      obtain rfl : j = j' := Fin.ext h3
      have hg : g.val = 1 + 0 := h1
      rw [vb1_pay]
      exact (v_eq _ _ _ _ _ (sq t) (tm t) (x_at m c t) (n_at m c t) _ (slab m c t 1024 512 (by decide)) _ b).trans (congrArg (fun i => Cert.InProjRefIdeal.At.v (m ((c : Thread nD τ).loc main_arg0)) (m ((c : Thread nD τ).loc main_arg1)) (m ((c : Thread nD τ).loc main_arg2)) (sq t) (tm t i) b) (Fin.ext (by simp only; omega)))
    case piece1 =>
      obtain ⟨b', j', rfl⟩ : ∃ (b' : Fin 512) (j' : Fin 256), x = ix4 0 0 b' j' := ⟨x 2, x 3, by blk_ext⟩
      obtain rfl : b = b' := Fin.ext h2
      obtain rfl : j = j' := Fin.ext h3
      have hg : g.val = 0 + 0 := h1
      rw [vb0_pay]
      exact (v_eq _ _ _ _ _ (sq t) (tm t) (x_at m c t) (n_at m c t) _ (slab m c t 1024 512 (by decide)) _ b).trans (congrArg (fun i => Cert.InProjRefIdeal.At.v (m ((c : Thread nD τ).loc main_arg0)) (m ((c : Thread nD τ).loc main_arg1)) (m ((c : Thread nD τ).loc main_arg2)) (sq t) (tm t i) b) (Fin.ext (by simp only; omega)))
  · rw [outsAt0_B m c t e]; frame_out
    canon_tiles x h
    case piece0 =>
      obtain ⟨b', j', rfl⟩ : ∃ (b' : Fin 512) (j' : Fin 256), x = ix4 0 0 b' j' := ⟨x 2, x 3, by blk_ext⟩
      obtain rfl : b = b' := Fin.ext h2
      obtain rfl : j = j' := Fin.ext h3
      have hg : g.val = 1 + 0 := h1
      rw [vb1_pay]
      exact (v_eq _ _ _ _ _ (sq t) (tm t) (x_at m c t) (n_at m c t) _ (slab m c t 1024 512 (by decide)) _ b).trans (congrArg (fun i => Cert.InProjRefIdeal.At.v (m ((c : Thread nD τ).loc main_arg0)) (m ((c : Thread nD τ).loc main_arg1)) (m ((c : Thread nD τ).loc main_arg2)) (sq t) (tm t i) b) (Fin.ext (by simp only; omega)))
    case piece1 =>
      obtain ⟨b', j', rfl⟩ : ∃ (b' : Fin 512) (j' : Fin 256), x = ix4 0 0 b' j' := ⟨x 2, x 3, by blk_ext⟩
      obtain rfl : b = b' := Fin.ext h2
      obtain rfl : j = j' := Fin.ext h3
      have hg : g.val = 0 + 0 := h1
      rw [vb0_pay]
      exact (v_eq _ _ _ _ _ (sq t) (tm t) (x_at m c t) (n_at m c t) _ (slab m c t 1024 512 (by decide)) _ b).trans (congrArg (fun i => Cert.InProjRefIdeal.At.v (m ((c : Thread nD τ).loc main_arg0)) (m ((c : Thread nD τ).loc main_arg1)) (m ((c : Thread nD τ).loc main_arg2)) (sq t) (tm t i) b) (Fin.ext (by simp only; omega)))

/-- The values block by block after the run. -/
theorem final_11 (c : Dev nD) : (dats m 0 c).arrAt 11 (cfgs 0).N
    = Cert.InProjRefIdeal.At.VB (m ((c : Thread nD τ).loc main_arg0)) (m ((c : Thread nD τ).loc main_arg1)) (m ((c : Thread nD τ).loc main_arg2)) := by
  refine (dats m 0 c).arrAt_eq_of_covers 11 _ (by decide +kernel) fun t hf y => ?_
  have ht := lt_of_lt_of_eq t.isLt N_0
  blk_simp; rw [after0_11]
  obtain ⟨g, b, j, rfl⟩ : ∃ (g : Fin 2) (b : Fin 512) (j : Fin 256), y = ix4 0 g b j := ⟨y 1, y 2, y 3, by blk_ext⟩
  trans (Cert.InProjRefIdeal.At.VB (m ((c : Thread nD τ).loc main_arg0)) (m ((c : Thread nD τ).loc main_arg1)) (m ((c : Thread nD τ).loc main_arg2))) (ix4 (sq t) ⟨t.val % 4 * 2 + g.val, by omega⟩ b j)
  · rw [Cert.InProjRefIdeal.At.VB_at]
    exact (pt_11 m c t g b j).trans (congrArg (fun i => Cert.InProjRefIdeal.At.v (m ((c : Thread nD τ).loc main_arg0)) (m ((c : Thread nD τ).loc main_arg1)) (m ((c : Thread nD τ).loc main_arg2)) (sq t) i b) (Fin.ext (by simp only [tm]; omega)))
  · blk_ext [idx t, sq, tm]

theorem pt_12 (c : Dev nD) (t : Fin cfg0.N) (g : Fin 2) (b : Fin 512) :
    (outsAt0 m c t.val t.isLt).2.2.2.2.2.1 (ix3 0 g b)
      = ∑ j : Fin 256, Cert.InProjRefIdeal.At.k (m ((c : Thread nD τ).loc main_arg0)) (m ((c : Thread nD τ).loc main_arg1)) (m ((c : Thread nD τ).loc main_arg2)) (m ((c : Thread nD τ).loc main_arg4)) (sq t) (tm t ⟨g.val * 256 + j.val, by omega⟩) b := by
  by_cases e : t.val % 4 = 0
  · rw [outsAt0_A m c t e]; frame_out
    canon_tiles x h
    case piece0 =>
      obtain ⟨b', rfl⟩ : ∃ (b' : Fin 512), x = ix3 0 0 b' := ⟨x 2, by blk_ext⟩
      obtain rfl : b = b' := Fin.ext h2
      have hg : g.val = 1 + 0 := h1
      rw [ks1_pay]
      exact Fin.sum_fin_congr fun j => (k_eq _ _ _ _ _ (sq t) (tm t) (x_at m c t) (n_at m c t) _ (slab m c t 512 512 (by decide)) _ _ (kn_at m c t) _ (blocks m c t) _ b).trans (congrArg (fun i => Cert.InProjRefIdeal.At.k (m ((c : Thread nD τ).loc main_arg0)) (m ((c : Thread nD τ).loc main_arg1)) (m ((c : Thread nD τ).loc main_arg2)) (m ((c : Thread nD τ).loc main_arg4)) (sq t) (tm t i) b) (Fin.ext (by simp only; omega)))
    case piece1 =>
      obtain ⟨b', rfl⟩ : ∃ (b' : Fin 512), x = ix3 0 0 b' := ⟨x 2, by blk_ext⟩
      obtain rfl : b = b' := Fin.ext h2
      have hg : g.val = 0 + 0 := h1
      rw [ks0_pay]
      exact Fin.sum_fin_congr fun j => (k_eq _ _ _ _ _ (sq t) (tm t) (x_at m c t) (n_at m c t) _ (slab m c t 512 512 (by decide)) _ _ (kn_at m c t) _ (blocks m c t) _ b).trans (congrArg (fun i => Cert.InProjRefIdeal.At.k (m ((c : Thread nD τ).loc main_arg0)) (m ((c : Thread nD τ).loc main_arg1)) (m ((c : Thread nD τ).loc main_arg2)) (m ((c : Thread nD τ).loc main_arg4)) (sq t) (tm t i) b) (Fin.ext (by simp only; omega)))
  · rw [outsAt0_B m c t e]; frame_out
    canon_tiles x h
    case piece0 =>
      obtain ⟨b', rfl⟩ : ∃ (b' : Fin 512), x = ix3 0 0 b' := ⟨x 2, by blk_ext⟩
      obtain rfl : b = b' := Fin.ext h2
      have hg : g.val = 1 + 0 := h1
      rw [ks1_pay]
      exact Fin.sum_fin_congr fun j => (k_eq _ _ _ _ _ (sq t) (tm t) (x_at m c t) (n_at m c t) _ (slab m c t 512 512 (by decide)) _ _ (kn_at m c t) _ (blocks m c t) _ b).trans (congrArg (fun i => Cert.InProjRefIdeal.At.k (m ((c : Thread nD τ).loc main_arg0)) (m ((c : Thread nD τ).loc main_arg1)) (m ((c : Thread nD τ).loc main_arg2)) (m ((c : Thread nD τ).loc main_arg4)) (sq t) (tm t i) b) (Fin.ext (by simp only; omega)))
    case piece1 =>
      obtain ⟨b', rfl⟩ : ∃ (b' : Fin 512), x = ix3 0 0 b' := ⟨x 2, by blk_ext⟩
      obtain rfl : b = b' := Fin.ext h2
      have hg : g.val = 0 + 0 := h1
      rw [ks0_pay]
      exact Fin.sum_fin_congr fun j => (k_eq _ _ _ _ _ (sq t) (tm t) (x_at m c t) (n_at m c t) _ (slab m c t 512 512 (by decide)) _ _ (kn_at m c t) _ (blocks m c t) _ b).trans (congrArg (fun i => Cert.InProjRefIdeal.At.k (m ((c : Thread nD τ).loc main_arg0)) (m ((c : Thread nD τ).loc main_arg1)) (m ((c : Thread nD τ).loc main_arg2)) (m ((c : Thread nD τ).loc main_arg4)) (sq t) (tm t i) b) (Fin.ext (by simp only; omega)))

/-- The sums of the keys after the run. -/
theorem final_12 (c : Dev nD) : (dats m 0 c).arrAt 12 (cfgs 0).N
    = Cert.InProjRefIdeal.At.KS (m ((c : Thread nD τ).loc main_arg0)) (m ((c : Thread nD τ).loc main_arg1)) (m ((c : Thread nD τ).loc main_arg2)) (m ((c : Thread nD τ).loc main_arg4)) := by
  refine (dats m 0 c).arrAt_eq_of_covers 12 _ (by decide +kernel) fun t hf y => ?_
  have ht := lt_of_lt_of_eq t.isLt N_0
  blk_simp; rw [after0_12]
  obtain ⟨g, b, rfl⟩ : ∃ (g : Fin 2) (b : Fin 512), y = ix3 0 g b := ⟨y 1, y 2, by blk_ext⟩
  trans (Cert.InProjRefIdeal.At.KS (m ((c : Thread nD τ).loc main_arg0)) (m ((c : Thread nD τ).loc main_arg1)) (m ((c : Thread nD τ).loc main_arg2)) (m ((c : Thread nD τ).loc main_arg4))) (ix3 ⟨t.val, ht⟩ g b)
  · rw [Cert.InProjRefIdeal.At.KS_at]
    exact (pt_12 m c t g b).trans (Fin.sum_fin_congr fun j => congrArg (fun i => Cert.InProjRefIdeal.At.k (m ((c : Thread nD τ).loc main_arg0)) (m ((c : Thread nD τ).loc main_arg1)) (m ((c : Thread nD τ).loc main_arg2)) (m ((c : Thread nD τ).loc main_arg4)) (sq t) i b) (Fin.ext (by simp only [tm]; omega)))
  · blk_ext [idx t, sq, tm]

/-- The rows kept for the next tile: the last eight that enter the convolution. -/
theorem kept (c : Dev nD) (t : Fin cfg0.N) (i : Fin 8) (b : Fin 512) :
    (outsAt0 m c t.val t.isLt).2.2.2.2.2.2.2.2.2.2 (ix2 i b)
      = Cert.InProjRefIdeal.At.u (m ((c : Thread nD τ).loc main_arg0)) (m ((c : Thread nD τ).loc main_arg1)) (m ((c : Thread nD τ).loc main_arg2)) (sq t) (tm t ⟨504 + i.val, by omega⟩) b := by
  by_cases e : t.val % 4 = 0
  · rw [outsAt0_A m c t e]; frame_out
    rw [last8]; exact u_eq _ _ _ _ _ (sq t) (tm t) (x_at m c t) (n_at m c t) _ _ (slab m c t 2048 512 (by decide)) (slab m c t 2560 512 (by decide)) _ b
  · rw [outsAt0_B m c t e]; frame_out
    rw [last8]; exact u_eq _ _ _ _ _ (sq t) (tm t) (x_at m c t) (n_at m c t) _ _ (slab m c t 2048 512 (by decide)) (slab m c t 2560 512 (by decide)) _ b

theorem pt_13 (c : Dev nD) (t : Fin cfg0.N) (r b : Fin 512) :
    (outsAt0 m c t.val t.isLt).2.2.2.2.2.2.1 (ix2 r b)
      = Cert.InProjRefIdeal.At.sv (m ((c : Thread nD τ).loc main_arg0)) (m ((c : Thread nD τ).loc main_arg1)) (m ((c : Thread nD τ).loc main_arg2)) (m ((c : Thread nD τ).loc main_arg5)) (sq t) (tm t r) b := by
  by_cases e : t.val % 4 = 0
  · rw [outsAt0_A m c t e]; frame_out
    refine s_eq _ _ _ _ _ (sq t) (tm t) (x_at m c t) (n_at m c t) (t.val % 4 * 512) (fun _ => rfl) _ _ _ (slab m c t 1536 512 (by decide)) (slab m c t 2048 512 (by decide)) (slab m c t 2560 512 (by decide)) _ _ _ _ (tap m c t 0) (tap m c t 1) (tap m c t 2) _ (fun i j b hj => ?_) r b
    rw [zeros]
    unfold Cert.InProjRefIdeal.At.z
    rw [dif_pos (by omega)]
    exact Ideal.ofBits_zero_f32.symm
  · rw [outsAt0_B m c t e]; frame_out
    refine s_eq _ _ _ _ _ (sq t) (tm t) (x_at m c t) (n_at m c t) (t.val % 4 * 512) (fun _ => rfl) _ _ _ (slab m c t 1536 512 (by decide)) (slab m c t 2048 512 (by decide)) (slab m c t 2560 512 (by decide)) _ _ _ _ (tap m c t 0) (tap m c t 1) (tap m c t 2) _ (fun i j b hj => ?_) r b
    refine (congrFun (Memref.IsWhole.read_unread _ _) _).trans ?_
    refine (kept m c ⟨t.val - 1, by omega⟩ ⟨6 + i.val, by omega⟩ b).trans ?_
    unfold Cert.InProjRefIdeal.At.z
    rw [dif_neg (by omega)]
    exact congrArg₂ (fun i j => Cert.InProjRefIdeal.At.u (m ((c : Thread nD τ).loc main_arg0)) (m ((c : Thread nD τ).loc main_arg1)) (m ((c : Thread nD τ).loc main_arg2)) i j b) (Fin.ext (by simp only [sq]; omega)) (Fin.ext (by simp only [tm]; omega))

/-- The convolved branch after the run. -/
theorem final_13 (c : Dev nD) : (dats m 0 c).arrAt 13 (cfgs 0).N
    = Cert.InProjRefIdeal.At.S (m ((c : Thread nD τ).loc main_arg0)) (m ((c : Thread nD τ).loc main_arg1)) (m ((c : Thread nD τ).loc main_arg2)) (m ((c : Thread nD τ).loc main_arg5)) := by
  refine (dats m 0 c).arrAt_eq_of_covers 13 _ (by decide +kernel) fun t hf y => ?_
  have ht := lt_of_lt_of_eq t.isLt N_0
  blk_simp; rw [after0_13]
  obtain ⟨r, b, rfl⟩ : ∃ (r : Fin 512) (b : Fin 512), y = ix2 r b := ⟨y 0, y 1, by blk_ext⟩
  trans (Cert.InProjRefIdeal.At.S (m ((c : Thread nD τ).loc main_arg0)) (m ((c : Thread nD τ).loc main_arg1)) (m ((c : Thread nD τ).loc main_arg2)) (m ((c : Thread nD τ).loc main_arg5))) (ix2 ⟨t.val * 512 + r.val, by omega⟩ b)
  · rw [Cert.InProjRefIdeal.At.S_at]
    exact (pt_13 m c t r b).trans (congrArg₂ (fun i j => Cert.InProjRefIdeal.At.sv (m ((c : Thread nD τ).loc main_arg0)) (m ((c : Thread nD τ).loc main_arg1)) (m ((c : Thread nD τ).loc main_arg2)) (m ((c : Thread nD τ).loc main_arg5)) i j b) (Fin.ext (by simp only [sq]; omega)) (Fin.ext (by simp only [tm]; omega)))
  · blk_ext [idx t, sq, tm]

theorem pt_14 (c : Dev nD) (t : Fin cfg0.N) (r : Fin 512) (b : Fin 1024) :
    (outsAt0 m c t.val t.isLt).2.2.2.2.2.2.2.1 (ix2 r b)
      = Cert.InProjRefIdeal.At.p (m ((c : Thread nD τ).loc main_arg0)) (m ((c : Thread nD τ).loc main_arg1)) (m ((c : Thread nD τ).loc main_arg2)) (sq t) (tm t r) ⟨3072 + b.val, by omega⟩ := by
  by_cases e : t.val % 4 = 0
  · rw [outsAt0_A m c t e]; frame_out
    exact ga_eq _ _ _ _ _ (sq t) (tm t) (x_at m c t) (n_at m c t) _ (slab m c t 3072 1024 (by decide)) r b
  · rw [outsAt0_B m c t e]; frame_out
    exact ga_eq _ _ _ _ _ (sq t) (tm t) (x_at m c t) (n_at m c t) _ (slab m c t 3072 1024 (by decide)) r b

/-- The first gate after the run. -/
theorem final_14 (c : Dev nD) : (dats m 0 c).arrAt 14 (cfgs 0).N
    = Cert.InProjRefIdeal.At.GA (m ((c : Thread nD τ).loc main_arg0)) (m ((c : Thread nD τ).loc main_arg1)) (m ((c : Thread nD τ).loc main_arg2)) := by
  refine (dats m 0 c).arrAt_eq_of_covers 14 _ (by decide +kernel) fun t hf y => ?_
  have ht := lt_of_lt_of_eq t.isLt N_0
  blk_simp; rw [after0_14]
  obtain ⟨r, b, rfl⟩ : ∃ (r : Fin 512) (b : Fin 1024), y = ix2 r b := ⟨y 0, y 1, by blk_ext⟩
  trans (Cert.InProjRefIdeal.At.GA (m ((c : Thread nD τ).loc main_arg0)) (m ((c : Thread nD τ).loc main_arg1)) (m ((c : Thread nD τ).loc main_arg2))) (ix2 ⟨t.val * 512 + r.val, by omega⟩ b)
  · rw [Cert.InProjRefIdeal.At.GA_at]
    exact (pt_14 m c t r b).trans (congrArg₂ (fun i j => Cert.InProjRefIdeal.At.p (m ((c : Thread nD τ).loc main_arg0)) (m ((c : Thread nD τ).loc main_arg1)) (m ((c : Thread nD τ).loc main_arg2)) i j ⟨3072 + b.val, by omega⟩) (Fin.ext (by simp only [sq]; omega)) (Fin.ext (by simp only [tm]; omega)))
  · blk_ext [idx t, sq, tm]

theorem pt_15 (c : Dev nD) (t : Fin cfg0.N) (r : Fin 512) (b : Fin 1024) :
    (outsAt0 m c t.val t.isLt).2.2.2.2.2.2.2.2.1 (ix2 r b)
      = Cert.InProjRefIdeal.At.p (m ((c : Thread nD τ).loc main_arg0)) (m ((c : Thread nD τ).loc main_arg1)) (m ((c : Thread nD τ).loc main_arg2)) (sq t) (tm t r) ⟨4096 + b.val, by omega⟩ := by
  by_cases e : t.val % 4 = 0
  · rw [outsAt0_A m c t e]; frame_out
    exact gb_eq _ _ _ _ _ (sq t) (tm t) (x_at m c t) (n_at m c t) _ (slab m c t 4096 1024 (by decide)) r b
  · rw [outsAt0_B m c t e]; frame_out
    exact gb_eq _ _ _ _ _ (sq t) (tm t) (x_at m c t) (n_at m c t) _ (slab m c t 4096 1024 (by decide)) r b

/-- The second gate after the run. -/
theorem final_15 (c : Dev nD) : (dats m 0 c).arrAt 15 (cfgs 0).N
    = Cert.InProjRefIdeal.At.GB (m ((c : Thread nD τ).loc main_arg0)) (m ((c : Thread nD τ).loc main_arg1)) (m ((c : Thread nD τ).loc main_arg2)) := by
  refine (dats m 0 c).arrAt_eq_of_covers 15 _ (by decide +kernel) fun t hf y => ?_
  have ht := lt_of_lt_of_eq t.isLt N_0
  blk_simp; rw [after0_15]
  obtain ⟨r, b, rfl⟩ : ∃ (r : Fin 512) (b : Fin 1024), y = ix2 r b := ⟨y 0, y 1, by blk_ext⟩
  trans (Cert.InProjRefIdeal.At.GB (m ((c : Thread nD τ).loc main_arg0)) (m ((c : Thread nD τ).loc main_arg1)) (m ((c : Thread nD τ).loc main_arg2))) (ix2 ⟨t.val * 512 + r.val, by omega⟩ b)
  · rw [Cert.InProjRefIdeal.At.GB_at]
    exact (pt_15 m c t r b).trans (congrArg₂ (fun i j => Cert.InProjRefIdeal.At.p (m ((c : Thread nD τ).loc main_arg0)) (m ((c : Thread nD τ).loc main_arg1)) (m ((c : Thread nD τ).loc main_arg2)) i j ⟨4096 + b.val, by omega⟩) (Fin.ext (by simp only [sq]; omega)) (Fin.ext (by simp only [tm]; omega)))
  · blk_ext [idx t, sq, tm]

theorem pt_16 (c : Dev nD) (t : Fin cfg0.N) (i : Fin 2) (b : Fin 512) :
    (outsAt0 m c t.val t.isLt).2.2.2.2.2.2.2.2.2.1 (ix3 0 i b)
      = Cert.InProjRefIdeal.At.u (m ((c : Thread nD τ).loc main_arg0)) (m ((c : Thread nD τ).loc main_arg1)) (m ((c : Thread nD τ).loc main_arg2)) (sq t) (tm t ⟨510 + i.val, by omega⟩) b := by
  by_cases e : t.val % 4 = 0
  · rw [outsAt0_A m c t e]; frame_out
    rw [last2]; exact u_eq _ _ _ _ _ (sq t) (tm t) (x_at m c t) (n_at m c t) _ _ (slab m c t 2048 512 (by decide)) (slab m c t 2560 512 (by decide)) _ b
  · rw [outsAt0_B m c t e]; frame_out
    rw [last2]; exact u_eq _ _ _ _ _ (sq t) (tm t) (x_at m c t) (n_at m c t) _ _ (slab m c t 2048 512 (by decide)) (slab m c t 2560 512 (by decide)) _ b

/-- The last two rows of each sequence after the run. -/
theorem final_16 (c : Dev nD) : (dats m 0 c).arrAt 16 (cfgs 0).N
    = Cert.InProjRefIdeal.At.CS (m ((c : Thread nD τ).loc main_arg0)) (m ((c : Thread nD τ).loc main_arg1)) (m ((c : Thread nD τ).loc main_arg2)) := by
  refine (dats m 0 c).arrAt_eq_of_covers 16 _ (by decide +kernel) fun t hf y => ?_
  have ht := lt_of_lt_of_eq t.isLt N_0
  blk_simp; rw [after0_16]
  have h4 := (flush0_16 t).mp hf
  obtain ⟨i, b, rfl⟩ : ∃ (i : Fin 2) (b : Fin 512), y = ix3 0 i b := ⟨y 1, y 2, by blk_ext⟩
  trans (Cert.InProjRefIdeal.At.CS (m ((c : Thread nD τ).loc main_arg0)) (m ((c : Thread nD τ).loc main_arg1)) (m ((c : Thread nD τ).loc main_arg2))) (ix3 (sq t) i b)
  · rw [Cert.InProjRefIdeal.At.CS_at]
    exact (pt_16 m c t i b).trans (congrArg (fun i => Cert.InProjRefIdeal.At.u (m ((c : Thread nD τ).loc main_arg0)) (m ((c : Thread nD τ).loc main_arg1)) (m ((c : Thread nD τ).loc main_arg2)) (sq t) i b) (Fin.ext (by simp only [tm]; omega)))
  · blk_ext [idx t, sq, tm]

end Cert.InProjIdeal.Val

end

end
-- ==== Proof.InStepAt.lean ====
/- What the step reference's results are at one index, as functions of numbers. -/
module

public import proofs.«01_k».proof.Proof.Rows
public import proofs.«01_k».proof.Proof.Gen.InStepRefIdeal.Run

@[expose] public section

set_option maxRecDepth 16384

noncomputable section

open Idealize.ShloMosaic Idealize.ShloMosaic.TcCoe Idealize.SL.Sem
open scoped BigOperators

namespace Cert.InStepRefIdeal.At

open Cert.InStepRefIdeal Cert.InStepRefIdeal.Gen Cert.Rows

/-- The normalised rows. -/
def XN (a0 : FVec Ideal S128x1x1024 .f32) (a1 : FVec Ideal S1x1024 .f32) : FVec Ideal S128x1x1024 .f32 :=
  mulf (mulf a0 (broadcastInDim S128x1x1024 ![0, 1, 2] bcast_S128x1x1_S128x1x1024_0_1_2 (Host.rsqrt (addf (Host.divf (broadcastInDim S128x1x1 ![0, 1] bcast_S128x1_S128x1x1_0_1 (Host.reduceAdd (mulf a0 a0) (constant S_ .f32 0x00000000#32) reducesTo_S128x1x1024_S128x1_d2 h_S_)) (broadcastInDim S128x1x1 ![] bcast_S_S128x1x1 (constant S_ .f32 0x44800000#32))) (broadcastInDim S128x1x1 ![] bcast_S_S128x1x1 (constant S_ .f32 0x358637BD#32)))))) (broadcastInDim S128x1x1024 ![0, 1, 2] bcast_S1x1x1024_S128x1x1024_0_1_2 (broadcastInDim S1x1x1024 ![2] bcast_S1024_S1x1x1024_2 (shapeCast _ a1 shapeCasts_S1x1024_S1024)))

/-- The rows against the whole weight matrix. -/
def PJ (a0 : FVec Ideal S128x1x1024 .f32) (a1 : FVec Ideal S1x1024 .f32) (a2 : FVec Ideal S1x1024x5120 .f32) : FVec Ideal S128x1x5120 .f32 :=
  Host.dotGeneral dot_S128x1x1024_S1024x5120_S128x1x5120_2_0_01_1_n_n none (XN a0 a1) (shapeCast _ a2 shapeCasts_S1x1024x5120_S1024x5120)

/-- The queries. -/
def Q (a0 : FVec Ideal S128x1x1024 .f32) (a1 : FVec Ideal S1x1024 .f32) (a2 : FVec Ideal S1x1024x5120 .f32) (a3 : FVec Ideal S1x64 .f32) : FVec Ideal S128x512 .f32 :=
  shapeCast _ (mulf (mulf (mulf (shapeCast _ (extractStridedSlice S128x1x512 ![0, 0, 0] (PJ a0 a1 a2) slices_S128x1x5120_S128x1x512_0_0_0) shapeCasts_S128x1x512_S128x1x8x64) (broadcastInDim S128x1x8x64 ![0, 1, 2, 3] bcast_S128x1x8x1_S128x1x8x64_0_1_2_3 (Host.rsqrt (addf (Host.divf (broadcastInDim S128x1x8x1 ![0, 1, 2] bcast_S128x1x8_S128x1x8x1_0_1_2 (Host.reduceAdd (mulf (shapeCast _ (extractStridedSlice S128x1x512 ![0, 0, 0] (PJ a0 a1 a2) slices_S128x1x5120_S128x1x512_0_0_0) shapeCasts_S128x1x512_S128x1x8x64) (shapeCast _ (extractStridedSlice S128x1x512 ![0, 0, 0] (PJ a0 a1 a2) slices_S128x1x5120_S128x1x512_0_0_0) shapeCasts_S128x1x512_S128x1x8x64)) (constant S_ .f32 0x00000000#32) reducesTo_S128x1x8x64_S128x1x8_d3 h_S_)) (broadcastInDim S128x1x8x1 ![] bcast_S_S128x1x8x1 (constant S_ .f32 0x42800000#32))) (broadcastInDim S128x1x8x1 ![] bcast_S_S128x1x8x1 (constant S_ .f32 0x358637BD#32)))))) (broadcastInDim S128x1x8x64 ![0, 1, 2, 3] bcast_S1x1x1x64_S128x1x8x64_0_1_2_3 (broadcastInDim S1x1x1x64 ![3] bcast_S64_S1x1x1x64_3 (shapeCast _ a3 shapeCasts_S1x64_S64)))) (broadcastInDim S128x1x8x64 ![] bcast_S_S128x1x8x64 (constant S_ .f32 0x3E000000#32))) shapeCasts_S128x1x8x64_S128x512

/-- The keys. -/
def K (a0 : FVec Ideal S128x1x1024 .f32) (a1 : FVec Ideal S1x1024 .f32) (a2 : FVec Ideal S1x1024x5120 .f32) (a4 : FVec Ideal S1x64 .f32) : FVec Ideal S128x512 .f32 :=
  shapeCast _ (mulf (mulf (shapeCast _ (extractStridedSlice S128x1x512 ![0, 0, 512] (PJ a0 a1 a2) slices_S128x1x5120_S128x1x512_0_0_512) shapeCasts_S128x1x512_S128x1x8x64) (broadcastInDim S128x1x8x64 ![0, 1, 2, 3] bcast_S128x1x8x1_S128x1x8x64_0_1_2_3 (Host.rsqrt (addf (Host.divf (broadcastInDim S128x1x8x1 ![0, 1, 2] bcast_S128x1x8_S128x1x8x1_0_1_2 (Host.reduceAdd (mulf (shapeCast _ (extractStridedSlice S128x1x512 ![0, 0, 512] (PJ a0 a1 a2) slices_S128x1x5120_S128x1x512_0_0_512) shapeCasts_S128x1x512_S128x1x8x64) (shapeCast _ (extractStridedSlice S128x1x512 ![0, 0, 512] (PJ a0 a1 a2) slices_S128x1x5120_S128x1x512_0_0_512) shapeCasts_S128x1x512_S128x1x8x64)) (constant S_ .f32 0x00000000#32) reducesTo_S128x1x8x64_S128x1x8_d3 h_S_)) (broadcastInDim S128x1x8x1 ![] bcast_S_S128x1x8x1 (constant S_ .f32 0x42800000#32))) (broadcastInDim S128x1x8x1 ![] bcast_S_S128x1x8x1 (constant S_ .f32 0x358637BD#32)))))) (broadcastInDim S128x1x8x64 ![0, 1, 2, 3] bcast_S1x1x1x64_S128x1x8x64_0_1_2_3 (broadcastInDim S1x1x1x64 ![3] bcast_S64_S1x1x1x64_3 (shapeCast _ a4 shapeCasts_S1x64_S64)))) shapeCasts_S128x1x8x64_S128x512

/-- The values. -/
def V (a0 : FVec Ideal S128x1x1024 .f32) (a1 : FVec Ideal S1x1024 .f32) (a2 : FVec Ideal S1x1024x5120 .f32) : FVec Ideal S128x512 .f32 :=
  shapeCast _ (shapeCast _ (extractStridedSlice S128x1x512 ![0, 0, 1024] (PJ a0 a1 a2) slices_S128x1x5120_S128x1x512_0_0_1024) shapeCasts_S128x1x512_S128x1x8x64) shapeCasts_S128x1x8x64_S128x512

/-- The rows that enter the convolution, with their time axis. -/
def W (a0 : FVec Ideal S128x1x1024 .f32) (a1 : FVec Ideal S1x1024 .f32) (a2 : FVec Ideal S1x1024x5120 .f32) : FVec Ideal S128x1x512 .f32 :=
  mulf (extractStridedSlice S128x1x512 ![0, 0, 2048] (PJ a0 a1 a2) slices_S128x1x5120_S128x1x512_0_0_2048) (extractStridedSlice S128x1x512 ![0, 0, 2560] (PJ a0 a1 a2) slices_S128x1x5120_S128x1x512_0_0_2560)

/-- The state followed by the new row. -/
def CC (a0 : FVec Ideal S128x1x1024 .f32) (a1 : FVec Ideal S1x1024 .f32) (a2 : FVec Ideal S1x1024x5120 .f32) (a6 : FVec Ideal S1x128x2x512 .f32) : FVec Ideal S128x3x512 .f32 :=
  concatenate S128x3x512 1 [⟨S128x2x512, (shapeCast _ a6 shapeCasts_S1x128x2x512_S128x2x512)⟩, ⟨S128x1x512, (W a0 a1 a2)⟩] concatenates_S128x2x512_S128x1x512_S128x3x512_d1

/-- The convolved branch. -/
def S (a0 : FVec Ideal S128x1x1024 .f32) (a1 : FVec Ideal S1x1024 .f32) (a2 : FVec Ideal S1x1024x5120 .f32) (a5 : FVec Ideal S1x3x512 .f32) (a6 : FVec Ideal S1x128x2x512 .f32) : FVec Ideal S128x512 .bf16 :=
  truncf .bf16 (shapeCast _ (mulf (extractStridedSlice S128x1x512 ![0, 0, 1536] (PJ a0 a1 a2) slices_S128x1x5120_S128x1x512_0_0_1536) (addf (addf (mulf (extractStridedSlice S128x1x512 ![0, 0, 0] (CC a0 a1 a2 a6) slices_S128x3x512_S128x1x512_0_0_0) (broadcastInDim S128x1x512 ![0, 1, 2] bcast_S1x1x512_S128x1x512_0_1_2 (broadcastInDim S1x1x512 ![2] bcast_S512_S1x1x512_2 (shapeCast _ (extractStridedSlice S1x512 ![0, 0] (shapeCast _ a5 shapeCasts_S1x3x512_S3x512) slices_S3x512_S1x512_0_0) shapeCasts_S1x512_S512)))) (mulf (extractStridedSlice S128x1x512 ![0, 1, 0] (CC a0 a1 a2 a6) slices_S128x3x512_S128x1x512_0_1_0) (broadcastInDim S128x1x512 ![0, 1, 2] bcast_S1x1x512_S128x1x512_0_1_2 (broadcastInDim S1x1x512 ![2] bcast_S512_S1x1x512_2 (shapeCast _ (extractStridedSlice S1x512 ![1, 0] (shapeCast _ a5 shapeCasts_S1x3x512_S3x512) slices_S3x512_S1x512_1_0) shapeCasts_S1x512_S512))))) (mulf (extractStridedSlice S128x1x512 ![0, 2, 0] (CC a0 a1 a2 a6) slices_S128x3x512_S128x1x512_0_2_0) (broadcastInDim S128x1x512 ![0, 1, 2] bcast_S1x1x512_S128x1x512_0_1_2 (broadcastInDim S1x1x512 ![2] bcast_S512_S1x1x512_2 (shapeCast _ (extractStridedSlice S1x512 ![2, 0] (shapeCast _ a5 shapeCasts_S1x3x512_S3x512) slices_S3x512_S1x512_2_0) shapeCasts_S1x512_S512)))))) shapeCasts_S128x1x512_S128x512) bitsLt_bf16_f32

/-- The first gate. -/
def GA (a0 : FVec Ideal S128x1x1024 .f32) (a1 : FVec Ideal S1x1024 .f32) (a2 : FVec Ideal S1x1024x5120 .f32) : FVec Ideal S128x1024 .bf16 :=
  truncf .bf16 (shapeCast _ (extractStridedSlice S128x1x1024 ![0, 0, 3072] (PJ a0 a1 a2) slices_S128x1x5120_S128x1x1024_0_0_3072) shapeCasts_S128x1x1024_S128x1024) bitsLt_bf16_f32

/-- The second gate. -/
def GB (a0 : FVec Ideal S128x1x1024 .f32) (a1 : FVec Ideal S1x1024 .f32) (a2 : FVec Ideal S1x1024x5120 .f32) : FVec Ideal S128x1024 .bf16 :=
  truncf .bf16 (shapeCast _ (extractStridedSlice S128x1x1024 ![0, 0, 4096] (PJ a0 a1 a2) slices_S128x1x5120_S128x1x1024_0_0_4096) shapeCasts_S128x1x1024_S128x1024) bitsLt_bf16_f32

/-- The rows that enter the convolution. -/
def U (a0 : FVec Ideal S128x1x1024 .f32) (a1 : FVec Ideal S1x1024 .f32) (a2 : FVec Ideal S1x1024x5120 .f32) : FVec Ideal S128x512 .f32 :=
  shapeCast _ (mulf (extractStridedSlice S128x1x512 ![0, 0, 2048] (PJ a0 a1 a2) slices_S128x1x5120_S128x1x512_0_0_2048) (extractStridedSlice S128x1x512 ![0, 0, 2560] (PJ a0 a1 a2) slices_S128x1x5120_S128x1x512_0_0_2560)) shapeCasts_S128x1x512_S128x512

variable (a0 : FVec Ideal S128x1x1024 .f32) (a1 : FVec Ideal S1x1024 .f32) (a2 : FVec Ideal S1x1024x5120 .f32)
variable (a3 a4 : FVec Ideal S1x64 .f32) (a5 : FVec Ideal S1x3x512 .f32) (a6 : FVec Ideal S1x128x2x512 .f32)

/-- Row `r` against column `c`. -/
def p (r : Fin 128) (c : Fin 5120) : EReal :=
  pr (fun k => a0 (ix3 r 0 k)) (fun k => a1 (ix2 0 k)) (fun k => a2 (ix3 0 k c))

theorem PJ_at (r : Fin 128) (c : Fin 5120) : PJ a0 a1 a2 (ix3 r 0 c) = p a0 a1 a2 r c := by
  pointwise [PJ, XN, p, pr, rms]

theorem Q_at (r : Fin 128) (c : Fin 512) : Q a0 a1 a2 a3 (ix2 r c)
    = hd (fun j => p a0 a1 a2 r ⟨0 + j.val, by omega⟩) c * a3 (ix2 0 ⟨c.val % 64, by omega⟩) * Ideal.ofBits .f32 0x3E000000#32 := by
  pointwise [Q, hd, lane, ← PJ_at]

theorem K_at (r : Fin 128) (c : Fin 512) : K a0 a1 a2 a4 (ix2 r c)
    = hd (fun j => p a0 a1 a2 r ⟨512 + j.val, by omega⟩) c * a4 (ix2 0 ⟨c.val % 64, by omega⟩) := by
  pointwise [K, hd, lane, ← PJ_at]

theorem GA_at (r : Fin 128) (c : Fin 1024) : GA a0 a1 a2 (ix2 r c) = p a0 a1 a2 r ⟨3072 + c.val, by omega⟩ := by
  pointwise [GA, ← PJ_at]

theorem GB_at (r : Fin 128) (c : Fin 1024) : GB a0 a1 a2 (ix2 r c) = p a0 a1 a2 r ⟨4096 + c.val, by omega⟩ := by
  pointwise [GB, ← PJ_at]

theorem U_at (r : Fin 128) (c : Fin 512) : U a0 a1 a2 (ix2 r c)
    = p a0 a1 a2 r ⟨2048 + c.val, by omega⟩ * p a0 a1 a2 r ⟨2560 + c.val, by omega⟩ := by
  pointwise [U, W, ← PJ_at]

theorem V_at (r : Fin 128) (c : Fin 512) : V a0 a1 a2 (ix2 r c) = p a0 a1 a2 r ⟨1024 + c.val, by omega⟩ := by
  pointwise [V, ← PJ_at]

theorem S_at (r : Fin 128) (c : Fin 512) : S a0 a1 a2 a5 a6 (ix2 r c) = p a0 a1 a2 r ⟨1536 + c.val, by omega⟩ *
     (a6 (ix4 0 r 0 c) * a5 (ix3 0 0 c) + a6 (ix4 0 r 1 c) * a5 (ix3 0 1 c) + (p a0 a1 a2 r ⟨2048 + c.val, by omega⟩ * p a0 a1 a2 r ⟨2560 + c.val, by omega⟩) * a5 (ix3 0 2 c)) := by
  pointwise [S, CC, W, ← PJ_at]

end Cert.InStepRefIdeal.At

end

end
-- ==== Proof.InStep.lean ====
/- The step call of the in-projection: what its results hold after the run, index by index, is what the reference's
   results hold. -/
module

public import proofs.«01_k».proof.Proof.InStepAt
public import proofs.«01_k».proof.Proof.Gen.InStepIdeal.Frame
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)
open scoped BigOperators

namespace Cert.InStepIdeal.Pure

open Cert.InStepIdeal Cert.InStepIdeal.Gen Cert.Rows

/-- The row that normalises to the payloads' common operand. -/
theorem xn_at (x : FVec Ideal S128x1024 .f32) (n : FVec Ideal S1x1024 .f32) (r : Fin 128) (k : Fin 1024) :
    k0_pay2 (F := Ideal) x n (ix2 r k) = rms (fun k => x (ix2 r k)) (fun k => n (ix2 0 k)) k := by
  pointwise [k0_pay2, rms]

/-- The block matrix holds one sixty-fourth where its two lanes belong to one head. -/
def Blocks (bd : FVec Ideal S256x256 .bf16) : Prop :=
  ∀ a b : Fin 256, bd (ix2 a b) = if a.val / 64 = b.val / 64 then Ideal.ofBits .f32 0x3C800000#32 else 0

/-- Two products with the block matrix, side by side, are the means over the heads. -/
theorem mean_at (f : Fin 512 → EReal) (bd : FVec Ideal S256x256 .bf16) (hb : Blocks bd) (c : Fin 512) :
    (if h : c.val < 256 then ∑ k : Fin 256, (f ⟨k.val, by omega⟩ * f ⟨k.val, by omega⟩) * bd (ix2 k ⟨c.val, h⟩)
      else ∑ k : Fin 256, (f ⟨256 + k.val, by omega⟩ * f ⟨256 + k.val, by omega⟩) * bd (ix2 k ⟨c.val - 256, by omega⟩))
      = Ideal.div (∑ d, f (lane c d) * f (lane c d)) (Ideal.ofBits .f32 0x42800000#32) := by
  unfold Blocks at hb
  split
  · rename_i h
    simp only [hb]
    rw [mean_block (fun k => f ⟨k.val, by omega⟩ * f ⟨k.val, by omega⟩) (fun _ => sq_nonneg' _) ⟨c.val, h⟩]
    rfl
  · rename_i h
    simp only [hb]
    rw [mean_block (fun k => f ⟨256 + k.val, by omega⟩ * f ⟨256 + k.val, by omega⟩) (fun _ => sq_nonneg' _) ⟨c.val - 256, by omega⟩]
    congr 1
    refine Finset.sum_congr rfl fun d _ => ?_
    have e : (⟨256 + ((c.val - 256) / 64 * 64 + d.val), by omega⟩ : Fin 512) = lane c d := Fin.ext (by simp only [lane]; omega)
    simp only [e]

/-- The normalisation inside a head, its mean taken by the block matrix. -/
theorem hd_blocks (f : Fin 512 → EReal) (bd : FVec Ideal S256x256 .bf16) (hb : Blocks bd) (c : Fin 512) :
    hd f c = f c * Ideal.rsqrt
      ((if h : c.val < 256 then ∑ k : Fin 256, (f ⟨k.val, by omega⟩ * f ⟨k.val, by omega⟩) * bd (ix2 k ⟨c.val, h⟩)
      else ∑ k : Fin 256, (f ⟨256 + k.val, by omega⟩ * f ⟨256 + k.val, by omega⟩) * bd (ix2 k ⟨c.val - 256, by omega⟩))
        + Ideal.ofBits .f32 0x358637BD#32) := by
  unfold hd
  rw [mean_at f bd hb c]

theorem Q_pay (x : FVec Ideal S128x1024 .f32) (n : FVec Ideal S1x1024 .f32) (w : FVec Ideal S1024x512 .bf16)
    (qn : FVec Ideal S1x512 .f32) (bd : FVec Ideal S256x256 .bf16) (hb : Blocks bd) (r : Fin 128) (c : Fin 512) :
    k0_pay3 (F := Ideal) x n w qn bd (ix2 r c)
      = hd (fun j => pr (fun k => x (ix2 r k)) (fun k => n (ix2 0 k)) (fun k => w (ix2 k j))) c * qn (ix2 0 c)
          * Ideal.ofBits .f32 0x3E000000#32 := by
  pointwise [k0_pay3]
  simp only [xn_at]
  rw [hd_blocks _ bd hb c]
  rfl

theorem K_pay (x : FVec Ideal S128x1024 .f32) (n : FVec Ideal S1x1024 .f32) (w : FVec Ideal S1024x512 .bf16)
    (kn : FVec Ideal S1x512 .f32) (bd : FVec Ideal S256x256 .bf16) (hb : Blocks bd) (r : Fin 128) (c : Fin 512) :
    k0_pay4 (F := Ideal) (k0_pay2 x n) w kn bd (ix2 r c)
      = hd (fun j => pr (fun k => x (ix2 r k)) (fun k => n (ix2 0 k)) (fun k => w (ix2 k j))) c * kn (ix2 0 c) := by
  pointwise [k0_pay4]
  simp only [xn_at]
  rw [hd_blocks _ bd hb c]
  rfl

theorem V_pay (x : FVec Ideal S128x1024 .f32) (n : FVec Ideal S1x1024 .f32) (w : FVec Ideal S1024x512 .bf16) (r : Fin 128)
    (c : Fin 512) :
    k0_pay5 (F := Ideal) (k0_pay2 x n) w (ix2 r c) = pr (fun k => x (ix2 r k)) (fun k => n (ix2 0 k)) (fun k => w (ix2 k c)) := by
  pointwise [k0_pay5, k0_pay2, pr, rms]

theorem G_pay (x : FVec Ideal S128x1024 .f32) (n : FVec Ideal S1x1024 .f32) (w : FVec Ideal S1024x1024 .bf16) (r : Fin 128)
    (c : Fin 1024) :
    k0_pay8 (F := Ideal) (k0_pay2 x n) w (ix2 r c) = pr (fun k => x (ix2 r k)) (fun k => n (ix2 0 k)) (fun k => w (ix2 k c)) := by
  pointwise [k0_pay8, k0_pay2, pr, rms]

theorem H_pay (x : FVec Ideal S128x1024 .f32) (n : FVec Ideal S1x1024 .f32) (w : FVec Ideal S1024x1024 .bf16) (r : Fin 128)
    (c : Fin 1024) :
    k0_pay9 (F := Ideal) (k0_pay2 x n) w (ix2 r c) = pr (fun k => x (ix2 r k)) (fun k => n (ix2 0 k)) (fun k => w (ix2 k c)) := by
  pointwise [k0_pay9, k0_pay2, pr, rms]

theorem U_pay (x : FVec Ideal S128x1024 .f32) (n : FVec Ideal S1x1024 .f32) (w w' : FVec Ideal S1024x512 .bf16) (r : Fin 128)
    (c : Fin 512) :
    k0_pay7 (F := Ideal) (k0_pay2 x n) w w' (ix2 r c)
      = pr (fun k => x (ix2 r k)) (fun k => n (ix2 0 k)) (fun k => w (ix2 k c))
        * pr (fun k => x (ix2 r k)) (fun k => n (ix2 0 k)) (fun k => w' (ix2 k c)) := by
  pointwise [k0_pay7, k0_pay2, pr, rms]

theorem S_pay (x : FVec Ideal S128x1024 .f32) (n : FVec Ideal S1x1024 .f32) (w1 w2 w3 : FVec Ideal S1024x512 .bf16)
    (f0 f1 f2 : FVec Ideal S1x512 .f32) (s0 s1 : FVec Ideal S128x512 .f32) (r : Fin 128) (c : Fin 512) :
    k0_pay1 (F := Ideal) (k0_pay10 (k0_pay6 (k0_pay2 x n) w1) (k0_pay7 (k0_pay2 x n) w2 w3) f0 f1 f2 s0 s1) (ix2 r c)
      = pr (fun k => x (ix2 r k)) (fun k => n (ix2 0 k)) (fun k => w1 (ix2 k c))
        * (s0 (ix2 r c) * f0 (ix2 0 c) + s1 (ix2 r c) * f1 (ix2 0 c)
          + pr (fun k => x (ix2 r k)) (fun k => n (ix2 0 k)) (fun k => w2 (ix2 k c))
            * pr (fun k => x (ix2 r k)) (fun k => n (ix2 0 k)) (fun k => w3 (ix2 k c)) * f2 (ix2 0 c)) := by
  pointwise [k0_pay1, k0_pay10, k0_pay6, k0_pay7, k0_pay2, pr, rms]

/-- The weight matrix's slab of one layer. -/
theorem wcast (a : FVec Ideal S1x1024x5120 .f32) (k : Fin 1024) (j : Fin 5120) :
    (truncf .bf16 (shapeCast S1024x5120 a shapeCasts_S1x1024x5120_S1024x5120) bitsLt_bf16_f32 : FVec Ideal S1024x5120 .bf16) (ix2 k j)
      = a (ix3 0 k j) := by
  pointwise []

open Cert.InStepRefIdeal (At.Q At.K At.V At.S At.GA At.GB At.U At.p At.Q_at At.K_at At.V_at At.S_at At.GA_at At.GB_at At.U_at)

theorem Q_eq (x : FVec Ideal S128x1024 .f32) (n : FVec Ideal S1x1024 .f32)
    (a0 : FVec Ideal Cert.InStepRefIdeal.S128x1x1024 .f32) (a1 : FVec Ideal Cert.InStepRefIdeal.S1x1024 .f32)
    (a2 : FVec Ideal Cert.InStepRefIdeal.S1x1024x5120 .f32)
    (hx : ∀ r k, x (ix2 r k) = a0 (ix3 r 0 k)) (hn : ∀ k, n (ix2 0 k) = a1 (ix2 0 k))
    (w : FVec Ideal S1024x512 .bf16) (hw : ∀ (k : Fin 1024) (j : Fin 512), w (ix2 k j) = a2 (ix3 0 k ⟨0 + j.val, by omega⟩))
    (qn : FVec Ideal S1x512 .f32) (a3 : FVec Ideal Cert.InStepRefIdeal.S1x64 .f32) (hq : ∀ b : Fin 512, qn (ix2 0 b) = a3 (ix2 0 ⟨b.val % 64, by omega⟩))
    (bd : FVec Ideal S256x256 .bf16) (hb : Blocks bd) (r : Fin 128) (c : Fin 512) :
    k0_pay3 (F := Ideal) x n w qn bd (ix2 r c) = At.Q a0 a1 a2 a3 (ix2 r c) := by
  rw [Q_pay _ _ _ _ _ hb, At.Q_at]; simp only [hx, hn, hw, hq, At.p]

theorem K_eq (x : FVec Ideal S128x1024 .f32) (n : FVec Ideal S1x1024 .f32)
    (a0 : FVec Ideal Cert.InStepRefIdeal.S128x1x1024 .f32) (a1 : FVec Ideal Cert.InStepRefIdeal.S1x1024 .f32)
    (a2 : FVec Ideal Cert.InStepRefIdeal.S1x1024x5120 .f32)
    (hx : ∀ r k, x (ix2 r k) = a0 (ix3 r 0 k)) (hn : ∀ k, n (ix2 0 k) = a1 (ix2 0 k))
    (w : FVec Ideal S1024x512 .bf16) (hw : ∀ (k : Fin 1024) (j : Fin 512), w (ix2 k j) = a2 (ix3 0 k ⟨512 + j.val, by omega⟩))
    (qn : FVec Ideal S1x512 .f32) (a3 : FVec Ideal Cert.InStepRefIdeal.S1x64 .f32) (hq : ∀ b : Fin 512, qn (ix2 0 b) = a3 (ix2 0 ⟨b.val % 64, by omega⟩))
    (bd : FVec Ideal S256x256 .bf16) (hb : Blocks bd) (r : Fin 128) (c : Fin 512) :
    k0_pay4 (F := Ideal) (k0_pay2 x n) w qn bd (ix2 r c) = At.K a0 a1 a2 a3 (ix2 r c) := by
  rw [K_pay _ _ _ _ _ hb, At.K_at]; simp only [hx, hn, hw, hq, At.p]

theorem V_eq (x : FVec Ideal S128x1024 .f32) (n : FVec Ideal S1x1024 .f32)
    (a0 : FVec Ideal Cert.InStepRefIdeal.S128x1x1024 .f32) (a1 : FVec Ideal Cert.InStepRefIdeal.S1x1024 .f32)
    (a2 : FVec Ideal Cert.InStepRefIdeal.S1x1024x5120 .f32)
    (hx : ∀ r k, x (ix2 r k) = a0 (ix3 r 0 k)) (hn : ∀ k, n (ix2 0 k) = a1 (ix2 0 k))
    (w : FVec Ideal S1024x512 .bf16) (hw : ∀ (k : Fin 1024) (j : Fin 512), w (ix2 k j) = a2 (ix3 0 k ⟨1024 + j.val, by omega⟩)) (r : Fin 128) (c : Fin 512) :
    k0_pay5 (F := Ideal) (k0_pay2 x n) w (ix2 r c) = At.V a0 a1 a2 (ix2 r c) := by
  rw [V_pay, At.V_at]; simp only [hx, hn, hw, At.p]

theorem GA_eq (x : FVec Ideal S128x1024 .f32) (n : FVec Ideal S1x1024 .f32)
    (a0 : FVec Ideal Cert.InStepRefIdeal.S128x1x1024 .f32) (a1 : FVec Ideal Cert.InStepRefIdeal.S1x1024 .f32)
    (a2 : FVec Ideal Cert.InStepRefIdeal.S1x1024x5120 .f32)
    (hx : ∀ r k, x (ix2 r k) = a0 (ix3 r 0 k)) (hn : ∀ k, n (ix2 0 k) = a1 (ix2 0 k))
    (w : FVec Ideal S1024x1024 .bf16) (hw : ∀ (k : Fin 1024) (j : Fin 1024), w (ix2 k j) = a2 (ix3 0 k ⟨3072 + j.val, by omega⟩)) (r : Fin 128) (c : Fin 1024) :
    k0_pay8 (F := Ideal) (k0_pay2 x n) w (ix2 r c) = At.GA a0 a1 a2 (ix2 r c) := by
  rw [G_pay, At.GA_at]; simp only [hx, hn, hw, At.p]

theorem GB_eq (x : FVec Ideal S128x1024 .f32) (n : FVec Ideal S1x1024 .f32)
    (a0 : FVec Ideal Cert.InStepRefIdeal.S128x1x1024 .f32) (a1 : FVec Ideal Cert.InStepRefIdeal.S1x1024 .f32)
    (a2 : FVec Ideal Cert.InStepRefIdeal.S1x1024x5120 .f32)
    (hx : ∀ r k, x (ix2 r k) = a0 (ix3 r 0 k)) (hn : ∀ k, n (ix2 0 k) = a1 (ix2 0 k))
    (w : FVec Ideal S1024x1024 .bf16) (hw : ∀ (k : Fin 1024) (j : Fin 1024), w (ix2 k j) = a2 (ix3 0 k ⟨4096 + j.val, by omega⟩)) (r : Fin 128) (c : Fin 1024) :
    k0_pay9 (F := Ideal) (k0_pay2 x n) w (ix2 r c) = At.GB a0 a1 a2 (ix2 r c) := by
  rw [H_pay, At.GB_at]; simp only [hx, hn, hw, At.p]

theorem U_eq (x : FVec Ideal S128x1024 .f32) (n : FVec Ideal S1x1024 .f32)
    (a0 : FVec Ideal Cert.InStepRefIdeal.S128x1x1024 .f32) (a1 : FVec Ideal Cert.InStepRefIdeal.S1x1024 .f32)
    (a2 : FVec Ideal Cert.InStepRefIdeal.S1x1024x5120 .f32)
    (hx : ∀ r k, x (ix2 r k) = a0 (ix3 r 0 k)) (hn : ∀ k, n (ix2 0 k) = a1 (ix2 0 k))
    (w w' : FVec Ideal S1024x512 .bf16) (hw : ∀ (k : Fin 1024) (j : Fin 512), w (ix2 k j) = a2 (ix3 0 k ⟨2048 + j.val, by omega⟩)) (hw' : ∀ (k : Fin 1024) (j : Fin 512), w' (ix2 k j) = a2 (ix3 0 k ⟨2560 + j.val, by omega⟩)) (r : Fin 128) (c : Fin 512) :
    k0_pay7 (F := Ideal) (k0_pay2 x n) w w' (ix2 r c) = At.U a0 a1 a2 (ix2 r c) := by
  rw [U_pay, At.U_at]; simp only [hx, hn, hw, hw', At.p]

theorem S_eq (x : FVec Ideal S128x1024 .f32) (n : FVec Ideal S1x1024 .f32)
    (a0 : FVec Ideal Cert.InStepRefIdeal.S128x1x1024 .f32) (a1 : FVec Ideal Cert.InStepRefIdeal.S1x1024 .f32)
    (a2 : FVec Ideal Cert.InStepRefIdeal.S1x1024x5120 .f32)
    (hx : ∀ r k, x (ix2 r k) = a0 (ix3 r 0 k)) (hn : ∀ k, n (ix2 0 k) = a1 (ix2 0 k))
    (w1 w2 w3 : FVec Ideal S1024x512 .bf16) (hw1 : ∀ (k : Fin 1024) (j : Fin 512), w1 (ix2 k j) = a2 (ix3 0 k ⟨1536 + j.val, by omega⟩)) (hw2 : ∀ (k : Fin 1024) (j : Fin 512), w2 (ix2 k j) = a2 (ix3 0 k ⟨2048 + j.val, by omega⟩)) (hw3 : ∀ (k : Fin 1024) (j : Fin 512), w3 (ix2 k j) = a2 (ix3 0 k ⟨2560 + j.val, by omega⟩))
    (f0 f1 f2 : FVec Ideal S1x512 .f32) (s0 s1 : FVec Ideal S128x512 .f32)
    (a5 : FVec Ideal Cert.InStepRefIdeal.S1x3x512 .f32) (a6 : FVec Ideal Cert.InStepRefIdeal.S1x128x2x512 .f32)
    (hf0 : ∀ b, f0 (ix2 0 b) = a5 (ix3 0 0 b)) (hf1 : ∀ b, f1 (ix2 0 b) = a5 (ix3 0 1 b)) (hf2 : ∀ b, f2 (ix2 0 b) = a5 (ix3 0 2 b))
    (hs0 : ∀ r b, s0 (ix2 r b) = a6 (ix4 0 r 0 b)) (hs1 : ∀ r b, s1 (ix2 r b) = a6 (ix4 0 r 1 b)) (r : Fin 128) (c : Fin 512) :
    k0_pay1 (F := Ideal) (k0_pay10 (k0_pay6 (k0_pay2 x n) w1) (k0_pay7 (k0_pay2 x n) w2 w3) f0 f1 f2 s0 s1) (ix2 r c)
      = At.S a0 a1 a2 a5 a6 (ix2 r c) := by
  rw [S_pay, At.S_at]; simp only [hx, hn, hw1, hw2, hw3, hf0, hf1, hf2, hs0, hs1, At.p]

end Cert.InStepIdeal.Pure

namespace Cert.InStepIdeal.Val

open Cert.InStepIdeal Cert.InStepIdeal.Gen Cert.Rows Cert.InStepIdeal.Pure

variable (m : (ℓ : Loc nD τ sig) → Buf (Elt Ideal) ℓ)

theorem idx : ∀ t : Fin cfg0.N, win0_0.index t = ![0, 0]
    ∧ win0_1.index t = ![0, 0]
    ∧ win0_2.index t = ![0, 0]
    ∧ win0_3.index t = ![0, 0]
    ∧ win0_4.index t = ![0, 0]
    ∧ win0_5.index t = ![0, 0]
    ∧ win0_6.index t = ![0, 0]
    ∧ win0_7.index t = ![0, 0]
    ∧ win0_8.index t = ![0, 0]
    ∧ win0_9.index t = ![0, 0]
    ∧ win0_10.index t = ![0, 0]
    ∧ win0_11.index t = ![0, 0]
    ∧ win0_12.index t = ![0, 0]
    ∧ win0_13.index t = ![0, 0]
    ∧ win0_14.index t = ![0, 0]
    ∧ win0_15.index t = ![0, 0] :=
  (by decide +kernel : ∀ t : Fin grid0.N, _)

/-- The host's quotients of lane numbers by the head width, compared as words. -/
theorem same_head : ∀ a b : Fin 256,
    IntOp.cmpi CmpIPredicate.eq (IntOp.divsi ArithUnit.host (BitVec.ofNat 32 a.val) 64#32)
      (IntOp.divsi ArithUnit.host (BitVec.ofNat 32 b.val) 64#32) = if a.val / 64 = b.val / 64 then 1#1 else 0#1 := by
  have key : ∀ a : Fin 256, IntOp.divsi ArithUnit.host (BitVec.ofNat 32 a.val) 64#32 = BitVec.ofNat 32 (a.val / 64) := by
    decide +kernel
  have cmp : ∀ a b : Fin 4, IntOp.cmpi CmpIPredicate.eq (BitVec.ofNat 32 a.val) (BitVec.ofNat 32 b.val)
      = if a.val = b.val then 1#1 else 0#1 := by decide +kernel
  intro a b
  rw [key, key]
  exact cmp ⟨a.val / 64, by omega⟩ ⟨b.val / 64, by omega⟩

theorem bd_at (c : Dev nD) (a b : Fin 256) :
    (show FVec Ideal S256x256 .bf16 from V m c main_v22) (ix2 a b)
      = if a.val / 64 = b.val / 64 then Ideal.ofBits .f32 0x3C800000#32 else 0 := by
  show StableHlo.after _ _ _ _ = _
  simp only [List.flatten_cons, List.flatten_nil, List.append_nil, hostOps0, hostOps0_1, hostOps0_2, List.cons_append,
    List.nil_append]
  entry_read
  show (select (cmpi CmpIPredicate.eq
            (Host.divsi (iotaInDim S256x256 32 0)
              (broadcastInDim S256x256 ![] bcast_S_S256x256 (constantI S_ 32 64#32)))
            (Host.divsi (iotaInDim S256x256 32 1)
              (broadcastInDim S256x256 ![] bcast_S_S256x256 (constantI S_ 32 64#32))))
       (broadcastInDim S256x256 ![] bcast_S_S256x256 (constant S_ FTy.f32 1015021568#32))
       (broadcastInDim S256x256 ![] bcast_S_S256x256 (constant S_ FTy.f32 0#32)) : FVec Ideal S256x256 .f32) (ix2 a b) = _
  pointwise []
  rw [same_head]
  by_cases h : a.val / 64 = b.val / 64
  · rw [if_pos h, if_pos h]; rfl
  · rw [if_neg h, if_neg h]; rfl

theorem blocks (c : Dev nD) (t : Fin cfg0.N) : Blocks (iblk m c 5 t) := by
  intro a b
  rw [← bd_at m c a b]
  blk_ext [iblk, idx t]

theorem x_at (c : Dev nD) (t : Fin cfg0.N) (r : Fin 128) (k : Fin 1024) :
    (show FVec Ideal S128x1024 .f32 from iblk m c 0 t) (ix2 r k)
      = (show FVec Ideal S128x1x1024 .f32 from m ((c : Thread nD τ).loc main_arg0)) (ix3 r 0 k) := by
  trans (show FVec Ideal S128x1024 .f32 from V m c (Pipeline.arrRef spec0 0)) (ix2 r k)
  · blk_ext [iblk, idx t]
  · show StableHlo.after _ _ _ _ = _
    simp only [List.flatten_cons, List.flatten_nil, List.append_nil, hostOps0, hostOps0_1, hostOps0_2, List.cons_append,
      List.nil_append]
    entry_read
    pointwise []

/-- A host array read whole. -/
theorem n_at (c : Dev nD) (t : Fin cfg0.N) (k : Fin 1024) :
    (show FVec Ideal S1x1024 .f32 from iblk m c 1 t) (ix2 0 k)
      = (show FVec Ideal S1x1024 .f32 from m ((c : Thread nD τ).loc main_arg1)) (ix2 0 k) := by
  trans (show FVec Ideal S1x1024 .f32 from V m c (Pipeline.arrRef spec0 1)) (ix2 0 k)
  · blk_ext [iblk, idx t]
  · show StableHlo.after _ _ _ _ = _
    simp only [List.flatten_cons, List.flatten_nil, List.append_nil, hostOps0, hostOps0_1, hostOps0_2, List.cons_append,
      List.nil_append]
    entry_read
    pointwise []

theorem w_at (c : Dev nD) (t : Fin cfg0.N) (k : Fin 1024) (j : Fin 5120) :
    (show FVec Ideal S1024x5120 .bf16 from iblk m c 2 t) (ix2 k j)
      = (show FVec Ideal S1x1024x5120 .f32 from m ((c : Thread nD τ).loc main_arg2)) (ix3 0 k j) := by
  trans (show FVec Ideal S1024x5120 .bf16 from V m c (Pipeline.arrRef spec0 2)) (ix2 k j)
  · blk_ext [iblk, idx t]
  · show StableHlo.after _ _ _ _ = _
    simp only [List.flatten_cons, List.flatten_nil, List.append_nil, hostOps0, hostOps0_1, hostOps0_2, List.cons_append,
      List.nil_append]
    entry_read
    exact wcast _ k j

theorem qn_at (c : Dev nD) (t : Fin cfg0.N) (b : Fin 512) :
    (show FVec Ideal S1x512 .f32 from iblk m c 3 t) (ix2 0 b)
      = (show FVec Ideal S1x64 .f32 from m ((c : Thread nD τ).loc main_arg3)) (ix2 0 ⟨b.val % 64, by omega⟩) := by
  trans (show FVec Ideal S1x512 .f32 from V m c (Pipeline.arrRef spec0 3)) (ix2 0 b)
  · blk_ext [iblk, idx t]
  · show StableHlo.after _ _ _ _ = _
    simp only [List.flatten_cons, List.flatten_nil, List.append_nil, hostOps0, hostOps0_1, hostOps0_2, List.cons_append,
      List.nil_append]
    entry_read
    pointwise []

theorem kn_at (c : Dev nD) (t : Fin cfg0.N) (b : Fin 512) :
    (show FVec Ideal S1x512 .f32 from iblk m c 4 t) (ix2 0 b)
      = (show FVec Ideal S1x64 .f32 from m ((c : Thread nD τ).loc main_arg4)) (ix2 0 ⟨b.val % 64, by omega⟩) := by
  trans (show FVec Ideal S1x512 .f32 from V m c (Pipeline.arrRef spec0 4)) (ix2 0 b)
  · blk_ext [iblk, idx t]
  · show StableHlo.after _ _ _ _ = _
    simp only [List.flatten_cons, List.flatten_nil, List.append_nil, hostOps0, hostOps0_1, hostOps0_2, List.cons_append,
      List.nil_append]
    entry_read
    pointwise []

theorem f_at (c : Dev nD) (t : Fin cfg0.N) (i : Fin 3) (b : Fin 512) :
    (show FVec Ideal S3x512 .f32 from iblk m c 6 t) (ix2 i b)
      = (show FVec Ideal S1x3x512 .f32 from m ((c : Thread nD τ).loc main_arg5)) (ix3 0 i b) := by
  trans (show FVec Ideal S3x512 .f32 from V m c (Pipeline.arrRef spec0 6)) (ix2 i b)
  · blk_ext [iblk, idx t]
  · show StableHlo.after _ _ _ _ = _
    simp only [List.flatten_cons, List.flatten_nil, List.append_nil, hostOps0, hostOps0_1, hostOps0_2, List.cons_append,
      List.nil_append]
    entry_read
    pointwise []

theorem s0_at (c : Dev nD) (t : Fin cfg0.N) (r : Fin 128) (b : Fin 512) :
    (show FVec Ideal S128x512 .f32 from iblk m c 7 t) (ix2 r b)
      = (show FVec Ideal S1x128x2x512 .f32 from m ((c : Thread nD τ).loc main_arg6)) (ix4 0 r 0 b) := by
  trans (show FVec Ideal S128x512 .f32 from V m c (Pipeline.arrRef spec0 7)) (ix2 r b)
  · blk_ext [iblk, idx t]
  · show StableHlo.after _ _ _ _ = _
    simp only [List.flatten_cons, List.flatten_nil, List.append_nil, hostOps0, hostOps0_1, hostOps0_2, List.cons_append,
      List.nil_append]
    entry_read
    pointwise []

theorem s1_at (c : Dev nD) (t : Fin cfg0.N) (r : Fin 128) (b : Fin 512) :
    (show FVec Ideal S128x512 .f32 from iblk m c 8 t) (ix2 r b)
      = (show FVec Ideal S1x128x2x512 .f32 from m ((c : Thread nD τ).loc main_arg6)) (ix4 0 r 1 b) := by
  trans (show FVec Ideal S128x512 .f32 from V m c (Pipeline.arrRef spec0 8)) (ix2 r b)
  · blk_ext [iblk, idx t]
  · show StableHlo.after _ _ _ _ = _
    simp only [List.flatten_cons, List.flatten_nil, List.append_nil, hostOps0, hostOps0_1, hostOps0_2, List.cons_append,
      List.nil_append]
    entry_read
    pointwise []

/-- Columns of the weight matrix from `o` on, read from the block. -/
theorem slab (c : Dev nD) (t : Fin cfg0.N) (o n : Nat) (h : o + n ≤ 5120) {inb} (k : Fin 1024) (j : Fin n) :
    View.ld (iblk m c 2 t) (Rect.unit (s := S1024x5120) ![0, o] ![1024, n] inb) (ix2 k j)
      = (show FVec Ideal S1x1024x5120 .f32 from m ((c : Thread nD τ).loc main_arg2)) (ix3 0 k ⟨o + j.val, by omega⟩) := by
  refine Eq.trans ?_ (w_at m c t k ⟨o + j.val, by omega⟩)
  exact View.ld_unit_apply_of (S := S1024x5120) (Val := Elt Ideal) (e := .bf16) (iblk m c 2 t) ![0, o] ![1024, n] inb (ix2 k j) (ix2 k ⟨o + j.val, by omega⟩)
    fun a => match a with
    | ⟨0, _⟩ => (Nat.zero_add _).symm
    | ⟨1, _⟩ => rfl

/-- One tap of the convolution, read from the block. -/
theorem tap (c : Dev nD) (t : Fin cfg0.N) (i : Fin 3) {inb} (b : Fin 512) :
    View.ld (iblk m c 6 t) (Rect.unit (s := S3x512) ![i.val, 0] ![1, 512] inb) (ix2 0 b)
      = (show FVec Ideal S1x3x512 .f32 from m ((c : Thread nD τ).loc main_arg5)) (ix3 0 i b) := by
  refine Eq.trans ?_ (f_at m c t i b)
  exact View.ld_unit_apply_of (S := S3x512) (Val := Elt Ideal) (e := .f32) (iblk m c 6 t) ![i.val, 0] ![1, 512] inb (ix2 0 b) (ix2 i b)
    fun a => match a with
    | ⟨0, _⟩ => rfl
    | ⟨1, _⟩ => (Nat.zero_add _).symm

/-- The queries after the run. -/
theorem final_9 (c : Dev nD) : (dats m 0 c).arrAt 9 (cfgs 0).N
    = Cert.InStepRefIdeal.At.Q (m ((c : Thread nD τ).loc main_arg0)) (m ((c : Thread nD τ).loc main_arg1)) (m ((c : Thread nD τ).loc main_arg2)) (m ((c : Thread nD τ).loc main_arg3)) := by
  refine (dats m 0 c).arrAt_eq_of_covers 9 _ (by decide +kernel) fun t hf y => ?_
  blk_simp; rw [after0_9]; frame_out
  obtain ⟨r, b, rfl⟩ : ∃ (r : Fin 128) (b : Fin 512), y = ix2 r b := ⟨y 0, y 1, by blk_ext⟩
  trans (Cert.InStepRefIdeal.At.Q (m ((c : Thread nD τ).loc main_arg0)) (m ((c : Thread nD τ).loc main_arg1)) (m ((c : Thread nD τ).loc main_arg2)) (m ((c : Thread nD τ).loc main_arg3))) (ix2 r b)
  · exact Q_eq _ _ _ _ _ (x_at m c t) (n_at m c t) _ (slab m c t 0 512 (by decide)) _ _ (qn_at m c t) _ (blocks m c t) r b
  · blk_ext [idx t]

/-- The keys after the run. -/
theorem final_10 (c : Dev nD) : (dats m 0 c).arrAt 10 (cfgs 0).N
    = Cert.InStepRefIdeal.At.K (m ((c : Thread nD τ).loc main_arg0)) (m ((c : Thread nD τ).loc main_arg1)) (m ((c : Thread nD τ).loc main_arg2)) (m ((c : Thread nD τ).loc main_arg4)) := by
  refine (dats m 0 c).arrAt_eq_of_covers 10 _ (by decide +kernel) fun t hf y => ?_
  blk_simp; rw [after0_10]; frame_out
  obtain ⟨r, b, rfl⟩ : ∃ (r : Fin 128) (b : Fin 512), y = ix2 r b := ⟨y 0, y 1, by blk_ext⟩
  trans (Cert.InStepRefIdeal.At.K (m ((c : Thread nD τ).loc main_arg0)) (m ((c : Thread nD τ).loc main_arg1)) (m ((c : Thread nD τ).loc main_arg2)) (m ((c : Thread nD τ).loc main_arg4))) (ix2 r b)
  · unfold k0_pay11; frame_out; exact K_eq _ _ _ _ _ (x_at m c t) (n_at m c t) _ (slab m c t 512 512 (by decide)) _ _ (kn_at m c t) _ (blocks m c t) r b
  · blk_ext [idx t]

/-- The values after the run. -/
theorem final_11 (c : Dev nD) : (dats m 0 c).arrAt 11 (cfgs 0).N
    = Cert.InStepRefIdeal.At.V (m ((c : Thread nD τ).loc main_arg0)) (m ((c : Thread nD τ).loc main_arg1)) (m ((c : Thread nD τ).loc main_arg2)) := by
  refine (dats m 0 c).arrAt_eq_of_covers 11 _ (by decide +kernel) fun t hf y => ?_
  blk_simp; rw [after0_11]; frame_out
  obtain ⟨r, b, rfl⟩ : ∃ (r : Fin 128) (b : Fin 512), y = ix2 r b := ⟨y 0, y 1, by blk_ext⟩
  trans (Cert.InStepRefIdeal.At.V (m ((c : Thread nD τ).loc main_arg0)) (m ((c : Thread nD τ).loc main_arg1)) (m ((c : Thread nD τ).loc main_arg2))) (ix2 r b)
  · unfold k0_pay11; frame_out; exact V_eq _ _ _ _ _ (x_at m c t) (n_at m c t) _ (slab m c t 1024 512 (by decide)) r b
  · blk_ext [idx t]

/-- The convolved branch after the run. -/
theorem final_12 (c : Dev nD) : (dats m 0 c).arrAt 12 (cfgs 0).N
    = Cert.InStepRefIdeal.At.S (m ((c : Thread nD τ).loc main_arg0)) (m ((c : Thread nD τ).loc main_arg1)) (m ((c : Thread nD τ).loc main_arg2)) (m ((c : Thread nD τ).loc main_arg5)) (m ((c : Thread nD τ).loc main_arg6)) := by
  refine (dats m 0 c).arrAt_eq_of_covers 12 _ (by decide +kernel) fun t hf y => ?_
  blk_simp; rw [after0_12]; frame_out
  obtain ⟨r, b, rfl⟩ : ∃ (r : Fin 128) (b : Fin 512), y = ix2 r b := ⟨y 0, y 1, by blk_ext⟩
  trans (Cert.InStepRefIdeal.At.S (m ((c : Thread nD τ).loc main_arg0)) (m ((c : Thread nD τ).loc main_arg1)) (m ((c : Thread nD τ).loc main_arg2)) (m ((c : Thread nD τ).loc main_arg5)) (m ((c : Thread nD τ).loc main_arg6))) (ix2 r b)
  · unfold k0_pay12 k0_pay11; frame_out; exact S_eq _ _ _ _ _ (x_at m c t) (n_at m c t) _ _ _ (slab m c t 1536 512 (by decide)) (slab m c t 2048 512 (by decide)) (slab m c t 2560 512 (by decide)) _ _ _ _ _ _ _ (tap m c t 0) (tap m c t 1) (tap m c t 2) (s0_at m c t) (s1_at m c t) r b
  · blk_ext [idx t]

/-- The first gate after the run. -/
theorem final_13 (c : Dev nD) : (dats m 0 c).arrAt 13 (cfgs 0).N
    = Cert.InStepRefIdeal.At.GA (m ((c : Thread nD τ).loc main_arg0)) (m ((c : Thread nD τ).loc main_arg1)) (m ((c : Thread nD τ).loc main_arg2)) := by
  refine (dats m 0 c).arrAt_eq_of_covers 13 _ (by decide +kernel) fun t hf y => ?_
  blk_simp; rw [after0_13]; frame_out
  obtain ⟨r, b, rfl⟩ : ∃ (r : Fin 128) (b : Fin 1024), y = ix2 r b := ⟨y 0, y 1, by blk_ext⟩
  trans (Cert.InStepRefIdeal.At.GA (m ((c : Thread nD τ).loc main_arg0)) (m ((c : Thread nD τ).loc main_arg1)) (m ((c : Thread nD τ).loc main_arg2))) (ix2 r b)
  · unfold k0_pay11; frame_out; exact GA_eq _ _ _ _ _ (x_at m c t) (n_at m c t) _ (slab m c t 3072 1024 (by decide)) r b
  · blk_ext [idx t]

/-- The second gate after the run. -/
theorem final_14 (c : Dev nD) : (dats m 0 c).arrAt 14 (cfgs 0).N
    = Cert.InStepRefIdeal.At.GB (m ((c : Thread nD τ).loc main_arg0)) (m ((c : Thread nD τ).loc main_arg1)) (m ((c : Thread nD τ).loc main_arg2)) := by
  refine (dats m 0 c).arrAt_eq_of_covers 14 _ (by decide +kernel) fun t hf y => ?_
  blk_simp; rw [after0_14]; frame_out
  obtain ⟨r, b, rfl⟩ : ∃ (r : Fin 128) (b : Fin 1024), y = ix2 r b := ⟨y 0, y 1, by blk_ext⟩
  trans (Cert.InStepRefIdeal.At.GB (m ((c : Thread nD τ).loc main_arg0)) (m ((c : Thread nD τ).loc main_arg1)) (m ((c : Thread nD τ).loc main_arg2))) (ix2 r b)
  · unfold k0_pay11; frame_out; exact GB_eq _ _ _ _ _ (x_at m c t) (n_at m c t) _ (slab m c t 4096 1024 (by decide)) r b
  · blk_ext [idx t]

/-- The rows that enter the convolution after the run. -/
theorem final_15 (c : Dev nD) : (dats m 0 c).arrAt 15 (cfgs 0).N
    = Cert.InStepRefIdeal.At.U (m ((c : Thread nD τ).loc main_arg0)) (m ((c : Thread nD τ).loc main_arg1)) (m ((c : Thread nD τ).loc main_arg2)) := by
  refine (dats m 0 c).arrAt_eq_of_covers 15 _ (by decide +kernel) fun t hf y => ?_
  blk_simp; rw [after0_15]; frame_out
  obtain ⟨r, b, rfl⟩ : ∃ (r : Fin 128) (b : Fin 512), y = ix2 r b := ⟨y 0, y 1, by blk_ext⟩
  trans (Cert.InStepRefIdeal.At.U (m ((c : Thread nD τ).loc main_arg0)) (m ((c : Thread nD τ).loc main_arg1)) (m ((c : Thread nD τ).loc main_arg2))) (ix2 r b)
  · unfold k0_pay12 k0_pay11; frame_out; exact U_eq _ _ _ _ _ (x_at m c t) (n_at m c t) _ _ (slab m c t 2048 512 (by decide)) (slab m c t 2560 512 (by decide)) r b
  · blk_ext [idx t]

end Cert.InStepIdeal.Val

end

end
-- ==== Proof.FfnAt.lean ====
/- What the merge and feed-forward reference's results are at one index, as functions of numbers. -/
module

public import proofs.«01_k».proof.Proof.Rows
public import proofs.«01_k».proof.Proof.Gen.FfnRefIdeal.Run

@[expose] public section

set_option maxRecDepth 16384

noncomputable section

open Idealize.ShloMosaic Idealize.ShloMosaic.TcCoe Idealize.SL.Sem
open scoped BigOperators

namespace Cert.FfnRow

open Cert.Rows

theorem ofBits_one : Ideal.ofBits .f32 0x3F800000#32 = 1 := by
  have h : Ideal.ofBits .f32 0x3F800000#32 = ((1 : ℝ) : EReal) := by
    simp [Ideal.ofBits, Ideal.ieee, -EReal.coe_mul, -EReal.coe_one]; norm_num
  rw [h]; rfl

/-- The reference's spelling of the logistic function. -/
theorem one_div_exp (x : EReal) :
    Ideal.div (Ideal.ofBits .f32 0x3F800000#32) (Ideal.ofBits .f32 0x3F800000#32 + Ideal.exp (-x)) = Ideal.logistic x := by
  rw [ofBits_one]; rfl

/-- The gated sum of the two branches at lane `j`. -/
def mg (at' si : Fin 512 → EReal) (ga gb : Fin 1024 → EReal) (wa wc : Fin 512 → Fin 1024 → EReal) (j : Fin 1024) : EReal :=
  Ideal.logistic (ga j) * (∑ k, at' k * wa k j) + Ideal.logistic (gb j) * (∑ k, si k * wc k j)

/-- The residual row after the mixer. -/
def x1 (x : Fin 1024 → EReal) (mer : Fin 1024 → EReal) (wo : Fin 1024 → Fin 1024 → EReal) (j : Fin 1024) : EReal :=
  x j + ∑ k, mer k * wo k j

/-- The hidden activation from the convolved gate and the up branch. -/
def act (g u : EReal) : EReal := g * Ideal.logistic g * u

end Cert.FfnRow

namespace Cert.FfnRefIdeal.At

open Cert.FfnRefIdeal Cert.FfnRefIdeal.Gen Cert.Rows Cert.FfnRow

/-- The gated sum of the two branches. -/
def MG (a1 : FVec Ideal S8x2048x512 .bf16) (a2 : FVec Ideal S16384x512 .bf16) (a3 : FVec Ideal S16384x1024 .bf16) (a4 : FVec Ideal S16384x1024 .bf16) (a5 : FVec Ideal S1x512x1024 .f32) (a6 : FVec Ideal S1x512x1024 .f32) : FVec Ideal S8x2048x1024 .f32 :=
  addf (mulf (Host.divf (broadcastInDim S8x2048x1024 ![] bcast_S_S8x2048x1024 (constant S_ .f32 0x3F800000#32)) (addf (broadcastInDim S8x2048x1024 ![] bcast_S_S8x2048x1024 (constant S_ .f32 0x3F800000#32)) (Host.exp (Host.negf (extf .f32 (shapeCast _ a3 shapeCasts_S16384x1024_S8x2048x1024) bitsLt_bf16_f32))))) (Host.dotGeneral dot_S8x2048x512_S512x1024_S8x2048x1024_2_0_01_1_n_n none (extf .f32 a1 bitsLt_bf16_f32) (shapeCast _ a5 shapeCasts_S1x512x1024_S512x1024))) (mulf (Host.divf (broadcastInDim S8x2048x1024 ![] bcast_S_S8x2048x1024 (constant S_ .f32 0x3F800000#32)) (addf (broadcastInDim S8x2048x1024 ![] bcast_S_S8x2048x1024 (constant S_ .f32 0x3F800000#32)) (Host.exp (Host.negf (extf .f32 (shapeCast _ a4 shapeCasts_S16384x1024_S8x2048x1024) bitsLt_bf16_f32))))) (Host.dotGeneral dot_S8x2048x512_S512x1024_S8x2048x1024_2_0_01_1_n_n none (extf .f32 (shapeCast _ a2 shapeCasts_S16384x512_S8x2048x512) bitsLt_bf16_f32) (shapeCast _ a6 shapeCasts_S1x512x1024_S512x1024)))

/-- The residual rows after the mixer. -/
def X1 (a0 : FVec Ideal S8x2048x1024 .f32) (a1 : FVec Ideal S8x2048x512 .bf16) (a2 : FVec Ideal S16384x512 .bf16) (a3 : FVec Ideal S16384x1024 .bf16) (a4 : FVec Ideal S16384x1024 .bf16) (a5 : FVec Ideal S1x512x1024 .f32) (a6 : FVec Ideal S1x512x1024 .f32) (a7 : FVec Ideal S1x1024x1024 .f32) : FVec Ideal S8x2048x1024 .f32 :=
  addf a0 (Host.dotGeneral dot_S8x2048x1024_S1024x1024_S8x2048x1024_2_0_01_1_n_n none (MG a1 a2 a3 a4 a5 a6) (shapeCast _ a7 shapeCasts_S1x1024x1024_S1024x1024))

/-- Those rows normalised. -/
def XN (a0 : FVec Ideal S8x2048x1024 .f32) (a1 : FVec Ideal S8x2048x512 .bf16) (a2 : FVec Ideal S16384x512 .bf16) (a3 : FVec Ideal S16384x1024 .bf16) (a4 : FVec Ideal S16384x1024 .bf16) (a5 : FVec Ideal S1x512x1024 .f32) (a6 : FVec Ideal S1x512x1024 .f32) (a7 : FVec Ideal S1x1024x1024 .f32) (a8 : FVec Ideal S1x1024 .f32) : FVec Ideal S8x2048x1024 .f32 :=
  mulf (mulf (X1 a0 a1 a2 a3 a4 a5 a6 a7) (broadcastInDim S8x2048x1024 ![0, 1, 2] bcast_S8x2048x1_S8x2048x1024_0_1_2 (Host.rsqrt (addf (Host.divf (broadcastInDim S8x2048x1 ![0, 1] bcast_S8x2048_S8x2048x1_0_1 (Host.reduceAdd (mulf (X1 a0 a1 a2 a3 a4 a5 a6 a7) (X1 a0 a1 a2 a3 a4 a5 a6 a7)) (constant S_ .f32 0x00000000#32) reducesTo_S8x2048x1024_S8x2048_d2 h_S_)) (broadcastInDim S8x2048x1 ![] bcast_S_S8x2048x1 (constant S_ .f32 0x44800000#32))) (broadcastInDim S8x2048x1 ![] bcast_S_S8x2048x1 (constant S_ .f32 0x358637BD#32)))))) (broadcastInDim S8x2048x1024 ![0, 1, 2] bcast_S1x1x1024_S8x2048x1024_0_1_2 (broadcastInDim S1x1x1024 ![2] bcast_S1024_S1x1x1024_2 (shapeCast _ a8 shapeCasts_S1x1024_S1024)))

/-- The gate and up branches side by side. -/
def UP (a0 : FVec Ideal S8x2048x1024 .f32) (a1 : FVec Ideal S8x2048x512 .bf16) (a2 : FVec Ideal S16384x512 .bf16) (a3 : FVec Ideal S16384x1024 .bf16) (a4 : FVec Ideal S16384x1024 .bf16) (a5 : FVec Ideal S1x512x1024 .f32) (a6 : FVec Ideal S1x512x1024 .f32) (a7 : FVec Ideal S1x1024x1024 .f32) (a8 : FVec Ideal S1x1024 .f32) (a9 : FVec Ideal S1x1024x5632 .f32) : FVec Ideal S8x2048x5632 .f32 :=
  Host.dotGeneral dot_S8x2048x1024_S1024x5632_S8x2048x5632_2_0_01_1_n_n none (XN a0 a1 a2 a3 a4 a5 a6 a7 a8) (shapeCast _ a9 shapeCasts_S1x1024x5632_S1024x5632)

/-- Two rows of zeros followed by the gate branch. -/
def CC (a0 : FVec Ideal S8x2048x1024 .f32) (a1 : FVec Ideal S8x2048x512 .bf16) (a2 : FVec Ideal S16384x512 .bf16) (a3 : FVec Ideal S16384x1024 .bf16) (a4 : FVec Ideal S16384x1024 .bf16) (a5 : FVec Ideal S1x512x1024 .f32) (a6 : FVec Ideal S1x512x1024 .f32) (a7 : FVec Ideal S1x1024x1024 .f32) (a8 : FVec Ideal S1x1024 .f32) (a9 : FVec Ideal S1x1024x5632 .f32) : FVec Ideal S8x2050x2816 .f32 :=
  concatenate S8x2050x2816 1 [⟨S8x2x2816, (broadcastInDim S8x2x2816 ![] bcast_S_S8x2x2816 (constant S_ .f32 0x00000000#32))⟩, ⟨S8x2048x2816, (extractStridedSlice S8x2048x2816 ![0, 0, 0] (UP a0 a1 a2 a3 a4 a5 a6 a7 a8 a9) slices_S8x2048x5632_S8x2048x2816_0_0_0)⟩] concatenates_S8x2x2816_S8x2048x2816_S8x2050x2816_d1

/-- The gate branch convolved. -/
def GC (a0 : FVec Ideal S8x2048x1024 .f32) (a1 : FVec Ideal S8x2048x512 .bf16) (a2 : FVec Ideal S16384x512 .bf16) (a3 : FVec Ideal S16384x1024 .bf16) (a4 : FVec Ideal S16384x1024 .bf16) (a5 : FVec Ideal S1x512x1024 .f32) (a6 : FVec Ideal S1x512x1024 .f32) (a7 : FVec Ideal S1x1024x1024 .f32) (a8 : FVec Ideal S1x1024 .f32) (a9 : FVec Ideal S1x1024x5632 .f32) (a10 : FVec Ideal S1x3x2816 .f32) : FVec Ideal S8x2048x2816 .f32 :=
  addf (addf (mulf (extractStridedSlice S8x2048x2816 ![0, 0, 0] (CC a0 a1 a2 a3 a4 a5 a6 a7 a8 a9) slices_S8x2050x2816_S8x2048x2816_0_0_0) (broadcastInDim S8x2048x2816 ![0, 1, 2] bcast_S1x1x2816_S8x2048x2816_0_1_2 (broadcastInDim S1x1x2816 ![2] bcast_S2816_S1x1x2816_2 (shapeCast _ (extractStridedSlice S1x2816 ![0, 0] (shapeCast _ a10 shapeCasts_S1x3x2816_S3x2816) slices_S3x2816_S1x2816_0_0) shapeCasts_S1x2816_S2816)))) (mulf (extractStridedSlice S8x2048x2816 ![0, 1, 0] (CC a0 a1 a2 a3 a4 a5 a6 a7 a8 a9) slices_S8x2050x2816_S8x2048x2816_0_1_0) (broadcastInDim S8x2048x2816 ![0, 1, 2] bcast_S1x1x2816_S8x2048x2816_0_1_2 (broadcastInDim S1x1x2816 ![2] bcast_S2816_S1x1x2816_2 (shapeCast _ (extractStridedSlice S1x2816 ![1, 0] (shapeCast _ a10 shapeCasts_S1x3x2816_S3x2816) slices_S3x2816_S1x2816_1_0) shapeCasts_S1x2816_S2816))))) (mulf (extractStridedSlice S8x2048x2816 ![0, 2, 0] (CC a0 a1 a2 a3 a4 a5 a6 a7 a8 a9) slices_S8x2050x2816_S8x2048x2816_0_2_0) (broadcastInDim S8x2048x2816 ![0, 1, 2] bcast_S1x1x2816_S8x2048x2816_0_1_2 (broadcastInDim S1x1x2816 ![2] bcast_S2816_S1x1x2816_2 (shapeCast _ (extractStridedSlice S1x2816 ![2, 0] (shapeCast _ a10 shapeCasts_S1x3x2816_S3x2816) slices_S3x2816_S1x2816_2_0) shapeCasts_S1x2816_S2816))))

/-- The rows after the feed-forward part. -/
def Y (a0 : FVec Ideal S8x2048x1024 .f32) (a1 : FVec Ideal S8x2048x512 .bf16) (a2 : FVec Ideal S16384x512 .bf16) (a3 : FVec Ideal S16384x1024 .bf16) (a4 : FVec Ideal S16384x1024 .bf16) (a5 : FVec Ideal S1x512x1024 .f32) (a6 : FVec Ideal S1x512x1024 .f32) (a7 : FVec Ideal S1x1024x1024 .f32) (a8 : FVec Ideal S1x1024 .f32) (a9 : FVec Ideal S1x1024x5632 .f32) (a10 : FVec Ideal S1x3x2816 .f32) (a11 : FVec Ideal S1x2816x1024 .f32) : FVec Ideal S16384x1024 .f32 :=
  shapeCast _ (addf (X1 a0 a1 a2 a3 a4 a5 a6 a7) (Host.dotGeneral dot_S8x2048x2816_S2816x1024_S8x2048x1024_2_0_01_1_n_n none (mulf (mulf (GC a0 a1 a2 a3 a4 a5 a6 a7 a8 a9 a10) (Host.divf (broadcastInDim S8x2048x2816 ![] bcast_S_S8x2048x2816 (constant S_ .f32 0x3F800000#32)) (addf (broadcastInDim S8x2048x2816 ![] bcast_S_S8x2048x2816 (constant S_ .f32 0x3F800000#32)) (Host.exp (Host.negf (GC a0 a1 a2 a3 a4 a5 a6 a7 a8 a9 a10)))))) (extractStridedSlice S8x2048x2816 ![0, 0, 2816] (UP a0 a1 a2 a3 a4 a5 a6 a7 a8 a9) slices_S8x2048x5632_S8x2048x2816_0_0_2816)) (shapeCast _ a11 shapeCasts_S1x2816x1024_S2816x1024))) shapeCasts_S8x2048x1024_S16384x1024

/-- The last two gate rows of each sequence. -/
def ST (a0 : FVec Ideal S8x2048x1024 .f32) (a1 : FVec Ideal S8x2048x512 .bf16) (a2 : FVec Ideal S16384x512 .bf16) (a3 : FVec Ideal S16384x1024 .bf16) (a4 : FVec Ideal S16384x1024 .bf16) (a5 : FVec Ideal S1x512x1024 .f32) (a6 : FVec Ideal S1x512x1024 .f32) (a7 : FVec Ideal S1x1024x1024 .f32) (a8 : FVec Ideal S1x1024 .f32) (a9 : FVec Ideal S1x1024x5632 .f32) : FVec Ideal S8x2x2816 .f32 :=
  extractStridedSlice S8x2x2816 ![0, 2048, 0] (CC a0 a1 a2 a3 a4 a5 a6 a7 a8 a9) slices_S8x2050x2816_S8x2x2816_0_2048_0

variable (a0 : FVec Ideal S8x2048x1024 .f32) (a1 : FVec Ideal S8x2048x512 .bf16) (a2 : FVec Ideal S16384x512 .bf16) (a3 : FVec Ideal S16384x1024 .bf16) (a4 : FVec Ideal S16384x1024 .bf16) (a5 : FVec Ideal S1x512x1024 .f32) (a6 : FVec Ideal S1x512x1024 .f32) (a7 : FVec Ideal S1x1024x1024 .f32) (a8 : FVec Ideal S1x1024 .f32) (a9 : FVec Ideal S1x1024x5632 .f32) (a10 : FVec Ideal S1x3x2816 .f32) (a11 : FVec Ideal S1x2816x1024 .f32)

/-- Lane `j` of the residual row `s` of sequence `b`. -/
def r1 (b : Fin 8) (s : Fin 2048) : Fin 1024 → EReal :=
  x1 (fun k => a0 (ix3 b s k))
    (mg (fun k => a1 (ix3 b s k)) (fun k => a2 (ix2 ⟨b.val * 2048 + s.val, by omega⟩ k))
      (fun k => a3 (ix2 ⟨b.val * 2048 + s.val, by omega⟩ k)) (fun k => a4 (ix2 ⟨b.val * 2048 + s.val, by omega⟩ k))
      (fun k j => a5 (ix3 0 k j)) (fun k j => a6 (ix3 0 k j)))
    (fun k j => a7 (ix3 0 k j))

/-- Column `c` of the up projection of row `s` of sequence `b`. -/
def up (b : Fin 8) (s : Fin 2048) (c : Fin 5632) : EReal :=
  pr (r1 a0 a1 a2 a3 a4 a5 a6 a7 b s) (fun k => a8 (ix2 0 k)) (fun k => a9 (ix3 0 k c))

/-- A gate lane with two rows of zeros before the sequence. -/
def z (b : Fin 8) (i : Fin 2050) (c : Fin 2816) : EReal :=
  if h : i.val < 2 then Ideal.ofBits .f32 0x00000000#32 else up a0 a1 a2 a3 a4 a5 a6 a7 a8 a9 b ⟨i.val - 2, by omega⟩ ⟨c.val, by omega⟩

/-- A convolved gate lane. -/
def gc (b : Fin 8) (s : Fin 2048) (c : Fin 2816) : EReal :=
  z a0 a1 a2 a3 a4 a5 a6 a7 a8 a9 b ⟨s.val, by omega⟩ c * a10 (ix3 0 0 c) + z a0 a1 a2 a3 a4 a5 a6 a7 a8 a9 b ⟨1 + s.val, by omega⟩ c * a10 (ix3 0 1 c)
    + up a0 a1 a2 a3 a4 a5 a6 a7 a8 a9 b s ⟨c.val, by omega⟩ * a10 (ix3 0 2 c)

theorem MG_at (b : Fin 8) (s : Fin 2048) (j : Fin 1024) : MG a1 a2 a3 a4 a5 a6 (ix3 b s j)
    = mg (fun k => a1 (ix3 b s k)) (fun k => a2 (ix2 ⟨b.val * 2048 + s.val, by omega⟩ k))
      (fun k => a3 (ix2 ⟨b.val * 2048 + s.val, by omega⟩ k)) (fun k => a4 (ix2 ⟨b.val * 2048 + s.val, by omega⟩ k))
      (fun k j => a5 (ix3 0 k j)) (fun k j => a6 (ix3 0 k j)) j := by
  pointwise [MG, mg, ← one_div_exp]

theorem X1_at (b : Fin 8) (s : Fin 2048) (j : Fin 1024) : X1 a0 a1 a2 a3 a4 a5 a6 a7 (ix3 b s j) = r1 a0 a1 a2 a3 a4 a5 a6 a7 b s j := by
  pointwise [X1, r1, x1, ← MG_at]

theorem UP_at (b : Fin 8) (s : Fin 2048) (c : Fin 5632) : UP a0 a1 a2 a3 a4 a5 a6 a7 a8 a9 (ix3 b s c) = up a0 a1 a2 a3 a4 a5 a6 a7 a8 a9 b s c := by
  pointwise [UP, XN, up, pr, rms, ← X1_at]

theorem CC_at (b : Fin 8) (i : Fin 2050) (c : Fin 2816) : CC a0 a1 a2 a3 a4 a5 a6 a7 a8 a9 (ix3 b i c) = z a0 a1 a2 a3 a4 a5 a6 a7 a8 a9 b i c := by
  pointwise [CC, z, ← UP_at]

theorem GC_at (b : Fin 8) (s : Fin 2048) (c : Fin 2816) : GC a0 a1 a2 a3 a4 a5 a6 a7 a8 a9 a10 (ix3 b s c) = gc a0 a1 a2 a3 a4 a5 a6 a7 a8 a9 a10 b s c := by
  pointwise [GC, gc, ← UP_at, ← CC_at]
  pointwise [CC, z, ← UP_at]

theorem Y_at (r : Fin 16384) (j : Fin 1024) : Y a0 a1 a2 a3 a4 a5 a6 a7 a8 a9 a10 a11 (ix2 r j)
    = r1 a0 a1 a2 a3 a4 a5 a6 a7 ⟨r.val / 2048, by omega⟩ ⟨r.val % 2048, by omega⟩ j
      + ∑ c : Fin 2816, act (gc a0 a1 a2 a3 a4 a5 a6 a7 a8 a9 a10 ⟨r.val / 2048, by omega⟩ ⟨r.val % 2048, by omega⟩ c)
          (up a0 a1 a2 a3 a4 a5 a6 a7 a8 a9 ⟨r.val / 2048, by omega⟩ ⟨r.val % 2048, by omega⟩ ⟨2816 + c.val, by omega⟩) * a11 (ix3 0 c j) := by
  pointwise [Y, act, ← one_div_exp, ← UP_at, ← GC_at, ← X1_at]

theorem ST_at (b : Fin 8) (i : Fin 2) (c : Fin 2816) : ST a0 a1 a2 a3 a4 a5 a6 a7 a8 a9 (ix3 b i c)
    = up a0 a1 a2 a3 a4 a5 a6 a7 a8 a9 b ⟨2046 + i.val, by omega⟩ ⟨c.val, by omega⟩ := by
  pointwise [ST, CC, ← UP_at]
  rw [dif_neg (by omega)]
  exact congrArg (fun i => UP a0 a1 a2 a3 a4 a5 a6 a7 a8 a9 (ix3 b i ⟨c.val, by omega⟩)) (Fin.ext (by simp only; omega))

end Cert.FfnRefIdeal.At

end

end
-- ==== Proof.FfnStepAt.lean ====
/- What the step call's merge and feed-forward reference holds at one index, as functions of numbers. -/
module

public import proofs.«01_k».proof.Proof.FfnAt
public import proofs.«01_k».proof.Proof.Gen.FfnStepRefIdeal.Run

@[expose] public section

set_option maxRecDepth 16384

noncomputable section

open Idealize.ShloMosaic Idealize.ShloMosaic.TcCoe Idealize.SL.Sem
open scoped BigOperators

namespace Cert.FfnStepRefIdeal.At

open Cert.FfnStepRefIdeal Cert.FfnStepRefIdeal.Gen Cert.Rows Cert.FfnRow

/-- The gated sum of the two branches. -/
def MG (a1 : FVec Ideal S128x8x64 .f32) (a2 : FVec Ideal S128x512 .bf16) (a3 : FVec Ideal S128x1024 .bf16) (a4 : FVec Ideal S128x1024 .bf16) (a5 : FVec Ideal S1x512x1024 .f32) (a6 : FVec Ideal S1x512x1024 .f32) : FVec Ideal S128x1x1024 .f32 :=
  addf (mulf (Host.divf (broadcastInDim S128x1x1024 ![] bcast_S_S128x1x1024 (constant S_ .f32 0x3F800000#32)) (addf (broadcastInDim S128x1x1024 ![] bcast_S_S128x1x1024 (constant S_ .f32 0x3F800000#32)) (Host.exp (Host.negf (extf .f32 (shapeCast _ a3 shapeCasts_S128x1024_S128x1x1024) bitsLt_bf16_f32))))) (Host.dotGeneral dot_S128x1x512_S512x1024_S128x1x1024_2_0_01_1_n_n none (shapeCast _ a1 shapeCasts_S128x8x64_S128x1x512) (shapeCast _ a5 shapeCasts_S1x512x1024_S512x1024))) (mulf (Host.divf (broadcastInDim S128x1x1024 ![] bcast_S_S128x1x1024 (constant S_ .f32 0x3F800000#32)) (addf (broadcastInDim S128x1x1024 ![] bcast_S_S128x1x1024 (constant S_ .f32 0x3F800000#32)) (Host.exp (Host.negf (extf .f32 (shapeCast _ a4 shapeCasts_S128x1024_S128x1x1024) bitsLt_bf16_f32))))) (Host.dotGeneral dot_S128x1x512_S512x1024_S128x1x1024_2_0_01_1_n_n none (extf .f32 (shapeCast _ a2 shapeCasts_S128x512_S128x1x512) bitsLt_bf16_f32) (shapeCast _ a6 shapeCasts_S1x512x1024_S512x1024)))

/-- The residual rows after the mixer. -/
def X1 (a0 : FVec Ideal S128x1x1024 .f32) (a1 : FVec Ideal S128x8x64 .f32) (a2 : FVec Ideal S128x512 .bf16) (a3 : FVec Ideal S128x1024 .bf16) (a4 : FVec Ideal S128x1024 .bf16) (a5 : FVec Ideal S1x512x1024 .f32) (a6 : FVec Ideal S1x512x1024 .f32) (a7 : FVec Ideal S1x1024x1024 .f32) : FVec Ideal S128x1x1024 .f32 :=
  addf a0 (Host.dotGeneral dot_S128x1x1024_S1024x1024_S128x1x1024_2_0_01_1_n_n none (MG a1 a2 a3 a4 a5 a6) (shapeCast _ a7 shapeCasts_S1x1024x1024_S1024x1024))

/-- Those rows normalised. -/
def XN (a0 : FVec Ideal S128x1x1024 .f32) (a1 : FVec Ideal S128x8x64 .f32) (a2 : FVec Ideal S128x512 .bf16) (a3 : FVec Ideal S128x1024 .bf16) (a4 : FVec Ideal S128x1024 .bf16) (a5 : FVec Ideal S1x512x1024 .f32) (a6 : FVec Ideal S1x512x1024 .f32) (a7 : FVec Ideal S1x1024x1024 .f32) (a8 : FVec Ideal S1x1024 .f32) : FVec Ideal S128x1x1024 .f32 :=
  mulf (mulf (X1 a0 a1 a2 a3 a4 a5 a6 a7) (broadcastInDim S128x1x1024 ![0, 1, 2] bcast_S128x1x1_S128x1x1024_0_1_2 (Host.rsqrt (addf (Host.divf (broadcastInDim S128x1x1 ![0, 1] bcast_S128x1_S128x1x1_0_1 (Host.reduceAdd (mulf (X1 a0 a1 a2 a3 a4 a5 a6 a7) (X1 a0 a1 a2 a3 a4 a5 a6 a7)) (constant S_ .f32 0x00000000#32) reducesTo_S128x1x1024_S128x1_d2 h_S_)) (broadcastInDim S128x1x1 ![] bcast_S_S128x1x1 (constant S_ .f32 0x44800000#32))) (broadcastInDim S128x1x1 ![] bcast_S_S128x1x1 (constant S_ .f32 0x358637BD#32)))))) (broadcastInDim S128x1x1024 ![0, 1, 2] bcast_S1x1x1024_S128x1x1024_0_1_2 (broadcastInDim S1x1x1024 ![2] bcast_S1024_S1x1x1024_2 (shapeCast _ a8 shapeCasts_S1x1024_S1024)))

/-- The gate and up branches side by side. -/
def UP (a0 : FVec Ideal S128x1x1024 .f32) (a1 : FVec Ideal S128x8x64 .f32) (a2 : FVec Ideal S128x512 .bf16) (a3 : FVec Ideal S128x1024 .bf16) (a4 : FVec Ideal S128x1024 .bf16) (a5 : FVec Ideal S1x512x1024 .f32) (a6 : FVec Ideal S1x512x1024 .f32) (a7 : FVec Ideal S1x1024x1024 .f32) (a8 : FVec Ideal S1x1024 .f32) (a9 : FVec Ideal S1x1024x5632 .f32) : FVec Ideal S128x1x5632 .f32 :=
  Host.dotGeneral dot_S128x1x1024_S1024x5632_S128x1x5632_2_0_01_1_n_n none (XN a0 a1 a2 a3 a4 a5 a6 a7 a8) (shapeCast _ a9 shapeCasts_S1x1024x5632_S1024x5632)

/-- The two rows of the state followed by the gate branch. -/
def CC (a0 : FVec Ideal S128x1x1024 .f32) (a1 : FVec Ideal S128x8x64 .f32) (a2 : FVec Ideal S128x512 .bf16) (a3 : FVec Ideal S128x1024 .bf16) (a4 : FVec Ideal S128x1024 .bf16) (a5 : FVec Ideal S1x512x1024 .f32) (a6 : FVec Ideal S1x512x1024 .f32) (a7 : FVec Ideal S1x1024x1024 .f32) (a8 : FVec Ideal S1x1024 .f32) (a9 : FVec Ideal S1x1024x5632 .f32) (a12 : FVec Ideal S1x128x2x2816 .f32) : FVec Ideal S128x3x2816 .f32 :=
  concatenate S128x3x2816 1 [⟨S128x2x2816, (shapeCast _ a12 shapeCasts_S1x128x2x2816_S128x2x2816)⟩, ⟨S128x1x2816, (extractStridedSlice S128x1x2816 ![0, 0, 0] (UP a0 a1 a2 a3 a4 a5 a6 a7 a8 a9) slices_S128x1x5632_S128x1x2816_0_0_0)⟩] concatenates_S128x2x2816_S128x1x2816_S128x3x2816_d1

/-- The gate branch convolved. -/
def GC (a0 : FVec Ideal S128x1x1024 .f32) (a1 : FVec Ideal S128x8x64 .f32) (a2 : FVec Ideal S128x512 .bf16) (a3 : FVec Ideal S128x1024 .bf16) (a4 : FVec Ideal S128x1024 .bf16) (a5 : FVec Ideal S1x512x1024 .f32) (a6 : FVec Ideal S1x512x1024 .f32) (a7 : FVec Ideal S1x1024x1024 .f32) (a8 : FVec Ideal S1x1024 .f32) (a9 : FVec Ideal S1x1024x5632 .f32) (a10 : FVec Ideal S1x3x2816 .f32) (a12 : FVec Ideal S1x128x2x2816 .f32) : FVec Ideal S128x1x2816 .f32 :=
  addf (addf (mulf (extractStridedSlice S128x1x2816 ![0, 0, 0] (CC a0 a1 a2 a3 a4 a5 a6 a7 a8 a9 a12) slices_S128x3x2816_S128x1x2816_0_0_0) (broadcastInDim S128x1x2816 ![0, 1, 2] bcast_S1x1x2816_S128x1x2816_0_1_2 (broadcastInDim S1x1x2816 ![2] bcast_S2816_S1x1x2816_2 (shapeCast _ (extractStridedSlice S1x2816 ![0, 0] (shapeCast _ a10 shapeCasts_S1x3x2816_S3x2816) slices_S3x2816_S1x2816_0_0) shapeCasts_S1x2816_S2816)))) (mulf (extractStridedSlice S128x1x2816 ![0, 1, 0] (CC a0 a1 a2 a3 a4 a5 a6 a7 a8 a9 a12) slices_S128x3x2816_S128x1x2816_0_1_0) (broadcastInDim S128x1x2816 ![0, 1, 2] bcast_S1x1x2816_S128x1x2816_0_1_2 (broadcastInDim S1x1x2816 ![2] bcast_S2816_S1x1x2816_2 (shapeCast _ (extractStridedSlice S1x2816 ![1, 0] (shapeCast _ a10 shapeCasts_S1x3x2816_S3x2816) slices_S3x2816_S1x2816_1_0) shapeCasts_S1x2816_S2816))))) (mulf (extractStridedSlice S128x1x2816 ![0, 2, 0] (CC a0 a1 a2 a3 a4 a5 a6 a7 a8 a9 a12) slices_S128x3x2816_S128x1x2816_0_2_0) (broadcastInDim S128x1x2816 ![0, 1, 2] bcast_S1x1x2816_S128x1x2816_0_1_2 (broadcastInDim S1x1x2816 ![2] bcast_S2816_S1x1x2816_2 (shapeCast _ (extractStridedSlice S1x2816 ![2, 0] (shapeCast _ a10 shapeCasts_S1x3x2816_S3x2816) slices_S3x2816_S1x2816_2_0) shapeCasts_S1x2816_S2816))))

/-- The rows after the feed-forward part. -/
def Y (a0 : FVec Ideal S128x1x1024 .f32) (a1 : FVec Ideal S128x8x64 .f32) (a2 : FVec Ideal S128x512 .bf16) (a3 : FVec Ideal S128x1024 .bf16) (a4 : FVec Ideal S128x1024 .bf16) (a5 : FVec Ideal S1x512x1024 .f32) (a6 : FVec Ideal S1x512x1024 .f32) (a7 : FVec Ideal S1x1024x1024 .f32) (a8 : FVec Ideal S1x1024 .f32) (a9 : FVec Ideal S1x1024x5632 .f32) (a10 : FVec Ideal S1x3x2816 .f32) (a11 : FVec Ideal S1x2816x1024 .f32) (a12 : FVec Ideal S1x128x2x2816 .f32) : FVec Ideal S128x1024 .f32 :=
  shapeCast _ (addf (X1 a0 a1 a2 a3 a4 a5 a6 a7) (Host.dotGeneral dot_S128x1x2816_S2816x1024_S128x1x1024_2_0_01_1_n_n none (mulf (mulf (GC a0 a1 a2 a3 a4 a5 a6 a7 a8 a9 a10 a12) (Host.divf (broadcastInDim S128x1x2816 ![] bcast_S_S128x1x2816 (constant S_ .f32 0x3F800000#32)) (addf (broadcastInDim S128x1x2816 ![] bcast_S_S128x1x2816 (constant S_ .f32 0x3F800000#32)) (Host.exp (Host.negf (GC a0 a1 a2 a3 a4 a5 a6 a7 a8 a9 a10 a12)))))) (extractStridedSlice S128x1x2816 ![0, 0, 2816] (UP a0 a1 a2 a3 a4 a5 a6 a7 a8 a9) slices_S128x1x5632_S128x1x2816_0_0_2816)) (shapeCast _ a11 shapeCasts_S1x2816x1024_S2816x1024))) shapeCasts_S128x1x1024_S128x1024

/-- The new gate row of each sequence. -/
def G (a0 : FVec Ideal S128x1x1024 .f32) (a1 : FVec Ideal S128x8x64 .f32) (a2 : FVec Ideal S128x512 .bf16) (a3 : FVec Ideal S128x1024 .bf16) (a4 : FVec Ideal S128x1024 .bf16) (a5 : FVec Ideal S1x512x1024 .f32) (a6 : FVec Ideal S1x512x1024 .f32) (a7 : FVec Ideal S1x1024x1024 .f32) (a8 : FVec Ideal S1x1024 .f32) (a9 : FVec Ideal S1x1024x5632 .f32) (a12 : FVec Ideal S1x128x2x2816 .f32) : FVec Ideal S128x2816 .f32 :=
  shapeCast _ (extractStridedSlice S128x1x2816 ![0, 1, 0] (extractStridedSlice S128x2x2816 ![0, 1, 0] (CC a0 a1 a2 a3 a4 a5 a6 a7 a8 a9 a12) slices_S128x3x2816_S128x2x2816_0_1_0) slices_S128x2x2816_S128x1x2816_0_1_0) shapeCasts_S128x1x2816_S128x2816

variable (a0 : FVec Ideal S128x1x1024 .f32) (a1 : FVec Ideal S128x8x64 .f32) (a2 : FVec Ideal S128x512 .bf16) (a3 : FVec Ideal S128x1024 .bf16) (a4 : FVec Ideal S128x1024 .bf16) (a5 : FVec Ideal S1x512x1024 .f32) (a6 : FVec Ideal S1x512x1024 .f32) (a7 : FVec Ideal S1x1024x1024 .f32) (a8 : FVec Ideal S1x1024 .f32) (a9 : FVec Ideal S1x1024x5632 .f32) (a10 : FVec Ideal S1x3x2816 .f32) (a11 : FVec Ideal S1x2816x1024 .f32) (a12 : FVec Ideal S1x128x2x2816 .f32)

/-- Lane `j` of the residual row of sequence `b`. -/
def r1 (b : Fin 128) : Fin 1024 → EReal :=
  x1 (fun k => a0 (ix3 b 0 k))
    (mg (fun k => a1 (ix3 b ⟨k.val / 64, by omega⟩ ⟨k.val % 64, by omega⟩)) (fun k => a2 (ix2 b k)) (fun k => a3 (ix2 b k)) (fun k => a4 (ix2 b k))
      (fun k j => a5 (ix3 0 k j)) (fun k j => a6 (ix3 0 k j)))
    (fun k j => a7 (ix3 0 k j))

/-- Column `c` of the up projection of the row of sequence `b`. -/
def up (b : Fin 128) (c : Fin 5632) : EReal :=
  pr (r1 a0 a1 a2 a3 a4 a5 a6 a7 b) (fun k => a8 (ix2 0 k)) (fun k => a9 (ix3 0 k c))

/-- A convolved gate lane. -/
def gc (b : Fin 128) (c : Fin 2816) : EReal :=
  a12 (ix4 0 b 0 c) * a10 (ix3 0 0 c) + a12 (ix4 0 b 1 c) * a10 (ix3 0 1 c) + up a0 a1 a2 a3 a4 a5 a6 a7 a8 a9 b ⟨c.val, by omega⟩ * a10 (ix3 0 2 c)

theorem MG_at (b : Fin 128) (j : Fin 1024) : MG a1 a2 a3 a4 a5 a6 (ix3 b 0 j)
    = mg (fun k => a1 (ix3 b ⟨k.val / 64, by omega⟩ ⟨k.val % 64, by omega⟩)) (fun k => a2 (ix2 b k)) (fun k => a3 (ix2 b k)) (fun k => a4 (ix2 b k))
      (fun k j => a5 (ix3 0 k j)) (fun k j => a6 (ix3 0 k j)) j := by
  pointwise [MG, mg, ← one_div_exp]

theorem X1_at (b : Fin 128) (j : Fin 1024) : X1 a0 a1 a2 a3 a4 a5 a6 a7 (ix3 b 0 j) = r1 a0 a1 a2 a3 a4 a5 a6 a7 b j := by
  pointwise [X1, r1, x1, ← MG_at]

theorem UP_at (b : Fin 128) (c : Fin 5632) : UP a0 a1 a2 a3 a4 a5 a6 a7 a8 a9 (ix3 b 0 c) = up a0 a1 a2 a3 a4 a5 a6 a7 a8 a9 b c := by
  pointwise [UP, XN, up, pr, rms, ← X1_at]

theorem GC_at (b : Fin 128) (c : Fin 2816) : GC a0 a1 a2 a3 a4 a5 a6 a7 a8 a9 a10 a12 (ix3 b 0 c) = gc a0 a1 a2 a3 a4 a5 a6 a7 a8 a9 a10 a12 b c := by
  pointwise [GC, CC, gc, ← UP_at]

theorem Y_at (r : Fin 128) (j : Fin 1024) : Y a0 a1 a2 a3 a4 a5 a6 a7 a8 a9 a10 a11 a12 (ix2 r j)
    = r1 a0 a1 a2 a3 a4 a5 a6 a7 r j
      + ∑ c : Fin 2816, act (gc a0 a1 a2 a3 a4 a5 a6 a7 a8 a9 a10 a12 r c) (up a0 a1 a2 a3 a4 a5 a6 a7 a8 a9 r ⟨2816 + c.val, by omega⟩) * a11 (ix3 0 c j) := by
  pointwise [Y, act, ← one_div_exp, ← UP_at, ← GC_at, ← X1_at]

theorem G_at (r : Fin 128) (c : Fin 2816) : G a0 a1 a2 a3 a4 a5 a6 a7 a8 a9 a12 (ix2 r c) = up a0 a1 a2 a3 a4 a5 a6 a7 a8 a9 r ⟨c.val, by omega⟩ := by
  pointwise [G, CC, ← UP_at]

end Cert.FfnStepRefIdeal.At

end

end
-- ==== Proof.FfnStep.lean ====
/- The step call's merge and feed-forward results after the run, in the reference's terms. -/
module

public import proofs.«01_k».proof.Proof.FfnStepAt
public import proofs.«01_k».proof.Proof.Gen.FfnStepIdeal.Frame
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)
open scoped BigOperators

namespace Cert.FfnStepIdeal.Pure

open Cert.FfnStepIdeal Cert.FfnStepIdeal.Gen Cert.Rows Cert.FfnRow

theorem rows_pay (x : FVec Ideal S128x1024 .f32) (at' : FVec Ideal S128x512 .f32) (si : FVec Ideal S128x512 .bf16) (wa wc : FVec Ideal S512x1024 .bf16)
    (ga gb : FVec Ideal S128x1024 .bf16) (wo : FVec Ideal S1024x1024 .bf16) (r : Fin 128) (j : Fin 1024) :
    k0_pay5 (F := Ideal) (k0_pay1 x) (k0_pay2 at' wa si wc ga gb) wo (ix2 r j)
      = x1 (fun k => x (ix2 r k)) (mg (fun k => at' (ix2 r k)) (fun k => si (ix2 r k)) (fun k => ga (ix2 r k)) (fun k => gb (ix2 r k))
          (fun k j => wa (ix2 k j)) (fun k j => wc (ix2 k j))) (fun k j => wo (ix2 k j)) j := by
  pointwise [k0_pay5, k0_pay3, k0_pay2, k0_pay1, x1, mg, ← half_tanh]

theorem xn_pay (x : FVec Ideal S128x1024 .f32) (mg' : FVec Ideal S128x1024 .bf16) (wo : FVec Ideal S1024x1024 .bf16)
    (n : FVec Ideal S1x1024 .f32) (r : Fin 128) (j : Fin 1024) :
    k0_pay4 (F := Ideal) x mg' wo n (ix2 r j)
      = rms (fun k => k0_pay5 (F := Ideal) x mg' wo (ix2 r k)) (fun k => n (ix2 0 k)) j := by
  pointwise [k0_pay4, k0_pay5, k0_pay3, rms]

theorem g_pay (xn : FVec Ideal S128x1024 .bf16) (w : FVec Ideal S1024x256 .bf16) (r : Fin 128) (c : Fin 256) :
    k0_pay37 (F := Ideal) xn w (ix2 r c) = ∑ k, xn (ix2 r k) * w (ix2 k c) := by
  pointwise [k0_pay37]

/-- One block of gate columns added to the rows so far. -/
def blockSum (xn : FVec Ideal S128x1024 .bf16) (wg wu : FVec Ideal S1024x256 .bf16) (f0 f1 f2 : FVec Ideal S1x256 .f32)
    (s0 s1 : FVec Ideal S128x256 .f32) (acc : FVec Ideal S128x1024 .f32) (wd : FVec Ideal S256x1024 .bf16) : FVec Ideal S128x1024 .f32 :=
  k0_pay39 (F := Ideal) (k0_pay37 xn wg) (k0_pay38 xn wu) f0 f1 f2 s0 s1 acc wd

theorem acc_pay (xn : FVec Ideal S128x1024 .bf16) (wg wu : FVec Ideal S1024x256 .bf16) (f0 f1 f2 : FVec Ideal S1x256 .f32)
    (s0 s1 : FVec Ideal S128x256 .f32) (acc : FVec Ideal S128x1024 .f32) (wd : FVec Ideal S256x1024 .bf16) (r : Fin 128) (j : Fin 1024) :
    blockSum xn wg wu f0 f1 f2 s0 s1 acc wd (ix2 r j)
      = acc (ix2 r j) + ∑ c, act (s0 (ix2 r c) * f0 (ix2 0 c) + s1 (ix2 r c) * f1 (ix2 0 c)
            + (∑ k, xn (ix2 r k) * wg (ix2 k c)) * f2 (ix2 0 c))
          (∑ k, xn (ix2 r k) * wu (ix2 k c)) * wd (ix2 c j) := by
  pointwise [blockSum, k0_pay39, k0_pay37, k0_pay38, act, ← half_tanh]

theorem acc1 (xn : FVec Ideal S128x1024 .bf16) (wg wu : FVec Ideal S1024x256 .bf16) (f0 f1 f2 : FVec Ideal S1x256 .f32) (s0 s1 : FVec Ideal S128x256 .f32) (acc : FVec Ideal S128x1024 .f32) (wd : FVec Ideal S256x1024 .bf16) :
    k0_pay15 (F := Ideal) (k0_pay12 xn wg) (k0_pay13 xn wu) (k0_pay14 f0) f1 f2 s0 s1 acc wd = blockSum xn wg wu f0 f1 f2 s0 s1 acc wd := rfl

theorem acc2 (xn : FVec Ideal S128x1024 .bf16) (wg wu : FVec Ideal S1024x256 .bf16) (f0 f1 f2 : FVec Ideal S1x256 .f32) (s0 s1 : FVec Ideal S128x256 .f32) (acc : FVec Ideal S128x1024 .f32) (wd : FVec Ideal S256x1024 .bf16) :
    k0_pay20 (F := Ideal) (k0_pay18 xn (k0_pay16 wg) wu f0 f1 f2 s0 s1) acc (k0_pay19 wd) = blockSum xn wg wu f0 f1 f2 s0 s1 acc wd := rfl

theorem acc3 (xn : FVec Ideal S128x1024 .bf16) (wg wu : FVec Ideal S1024x256 .bf16) (f0 f1 f2 : FVec Ideal S1x256 .f32) (s0 s1 : FVec Ideal S128x256 .f32) (acc : FVec Ideal S128x1024 .f32) (wd : FVec Ideal S256x1024 .bf16) :
    k0_pay25 (F := Ideal) (k0_pay22 xn wu) (k0_pay23 xn wg f0 f1 f2 s0 s1) (k0_pay24 xn wg f0 f1 f2 s0 s1) acc wd = blockSum xn wg wu f0 f1 f2 s0 s1 acc wd := rfl

theorem acc4 (xn : FVec Ideal S128x1024 .bf16) (wg wu : FVec Ideal S1024x256 .bf16) (f0 f1 f2 : FVec Ideal S1x256 .f32) (s0 s1 : FVec Ideal S128x256 .f32) (acc : FVec Ideal S128x1024 .f32) (wd : FVec Ideal S256x1024 .bf16) :
    k0_pay30 (F := Ideal) (k0_pay26 xn wg) (k0_pay27 xn wu) (k0_pay28 f0 f1 s0 s1) (k0_pay29 f2) acc wd = blockSum xn wg wu f0 f1 f2 s0 s1 acc wd := rfl

theorem acc5 (xn : FVec Ideal S128x1024 .bf16) (wg wu : FVec Ideal S1024x256 .bf16) (f0 f1 f2 : FVec Ideal S1x256 .f32) (s0 s1 : FVec Ideal S128x256 .f32) (acc : FVec Ideal S128x1024 .f32) (wd : FVec Ideal S256x1024 .bf16) :
    k0_pay36 (F := Ideal) (k0_pay31 xn wg) (k0_pay32 xn wu) (k0_pay33 f0) (k0_pay34 f1) (k0_pay35 f2) s0 s1 acc wd = blockSum xn wg wu f0 f1 f2 s0 s1 acc wd := rfl

theorem acc6 (xn : FVec Ideal S128x1024 .bf16) (wg wu : FVec Ideal S1024x256 .bf16) (f0 f1 f2 : FVec Ideal S1x256 .f32) (s0 s1 : FVec Ideal S128x256 .f32) (acc : FVec Ideal S128x1024 .f32) (wd : FVec Ideal S256x1024 .bf16) :
    k0_pay39 (F := Ideal) (k0_pay37 xn wg) (k0_pay38 xn wu) f0 f1 f2 s0 s1 acc wd = blockSum xn wg wu f0 f1 f2 s0 s1 acc wd := rfl

theorem acc7 (xn : FVec Ideal S128x1024 .bf16) (wg wu : FVec Ideal S1024x256 .bf16) (f0 f1 f2 : FVec Ideal S1x256 .f32) (s0 s1 : FVec Ideal S128x256 .f32) (acc : FVec Ideal S128x1024 .f32) (wd : FVec Ideal S256x1024 .bf16) :
    k0_pay42 (F := Ideal) (k0_pay41 xn wg wu f0 f1 f2 s0 s1) acc wd = blockSum xn wg wu f0 f1 f2 s0 s1 acc wd := rfl

theorem acc8 (xn : FVec Ideal S128x1024 .bf16) (wg wu : FVec Ideal S1024x256 .bf16) (f0 f1 f2 : FVec Ideal S1x256 .f32) (s0 s1 : FVec Ideal S128x256 .f32) (acc : FVec Ideal S128x1024 .f32) (wd : FVec Ideal S256x1024 .bf16) :
    k0_pay47 (F := Ideal) (k0_pay44 xn wu) (k0_pay45 xn wg f0 f1 f2 s0 s1) k0_pay46 acc wd = blockSum xn wg wu f0 f1 f2 s0 s1 acc wd := rfl

theorem acc9 (xn : FVec Ideal S128x1024 .bf16) (wg wu : FVec Ideal S1024x256 .bf16) (f0 f1 f2 : FVec Ideal S1x256 .f32) (s0 s1 : FVec Ideal S128x256 .f32) (acc : FVec Ideal S128x1024 .f32) (wd : FVec Ideal S256x1024 .bf16) :
    k0_pay53 (F := Ideal) (k0_pay48 xn wg) (k0_pay49 xn wu) (k0_pay50 f1) (k0_pay51 f2) (k0_pay52 f0 s0) s1 acc wd = blockSum xn wg wu f0 f1 f2 s0 s1 acc wd := rfl

theorem acc10 (xn : FVec Ideal S128x1024 .bf16) (wg wu : FVec Ideal S1024x256 .bf16) (f0 f1 f2 : FVec Ideal S1x256 .f32) (s0 s1 : FVec Ideal S128x256 .f32) (acc : FVec Ideal S128x1024 .f32) (wd : FVec Ideal S256x1024 .bf16) :
    k0_pay58 (F := Ideal) (k0_pay54 xn wg) (k0_pay55 xn wu) (k0_pay56 f0) (k0_pay57 f1) f2 s0 s1 acc wd = blockSum xn wg wu f0 f1 f2 s0 s1 acc wd := rfl

theorem acc0 (x : FVec Ideal S128x1024 .f32) (mg' : FVec Ideal S128x1024 .bf16) (wo : FVec Ideal S1024x1024 .bf16) (n : FVec Ideal S1x1024 .f32)
    (wg wu : FVec Ideal S1024x256 .bf16) (f0 f1 f2 : FVec Ideal S1x256 .f32) (s0 s1 : FVec Ideal S128x256 .f32) (acc : FVec Ideal S128x1024 .f32) (wd : FVec Ideal S256x1024 .bf16) :
    k0_pay11 (F := Ideal) (k0_pay6 x mg' wo n wg) (k0_pay7 x mg' wo n wu) (k0_pay8 f1) (k0_pay9 f2) (k0_pay10 f0 s0) s1 acc wd
      = blockSum (k0_pay4 x mg' wo n) wg wu f0 f1 f2 s0 s1 acc wd := rfl

theorem g0 (x : FVec Ideal S128x1024 .f32) (mg' : FVec Ideal S128x1024 .bf16) (wo : FVec Ideal S1024x1024 .bf16) (n : FVec Ideal S1x1024 .f32)
    (w : FVec Ideal S1024x256 .bf16) : k0_pay6 (F := Ideal) x mg' wo n w = k0_pay37 (k0_pay4 x mg' wo n) w := rfl

theorem g1 (xn : FVec Ideal S128x1024 .bf16) (w : FVec Ideal S1024x256 .bf16) : k0_pay12 (F := Ideal) xn w = k0_pay37 xn w := rfl

theorem g2 (xn : FVec Ideal S128x1024 .bf16) (w : FVec Ideal S1024x256 .bf16) : k0_pay17 (F := Ideal) xn (k0_pay16 w) = k0_pay37 xn w := rfl

theorem g3 (xn : FVec Ideal S128x1024 .bf16) (w : FVec Ideal S1024x256 .bf16) : k0_pay21 (F := Ideal) xn w = k0_pay37 xn w := rfl

theorem g4 (xn : FVec Ideal S128x1024 .bf16) (w : FVec Ideal S1024x256 .bf16) : k0_pay26 (F := Ideal) xn w = k0_pay37 xn w := rfl

theorem g5 (xn : FVec Ideal S128x1024 .bf16) (w : FVec Ideal S1024x256 .bf16) : k0_pay31 (F := Ideal) xn w = k0_pay37 xn w := rfl

theorem g6 (xn : FVec Ideal S128x1024 .bf16) (w : FVec Ideal S1024x256 .bf16) : k0_pay37 (F := Ideal) xn w = k0_pay37 xn w := rfl

theorem g7 (xn : FVec Ideal S128x1024 .bf16) (w : FVec Ideal S1024x256 .bf16) : k0_pay40 (F := Ideal) xn w = k0_pay37 xn w := rfl

theorem g8 (xn : FVec Ideal S128x1024 .bf16) (w : FVec Ideal S1024x256 .bf16) : k0_pay43 (F := Ideal) xn w = k0_pay37 xn w := rfl

theorem g9 (xn : FVec Ideal S128x1024 .bf16) (w : FVec Ideal S1024x256 .bf16) : k0_pay48 (F := Ideal) xn w = k0_pay37 xn w := rfl

theorem g10 (xn : FVec Ideal S128x1024 .bf16) (w : FVec Ideal S1024x256 .bf16) : k0_pay54 (F := Ideal) xn w = k0_pay37 xn w := rfl

theorem wcast (a : FVec Ideal S1x512x1024 .f32) (k : Fin 512) (j : Fin 1024) :
    (truncf .bf16 (shapeCast S512x1024 a shapeCasts_S1x512x1024_S512x1024) bitsLt_bf16_f32 : FVec Ideal S512x1024 .bf16) (ix2 k j) = a (ix3 0 k j) := by
  pointwise []

theorem wocast (a : FVec Ideal S1x1024x1024 .f32) (k : Fin 1024) (j : Fin 1024) :
    (truncf .bf16 (shapeCast S1024x1024 a shapeCasts_S1x1024x1024_S1024x1024) bitsLt_bf16_f32 : FVec Ideal S1024x1024 .bf16) (ix2 k j) = a (ix3 0 k j) := by
  pointwise []

theorem wupcast (a : FVec Ideal S1x1024x5632 .f32) (k : Fin 1024) (j : Fin 5632) :
    (truncf .bf16 (shapeCast S1024x5632 a shapeCasts_S1x1024x5632_S1024x5632) bitsLt_bf16_f32 : FVec Ideal S1024x5632 .bf16) (ix2 k j) = a (ix3 0 k j) := by
  pointwise []

theorem wdcast (a : FVec Ideal S1x2816x1024 .f32) (k : Fin 2816) (j : Fin 1024) :
    (truncf .bf16 (shapeCast S2816x1024 a shapeCasts_S1x2816x1024_S2816x1024) bitsLt_bf16_f32 : FVec Ideal S2816x1024 .bf16) (ix2 k j) = a (ix3 0 k j) := by
  pointwise []

theorem r1_eq (a0 : FVec Ideal S128x1x1024 .f32) (a1 : FVec Ideal S128x8x64 .f32) (a2 : FVec Ideal S128x512 .bf16) (a3 a4 : FVec Ideal S128x1024 .bf16)
    (a5 a6 : FVec Ideal S1x512x1024 .f32) (a7 : FVec Ideal S1x1024x1024 .f32)
    (x : FVec Ideal S128x1024 .f32) (at' : FVec Ideal S128x512 .f32) (si : FVec Ideal S128x512 .bf16) (ga gb : FVec Ideal S128x1024 .bf16)
    (wa wc : FVec Ideal S512x1024 .bf16) (wo : FVec Ideal S1024x1024 .bf16)
    (hx : ∀ r k, x (ix2 r k) = a0 (ix3 r 0 k))
    (ha : ∀ (r : Fin 128) (k : Fin 512), at' (ix2 r k) = a1 (ix3 r ⟨k.val / 64, by omega⟩ ⟨k.val % 64, by omega⟩))
    (hs : ∀ r k, si (ix2 r k) = a2 (ix2 r k)) (hga : ∀ r k, ga (ix2 r k) = a3 (ix2 r k)) (hgb : ∀ r k, gb (ix2 r k) = a4 (ix2 r k))
    (hwa : ∀ k j, wa (ix2 k j) = a5 (ix3 0 k j)) (hwc : ∀ k j, wc (ix2 k j) = a6 (ix3 0 k j)) (hwo : ∀ k j, wo (ix2 k j) = a7 (ix3 0 k j))
    (r : Fin 128) (j : Fin 1024) :
    k0_pay5 (F := Ideal) (k0_pay1 x) (k0_pay2 at' wa si wc ga gb) wo (ix2 r j) = Cert.FfnStepRefIdeal.At.r1 a0 a1 a2 a3 a4 a5 a6 a7 r j := by
  rw [rows_pay]; simp only [hx, ha, hs, hga, hgb, hwa, hwc, hwo, Cert.FfnStepRefIdeal.At.r1]

theorem sum11 (f : Fin 11 → EReal) (v : EReal) :
    v + f 0 + f 1 + f 2 + f 3 + f 4 + f 5 + f 6 + f 7 + f 8 + f 9 + f 10 = v + ∑ n, f n := by
  simp only [Fin.sum_univ_castSucc, Fin.sum_univ_zero, zero_add, ← add_assoc]
  rfl

end Cert.FfnStepIdeal.Pure

namespace Cert.FfnStepIdeal.Val

open Cert.FfnStepIdeal Cert.FfnStepIdeal.Gen Cert.Rows Cert.FfnRow Cert.FfnStepIdeal.Pure

variable (m : (ℓ : Loc nD τ sig) → Buf (Elt Ideal) ℓ)

theorem idx : ∀ t : Fin cfg0.N, win0_0.index t = ![0, 0]
    ∧ win0_1.index t = ![0, 0]
    ∧ win0_2.index t = ![0, 0]
    ∧ win0_3.index t = ![0, 0]
    ∧ win0_4.index t = ![0, 0]
    ∧ win0_5.index t = ![0, 0]
    ∧ win0_6.index t = ![0, 0]
    ∧ win0_7.index t = ![0, 0]
    ∧ win0_8.index t = ![0, 0]
    ∧ win0_9.index t = ![0, 0]
    ∧ win0_10.index t = ![0, 0]
    ∧ win0_11.index t = ![0, 0]
    ∧ win0_12.index t = ![0, 0]
    ∧ win0_13.index t = ![0, 0]
    ∧ win0_14.index t = ![0, 0]
    ∧ win0_15.index t = ![0, 0] :=
  (by decide +kernel : ∀ t : Fin grid0.N, _)

theorem x_at (c : Dev nD) (t : Fin cfg0.N) (r : Fin 128) (k : Fin 1024) :
    (show FVec Ideal S128x1024 .f32 from iblk m c 0 t) (ix2 r k)
      = (show FVec Ideal S128x1x1024 .f32 from m ((c : Thread nD τ).loc main_arg0)) (ix3 r 0 k) := by
  trans (show FVec Ideal S128x1024 .f32 from V m c (Pipeline.arrRef spec0 0)) (ix2 r k)
  · blk_ext [iblk, idx t]
  · show StableHlo.after _ _ _ _ = _
    simp only [List.flatten_cons, List.flatten_nil, List.append_nil, hostOps0, List.cons_append, List.nil_append]
    entry_read
    pointwise []

theorem at_at (c : Dev nD) (t : Fin cfg0.N) (r : Fin 128) (k : Fin 512) :
    (show FVec Ideal S128x512 .f32 from iblk m c 1 t) (ix2 r k)
      = (show FVec Ideal S128x8x64 .f32 from m ((c : Thread nD τ).loc main_arg1)) (ix3 r ⟨k.val / 64, by omega⟩ ⟨k.val % 64, by omega⟩) := by
  trans (show FVec Ideal S128x512 .f32 from V m c (Pipeline.arrRef spec0 1)) (ix2 r k)
  · blk_ext [iblk, idx t]
  · show StableHlo.after _ _ _ _ = _
    simp only [List.flatten_cons, List.flatten_nil, List.append_nil, hostOps0, List.cons_append, List.nil_append]
    entry_read
    pointwise []

theorem si_at (c : Dev nD) (t : Fin cfg0.N) (r : Fin 128) (k : Fin 512) :
    (show FVec Ideal S128x512 .bf16 from iblk m c 2 t) (ix2 r k)
      = (show FVec Ideal S128x512 .bf16 from m ((c : Thread nD τ).loc main_arg2)) (ix2 r k) := by
  trans (show FVec Ideal S128x512 .bf16 from V m c (Pipeline.arrRef spec0 2)) (ix2 r k)
  · blk_ext [iblk, idx t]
  · show StableHlo.after _ _ _ _ = _
    simp only [List.flatten_cons, List.flatten_nil, List.append_nil, hostOps0, List.cons_append, List.nil_append]
    entry_read
    pointwise []

theorem ga_at (c : Dev nD) (t : Fin cfg0.N) (r : Fin 128) (k : Fin 1024) :
    (show FVec Ideal S128x1024 .bf16 from iblk m c 3 t) (ix2 r k)
      = (show FVec Ideal S128x1024 .bf16 from m ((c : Thread nD τ).loc main_arg3)) (ix2 r k) := by
  trans (show FVec Ideal S128x1024 .bf16 from V m c (Pipeline.arrRef spec0 3)) (ix2 r k)
  · blk_ext [iblk, idx t]
  · show StableHlo.after _ _ _ _ = _
    simp only [List.flatten_cons, List.flatten_nil, List.append_nil, hostOps0, List.cons_append, List.nil_append]
    entry_read
    pointwise []

theorem gb_at (c : Dev nD) (t : Fin cfg0.N) (r : Fin 128) (k : Fin 1024) :
    (show FVec Ideal S128x1024 .bf16 from iblk m c 4 t) (ix2 r k)
      = (show FVec Ideal S128x1024 .bf16 from m ((c : Thread nD τ).loc main_arg4)) (ix2 r k) := by
  trans (show FVec Ideal S128x1024 .bf16 from V m c (Pipeline.arrRef spec0 4)) (ix2 r k)
  · blk_ext [iblk, idx t]
  · show StableHlo.after _ _ _ _ = _
    simp only [List.flatten_cons, List.flatten_nil, List.append_nil, hostOps0, List.cons_append, List.nil_append]
    entry_read
    pointwise []

theorem wa_at (c : Dev nD) (t : Fin cfg0.N) (k : Fin 512) (j : Fin 1024) :
    (show FVec Ideal S512x1024 .bf16 from iblk m c 5 t) (ix2 k j)
      = (show FVec Ideal S1x512x1024 .f32 from m ((c : Thread nD τ).loc main_arg5)) (ix3 0 k j) := by
  trans (show FVec Ideal S512x1024 .bf16 from V m c (Pipeline.arrRef spec0 5)) (ix2 k j)
  · blk_ext [iblk, idx t]
  · show StableHlo.after _ _ _ _ = _
    simp only [List.flatten_cons, List.flatten_nil, List.append_nil, hostOps0, List.cons_append, List.nil_append]
    entry_read
    exact wcast _ k j

theorem wc_at (c : Dev nD) (t : Fin cfg0.N) (k : Fin 512) (j : Fin 1024) :
    (show FVec Ideal S512x1024 .bf16 from iblk m c 6 t) (ix2 k j)
      = (show FVec Ideal S1x512x1024 .f32 from m ((c : Thread nD τ).loc main_arg6)) (ix3 0 k j) := by
  trans (show FVec Ideal S512x1024 .bf16 from V m c (Pipeline.arrRef spec0 6)) (ix2 k j)
  · blk_ext [iblk, idx t]
  · show StableHlo.after _ _ _ _ = _
    simp only [List.flatten_cons, List.flatten_nil, List.append_nil, hostOps0, List.cons_append, List.nil_append]
    entry_read
    exact wcast _ k j

theorem wo_at (c : Dev nD) (t : Fin cfg0.N) (k : Fin 1024) (j : Fin 1024) :
    (show FVec Ideal S1024x1024 .bf16 from iblk m c 7 t) (ix2 k j)
      = (show FVec Ideal S1x1024x1024 .f32 from m ((c : Thread nD τ).loc main_arg7)) (ix3 0 k j) := by
  trans (show FVec Ideal S1024x1024 .bf16 from V m c (Pipeline.arrRef spec0 7)) (ix2 k j)
  · blk_ext [iblk, idx t]
  · show StableHlo.after _ _ _ _ = _
    simp only [List.flatten_cons, List.flatten_nil, List.append_nil, hostOps0, List.cons_append, List.nil_append]
    entry_read
    exact wocast _ k j

theorem n_at (c : Dev nD) (t : Fin cfg0.N) (k : Fin 1024) :
    (show FVec Ideal S1x1024 .f32 from iblk m c 8 t) (ix2 0 k)
      = (show FVec Ideal S1x1024 .f32 from m ((c : Thread nD τ).loc main_arg8)) (ix2 0 k) := by
  trans (show FVec Ideal S1x1024 .f32 from V m c (Pipeline.arrRef spec0 8)) (ix2 0 k)
  · blk_ext [iblk, idx t]
  · show StableHlo.after _ _ _ _ = _
    simp only [List.flatten_cons, List.flatten_nil, List.append_nil, hostOps0, List.cons_append, List.nil_append]
    entry_read
    pointwise []

theorem wup_at (c : Dev nD) (t : Fin cfg0.N) (k : Fin 1024) (j : Fin 5632) :
    (show FVec Ideal S1024x5632 .bf16 from iblk m c 9 t) (ix2 k j)
      = (show FVec Ideal S1x1024x5632 .f32 from m ((c : Thread nD τ).loc main_arg9)) (ix3 0 k j) := by
  trans (show FVec Ideal S1024x5632 .bf16 from V m c (Pipeline.arrRef spec0 9)) (ix2 k j)
  · blk_ext [iblk, idx t]
  · show StableHlo.after _ _ _ _ = _
    simp only [List.flatten_cons, List.flatten_nil, List.append_nil, hostOps0, List.cons_append, List.nil_append]
    entry_read
    exact wupcast _ k j

theorem f_at (c : Dev nD) (t : Fin cfg0.N) (i : Fin 3) (b : Fin 2816) :
    (show FVec Ideal S3x2816 .f32 from iblk m c 10 t) (ix2 i b)
      = (show FVec Ideal S1x3x2816 .f32 from m ((c : Thread nD τ).loc main_arg10)) (ix3 0 i b) := by
  trans (show FVec Ideal S3x2816 .f32 from V m c (Pipeline.arrRef spec0 10)) (ix2 i b)
  · blk_ext [iblk, idx t]
  · show StableHlo.after _ _ _ _ = _
    simp only [List.flatten_cons, List.flatten_nil, List.append_nil, hostOps0, List.cons_append, List.nil_append]
    entry_read
    pointwise []

theorem wd_at (c : Dev nD) (t : Fin cfg0.N) (k : Fin 2816) (j : Fin 1024) :
    (show FVec Ideal S2816x1024 .bf16 from iblk m c 11 t) (ix2 k j)
      = (show FVec Ideal S1x2816x1024 .f32 from m ((c : Thread nD τ).loc main_arg11)) (ix3 0 k j) := by
  trans (show FVec Ideal S2816x1024 .bf16 from V m c (Pipeline.arrRef spec0 11)) (ix2 k j)
  · blk_ext [iblk, idx t]
  · show StableHlo.after _ _ _ _ = _
    simp only [List.flatten_cons, List.flatten_nil, List.append_nil, hostOps0, List.cons_append, List.nil_append]
    entry_read
    exact wdcast _ k j

theorem s0_at (c : Dev nD) (t : Fin cfg0.N) (r : Fin 128) (b : Fin 2816) :
    (show FVec Ideal S128x2816 .f32 from iblk m c 12 t) (ix2 r b)
      = (show FVec Ideal S1x128x2x2816 .f32 from m ((c : Thread nD τ).loc main_arg12)) (ix4 0 r 0 b) := by
  trans (show FVec Ideal S128x2816 .f32 from V m c (Pipeline.arrRef spec0 12)) (ix2 r b)
  · blk_ext [iblk, idx t]
  · show StableHlo.after _ _ _ _ = _
    simp only [List.flatten_cons, List.flatten_nil, List.append_nil, hostOps0, List.cons_append, List.nil_append]
    entry_read
    pointwise []

theorem s1_at (c : Dev nD) (t : Fin cfg0.N) (r : Fin 128) (b : Fin 2816) :
    (show FVec Ideal S128x2816 .f32 from iblk m c 13 t) (ix2 r b)
      = (show FVec Ideal S1x128x2x2816 .f32 from m ((c : Thread nD τ).loc main_arg12)) (ix4 0 r 1 b) := by
  trans (show FVec Ideal S128x2816 .f32 from V m c (Pipeline.arrRef spec0 13)) (ix2 r b)
  · blk_ext [iblk, idx t]
  · show StableHlo.after _ _ _ _ = _
    simp only [List.flatten_cons, List.flatten_nil, List.append_nil, hostOps0, List.cons_append, List.nil_append]
    entry_read
    pointwise []

/-- Columns of the up projection from `o` on, read from the block. -/
theorem wcol (c : Dev nD) (t : Fin cfg0.N) (o : Nat) (h : o + 256 ≤ 5632) {inb} (k : Fin 1024) (j : Fin 256) :
    View.ld (iblk m c 9 t) (Rect.unit (s := S1024x5632) ![0, o] ![1024, 256] inb) (ix2 k j)
      = (show FVec Ideal S1x1024x5632 .f32 from m ((c : Thread nD τ).loc main_arg9)) (ix3 0 k ⟨o + j.val, by omega⟩) := by
  refine Eq.trans ?_ (wup_at m c t k ⟨o + j.val, by omega⟩)
  exact View.ld_unit_apply_of (S := S1024x5632) (Val := Elt Ideal) (e := .bf16) (iblk m c 9 t) ![0, o] ![1024, 256] inb (ix2 k j) (ix2 k ⟨o + j.val, by omega⟩)
    fun a => match a with
    | ⟨0, _⟩ => (Nat.zero_add _).symm
    | ⟨1, _⟩ => rfl

/-- Rows of the down projection from `o` on, read from the block. -/
theorem drow (c : Dev nD) (t : Fin cfg0.N) (o : Nat) (h : o + 256 ≤ 2816) {inb} (k : Fin 256) (j : Fin 1024) :
    View.ld (iblk m c 11 t) (Rect.unit (s := S2816x1024) ![o, 0] ![256, 1024] inb) (ix2 k j)
      = (show FVec Ideal S1x2816x1024 .f32 from m ((c : Thread nD τ).loc main_arg11)) (ix3 0 ⟨o + k.val, by omega⟩ j) := by
  refine Eq.trans ?_ (wd_at m c t ⟨o + k.val, by omega⟩ j)
  exact View.ld_unit_apply_of (S := S2816x1024) (Val := Elt Ideal) (e := .bf16) (iblk m c 11 t) ![o, 0] ![256, 1024] inb (ix2 k j) (ix2 ⟨o + k.val, by omega⟩ j)
    fun a => match a with
    | ⟨0, _⟩ => rfl
    | ⟨1, _⟩ => (Nat.zero_add _).symm

/-- Columns of one tap of the convolution, read from the block. -/
theorem tap (c : Dev nD) (t : Fin cfg0.N) (i : Fin 3) (o : Nat) (h : o + 256 ≤ 2816) {inb} (j : Fin 256) :
    View.ld (iblk m c 10 t) (Rect.unit (s := S3x2816) ![i.val, o] ![1, 256] inb) (ix2 0 j)
      = (show FVec Ideal S1x3x2816 .f32 from m ((c : Thread nD τ).loc main_arg10)) (ix3 0 i ⟨o + j.val, by omega⟩) := by
  refine Eq.trans ?_ (f_at m c t i ⟨o + j.val, by omega⟩)
  exact View.ld_unit_apply_of (S := S3x2816) (Val := Elt Ideal) (e := .f32) (iblk m c 10 t) ![i.val, o] ![1, 256] inb (ix2 0 j) (ix2 i ⟨o + j.val, by omega⟩)
    fun a => match a with
    | ⟨0, _⟩ => rfl
    | ⟨1, _⟩ => rfl

/-- Columns of the older row of the state. -/
theorem st0 (c : Dev nD) (t : Fin cfg0.N) (o : Nat) (h : o + 256 ≤ 2816) {inb} (r : Fin 128) (j : Fin 256) :
    View.ld (iblk m c 12 t) (Rect.unit (s := S128x2816) ![0, o] ![128, 256] inb) (ix2 r j)
      = (show FVec Ideal S1x128x2x2816 .f32 from m ((c : Thread nD τ).loc main_arg12)) (ix4 0 r 0 ⟨o + j.val, by omega⟩) := by
  refine Eq.trans ?_ (s0_at m c t r ⟨o + j.val, by omega⟩)
  exact View.ld_unit_apply_of (S := S128x2816) (Val := Elt Ideal) (e := .f32) (iblk m c 12 t) ![0, o] ![128, 256] inb (ix2 r j) (ix2 r ⟨o + j.val, by omega⟩)
    fun a => match a with
    | ⟨0, _⟩ => (Nat.zero_add _).symm
    | ⟨1, _⟩ => rfl

/-- Columns of the newer row of the state. -/
theorem st1 (c : Dev nD) (t : Fin cfg0.N) (o : Nat) (h : o + 256 ≤ 2816) {inb} (r : Fin 128) (j : Fin 256) :
    View.ld (iblk m c 13 t) (Rect.unit (s := S128x2816) ![0, o] ![128, 256] inb) (ix2 r j)
      = (show FVec Ideal S1x128x2x2816 .f32 from m ((c : Thread nD τ).loc main_arg12)) (ix4 0 r 1 ⟨o + j.val, by omega⟩) := by
  refine Eq.trans ?_ (s1_at m c t r ⟨o + j.val, by omega⟩)
  exact View.ld_unit_apply_of (S := S128x2816) (Val := Elt Ideal) (e := .f32) (iblk m c 13 t) ![0, o] ![128, 256] inb (ix2 r j) (ix2 r ⟨o + j.val, by omega⟩)
    fun a => match a with
    | ⟨0, _⟩ => (Nat.zero_add _).symm
    | ⟨1, _⟩ => rfl

/-- The normalised rows. -/
abbrev xn (c : Dev nD) (t : Fin cfg0.N) : FVec Ideal S128x1024 .bf16 :=
  k0_pay4 (F := Ideal) (k0_pay1 (iblk m c 0 t)) (k0_pay2 (iblk m c 1 t) (iblk m c 5 t) (iblk m c 2 t) (iblk m c 6 t) (iblk m c 3 t) (iblk m c 4 t)) (iblk m c 7 t) (iblk m c 8 t)

theorem rows_eq (c : Dev nD) (t : Fin cfg0.N) (r : Fin 128) (j : Fin 1024) :
    k0_pay5 (F := Ideal) (k0_pay1 (iblk m c 0 t)) (k0_pay2 (iblk m c 1 t) (iblk m c 5 t) (iblk m c 2 t) (iblk m c 6 t) (iblk m c 3 t) (iblk m c 4 t)) (iblk m c 7 t) (ix2 r j)
      = Cert.FfnStepRefIdeal.At.r1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) r j :=
  r1_eq _ _ _ _ _ _ _ _ _ _ _ _ _ _ _ _ (x_at m c t) (at_at m c t) (si_at m c t) (ga_at m c t) (gb_at m c t) (wa_at m c t) (wc_at m c t) (wo_at m c t) r j

theorem xn_eq (c : Dev nD) (t : Fin cfg0.N) (r : Fin 128) (k : Fin 1024) :
    xn m c t (ix2 r k) = rms (Cert.FfnStepRefIdeal.At.r1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) r) (fun k => (m ((c : Thread nD τ).loc main_arg8)) (ix2 0 k)) k := by
  refine (xn_pay _ _ _ _ r k).trans ?_
  exact congrArg₂ (fun a b => rms a b k) (funext fun k => rows_eq m c t r k) (funext fun k => n_at m c t k)

/-- A product of the normalised rows with columns of the up projection. -/
theorem up_eq (c : Dev nD) (t : Fin cfg0.N) (o : Nat) (h : o + 256 ≤ 5632) {inb} (r : Fin 128) (j : Fin 256) :
    ∑ k : Fin 1024, xn m c t (ix2 r k) * View.ld (Val := Elt Ideal) (e' := .bf16) (iblk m c 9 t) (Rect.unit (s := S1024x5632) ![0, o] ![1024, 256] inb) (ix2 k j)
      = Cert.FfnStepRefIdeal.At.up (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) r ⟨o + j.val, by omega⟩ := by
  unfold Cert.FfnStepRefIdeal.At.up pr
  exact Finset.sum_congr rfl fun k _ => congrArg₂ (fun a b : EReal => a * b) (xn_eq m c t r k) (wcol m c t o h k j)

/-- What one block of gate columns adds. -/
def part (c : Dev nD) (r : Fin 128) (j : Fin 1024) (n : Fin 11) : EReal :=
  ∑ e : Fin 256, act (Cert.FfnStepRefIdeal.At.gc (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg12)) r ⟨n.val * 256 + e.val, by omega⟩)
    (Cert.FfnStepRefIdeal.At.up (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) r ⟨2816 + (n.val * 256 + e.val), by omega⟩) * (show FVec Ideal S1x2816x1024 .f32 from (m ((c : Thread nD τ).loc main_arg11))) (ix3 0 ⟨n.val * 256 + e.val, by omega⟩ j)

theorem parts (c : Dev nD) (r : Fin 128) (j : Fin 1024) :
    ∑ e : Fin 2816, act (Cert.FfnStepRefIdeal.At.gc (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg12)) r e)
      (Cert.FfnStepRefIdeal.At.up (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) r ⟨2816 + e.val, by omega⟩) * (show FVec Ideal S1x2816x1024 .f32 from (m ((c : Thread nD τ).loc main_arg11))) (ix3 0 e j)
      = ∑ n : Fin 11, part m c r j n := by
  rw [Fin.sum_univ_tiles 11 256 rfl]
  rfl

/-- One block of gate columns added to the rows so far. -/
theorem step (c : Dev nD) (t : Fin cfg0.N) (n : Fin 11) (o o' : Nat) (ho : o = n.val * 256) (ho' : o' = 2816 + n.val * 256) {i1 i2 i3 i4 i5 i6 i7 i8}
    (acc : FVec Ideal S128x1024 .f32) (r : Fin 128) (j : Fin 1024) (v : EReal) (ha : acc (ix2 r j) = v) :
    blockSum (xn m c t) (View.ld (iblk m c 9 t) (Rect.unit (s := S1024x5632) ![0, o] ![1024, 256] i1)) (View.ld (iblk m c 9 t) (Rect.unit (s := S1024x5632) ![0, o'] ![1024, 256] i2))
        (View.ld (iblk m c 10 t) (Rect.unit (s := S3x2816) ![0, o] ![1, 256] i3)) (View.ld (iblk m c 10 t) (Rect.unit (s := S3x2816) ![1, o] ![1, 256] i4))
        (View.ld (iblk m c 10 t) (Rect.unit (s := S3x2816) ![2, o] ![1, 256] i5))
        (View.ld (iblk m c 12 t) (Rect.unit (s := S128x2816) ![0, o] ![128, 256] i7)) (View.ld (iblk m c 13 t) (Rect.unit (s := S128x2816) ![0, o] ![128, 256] i8))
        acc (View.ld (iblk m c 11 t) (Rect.unit (s := S2816x1024) ![o, 0] ![256, 1024] i6)) (ix2 r j)
      = v + part m c r j n := by
  subst ho; subst ho'
  have := n.isLt
  refine (acc_pay _ _ _ _ _ _ _ _ _ _ r j).trans ?_
  rw [ha]
  refine congrArg (v + ·) (Finset.sum_congr rfl fun e _ => ?_)
  have ea : (⟨2816 + n.val * 256 + e.val, by omega⟩ : Fin 5632) = ⟨2816 + (n.val * 256 + e.val), by omega⟩ := Fin.ext (by simp only; omega)
  refine congrArg₂ (fun a b : EReal => a * b) (congrArg₂ act ?_ ?_) (drow m c t (n.val * 256) (by omega) e j)
  · unfold Cert.FfnStepRefIdeal.At.gc
    refine congrArg₂ (fun a b : EReal => a + b) (congrArg₂ (fun a b : EReal => a + b) ?_ ?_) ?_
    · exact congrArg₂ (fun a b : EReal => a * b) (st0 m c t (n.val * 256) (by omega) r e) (tap m c t 0 (n.val * 256) (by omega) e)
    · exact congrArg₂ (fun a b : EReal => a * b) (st1 m c t (n.val * 256) (by omega) r e) (tap m c t 1 (n.val * 256) (by omega) e)
    · exact congrArg₂ (fun a b : EReal => a * b) (up_eq m c t (n.val * 256) (by omega) r e) (tap m c t 2 (n.val * 256) (by omega) e)
  · exact (up_eq m c t (2816 + n.val * 256) (by omega) r e).trans (congrArg (Cert.FfnStepRefIdeal.At.up (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) r) ea)

set_option maxHeartbeats 6400000 in
/-- The rows the step call writes. -/
theorem pt_14 (c : Dev nD) (t : Fin cfg0.N) (r : Fin 128) (j : Fin 1024) :
    (outsAt0 m c t).1 (ix2 r j) = Cert.FfnStepRefIdeal.At.r1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) r j + ∑ n, part m c r j n := by
  unfold outsAt0; frame_open
  simp (disch := decide) only [↓ View.readCov_skip, ↓ View.readCov_cons_toLoadRect, ↓ View.readCov_fill]
  frame_out
  refine Eq.trans ?_ (sum11 _ _)
  refine (congrFun (acc10 _ _ _ _ _ _ _ _ _ _) _).trans (step m c t 10 2560 5376 rfl rfl _ r j _ ?_)
  refine (congrFun (acc9 _ _ _ _ _ _ _ _ _ _) _).trans (step m c t 9 2304 5120 rfl rfl _ r j _ ?_)
  refine (congrFun (acc8 _ _ _ _ _ _ _ _ _ _) _).trans (step m c t 8 2048 4864 rfl rfl _ r j _ ?_)
  refine (congrFun (acc7 _ _ _ _ _ _ _ _ _ _) _).trans (step m c t 7 1792 4608 rfl rfl _ r j _ ?_)
  refine (congrFun (acc6 _ _ _ _ _ _ _ _ _ _) _).trans (step m c t 6 1536 4352 rfl rfl _ r j _ ?_)
  refine (congrFun (acc5 _ _ _ _ _ _ _ _ _ _) _).trans (step m c t 5 1280 4096 rfl rfl _ r j _ ?_)
  refine (congrFun (acc4 _ _ _ _ _ _ _ _ _ _) _).trans (step m c t 4 1024 3840 rfl rfl _ r j _ ?_)
  refine (congrFun (acc3 _ _ _ _ _ _ _ _ _ _) _).trans (step m c t 3 768 3584 rfl rfl _ r j _ ?_)
  refine (congrFun (acc2 _ _ _ _ _ _ _ _ _ _) _).trans (step m c t 2 512 3328 rfl rfl _ r j _ ?_)
  refine (congrFun (acc1 _ _ _ _ _ _ _ _ _ _) _).trans (step m c t 1 256 3072 rfl rfl _ r j _ ?_)
  refine (congrFun (acc0 _ _ _ _ _ _ _ _ _ _ _ _ _) _).trans (step m c t 0 0 2816 rfl rfl _ r j _ ?_)
  exact rows_eq m c t r j

/-- The new gate rows. -/
def gate (c : Dev nD) (y : S128x2816.Idx) : EReal :=
  Cert.FfnStepRefIdeal.At.up (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) ⟨(y 0).val, (y 0).isLt⟩ ⟨(y 1).val, Nat.lt_trans (y 1).isLt (by decide)⟩

theorem piece (c : Dev nD) (t : Fin cfg0.N) (o : Nat) (ho : o + 256 ≤ 2816) {inb inb'} (x : (Rect.unit (s := S128x2816) ![0, o] ![128, 256] inb).shape.Idx) :
    k0_pay37 (F := Ideal) (xn m c t) (View.ld (iblk m c 9 t) (Rect.unit (s := S1024x5632) ![0, o] ![1024, 256] inb')) x
      = gate m c ((Rect.unit (s := S128x2816) ![0, o] ![128, 256] inb).emb x) := by
  obtain ⟨i, j, rfl⟩ : ∃ (i : Fin 128) (j : Fin 256), x = ix2 i j := ⟨x 0, x 1, by blk_ext⟩
  refine (g_pay _ _ i j).trans ?_
  refine (up_eq m c t o (by omega) i j).trans ?_
  unfold gate
  refine congrArg₂ (Cert.FfnStepRefIdeal.At.up (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) (Fin.ext ?_) (Fin.ext ?_)
  · exact ((Rect.idx_unit_val (s := S128x2816) ![0, o] ![128, 256] inb (ix2 i j) 0).trans (Nat.zero_add _)).symm
  · exact (Rect.idx_unit_val (s := S128x2816) ![0, o] ![128, 256] inb (ix2 i j) 1).symm

set_option maxHeartbeats 6400000 in
/-- The gate rows the step call writes. -/
theorem pt_15 (c : Dev nD) (t : Fin cfg0.N) (y : S128x2816.Idx) : (outsAt0 m c t).2 y = gate m c y := by
  unfold outsAt0; frame_out
  refine View.canon_append_of_piecesOf (Val := Elt Ideal) (e := .f32) (gate m c) [] [_, _, _, _, _, _, _, _, _, _, _] ?_ y ?_
  refine ⟨fun x => ?_, fun x => ?_, fun x => ?_, fun x => ?_, fun x => ?_, fun x => ?_, fun x => ?_, fun x => ?_, fun x => ?_, fun x => ?_, fun x => ?_, trivial⟩
  · exact (congrFun (g10 _ _) _).trans (piece m c t 2560 (by omega) (inb := inb_S128x2816_S128x256_0_2560) x)
  · exact (congrFun (g9 _ _) _).trans (piece m c t 2304 (by omega) (inb := inb_S128x2816_S128x256_0_2304) x)
  · exact (congrFun (g8 _ _) _).trans (piece m c t 2048 (by omega) (inb := inb_S128x2816_S128x256_0_2048) x)
  · exact (congrFun (g7 _ _) _).trans (piece m c t 1792 (by omega) (inb := inb_S128x2816_S128x256_0_1792) x)
  · exact (congrFun (g6 _ _) _).trans (piece m c t 1536 (by omega) (inb := inb_S128x2816_S128x256_0_1536) x)
  · exact (congrFun (g5 _ _) _).trans (piece m c t 1280 (by omega) (inb := inb_S128x2816_S128x256_0_1280) x)
  · exact (congrFun (g4 _ _) _).trans (piece m c t 1024 (by omega) (inb := inb_S128x2816_S128x256_0_1024) x)
  · exact (congrFun (g3 _ _) _).trans (piece m c t 768 (by omega) (inb := inb_S128x2816_S128x256_0_768) x)
  · exact (congrFun (g2 _ _) _).trans (piece m c t 512 (by omega) (inb := inb_S128x2816_S128x256_0_512) x)
  · exact (congrFun (g1 _ _) _).trans (piece m c t 256 (by omega) (inb := inb_S128x2816_S128x256_0_256) x)
  · exact (congrFun (g0 _ _ _ _ _) _).trans (piece m c t 0 (by omega) (inb := inb_S128x2816_S128x256_0_0) x)
  exact View.cover_of_tiledL _ ![128, 256] (by sl_kernel_rfl) y

/-- The step call's rows after the run. -/
theorem final_14 (c : Dev nD) : (dats m 0 c).arrAt 14 (cfgs 0).N = Cert.FfnStepRefIdeal.At.Y (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  refine (dats m 0 c).arrAt_eq_of_covers 14 _ (by decide +kernel) fun t hf (y : S128x1024.Idx) => ?_
  blk_simp; rw [after0_14]
  obtain ⟨r, b, rfl⟩ : ∃ (r : Fin 128) (b : Fin 1024), y = ix2 r b := ⟨y 0, y 1, by blk_ext⟩
  trans (Cert.FfnStepRefIdeal.At.Y (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12))) (ix2 r b)
  · rw [Cert.FfnStepRefIdeal.At.Y_at]
    exact (pt_14 m c t r b).trans (congrArg (_ + ·) (parts m c r b).symm)
  · blk_ext [idx t]

/-- The new gate rows after the run. -/
theorem final_15 (c : Dev nD) : (dats m 0 c).arrAt 15 (cfgs 0).N = Cert.FfnStepRefIdeal.At.G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg12)) := by
  refine (dats m 0 c).arrAt_eq_of_covers 15 _ (by decide +kernel) fun t hf (y : S128x2816.Idx) => ?_
  blk_simp; rw [after0_15]
  obtain ⟨r, b, rfl⟩ : ∃ (r : Fin 128) (b : Fin 2816), y = ix2 r b := ⟨y 0, y 1, by blk_ext⟩
  trans (Cert.FfnStepRefIdeal.At.G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg12))) (ix2 r b)
  · rw [Cert.FfnStepRefIdeal.At.G_at]
    exact pt_15 m c t (ix2 r b)
  · blk_ext [idx t]

end Cert.FfnStepIdeal.Val

end

end
-- ==== Proof.FfnJoin.lean ====
/-
  Putting a window back into the buffer it was taken from.

  Part of a buffer is held apart from the rest, each part at contents of its own. Held together again they are
  the buffer at SOME contents. Nothing more is said of the contents, and nothing more is needed where the
  buffer's contents reach none of the results that are claimed.
-/
module

public import Idealize.ShloMosaic.Lib.Claim

@[expose] public section

namespace Cert.Join

open Idealize.ShloMosaic
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {Ix : Type} [DecidableEq Ix]
variable {Val : EltTy → Type} {Name : Type} [DecidableEq Name]
variable {U : Type} [URA U]
variable {Lvl : Type}

/-- The rest and the window `w`, held at contents of their own, are the whole of `S` at some contents. -/
theorem window {ℓ : Loc nD τ sig} {S w : Finset (Idx ℓ)} {q : PosShare TreeShare} {f g : Buf Val ℓ} :
    iprop((ℓ ↦[S \ w]{q} f) ∗ ℓ ↦[w]{q} g) ⊢ (iprop(∃ h : Buf Val ℓ, ℓ ↦[S]{q} h) : sProp (MT nD τ sig Ix Val Name U Lvl)) := by
  have hs : S ⊆ (S \ w) ∪ w := by
    intro i hi
    by_cases h : i ∈ w
    · exact Finset.mem_union_right _ h
    · exact Finset.mem_union_left _ (Finset.mem_sdiff.mpr ⟨hi, h⟩)
  refine (pointsTo_join Finset.sdiff_disjoint).trans ((pointsTo_split_subset hs).1.trans ?_)
  iintro ⟨H, -⟩
  iexists (w.piecewise g f)
  iexact H

end Cert.Join
-- ==== Proof.FfnFrame.lean ====
module

public import proofs.«01_k».proof.Proof.FfnRunA
public import proofs.«01_k».proof.Proof.FfnRunB
public import Idealize.ShloMosaic.Lib.Claim

@[expose] public section

set_option maxRecDepth 16384

noncomputable section

namespace Cert.Ffn.Hand

open Cert.Ffn.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)
theorem scover0_A_1 (c : Dev nD) (i : grid0.Coords) (arg2 : Memref sig .tc .vmem S512x1024 .f32) (harg2 : arg2.IsWhole) (arg3 : Memref sig .tc .vmem S512x512 .bf16) (harg3 : arg3.IsWhole) (arg4 : Memref sig .tc .vmem S512x512 .bf16) (harg4 : arg4.IsWhole) (arg5 : Memref sig .tc .vmem S512x1024 .bf16) (harg5 : arg5.IsWhole) (arg6 : Memref sig .tc .vmem S512x1024 .bf16) (harg6 : arg6.IsWhole) (arg7 : Memref sig .tc .vmem S512x1024 .bf16) (harg7 : arg7.IsWhole) (arg8 : Memref sig .tc .vmem S512x1024 .bf16) (harg8 : arg8.IsWhole) (arg9 : Memref sig .tc .vmem S1024x1024 .bf16) (harg9 : arg9.IsWhole) (arg10 : Memref sig .tc .vmem S1x1024 .f32) (harg10 : arg10.IsWhole) (arg11 : Memref sig .tc .vmem S1024x5632 .bf16) (harg11 : arg11.IsWhole) (arg12 : Memref sig .tc .vmem S3x2816 .f32) (harg12 : arg12.IsWhole) (arg13 : Memref sig .tc .vmem S2816x1024 .bf16) (harg13 : arg13.IsWhole) (arg14 : Memref sig .tc .vmem S1x1x512 .f32) (harg14 : arg14.IsWhole) (arg16 : Memref sig .tc .vmem S512x1024 .f32) (harg16 : arg16.IsWhole) (arg17 : Memref sig .tc .vmem S1x2x2816 .f32) (harg17 : arg17.IsWhole) (arg18 : Memref sig .tc .vmem S32x8x128 .f32) (harg18 : arg18.IsWhole) (arg19 : Memref sig .tc .vmem S512x1024 .f32) (harg19 : arg19.IsWhole) (arg20 : Memref sig .tc .vmem S8x2816 .f32) (harg20 : arg20.IsWhole) (arg21 : Memref sig .tc .vmem S32x8x64x128 .f32) (harg21 : arg21.IsWhole) (hc0 : cond0_0 i)
    (x0 : Vec F S512x1024 .f32) (x1 : Vec F S512x512 .bf16) (x2 : Vec F S512x512 .bf16) (x3 : Vec F S512x1024 .bf16) (x4 : Vec F S512x1024 .bf16) (x5 : Vec F S512x1024 .bf16) (x6 : Vec F S512x1024 .bf16) (x7 : Vec F S1024x1024 .bf16) (x8 : Vec F S1x1024 .f32) (x9 : Vec F S1024x5632 .bf16) (x10 : Vec F S3x2816 .f32) (x11 : Vec F S2816x1024 .bf16) (x12 : Vec F S1x1x512 .f32) (xt0 : TbBuf0 (F := F) c tbM0_0) (fh0 : HbBuf0 (F := F) c hbM0_0) (hw : Words c i xt0) (y : S8x2816.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg16 harg16 arg17 harg17 arg18 harg18 arg19 harg19 arg20 harg20 arg21 harg21 hc0 x0 x1 x2 x3 x4 x5 x6 x7 x8 x9 x10 x11 x12 xt0 fh0 hw).1, y ∈ pc.1.set :=
  View.cover_of_wholeMem (kernelRun0_A c i arg2 harg2 arg3 harg3 arg4 harg4 arg5 harg5 arg6 harg6 arg7 harg7 arg8 harg8 arg9 harg9 arg10 harg10 arg11 harg11 arg12 harg12 arg13 harg13 arg14 harg14 arg16 harg16 arg17 harg17 arg18 harg18 arg19 harg19 arg20 harg20 arg21 harg21 hc0 x0 x1 x2 x3 x4 x5 x6 x7 x8 x9 x10 x11 x12 xt0 fh0 hw).1 (by sl_whole_mem) y

def sout0_A_1 (c : Dev nD) (i : grid0.Coords) (arg2 : Memref sig .tc .vmem S512x1024 .f32) (harg2 : arg2.IsWhole) (arg3 : Memref sig .tc .vmem S512x512 .bf16) (harg3 : arg3.IsWhole) (arg4 : Memref sig .tc .vmem S512x512 .bf16) (harg4 : arg4.IsWhole) (arg5 : Memref sig .tc .vmem S512x1024 .bf16) (harg5 : arg5.IsWhole) (arg6 : Memref sig .tc .vmem S512x1024 .bf16) (harg6 : arg6.IsWhole) (arg7 : Memref sig .tc .vmem S512x1024 .bf16) (harg7 : arg7.IsWhole) (arg8 : Memref sig .tc .vmem S512x1024 .bf16) (harg8 : arg8.IsWhole) (arg9 : Memref sig .tc .vmem S1024x1024 .bf16) (harg9 : arg9.IsWhole) (arg10 : Memref sig .tc .vmem S1x1024 .f32) (harg10 : arg10.IsWhole) (arg11 : Memref sig .tc .vmem S1024x5632 .bf16) (harg11 : arg11.IsWhole) (arg12 : Memref sig .tc .vmem S3x2816 .f32) (harg12 : arg12.IsWhole) (arg13 : Memref sig .tc .vmem S2816x1024 .bf16) (harg13 : arg13.IsWhole) (arg14 : Memref sig .tc .vmem S1x1x512 .f32) (harg14 : arg14.IsWhole) (arg16 : Memref sig .tc .vmem S512x1024 .f32) (harg16 : arg16.IsWhole) (arg17 : Memref sig .tc .vmem S1x2x2816 .f32) (harg17 : arg17.IsWhole) (arg18 : Memref sig .tc .vmem S32x8x128 .f32) (harg18 : arg18.IsWhole) (arg19 : Memref sig .tc .vmem S512x1024 .f32) (harg19 : arg19.IsWhole) (arg20 : Memref sig .tc .vmem S8x2816 .f32) (harg20 : arg20.IsWhole) (arg21 : Memref sig .tc .vmem S32x8x64x128 .f32) (harg21 : arg21.IsWhole) (hc0 : cond0_0 i)
    (x0 : Vec F S512x1024 .f32) (x1 : Vec F S512x512 .bf16) (x2 : Vec F S512x512 .bf16) (x3 : Vec F S512x1024 .bf16) (x4 : Vec F S512x1024 .bf16) (x5 : Vec F S512x1024 .bf16) (x6 : Vec F S512x1024 .bf16) (x7 : Vec F S1024x1024 .bf16) (x8 : Vec F S1x1024 .f32) (x9 : Vec F S1024x5632 .bf16) (x10 : Vec F S3x2816 .f32) (x11 : Vec F S2816x1024 .bf16) (x12 : Vec F S1x1x512 .f32) (xt0 : TbBuf0 (F := F) c tbM0_0) (fh0 : HbBuf0 (F := F) c hbM0_0) (hw : Words c i xt0) : Vec F S8x2816 .f32 :=
  VS0_1.read (Elt F) (VS0_1.writes (Elt F) VS0_1.junk (kernelRun0_A c i arg2 harg2 arg3 harg3 arg4 harg4 arg5 harg5 arg6 harg6 arg7 harg7 arg8 harg8 arg9 harg9 arg10 harg10 arg11 harg11 arg12 harg12 arg13 harg13 arg14 harg14 arg16 harg16 arg17 harg17 arg18 harg18 arg19 harg19 arg20 harg20 arg21 harg21 hc0 x0 x1 x2 x3 x4 x5 x6 x7 x8 x9 x10 x11 x12 xt0 fh0 hw).1)

theorem scover0_B_1 (c : Dev nD) (i : grid0.Coords) (arg2 : Memref sig .tc .vmem S512x1024 .f32) (harg2 : arg2.IsWhole) (arg3 : Memref sig .tc .vmem S512x512 .bf16) (harg3 : arg3.IsWhole) (arg4 : Memref sig .tc .vmem S512x512 .bf16) (harg4 : arg4.IsWhole) (arg5 : Memref sig .tc .vmem S512x1024 .bf16) (harg5 : arg5.IsWhole) (arg6 : Memref sig .tc .vmem S512x1024 .bf16) (harg6 : arg6.IsWhole) (arg7 : Memref sig .tc .vmem S512x1024 .bf16) (harg7 : arg7.IsWhole) (arg8 : Memref sig .tc .vmem S512x1024 .bf16) (harg8 : arg8.IsWhole) (arg9 : Memref sig .tc .vmem S1024x1024 .bf16) (harg9 : arg9.IsWhole) (arg10 : Memref sig .tc .vmem S1x1024 .f32) (harg10 : arg10.IsWhole) (arg11 : Memref sig .tc .vmem S1024x5632 .bf16) (harg11 : arg11.IsWhole) (arg12 : Memref sig .tc .vmem S3x2816 .f32) (harg12 : arg12.IsWhole) (arg13 : Memref sig .tc .vmem S2816x1024 .bf16) (harg13 : arg13.IsWhole) (arg14 : Memref sig .tc .vmem S1x1x512 .f32) (harg14 : arg14.IsWhole) (arg16 : Memref sig .tc .vmem S512x1024 .f32) (harg16 : arg16.IsWhole) (arg17 : Memref sig .tc .vmem S1x2x2816 .f32) (harg17 : arg17.IsWhole) (arg18 : Memref sig .tc .vmem S32x8x128 .f32) (harg18 : arg18.IsWhole) (arg19 : Memref sig .tc .vmem S512x1024 .f32) (harg19 : arg19.IsWhole) (arg20 : Memref sig .tc .vmem S8x2816 .f32) (harg20 : arg20.IsWhole) (arg21 : Memref sig .tc .vmem S32x8x64x128 .f32) (harg21 : arg21.IsWhole) (hc0 : ¬cond0_0 i)
    (x0 : Vec F S512x1024 .f32) (x1 : Vec F S512x512 .bf16) (x2 : Vec F S512x512 .bf16) (x3 : Vec F S512x1024 .bf16) (x4 : Vec F S512x1024 .bf16) (x5 : Vec F S512x1024 .bf16) (x6 : Vec F S512x1024 .bf16) (x7 : Vec F S1024x1024 .bf16) (x8 : Vec F S1x1024 .f32) (x9 : Vec F S1024x5632 .bf16) (x10 : Vec F S3x2816 .f32) (x11 : Vec F S2816x1024 .bf16) (x12 : Vec F S1x1x512 .f32) (xt0 : TbBuf0 (F := F) c tbM0_0) (xs1 : Vec F S8x2816 .f32) (fh0 : HbBuf0 (F := F) c hbM0_0) (hw : Words c i xt0) (y : S8x2816.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg16 harg16 arg17 harg17 arg18 harg18 arg19 harg19 arg20 harg20 arg21 harg21 hc0 x0 x1 x2 x3 x4 x5 x6 x7 x8 x9 x10 x11 x12 xt0 xs1 fh0 hw).1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg16 harg16 arg17 harg17 arg18 harg18 arg19 harg19 arg20 harg20 arg21 harg21 hc0 x0 x1 x2 x3 x4 x5 x6 x7 x8 x9 x10 x11 x12 xt0 xs1 fh0 hw).1 S8x256.size (by sl_kernel_rfl) y

def sout0_B_1 (c : Dev nD) (i : grid0.Coords) (arg2 : Memref sig .tc .vmem S512x1024 .f32) (harg2 : arg2.IsWhole) (arg3 : Memref sig .tc .vmem S512x512 .bf16) (harg3 : arg3.IsWhole) (arg4 : Memref sig .tc .vmem S512x512 .bf16) (harg4 : arg4.IsWhole) (arg5 : Memref sig .tc .vmem S512x1024 .bf16) (harg5 : arg5.IsWhole) (arg6 : Memref sig .tc .vmem S512x1024 .bf16) (harg6 : arg6.IsWhole) (arg7 : Memref sig .tc .vmem S512x1024 .bf16) (harg7 : arg7.IsWhole) (arg8 : Memref sig .tc .vmem S512x1024 .bf16) (harg8 : arg8.IsWhole) (arg9 : Memref sig .tc .vmem S1024x1024 .bf16) (harg9 : arg9.IsWhole) (arg10 : Memref sig .tc .vmem S1x1024 .f32) (harg10 : arg10.IsWhole) (arg11 : Memref sig .tc .vmem S1024x5632 .bf16) (harg11 : arg11.IsWhole) (arg12 : Memref sig .tc .vmem S3x2816 .f32) (harg12 : arg12.IsWhole) (arg13 : Memref sig .tc .vmem S2816x1024 .bf16) (harg13 : arg13.IsWhole) (arg14 : Memref sig .tc .vmem S1x1x512 .f32) (harg14 : arg14.IsWhole) (arg16 : Memref sig .tc .vmem S512x1024 .f32) (harg16 : arg16.IsWhole) (arg17 : Memref sig .tc .vmem S1x2x2816 .f32) (harg17 : arg17.IsWhole) (arg18 : Memref sig .tc .vmem S32x8x128 .f32) (harg18 : arg18.IsWhole) (arg19 : Memref sig .tc .vmem S512x1024 .f32) (harg19 : arg19.IsWhole) (arg20 : Memref sig .tc .vmem S8x2816 .f32) (harg20 : arg20.IsWhole) (arg21 : Memref sig .tc .vmem S32x8x64x128 .f32) (harg21 : arg21.IsWhole) (hc0 : ¬cond0_0 i)
    (x0 : Vec F S512x1024 .f32) (x1 : Vec F S512x512 .bf16) (x2 : Vec F S512x512 .bf16) (x3 : Vec F S512x1024 .bf16) (x4 : Vec F S512x1024 .bf16) (x5 : Vec F S512x1024 .bf16) (x6 : Vec F S512x1024 .bf16) (x7 : Vec F S1024x1024 .bf16) (x8 : Vec F S1x1024 .f32) (x9 : Vec F S1024x5632 .bf16) (x10 : Vec F S3x2816 .f32) (x11 : Vec F S2816x1024 .bf16) (x12 : Vec F S1x1x512 .f32) (xt0 : TbBuf0 (F := F) c tbM0_0) (xs1 : Vec F S8x2816 .f32) (fh0 : HbBuf0 (F := F) c hbM0_0) (hw : Words c i xt0) : Vec F S8x2816 .f32 :=
  VS0_1.read (Elt F) (VS0_1.writes (Elt F) VS0_1.junk (kernelRun0_B c i arg2 harg2 arg3 harg3 arg4 harg4 arg5 harg5 arg6 harg6 arg7 harg7 arg8 harg8 arg9 harg9 arg10 harg10 arg11 harg11 arg12 harg12 arg13 harg13 arg14 harg14 arg16 harg16 arg17 harg17 arg18 harg18 arg19 harg19 arg20 harg20 arg21 harg21 hc0 x0 x1 x2 x3 x4 x5 x6 x7 x8 x9 x10 x11 x12 xt0 xs1 fh0 hw).1)

def outsAt0 (hO : Ok m) (hH : Hyps m hO) (c : Dev nD) : (n : ℕ) → n < (cfgM m hO).N → Vec F S8x2816 .f32
  | 0, hn => sout0_A_1 c (grid0.coords ⟨0, hn⟩) (ms0_0 m hO ⟨0, hn⟩) (hs0_0 m hO ⟨0, hn⟩) (ms0_1 m hO ⟨0, hn⟩) (hs0_1 m hO ⟨0, hn⟩) (ms0_2 m hO ⟨0, hn⟩) (hs0_2 m hO ⟨0, hn⟩) (ms0_3 m hO ⟨0, hn⟩) (hs0_3 m hO ⟨0, hn⟩) (ms0_4 m hO ⟨0, hn⟩) (hs0_4 m hO ⟨0, hn⟩) (ms0_5 m hO ⟨0, hn⟩) (hs0_5 m hO ⟨0, hn⟩) (ms0_6 m hO ⟨0, hn⟩) (hs0_6 m hO ⟨0, hn⟩) (ms0_7 m hO ⟨0, hn⟩) (hs0_7 m hO ⟨0, hn⟩) (ms0_8 m hO ⟨0, hn⟩) (hs0_8 m hO ⟨0, hn⟩) (ms0_9 m hO ⟨0, hn⟩) (hs0_9 m hO ⟨0, hn⟩) (ms0_10 m hO ⟨0, hn⟩) (hs0_10 m hO ⟨0, hn⟩) (ms0_11 m hO ⟨0, hn⟩) (hs0_11 m hO ⟨0, hn⟩) (ms0_12 m hO ⟨0, hn⟩) (hs0_12 m hO ⟨0, hn⟩) (ms0_13 m hO ⟨0, hn⟩) (hs0_13 m hO ⟨0, hn⟩) (ms0_14 m hO ⟨0, hn⟩) (hs0_14 m hO ⟨0, hn⟩) (ms0_15 m hO ⟨0, hn⟩) (hs0_15 m hO ⟨0, hn⟩) scM0_0 (Memref.isWhole_whole _) scM0_1 (Memref.isWhole_whole _) scM0_2 (Memref.isWhole_whole _) ((hcond0_0 ⟨0, hn⟩).mpr (Nat.zero_mod _)) (iblk m hO c 0 ⟨0, hn⟩) (iblk m hO c 1 ⟨0, hn⟩) (iblk m hO c 2 ⟨0, hn⟩) (iblk m hO c 3 ⟨0, hn⟩) (iblk m hO c 4 ⟨0, hn⟩) (iblk m hO c 5 ⟨0, hn⟩) (iblk m hO c 6 ⟨0, hn⟩) (iblk m hO c 7 ⟨0, hn⟩) (iblk m hO c 8 ⟨0, hn⟩) (iblk m hO c 9 ⟨0, hn⟩) (iblk m hO c 10 ⟨0, hn⟩) (iblk m hO c 11 ⟨0, hn⟩) (iblk m hO c 12 ⟨0, hn⟩) (tbl m 0) (V m c main_arg14) (hH c ⟨0, hn⟩)
  | n + 1, hn =>
    if h0 : (n + 1) % 4 = 0 then
      sout0_A_1 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) (ms0_5 m hO ⟨n + 1, hn⟩) (hs0_5 m hO ⟨n + 1, hn⟩) (ms0_6 m hO ⟨n + 1, hn⟩) (hs0_6 m hO ⟨n + 1, hn⟩) (ms0_7 m hO ⟨n + 1, hn⟩) (hs0_7 m hO ⟨n + 1, hn⟩) (ms0_8 m hO ⟨n + 1, hn⟩) (hs0_8 m hO ⟨n + 1, hn⟩) (ms0_9 m hO ⟨n + 1, hn⟩) (hs0_9 m hO ⟨n + 1, hn⟩) (ms0_10 m hO ⟨n + 1, hn⟩) (hs0_10 m hO ⟨n + 1, hn⟩) (ms0_11 m hO ⟨n + 1, hn⟩) (hs0_11 m hO ⟨n + 1, hn⟩) (ms0_12 m hO ⟨n + 1, hn⟩) (hs0_12 m hO ⟨n + 1, hn⟩) (ms0_13 m hO ⟨n + 1, hn⟩) (hs0_13 m hO ⟨n + 1, hn⟩) (ms0_14 m hO ⟨n + 1, hn⟩) (hs0_14 m hO ⟨n + 1, hn⟩) (ms0_15 m hO ⟨n + 1, hn⟩) (hs0_15 m hO ⟨n + 1, hn⟩) scM0_0 (Memref.isWhole_whole _) scM0_1 (Memref.isWhole_whole _) scM0_2 (Memref.isWhole_whole _) ((hcond0_0 ⟨n + 1, hn⟩).mpr h0) (iblk m hO c 0 ⟨n + 1, hn⟩) (iblk m hO c 1 ⟨n + 1, hn⟩) (iblk m hO c 2 ⟨n + 1, hn⟩) (iblk m hO c 3 ⟨n + 1, hn⟩) (iblk m hO c 4 ⟨n + 1, hn⟩) (iblk m hO c 5 ⟨n + 1, hn⟩) (iblk m hO c 6 ⟨n + 1, hn⟩) (iblk m hO c 7 ⟨n + 1, hn⟩) (iblk m hO c 8 ⟨n + 1, hn⟩) (iblk m hO c 9 ⟨n + 1, hn⟩) (iblk m hO c 10 ⟨n + 1, hn⟩) (iblk m hO c 11 ⟨n + 1, hn⟩) (iblk m hO c 12 ⟨n + 1, hn⟩) (tbl m 0) (V m c main_arg14) (hH c ⟨n + 1, hn⟩)
    else
      sout0_B_1 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) (ms0_5 m hO ⟨n + 1, hn⟩) (hs0_5 m hO ⟨n + 1, hn⟩) (ms0_6 m hO ⟨n + 1, hn⟩) (hs0_6 m hO ⟨n + 1, hn⟩) (ms0_7 m hO ⟨n + 1, hn⟩) (hs0_7 m hO ⟨n + 1, hn⟩) (ms0_8 m hO ⟨n + 1, hn⟩) (hs0_8 m hO ⟨n + 1, hn⟩) (ms0_9 m hO ⟨n + 1, hn⟩) (hs0_9 m hO ⟨n + 1, hn⟩) (ms0_10 m hO ⟨n + 1, hn⟩) (hs0_10 m hO ⟨n + 1, hn⟩) (ms0_11 m hO ⟨n + 1, hn⟩) (hs0_11 m hO ⟨n + 1, hn⟩) (ms0_12 m hO ⟨n + 1, hn⟩) (hs0_12 m hO ⟨n + 1, hn⟩) (ms0_13 m hO ⟨n + 1, hn⟩) (hs0_13 m hO ⟨n + 1, hn⟩) (ms0_14 m hO ⟨n + 1, hn⟩) (hs0_14 m hO ⟨n + 1, hn⟩) (ms0_15 m hO ⟨n + 1, hn⟩) (hs0_15 m hO ⟨n + 1, hn⟩) scM0_0 (Memref.isWhole_whole _) scM0_1 (Memref.isWhole_whole _) scM0_2 (Memref.isWhole_whole _) (fun h => h0 ((hcond0_0 ⟨n + 1, hn⟩).mp h)) (iblk m hO c 0 ⟨n + 1, hn⟩) (iblk m hO c 1 ⟨n + 1, hn⟩) (iblk m hO c 2 ⟨n + 1, hn⟩) (iblk m hO c 3 ⟨n + 1, hn⟩) (iblk m hO c 4 ⟨n + 1, hn⟩) (iblk m hO c 5 ⟨n + 1, hn⟩) (iblk m hO c 6 ⟨n + 1, hn⟩) (iblk m hO c 7 ⟨n + 1, hn⟩) (iblk m hO c 8 ⟨n + 1, hn⟩) (iblk m hO c 9 ⟨n + 1, hn⟩) (iblk m hO c 10 ⟨n + 1, hn⟩) (iblk m hO c 11 ⟨n + 1, hn⟩) (iblk m hO c 12 ⟨n + 1, hn⟩) (tbl m 0) (outsAt0 hO hH c n (Nat.lt_of_succ_lt hn)) (V m c main_arg14) (hH c ⟨n + 1, hn⟩)

theorem outsAt0_A (hO : Ok m) (hH : Hyps m hO) (c : Dev nD) (t : Fin (cfgM m hO).N) (h0 : t.val % 4 = 0) :
    outsAt0 m hO hH c t.val t.isLt = sout0_A_1 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (ms0_12 m hO t) (hs0_12 m hO t) (ms0_13 m hO t) (hs0_13 m hO t) (ms0_14 m hO t) (hs0_14 m hO t) (ms0_15 m hO t) (hs0_15 m hO t) scM0_0 (Memref.isWhole_whole _) scM0_1 (Memref.isWhole_whole _) scM0_2 (Memref.isWhole_whole _) ((hcond0_0 t).mpr h0) (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (iblk m hO c 11 t) (iblk m hO c 12 t) (tbl m 0) (V m c main_arg14) (hH c t) := by
  obtain ⟨n, hn⟩ := t
  cases n with
  | zero => exact rfl
  | succ n => exact (dif_pos h0).trans rfl

theorem outsAt0_B (hO : Ok m) (hH : Hyps m hO) (c : Dev nD) (t : Fin (cfgM m hO).N) (h0 : ¬t.val % 4 = 0) :
    outsAt0 m hO hH c t.val t.isLt = sout0_B_1 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (ms0_12 m hO t) (hs0_12 m hO t) (ms0_13 m hO t) (hs0_13 m hO t) (ms0_14 m hO t) (hs0_14 m hO t) (ms0_15 m hO t) (hs0_15 m hO t) scM0_0 (Memref.isWhole_whole _) scM0_1 (Memref.isWhole_whole _) scM0_2 (Memref.isWhole_whole _) (fun h => h0 ((hcond0_0 t).mp h)) (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (iblk m hO c 11 t) (iblk m hO c 12 t) (tbl m 0) (outsAt0 m hO hH c (t.val - 1) (Nat.lt_of_le_of_lt (Nat.sub_le _ _) t.isLt)) (V m c main_arg14) (hH c t) := by
  obtain ⟨n, hn⟩ := t
  cases n with
  | zero => exact (by exfalso; (try dsimp only at h0); exact absurd (Nat.zero_mod _) h0)
  | succ n => exact (dif_neg h0).trans rfl

def PhiS (hO : Ok m) (hH : Hyps m hO) (c : Dev nD) : (n : ℕ) → n ≤ (cfgM m hO).N → sProp (MM F)
  | 0, _ => iprop(Pipeline.ΦD osem0 spec0 H0 (V m) c ∗ Pipeline.ΦT pre0 (tbl m) c)
  | n + 1, hn => iprop(iprop(iprop((∃ d, owns (c : Thread nD τ) scM0_0 fullShare d) ∗ owns (c : Thread nD τ) scM0_1 fullShare ((outsAt0 m hO hH c n hn)) ∗ (∃ d, owns (c : Thread nD τ) scM0_2 fullShare d)) ∗ (∃ r, prngReg c r) ∗ iprop(semVal ((c : Thread nD τ), SemLoc.dma 25) 0) ∗ iprop(hbPt0 c hbM0_0 (V m c main_arg14))) ∗ Pipeline.ΦT pre0 (tbl m) c)

theorem PhiS_zero (hO : Ok m) (hH : Hyps m hO) (c : Dev nD) (n : ℕ) (h : n ≤ (cfgM m hO).N) (hz : n = 0) : PhiS m hO hH c n h = iprop(Pipeline.ΦD osem0 spec0 H0 (V m) c ∗ Pipeline.ΦT pre0 (tbl m) c) := by
  subst hz; rfl

theorem PhiS_succ (hO : Ok m) (hH : Hyps m hO) (c : Dev nD) (n : ℕ) (hn : n < (cfgM m hO).N) :
    PhiS m hO hH c (n + 1) hn = iprop(iprop(iprop((∃ d, owns (c : Thread nD τ) scM0_0 fullShare d) ∗ owns (c : Thread nD τ) scM0_1 fullShare ((outsAt0 m hO hH c n hn)) ∗ (∃ d, owns (c : Thread nD τ) scM0_2 fullShare d)) ∗ (∃ r, prngReg c r) ∗ iprop(semVal ((c : Thread nD τ), SemLoc.dma 25) 0) ∗ iprop(hbPt0 c hbM0_0 (V m c main_arg14))) ∗ Pipeline.ΦT pre0 (tbl m) c) := rfl

theorem PhiS_pos (hO : Ok m) (hH : Hyps m hO) (c : Dev nD) (n : ℕ) (h : n ≤ (cfgM m hO).N) (hz : n ≠ 0) :
    PhiS m hO hH c n h = iprop(iprop(iprop((∃ d, owns (c : Thread nD τ) scM0_0 fullShare d) ∗ owns (c : Thread nD τ) scM0_1 fullShare ((outsAt0 m hO hH c (n - 1) (by omega))) ∗ (∃ d, owns (c : Thread nD τ) scM0_2 fullShare d)) ∗ (∃ r, prngReg c r) ∗ iprop(semVal ((c : Thread nD τ), SemLoc.dma 25) 0) ∗ iprop(hbPt0 c hbM0_0 (V m c main_arg14))) ∗ Pipeline.ΦT pre0 (tbl m) c) := by
  cases n with
  | zero => exact absurd rfl hz
  | succ n => rfl

def forgets0 : Fin 16 → Bool := fun w => w.val == 13 || w.val == 14 || w.val == 15

def dats (hO : Ok m) (hH : Hyps m hO) (_ : Fin 1) (c : Dev nD) : Dat τ (Elt F) Unit ℕ (Pipeline.UD sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, _⟩ => iblk m hO c 6 t
    | ⟨7, _⟩ => iblk m hO c 7 t
    | ⟨8, _⟩ => iblk m hO c 8 t
    | ⟨9, _⟩ => iblk m hO c 9 t
    | ⟨10, _⟩ => iblk m hO c 10 t
    | ⟨11, _⟩ => iblk m hO c 11 t
    | ⟨12, _⟩ => iblk m hO c 12 t
    | ⟨13, h⟩ => Pipeline.Dat.unnamed (cfg := (cfgM m hO)) ⟨13, h⟩ t
    | ⟨14, h⟩ => Pipeline.Dat.unnamed (cfg := (cfgM m hO)) ⟨14, h⟩ t
    | ⟨15, h⟩ => Pipeline.Dat.unnamed (cfg := (cfgM m hO)) ⟨15, h⟩ t
    | ⟨_ + 16, h⟩ => absurd h (Nat.not_lt.2 (Nat.le_add_left _ _))
  Φ t := PhiS m hO hH c t.val (Nat.le_of_lt_succ t.isLt)
  q _ := fullShare
  owed _ := 0

theorem A_eq (hO : Ok m) (hH : Hyps m hO) (c : Dev nD) (w : Fin (cfgM m hO).W) : (dats m hO hH 0 c).A w = V m c (Pipeline.arrRef spec0 w) := by
  dsimp only [dats]

theorem PhiS_castSucc (hO : Ok m) (hH : Hyps m hO) (c : Dev nD) (t : Fin (cfgM m hO).N) :
    (dats m hO hH 0 c).Φ t.castSucc = PhiS m hO hH c t.val (Nat.le_of_lt t.isLt) := by
  dsimp only [dats]; exact Pipeline.Dat.Φ_castSucc (PhiS m hO hH c) t

theorem after0_0 (hO : Ok m) (hH : Hyps m hO) (c : Dev nD) (t : Fin (cfgM m hO).N) : (dats m hO hH 0 c).after 0 t = iblk m hO c 0 t := by dsimp only [dats]; try rfl
theorem after0_1 (hO : Ok m) (hH : Hyps m hO) (c : Dev nD) (t : Fin (cfgM m hO).N) : (dats m hO hH 0 c).after 1 t = iblk m hO c 1 t := by dsimp only [dats]; try rfl
theorem after0_2 (hO : Ok m) (hH : Hyps m hO) (c : Dev nD) (t : Fin (cfgM m hO).N) : (dats m hO hH 0 c).after 2 t = iblk m hO c 2 t := by dsimp only [dats]; try rfl
theorem after0_3 (hO : Ok m) (hH : Hyps m hO) (c : Dev nD) (t : Fin (cfgM m hO).N) : (dats m hO hH 0 c).after 3 t = iblk m hO c 3 t := by dsimp only [dats]; try rfl
theorem after0_4 (hO : Ok m) (hH : Hyps m hO) (c : Dev nD) (t : Fin (cfgM m hO).N) : (dats m hO hH 0 c).after 4 t = iblk m hO c 4 t := by dsimp only [dats]; try rfl
theorem after0_5 (hO : Ok m) (hH : Hyps m hO) (c : Dev nD) (t : Fin (cfgM m hO).N) : (dats m hO hH 0 c).after 5 t = iblk m hO c 5 t := by dsimp only [dats]; try rfl
theorem after0_6 (hO : Ok m) (hH : Hyps m hO) (c : Dev nD) (t : Fin (cfgM m hO).N) : (dats m hO hH 0 c).after 6 t = iblk m hO c 6 t := by dsimp only [dats]; try rfl
theorem after0_7 (hO : Ok m) (hH : Hyps m hO) (c : Dev nD) (t : Fin (cfgM m hO).N) : (dats m hO hH 0 c).after 7 t = iblk m hO c 7 t := by dsimp only [dats]; try rfl
theorem after0_8 (hO : Ok m) (hH : Hyps m hO) (c : Dev nD) (t : Fin (cfgM m hO).N) : (dats m hO hH 0 c).after 8 t = iblk m hO c 8 t := by dsimp only [dats]; try rfl
theorem after0_9 (hO : Ok m) (hH : Hyps m hO) (c : Dev nD) (t : Fin (cfgM m hO).N) : (dats m hO hH 0 c).after 9 t = iblk m hO c 9 t := by dsimp only [dats]; try rfl
theorem after0_10 (hO : Ok m) (hH : Hyps m hO) (c : Dev nD) (t : Fin (cfgM m hO).N) : (dats m hO hH 0 c).after 10 t = iblk m hO c 10 t := by dsimp only [dats]; try rfl
theorem after0_11 (hO : Ok m) (hH : Hyps m hO) (c : Dev nD) (t : Fin (cfgM m hO).N) : (dats m hO hH 0 c).after 11 t = iblk m hO c 11 t := by dsimp only [dats]; try rfl
theorem after0_12 (hO : Ok m) (hH : Hyps m hO) (c : Dev nD) (t : Fin (cfgM m hO).N) : (dats m hO hH 0 c).after 12 t = iblk m hO c 12 t := by dsimp only [dats]; try rfl

theorem before0_0 (hO : Ok m) (hH : Hyps m hO) (c : Dev nD) (t : Fin (cfgM m hO).N) (d) : (dats m hO hH 0 c).before 0 t d = iblk m hO c 0 t :=
  before0_0_of m hO (dats m hO hH 0 c) (A_eq m hO hH c 0) (after0_0 m hO hH c) t d
theorem before0_1 (hO : Ok m) (hH : Hyps m hO) (c : Dev nD) (t : Fin (cfgM m hO).N) (d) : (dats m hO hH 0 c).before 1 t d = iblk m hO c 1 t :=
  before0_1_of m hO (dats m hO hH 0 c) (A_eq m hO hH c 1) (after0_1 m hO hH c) t d
theorem before0_2 (hO : Ok m) (hH : Hyps m hO) (c : Dev nD) (t : Fin (cfgM m hO).N) (d) : (dats m hO hH 0 c).before 2 t d = iblk m hO c 2 t :=
  before0_2_of m hO (dats m hO hH 0 c) (A_eq m hO hH c 2) (after0_2 m hO hH c) t d
theorem before0_3 (hO : Ok m) (hH : Hyps m hO) (c : Dev nD) (t : Fin (cfgM m hO).N) (d) : (dats m hO hH 0 c).before 3 t d = iblk m hO c 3 t :=
  before0_3_of m hO (dats m hO hH 0 c) (A_eq m hO hH c 3) (after0_3 m hO hH c) t d
theorem before0_4 (hO : Ok m) (hH : Hyps m hO) (c : Dev nD) (t : Fin (cfgM m hO).N) (d) : (dats m hO hH 0 c).before 4 t d = iblk m hO c 4 t :=
  before0_4_of m hO (dats m hO hH 0 c) (A_eq m hO hH c 4) (after0_4 m hO hH c) t d
theorem before0_5 (hO : Ok m) (hH : Hyps m hO) (c : Dev nD) (t : Fin (cfgM m hO).N) (d) : (dats m hO hH 0 c).before 5 t d = iblk m hO c 5 t :=
  before0_5_of m hO (dats m hO hH 0 c) (A_eq m hO hH c 5) (after0_5 m hO hH c) t d
theorem before0_6 (hO : Ok m) (hH : Hyps m hO) (c : Dev nD) (t : Fin (cfgM m hO).N) (d) : (dats m hO hH 0 c).before 6 t d = iblk m hO c 6 t :=
  before0_6_of m hO (dats m hO hH 0 c) (A_eq m hO hH c 6) (after0_6 m hO hH c) t d
theorem before0_7 (hO : Ok m) (hH : Hyps m hO) (c : Dev nD) (t : Fin (cfgM m hO).N) (d) : (dats m hO hH 0 c).before 7 t d = iblk m hO c 7 t :=
  before0_7_of m hO (dats m hO hH 0 c) (A_eq m hO hH c 7) (after0_7 m hO hH c) t d
theorem before0_8 (hO : Ok m) (hH : Hyps m hO) (c : Dev nD) (t : Fin (cfgM m hO).N) (d) : (dats m hO hH 0 c).before 8 t d = iblk m hO c 8 t :=
  before0_8_of m hO (dats m hO hH 0 c) (A_eq m hO hH c 8) (after0_8 m hO hH c) t d
theorem before0_9 (hO : Ok m) (hH : Hyps m hO) (c : Dev nD) (t : Fin (cfgM m hO).N) (d) : (dats m hO hH 0 c).before 9 t d = iblk m hO c 9 t :=
  before0_9_of m hO (dats m hO hH 0 c) (A_eq m hO hH c 9) (after0_9 m hO hH c) t d
theorem before0_10 (hO : Ok m) (hH : Hyps m hO) (c : Dev nD) (t : Fin (cfgM m hO).N) (d) : (dats m hO hH 0 c).before 10 t d = iblk m hO c 10 t :=
  before0_10_of m hO (dats m hO hH 0 c) (A_eq m hO hH c 10) (after0_10 m hO hH c) t d
theorem before0_11 (hO : Ok m) (hH : Hyps m hO) (c : Dev nD) (t : Fin (cfgM m hO).N) (d) : (dats m hO hH 0 c).before 11 t d = iblk m hO c 11 t :=
  before0_11_of m hO (dats m hO hH 0 c) (A_eq m hO hH c 11) (after0_11 m hO hH c) t d
theorem before0_12 (hO : Ok m) (hH : Hyps m hO) (c : Dev nD) (t : Fin (cfgM m hO).N) (d) : (dats m hO hH 0 c).before 12 t d = iblk m hO c 12 t :=
  before0_12_of m hO (dats m hO hH 0 c) (A_eq m hO hH c 12) (after0_12 m hO hH c) t d

def bodyPre (hO : Ok m) (hH : Hyps m hO) (c : Dev nD) (t : Fin (cfgM m hO).N) : sProp (MM F) :=
  iprop((dats m hO hH 0 c).Φ t.castSucc ∗ (dats m hO hH 0 c).owesAt () t.castSucc
    ∗ (∃ d, owns (c : Thread nD τ) (ms0_0 m hO t) fullShare ((dats m hO hH 0 c).before 0 t d))
    ∗ (∃ d, owns (c : Thread nD τ) (ms0_1 m hO t) fullShare ((dats m hO hH 0 c).before 1 t d))
    ∗ (∃ d, owns (c : Thread nD τ) (ms0_2 m hO t) fullShare ((dats m hO hH 0 c).before 2 t d))
    ∗ (∃ d, owns (c : Thread nD τ) (ms0_3 m hO t) fullShare ((dats m hO hH 0 c).before 3 t d))
    ∗ (∃ d, owns (c : Thread nD τ) (ms0_4 m hO t) fullShare ((dats m hO hH 0 c).before 4 t d))
    ∗ (∃ d, owns (c : Thread nD τ) (ms0_5 m hO t) fullShare ((dats m hO hH 0 c).before 5 t d))
    ∗ (∃ d, owns (c : Thread nD τ) (ms0_6 m hO t) fullShare ((dats m hO hH 0 c).before 6 t d))
    ∗ (∃ d, owns (c : Thread nD τ) (ms0_7 m hO t) fullShare ((dats m hO hH 0 c).before 7 t d))
    ∗ (∃ d, owns (c : Thread nD τ) (ms0_8 m hO t) fullShare ((dats m hO hH 0 c).before 8 t d))
    ∗ (∃ d, owns (c : Thread nD τ) (ms0_9 m hO t) fullShare ((dats m hO hH 0 c).before 9 t d))
    ∗ (∃ d, owns (c : Thread nD τ) (ms0_10 m hO t) fullShare ((dats m hO hH 0 c).before 10 t d))
    ∗ (∃ d, owns (c : Thread nD τ) (ms0_11 m hO t) fullShare ((dats m hO hH 0 c).before 11 t d))
    ∗ (∃ d, owns (c : Thread nD τ) (ms0_12 m hO t) fullShare ((dats m hO hH 0 c).before 12 t d))
    ∗ (∃ d, owns (c : Thread nD τ) (ms0_13 m hO t) fullShare d)
    ∗ (∃ d, owns (c : Thread nD τ) (ms0_14 m hO t) fullShare d)
    ∗ (∃ d, owns (c : Thread nD τ) (ms0_15 m hO t) fullShare d))

def bodyPost (hO : Ok m) (hH : Hyps m hO) (c : Dev nD) (t : Fin (cfgM m hO).N) : sProp (MM F) :=
  iprop((dats m hO hH 0 c).Φ t.succ ∗ (dats m hO hH 0 c).owesAt () t.succ
    ∗ owns (c : Thread nD τ) (ms0_0 m hO t) fullShare ((dats m hO hH 0 c).after 0 t)
    ∗ owns (c : Thread nD τ) (ms0_1 m hO t) fullShare ((dats m hO hH 0 c).after 1 t)
    ∗ owns (c : Thread nD τ) (ms0_2 m hO t) fullShare ((dats m hO hH 0 c).after 2 t)
    ∗ owns (c : Thread nD τ) (ms0_3 m hO t) fullShare ((dats m hO hH 0 c).after 3 t)
    ∗ owns (c : Thread nD τ) (ms0_4 m hO t) fullShare ((dats m hO hH 0 c).after 4 t)
    ∗ owns (c : Thread nD τ) (ms0_5 m hO t) fullShare ((dats m hO hH 0 c).after 5 t)
    ∗ owns (c : Thread nD τ) (ms0_6 m hO t) fullShare ((dats m hO hH 0 c).after 6 t)
    ∗ owns (c : Thread nD τ) (ms0_7 m hO t) fullShare ((dats m hO hH 0 c).after 7 t)
    ∗ owns (c : Thread nD τ) (ms0_8 m hO t) fullShare ((dats m hO hH 0 c).after 8 t)
    ∗ owns (c : Thread nD τ) (ms0_9 m hO t) fullShare ((dats m hO hH 0 c).after 9 t)
    ∗ owns (c : Thread nD τ) (ms0_10 m hO t) fullShare ((dats m hO hH 0 c).after 10 t)
    ∗ owns (c : Thread nD τ) (ms0_11 m hO t) fullShare ((dats m hO hH 0 c).after 11 t)
    ∗ owns (c : Thread nD τ) (ms0_12 m hO t) fullShare ((dats m hO hH 0 c).after 12 t)
    ∗ (∃ d, owns (c : Thread nD τ) (ms0_13 m hO t) fullShare d)
    ∗ (∃ d, owns (c : Thread nD τ) (ms0_14 m hO t) fullShare d)
    ∗ (∃ d, owns (c : Thread nD τ) (ms0_15 m hO t) fullShare d))

set_option maxHeartbeats 12800000 in
theorem sound_body (hO : Ok m) (hH : Hyps m hO) (c : Dev nD) (t : Fin (cfgM m hO).N) :
    bodyPre m hO hH c t ⊢ wp frame (wpE (defs₀ (F := F)) Variants.none c none) Set.univ (bodyAt0 (adm m hO) t) (fun _ => bodyPost m hO hH c t) := by
  unfold bodyPre bodyPost bodyAt0
  simp only [before0_0, before0_1, before0_2, before0_3, before0_4, before0_5, before0_6, before0_7, before0_8, before0_9, before0_10, before0_11, before0_12]
  rw [show (dats m hO hH 0 c).Φ t.succ = PhiS m hO hH c (t.val + 1) t.isLt from rfl, PhiS_succ,
    after0_0, after0_1, after0_2, after0_3, after0_4, after0_5, after0_6, after0_7, after0_8, after0_9, after0_10, after0_11, after0_12]
  unfold Dat.owesAt Pipeline.owesWithin
  rw [show (dats m hO hH 0 c).owed t.castSucc = 0 from rfl, show (dats m hO hH 0 c).owed t.succ = 0 from rfl]
  have hN : t.val < 32 := lt_of_lt_of_eq t.isLt (show (cfgM m hO).N = 32 from N_0)
  by_cases h0 : t.val % 4 = 0
  · by_cases hz : t.val = 0
    · rw [PhiS_castSucc m hO hH c t, PhiS_zero m hO hH c _ _ hz, PhiT0_eq, PhiD0_eq]
      rw [outsAt0_A m hO hH c t h0]
      unfold sout0_A_1
      iintro ⟨⟨⟨⟨HS0, HS1, HS2⟩, Hg, Hq0, Hh0⟩, HT0⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
      iapply ((kernelRun0_A c (grid0.coords t) _ _ _ _ _ _ _ _ _ _ _ _ _ _ _ _ _ _ _ _ _ _ _ _ _ _ _ _ _ _ _ _ _ _ _ _ _ _ ((hcond0_0 t).mpr h0) (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (iblk m hO c 11 t) (iblk m hO c 12 t) (tbl m 0) (V m c main_arg14) (hH c t)).2 W _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexists _; iexact H13
      isplitl [H14]; · iexists _; iexact H14
      isplitl [H15]; · iexists _; iexact H15
      isplitl [HS0]; · iexact HS0
      isplitl [HS1]; · iexact HS1
      isplitl [HS2]; · iexact HS2
      isplitl [HT0]; · iexact HT0
      isplitl [Hq0]; · iexact Hq0
      isplitl [Hh0]; · iexact Hh0
      isplitl [HW]; · iexact HW
      iintro ⟨H0, H1, H2, H3, H4, H5, H6, H7, H8, H9, H10, H11, H12, H13, H14, H15, HS0, ⟨%es1, HS1⟩, HS2, HT0, Hq0, Hh0, ⟨%W', HW'⟩⟩
      isplitl [HS0 HS1 HS2 Hg Hq0 Hh0 HT0]
      · isplitl [HS0 HS1 HS2 Hg Hq0 Hh0]
        · isplitl [HS0 HS1 HS2]
          · isplitl [HS0]; · iexact HS0
            isplitl [HS1]
            · unfold owns; iexists _; isplitr
              swap; · iexact HS1
              ipureintro; exact View.read_writes_of_cover _ _ _ _ _ (scover0_A_1 c _ _ _ _ _ _ _ _ _ _ _ _ _ _ _ _ _ _ _ _ _ _ _ _ _ _ _ _ _ _ _ _ _ _ _ _ _ _ _ _ _ _ _ _ _ _ _ _ _ _ _ _ _ _ _ _)
            iexact HS2
          isplitl [Hg]
          · iexact Hg
          isplitl [Hq0]
          · iexact Hq0
          iexact Hh0
        iexact HT0
      isplitl [HW']
      · iexists W'; isplitr; · ipureintro; exact fun _ _ => Or.inl trivial
        iexact HW'
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      iexact H15
    · rw [PhiS_castSucc m hO hH c t, PhiS_pos m hO hH c _ _ hz, PhiT0_eq]
      rw [outsAt0_A m hO hH c t h0]
      unfold sout0_A_1
      iintro ⟨⟨⟨⟨HS0, HS1, HS2⟩, Hg, Hq0, Hh0⟩, HT0⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
      iapply ((kernelRun0_A c (grid0.coords t) _ _ _ _ _ _ _ _ _ _ _ _ _ _ _ _ _ _ _ _ _ _ _ _ _ _ _ _ _ _ _ _ _ _ _ _ _ _ ((hcond0_0 t).mpr h0) (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (iblk m hO c 11 t) (iblk m hO c 12 t) (tbl m 0) (V m c main_arg14) (hH c t)).2 W _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexists _; iexact H13
      isplitl [H14]; · iexists _; iexact H14
      isplitl [H15]; · iexists _; iexact H15
      isplitl [HS0]; · iexact HS0
      isplitl [HS1]; · iexists _; iexact HS1
      isplitl [HS2]; · iexact HS2
      isplitl [HT0]; · iexact HT0
      isplitl [Hq0]; · iexact Hq0
      isplitl [Hh0]; · iexact Hh0
      isplitl [HW]; · iexact HW
      iintro ⟨H0, H1, H2, H3, H4, H5, H6, H7, H8, H9, H10, H11, H12, H13, H14, H15, HS0, ⟨%es1, HS1⟩, HS2, HT0, Hq0, Hh0, ⟨%W', HW'⟩⟩
      isplitl [HS0 HS1 HS2 Hg Hq0 Hh0 HT0]
      · isplitl [HS0 HS1 HS2 Hg Hq0 Hh0]
        · isplitl [HS0 HS1 HS2]
          · isplitl [HS0]; · iexact HS0
            isplitl [HS1]
            · unfold owns; iexists _; isplitr
              swap; · iexact HS1
              ipureintro; exact View.read_writes_of_cover _ _ _ _ _ (scover0_A_1 c _ _ _ _ _ _ _ _ _ _ _ _ _ _ _ _ _ _ _ _ _ _ _ _ _ _ _ _ _ _ _ _ _ _ _ _ _ _ _ _ _ _ _ _ _ _ _ _ _ _ _ _ _ _ _ _)
            iexact HS2
          isplitl [Hg]
          · iexact Hg
          isplitl [Hq0]
          · iexact Hq0
          iexact Hh0
        iexact HT0
      isplitl [HW']
      · iexists W'; isplitr; · ipureintro; exact fun _ _ => Or.inl trivial
        iexact HW'
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      iexact H15
  · by_cases hz : t.val = 0
    · exfalso; have hN : t.val < 32 := lt_of_lt_of_eq t.isLt (show (cfgM m hO).N = 32 from N_0); omega
    · rw [PhiS_castSucc m hO hH c t, PhiS_pos m hO hH c _ _ hz, PhiT0_eq]
      rw [outsAt0_B m hO hH c t h0]
      unfold sout0_B_1
      iintro ⟨⟨⟨⟨HS0, HS1, HS2⟩, Hg, Hq0, Hh0⟩, HT0⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
      iapply ((kernelRun0_B c (grid0.coords t) _ _ _ _ _ _ _ _ _ _ _ _ _ _ _ _ _ _ _ _ _ _ _ _ _ _ _ _ _ _ _ _ _ _ _ _ _ _ (fun h => h0 ((hcond0_0 t).mp h)) (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (iblk m hO c 11 t) (iblk m hO c 12 t) (tbl m 0) _ (V m c main_arg14) (hH c t)).2 W _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexists _; iexact H13
      isplitl [H14]; · iexists _; iexact H14
      isplitl [H15]; · iexists _; iexact H15
      isplitl [HS0]; · iexact HS0
      isplitl [HS1]; · iexact HS1
      isplitl [HS2]; · iexact HS2
      isplitl [HT0]; · iexact HT0
      isplitl [Hq0]; · iexact Hq0
      isplitl [Hh0]; · iexact Hh0
      isplitl [HW]; · iexact HW
      iintro ⟨H0, H1, H2, H3, H4, H5, H6, H7, H8, H9, H10, H11, H12, H13, H14, H15, HS0, ⟨%es1, HS1⟩, HS2, HT0, Hq0, Hh0, ⟨%W', HW'⟩⟩
      isplitl [HS0 HS1 HS2 Hg Hq0 Hh0 HT0]
      · isplitl [HS0 HS1 HS2 Hg Hq0 Hh0]
        · isplitl [HS0 HS1 HS2]
          · isplitl [HS0]; · iexact HS0
            isplitl [HS1]
            · unfold owns; iexists _; isplitr
              swap; · iexact HS1
              ipureintro; exact View.read_writes_of_cover _ _ _ _ _ (scover0_B_1 c _ _ _ _ _ _ _ _ _ _ _ _ _ _ _ _ _ _ _ _ _ _ _ _ _ _ _ _ _ _ _ _ _ _ _ _ _ _ _ _ _ _ _ _ _ _ _ _ _ _ _ _ _ _ _ _ _)
            iexact HS2
          isplitl [Hg]
          · iexact Hg
          isplitl [Hq0]
          · iexact Hq0
          iexact Hh0
        iexact HT0
      isplitl [HW']
      · iexists W'; isplitr; · ipureintro; exact fun _ _ => Or.inl trivial
        iexact HW'
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      iexact H15

theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

theorem body_obligation (hO : Ok m) (hH : Hyps m hO) (c : Dev nD) : BodyObligation (dats (F := F) m hO hH 0 c) (defs₀ (F := F)) Variants.none () Set.univ forgets0 := fun t => by
  rw [bigSep_W0, bigSep_W0, defs₀_row m hO]
  exact triple_restated (sound_body m hO hH c t) rfl .rfl fun _ => .rfl

theorem hin (hO : Ok m) (hH : Hyps m hO) (c : Dev nD) : iprop(Pipeline.ΦD osem0 spec0 H0 (V m) c ∗ Pipeline.ΦT pre0 (tbl m) c) ⊢ (dats m hO hH 0 c).Φ 0 := by
  rw [show (dats m hO hH 0 c).Φ 0 = PhiS m hO hH c 0 (Nat.zero_le _) from rfl, PhiS_zero m hO hH c 0 _ rfl]
  try exact Idealize.SL.BI.Entails.refl _

theorem Phi_out (hO : Ok m) (hH : Hyps m hO) (c : Dev nD) (t : Fin ((cfgM m hO).N + 1)) (ht : t.val ≠ 0) : (dats m hO hH 0 c).Φ t ⊢ Pipeline.ΦD osem0 spec0 H0 (V m) c := by
  rw [show (dats m hO hH 0 c).Φ t = PhiS m hO hH c t.val (Nat.le_of_lt_succ t.isLt) from rfl, PhiS_pos m hO hH c _ _ ht, PhiD0_eq]
  iintro ⟨⟨⟨HS0, HS1, HS2⟩, Hg, Hq0, Hh0⟩, -⟩
  isplitl [HS0 HS1 HS2]
  · isplitl [HS0]
    · iexact HS0
    isplitl [HS1]
    · iexists _; iexact HS1
    iexact HS2
  isplitl [Hg]; · iexact Hg
  isplitl [Hq0]
  · iexact Hq0
  iexact Hh0

theorem hout (hO : Ok m) (hH : Hyps m hO) (c : Dev nD) : (dats m hO hH 0 c).Φ (Fin.last (cfgM m hO).N) ⊢ Pipeline.ΦD osem0 spec0 H0 (V m) c :=
  Phi_out m hO hH c _ (by rw [Fin.val_last]; have : (cfgM m hO).N = 32 := N_0; omega)
set_option backward.isDefEq.respectTransparency.types false in
theorem run_main_quiescent (hO : Ok m) (hH : Hyps m hO) : θ_run defs (onTc (τ := τ) (main (F := F))) (s₀ m ρ) (fun r => (Pipeline.RDat.FramePost ((Pipeline.pin pcfgs fun _ => adm m hO) 0) (fun c => (dats m hO hH 0 c).toRForget forgets0) (V m)) r ∧ r.2.sem = fun _ => 0) :=
  Pipeline.θ_run_frameP_dma_forget (Q' := _) pcfgs (fun _ => adm m hO) (dats m hO hH) (0 : Fin 1) launch0 osem0 defs₀ Variants.none forgets0 ownSemFacts0 H0 H0_sub m ρ main
    (hbody := fun c => (body_obligation m hO hH c).loose) (hshare := fun c => (dats m hO hH 0 c).share_full fun _ => rfl)
    (howed := fun _ _ => rfl) (V := V m) (hmain := hmain m Variants.none) (hA := A_eq m hO hH) (hpf := V_pre m) (hin := hin m hO hH) (hout := hout m hO hH)

theorem run_main (hO : Ok m) (hH : Hyps m hO) : θ_run defs (onTc (τ := τ) (main (F := F))) (s₀ m ρ) (Pipeline.RDat.FramePost ((Pipeline.pin pcfgs fun _ => adm m hO) 0) (fun c => (dats m hO hH 0 c).toRForget forgets0) (V m)) :=
  (θ_run defs _ _).mono (fun _ h => h.1) (run_main_quiescent m ρ hO hH)

theorem unchanged (hO : Ok m) (hH : Hyps m hO) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  frame_of m ρ hO (fun c => (dats m hO hH 0 c).toRForget forgets0) (A_eq m hO hH) (run_main m ρ hO hH)

theorem frame (hO : Ok m) (hH : Hyps m hO) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14))
      ∧ r.2.sem = fun _ => 0) :=
  θ_run_and (unchanged m ρ hO hH) ((θ_run defs _ _).mono (fun _ h => h.2) (run_main_quiescent m ρ hO hH))

end Cert.Ffn.Hand

end
-- ==== Proof.FfnIdealPoints.lean ====
module

public import proofs.«01_k».proof.Proof.Gen.FfnIdeal
public import Idealize.ShloMosaic.Lib.Pipeline.Kit

@[expose] public section

noncomputable section

namespace Cert.FfnIdeal.Hand

open Cert.FfnIdeal.Gen

open Idealize.ShloMosaic Idealize.ShloMosaic.TcCoe
open Idealize.SL Idealize.SL.Sem

variable {F : FTy → Type} [FloatOps F]

theorem fetch0_0 (a : (pcfg0 (F := F)).Adm) : ∀ t : Fin (cfg0 a).N, ((cfg0 a).win 0).fetch t = true :=
  (fun t => (Pipeline.Window.fetchOf_reads cc0_transform_0 reads0_0 hreads0_0 0 (by decide) (by decide) (Pipeline.Window.sep_of_coord cc0_transform_0 0 0 (fun _ => rfl) (by decide)) (P := 1) (by decide) t).mpr (Nat.mod_one _) : ∀ t : Fin grid0.N, Pipeline.Window.fetchOf grid0 false cc0_transform_0 t = true)
theorem fetch0_1 (a : (pcfg0 (F := F)).Adm) : ∀ t : Fin (cfg0 a).N, ((cfg0 a).win 1).fetch t = true :=
  (fun t => (Pipeline.Window.fetchOf_reads cc0_transform_1 reads0_1 hreads0_1 0 (by decide) (by decide) (Pipeline.Window.sep_of_coord cc0_transform_1 0 0 (fun _ => rfl) (by decide)) (P := 1) (by decide) t).mpr (Nat.mod_one _) : ∀ t : Fin grid0.N, Pipeline.Window.fetchOf grid0 false cc0_transform_1 t = true)
theorem fetch0_2 (a : (pcfg0 (F := F)).Adm) : ∀ t : Fin (cfg0 a).N, ((cfg0 a).win 2).fetch t = true :=
  (fun t => (Pipeline.Window.fetchOf_reads cc0_transform_2 reads0_2 hreads0_2 0 (by decide) (by decide) (Pipeline.Window.sep_of_coord cc0_transform_2 0 0 (fun _ => rfl) (by decide)) (P := 1) (by decide) t).mpr (Nat.mod_one _) : ∀ t : Fin grid0.N, Pipeline.Window.fetchOf grid0 false cc0_transform_2 t = true)
theorem fetch0_3 (a : (pcfg0 (F := F)).Adm) : ∀ t : Fin (cfg0 a).N, ((cfg0 a).win 3).fetch t = true :=
  (fun t => (Pipeline.Window.fetchOf_reads cc0_transform_3 reads0_3 hreads0_3 0 (by decide) (by decide) (Pipeline.Window.sep_of_coord cc0_transform_3 0 0 (fun _ => rfl) (by decide)) (P := 1) (by decide) t).mpr (Nat.mod_one _) : ∀ t : Fin grid0.N, Pipeline.Window.fetchOf grid0 false cc0_transform_3 t = true)
theorem fetch0_4 (a : (pcfg0 (F := F)).Adm) : ∀ t : Fin (cfg0 a).N, ((cfg0 a).win 4).fetch t = true :=
  (fun t => (Pipeline.Window.fetchOf_reads cc0_transform_4 reads0_4 hreads0_4 0 (by decide) (by decide) (Pipeline.Window.sep_of_coord cc0_transform_4 0 0 (fun _ => rfl) (by decide)) (P := 1) (by decide) t).mpr (Nat.mod_one _) : ∀ t : Fin grid0.N, Pipeline.Window.fetchOf grid0 false cc0_transform_4 t = true)
theorem fetch0_5 (a : (pcfg0 (F := F)).Adm) : ∀ t : Fin (cfg0 a).N, ((cfg0 a).win 5).fetch t = true ↔ t.val % 32 = 0 :=
  (fun t => Pipeline.Window.fetchOf_const cc0_transform_5 (fun _ _ => rfl) (n := 32) (by decide) t : ∀ t : Fin grid0.N, Pipeline.Window.fetchOf grid0 false cc0_transform_5 t = true ↔ t.val % 32 = 0)
theorem fetch0_6 (a : (pcfg0 (F := F)).Adm) : ∀ t : Fin (cfg0 a).N, ((cfg0 a).win 6).fetch t = true ↔ t.val % 32 = 0 :=
  (fun t => Pipeline.Window.fetchOf_const cc0_transform_6 (fun _ _ => rfl) (n := 32) (by decide) t : ∀ t : Fin grid0.N, Pipeline.Window.fetchOf grid0 false cc0_transform_6 t = true ↔ t.val % 32 = 0)
theorem fetch0_7 (a : (pcfg0 (F := F)).Adm) : ∀ t : Fin (cfg0 a).N, ((cfg0 a).win 7).fetch t = true ↔ t.val % 32 = 0 :=
  (fun t => Pipeline.Window.fetchOf_const cc0_transform_7 (fun _ _ => rfl) (n := 32) (by decide) t : ∀ t : Fin grid0.N, Pipeline.Window.fetchOf grid0 false cc0_transform_7 t = true ↔ t.val % 32 = 0)
theorem fetch0_8 (a : (pcfg0 (F := F)).Adm) : ∀ t : Fin (cfg0 a).N, ((cfg0 a).win 8).fetch t = true ↔ t.val % 32 = 0 :=
  (fun t => Pipeline.Window.fetchOf_const cc0_transform_8 (fun _ _ => rfl) (n := 32) (by decide) t : ∀ t : Fin grid0.N, Pipeline.Window.fetchOf grid0 false cc0_transform_8 t = true ↔ t.val % 32 = 0)
theorem fetch0_9 (a : (pcfg0 (F := F)).Adm) : ∀ t : Fin (cfg0 a).N, ((cfg0 a).win 9).fetch t = true ↔ t.val % 32 = 0 :=
  (fun t => Pipeline.Window.fetchOf_const cc0_transform_9 (fun _ _ => rfl) (n := 32) (by decide) t : ∀ t : Fin grid0.N, Pipeline.Window.fetchOf grid0 false cc0_transform_9 t = true ↔ t.val % 32 = 0)
theorem fetch0_10 (a : (pcfg0 (F := F)).Adm) : ∀ t : Fin (cfg0 a).N, ((cfg0 a).win 10).fetch t = true ↔ t.val % 32 = 0 :=
  (fun t => Pipeline.Window.fetchOf_const cc0_transform_10 (fun _ _ => rfl) (n := 32) (by decide) t : ∀ t : Fin grid0.N, Pipeline.Window.fetchOf grid0 false cc0_transform_10 t = true ↔ t.val % 32 = 0)
theorem fetch0_11 (a : (pcfg0 (F := F)).Adm) : ∀ t : Fin (cfg0 a).N, ((cfg0 a).win 11).fetch t = true ↔ t.val % 32 = 0 :=
  (fun t => Pipeline.Window.fetchOf_const cc0_transform_11 (fun _ _ => rfl) (n := 32) (by decide) t : ∀ t : Fin grid0.N, Pipeline.Window.fetchOf grid0 false cc0_transform_11 t = true ↔ t.val % 32 = 0)
theorem fetch0_12 (a : (pcfg0 (F := F)).Adm) : ∀ t : Fin (cfg0 a).N, ((cfg0 a).win 12).fetch t = true ↔ t.val % 2 = 0 :=
  (by decide +kernel : ∀ t : Fin grid0.N, Pipeline.Window.fetchOf grid0 false cc0_transform_12 t = true ↔ t.val % 2 = 0)
theorem flush0_13 (a : (pcfg0 (F := F)).Adm) : ∀ t : Fin (cfg0 a).N, ((cfg0 a).win 13).flush t = true :=
  (fun t => (Pipeline.Window.flushOf_reads cc0_transform_14 reads0_13 hreads0_13 0 (by decide) (by decide) (Pipeline.Window.sep_of_coord cc0_transform_14 0 0 (fun _ => rfl) (by decide)) (P := 1) (m := 0) (by decide) rfl t).mpr (Nat.mod_one _) : ∀ t : Fin grid0.N, Pipeline.Window.flushOf grid0 true cc0_transform_14 t = true)
theorem flush0_14 (a : (pcfg0 (F := F)).Adm) : ∀ t : Fin (cfg0 a).N, ((cfg0 a).win 14).flush t = true ↔ t.val % 4 = 3 :=
  (by decide +kernel : ∀ t : Fin grid0.N, Pipeline.Window.flushOf grid0 true cc0_transform_15 t = true ↔ t.val % 4 = 3)
theorem flush0_15 (a : (pcfg0 (F := F)).Adm) : ∀ t : Fin (cfg0 a).N, ((cfg0 a).win 15).flush t = true :=
  (fun t => (Pipeline.Window.flushOf_reads cc0_transform_16 reads0_15 hreads0_15 0 (by decide) (by decide) (Pipeline.Window.sep_of_coord cc0_transform_16 0 0 (fun _ => rfl) (by decide)) (P := 1) (m := 0) (by decide) rfl t).mpr (Nat.mod_one _) : ∀ t : Fin grid0.N, Pipeline.Window.flushOf grid0 true cc0_transform_16 t = true)

abbrev st0_0 (a : (pcfg0 (F := F)).Adm) (t : Fin (cfg0 a).N) := ((cfg0 a).win 0).stage ((cfg0 a).slots t 0)
abbrev st0_1 (a : (pcfg0 (F := F)).Adm) (t : Fin (cfg0 a).N) := ((cfg0 a).win 1).stage ((cfg0 a).slots t 1)
abbrev st0_2 (a : (pcfg0 (F := F)).Adm) (t : Fin (cfg0 a).N) := ((cfg0 a).win 2).stage ((cfg0 a).slots t 2)
abbrev st0_3 (a : (pcfg0 (F := F)).Adm) (t : Fin (cfg0 a).N) := ((cfg0 a).win 3).stage ((cfg0 a).slots t 3)
abbrev st0_4 (a : (pcfg0 (F := F)).Adm) (t : Fin (cfg0 a).N) := ((cfg0 a).win 4).stage ((cfg0 a).slots t 4)
abbrev st0_5 (a : (pcfg0 (F := F)).Adm) (t : Fin (cfg0 a).N) := ((cfg0 a).win 5).stage ((cfg0 a).slots t 5)
abbrev st0_6 (a : (pcfg0 (F := F)).Adm) (t : Fin (cfg0 a).N) := ((cfg0 a).win 6).stage ((cfg0 a).slots t 6)
abbrev st0_7 (a : (pcfg0 (F := F)).Adm) (t : Fin (cfg0 a).N) := ((cfg0 a).win 7).stage ((cfg0 a).slots t 7)
abbrev st0_8 (a : (pcfg0 (F := F)).Adm) (t : Fin (cfg0 a).N) := ((cfg0 a).win 8).stage ((cfg0 a).slots t 8)
abbrev st0_9 (a : (pcfg0 (F := F)).Adm) (t : Fin (cfg0 a).N) := ((cfg0 a).win 9).stage ((cfg0 a).slots t 9)
abbrev st0_10 (a : (pcfg0 (F := F)).Adm) (t : Fin (cfg0 a).N) := ((cfg0 a).win 10).stage ((cfg0 a).slots t 10)
abbrev st0_11 (a : (pcfg0 (F := F)).Adm) (t : Fin (cfg0 a).N) := ((cfg0 a).win 11).stage ((cfg0 a).slots t 11)
abbrev st0_12 (a : (pcfg0 (F := F)).Adm) (t : Fin (cfg0 a).N) := ((cfg0 a).win 12).stage ((cfg0 a).slots t 12)
abbrev st0_13 (a : (pcfg0 (F := F)).Adm) (t : Fin (cfg0 a).N) := ((cfg0 a).win 13).stage ((cfg0 a).slots t 13)
abbrev st0_14 (a : (pcfg0 (F := F)).Adm) (t : Fin (cfg0 a).N) := ((cfg0 a).win 14).stage ((cfg0 a).slots t 14)
abbrev st0_15 (a : (pcfg0 (F := F)).Adm) (t : Fin (cfg0 a).N) := ((cfg0 a).win 15).stage ((cfg0 a).slots t 15)

abbrev bodyAt0 (a : (pcfg0 (F := F)).Adm) (t : Fin (cfg0 a).N) : Prog (TpuEff nD τ sig (Elt F) Λ₀ .tc) PUnit :=
  cc0__merge_ffn_kernel (grid0.coords t) (Memref.whole main_v15) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (spec0_6.stage ((cfg0 a).slots t 6)) (hstage0_6 (((cfg0 a).slots t 6).cast nbuf0_6)) (spec0_7.stage ((cfg0 a).slots t 7)) (hstage0_7 (((cfg0 a).slots t 7).cast nbuf0_7)) (spec0_8.stage ((cfg0 a).slots t 8)) (hstage0_8 (((cfg0 a).slots t 8).cast nbuf0_8)) (spec0_9.stage ((cfg0 a).slots t 9)) (hstage0_9 (((cfg0 a).slots t 9).cast nbuf0_9)) (spec0_10.stage ((cfg0 a).slots t 10)) (hstage0_10 (((cfg0 a).slots t 10).cast nbuf0_10)) (spec0_11.stage ((cfg0 a).slots t 11)) (hstage0_11 (((cfg0 a).slots t 11).cast nbuf0_11)) (spec0_12.stage ((cfg0 a).slots t 12)) (hstage0_12 (((cfg0 a).slots t 12).cast nbuf0_12)) (Memref.whole main_arg14) (Memref.isWhole_whole _) (spec0_13.stage ((cfg0 a).slots t 13)) (hstage0_13 (((cfg0 a).slots t 13).cast nbuf0_13)) (spec0_14.stage ((cfg0 a).slots t 14)) (hstage0_14 (((cfg0 a).slots t 14).cast nbuf0_14)) (spec0_15.stage ((cfg0 a).slots t 15)) (hstage0_15 (((cfg0 a).slots t 15).cast nbuf0_15)) (Memref.whole cc0_scratch0) (Memref.isWhole_whole _) (Memref.whole cc0_scratch1) (Memref.isWhole_whole _) (Memref.whole cc0_scratch2) (Memref.isWhole_whole _) cc0_scratch3

end Cert.FfnIdeal.Hand

end
-- ==== Proof.FfnIdealRuns.lean ====
module

public import proofs.«01_k».proof.Proof.Gen.FfnIdeal.Launch
public import proofs.«01_k».proof.Proof.Gen.FfnIdeal.Skeleton
public import proofs.«01_k».proof.Proof.FfnIdealPoints
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.FfnIdeal.Hand

open Cert.FfnIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The resources of the machine the assertions speak of. -/
abbrev MM (F : FTy → Type) [FloatOps F] := MT nD τ sig Unit (Elt F) ℕ (Pipeline.UD sig nD τ) ℕ

variable (m : (ℓ : Loc nD τ sig) → Buf (Elt F) ℓ) (ρ : Dev nD → PrngReg)

abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
theorem hmain (𝒱₀ : Variants) : Pipeline.HMainP (Ix := Unit) (Name := ℕ) (U := Pipeline.UD sig nD τ) (Lvl := ℕ) pcfgs 0 defs₀ 𝒱₀ m (main (F := F)) (V m) :=
  Pipeline.hmainP_prefix pcfgs 0 defs₀ 𝒱₀ m main hostOps0 hostOps0_sub hostOps0_fresh main_chain

theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg13 (c : Dev nD) : V m c main_arg13 = m ((c : Thread nD τ).loc main_arg13) :=
  StableHlo.after_of_forall_not_mem (b := Proc.devRef .tc main_arg13) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg14 (c : Dev nD) : V m c main_arg14 = m ((c : Thread nD τ).loc main_arg14) :=
  StableHlo.after_of_forall_not_mem (b := Proc.devRef .tc main_arg14) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

def tbl : pre0.Contents (Elt F) := fun j => V m (0 : Dev nD) (pre0.ref j)
theorem V_pre (c : Dev nD) (j : Fin 1) : V m c (pre0.ref j) = tbl m j := by
  obtain rfl : c = 0 := Subsingleton.elim _ _; rfl
abbrev Ok : Prop := ok0 (F := F) (tbl m)
abbrev adm (hO : Ok m) : (pcfg0 (F := F)).Adm := ⟨tbl m, hO⟩
abbrev cfgM (hO : Ok m) : Pipeline.Cfg sig Λ₀ := cfg0 (adm m hO)

abbrev tbM0_0 : Memref sig .tc .smem S8192 .i32 := Memref.whole main_v15
abbrev htbM0_0 : tbM0_0.IsWhole := Memref.isWhole_whole _

abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp (MM F) :=
  M.view.loc (c : Thread nD τ) ↦{fullShare.right} f

theorem PhiT0_eq (c : Dev nD) : (Pipeline.ΦT pre0 (tbl m) c : sProp (MM F)) = iprop(tbPt0 c tbM0_0 (tbl m 0)) := by
  unfold Pipeline.ΦT Pipeline.prefHeld
  rw [show (Finset.univ : Finset (Fin 1)) = {(0 : Fin 1)} from by decide, bigSep_singleton]
  rfl

def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

theorem before0_0_of (hO : Ok m) {c : Dev nD} (dat : Dat τ (Elt F) Unit ℕ (Pipeline.UD sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of (hO : Ok m) {c : Dev nD} (dat : Dat τ (Elt F) Unit ℕ (Pipeline.UD sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of (hO : Ok m) {c : Dev nD} (dat : Dat τ (Elt F) Unit ℕ (Pipeline.UD sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of (hO : Ok m) {c : Dev nD} (dat : Dat τ (Elt F) Unit ℕ (Pipeline.UD sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of (hO : Ok m) {c : Dev nD} (dat : Dat τ (Elt F) Unit ℕ (Pipeline.UD sig nD τ) ℕ (cfgM m hO) c) (hA : dat.A 4 = V m c (Pipeline.arrRef spec0 4))
    (hafter : ∀ t, dat.after 4 t = iblk m hO c 4 t) (t : Fin (cfgM m hO).N) (d) : dat.before 4 t d = iblk m hO c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of (hO : Ok m) {c : Dev nD} (dat : Dat τ (Elt F) Unit ℕ (Pipeline.UD sig nD τ) ℕ (cfgM m hO) c) (hA : dat.A 5 = V m c (Pipeline.arrRef spec0 5))
    (hafter : ∀ t, dat.after 5 t = iblk m hO c 5 t) (t : Fin (cfgM m hO).N) (d) : dat.before 5 t d = iblk m hO c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before0_6_of (hO : Ok m) {c : Dev nD} (dat : Dat τ (Elt F) Unit ℕ (Pipeline.UD sig nD τ) ℕ (cfgM m hO) c) (hA : dat.A 6 = V m c (Pipeline.arrRef spec0 6))
    (hafter : ∀ t, dat.after 6 t = iblk m hO c 6 t) (t : Fin (cfgM m hO).N) (d) : dat.before 6 t d = iblk m hO c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before0_7_of (hO : Ok m) {c : Dev nD} (dat : Dat τ (Elt F) Unit ℕ (Pipeline.UD sig nD τ) ℕ (cfgM m hO) c) (hA : dat.A 7 = V m c (Pipeline.arrRef spec0 7))
    (hafter : ∀ t, dat.after 7 t = iblk m hO c 7 t) (t : Fin (cfgM m hO).N) (d) : dat.before 7 t d = iblk m hO c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
theorem before0_8_of (hO : Ok m) {c : Dev nD} (dat : Dat τ (Elt F) Unit ℕ (Pipeline.UD sig nD τ) ℕ (cfgM m hO) c) (hA : dat.A 8 = V m c (Pipeline.arrRef spec0 8))
    (hafter : ∀ t, dat.after 8 t = iblk m hO c 8 t) (t : Fin (cfgM m hO).N) (d) : dat.before 8 t d = iblk m hO c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
theorem before0_9_of (hO : Ok m) {c : Dev nD} (dat : Dat τ (Elt F) Unit ℕ (Pipeline.UD sig nD τ) ℕ (cfgM m hO) c) (hA : dat.A 9 = V m c (Pipeline.arrRef spec0 9))
    (hafter : ∀ t, dat.after 9 t = iblk m hO c 9 t) (t : Fin (cfgM m hO).N) (d) : dat.before 9 t d = iblk m hO c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
theorem before0_10_of (hO : Ok m) {c : Dev nD} (dat : Dat τ (Elt F) Unit ℕ (Pipeline.UD sig nD τ) ℕ (cfgM m hO) c) (hA : dat.A 10 = V m c (Pipeline.arrRef spec0 10))
    (hafter : ∀ t, dat.after 10 t = iblk m hO c 10 t) (t : Fin (cfgM m hO).N) (d) : dat.before 10 t d = iblk m hO c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
theorem before0_11_of (hO : Ok m) {c : Dev nD} (dat : Dat τ (Elt F) Unit ℕ (Pipeline.UD sig nD τ) ℕ (cfgM m hO) c) (hA : dat.A 11 = V m c (Pipeline.arrRef spec0 11))
    (hafter : ∀ t, dat.after 11 t = iblk m hO c 11 t) (t : Fin (cfgM m hO).N) (d) : dat.before 11 t d = iblk m hO c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)
theorem before0_12_of (hO : Ok m) {c : Dev nD} (dat : Dat τ (Elt F) Unit ℕ (Pipeline.UD sig nD τ) ℕ (cfgM m hO) c) (hA : dat.A 12 = V m c (Pipeline.arrRef spec0 12))
    (hafter : ∀ t, dat.after 12 t = iblk m hO c 12 t) (t : Fin (cfgM m hO).N) (d) : dat.before 12 t d = iblk m hO c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)

theorem frame_of (hO : Ok m) (dats : (p : Fin 1) → (c : Dev nD) → Dat τ (Elt F) Unit ℕ (Pipeline.UD sig nD τ) ℕ ((Pipeline.pin pcfgs fun _ => adm m hO) p) c)
    (hA : ∀ c w, (dats 0 c).A w = V m c (Pipeline.arrRef spec0 w))
    (h : θ_run defs (onTc (τ := τ) (main (F := F))) (s₀ m ρ) (Pipeline.FramePost (Pipeline.pin pcfgs fun _ => adm m hO) dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun _ h c => ⟨((h c).2 main_arg0 (by decide : main_arg0 ∈ Pipeline.restRefs sig spec0)).trans (V_main_arg0 m c),
      ((h c).2 main_arg1 (by decide : main_arg1 ∈ Pipeline.restRefs sig spec0)).trans (V_main_arg1 m c),
      ((h c).1 2).trans (((dats 0 c).arrAt_in 2 rfl _).trans ((hA c 2).trans (V_main_arg2 m c))),
      ((h c).1 3).trans (((dats 0 c).arrAt_in 3 rfl _).trans ((hA c 3).trans (V_main_arg3 m c))),
      ((h c).1 4).trans (((dats 0 c).arrAt_in 4 rfl _).trans ((hA c 4).trans (V_main_arg4 m c))),
      ((h c).2 main_arg5 (by decide : main_arg5 ∈ Pipeline.restRefs sig spec0)).trans (V_main_arg5 m c),
      ((h c).2 main_arg6 (by decide : main_arg6 ∈ Pipeline.restRefs sig spec0)).trans (V_main_arg6 m c),
      ((h c).2 main_arg7 (by decide : main_arg7 ∈ Pipeline.restRefs sig spec0)).trans (V_main_arg7 m c),
      ((h c).2 main_arg8 (by decide : main_arg8 ∈ Pipeline.restRefs sig spec0)).trans (V_main_arg8 m c),
      ((h c).2 main_arg9 (by decide : main_arg9 ∈ Pipeline.restRefs sig spec0)).trans (V_main_arg9 m c),
      ((h c).2 main_arg10 (by decide : main_arg10 ∈ Pipeline.restRefs sig spec0)).trans (V_main_arg10 m c),
      ((h c).2 main_arg11 (by decide : main_arg11 ∈ Pipeline.restRefs sig spec0)).trans (V_main_arg11 m c),
      ((h c).2 main_arg12 (by decide : main_arg12 ∈ Pipeline.restRefs sig spec0)).trans (V_main_arg12 m c),
      ((h c).2 main_arg13 (by decide : main_arg13 ∈ Pipeline.restRefs sig spec0)).trans (V_main_arg13 m c),
      ((h c).2 main_arg14 (by decide : main_arg14 ∈ Pipeline.restRefs sig spec0)).trans (V_main_arg14 m c)⟩) h

abbrev cond0_0 (i : grid0.Coords) : Prop := (Scalar.cmpi .ne (Scalar.extui (Scalar.cmpi .eq (Scalar.select (Scalar.andi (Scalar.xori (Scalar.cmpi .slt (Scalar.remsi (BitVec.ofNat 32 (i 0).val) (Scalar.select (Scalar.cmpi .eq 4#32 0#32) 1#32 4#32)) 0#32) (Scalar.cmpi .slt (Scalar.select (Scalar.cmpi .eq 4#32 0#32) 1#32 4#32) 0#32)) (Scalar.cmpi .ne (Scalar.remsi (BitVec.ofNat 32 (i 0).val) (Scalar.select (Scalar.cmpi .eq 4#32 0#32) 1#32 4#32)) 0#32)) (Scalar.addi (Scalar.remsi (BitVec.ofNat 32 (i 0).val) (Scalar.select (Scalar.cmpi .eq 4#32 0#32) 1#32 4#32)) (Scalar.select (Scalar.cmpi .eq 4#32 0#32) 1#32 4#32)) (Scalar.remsi (BitVec.ofNat 32 (i 0).val) (Scalar.select (Scalar.cmpi .eq 4#32 0#32) 1#32 4#32))) 0#32)) 0#32) = 1#1
theorem hcond0_0 : ∀ t : Fin grid0.N, cond0_0 (grid0.coords t) ↔ t.val % 4 = 0 :=
  (by decide +kernel : ∀ t : Fin grid0.N, cond0_0 (grid0.coords t) ↔ t.val % 4 = 0)

abbrev VO0_13 : View sig .tc .vmem S512x1024 .f32 := (Memref.whole cc0_stg13_0 : Memref sig .tc .vmem S512x1024 .f32).view
abbrev VO0_14 : View sig .tc .vmem S1x2x2816 .f32 := (Memref.whole cc0_stg14_0 : Memref sig .tc .vmem S1x2x2816 .f32).view
abbrev VO0_15 : View sig .tc .vmem S32x8x128 .f32 := (Memref.whole cc0_stg15_0 : Memref sig .tc .vmem S32x8x128 .f32).view
abbrev ms0_0 (hO : Ok m) (t : Fin (cfgM m hO).N) : Memref sig .tc .vmem S512x1024 .f32 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S512x512 .bf16 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S512x512 .bf16 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S512x1024 .bf16 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S512x1024 .bf16 := spec0_4.stage ((cfgM m hO).slots t 4)
abbrev hs0_4 (hO : Ok m) (t : Fin (cfgM m hO).N) : (ms0_4 m hO t).IsWhole := hstage0_4 (((cfgM m hO).slots t 4).cast nbuf0_4)
abbrev ms0_5 (hO : Ok m) (t : Fin (cfgM m hO).N) : Memref sig .tc .vmem S512x1024 .bf16 := spec0_5.stage ((cfgM m hO).slots t 5)
abbrev hs0_5 (hO : Ok m) (t : Fin (cfgM m hO).N) : (ms0_5 m hO t).IsWhole := hstage0_5 (((cfgM m hO).slots t 5).cast nbuf0_5)
abbrev ms0_6 (hO : Ok m) (t : Fin (cfgM m hO).N) : Memref sig .tc .vmem S512x1024 .bf16 := spec0_6.stage ((cfgM m hO).slots t 6)
abbrev hs0_6 (hO : Ok m) (t : Fin (cfgM m hO).N) : (ms0_6 m hO t).IsWhole := hstage0_6 (((cfgM m hO).slots t 6).cast nbuf0_6)
abbrev ms0_7 (hO : Ok m) (t : Fin (cfgM m hO).N) : Memref sig .tc .vmem S1024x1024 .bf16 := spec0_7.stage ((cfgM m hO).slots t 7)
abbrev hs0_7 (hO : Ok m) (t : Fin (cfgM m hO).N) : (ms0_7 m hO t).IsWhole := hstage0_7 (((cfgM m hO).slots t 7).cast nbuf0_7)
abbrev ms0_8 (hO : Ok m) (t : Fin (cfgM m hO).N) : Memref sig .tc .vmem S1x1024 .f32 := spec0_8.stage ((cfgM m hO).slots t 8)
abbrev hs0_8 (hO : Ok m) (t : Fin (cfgM m hO).N) : (ms0_8 m hO t).IsWhole := hstage0_8 (((cfgM m hO).slots t 8).cast nbuf0_8)
abbrev ms0_9 (hO : Ok m) (t : Fin (cfgM m hO).N) : Memref sig .tc .vmem S1024x5632 .bf16 := spec0_9.stage ((cfgM m hO).slots t 9)
abbrev hs0_9 (hO : Ok m) (t : Fin (cfgM m hO).N) : (ms0_9 m hO t).IsWhole := hstage0_9 (((cfgM m hO).slots t 9).cast nbuf0_9)
abbrev ms0_10 (hO : Ok m) (t : Fin (cfgM m hO).N) : Memref sig .tc .vmem S3x2816 .f32 := spec0_10.stage ((cfgM m hO).slots t 10)
abbrev hs0_10 (hO : Ok m) (t : Fin (cfgM m hO).N) : (ms0_10 m hO t).IsWhole := hstage0_10 (((cfgM m hO).slots t 10).cast nbuf0_10)
abbrev ms0_11 (hO : Ok m) (t : Fin (cfgM m hO).N) : Memref sig .tc .vmem S2816x1024 .bf16 := spec0_11.stage ((cfgM m hO).slots t 11)
abbrev hs0_11 (hO : Ok m) (t : Fin (cfgM m hO).N) : (ms0_11 m hO t).IsWhole := hstage0_11 (((cfgM m hO).slots t 11).cast nbuf0_11)
abbrev ms0_12 (hO : Ok m) (t : Fin (cfgM m hO).N) : Memref sig .tc .vmem S1x1x512 .f32 := spec0_12.stage ((cfgM m hO).slots t 12)
abbrev hs0_12 (hO : Ok m) (t : Fin (cfgM m hO).N) : (ms0_12 m hO t).IsWhole := hstage0_12 (((cfgM m hO).slots t 12).cast nbuf0_12)
abbrev ms0_13 (hO : Ok m) (t : Fin (cfgM m hO).N) : Memref sig .tc .vmem S512x1024 .f32 := spec0_13.stage ((cfgM m hO).slots t 13)
abbrev hs0_13 (hO : Ok m) (t : Fin (cfgM m hO).N) : (ms0_13 m hO t).IsWhole := hstage0_13 (((cfgM m hO).slots t 13).cast nbuf0_13)
abbrev ms0_14 (hO : Ok m) (t : Fin (cfgM m hO).N) : Memref sig .tc .vmem S1x2x2816 .f32 := spec0_14.stage ((cfgM m hO).slots t 14)
abbrev hs0_14 (hO : Ok m) (t : Fin (cfgM m hO).N) : (ms0_14 m hO t).IsWhole := hstage0_14 (((cfgM m hO).slots t 14).cast nbuf0_14)
abbrev ms0_15 (hO : Ok m) (t : Fin (cfgM m hO).N) : Memref sig .tc .vmem S32x8x128 .f32 := spec0_15.stage ((cfgM m hO).slots t 15)
abbrev hs0_15 (hO : Ok m) (t : Fin (cfgM m hO).N) : (ms0_15 m hO t).IsWhole := hstage0_15 (((cfgM m hO).slots t 15).cast nbuf0_15)

/-- The 32 page numbers the body reads at point `i` name pages of the pool. -/
def Words (c : Dev nD) (i : grid0.Coords) (xt0 : TbBuf0 (F := F) c tbM0_0) : Prop :=
  k0_chk1 (tbM0_0.view.readAt (Elt F) (Rect.unit (s := S8192) (k0_off1 i) S1.size (k0_off1_inb i)).toLoadRect xt0 (Shape.Idx.first (numel1_S1.symm ▸ Nat.one_pos)))
  ∧ k0_chk2 (tbM0_0.view.readAt (Elt F) (Rect.unit (s := S8192) (k0_off3 i) S1.size (k0_off3_inb i)).toLoadRect xt0 (Shape.Idx.first (numel1_S1.symm ▸ Nat.one_pos)))
  ∧ k0_chk3 (tbM0_0.view.readAt (Elt F) (Rect.unit (s := S8192) (k0_off5 i) S1.size (k0_off5_inb i)).toLoadRect xt0 (Shape.Idx.first (numel1_S1.symm ▸ Nat.one_pos)))
  ∧ k0_chk4 (tbM0_0.view.readAt (Elt F) (Rect.unit (s := S8192) (k0_off7 i) S1.size (k0_off7_inb i)).toLoadRect xt0 (Shape.Idx.first (numel1_S1.symm ▸ Nat.one_pos)))
  ∧ k0_chk5 (tbM0_0.view.readAt (Elt F) (Rect.unit (s := S8192) (k0_off9 i) S1.size (k0_off9_inb i)).toLoadRect xt0 (Shape.Idx.first (numel1_S1.symm ▸ Nat.one_pos)))
  ∧ k0_chk6 (tbM0_0.view.readAt (Elt F) (Rect.unit (s := S8192) (k0_off11 i) S1.size (k0_off11_inb i)).toLoadRect xt0 (Shape.Idx.first (numel1_S1.symm ▸ Nat.one_pos)))
  ∧ k0_chk7 (tbM0_0.view.readAt (Elt F) (Rect.unit (s := S8192) (k0_off13 i) S1.size (k0_off13_inb i)).toLoadRect xt0 (Shape.Idx.first (numel1_S1.symm ▸ Nat.one_pos)))
  ∧ k0_chk8 (tbM0_0.view.readAt (Elt F) (Rect.unit (s := S8192) (k0_off15 i) S1.size (k0_off15_inb i)).toLoadRect xt0 (Shape.Idx.first (numel1_S1.symm ▸ Nat.one_pos)))
  ∧ k0_chk9 (tbM0_0.view.readAt (Elt F) (Rect.unit (s := S8192) (k0_off17 i) S1.size (k0_off17_inb i)).toLoadRect xt0 (Shape.Idx.first (numel1_S1.symm ▸ Nat.one_pos)))
  ∧ k0_chk10 (tbM0_0.view.readAt (Elt F) (Rect.unit (s := S8192) (k0_off19 i) S1.size (k0_off19_inb i)).toLoadRect xt0 (Shape.Idx.first (numel1_S1.symm ▸ Nat.one_pos)))
  ∧ k0_chk11 (tbM0_0.view.readAt (Elt F) (Rect.unit (s := S8192) (k0_off21 i) S1.size (k0_off21_inb i)).toLoadRect xt0 (Shape.Idx.first (numel1_S1.symm ▸ Nat.one_pos)))
  ∧ k0_chk12 (tbM0_0.view.readAt (Elt F) (Rect.unit (s := S8192) (k0_off23 i) S1.size (k0_off23_inb i)).toLoadRect xt0 (Shape.Idx.first (numel1_S1.symm ▸ Nat.one_pos)))
  ∧ k0_chk13 (tbM0_0.view.readAt (Elt F) (Rect.unit (s := S8192) (k0_off25 i) S1.size (k0_off25_inb i)).toLoadRect xt0 (Shape.Idx.first (numel1_S1.symm ▸ Nat.one_pos)))
  ∧ k0_chk14 (tbM0_0.view.readAt (Elt F) (Rect.unit (s := S8192) (k0_off27 i) S1.size (k0_off27_inb i)).toLoadRect xt0 (Shape.Idx.first (numel1_S1.symm ▸ Nat.one_pos)))
  ∧ k0_chk15 (tbM0_0.view.readAt (Elt F) (Rect.unit (s := S8192) (k0_off29 i) S1.size (k0_off29_inb i)).toLoadRect xt0 (Shape.Idx.first (numel1_S1.symm ▸ Nat.one_pos)))
  ∧ k0_chk16 (tbM0_0.view.readAt (Elt F) (Rect.unit (s := S8192) (k0_off31 i) S1.size (k0_off31_inb i)).toLoadRect xt0 (Shape.Idx.first (numel1_S1.symm ▸ Nat.one_pos)))
  ∧ k0_chk17 (tbM0_0.view.readAt (Elt F) (Rect.unit (s := S8192) (k0_off33 i) S1.size (k0_off33_inb i)).toLoadRect xt0 (Shape.Idx.first (numel1_S1.symm ▸ Nat.one_pos)))
  ∧ k0_chk18 (tbM0_0.view.readAt (Elt F) (Rect.unit (s := S8192) (k0_off35 i) S1.size (k0_off35_inb i)).toLoadRect xt0 (Shape.Idx.first (numel1_S1.symm ▸ Nat.one_pos)))
  ∧ k0_chk19 (tbM0_0.view.readAt (Elt F) (Rect.unit (s := S8192) (k0_off37 i) S1.size (k0_off37_inb i)).toLoadRect xt0 (Shape.Idx.first (numel1_S1.symm ▸ Nat.one_pos)))
  ∧ k0_chk20 (tbM0_0.view.readAt (Elt F) (Rect.unit (s := S8192) (k0_off39 i) S1.size (k0_off39_inb i)).toLoadRect xt0 (Shape.Idx.first (numel1_S1.symm ▸ Nat.one_pos)))
  ∧ k0_chk21 (tbM0_0.view.readAt (Elt F) (Rect.unit (s := S8192) (k0_off41 i) S1.size (k0_off41_inb i)).toLoadRect xt0 (Shape.Idx.first (numel1_S1.symm ▸ Nat.one_pos)))
  ∧ k0_chk22 (tbM0_0.view.readAt (Elt F) (Rect.unit (s := S8192) (k0_off43 i) S1.size (k0_off43_inb i)).toLoadRect xt0 (Shape.Idx.first (numel1_S1.symm ▸ Nat.one_pos)))
  ∧ k0_chk23 (tbM0_0.view.readAt (Elt F) (Rect.unit (s := S8192) (k0_off45 i) S1.size (k0_off45_inb i)).toLoadRect xt0 (Shape.Idx.first (numel1_S1.symm ▸ Nat.one_pos)))
  ∧ k0_chk24 (tbM0_0.view.readAt (Elt F) (Rect.unit (s := S8192) (k0_off47 i) S1.size (k0_off47_inb i)).toLoadRect xt0 (Shape.Idx.first (numel1_S1.symm ▸ Nat.one_pos)))
  ∧ k0_chk25 (tbM0_0.view.readAt (Elt F) (Rect.unit (s := S8192) (k0_off49 i) S1.size (k0_off49_inb i)).toLoadRect xt0 (Shape.Idx.first (numel1_S1.symm ▸ Nat.one_pos)))
  ∧ k0_chk26 (tbM0_0.view.readAt (Elt F) (Rect.unit (s := S8192) (k0_off51 i) S1.size (k0_off51_inb i)).toLoadRect xt0 (Shape.Idx.first (numel1_S1.symm ▸ Nat.one_pos)))
  ∧ k0_chk27 (tbM0_0.view.readAt (Elt F) (Rect.unit (s := S8192) (k0_off53 i) S1.size (k0_off53_inb i)).toLoadRect xt0 (Shape.Idx.first (numel1_S1.symm ▸ Nat.one_pos)))
  ∧ k0_chk28 (tbM0_0.view.readAt (Elt F) (Rect.unit (s := S8192) (k0_off55 i) S1.size (k0_off55_inb i)).toLoadRect xt0 (Shape.Idx.first (numel1_S1.symm ▸ Nat.one_pos)))
  ∧ k0_chk29 (tbM0_0.view.readAt (Elt F) (Rect.unit (s := S8192) (k0_off57 i) S1.size (k0_off57_inb i)).toLoadRect xt0 (Shape.Idx.first (numel1_S1.symm ▸ Nat.one_pos)))
  ∧ k0_chk30 (tbM0_0.view.readAt (Elt F) (Rect.unit (s := S8192) (k0_off59 i) S1.size (k0_off59_inb i)).toLoadRect xt0 (Shape.Idx.first (numel1_S1.symm ▸ Nat.one_pos)))
  ∧ k0_chk31 (tbM0_0.view.readAt (Elt F) (Rect.unit (s := S8192) (k0_off61 i) S1.size (k0_off61_inb i)).toLoadRect xt0 (Shape.Idx.first (numel1_S1.symm ▸ Nat.one_pos)))
  ∧ k0_chk32 (tbM0_0.view.readAt (Elt F) (Rect.unit (s := S8192) (k0_off63 i) S1.size (k0_off63_inb i)).toLoadRect xt0 (Shape.Idx.first (numel1_S1.symm ▸ Nat.one_pos)))

/-- At every point the page numbers name pages of the pool. -/
def Hyps (m : (ℓ : Loc nD τ sig) → Buf (Elt F) ℓ) (hO : Ok m) : Prop :=
  ∀ (c : Dev nD) (t : Fin (cfgM m hO).N), Words c (grid0.coords t) (tbl m 0)

abbrev scM0_0 : Memref sig .tc .vmem S512x1024 .f32 := Memref.whole cc0_scratch0
abbrev scM0_1 : Memref sig .tc .vmem S8x2816 .f32 := Memref.whole cc0_scratch1
abbrev scM0_2 : Memref sig .tc .vmem S32x8x64x128 .f32 := Memref.whole cc0_scratch2
abbrev VS0_1 : View sig .tc .vmem S8x2816 .f32 := scM0_1.view
abbrev hbM0_0 : Memref sig .tc .hbm S1x10240x8x64x128 .f32 := Memref.whole main_arg14
abbrev HbBuf0 (c : Dev nD) {sp : Space} {S : Shape} {e : EltTy} (M : Memref sig .tc sp S e) : Type := Buf (Elt F) (M.view.loc (c : Thread nD τ))
abbrev hbPt0 (c : Dev nD) {sp : Space} {S : Shape} {e : EltTy} (M : Memref sig .tc sp S e) (f : HbBuf0 (F := F) c M) : sProp (MM F) :=
  M.view.loc (c : Thread nD τ) ↦{fullShare} f

/-- What remains of the whole share after `k` shares are taken off it, and the `k`-th share taken off. -/
def restSh (k : ℕ) : PosShare TreeShare := Transfers.shareDrop fullShare k
def partSh (k : ℕ) : PosShare TreeShare := Transfers.shareTokN fullShare k

/-- The page pool held at what remains after `k` shares is held at what remains after one more, and at that share. -/
theorem tok_split (c : Dev nD) (k : ℕ) {f : HbBuf0 (F := F) c hbM0_0} :
    (hbM0_0.view.loc (c : Thread nD τ) ↦{restSh k} f : sProp (MM F))
      ⊣⊢ iprop((hbM0_0.view.loc (c : Thread nD τ) ↦{restSh (k + 1)} f) ∗ hbM0_0.view.loc (c : Thread nD τ) ↦{partSh k} f) :=
  pointsTo_share (PosShare.mem_left_op_right _)

/-- The first share, taken off the whole. -/
theorem tok_split0 (c : Dev nD) {f : HbBuf0 (F := F) c hbM0_0} :
    (hbM0_0.view.loc (c : Thread nD τ) ↦{fullShare} f : sProp (MM F))
      ⊣⊢ iprop((hbM0_0.view.loc (c : Thread nD τ) ↦{restSh 1} f) ∗ hbM0_0.view.loc (c : Thread nD τ) ↦{partSh 0} f) :=
  tok_split c 0

/-- A whole buffer held by its view's elements is held at all of them. -/
theorem own_whole (c : Dev nD) {M : Memref sig .tc .vmem S32x8x64x128 .f32} (h : M.IsWhole) {f : Buf (Elt F) (M.view.loc (c : Thread nD τ))} :
    (M.view.loc (c : Thread nD τ) ↦[M.view.set]{fullShare} f : sProp (MM F)) ⊣⊢ M.view.loc (c : Thread nD τ) ↦{fullShare} f := by
  rw [h.set_eq_univ]

abbrev osem0 : Fin 1 → SemLoc sig := fun j => (![SemLoc.dma 25] : Fin 1 → SemLoc sig) j
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp (MM F))
      = iprop(semVal ((c : Thread nD τ), SemLoc.dma 25) 0) := by
  rw [Pipeline.ownSems0_eq_of_list c osem0 [0] (by decide) (by decide)]; rfl
def H0 : Finset (Ref sig .tc) := {main_arg14}
theorem H0_sub : H0 ⊆ Pipeline.restRefsP sig pre0 spec0 := by decide
theorem hbmPts0_eq (c : Dev nD) :
    (bigSep H0 (fun b => ((c : Thread nD τ).loc b) ↦{fullShare} V m c b) : sProp (MM F)) = iprop(hbPt0 c hbM0_0 (V m c main_arg14)) := by
  rw [BI.bigSep_eq_bigSepL_of_eq [main_arg14] (by decide) (by decide)]; rfl

theorem PhiD0_eq (c : Dev nD) :
    (Pipeline.ΦD osem0 spec0 H0 (V m) c : sProp (MM F))
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r) ∗ iprop(semVal ((c : Thread nD τ), SemLoc.dma 25) 0) ∗ iprop(hbPt0 c hbM0_0 (V m c main_arg14))) := by
  rw [Pipeline.ΦD_eq, scopedRest0_eq, ownSems00_eq, hbmPts0_eq]; simp only [scM0_0, scM0_1, scM0_2, owns_whole]; try rfl

end Cert.FfnIdeal.Hand

end
-- ==== Proof.FfnIdealPointA.lean ====
module

public import proofs.«01_k».proof.Proof.FfnIdealRuns
public import proofs.«01_k».proof.Proof.FfnJoin

@[expose] public section

set_option maxRecDepth 16384

noncomputable section

namespace Cert.FfnIdeal.Hand

open Cert.FfnIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)
set_option sl_exec.rejoinHeartbeats 1 in
set_option sl_exec.stepHeartbeats 40000000 in
set_option maxHeartbeats 200000000 in
noncomputable def kernelRun0_A (c : Dev nD) (i : grid0.Coords) (arg2 : Memref sig .tc .vmem S512x1024 .f32) (harg2 : arg2.IsWhole) (arg3 : Memref sig .tc .vmem S512x512 .bf16) (harg3 : arg3.IsWhole) (arg4 : Memref sig .tc .vmem S512x512 .bf16) (harg4 : arg4.IsWhole) (arg5 : Memref sig .tc .vmem S512x1024 .bf16) (harg5 : arg5.IsWhole) (arg6 : Memref sig .tc .vmem S512x1024 .bf16) (harg6 : arg6.IsWhole) (arg7 : Memref sig .tc .vmem S512x1024 .bf16) (harg7 : arg7.IsWhole) (arg8 : Memref sig .tc .vmem S512x1024 .bf16) (harg8 : arg8.IsWhole) (arg9 : Memref sig .tc .vmem S1024x1024 .bf16) (harg9 : arg9.IsWhole) (arg10 : Memref sig .tc .vmem S1x1024 .f32) (harg10 : arg10.IsWhole) (arg11 : Memref sig .tc .vmem S1024x5632 .bf16) (harg11 : arg11.IsWhole) (arg12 : Memref sig .tc .vmem S3x2816 .f32) (harg12 : arg12.IsWhole) (arg13 : Memref sig .tc .vmem S2816x1024 .bf16) (harg13 : arg13.IsWhole) (arg14 : Memref sig .tc .vmem S1x1x512 .f32) (harg14 : arg14.IsWhole) (arg16 : Memref sig .tc .vmem S512x1024 .f32) (harg16 : arg16.IsWhole) (arg17 : Memref sig .tc .vmem S1x2x2816 .f32) (harg17 : arg17.IsWhole) (arg18 : Memref sig .tc .vmem S32x8x128 .f32) (harg18 : arg18.IsWhole) (arg19 : Memref sig .tc .vmem S512x1024 .f32) (harg19 : arg19.IsWhole) (arg20 : Memref sig .tc .vmem S8x2816 .f32) (harg20 : arg20.IsWhole) (arg21 : Memref sig .tc .vmem S32x8x64x128 .f32) (harg21 : arg21.IsWhole) (hc0 : cond0_0 i)
    (x0 : Vec F S512x1024 .f32) (x1 : Vec F S512x512 .bf16) (x2 : Vec F S512x512 .bf16) (x3 : Vec F S512x1024 .bf16) (x4 : Vec F S512x1024 .bf16) (x5 : Vec F S512x1024 .bf16) (x6 : Vec F S512x1024 .bf16) (x7 : Vec F S1024x1024 .bf16) (x8 : Vec F S1x1024 .f32) (x9 : Vec F S1024x5632 .bf16) (x10 : Vec F S3x2816 .f32) (x11 : Vec F S2816x1024 .bf16) (x12 : Vec F S1x1x512 .f32) (xt0 : TbBuf0 (F := F) c tbM0_0) (fh0 : HbBuf0 (F := F) c hbM0_0) (hw : Words c i xt0) :
    Σ' (L13 : List (View.Piece (Elt F) S512x1024 .f32)), Σ' (L14 : List (View.Piece (Elt F) S1x2x2816 .f32)), Σ' (LS1 : List (View.Piece (Elt F) S8x2816 .f32)), { LT0 : List (View.Piece (Elt F) S512x1024 .f32) //
      ∀ (W : Waits sig Unit) (K : PUnit → sProp (MM F)),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ tbPt0 c tbM0_0 xt0 ∗ semVal ((c : Thread nD τ), SemLoc.dma 25) 0 ∗ hbPt0 c hbM0_0 fh0 ∗ owes (c : Thread nD τ) 0 W
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ (∃ f, arg16.view.loc (c : Thread nD τ) ↦[arg16.view.set]{fullShare} arg16.view.writes (Elt F) f L13) ∗ (∃ f, arg17.view.loc (c : Thread nD τ) ↦[arg17.view.set]{fullShare} arg17.view.writes (Elt F) f L14) ∗ (∃ d, owns (c : Thread nD τ) arg18 fullShare d) ∗ (∃ f, arg19.view.loc (c : Thread nD τ) ↦[arg19.view.set]{fullShare} arg19.view.writes (Elt F) f LT0) ∗ (∃ f, arg20.view.loc (c : Thread nD τ) ↦[arg20.view.set]{fullShare} arg20.view.writes (Elt F) f LS1) ∗ (∃ d, owns (c : Thread nD τ) arg21 fullShare d) ∗ tbPt0 c tbM0_0 xt0 ∗ semVal ((c : Thread nD τ), SemLoc.dma 25) 0 ∗ hbPt0 c hbM0_0 fh0 ∗ (∃ W', owes (c : Thread nD τ) 0 W')) -∗ K ⟨⟩))
          ⊢ wp frame (wpE (defs₀ (F := F)) Variants.none c none) Set.univ (cc0__merge_ffn_kernel i tbM0_0 htbM0_0 arg2 harg2 arg3 harg3 arg4 harg4 arg5 harg5 arg6 harg6 arg7 harg7 arg8 harg8 arg9 harg9 arg10 harg10 arg11 harg11 arg12 harg12 arg13 harg13 arg14 harg14 (Memref.whole main_arg14) (Memref.isWhole_whole _) arg16 harg16 arg17 harg17 arg18 harg18 arg19 harg19 arg20 harg20 arg21 harg21 cc0_scratch3) K } := by
  refine ⟨?_, ?_, ?_, ?_, fun W K => ?run⟩
  case run =>
    obtain ⟨k0_hw1, k0_hw2, k0_hw3, k0_hw4, k0_hw5, k0_hw6, k0_hw7, k0_hw8, k0_hw9, k0_hw10, k0_hw11, k0_hw12, k0_hw13, k0_hw14, k0_hw15, k0_hw16, k0_hw17, k0_hw18, k0_hw19, k0_hw20, k0_hw21, k0_hw22, k0_hw23, k0_hw24, k0_hw25, k0_hw26, k0_hw27, k0_hw28, k0_hw29, k0_hw30, k0_hw31, k0_hw32⟩ := hw
    have _plan : Transfers.BatchOf (c : Thread nD τ) (SemLoc.dma (sig := sig) 25) 32 (windows := true) := trivial
    simp only [cc0__merge_ffn_kernel_eq_skeleton]; unfold cc0__merge_ffn_kernel_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%d14, %f14, -, H14⟩, ⟨%d15, %f15, -, H15⟩, ⟨%ds0, %fs0, -, HS0⟩, ⟨%ds1, %fs1, -, HS1⟩, ⟨%ds2, %fs2, -, HS2⟩, HT0, Hq0, Hh0, HW, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12
    unfold hbPt0
    icases (own_whole c harg21 (f := fs2)).1 $$ HS2 with HS2
    icases (tok_split0 c  (f := fh0)).1 $$ Hh0 with ⟨Hh0, Ht0⟩
    icases (tok_split c 1 (f := fh0)).1 $$ Hh0 with ⟨Hh0, Ht1⟩
    icases (tok_split c 2 (f := fh0)).1 $$ Hh0 with ⟨Hh0, Ht2⟩
    icases (tok_split c 3 (f := fh0)).1 $$ Hh0 with ⟨Hh0, Ht3⟩
    icases (tok_split c 4 (f := fh0)).1 $$ Hh0 with ⟨Hh0, Ht4⟩
    icases (tok_split c 5 (f := fh0)).1 $$ Hh0 with ⟨Hh0, Ht5⟩
    icases (tok_split c 6 (f := fh0)).1 $$ Hh0 with ⟨Hh0, Ht6⟩
    icases (tok_split c 7 (f := fh0)).1 $$ Hh0 with ⟨Hh0, Ht7⟩
    icases (tok_split c 8 (f := fh0)).1 $$ Hh0 with ⟨Hh0, Ht8⟩
    icases (tok_split c 9 (f := fh0)).1 $$ Hh0 with ⟨Hh0, Ht9⟩
    icases (tok_split c 10 (f := fh0)).1 $$ Hh0 with ⟨Hh0, Ht10⟩
    icases (tok_split c 11 (f := fh0)).1 $$ Hh0 with ⟨Hh0, Ht11⟩
    icases (tok_split c 12 (f := fh0)).1 $$ Hh0 with ⟨Hh0, Ht12⟩
    icases (tok_split c 13 (f := fh0)).1 $$ Hh0 with ⟨Hh0, Ht13⟩
    icases (tok_split c 14 (f := fh0)).1 $$ Hh0 with ⟨Hh0, Ht14⟩
    icases (tok_split c 15 (f := fh0)).1 $$ Hh0 with ⟨Hh0, Ht15⟩
    icases (tok_split c 16 (f := fh0)).1 $$ Hh0 with ⟨Hh0, Ht16⟩
    icases (tok_split c 17 (f := fh0)).1 $$ Hh0 with ⟨Hh0, Ht17⟩
    icases (tok_split c 18 (f := fh0)).1 $$ Hh0 with ⟨Hh0, Ht18⟩
    icases (tok_split c 19 (f := fh0)).1 $$ Hh0 with ⟨Hh0, Ht19⟩
    icases (tok_split c 20 (f := fh0)).1 $$ Hh0 with ⟨Hh0, Ht20⟩
    icases (tok_split c 21 (f := fh0)).1 $$ Hh0 with ⟨Hh0, Ht21⟩
    icases (tok_split c 22 (f := fh0)).1 $$ Hh0 with ⟨Hh0, Ht22⟩
    icases (tok_split c 23 (f := fh0)).1 $$ Hh0 with ⟨Hh0, Ht23⟩
    icases (tok_split c 24 (f := fh0)).1 $$ Hh0 with ⟨Hh0, Ht24⟩
    icases (tok_split c 25 (f := fh0)).1 $$ Hh0 with ⟨Hh0, Ht25⟩
    icases (tok_split c 26 (f := fh0)).1 $$ Hh0 with ⟨Hh0, Ht26⟩
    icases (tok_split c 27 (f := fh0)).1 $$ Hh0 with ⟨Hh0, Ht27⟩
    icases (tok_split c 28 (f := fh0)).1 $$ Hh0 with ⟨Hh0, Ht28⟩
    icases (tok_split c 29 (f := fh0)).1 $$ Hh0 with ⟨Hh0, Ht29⟩
    icases (tok_split c 30 (f := fh0)).1 $$ Hh0 with ⟨Hh0, Ht30⟩
    icases (tok_split c 31 (f := fh0)).1 $$ Hh0 with ⟨Hh0, Ht31⟩
    sl_exec (disch := first | sl_exact hc0 | sl_exact k0_hw1 | sl_exact k0_hw2 | sl_exact k0_hw3 | sl_exact k0_hw4 | sl_exact k0_hw5 | sl_exact k0_hw6 | sl_exact k0_hw7 | sl_exact k0_hw8 | sl_exact k0_hw9 | sl_exact k0_hw10 | sl_exact k0_hw11 | sl_exact k0_hw12 | sl_exact k0_hw13 | sl_exact k0_hw14 | sl_exact k0_hw15 | sl_exact k0_hw16 | sl_exact k0_hw17 | sl_exact k0_hw18 | sl_exact k0_hw19 | sl_exact k0_hw20 | sl_exact k0_hw21 | sl_exact k0_hw22 | sl_exact k0_hw23 | sl_exact k0_hw24 | sl_exact k0_hw25 | sl_exact k0_hw26 | sl_exact k0_hw27 | sl_exact k0_hw28 | sl_exact k0_hw29 | sl_exact k0_hw30 | sl_exact k0_hw31 | sl_exact k0_hw32 )
    ihave HS2 := Cert.Join.window $$ [HS2 HS2_2]
    · isplitl [HS2] <;> iassumption
    icases HS2 with ⟨%h2, HS2⟩
    ihave HS2 := Cert.Join.window $$ [HS2 HS2_3]
    · isplitl [HS2] <;> iassumption
    icases HS2 with ⟨%h3, HS2⟩
    ihave HS2 := Cert.Join.window $$ [HS2 HS2_4]
    · isplitl [HS2] <;> iassumption
    icases HS2 with ⟨%h4, HS2⟩
    ihave HS2 := Cert.Join.window $$ [HS2 HS2_5]
    · isplitl [HS2] <;> iassumption
    icases HS2 with ⟨%h5, HS2⟩
    ihave HS2 := Cert.Join.window $$ [HS2 HS2_6]
    · isplitl [HS2] <;> iassumption
    icases HS2 with ⟨%h6, HS2⟩
    ihave HS2 := Cert.Join.window $$ [HS2 HS2_7]
    · isplitl [HS2] <;> iassumption
    icases HS2 with ⟨%h7, HS2⟩
    ihave HS2 := Cert.Join.window $$ [HS2 HS2_8]
    · isplitl [HS2] <;> iassumption
    icases HS2 with ⟨%h8, HS2⟩
    ihave HS2 := Cert.Join.window $$ [HS2 HS2_9]
    · isplitl [HS2] <;> iassumption
    icases HS2 with ⟨%h9, HS2⟩
    ihave HS2 := Cert.Join.window $$ [HS2 HS2_10]
    · isplitl [HS2] <;> iassumption
    icases HS2 with ⟨%h10, HS2⟩
    ihave HS2 := Cert.Join.window $$ [HS2 HS2_11]
    · isplitl [HS2] <;> iassumption
    icases HS2 with ⟨%h11, HS2⟩
    ihave HS2 := Cert.Join.window $$ [HS2 HS2_12]
    · isplitl [HS2] <;> iassumption
    icases HS2 with ⟨%h12, HS2⟩
    ihave HS2 := Cert.Join.window $$ [HS2 HS2_13]
    · isplitl [HS2] <;> iassumption
    icases HS2 with ⟨%h13, HS2⟩
    ihave HS2 := Cert.Join.window $$ [HS2 HS2_14]
    · isplitl [HS2] <;> iassumption
    icases HS2 with ⟨%h14, HS2⟩
    ihave HS2 := Cert.Join.window $$ [HS2 HS2_15]
    · isplitl [HS2] <;> iassumption
    icases HS2 with ⟨%h15, HS2⟩
    ihave HS2 := Cert.Join.window $$ [HS2 HS2_16]
    · isplitl [HS2] <;> iassumption
    icases HS2 with ⟨%h16, HS2⟩
    ihave HS2 := Cert.Join.window $$ [HS2 HS2_17]
    · isplitl [HS2] <;> iassumption
    icases HS2 with ⟨%h17, HS2⟩
    ihave HS2 := Cert.Join.window $$ [HS2 HS2_18]
    · isplitl [HS2] <;> iassumption
    icases HS2 with ⟨%h18, HS2⟩
    ihave HS2 := Cert.Join.window $$ [HS2 HS2_19]
    · isplitl [HS2] <;> iassumption
    icases HS2 with ⟨%h19, HS2⟩
    ihave HS2 := Cert.Join.window $$ [HS2 HS2_20]
    · isplitl [HS2] <;> iassumption
    icases HS2 with ⟨%h20, HS2⟩
    ihave HS2 := Cert.Join.window $$ [HS2 HS2_21]
    · isplitl [HS2] <;> iassumption
    icases HS2 with ⟨%h21, HS2⟩
    ihave HS2 := Cert.Join.window $$ [HS2 HS2_22]
    · isplitl [HS2] <;> iassumption
    icases HS2 with ⟨%h22, HS2⟩
    ihave HS2 := Cert.Join.window $$ [HS2 HS2_23]
    · isplitl [HS2] <;> iassumption
    icases HS2 with ⟨%h23, HS2⟩
    ihave HS2 := Cert.Join.window $$ [HS2 HS2_24]
    · isplitl [HS2] <;> iassumption
    icases HS2 with ⟨%h24, HS2⟩
    ihave HS2 := Cert.Join.window $$ [HS2 HS2_25]
    · isplitl [HS2] <;> iassumption
    icases HS2 with ⟨%h25, HS2⟩
    ihave HS2 := Cert.Join.window $$ [HS2 HS2_26]
    · isplitl [HS2] <;> iassumption
    icases HS2 with ⟨%h26, HS2⟩
    ihave HS2 := Cert.Join.window $$ [HS2 HS2_27]
    · isplitl [HS2] <;> iassumption
    icases HS2 with ⟨%h27, HS2⟩
    ihave HS2 := Cert.Join.window $$ [HS2 HS2_28]
    · isplitl [HS2] <;> iassumption
    icases HS2 with ⟨%h28, HS2⟩
    ihave HS2 := Cert.Join.window $$ [HS2 HS2_29]
    · isplitl [HS2] <;> iassumption
    icases HS2 with ⟨%h29, HS2⟩
    ihave HS2 := Cert.Join.window $$ [HS2 HS2_30]
    · isplitl [HS2] <;> iassumption
    icases HS2 with ⟨%h30, HS2⟩
    ihave HS2 := Cert.Join.window $$ [HS2 HS2_31]
    · isplitl [HS2] <;> iassumption
    icases HS2 with ⟨%h31, HS2⟩
    ihave HS2 := Cert.Join.window $$ [HS2 HS2_32]
    · isplitl [HS2] <;> iassumption
    icases HS2 with ⟨%h32, HS2⟩
    sl_exec (disch := first | sl_exact hc0 | sl_exact k0_hw1 | sl_exact k0_hw2 | sl_exact k0_hw3 | sl_exact k0_hw4 | sl_exact k0_hw5 | sl_exact k0_hw6 | sl_exact k0_hw7 | sl_exact k0_hw8 | sl_exact k0_hw9 | sl_exact k0_hw10 | sl_exact k0_hw11 | sl_exact k0_hw12 | sl_exact k0_hw13 | sl_exact k0_hw14 | sl_exact k0_hw15 | sl_exact k0_hw16 | sl_exact k0_hw17 | sl_exact k0_hw18 | sl_exact k0_hw19 | sl_exact k0_hw20 | sl_exact k0_hw21 | sl_exact k0_hw22 | sl_exact k0_hw23 | sl_exact k0_hw24 | sl_exact k0_hw25 | sl_exact k0_hw26 | sl_exact k0_hw27 | sl_exact k0_hw28 | sl_exact k0_hw29 | sl_exact k0_hw30 | sl_exact k0_hw31 | sl_exact k0_hw32 )
    sl_step
    ihave HS2 := (own_whole c harg21).2 $$ HS2
    ihave Hh0 := (tok_split c 31 (f := fh0)).2 $$ [Hh0 Ht31]
    · isplitl [Hh0] <;> iassumption
    ihave Hh0 := (tok_split c 30 (f := fh0)).2 $$ [Hh0 Ht30]
    · isplitl [Hh0] <;> iassumption
    ihave Hh0 := (tok_split c 29 (f := fh0)).2 $$ [Hh0 Ht29]
    · isplitl [Hh0] <;> iassumption
    ihave Hh0 := (tok_split c 28 (f := fh0)).2 $$ [Hh0 Ht28]
    · isplitl [Hh0] <;> iassumption
    ihave Hh0 := (tok_split c 27 (f := fh0)).2 $$ [Hh0 Ht27]
    · isplitl [Hh0] <;> iassumption
    ihave Hh0 := (tok_split c 26 (f := fh0)).2 $$ [Hh0 Ht26]
    · isplitl [Hh0] <;> iassumption
    ihave Hh0 := (tok_split c 25 (f := fh0)).2 $$ [Hh0 Ht25]
    · isplitl [Hh0] <;> iassumption
    ihave Hh0 := (tok_split c 24 (f := fh0)).2 $$ [Hh0 Ht24]
    · isplitl [Hh0] <;> iassumption
    ihave Hh0 := (tok_split c 23 (f := fh0)).2 $$ [Hh0 Ht23]
    · isplitl [Hh0] <;> iassumption
    ihave Hh0 := (tok_split c 22 (f := fh0)).2 $$ [Hh0 Ht22]
    · isplitl [Hh0] <;> iassumption
    ihave Hh0 := (tok_split c 21 (f := fh0)).2 $$ [Hh0 Ht21]
    · isplitl [Hh0] <;> iassumption
    ihave Hh0 := (tok_split c 20 (f := fh0)).2 $$ [Hh0 Ht20]
    · isplitl [Hh0] <;> iassumption
    ihave Hh0 := (tok_split c 19 (f := fh0)).2 $$ [Hh0 Ht19]
    · isplitl [Hh0] <;> iassumption
    ihave Hh0 := (tok_split c 18 (f := fh0)).2 $$ [Hh0 Ht18]
    · isplitl [Hh0] <;> iassumption
    ihave Hh0 := (tok_split c 17 (f := fh0)).2 $$ [Hh0 Ht17]
    · isplitl [Hh0] <;> iassumption
    ihave Hh0 := (tok_split c 16 (f := fh0)).2 $$ [Hh0 Ht16]
    · isplitl [Hh0] <;> iassumption
    ihave Hh0 := (tok_split c 15 (f := fh0)).2 $$ [Hh0 Ht15]
    · isplitl [Hh0] <;> iassumption
    ihave Hh0 := (tok_split c 14 (f := fh0)).2 $$ [Hh0 Ht14]
    · isplitl [Hh0] <;> iassumption
    ihave Hh0 := (tok_split c 13 (f := fh0)).2 $$ [Hh0 Ht13]
    · isplitl [Hh0] <;> iassumption
    ihave Hh0 := (tok_split c 12 (f := fh0)).2 $$ [Hh0 Ht12]
    · isplitl [Hh0] <;> iassumption
    ihave Hh0 := (tok_split c 11 (f := fh0)).2 $$ [Hh0 Ht11]
    · isplitl [Hh0] <;> iassumption
    ihave Hh0 := (tok_split c 10 (f := fh0)).2 $$ [Hh0 Ht10]
    · isplitl [Hh0] <;> iassumption
    ihave Hh0 := (tok_split c 9 (f := fh0)).2 $$ [Hh0 Ht9]
    · isplitl [Hh0] <;> iassumption
    ihave Hh0 := (tok_split c 8 (f := fh0)).2 $$ [Hh0 Ht8]
    · isplitl [Hh0] <;> iassumption
    ihave Hh0 := (tok_split c 7 (f := fh0)).2 $$ [Hh0 Ht7]
    · isplitl [Hh0] <;> iassumption
    ihave Hh0 := (tok_split c 6 (f := fh0)).2 $$ [Hh0 Ht6]
    · isplitl [Hh0] <;> iassumption
    ihave Hh0 := (tok_split c 5 (f := fh0)).2 $$ [Hh0 Ht5]
    · isplitl [Hh0] <;> iassumption
    ihave Hh0 := (tok_split c 4 (f := fh0)).2 $$ [Hh0 Ht4]
    · isplitl [Hh0] <;> iassumption
    ihave Hh0 := (tok_split c 3 (f := fh0)).2 $$ [Hh0 Ht3]
    · isplitl [Hh0] <;> iassumption
    ihave Hh0 := (tok_split c 2 (f := fh0)).2 $$ [Hh0 Ht2]
    · isplitl [Hh0] <;> iassumption
    ihave Hh0 := (tok_split c 1 (f := fh0)).2 $$ [Hh0 Ht1]
    · isplitl [Hh0] <;> iassumption
    ihave Hh0 := (tok_split0 c  (f := fh0)).2 $$ [Hh0 Ht0]
    · isplitl [Hh0] <;> iassumption
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]; · iexists _; iexact H13
    isplitl [H14]; · iexists _; iexact H14
    isplitl [H15]
    · iexists _, _; isplitr; swap; · iexact H15
      ipureintro; rfl
    isplitl [HS0]; · iexists _; iexact HS0
    isplitl [HS1]; · iexists _; iexact HS1
    isplitl [HS2]
    · iexists _, _; isplitr; swap; · iexact HS2
      ipureintro; rfl
    isplitl [HT0]; · iexact HT0
    isplitl [Hq0]; · iexact Hq0
    isplitl [Hh0]; · iexact Hh0
    iexists _; iexact HW

end Cert.FfnIdeal.Hand

end
-- ==== Proof.FfnIdealRunB.lean ====
module

public import proofs.«01_k».proof.Proof.FfnIdealRuns
public import proofs.«01_k».proof.Proof.FfnJoin

@[expose] public section

set_option maxRecDepth 16384

noncomputable section

namespace Cert.FfnIdeal.Hand

open Cert.FfnIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)
set_option sl_exec.rejoinHeartbeats 1 in
set_option sl_exec.stepHeartbeats 40000000 in
set_option maxHeartbeats 200000000 in
noncomputable def kernelRun0_B (c : Dev nD) (i : grid0.Coords) (arg2 : Memref sig .tc .vmem S512x1024 .f32) (harg2 : arg2.IsWhole) (arg3 : Memref sig .tc .vmem S512x512 .bf16) (harg3 : arg3.IsWhole) (arg4 : Memref sig .tc .vmem S512x512 .bf16) (harg4 : arg4.IsWhole) (arg5 : Memref sig .tc .vmem S512x1024 .bf16) (harg5 : arg5.IsWhole) (arg6 : Memref sig .tc .vmem S512x1024 .bf16) (harg6 : arg6.IsWhole) (arg7 : Memref sig .tc .vmem S512x1024 .bf16) (harg7 : arg7.IsWhole) (arg8 : Memref sig .tc .vmem S512x1024 .bf16) (harg8 : arg8.IsWhole) (arg9 : Memref sig .tc .vmem S1024x1024 .bf16) (harg9 : arg9.IsWhole) (arg10 : Memref sig .tc .vmem S1x1024 .f32) (harg10 : arg10.IsWhole) (arg11 : Memref sig .tc .vmem S1024x5632 .bf16) (harg11 : arg11.IsWhole) (arg12 : Memref sig .tc .vmem S3x2816 .f32) (harg12 : arg12.IsWhole) (arg13 : Memref sig .tc .vmem S2816x1024 .bf16) (harg13 : arg13.IsWhole) (arg14 : Memref sig .tc .vmem S1x1x512 .f32) (harg14 : arg14.IsWhole) (arg16 : Memref sig .tc .vmem S512x1024 .f32) (harg16 : arg16.IsWhole) (arg17 : Memref sig .tc .vmem S1x2x2816 .f32) (harg17 : arg17.IsWhole) (arg18 : Memref sig .tc .vmem S32x8x128 .f32) (harg18 : arg18.IsWhole) (arg19 : Memref sig .tc .vmem S512x1024 .f32) (harg19 : arg19.IsWhole) (arg20 : Memref sig .tc .vmem S8x2816 .f32) (harg20 : arg20.IsWhole) (arg21 : Memref sig .tc .vmem S32x8x64x128 .f32) (harg21 : arg21.IsWhole) (hc0 : ¬cond0_0 i)
    (x0 : Vec F S512x1024 .f32) (x1 : Vec F S512x512 .bf16) (x2 : Vec F S512x512 .bf16) (x3 : Vec F S512x1024 .bf16) (x4 : Vec F S512x1024 .bf16) (x5 : Vec F S512x1024 .bf16) (x6 : Vec F S512x1024 .bf16) (x7 : Vec F S1024x1024 .bf16) (x8 : Vec F S1x1024 .f32) (x9 : Vec F S1024x5632 .bf16) (x10 : Vec F S3x2816 .f32) (x11 : Vec F S2816x1024 .bf16) (x12 : Vec F S1x1x512 .f32) (xt0 : TbBuf0 (F := F) c tbM0_0) (xs1 : Vec F S8x2816 .f32) (fh0 : HbBuf0 (F := F) c hbM0_0) (hw : Words c i xt0) :
    Σ' (L13 : List (View.Piece (Elt F) S512x1024 .f32)), Σ' (L14 : List (View.Piece (Elt F) S1x2x2816 .f32)), Σ' (LS1 : List (View.Piece (Elt F) S8x2816 .f32)), { LT0 : List (View.Piece (Elt F) S512x1024 .f32) //
      ∀ (W : Waits sig Unit) (K : PUnit → sProp (MM F)),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ owns (c : Thread nD τ) arg20 fullShare xs1 ∗ (∃ d, owns (c : Thread nD τ) arg21 fullShare d) ∗ tbPt0 c tbM0_0 xt0 ∗ semVal ((c : Thread nD τ), SemLoc.dma 25) 0 ∗ hbPt0 c hbM0_0 fh0 ∗ owes (c : Thread nD τ) 0 W
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ (∃ f, arg16.view.loc (c : Thread nD τ) ↦[arg16.view.set]{fullShare} arg16.view.writes (Elt F) f L13) ∗ (∃ f, arg17.view.loc (c : Thread nD τ) ↦[arg17.view.set]{fullShare} arg17.view.writes (Elt F) f L14) ∗ (∃ d, owns (c : Thread nD τ) arg18 fullShare d) ∗ (∃ f, arg19.view.loc (c : Thread nD τ) ↦[arg19.view.set]{fullShare} arg19.view.writes (Elt F) f LT0) ∗ (∃ f, arg20.view.loc (c : Thread nD τ) ↦[arg20.view.set]{fullShare} arg20.view.writes (Elt F) f LS1) ∗ (∃ d, owns (c : Thread nD τ) arg21 fullShare d) ∗ tbPt0 c tbM0_0 xt0 ∗ semVal ((c : Thread nD τ), SemLoc.dma 25) 0 ∗ hbPt0 c hbM0_0 fh0 ∗ (∃ W', owes (c : Thread nD τ) 0 W')) -∗ K ⟨⟩))
          ⊢ wp frame (wpE (defs₀ (F := F)) Variants.none c none) Set.univ (cc0__merge_ffn_kernel i tbM0_0 htbM0_0 arg2 harg2 arg3 harg3 arg4 harg4 arg5 harg5 arg6 harg6 arg7 harg7 arg8 harg8 arg9 harg9 arg10 harg10 arg11 harg11 arg12 harg12 arg13 harg13 arg14 harg14 (Memref.whole main_arg14) (Memref.isWhole_whole _) arg16 harg16 arg17 harg17 arg18 harg18 arg19 harg19 arg20 harg20 arg21 harg21 cc0_scratch3) K } := by
  refine ⟨?_, ?_, ?_, ?_, fun W K => ?run⟩
  case run =>
    obtain ⟨k0_hw1, k0_hw2, k0_hw3, k0_hw4, k0_hw5, k0_hw6, k0_hw7, k0_hw8, k0_hw9, k0_hw10, k0_hw11, k0_hw12, k0_hw13, k0_hw14, k0_hw15, k0_hw16, k0_hw17, k0_hw18, k0_hw19, k0_hw20, k0_hw21, k0_hw22, k0_hw23, k0_hw24, k0_hw25, k0_hw26, k0_hw27, k0_hw28, k0_hw29, k0_hw30, k0_hw31, k0_hw32⟩ := hw
    have _plan : Transfers.BatchOf (c : Thread nD τ) (SemLoc.dma (sig := sig) 25) 32 (windows := true) := trivial
    simp only [cc0__merge_ffn_kernel_eq_skeleton]; unfold cc0__merge_ffn_kernel_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%d14, %f14, -, H14⟩, ⟨%d15, %f15, -, H15⟩, ⟨%ds0, %fs0, -, HS0⟩, ⟨%fs1, %hfs1, HS1⟩, ⟨%ds2, %fs2, -, HS2⟩, HT0, Hq0, Hh0, HW, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg20.eq_unread hfs1
    unfold hbPt0
    icases (own_whole c harg21 (f := fs2)).1 $$ HS2 with HS2
    icases (tok_split0 c  (f := fh0)).1 $$ Hh0 with ⟨Hh0, Ht0⟩
    icases (tok_split c 1 (f := fh0)).1 $$ Hh0 with ⟨Hh0, Ht1⟩
    icases (tok_split c 2 (f := fh0)).1 $$ Hh0 with ⟨Hh0, Ht2⟩
    icases (tok_split c 3 (f := fh0)).1 $$ Hh0 with ⟨Hh0, Ht3⟩
    icases (tok_split c 4 (f := fh0)).1 $$ Hh0 with ⟨Hh0, Ht4⟩
    icases (tok_split c 5 (f := fh0)).1 $$ Hh0 with ⟨Hh0, Ht5⟩
    icases (tok_split c 6 (f := fh0)).1 $$ Hh0 with ⟨Hh0, Ht6⟩
    icases (tok_split c 7 (f := fh0)).1 $$ Hh0 with ⟨Hh0, Ht7⟩
    icases (tok_split c 8 (f := fh0)).1 $$ Hh0 with ⟨Hh0, Ht8⟩
    icases (tok_split c 9 (f := fh0)).1 $$ Hh0 with ⟨Hh0, Ht9⟩
    icases (tok_split c 10 (f := fh0)).1 $$ Hh0 with ⟨Hh0, Ht10⟩
    icases (tok_split c 11 (f := fh0)).1 $$ Hh0 with ⟨Hh0, Ht11⟩
    icases (tok_split c 12 (f := fh0)).1 $$ Hh0 with ⟨Hh0, Ht12⟩
    icases (tok_split c 13 (f := fh0)).1 $$ Hh0 with ⟨Hh0, Ht13⟩
    icases (tok_split c 14 (f := fh0)).1 $$ Hh0 with ⟨Hh0, Ht14⟩
    icases (tok_split c 15 (f := fh0)).1 $$ Hh0 with ⟨Hh0, Ht15⟩
    icases (tok_split c 16 (f := fh0)).1 $$ Hh0 with ⟨Hh0, Ht16⟩
    icases (tok_split c 17 (f := fh0)).1 $$ Hh0 with ⟨Hh0, Ht17⟩
    icases (tok_split c 18 (f := fh0)).1 $$ Hh0 with ⟨Hh0, Ht18⟩
    icases (tok_split c 19 (f := fh0)).1 $$ Hh0 with ⟨Hh0, Ht19⟩
    icases (tok_split c 20 (f := fh0)).1 $$ Hh0 with ⟨Hh0, Ht20⟩
    icases (tok_split c 21 (f := fh0)).1 $$ Hh0 with ⟨Hh0, Ht21⟩
    icases (tok_split c 22 (f := fh0)).1 $$ Hh0 with ⟨Hh0, Ht22⟩
    icases (tok_split c 23 (f := fh0)).1 $$ Hh0 with ⟨Hh0, Ht23⟩
    icases (tok_split c 24 (f := fh0)).1 $$ Hh0 with ⟨Hh0, Ht24⟩
    icases (tok_split c 25 (f := fh0)).1 $$ Hh0 with ⟨Hh0, Ht25⟩
    icases (tok_split c 26 (f := fh0)).1 $$ Hh0 with ⟨Hh0, Ht26⟩
    icases (tok_split c 27 (f := fh0)).1 $$ Hh0 with ⟨Hh0, Ht27⟩
    icases (tok_split c 28 (f := fh0)).1 $$ Hh0 with ⟨Hh0, Ht28⟩
    icases (tok_split c 29 (f := fh0)).1 $$ Hh0 with ⟨Hh0, Ht29⟩
    icases (tok_split c 30 (f := fh0)).1 $$ Hh0 with ⟨Hh0, Ht30⟩
    icases (tok_split c 31 (f := fh0)).1 $$ Hh0 with ⟨Hh0, Ht31⟩
    sl_exec (disch := first | sl_exact hc0 | sl_exact k0_hw1 | sl_exact k0_hw2 | sl_exact k0_hw3 | sl_exact k0_hw4 | sl_exact k0_hw5 | sl_exact k0_hw6 | sl_exact k0_hw7 | sl_exact k0_hw8 | sl_exact k0_hw9 | sl_exact k0_hw10 | sl_exact k0_hw11 | sl_exact k0_hw12 | sl_exact k0_hw13 | sl_exact k0_hw14 | sl_exact k0_hw15 | sl_exact k0_hw16 | sl_exact k0_hw17 | sl_exact k0_hw18 | sl_exact k0_hw19 | sl_exact k0_hw20 | sl_exact k0_hw21 | sl_exact k0_hw22 | sl_exact k0_hw23 | sl_exact k0_hw24 | sl_exact k0_hw25 | sl_exact k0_hw26 | sl_exact k0_hw27 | sl_exact k0_hw28 | sl_exact k0_hw29 | sl_exact k0_hw30 | sl_exact k0_hw31 | sl_exact k0_hw32 )
    ihave HS2 := Cert.Join.window $$ [HS2 HS2_2]
    · isplitl [HS2] <;> iassumption
    icases HS2 with ⟨%h2, HS2⟩
    ihave HS2 := Cert.Join.window $$ [HS2 HS2_3]
    · isplitl [HS2] <;> iassumption
    icases HS2 with ⟨%h3, HS2⟩
    ihave HS2 := Cert.Join.window $$ [HS2 HS2_4]
    · isplitl [HS2] <;> iassumption
    icases HS2 with ⟨%h4, HS2⟩
    ihave HS2 := Cert.Join.window $$ [HS2 HS2_5]
    · isplitl [HS2] <;> iassumption
    icases HS2 with ⟨%h5, HS2⟩
    ihave HS2 := Cert.Join.window $$ [HS2 HS2_6]
    · isplitl [HS2] <;> iassumption
    icases HS2 with ⟨%h6, HS2⟩
    ihave HS2 := Cert.Join.window $$ [HS2 HS2_7]
    · isplitl [HS2] <;> iassumption
    icases HS2 with ⟨%h7, HS2⟩
    ihave HS2 := Cert.Join.window $$ [HS2 HS2_8]
    · isplitl [HS2] <;> iassumption
    icases HS2 with ⟨%h8, HS2⟩
    ihave HS2 := Cert.Join.window $$ [HS2 HS2_9]
    · isplitl [HS2] <;> iassumption
    icases HS2 with ⟨%h9, HS2⟩
    ihave HS2 := Cert.Join.window $$ [HS2 HS2_10]
    · isplitl [HS2] <;> iassumption
    icases HS2 with ⟨%h10, HS2⟩
    ihave HS2 := Cert.Join.window $$ [HS2 HS2_11]
    · isplitl [HS2] <;> iassumption
    icases HS2 with ⟨%h11, HS2⟩
    ihave HS2 := Cert.Join.window $$ [HS2 HS2_12]
    · isplitl [HS2] <;> iassumption
    icases HS2 with ⟨%h12, HS2⟩
    ihave HS2 := Cert.Join.window $$ [HS2 HS2_13]
    · isplitl [HS2] <;> iassumption
    icases HS2 with ⟨%h13, HS2⟩
    ihave HS2 := Cert.Join.window $$ [HS2 HS2_14]
    · isplitl [HS2] <;> iassumption
    icases HS2 with ⟨%h14, HS2⟩
    ihave HS2 := Cert.Join.window $$ [HS2 HS2_15]
    · isplitl [HS2] <;> iassumption
    icases HS2 with ⟨%h15, HS2⟩
    ihave HS2 := Cert.Join.window $$ [HS2 HS2_16]
    · isplitl [HS2] <;> iassumption
    icases HS2 with ⟨%h16, HS2⟩
    ihave HS2 := Cert.Join.window $$ [HS2 HS2_17]
    · isplitl [HS2] <;> iassumption
    icases HS2 with ⟨%h17, HS2⟩
    ihave HS2 := Cert.Join.window $$ [HS2 HS2_18]
    · isplitl [HS2] <;> iassumption
    icases HS2 with ⟨%h18, HS2⟩
    ihave HS2 := Cert.Join.window $$ [HS2 HS2_19]
    · isplitl [HS2] <;> iassumption
    icases HS2 with ⟨%h19, HS2⟩
    ihave HS2 := Cert.Join.window $$ [HS2 HS2_20]
    · isplitl [HS2] <;> iassumption
    icases HS2 with ⟨%h20, HS2⟩
    ihave HS2 := Cert.Join.window $$ [HS2 HS2_21]
    · isplitl [HS2] <;> iassumption
    icases HS2 with ⟨%h21, HS2⟩
    ihave HS2 := Cert.Join.window $$ [HS2 HS2_22]
    · isplitl [HS2] <;> iassumption
    icases HS2 with ⟨%h22, HS2⟩
    ihave HS2 := Cert.Join.window $$ [HS2 HS2_23]
    · isplitl [HS2] <;> iassumption
    icases HS2 with ⟨%h23, HS2⟩
    ihave HS2 := Cert.Join.window $$ [HS2 HS2_24]
    · isplitl [HS2] <;> iassumption
    icases HS2 with ⟨%h24, HS2⟩
    ihave HS2 := Cert.Join.window $$ [HS2 HS2_25]
    · isplitl [HS2] <;> iassumption
    icases HS2 with ⟨%h25, HS2⟩
    ihave HS2 := Cert.Join.window $$ [HS2 HS2_26]
    · isplitl [HS2] <;> iassumption
    icases HS2 with ⟨%h26, HS2⟩
    ihave HS2 := Cert.Join.window $$ [HS2 HS2_27]
    · isplitl [HS2] <;> iassumption
    icases HS2 with ⟨%h27, HS2⟩
    ihave HS2 := Cert.Join.window $$ [HS2 HS2_28]
    · isplitl [HS2] <;> iassumption
    icases HS2 with ⟨%h28, HS2⟩
    ihave HS2 := Cert.Join.window $$ [HS2 HS2_29]
    · isplitl [HS2] <;> iassumption
    icases HS2 with ⟨%h29, HS2⟩
    ihave HS2 := Cert.Join.window $$ [HS2 HS2_30]
    · isplitl [HS2] <;> iassumption
    icases HS2 with ⟨%h30, HS2⟩
    ihave HS2 := Cert.Join.window $$ [HS2 HS2_31]
    · isplitl [HS2] <;> iassumption
    icases HS2 with ⟨%h31, HS2⟩
    ihave HS2 := Cert.Join.window $$ [HS2 HS2_32]
    · isplitl [HS2] <;> iassumption
    icases HS2 with ⟨%h32, HS2⟩
    sl_exec (disch := first | sl_exact hc0 | sl_exact k0_hw1 | sl_exact k0_hw2 | sl_exact k0_hw3 | sl_exact k0_hw4 | sl_exact k0_hw5 | sl_exact k0_hw6 | sl_exact k0_hw7 | sl_exact k0_hw8 | sl_exact k0_hw9 | sl_exact k0_hw10 | sl_exact k0_hw11 | sl_exact k0_hw12 | sl_exact k0_hw13 | sl_exact k0_hw14 | sl_exact k0_hw15 | sl_exact k0_hw16 | sl_exact k0_hw17 | sl_exact k0_hw18 | sl_exact k0_hw19 | sl_exact k0_hw20 | sl_exact k0_hw21 | sl_exact k0_hw22 | sl_exact k0_hw23 | sl_exact k0_hw24 | sl_exact k0_hw25 | sl_exact k0_hw26 | sl_exact k0_hw27 | sl_exact k0_hw28 | sl_exact k0_hw29 | sl_exact k0_hw30 | sl_exact k0_hw31 | sl_exact k0_hw32 )
    sl_step
    ihave HS2 := (own_whole c harg21).2 $$ HS2
    ihave Hh0 := (tok_split c 31 (f := fh0)).2 $$ [Hh0 Ht31]
    · isplitl [Hh0] <;> iassumption
    ihave Hh0 := (tok_split c 30 (f := fh0)).2 $$ [Hh0 Ht30]
    · isplitl [Hh0] <;> iassumption
    ihave Hh0 := (tok_split c 29 (f := fh0)).2 $$ [Hh0 Ht29]
    · isplitl [Hh0] <;> iassumption
    ihave Hh0 := (tok_split c 28 (f := fh0)).2 $$ [Hh0 Ht28]
    · isplitl [Hh0] <;> iassumption
    ihave Hh0 := (tok_split c 27 (f := fh0)).2 $$ [Hh0 Ht27]
    · isplitl [Hh0] <;> iassumption
    ihave Hh0 := (tok_split c 26 (f := fh0)).2 $$ [Hh0 Ht26]
    · isplitl [Hh0] <;> iassumption
    ihave Hh0 := (tok_split c 25 (f := fh0)).2 $$ [Hh0 Ht25]
    · isplitl [Hh0] <;> iassumption
    ihave Hh0 := (tok_split c 24 (f := fh0)).2 $$ [Hh0 Ht24]
    · isplitl [Hh0] <;> iassumption
    ihave Hh0 := (tok_split c 23 (f := fh0)).2 $$ [Hh0 Ht23]
    · isplitl [Hh0] <;> iassumption
    ihave Hh0 := (tok_split c 22 (f := fh0)).2 $$ [Hh0 Ht22]
    · isplitl [Hh0] <;> iassumption
    ihave Hh0 := (tok_split c 21 (f := fh0)).2 $$ [Hh0 Ht21]
    · isplitl [Hh0] <;> iassumption
    ihave Hh0 := (tok_split c 20 (f := fh0)).2 $$ [Hh0 Ht20]
    · isplitl [Hh0] <;> iassumption
    ihave Hh0 := (tok_split c 19 (f := fh0)).2 $$ [Hh0 Ht19]
    · isplitl [Hh0] <;> iassumption
    ihave Hh0 := (tok_split c 18 (f := fh0)).2 $$ [Hh0 Ht18]
    · isplitl [Hh0] <;> iassumption
    ihave Hh0 := (tok_split c 17 (f := fh0)).2 $$ [Hh0 Ht17]
    · isplitl [Hh0] <;> iassumption
    ihave Hh0 := (tok_split c 16 (f := fh0)).2 $$ [Hh0 Ht16]
    · isplitl [Hh0] <;> iassumption
    ihave Hh0 := (tok_split c 15 (f := fh0)).2 $$ [Hh0 Ht15]
    · isplitl [Hh0] <;> iassumption
    ihave Hh0 := (tok_split c 14 (f := fh0)).2 $$ [Hh0 Ht14]
    · isplitl [Hh0] <;> iassumption
    ihave Hh0 := (tok_split c 13 (f := fh0)).2 $$ [Hh0 Ht13]
    · isplitl [Hh0] <;> iassumption
    ihave Hh0 := (tok_split c 12 (f := fh0)).2 $$ [Hh0 Ht12]
    · isplitl [Hh0] <;> iassumption
    ihave Hh0 := (tok_split c 11 (f := fh0)).2 $$ [Hh0 Ht11]
    · isplitl [Hh0] <;> iassumption
    ihave Hh0 := (tok_split c 10 (f := fh0)).2 $$ [Hh0 Ht10]
    · isplitl [Hh0] <;> iassumption
    ihave Hh0 := (tok_split c 9 (f := fh0)).2 $$ [Hh0 Ht9]
    · isplitl [Hh0] <;> iassumption
    ihave Hh0 := (tok_split c 8 (f := fh0)).2 $$ [Hh0 Ht8]
    · isplitl [Hh0] <;> iassumption
    ihave Hh0 := (tok_split c 7 (f := fh0)).2 $$ [Hh0 Ht7]
    · isplitl [Hh0] <;> iassumption
    ihave Hh0 := (tok_split c 6 (f := fh0)).2 $$ [Hh0 Ht6]
    · isplitl [Hh0] <;> iassumption
    ihave Hh0 := (tok_split c 5 (f := fh0)).2 $$ [Hh0 Ht5]
    · isplitl [Hh0] <;> iassumption
    ihave Hh0 := (tok_split c 4 (f := fh0)).2 $$ [Hh0 Ht4]
    · isplitl [Hh0] <;> iassumption
    ihave Hh0 := (tok_split c 3 (f := fh0)).2 $$ [Hh0 Ht3]
    · isplitl [Hh0] <;> iassumption
    ihave Hh0 := (tok_split c 2 (f := fh0)).2 $$ [Hh0 Ht2]
    · isplitl [Hh0] <;> iassumption
    ihave Hh0 := (tok_split c 1 (f := fh0)).2 $$ [Hh0 Ht1]
    · isplitl [Hh0] <;> iassumption
    ihave Hh0 := (tok_split0 c  (f := fh0)).2 $$ [Hh0 Ht0]
    · isplitl [Hh0] <;> iassumption
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]; · iexists _; iexact H13
    isplitl [H14]; · iexists _; iexact H14
    isplitl [H15]
    · iexists _, _; isplitr; swap; · iexact H15
      ipureintro; rfl
    isplitl [HS0]; · iexists _; iexact HS0
    isplitl [HS1]; · iexists _; iexact HS1
    isplitl [HS2]
    · iexists _, _; isplitr; swap; · iexact HS2
      ipureintro; rfl
    isplitl [HT0]; · iexact HT0
    isplitl [Hq0]; · iexact Hq0
    isplitl [Hh0]; · iexact Hh0
    iexists _; iexact HW

end Cert.FfnIdeal.Hand

end
-- ==== Proof.FfnIdealFrame.lean ====
module

public import proofs.«01_k».proof.Proof.FfnIdealPointA
public import proofs.«01_k».proof.Proof.FfnIdealRunB
public import Idealize.ShloMosaic.Lib.Claim

@[expose] public section

set_option maxRecDepth 16384

noncomputable section

namespace Cert.FfnIdeal.Hand

open Cert.FfnIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)
theorem cover0_A_13 (c : Dev nD) (i : grid0.Coords) (arg2 : Memref sig .tc .vmem S512x1024 .f32) (harg2 : arg2.IsWhole) (arg3 : Memref sig .tc .vmem S512x512 .bf16) (harg3 : arg3.IsWhole) (arg4 : Memref sig .tc .vmem S512x512 .bf16) (harg4 : arg4.IsWhole) (arg5 : Memref sig .tc .vmem S512x1024 .bf16) (harg5 : arg5.IsWhole) (arg6 : Memref sig .tc .vmem S512x1024 .bf16) (harg6 : arg6.IsWhole) (arg7 : Memref sig .tc .vmem S512x1024 .bf16) (harg7 : arg7.IsWhole) (arg8 : Memref sig .tc .vmem S512x1024 .bf16) (harg8 : arg8.IsWhole) (arg9 : Memref sig .tc .vmem S1024x1024 .bf16) (harg9 : arg9.IsWhole) (arg10 : Memref sig .tc .vmem S1x1024 .f32) (harg10 : arg10.IsWhole) (arg11 : Memref sig .tc .vmem S1024x5632 .bf16) (harg11 : arg11.IsWhole) (arg12 : Memref sig .tc .vmem S3x2816 .f32) (harg12 : arg12.IsWhole) (arg13 : Memref sig .tc .vmem S2816x1024 .bf16) (harg13 : arg13.IsWhole) (arg14 : Memref sig .tc .vmem S1x1x512 .f32) (harg14 : arg14.IsWhole) (arg16 : Memref sig .tc .vmem S512x1024 .f32) (harg16 : arg16.IsWhole) (arg17 : Memref sig .tc .vmem S1x2x2816 .f32) (harg17 : arg17.IsWhole) (arg18 : Memref sig .tc .vmem S32x8x128 .f32) (harg18 : arg18.IsWhole) (arg19 : Memref sig .tc .vmem S512x1024 .f32) (harg19 : arg19.IsWhole) (arg20 : Memref sig .tc .vmem S8x2816 .f32) (harg20 : arg20.IsWhole) (arg21 : Memref sig .tc .vmem S32x8x64x128 .f32) (harg21 : arg21.IsWhole) (hc0 : cond0_0 i)
    (x0 : Vec F S512x1024 .f32) (x1 : Vec F S512x512 .bf16) (x2 : Vec F S512x512 .bf16) (x3 : Vec F S512x1024 .bf16) (x4 : Vec F S512x1024 .bf16) (x5 : Vec F S512x1024 .bf16) (x6 : Vec F S512x1024 .bf16) (x7 : Vec F S1024x1024 .bf16) (x8 : Vec F S1x1024 .f32) (x9 : Vec F S1024x5632 .bf16) (x10 : Vec F S3x2816 .f32) (x11 : Vec F S2816x1024 .bf16) (x12 : Vec F S1x1x512 .f32) (xt0 : TbBuf0 (F := F) c tbM0_0) (fh0 : HbBuf0 (F := F) c hbM0_0) (hw : Words c i xt0) (y : S512x1024.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg16 harg16 arg17 harg17 arg18 harg18 arg19 harg19 arg20 harg20 arg21 harg21 hc0 x0 x1 x2 x3 x4 x5 x6 x7 x8 x9 x10 x11 x12 xt0 fh0 hw).1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg16 harg16 arg17 harg17 arg18 harg18 arg19 harg19 arg20 harg20 arg21 harg21 hc0 x0 x1 x2 x3 x4 x5 x6 x7 x8 x9 x10 x11 x12 xt0 fh0 hw).1 S512x1024.size (by sl_kernel_rfl) y

def out0_A_13 (c : Dev nD) (i : grid0.Coords) (arg2 : Memref sig .tc .vmem S512x1024 .f32) (harg2 : arg2.IsWhole) (arg3 : Memref sig .tc .vmem S512x512 .bf16) (harg3 : arg3.IsWhole) (arg4 : Memref sig .tc .vmem S512x512 .bf16) (harg4 : arg4.IsWhole) (arg5 : Memref sig .tc .vmem S512x1024 .bf16) (harg5 : arg5.IsWhole) (arg6 : Memref sig .tc .vmem S512x1024 .bf16) (harg6 : arg6.IsWhole) (arg7 : Memref sig .tc .vmem S512x1024 .bf16) (harg7 : arg7.IsWhole) (arg8 : Memref sig .tc .vmem S512x1024 .bf16) (harg8 : arg8.IsWhole) (arg9 : Memref sig .tc .vmem S1024x1024 .bf16) (harg9 : arg9.IsWhole) (arg10 : Memref sig .tc .vmem S1x1024 .f32) (harg10 : arg10.IsWhole) (arg11 : Memref sig .tc .vmem S1024x5632 .bf16) (harg11 : arg11.IsWhole) (arg12 : Memref sig .tc .vmem S3x2816 .f32) (harg12 : arg12.IsWhole) (arg13 : Memref sig .tc .vmem S2816x1024 .bf16) (harg13 : arg13.IsWhole) (arg14 : Memref sig .tc .vmem S1x1x512 .f32) (harg14 : arg14.IsWhole) (arg16 : Memref sig .tc .vmem S512x1024 .f32) (harg16 : arg16.IsWhole) (arg17 : Memref sig .tc .vmem S1x2x2816 .f32) (harg17 : arg17.IsWhole) (arg18 : Memref sig .tc .vmem S32x8x128 .f32) (harg18 : arg18.IsWhole) (arg19 : Memref sig .tc .vmem S512x1024 .f32) (harg19 : arg19.IsWhole) (arg20 : Memref sig .tc .vmem S8x2816 .f32) (harg20 : arg20.IsWhole) (arg21 : Memref sig .tc .vmem S32x8x64x128 .f32) (harg21 : arg21.IsWhole) (hc0 : cond0_0 i)
    (x0 : Vec F S512x1024 .f32) (x1 : Vec F S512x512 .bf16) (x2 : Vec F S512x512 .bf16) (x3 : Vec F S512x1024 .bf16) (x4 : Vec F S512x1024 .bf16) (x5 : Vec F S512x1024 .bf16) (x6 : Vec F S512x1024 .bf16) (x7 : Vec F S1024x1024 .bf16) (x8 : Vec F S1x1024 .f32) (x9 : Vec F S1024x5632 .bf16) (x10 : Vec F S3x2816 .f32) (x11 : Vec F S2816x1024 .bf16) (x12 : Vec F S1x1x512 .f32) (xt0 : TbBuf0 (F := F) c tbM0_0) (fh0 : HbBuf0 (F := F) c hbM0_0) (hw : Words c i xt0) : Vec F S512x1024 .f32 :=
  VO0_13.read (Elt F) (VO0_13.writes (Elt F) VO0_13.junk (kernelRun0_A c i arg2 harg2 arg3 harg3 arg4 harg4 arg5 harg5 arg6 harg6 arg7 harg7 arg8 harg8 arg9 harg9 arg10 harg10 arg11 harg11 arg12 harg12 arg13 harg13 arg14 harg14 arg16 harg16 arg17 harg17 arg18 harg18 arg19 harg19 arg20 harg20 arg21 harg21 hc0 x0 x1 x2 x3 x4 x5 x6 x7 x8 x9 x10 x11 x12 xt0 fh0 hw).1)

theorem cover0_A_14 (c : Dev nD) (i : grid0.Coords) (arg2 : Memref sig .tc .vmem S512x1024 .f32) (harg2 : arg2.IsWhole) (arg3 : Memref sig .tc .vmem S512x512 .bf16) (harg3 : arg3.IsWhole) (arg4 : Memref sig .tc .vmem S512x512 .bf16) (harg4 : arg4.IsWhole) (arg5 : Memref sig .tc .vmem S512x1024 .bf16) (harg5 : arg5.IsWhole) (arg6 : Memref sig .tc .vmem S512x1024 .bf16) (harg6 : arg6.IsWhole) (arg7 : Memref sig .tc .vmem S512x1024 .bf16) (harg7 : arg7.IsWhole) (arg8 : Memref sig .tc .vmem S512x1024 .bf16) (harg8 : arg8.IsWhole) (arg9 : Memref sig .tc .vmem S1024x1024 .bf16) (harg9 : arg9.IsWhole) (arg10 : Memref sig .tc .vmem S1x1024 .f32) (harg10 : arg10.IsWhole) (arg11 : Memref sig .tc .vmem S1024x5632 .bf16) (harg11 : arg11.IsWhole) (arg12 : Memref sig .tc .vmem S3x2816 .f32) (harg12 : arg12.IsWhole) (arg13 : Memref sig .tc .vmem S2816x1024 .bf16) (harg13 : arg13.IsWhole) (arg14 : Memref sig .tc .vmem S1x1x512 .f32) (harg14 : arg14.IsWhole) (arg16 : Memref sig .tc .vmem S512x1024 .f32) (harg16 : arg16.IsWhole) (arg17 : Memref sig .tc .vmem S1x2x2816 .f32) (harg17 : arg17.IsWhole) (arg18 : Memref sig .tc .vmem S32x8x128 .f32) (harg18 : arg18.IsWhole) (arg19 : Memref sig .tc .vmem S512x1024 .f32) (harg19 : arg19.IsWhole) (arg20 : Memref sig .tc .vmem S8x2816 .f32) (harg20 : arg20.IsWhole) (arg21 : Memref sig .tc .vmem S32x8x64x128 .f32) (harg21 : arg21.IsWhole) (hc0 : cond0_0 i)
    (x0 : Vec F S512x1024 .f32) (x1 : Vec F S512x512 .bf16) (x2 : Vec F S512x512 .bf16) (x3 : Vec F S512x1024 .bf16) (x4 : Vec F S512x1024 .bf16) (x5 : Vec F S512x1024 .bf16) (x6 : Vec F S512x1024 .bf16) (x7 : Vec F S1024x1024 .bf16) (x8 : Vec F S1x1024 .f32) (x9 : Vec F S1024x5632 .bf16) (x10 : Vec F S3x2816 .f32) (x11 : Vec F S2816x1024 .bf16) (x12 : Vec F S1x1x512 .f32) (xt0 : TbBuf0 (F := F) c tbM0_0) (fh0 : HbBuf0 (F := F) c hbM0_0) (hw : Words c i xt0) (y : S1x2x2816.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg16 harg16 arg17 harg17 arg18 harg18 arg19 harg19 arg20 harg20 arg21 harg21 hc0 x0 x1 x2 x3 x4 x5 x6 x7 x8 x9 x10 x11 x12 xt0 fh0 hw).2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg16 harg16 arg17 harg17 arg18 harg18 arg19 harg19 arg20 harg20 arg21 harg21 hc0 x0 x1 x2 x3 x4 x5 x6 x7 x8 x9 x10 x11 x12 xt0 fh0 hw).2.1 S1x2x256.size (by sl_kernel_rfl) y

def out0_A_14 (c : Dev nD) (i : grid0.Coords) (arg2 : Memref sig .tc .vmem S512x1024 .f32) (harg2 : arg2.IsWhole) (arg3 : Memref sig .tc .vmem S512x512 .bf16) (harg3 : arg3.IsWhole) (arg4 : Memref sig .tc .vmem S512x512 .bf16) (harg4 : arg4.IsWhole) (arg5 : Memref sig .tc .vmem S512x1024 .bf16) (harg5 : arg5.IsWhole) (arg6 : Memref sig .tc .vmem S512x1024 .bf16) (harg6 : arg6.IsWhole) (arg7 : Memref sig .tc .vmem S512x1024 .bf16) (harg7 : arg7.IsWhole) (arg8 : Memref sig .tc .vmem S512x1024 .bf16) (harg8 : arg8.IsWhole) (arg9 : Memref sig .tc .vmem S1024x1024 .bf16) (harg9 : arg9.IsWhole) (arg10 : Memref sig .tc .vmem S1x1024 .f32) (harg10 : arg10.IsWhole) (arg11 : Memref sig .tc .vmem S1024x5632 .bf16) (harg11 : arg11.IsWhole) (arg12 : Memref sig .tc .vmem S3x2816 .f32) (harg12 : arg12.IsWhole) (arg13 : Memref sig .tc .vmem S2816x1024 .bf16) (harg13 : arg13.IsWhole) (arg14 : Memref sig .tc .vmem S1x1x512 .f32) (harg14 : arg14.IsWhole) (arg16 : Memref sig .tc .vmem S512x1024 .f32) (harg16 : arg16.IsWhole) (arg17 : Memref sig .tc .vmem S1x2x2816 .f32) (harg17 : arg17.IsWhole) (arg18 : Memref sig .tc .vmem S32x8x128 .f32) (harg18 : arg18.IsWhole) (arg19 : Memref sig .tc .vmem S512x1024 .f32) (harg19 : arg19.IsWhole) (arg20 : Memref sig .tc .vmem S8x2816 .f32) (harg20 : arg20.IsWhole) (arg21 : Memref sig .tc .vmem S32x8x64x128 .f32) (harg21 : arg21.IsWhole) (hc0 : cond0_0 i)
    (x0 : Vec F S512x1024 .f32) (x1 : Vec F S512x512 .bf16) (x2 : Vec F S512x512 .bf16) (x3 : Vec F S512x1024 .bf16) (x4 : Vec F S512x1024 .bf16) (x5 : Vec F S512x1024 .bf16) (x6 : Vec F S512x1024 .bf16) (x7 : Vec F S1024x1024 .bf16) (x8 : Vec F S1x1024 .f32) (x9 : Vec F S1024x5632 .bf16) (x10 : Vec F S3x2816 .f32) (x11 : Vec F S2816x1024 .bf16) (x12 : Vec F S1x1x512 .f32) (xt0 : TbBuf0 (F := F) c tbM0_0) (fh0 : HbBuf0 (F := F) c hbM0_0) (hw : Words c i xt0) : Vec F S1x2x2816 .f32 :=
  VO0_14.read (Elt F) (VO0_14.writes (Elt F) VO0_14.junk (kernelRun0_A c i arg2 harg2 arg3 harg3 arg4 harg4 arg5 harg5 arg6 harg6 arg7 harg7 arg8 harg8 arg9 harg9 arg10 harg10 arg11 harg11 arg12 harg12 arg13 harg13 arg14 harg14 arg16 harg16 arg17 harg17 arg18 harg18 arg19 harg19 arg20 harg20 arg21 harg21 hc0 x0 x1 x2 x3 x4 x5 x6 x7 x8 x9 x10 x11 x12 xt0 fh0 hw).2.1)

theorem scover0_A_1 (c : Dev nD) (i : grid0.Coords) (arg2 : Memref sig .tc .vmem S512x1024 .f32) (harg2 : arg2.IsWhole) (arg3 : Memref sig .tc .vmem S512x512 .bf16) (harg3 : arg3.IsWhole) (arg4 : Memref sig .tc .vmem S512x512 .bf16) (harg4 : arg4.IsWhole) (arg5 : Memref sig .tc .vmem S512x1024 .bf16) (harg5 : arg5.IsWhole) (arg6 : Memref sig .tc .vmem S512x1024 .bf16) (harg6 : arg6.IsWhole) (arg7 : Memref sig .tc .vmem S512x1024 .bf16) (harg7 : arg7.IsWhole) (arg8 : Memref sig .tc .vmem S512x1024 .bf16) (harg8 : arg8.IsWhole) (arg9 : Memref sig .tc .vmem S1024x1024 .bf16) (harg9 : arg9.IsWhole) (arg10 : Memref sig .tc .vmem S1x1024 .f32) (harg10 : arg10.IsWhole) (arg11 : Memref sig .tc .vmem S1024x5632 .bf16) (harg11 : arg11.IsWhole) (arg12 : Memref sig .tc .vmem S3x2816 .f32) (harg12 : arg12.IsWhole) (arg13 : Memref sig .tc .vmem S2816x1024 .bf16) (harg13 : arg13.IsWhole) (arg14 : Memref sig .tc .vmem S1x1x512 .f32) (harg14 : arg14.IsWhole) (arg16 : Memref sig .tc .vmem S512x1024 .f32) (harg16 : arg16.IsWhole) (arg17 : Memref sig .tc .vmem S1x2x2816 .f32) (harg17 : arg17.IsWhole) (arg18 : Memref sig .tc .vmem S32x8x128 .f32) (harg18 : arg18.IsWhole) (arg19 : Memref sig .tc .vmem S512x1024 .f32) (harg19 : arg19.IsWhole) (arg20 : Memref sig .tc .vmem S8x2816 .f32) (harg20 : arg20.IsWhole) (arg21 : Memref sig .tc .vmem S32x8x64x128 .f32) (harg21 : arg21.IsWhole) (hc0 : cond0_0 i)
    (x0 : Vec F S512x1024 .f32) (x1 : Vec F S512x512 .bf16) (x2 : Vec F S512x512 .bf16) (x3 : Vec F S512x1024 .bf16) (x4 : Vec F S512x1024 .bf16) (x5 : Vec F S512x1024 .bf16) (x6 : Vec F S512x1024 .bf16) (x7 : Vec F S1024x1024 .bf16) (x8 : Vec F S1x1024 .f32) (x9 : Vec F S1024x5632 .bf16) (x10 : Vec F S3x2816 .f32) (x11 : Vec F S2816x1024 .bf16) (x12 : Vec F S1x1x512 .f32) (xt0 : TbBuf0 (F := F) c tbM0_0) (fh0 : HbBuf0 (F := F) c hbM0_0) (hw : Words c i xt0) (y : S8x2816.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg16 harg16 arg17 harg17 arg18 harg18 arg19 harg19 arg20 harg20 arg21 harg21 hc0 x0 x1 x2 x3 x4 x5 x6 x7 x8 x9 x10 x11 x12 xt0 fh0 hw).2.2.1, y ∈ pc.1.set :=
  View.cover_of_wholeMem (kernelRun0_A c i arg2 harg2 arg3 harg3 arg4 harg4 arg5 harg5 arg6 harg6 arg7 harg7 arg8 harg8 arg9 harg9 arg10 harg10 arg11 harg11 arg12 harg12 arg13 harg13 arg14 harg14 arg16 harg16 arg17 harg17 arg18 harg18 arg19 harg19 arg20 harg20 arg21 harg21 hc0 x0 x1 x2 x3 x4 x5 x6 x7 x8 x9 x10 x11 x12 xt0 fh0 hw).2.2.1 (by sl_whole_mem) y

def sout0_A_1 (c : Dev nD) (i : grid0.Coords) (arg2 : Memref sig .tc .vmem S512x1024 .f32) (harg2 : arg2.IsWhole) (arg3 : Memref sig .tc .vmem S512x512 .bf16) (harg3 : arg3.IsWhole) (arg4 : Memref sig .tc .vmem S512x512 .bf16) (harg4 : arg4.IsWhole) (arg5 : Memref sig .tc .vmem S512x1024 .bf16) (harg5 : arg5.IsWhole) (arg6 : Memref sig .tc .vmem S512x1024 .bf16) (harg6 : arg6.IsWhole) (arg7 : Memref sig .tc .vmem S512x1024 .bf16) (harg7 : arg7.IsWhole) (arg8 : Memref sig .tc .vmem S512x1024 .bf16) (harg8 : arg8.IsWhole) (arg9 : Memref sig .tc .vmem S1024x1024 .bf16) (harg9 : arg9.IsWhole) (arg10 : Memref sig .tc .vmem S1x1024 .f32) (harg10 : arg10.IsWhole) (arg11 : Memref sig .tc .vmem S1024x5632 .bf16) (harg11 : arg11.IsWhole) (arg12 : Memref sig .tc .vmem S3x2816 .f32) (harg12 : arg12.IsWhole) (arg13 : Memref sig .tc .vmem S2816x1024 .bf16) (harg13 : arg13.IsWhole) (arg14 : Memref sig .tc .vmem S1x1x512 .f32) (harg14 : arg14.IsWhole) (arg16 : Memref sig .tc .vmem S512x1024 .f32) (harg16 : arg16.IsWhole) (arg17 : Memref sig .tc .vmem S1x2x2816 .f32) (harg17 : arg17.IsWhole) (arg18 : Memref sig .tc .vmem S32x8x128 .f32) (harg18 : arg18.IsWhole) (arg19 : Memref sig .tc .vmem S512x1024 .f32) (harg19 : arg19.IsWhole) (arg20 : Memref sig .tc .vmem S8x2816 .f32) (harg20 : arg20.IsWhole) (arg21 : Memref sig .tc .vmem S32x8x64x128 .f32) (harg21 : arg21.IsWhole) (hc0 : cond0_0 i)
    (x0 : Vec F S512x1024 .f32) (x1 : Vec F S512x512 .bf16) (x2 : Vec F S512x512 .bf16) (x3 : Vec F S512x1024 .bf16) (x4 : Vec F S512x1024 .bf16) (x5 : Vec F S512x1024 .bf16) (x6 : Vec F S512x1024 .bf16) (x7 : Vec F S1024x1024 .bf16) (x8 : Vec F S1x1024 .f32) (x9 : Vec F S1024x5632 .bf16) (x10 : Vec F S3x2816 .f32) (x11 : Vec F S2816x1024 .bf16) (x12 : Vec F S1x1x512 .f32) (xt0 : TbBuf0 (F := F) c tbM0_0) (fh0 : HbBuf0 (F := F) c hbM0_0) (hw : Words c i xt0) : Vec F S8x2816 .f32 :=
  VS0_1.read (Elt F) (VS0_1.writes (Elt F) VS0_1.junk (kernelRun0_A c i arg2 harg2 arg3 harg3 arg4 harg4 arg5 harg5 arg6 harg6 arg7 harg7 arg8 harg8 arg9 harg9 arg10 harg10 arg11 harg11 arg12 harg12 arg13 harg13 arg14 harg14 arg16 harg16 arg17 harg17 arg18 harg18 arg19 harg19 arg20 harg20 arg21 harg21 hc0 x0 x1 x2 x3 x4 x5 x6 x7 x8 x9 x10 x11 x12 xt0 fh0 hw).2.2.1)

theorem cover0_B_13 (c : Dev nD) (i : grid0.Coords) (arg2 : Memref sig .tc .vmem S512x1024 .f32) (harg2 : arg2.IsWhole) (arg3 : Memref sig .tc .vmem S512x512 .bf16) (harg3 : arg3.IsWhole) (arg4 : Memref sig .tc .vmem S512x512 .bf16) (harg4 : arg4.IsWhole) (arg5 : Memref sig .tc .vmem S512x1024 .bf16) (harg5 : arg5.IsWhole) (arg6 : Memref sig .tc .vmem S512x1024 .bf16) (harg6 : arg6.IsWhole) (arg7 : Memref sig .tc .vmem S512x1024 .bf16) (harg7 : arg7.IsWhole) (arg8 : Memref sig .tc .vmem S512x1024 .bf16) (harg8 : arg8.IsWhole) (arg9 : Memref sig .tc .vmem S1024x1024 .bf16) (harg9 : arg9.IsWhole) (arg10 : Memref sig .tc .vmem S1x1024 .f32) (harg10 : arg10.IsWhole) (arg11 : Memref sig .tc .vmem S1024x5632 .bf16) (harg11 : arg11.IsWhole) (arg12 : Memref sig .tc .vmem S3x2816 .f32) (harg12 : arg12.IsWhole) (arg13 : Memref sig .tc .vmem S2816x1024 .bf16) (harg13 : arg13.IsWhole) (arg14 : Memref sig .tc .vmem S1x1x512 .f32) (harg14 : arg14.IsWhole) (arg16 : Memref sig .tc .vmem S512x1024 .f32) (harg16 : arg16.IsWhole) (arg17 : Memref sig .tc .vmem S1x2x2816 .f32) (harg17 : arg17.IsWhole) (arg18 : Memref sig .tc .vmem S32x8x128 .f32) (harg18 : arg18.IsWhole) (arg19 : Memref sig .tc .vmem S512x1024 .f32) (harg19 : arg19.IsWhole) (arg20 : Memref sig .tc .vmem S8x2816 .f32) (harg20 : arg20.IsWhole) (arg21 : Memref sig .tc .vmem S32x8x64x128 .f32) (harg21 : arg21.IsWhole) (hc0 : ¬cond0_0 i)
    (x0 : Vec F S512x1024 .f32) (x1 : Vec F S512x512 .bf16) (x2 : Vec F S512x512 .bf16) (x3 : Vec F S512x1024 .bf16) (x4 : Vec F S512x1024 .bf16) (x5 : Vec F S512x1024 .bf16) (x6 : Vec F S512x1024 .bf16) (x7 : Vec F S1024x1024 .bf16) (x8 : Vec F S1x1024 .f32) (x9 : Vec F S1024x5632 .bf16) (x10 : Vec F S3x2816 .f32) (x11 : Vec F S2816x1024 .bf16) (x12 : Vec F S1x1x512 .f32) (xt0 : TbBuf0 (F := F) c tbM0_0) (xs1 : Vec F S8x2816 .f32) (fh0 : HbBuf0 (F := F) c hbM0_0) (hw : Words c i xt0) (y : S512x1024.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg16 harg16 arg17 harg17 arg18 harg18 arg19 harg19 arg20 harg20 arg21 harg21 hc0 x0 x1 x2 x3 x4 x5 x6 x7 x8 x9 x10 x11 x12 xt0 xs1 fh0 hw).1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg16 harg16 arg17 harg17 arg18 harg18 arg19 harg19 arg20 harg20 arg21 harg21 hc0 x0 x1 x2 x3 x4 x5 x6 x7 x8 x9 x10 x11 x12 xt0 xs1 fh0 hw).1 S512x1024.size (by sl_kernel_rfl) y

def out0_B_13 (c : Dev nD) (i : grid0.Coords) (arg2 : Memref sig .tc .vmem S512x1024 .f32) (harg2 : arg2.IsWhole) (arg3 : Memref sig .tc .vmem S512x512 .bf16) (harg3 : arg3.IsWhole) (arg4 : Memref sig .tc .vmem S512x512 .bf16) (harg4 : arg4.IsWhole) (arg5 : Memref sig .tc .vmem S512x1024 .bf16) (harg5 : arg5.IsWhole) (arg6 : Memref sig .tc .vmem S512x1024 .bf16) (harg6 : arg6.IsWhole) (arg7 : Memref sig .tc .vmem S512x1024 .bf16) (harg7 : arg7.IsWhole) (arg8 : Memref sig .tc .vmem S512x1024 .bf16) (harg8 : arg8.IsWhole) (arg9 : Memref sig .tc .vmem S1024x1024 .bf16) (harg9 : arg9.IsWhole) (arg10 : Memref sig .tc .vmem S1x1024 .f32) (harg10 : arg10.IsWhole) (arg11 : Memref sig .tc .vmem S1024x5632 .bf16) (harg11 : arg11.IsWhole) (arg12 : Memref sig .tc .vmem S3x2816 .f32) (harg12 : arg12.IsWhole) (arg13 : Memref sig .tc .vmem S2816x1024 .bf16) (harg13 : arg13.IsWhole) (arg14 : Memref sig .tc .vmem S1x1x512 .f32) (harg14 : arg14.IsWhole) (arg16 : Memref sig .tc .vmem S512x1024 .f32) (harg16 : arg16.IsWhole) (arg17 : Memref sig .tc .vmem S1x2x2816 .f32) (harg17 : arg17.IsWhole) (arg18 : Memref sig .tc .vmem S32x8x128 .f32) (harg18 : arg18.IsWhole) (arg19 : Memref sig .tc .vmem S512x1024 .f32) (harg19 : arg19.IsWhole) (arg20 : Memref sig .tc .vmem S8x2816 .f32) (harg20 : arg20.IsWhole) (arg21 : Memref sig .tc .vmem S32x8x64x128 .f32) (harg21 : arg21.IsWhole) (hc0 : ¬cond0_0 i)
    (x0 : Vec F S512x1024 .f32) (x1 : Vec F S512x512 .bf16) (x2 : Vec F S512x512 .bf16) (x3 : Vec F S512x1024 .bf16) (x4 : Vec F S512x1024 .bf16) (x5 : Vec F S512x1024 .bf16) (x6 : Vec F S512x1024 .bf16) (x7 : Vec F S1024x1024 .bf16) (x8 : Vec F S1x1024 .f32) (x9 : Vec F S1024x5632 .bf16) (x10 : Vec F S3x2816 .f32) (x11 : Vec F S2816x1024 .bf16) (x12 : Vec F S1x1x512 .f32) (xt0 : TbBuf0 (F := F) c tbM0_0) (xs1 : Vec F S8x2816 .f32) (fh0 : HbBuf0 (F := F) c hbM0_0) (hw : Words c i xt0) : Vec F S512x1024 .f32 :=
  VO0_13.read (Elt F) (VO0_13.writes (Elt F) VO0_13.junk (kernelRun0_B c i arg2 harg2 arg3 harg3 arg4 harg4 arg5 harg5 arg6 harg6 arg7 harg7 arg8 harg8 arg9 harg9 arg10 harg10 arg11 harg11 arg12 harg12 arg13 harg13 arg14 harg14 arg16 harg16 arg17 harg17 arg18 harg18 arg19 harg19 arg20 harg20 arg21 harg21 hc0 x0 x1 x2 x3 x4 x5 x6 x7 x8 x9 x10 x11 x12 xt0 xs1 fh0 hw).1)

theorem cover0_B_14 (c : Dev nD) (i : grid0.Coords) (arg2 : Memref sig .tc .vmem S512x1024 .f32) (harg2 : arg2.IsWhole) (arg3 : Memref sig .tc .vmem S512x512 .bf16) (harg3 : arg3.IsWhole) (arg4 : Memref sig .tc .vmem S512x512 .bf16) (harg4 : arg4.IsWhole) (arg5 : Memref sig .tc .vmem S512x1024 .bf16) (harg5 : arg5.IsWhole) (arg6 : Memref sig .tc .vmem S512x1024 .bf16) (harg6 : arg6.IsWhole) (arg7 : Memref sig .tc .vmem S512x1024 .bf16) (harg7 : arg7.IsWhole) (arg8 : Memref sig .tc .vmem S512x1024 .bf16) (harg8 : arg8.IsWhole) (arg9 : Memref sig .tc .vmem S1024x1024 .bf16) (harg9 : arg9.IsWhole) (arg10 : Memref sig .tc .vmem S1x1024 .f32) (harg10 : arg10.IsWhole) (arg11 : Memref sig .tc .vmem S1024x5632 .bf16) (harg11 : arg11.IsWhole) (arg12 : Memref sig .tc .vmem S3x2816 .f32) (harg12 : arg12.IsWhole) (arg13 : Memref sig .tc .vmem S2816x1024 .bf16) (harg13 : arg13.IsWhole) (arg14 : Memref sig .tc .vmem S1x1x512 .f32) (harg14 : arg14.IsWhole) (arg16 : Memref sig .tc .vmem S512x1024 .f32) (harg16 : arg16.IsWhole) (arg17 : Memref sig .tc .vmem S1x2x2816 .f32) (harg17 : arg17.IsWhole) (arg18 : Memref sig .tc .vmem S32x8x128 .f32) (harg18 : arg18.IsWhole) (arg19 : Memref sig .tc .vmem S512x1024 .f32) (harg19 : arg19.IsWhole) (arg20 : Memref sig .tc .vmem S8x2816 .f32) (harg20 : arg20.IsWhole) (arg21 : Memref sig .tc .vmem S32x8x64x128 .f32) (harg21 : arg21.IsWhole) (hc0 : ¬cond0_0 i)
    (x0 : Vec F S512x1024 .f32) (x1 : Vec F S512x512 .bf16) (x2 : Vec F S512x512 .bf16) (x3 : Vec F S512x1024 .bf16) (x4 : Vec F S512x1024 .bf16) (x5 : Vec F S512x1024 .bf16) (x6 : Vec F S512x1024 .bf16) (x7 : Vec F S1024x1024 .bf16) (x8 : Vec F S1x1024 .f32) (x9 : Vec F S1024x5632 .bf16) (x10 : Vec F S3x2816 .f32) (x11 : Vec F S2816x1024 .bf16) (x12 : Vec F S1x1x512 .f32) (xt0 : TbBuf0 (F := F) c tbM0_0) (xs1 : Vec F S8x2816 .f32) (fh0 : HbBuf0 (F := F) c hbM0_0) (hw : Words c i xt0) (y : S1x2x2816.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg16 harg16 arg17 harg17 arg18 harg18 arg19 harg19 arg20 harg20 arg21 harg21 hc0 x0 x1 x2 x3 x4 x5 x6 x7 x8 x9 x10 x11 x12 xt0 xs1 fh0 hw).2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg16 harg16 arg17 harg17 arg18 harg18 arg19 harg19 arg20 harg20 arg21 harg21 hc0 x0 x1 x2 x3 x4 x5 x6 x7 x8 x9 x10 x11 x12 xt0 xs1 fh0 hw).2.1 S1x2x256.size (by sl_kernel_rfl) y

def out0_B_14 (c : Dev nD) (i : grid0.Coords) (arg2 : Memref sig .tc .vmem S512x1024 .f32) (harg2 : arg2.IsWhole) (arg3 : Memref sig .tc .vmem S512x512 .bf16) (harg3 : arg3.IsWhole) (arg4 : Memref sig .tc .vmem S512x512 .bf16) (harg4 : arg4.IsWhole) (arg5 : Memref sig .tc .vmem S512x1024 .bf16) (harg5 : arg5.IsWhole) (arg6 : Memref sig .tc .vmem S512x1024 .bf16) (harg6 : arg6.IsWhole) (arg7 : Memref sig .tc .vmem S512x1024 .bf16) (harg7 : arg7.IsWhole) (arg8 : Memref sig .tc .vmem S512x1024 .bf16) (harg8 : arg8.IsWhole) (arg9 : Memref sig .tc .vmem S1024x1024 .bf16) (harg9 : arg9.IsWhole) (arg10 : Memref sig .tc .vmem S1x1024 .f32) (harg10 : arg10.IsWhole) (arg11 : Memref sig .tc .vmem S1024x5632 .bf16) (harg11 : arg11.IsWhole) (arg12 : Memref sig .tc .vmem S3x2816 .f32) (harg12 : arg12.IsWhole) (arg13 : Memref sig .tc .vmem S2816x1024 .bf16) (harg13 : arg13.IsWhole) (arg14 : Memref sig .tc .vmem S1x1x512 .f32) (harg14 : arg14.IsWhole) (arg16 : Memref sig .tc .vmem S512x1024 .f32) (harg16 : arg16.IsWhole) (arg17 : Memref sig .tc .vmem S1x2x2816 .f32) (harg17 : arg17.IsWhole) (arg18 : Memref sig .tc .vmem S32x8x128 .f32) (harg18 : arg18.IsWhole) (arg19 : Memref sig .tc .vmem S512x1024 .f32) (harg19 : arg19.IsWhole) (arg20 : Memref sig .tc .vmem S8x2816 .f32) (harg20 : arg20.IsWhole) (arg21 : Memref sig .tc .vmem S32x8x64x128 .f32) (harg21 : arg21.IsWhole) (hc0 : ¬cond0_0 i)
    (x0 : Vec F S512x1024 .f32) (x1 : Vec F S512x512 .bf16) (x2 : Vec F S512x512 .bf16) (x3 : Vec F S512x1024 .bf16) (x4 : Vec F S512x1024 .bf16) (x5 : Vec F S512x1024 .bf16) (x6 : Vec F S512x1024 .bf16) (x7 : Vec F S1024x1024 .bf16) (x8 : Vec F S1x1024 .f32) (x9 : Vec F S1024x5632 .bf16) (x10 : Vec F S3x2816 .f32) (x11 : Vec F S2816x1024 .bf16) (x12 : Vec F S1x1x512 .f32) (xt0 : TbBuf0 (F := F) c tbM0_0) (xs1 : Vec F S8x2816 .f32) (fh0 : HbBuf0 (F := F) c hbM0_0) (hw : Words c i xt0) : Vec F S1x2x2816 .f32 :=
  VO0_14.read (Elt F) (VO0_14.writes (Elt F) VO0_14.junk (kernelRun0_B c i arg2 harg2 arg3 harg3 arg4 harg4 arg5 harg5 arg6 harg6 arg7 harg7 arg8 harg8 arg9 harg9 arg10 harg10 arg11 harg11 arg12 harg12 arg13 harg13 arg14 harg14 arg16 harg16 arg17 harg17 arg18 harg18 arg19 harg19 arg20 harg20 arg21 harg21 hc0 x0 x1 x2 x3 x4 x5 x6 x7 x8 x9 x10 x11 x12 xt0 xs1 fh0 hw).2.1)

theorem scover0_B_1 (c : Dev nD) (i : grid0.Coords) (arg2 : Memref sig .tc .vmem S512x1024 .f32) (harg2 : arg2.IsWhole) (arg3 : Memref sig .tc .vmem S512x512 .bf16) (harg3 : arg3.IsWhole) (arg4 : Memref sig .tc .vmem S512x512 .bf16) (harg4 : arg4.IsWhole) (arg5 : Memref sig .tc .vmem S512x1024 .bf16) (harg5 : arg5.IsWhole) (arg6 : Memref sig .tc .vmem S512x1024 .bf16) (harg6 : arg6.IsWhole) (arg7 : Memref sig .tc .vmem S512x1024 .bf16) (harg7 : arg7.IsWhole) (arg8 : Memref sig .tc .vmem S512x1024 .bf16) (harg8 : arg8.IsWhole) (arg9 : Memref sig .tc .vmem S1024x1024 .bf16) (harg9 : arg9.IsWhole) (arg10 : Memref sig .tc .vmem S1x1024 .f32) (harg10 : arg10.IsWhole) (arg11 : Memref sig .tc .vmem S1024x5632 .bf16) (harg11 : arg11.IsWhole) (arg12 : Memref sig .tc .vmem S3x2816 .f32) (harg12 : arg12.IsWhole) (arg13 : Memref sig .tc .vmem S2816x1024 .bf16) (harg13 : arg13.IsWhole) (arg14 : Memref sig .tc .vmem S1x1x512 .f32) (harg14 : arg14.IsWhole) (arg16 : Memref sig .tc .vmem S512x1024 .f32) (harg16 : arg16.IsWhole) (arg17 : Memref sig .tc .vmem S1x2x2816 .f32) (harg17 : arg17.IsWhole) (arg18 : Memref sig .tc .vmem S32x8x128 .f32) (harg18 : arg18.IsWhole) (arg19 : Memref sig .tc .vmem S512x1024 .f32) (harg19 : arg19.IsWhole) (arg20 : Memref sig .tc .vmem S8x2816 .f32) (harg20 : arg20.IsWhole) (arg21 : Memref sig .tc .vmem S32x8x64x128 .f32) (harg21 : arg21.IsWhole) (hc0 : ¬cond0_0 i)
    (x0 : Vec F S512x1024 .f32) (x1 : Vec F S512x512 .bf16) (x2 : Vec F S512x512 .bf16) (x3 : Vec F S512x1024 .bf16) (x4 : Vec F S512x1024 .bf16) (x5 : Vec F S512x1024 .bf16) (x6 : Vec F S512x1024 .bf16) (x7 : Vec F S1024x1024 .bf16) (x8 : Vec F S1x1024 .f32) (x9 : Vec F S1024x5632 .bf16) (x10 : Vec F S3x2816 .f32) (x11 : Vec F S2816x1024 .bf16) (x12 : Vec F S1x1x512 .f32) (xt0 : TbBuf0 (F := F) c tbM0_0) (xs1 : Vec F S8x2816 .f32) (fh0 : HbBuf0 (F := F) c hbM0_0) (hw : Words c i xt0) (y : S8x2816.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg16 harg16 arg17 harg17 arg18 harg18 arg19 harg19 arg20 harg20 arg21 harg21 hc0 x0 x1 x2 x3 x4 x5 x6 x7 x8 x9 x10 x11 x12 xt0 xs1 fh0 hw).2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg16 harg16 arg17 harg17 arg18 harg18 arg19 harg19 arg20 harg20 arg21 harg21 hc0 x0 x1 x2 x3 x4 x5 x6 x7 x8 x9 x10 x11 x12 xt0 xs1 fh0 hw).2.2.1 S8x256.size (by sl_kernel_rfl) y

def sout0_B_1 (c : Dev nD) (i : grid0.Coords) (arg2 : Memref sig .tc .vmem S512x1024 .f32) (harg2 : arg2.IsWhole) (arg3 : Memref sig .tc .vmem S512x512 .bf16) (harg3 : arg3.IsWhole) (arg4 : Memref sig .tc .vmem S512x512 .bf16) (harg4 : arg4.IsWhole) (arg5 : Memref sig .tc .vmem S512x1024 .bf16) (harg5 : arg5.IsWhole) (arg6 : Memref sig .tc .vmem S512x1024 .bf16) (harg6 : arg6.IsWhole) (arg7 : Memref sig .tc .vmem S512x1024 .bf16) (harg7 : arg7.IsWhole) (arg8 : Memref sig .tc .vmem S512x1024 .bf16) (harg8 : arg8.IsWhole) (arg9 : Memref sig .tc .vmem S1024x1024 .bf16) (harg9 : arg9.IsWhole) (arg10 : Memref sig .tc .vmem S1x1024 .f32) (harg10 : arg10.IsWhole) (arg11 : Memref sig .tc .vmem S1024x5632 .bf16) (harg11 : arg11.IsWhole) (arg12 : Memref sig .tc .vmem S3x2816 .f32) (harg12 : arg12.IsWhole) (arg13 : Memref sig .tc .vmem S2816x1024 .bf16) (harg13 : arg13.IsWhole) (arg14 : Memref sig .tc .vmem S1x1x512 .f32) (harg14 : arg14.IsWhole) (arg16 : Memref sig .tc .vmem S512x1024 .f32) (harg16 : arg16.IsWhole) (arg17 : Memref sig .tc .vmem S1x2x2816 .f32) (harg17 : arg17.IsWhole) (arg18 : Memref sig .tc .vmem S32x8x128 .f32) (harg18 : arg18.IsWhole) (arg19 : Memref sig .tc .vmem S512x1024 .f32) (harg19 : arg19.IsWhole) (arg20 : Memref sig .tc .vmem S8x2816 .f32) (harg20 : arg20.IsWhole) (arg21 : Memref sig .tc .vmem S32x8x64x128 .f32) (harg21 : arg21.IsWhole) (hc0 : ¬cond0_0 i)
    (x0 : Vec F S512x1024 .f32) (x1 : Vec F S512x512 .bf16) (x2 : Vec F S512x512 .bf16) (x3 : Vec F S512x1024 .bf16) (x4 : Vec F S512x1024 .bf16) (x5 : Vec F S512x1024 .bf16) (x6 : Vec F S512x1024 .bf16) (x7 : Vec F S1024x1024 .bf16) (x8 : Vec F S1x1024 .f32) (x9 : Vec F S1024x5632 .bf16) (x10 : Vec F S3x2816 .f32) (x11 : Vec F S2816x1024 .bf16) (x12 : Vec F S1x1x512 .f32) (xt0 : TbBuf0 (F := F) c tbM0_0) (xs1 : Vec F S8x2816 .f32) (fh0 : HbBuf0 (F := F) c hbM0_0) (hw : Words c i xt0) : Vec F S8x2816 .f32 :=
  VS0_1.read (Elt F) (VS0_1.writes (Elt F) VS0_1.junk (kernelRun0_B c i arg2 harg2 arg3 harg3 arg4 harg4 arg5 harg5 arg6 harg6 arg7 harg7 arg8 harg8 arg9 harg9 arg10 harg10 arg11 harg11 arg12 harg12 arg13 harg13 arg14 harg14 arg16 harg16 arg17 harg17 arg18 harg18 arg19 harg19 arg20 harg20 arg21 harg21 hc0 x0 x1 x2 x3 x4 x5 x6 x7 x8 x9 x10 x11 x12 xt0 xs1 fh0 hw).2.2.1)

def outsAt0 (hO : Ok m) (hH : Hyps m hO) (c : Dev nD) : (n : ℕ) → n < (cfgM m hO).N → Vec F S512x1024 .f32 × Vec F S1x2x2816 .f32 × Vec F S8x2816 .f32
  | 0, hn => (out0_A_13 c (grid0.coords ⟨0, hn⟩) (ms0_0 m hO ⟨0, hn⟩) (hs0_0 m hO ⟨0, hn⟩) (ms0_1 m hO ⟨0, hn⟩) (hs0_1 m hO ⟨0, hn⟩) (ms0_2 m hO ⟨0, hn⟩) (hs0_2 m hO ⟨0, hn⟩) (ms0_3 m hO ⟨0, hn⟩) (hs0_3 m hO ⟨0, hn⟩) (ms0_4 m hO ⟨0, hn⟩) (hs0_4 m hO ⟨0, hn⟩) (ms0_5 m hO ⟨0, hn⟩) (hs0_5 m hO ⟨0, hn⟩) (ms0_6 m hO ⟨0, hn⟩) (hs0_6 m hO ⟨0, hn⟩) (ms0_7 m hO ⟨0, hn⟩) (hs0_7 m hO ⟨0, hn⟩) (ms0_8 m hO ⟨0, hn⟩) (hs0_8 m hO ⟨0, hn⟩) (ms0_9 m hO ⟨0, hn⟩) (hs0_9 m hO ⟨0, hn⟩) (ms0_10 m hO ⟨0, hn⟩) (hs0_10 m hO ⟨0, hn⟩) (ms0_11 m hO ⟨0, hn⟩) (hs0_11 m hO ⟨0, hn⟩) (ms0_12 m hO ⟨0, hn⟩) (hs0_12 m hO ⟨0, hn⟩) (ms0_13 m hO ⟨0, hn⟩) (hs0_13 m hO ⟨0, hn⟩) (ms0_14 m hO ⟨0, hn⟩) (hs0_14 m hO ⟨0, hn⟩) (ms0_15 m hO ⟨0, hn⟩) (hs0_15 m hO ⟨0, hn⟩) scM0_0 (Memref.isWhole_whole _) scM0_1 (Memref.isWhole_whole _) scM0_2 (Memref.isWhole_whole _) ((hcond0_0 ⟨0, hn⟩).mpr (Nat.zero_mod _)) (iblk m hO c 0 ⟨0, hn⟩) (iblk m hO c 1 ⟨0, hn⟩) (iblk m hO c 2 ⟨0, hn⟩) (iblk m hO c 3 ⟨0, hn⟩) (iblk m hO c 4 ⟨0, hn⟩) (iblk m hO c 5 ⟨0, hn⟩) (iblk m hO c 6 ⟨0, hn⟩) (iblk m hO c 7 ⟨0, hn⟩) (iblk m hO c 8 ⟨0, hn⟩) (iblk m hO c 9 ⟨0, hn⟩) (iblk m hO c 10 ⟨0, hn⟩) (iblk m hO c 11 ⟨0, hn⟩) (iblk m hO c 12 ⟨0, hn⟩) (tbl m 0) (V m c main_arg14) (hH c ⟨0, hn⟩), out0_A_14 c (grid0.coords ⟨0, hn⟩) (ms0_0 m hO ⟨0, hn⟩) (hs0_0 m hO ⟨0, hn⟩) (ms0_1 m hO ⟨0, hn⟩) (hs0_1 m hO ⟨0, hn⟩) (ms0_2 m hO ⟨0, hn⟩) (hs0_2 m hO ⟨0, hn⟩) (ms0_3 m hO ⟨0, hn⟩) (hs0_3 m hO ⟨0, hn⟩) (ms0_4 m hO ⟨0, hn⟩) (hs0_4 m hO ⟨0, hn⟩) (ms0_5 m hO ⟨0, hn⟩) (hs0_5 m hO ⟨0, hn⟩) (ms0_6 m hO ⟨0, hn⟩) (hs0_6 m hO ⟨0, hn⟩) (ms0_7 m hO ⟨0, hn⟩) (hs0_7 m hO ⟨0, hn⟩) (ms0_8 m hO ⟨0, hn⟩) (hs0_8 m hO ⟨0, hn⟩) (ms0_9 m hO ⟨0, hn⟩) (hs0_9 m hO ⟨0, hn⟩) (ms0_10 m hO ⟨0, hn⟩) (hs0_10 m hO ⟨0, hn⟩) (ms0_11 m hO ⟨0, hn⟩) (hs0_11 m hO ⟨0, hn⟩) (ms0_12 m hO ⟨0, hn⟩) (hs0_12 m hO ⟨0, hn⟩) (ms0_13 m hO ⟨0, hn⟩) (hs0_13 m hO ⟨0, hn⟩) (ms0_14 m hO ⟨0, hn⟩) (hs0_14 m hO ⟨0, hn⟩) (ms0_15 m hO ⟨0, hn⟩) (hs0_15 m hO ⟨0, hn⟩) scM0_0 (Memref.isWhole_whole _) scM0_1 (Memref.isWhole_whole _) scM0_2 (Memref.isWhole_whole _) ((hcond0_0 ⟨0, hn⟩).mpr (Nat.zero_mod _)) (iblk m hO c 0 ⟨0, hn⟩) (iblk m hO c 1 ⟨0, hn⟩) (iblk m hO c 2 ⟨0, hn⟩) (iblk m hO c 3 ⟨0, hn⟩) (iblk m hO c 4 ⟨0, hn⟩) (iblk m hO c 5 ⟨0, hn⟩) (iblk m hO c 6 ⟨0, hn⟩) (iblk m hO c 7 ⟨0, hn⟩) (iblk m hO c 8 ⟨0, hn⟩) (iblk m hO c 9 ⟨0, hn⟩) (iblk m hO c 10 ⟨0, hn⟩) (iblk m hO c 11 ⟨0, hn⟩) (iblk m hO c 12 ⟨0, hn⟩) (tbl m 0) (V m c main_arg14) (hH c ⟨0, hn⟩), sout0_A_1 c (grid0.coords ⟨0, hn⟩) (ms0_0 m hO ⟨0, hn⟩) (hs0_0 m hO ⟨0, hn⟩) (ms0_1 m hO ⟨0, hn⟩) (hs0_1 m hO ⟨0, hn⟩) (ms0_2 m hO ⟨0, hn⟩) (hs0_2 m hO ⟨0, hn⟩) (ms0_3 m hO ⟨0, hn⟩) (hs0_3 m hO ⟨0, hn⟩) (ms0_4 m hO ⟨0, hn⟩) (hs0_4 m hO ⟨0, hn⟩) (ms0_5 m hO ⟨0, hn⟩) (hs0_5 m hO ⟨0, hn⟩) (ms0_6 m hO ⟨0, hn⟩) (hs0_6 m hO ⟨0, hn⟩) (ms0_7 m hO ⟨0, hn⟩) (hs0_7 m hO ⟨0, hn⟩) (ms0_8 m hO ⟨0, hn⟩) (hs0_8 m hO ⟨0, hn⟩) (ms0_9 m hO ⟨0, hn⟩) (hs0_9 m hO ⟨0, hn⟩) (ms0_10 m hO ⟨0, hn⟩) (hs0_10 m hO ⟨0, hn⟩) (ms0_11 m hO ⟨0, hn⟩) (hs0_11 m hO ⟨0, hn⟩) (ms0_12 m hO ⟨0, hn⟩) (hs0_12 m hO ⟨0, hn⟩) (ms0_13 m hO ⟨0, hn⟩) (hs0_13 m hO ⟨0, hn⟩) (ms0_14 m hO ⟨0, hn⟩) (hs0_14 m hO ⟨0, hn⟩) (ms0_15 m hO ⟨0, hn⟩) (hs0_15 m hO ⟨0, hn⟩) scM0_0 (Memref.isWhole_whole _) scM0_1 (Memref.isWhole_whole _) scM0_2 (Memref.isWhole_whole _) ((hcond0_0 ⟨0, hn⟩).mpr (Nat.zero_mod _)) (iblk m hO c 0 ⟨0, hn⟩) (iblk m hO c 1 ⟨0, hn⟩) (iblk m hO c 2 ⟨0, hn⟩) (iblk m hO c 3 ⟨0, hn⟩) (iblk m hO c 4 ⟨0, hn⟩) (iblk m hO c 5 ⟨0, hn⟩) (iblk m hO c 6 ⟨0, hn⟩) (iblk m hO c 7 ⟨0, hn⟩) (iblk m hO c 8 ⟨0, hn⟩) (iblk m hO c 9 ⟨0, hn⟩) (iblk m hO c 10 ⟨0, hn⟩) (iblk m hO c 11 ⟨0, hn⟩) (iblk m hO c 12 ⟨0, hn⟩) (tbl m 0) (V m c main_arg14) (hH c ⟨0, hn⟩))
  | n + 1, hn =>
    if h0 : (n + 1) % 4 = 0 then
      (out0_A_13 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) (ms0_5 m hO ⟨n + 1, hn⟩) (hs0_5 m hO ⟨n + 1, hn⟩) (ms0_6 m hO ⟨n + 1, hn⟩) (hs0_6 m hO ⟨n + 1, hn⟩) (ms0_7 m hO ⟨n + 1, hn⟩) (hs0_7 m hO ⟨n + 1, hn⟩) (ms0_8 m hO ⟨n + 1, hn⟩) (hs0_8 m hO ⟨n + 1, hn⟩) (ms0_9 m hO ⟨n + 1, hn⟩) (hs0_9 m hO ⟨n + 1, hn⟩) (ms0_10 m hO ⟨n + 1, hn⟩) (hs0_10 m hO ⟨n + 1, hn⟩) (ms0_11 m hO ⟨n + 1, hn⟩) (hs0_11 m hO ⟨n + 1, hn⟩) (ms0_12 m hO ⟨n + 1, hn⟩) (hs0_12 m hO ⟨n + 1, hn⟩) (ms0_13 m hO ⟨n + 1, hn⟩) (hs0_13 m hO ⟨n + 1, hn⟩) (ms0_14 m hO ⟨n + 1, hn⟩) (hs0_14 m hO ⟨n + 1, hn⟩) (ms0_15 m hO ⟨n + 1, hn⟩) (hs0_15 m hO ⟨n + 1, hn⟩) scM0_0 (Memref.isWhole_whole _) scM0_1 (Memref.isWhole_whole _) scM0_2 (Memref.isWhole_whole _) ((hcond0_0 ⟨n + 1, hn⟩).mpr h0) (iblk m hO c 0 ⟨n + 1, hn⟩) (iblk m hO c 1 ⟨n + 1, hn⟩) (iblk m hO c 2 ⟨n + 1, hn⟩) (iblk m hO c 3 ⟨n + 1, hn⟩) (iblk m hO c 4 ⟨n + 1, hn⟩) (iblk m hO c 5 ⟨n + 1, hn⟩) (iblk m hO c 6 ⟨n + 1, hn⟩) (iblk m hO c 7 ⟨n + 1, hn⟩) (iblk m hO c 8 ⟨n + 1, hn⟩) (iblk m hO c 9 ⟨n + 1, hn⟩) (iblk m hO c 10 ⟨n + 1, hn⟩) (iblk m hO c 11 ⟨n + 1, hn⟩) (iblk m hO c 12 ⟨n + 1, hn⟩) (tbl m 0) (V m c main_arg14) (hH c ⟨n + 1, hn⟩), out0_A_14 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) (ms0_5 m hO ⟨n + 1, hn⟩) (hs0_5 m hO ⟨n + 1, hn⟩) (ms0_6 m hO ⟨n + 1, hn⟩) (hs0_6 m hO ⟨n + 1, hn⟩) (ms0_7 m hO ⟨n + 1, hn⟩) (hs0_7 m hO ⟨n + 1, hn⟩) (ms0_8 m hO ⟨n + 1, hn⟩) (hs0_8 m hO ⟨n + 1, hn⟩) (ms0_9 m hO ⟨n + 1, hn⟩) (hs0_9 m hO ⟨n + 1, hn⟩) (ms0_10 m hO ⟨n + 1, hn⟩) (hs0_10 m hO ⟨n + 1, hn⟩) (ms0_11 m hO ⟨n + 1, hn⟩) (hs0_11 m hO ⟨n + 1, hn⟩) (ms0_12 m hO ⟨n + 1, hn⟩) (hs0_12 m hO ⟨n + 1, hn⟩) (ms0_13 m hO ⟨n + 1, hn⟩) (hs0_13 m hO ⟨n + 1, hn⟩) (ms0_14 m hO ⟨n + 1, hn⟩) (hs0_14 m hO ⟨n + 1, hn⟩) (ms0_15 m hO ⟨n + 1, hn⟩) (hs0_15 m hO ⟨n + 1, hn⟩) scM0_0 (Memref.isWhole_whole _) scM0_1 (Memref.isWhole_whole _) scM0_2 (Memref.isWhole_whole _) ((hcond0_0 ⟨n + 1, hn⟩).mpr h0) (iblk m hO c 0 ⟨n + 1, hn⟩) (iblk m hO c 1 ⟨n + 1, hn⟩) (iblk m hO c 2 ⟨n + 1, hn⟩) (iblk m hO c 3 ⟨n + 1, hn⟩) (iblk m hO c 4 ⟨n + 1, hn⟩) (iblk m hO c 5 ⟨n + 1, hn⟩) (iblk m hO c 6 ⟨n + 1, hn⟩) (iblk m hO c 7 ⟨n + 1, hn⟩) (iblk m hO c 8 ⟨n + 1, hn⟩) (iblk m hO c 9 ⟨n + 1, hn⟩) (iblk m hO c 10 ⟨n + 1, hn⟩) (iblk m hO c 11 ⟨n + 1, hn⟩) (iblk m hO c 12 ⟨n + 1, hn⟩) (tbl m 0) (V m c main_arg14) (hH c ⟨n + 1, hn⟩), sout0_A_1 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) (ms0_5 m hO ⟨n + 1, hn⟩) (hs0_5 m hO ⟨n + 1, hn⟩) (ms0_6 m hO ⟨n + 1, hn⟩) (hs0_6 m hO ⟨n + 1, hn⟩) (ms0_7 m hO ⟨n + 1, hn⟩) (hs0_7 m hO ⟨n + 1, hn⟩) (ms0_8 m hO ⟨n + 1, hn⟩) (hs0_8 m hO ⟨n + 1, hn⟩) (ms0_9 m hO ⟨n + 1, hn⟩) (hs0_9 m hO ⟨n + 1, hn⟩) (ms0_10 m hO ⟨n + 1, hn⟩) (hs0_10 m hO ⟨n + 1, hn⟩) (ms0_11 m hO ⟨n + 1, hn⟩) (hs0_11 m hO ⟨n + 1, hn⟩) (ms0_12 m hO ⟨n + 1, hn⟩) (hs0_12 m hO ⟨n + 1, hn⟩) (ms0_13 m hO ⟨n + 1, hn⟩) (hs0_13 m hO ⟨n + 1, hn⟩) (ms0_14 m hO ⟨n + 1, hn⟩) (hs0_14 m hO ⟨n + 1, hn⟩) (ms0_15 m hO ⟨n + 1, hn⟩) (hs0_15 m hO ⟨n + 1, hn⟩) scM0_0 (Memref.isWhole_whole _) scM0_1 (Memref.isWhole_whole _) scM0_2 (Memref.isWhole_whole _) ((hcond0_0 ⟨n + 1, hn⟩).mpr h0) (iblk m hO c 0 ⟨n + 1, hn⟩) (iblk m hO c 1 ⟨n + 1, hn⟩) (iblk m hO c 2 ⟨n + 1, hn⟩) (iblk m hO c 3 ⟨n + 1, hn⟩) (iblk m hO c 4 ⟨n + 1, hn⟩) (iblk m hO c 5 ⟨n + 1, hn⟩) (iblk m hO c 6 ⟨n + 1, hn⟩) (iblk m hO c 7 ⟨n + 1, hn⟩) (iblk m hO c 8 ⟨n + 1, hn⟩) (iblk m hO c 9 ⟨n + 1, hn⟩) (iblk m hO c 10 ⟨n + 1, hn⟩) (iblk m hO c 11 ⟨n + 1, hn⟩) (iblk m hO c 12 ⟨n + 1, hn⟩) (tbl m 0) (V m c main_arg14) (hH c ⟨n + 1, hn⟩))
    else
      (out0_B_13 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) (ms0_5 m hO ⟨n + 1, hn⟩) (hs0_5 m hO ⟨n + 1, hn⟩) (ms0_6 m hO ⟨n + 1, hn⟩) (hs0_6 m hO ⟨n + 1, hn⟩) (ms0_7 m hO ⟨n + 1, hn⟩) (hs0_7 m hO ⟨n + 1, hn⟩) (ms0_8 m hO ⟨n + 1, hn⟩) (hs0_8 m hO ⟨n + 1, hn⟩) (ms0_9 m hO ⟨n + 1, hn⟩) (hs0_9 m hO ⟨n + 1, hn⟩) (ms0_10 m hO ⟨n + 1, hn⟩) (hs0_10 m hO ⟨n + 1, hn⟩) (ms0_11 m hO ⟨n + 1, hn⟩) (hs0_11 m hO ⟨n + 1, hn⟩) (ms0_12 m hO ⟨n + 1, hn⟩) (hs0_12 m hO ⟨n + 1, hn⟩) (ms0_13 m hO ⟨n + 1, hn⟩) (hs0_13 m hO ⟨n + 1, hn⟩) (ms0_14 m hO ⟨n + 1, hn⟩) (hs0_14 m hO ⟨n + 1, hn⟩) (ms0_15 m hO ⟨n + 1, hn⟩) (hs0_15 m hO ⟨n + 1, hn⟩) scM0_0 (Memref.isWhole_whole _) scM0_1 (Memref.isWhole_whole _) scM0_2 (Memref.isWhole_whole _) (fun h => h0 ((hcond0_0 ⟨n + 1, hn⟩).mp h)) (iblk m hO c 0 ⟨n + 1, hn⟩) (iblk m hO c 1 ⟨n + 1, hn⟩) (iblk m hO c 2 ⟨n + 1, hn⟩) (iblk m hO c 3 ⟨n + 1, hn⟩) (iblk m hO c 4 ⟨n + 1, hn⟩) (iblk m hO c 5 ⟨n + 1, hn⟩) (iblk m hO c 6 ⟨n + 1, hn⟩) (iblk m hO c 7 ⟨n + 1, hn⟩) (iblk m hO c 8 ⟨n + 1, hn⟩) (iblk m hO c 9 ⟨n + 1, hn⟩) (iblk m hO c 10 ⟨n + 1, hn⟩) (iblk m hO c 11 ⟨n + 1, hn⟩) (iblk m hO c 12 ⟨n + 1, hn⟩) (tbl m 0) (outsAt0 hO hH c n (Nat.lt_of_succ_lt hn)).2.2 (V m c main_arg14) (hH c ⟨n + 1, hn⟩), out0_B_14 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) (ms0_5 m hO ⟨n + 1, hn⟩) (hs0_5 m hO ⟨n + 1, hn⟩) (ms0_6 m hO ⟨n + 1, hn⟩) (hs0_6 m hO ⟨n + 1, hn⟩) (ms0_7 m hO ⟨n + 1, hn⟩) (hs0_7 m hO ⟨n + 1, hn⟩) (ms0_8 m hO ⟨n + 1, hn⟩) (hs0_8 m hO ⟨n + 1, hn⟩) (ms0_9 m hO ⟨n + 1, hn⟩) (hs0_9 m hO ⟨n + 1, hn⟩) (ms0_10 m hO ⟨n + 1, hn⟩) (hs0_10 m hO ⟨n + 1, hn⟩) (ms0_11 m hO ⟨n + 1, hn⟩) (hs0_11 m hO ⟨n + 1, hn⟩) (ms0_12 m hO ⟨n + 1, hn⟩) (hs0_12 m hO ⟨n + 1, hn⟩) (ms0_13 m hO ⟨n + 1, hn⟩) (hs0_13 m hO ⟨n + 1, hn⟩) (ms0_14 m hO ⟨n + 1, hn⟩) (hs0_14 m hO ⟨n + 1, hn⟩) (ms0_15 m hO ⟨n + 1, hn⟩) (hs0_15 m hO ⟨n + 1, hn⟩) scM0_0 (Memref.isWhole_whole _) scM0_1 (Memref.isWhole_whole _) scM0_2 (Memref.isWhole_whole _) (fun h => h0 ((hcond0_0 ⟨n + 1, hn⟩).mp h)) (iblk m hO c 0 ⟨n + 1, hn⟩) (iblk m hO c 1 ⟨n + 1, hn⟩) (iblk m hO c 2 ⟨n + 1, hn⟩) (iblk m hO c 3 ⟨n + 1, hn⟩) (iblk m hO c 4 ⟨n + 1, hn⟩) (iblk m hO c 5 ⟨n + 1, hn⟩) (iblk m hO c 6 ⟨n + 1, hn⟩) (iblk m hO c 7 ⟨n + 1, hn⟩) (iblk m hO c 8 ⟨n + 1, hn⟩) (iblk m hO c 9 ⟨n + 1, hn⟩) (iblk m hO c 10 ⟨n + 1, hn⟩) (iblk m hO c 11 ⟨n + 1, hn⟩) (iblk m hO c 12 ⟨n + 1, hn⟩) (tbl m 0) (outsAt0 hO hH c n (Nat.lt_of_succ_lt hn)).2.2 (V m c main_arg14) (hH c ⟨n + 1, hn⟩), sout0_B_1 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) (ms0_5 m hO ⟨n + 1, hn⟩) (hs0_5 m hO ⟨n + 1, hn⟩) (ms0_6 m hO ⟨n + 1, hn⟩) (hs0_6 m hO ⟨n + 1, hn⟩) (ms0_7 m hO ⟨n + 1, hn⟩) (hs0_7 m hO ⟨n + 1, hn⟩) (ms0_8 m hO ⟨n + 1, hn⟩) (hs0_8 m hO ⟨n + 1, hn⟩) (ms0_9 m hO ⟨n + 1, hn⟩) (hs0_9 m hO ⟨n + 1, hn⟩) (ms0_10 m hO ⟨n + 1, hn⟩) (hs0_10 m hO ⟨n + 1, hn⟩) (ms0_11 m hO ⟨n + 1, hn⟩) (hs0_11 m hO ⟨n + 1, hn⟩) (ms0_12 m hO ⟨n + 1, hn⟩) (hs0_12 m hO ⟨n + 1, hn⟩) (ms0_13 m hO ⟨n + 1, hn⟩) (hs0_13 m hO ⟨n + 1, hn⟩) (ms0_14 m hO ⟨n + 1, hn⟩) (hs0_14 m hO ⟨n + 1, hn⟩) (ms0_15 m hO ⟨n + 1, hn⟩) (hs0_15 m hO ⟨n + 1, hn⟩) scM0_0 (Memref.isWhole_whole _) scM0_1 (Memref.isWhole_whole _) scM0_2 (Memref.isWhole_whole _) (fun h => h0 ((hcond0_0 ⟨n + 1, hn⟩).mp h)) (iblk m hO c 0 ⟨n + 1, hn⟩) (iblk m hO c 1 ⟨n + 1, hn⟩) (iblk m hO c 2 ⟨n + 1, hn⟩) (iblk m hO c 3 ⟨n + 1, hn⟩) (iblk m hO c 4 ⟨n + 1, hn⟩) (iblk m hO c 5 ⟨n + 1, hn⟩) (iblk m hO c 6 ⟨n + 1, hn⟩) (iblk m hO c 7 ⟨n + 1, hn⟩) (iblk m hO c 8 ⟨n + 1, hn⟩) (iblk m hO c 9 ⟨n + 1, hn⟩) (iblk m hO c 10 ⟨n + 1, hn⟩) (iblk m hO c 11 ⟨n + 1, hn⟩) (iblk m hO c 12 ⟨n + 1, hn⟩) (tbl m 0) (outsAt0 hO hH c n (Nat.lt_of_succ_lt hn)).2.2 (V m c main_arg14) (hH c ⟨n + 1, hn⟩))

theorem outsAt0_A (hO : Ok m) (hH : Hyps m hO) (c : Dev nD) (t : Fin (cfgM m hO).N) (h0 : t.val % 4 = 0) :
    outsAt0 m hO hH c t.val t.isLt = (out0_A_13 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (ms0_12 m hO t) (hs0_12 m hO t) (ms0_13 m hO t) (hs0_13 m hO t) (ms0_14 m hO t) (hs0_14 m hO t) (ms0_15 m hO t) (hs0_15 m hO t) scM0_0 (Memref.isWhole_whole _) scM0_1 (Memref.isWhole_whole _) scM0_2 (Memref.isWhole_whole _) ((hcond0_0 t).mpr h0) (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (iblk m hO c 11 t) (iblk m hO c 12 t) (tbl m 0) (V m c main_arg14) (hH c t), out0_A_14 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (ms0_12 m hO t) (hs0_12 m hO t) (ms0_13 m hO t) (hs0_13 m hO t) (ms0_14 m hO t) (hs0_14 m hO t) (ms0_15 m hO t) (hs0_15 m hO t) scM0_0 (Memref.isWhole_whole _) scM0_1 (Memref.isWhole_whole _) scM0_2 (Memref.isWhole_whole _) ((hcond0_0 t).mpr h0) (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (iblk m hO c 11 t) (iblk m hO c 12 t) (tbl m 0) (V m c main_arg14) (hH c t), sout0_A_1 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (ms0_12 m hO t) (hs0_12 m hO t) (ms0_13 m hO t) (hs0_13 m hO t) (ms0_14 m hO t) (hs0_14 m hO t) (ms0_15 m hO t) (hs0_15 m hO t) scM0_0 (Memref.isWhole_whole _) scM0_1 (Memref.isWhole_whole _) scM0_2 (Memref.isWhole_whole _) ((hcond0_0 t).mpr h0) (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (iblk m hO c 11 t) (iblk m hO c 12 t) (tbl m 0) (V m c main_arg14) (hH c t)) := by
  obtain ⟨n, hn⟩ := t
  cases n with
  | zero => exact rfl
  | succ n => exact (dif_pos h0).trans rfl

theorem outsAt0_B (hO : Ok m) (hH : Hyps m hO) (c : Dev nD) (t : Fin (cfgM m hO).N) (h0 : ¬t.val % 4 = 0) :
    outsAt0 m hO hH c t.val t.isLt = (out0_B_13 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (ms0_12 m hO t) (hs0_12 m hO t) (ms0_13 m hO t) (hs0_13 m hO t) (ms0_14 m hO t) (hs0_14 m hO t) (ms0_15 m hO t) (hs0_15 m hO t) scM0_0 (Memref.isWhole_whole _) scM0_1 (Memref.isWhole_whole _) scM0_2 (Memref.isWhole_whole _) (fun h => h0 ((hcond0_0 t).mp h)) (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (iblk m hO c 11 t) (iblk m hO c 12 t) (tbl m 0) (outsAt0 m hO hH c (t.val - 1) (Nat.lt_of_le_of_lt (Nat.sub_le _ _) t.isLt)).2.2 (V m c main_arg14) (hH c t), out0_B_14 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (ms0_12 m hO t) (hs0_12 m hO t) (ms0_13 m hO t) (hs0_13 m hO t) (ms0_14 m hO t) (hs0_14 m hO t) (ms0_15 m hO t) (hs0_15 m hO t) scM0_0 (Memref.isWhole_whole _) scM0_1 (Memref.isWhole_whole _) scM0_2 (Memref.isWhole_whole _) (fun h => h0 ((hcond0_0 t).mp h)) (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (iblk m hO c 11 t) (iblk m hO c 12 t) (tbl m 0) (outsAt0 m hO hH c (t.val - 1) (Nat.lt_of_le_of_lt (Nat.sub_le _ _) t.isLt)).2.2 (V m c main_arg14) (hH c t), sout0_B_1 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (ms0_12 m hO t) (hs0_12 m hO t) (ms0_13 m hO t) (hs0_13 m hO t) (ms0_14 m hO t) (hs0_14 m hO t) (ms0_15 m hO t) (hs0_15 m hO t) scM0_0 (Memref.isWhole_whole _) scM0_1 (Memref.isWhole_whole _) scM0_2 (Memref.isWhole_whole _) (fun h => h0 ((hcond0_0 t).mp h)) (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (iblk m hO c 11 t) (iblk m hO c 12 t) (tbl m 0) (outsAt0 m hO hH c (t.val - 1) (Nat.lt_of_le_of_lt (Nat.sub_le _ _) t.isLt)).2.2 (V m c main_arg14) (hH c t)) := by
  obtain ⟨n, hn⟩ := t
  cases n with
  | zero => exact (by exfalso; (try dsimp only at h0); exact absurd (Nat.zero_mod _) h0)
  | succ n => exact (dif_neg h0).trans rfl

def PhiS (hO : Ok m) (hH : Hyps m hO) (c : Dev nD) : (n : ℕ) → n ≤ (cfgM m hO).N → sProp (MM F)
  | 0, _ => iprop(Pipeline.ΦD osem0 spec0 H0 (V m) c ∗ Pipeline.ΦT pre0 (tbl m) c)
  | n + 1, hn => iprop(iprop(iprop((∃ d, owns (c : Thread nD τ) scM0_0 fullShare d) ∗ owns (c : Thread nD τ) scM0_1 fullShare ((outsAt0 m hO hH c n hn).2.2) ∗ (∃ d, owns (c : Thread nD τ) scM0_2 fullShare d)) ∗ (∃ r, prngReg c r) ∗ iprop(semVal ((c : Thread nD τ), SemLoc.dma 25) 0) ∗ iprop(hbPt0 c hbM0_0 (V m c main_arg14))) ∗ Pipeline.ΦT pre0 (tbl m) c)

theorem PhiS_zero (hO : Ok m) (hH : Hyps m hO) (c : Dev nD) (n : ℕ) (h : n ≤ (cfgM m hO).N) (hz : n = 0) : PhiS m hO hH c n h = iprop(Pipeline.ΦD osem0 spec0 H0 (V m) c ∗ Pipeline.ΦT pre0 (tbl m) c) := by
  subst hz; rfl

theorem PhiS_succ (hO : Ok m) (hH : Hyps m hO) (c : Dev nD) (n : ℕ) (hn : n < (cfgM m hO).N) :
    PhiS m hO hH c (n + 1) hn = iprop(iprop(iprop((∃ d, owns (c : Thread nD τ) scM0_0 fullShare d) ∗ owns (c : Thread nD τ) scM0_1 fullShare ((outsAt0 m hO hH c n hn).2.2) ∗ (∃ d, owns (c : Thread nD τ) scM0_2 fullShare d)) ∗ (∃ r, prngReg c r) ∗ iprop(semVal ((c : Thread nD τ), SemLoc.dma 25) 0) ∗ iprop(hbPt0 c hbM0_0 (V m c main_arg14))) ∗ Pipeline.ΦT pre0 (tbl m) c) := rfl

theorem PhiS_pos (hO : Ok m) (hH : Hyps m hO) (c : Dev nD) (n : ℕ) (h : n ≤ (cfgM m hO).N) (hz : n ≠ 0) :
    PhiS m hO hH c n h = iprop(iprop(iprop((∃ d, owns (c : Thread nD τ) scM0_0 fullShare d) ∗ owns (c : Thread nD τ) scM0_1 fullShare ((outsAt0 m hO hH c (n - 1) (by omega)).2.2) ∗ (∃ d, owns (c : Thread nD τ) scM0_2 fullShare d)) ∗ (∃ r, prngReg c r) ∗ iprop(semVal ((c : Thread nD τ), SemLoc.dma 25) 0) ∗ iprop(hbPt0 c hbM0_0 (V m c main_arg14))) ∗ Pipeline.ΦT pre0 (tbl m) c) := by
  cases n with
  | zero => exact absurd rfl hz
  | succ n => rfl

def forgets0 : Fin 16 → Bool := fun w => w.val == 15

def dats (hO : Ok m) (hH : Hyps m hO) (_ : Fin 1) (c : Dev nD) : Dat τ (Elt F) Unit ℕ (Pipeline.UD sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, _⟩ => iblk m hO c 6 t
    | ⟨7, _⟩ => iblk m hO c 7 t
    | ⟨8, _⟩ => iblk m hO c 8 t
    | ⟨9, _⟩ => iblk m hO c 9 t
    | ⟨10, _⟩ => iblk m hO c 10 t
    | ⟨11, _⟩ => iblk m hO c 11 t
    | ⟨12, _⟩ => iblk m hO c 12 t
    | ⟨13, _⟩ => (outsAt0 m hO hH c t.val t.isLt).1
    | ⟨14, _⟩ => (outsAt0 m hO hH c t.val t.isLt).2.1
    | ⟨15, h⟩ => Pipeline.Dat.unnamed (cfg := (cfgM m hO)) ⟨15, h⟩ t
    | ⟨_ + 16, h⟩ => absurd h (Nat.not_lt.2 (Nat.le_add_left _ _))
  Φ t := PhiS m hO hH c t.val (Nat.le_of_lt_succ t.isLt)
  q _ := fullShare
  owed _ := 0

theorem A_eq (hO : Ok m) (hH : Hyps m hO) (c : Dev nD) (w : Fin (cfgM m hO).W) : (dats m hO hH 0 c).A w = V m c (Pipeline.arrRef spec0 w) := by
  dsimp only [dats]

theorem PhiS_castSucc (hO : Ok m) (hH : Hyps m hO) (c : Dev nD) (t : Fin (cfgM m hO).N) :
    (dats m hO hH 0 c).Φ t.castSucc = PhiS m hO hH c t.val (Nat.le_of_lt t.isLt) := by
  dsimp only [dats]; exact Pipeline.Dat.Φ_castSucc (PhiS m hO hH c) t

theorem after0_0 (hO : Ok m) (hH : Hyps m hO) (c : Dev nD) (t : Fin (cfgM m hO).N) : (dats m hO hH 0 c).after 0 t = iblk m hO c 0 t := by dsimp only [dats]; try rfl
theorem after0_1 (hO : Ok m) (hH : Hyps m hO) (c : Dev nD) (t : Fin (cfgM m hO).N) : (dats m hO hH 0 c).after 1 t = iblk m hO c 1 t := by dsimp only [dats]; try rfl
theorem after0_2 (hO : Ok m) (hH : Hyps m hO) (c : Dev nD) (t : Fin (cfgM m hO).N) : (dats m hO hH 0 c).after 2 t = iblk m hO c 2 t := by dsimp only [dats]; try rfl
theorem after0_3 (hO : Ok m) (hH : Hyps m hO) (c : Dev nD) (t : Fin (cfgM m hO).N) : (dats m hO hH 0 c).after 3 t = iblk m hO c 3 t := by dsimp only [dats]; try rfl
theorem after0_4 (hO : Ok m) (hH : Hyps m hO) (c : Dev nD) (t : Fin (cfgM m hO).N) : (dats m hO hH 0 c).after 4 t = iblk m hO c 4 t := by dsimp only [dats]; try rfl
theorem after0_5 (hO : Ok m) (hH : Hyps m hO) (c : Dev nD) (t : Fin (cfgM m hO).N) : (dats m hO hH 0 c).after 5 t = iblk m hO c 5 t := by dsimp only [dats]; try rfl
theorem after0_6 (hO : Ok m) (hH : Hyps m hO) (c : Dev nD) (t : Fin (cfgM m hO).N) : (dats m hO hH 0 c).after 6 t = iblk m hO c 6 t := by dsimp only [dats]; try rfl
theorem after0_7 (hO : Ok m) (hH : Hyps m hO) (c : Dev nD) (t : Fin (cfgM m hO).N) : (dats m hO hH 0 c).after 7 t = iblk m hO c 7 t := by dsimp only [dats]; try rfl
theorem after0_8 (hO : Ok m) (hH : Hyps m hO) (c : Dev nD) (t : Fin (cfgM m hO).N) : (dats m hO hH 0 c).after 8 t = iblk m hO c 8 t := by dsimp only [dats]; try rfl
theorem after0_9 (hO : Ok m) (hH : Hyps m hO) (c : Dev nD) (t : Fin (cfgM m hO).N) : (dats m hO hH 0 c).after 9 t = iblk m hO c 9 t := by dsimp only [dats]; try rfl
theorem after0_10 (hO : Ok m) (hH : Hyps m hO) (c : Dev nD) (t : Fin (cfgM m hO).N) : (dats m hO hH 0 c).after 10 t = iblk m hO c 10 t := by dsimp only [dats]; try rfl
theorem after0_11 (hO : Ok m) (hH : Hyps m hO) (c : Dev nD) (t : Fin (cfgM m hO).N) : (dats m hO hH 0 c).after 11 t = iblk m hO c 11 t := by dsimp only [dats]; try rfl
theorem after0_12 (hO : Ok m) (hH : Hyps m hO) (c : Dev nD) (t : Fin (cfgM m hO).N) : (dats m hO hH 0 c).after 12 t = iblk m hO c 12 t := by dsimp only [dats]; try rfl
theorem after0_13 (hO : Ok m) (hH : Hyps m hO) (c : Dev nD) (t : Fin (cfgM m hO).N) : (dats m hO hH 0 c).after 13 t = (outsAt0 m hO hH c t.val t.isLt).1 := by dsimp only [dats]; try rfl
theorem after0_14 (hO : Ok m) (hH : Hyps m hO) (c : Dev nD) (t : Fin (cfgM m hO).N) : (dats m hO hH 0 c).after 14 t = (outsAt0 m hO hH c t.val t.isLt).2.1 := by dsimp only [dats]; try rfl

theorem before0_0 (hO : Ok m) (hH : Hyps m hO) (c : Dev nD) (t : Fin (cfgM m hO).N) (d) : (dats m hO hH 0 c).before 0 t d = iblk m hO c 0 t :=
  before0_0_of m hO (dats m hO hH 0 c) (A_eq m hO hH c 0) (after0_0 m hO hH c) t d
theorem before0_1 (hO : Ok m) (hH : Hyps m hO) (c : Dev nD) (t : Fin (cfgM m hO).N) (d) : (dats m hO hH 0 c).before 1 t d = iblk m hO c 1 t :=
  before0_1_of m hO (dats m hO hH 0 c) (A_eq m hO hH c 1) (after0_1 m hO hH c) t d
theorem before0_2 (hO : Ok m) (hH : Hyps m hO) (c : Dev nD) (t : Fin (cfgM m hO).N) (d) : (dats m hO hH 0 c).before 2 t d = iblk m hO c 2 t :=
  before0_2_of m hO (dats m hO hH 0 c) (A_eq m hO hH c 2) (after0_2 m hO hH c) t d
theorem before0_3 (hO : Ok m) (hH : Hyps m hO) (c : Dev nD) (t : Fin (cfgM m hO).N) (d) : (dats m hO hH 0 c).before 3 t d = iblk m hO c 3 t :=
  before0_3_of m hO (dats m hO hH 0 c) (A_eq m hO hH c 3) (after0_3 m hO hH c) t d
theorem before0_4 (hO : Ok m) (hH : Hyps m hO) (c : Dev nD) (t : Fin (cfgM m hO).N) (d) : (dats m hO hH 0 c).before 4 t d = iblk m hO c 4 t :=
  before0_4_of m hO (dats m hO hH 0 c) (A_eq m hO hH c 4) (after0_4 m hO hH c) t d
theorem before0_5 (hO : Ok m) (hH : Hyps m hO) (c : Dev nD) (t : Fin (cfgM m hO).N) (d) : (dats m hO hH 0 c).before 5 t d = iblk m hO c 5 t :=
  before0_5_of m hO (dats m hO hH 0 c) (A_eq m hO hH c 5) (after0_5 m hO hH c) t d
theorem before0_6 (hO : Ok m) (hH : Hyps m hO) (c : Dev nD) (t : Fin (cfgM m hO).N) (d) : (dats m hO hH 0 c).before 6 t d = iblk m hO c 6 t :=
  before0_6_of m hO (dats m hO hH 0 c) (A_eq m hO hH c 6) (after0_6 m hO hH c) t d
theorem before0_7 (hO : Ok m) (hH : Hyps m hO) (c : Dev nD) (t : Fin (cfgM m hO).N) (d) : (dats m hO hH 0 c).before 7 t d = iblk m hO c 7 t :=
  before0_7_of m hO (dats m hO hH 0 c) (A_eq m hO hH c 7) (after0_7 m hO hH c) t d
theorem before0_8 (hO : Ok m) (hH : Hyps m hO) (c : Dev nD) (t : Fin (cfgM m hO).N) (d) : (dats m hO hH 0 c).before 8 t d = iblk m hO c 8 t :=
  before0_8_of m hO (dats m hO hH 0 c) (A_eq m hO hH c 8) (after0_8 m hO hH c) t d
theorem before0_9 (hO : Ok m) (hH : Hyps m hO) (c : Dev nD) (t : Fin (cfgM m hO).N) (d) : (dats m hO hH 0 c).before 9 t d = iblk m hO c 9 t :=
  before0_9_of m hO (dats m hO hH 0 c) (A_eq m hO hH c 9) (after0_9 m hO hH c) t d
theorem before0_10 (hO : Ok m) (hH : Hyps m hO) (c : Dev nD) (t : Fin (cfgM m hO).N) (d) : (dats m hO hH 0 c).before 10 t d = iblk m hO c 10 t :=
  before0_10_of m hO (dats m hO hH 0 c) (A_eq m hO hH c 10) (after0_10 m hO hH c) t d
theorem before0_11 (hO : Ok m) (hH : Hyps m hO) (c : Dev nD) (t : Fin (cfgM m hO).N) (d) : (dats m hO hH 0 c).before 11 t d = iblk m hO c 11 t :=
  before0_11_of m hO (dats m hO hH 0 c) (A_eq m hO hH c 11) (after0_11 m hO hH c) t d
theorem before0_12 (hO : Ok m) (hH : Hyps m hO) (c : Dev nD) (t : Fin (cfgM m hO).N) (d) : (dats m hO hH 0 c).before 12 t d = iblk m hO c 12 t :=
  before0_12_of m hO (dats m hO hH 0 c) (A_eq m hO hH c 12) (after0_12 m hO hH c) t d

def bodyPre (hO : Ok m) (hH : Hyps m hO) (c : Dev nD) (t : Fin (cfgM m hO).N) : sProp (MM F) :=
  iprop((dats m hO hH 0 c).Φ t.castSucc ∗ (dats m hO hH 0 c).owesAt () t.castSucc
    ∗ (∃ d, owns (c : Thread nD τ) (ms0_0 m hO t) fullShare ((dats m hO hH 0 c).before 0 t d))
    ∗ (∃ d, owns (c : Thread nD τ) (ms0_1 m hO t) fullShare ((dats m hO hH 0 c).before 1 t d))
    ∗ (∃ d, owns (c : Thread nD τ) (ms0_2 m hO t) fullShare ((dats m hO hH 0 c).before 2 t d))
    ∗ (∃ d, owns (c : Thread nD τ) (ms0_3 m hO t) fullShare ((dats m hO hH 0 c).before 3 t d))
    ∗ (∃ d, owns (c : Thread nD τ) (ms0_4 m hO t) fullShare ((dats m hO hH 0 c).before 4 t d))
    ∗ (∃ d, owns (c : Thread nD τ) (ms0_5 m hO t) fullShare ((dats m hO hH 0 c).before 5 t d))
    ∗ (∃ d, owns (c : Thread nD τ) (ms0_6 m hO t) fullShare ((dats m hO hH 0 c).before 6 t d))
    ∗ (∃ d, owns (c : Thread nD τ) (ms0_7 m hO t) fullShare ((dats m hO hH 0 c).before 7 t d))
    ∗ (∃ d, owns (c : Thread nD τ) (ms0_8 m hO t) fullShare ((dats m hO hH 0 c).before 8 t d))
    ∗ (∃ d, owns (c : Thread nD τ) (ms0_9 m hO t) fullShare ((dats m hO hH 0 c).before 9 t d))
    ∗ (∃ d, owns (c : Thread nD τ) (ms0_10 m hO t) fullShare ((dats m hO hH 0 c).before 10 t d))
    ∗ (∃ d, owns (c : Thread nD τ) (ms0_11 m hO t) fullShare ((dats m hO hH 0 c).before 11 t d))
    ∗ (∃ d, owns (c : Thread nD τ) (ms0_12 m hO t) fullShare ((dats m hO hH 0 c).before 12 t d))
    ∗ (∃ d, owns (c : Thread nD τ) (ms0_13 m hO t) fullShare ((dats m hO hH 0 c).before 13 t d))
    ∗ (∃ d, owns (c : Thread nD τ) (ms0_14 m hO t) fullShare ((dats m hO hH 0 c).before 14 t d))
    ∗ (∃ d, owns (c : Thread nD τ) (ms0_15 m hO t) fullShare d))

def bodyPost (hO : Ok m) (hH : Hyps m hO) (c : Dev nD) (t : Fin (cfgM m hO).N) : sProp (MM F) :=
  iprop((dats m hO hH 0 c).Φ t.succ ∗ (dats m hO hH 0 c).owesAt () t.succ
    ∗ owns (c : Thread nD τ) (ms0_0 m hO t) fullShare ((dats m hO hH 0 c).after 0 t)
    ∗ owns (c : Thread nD τ) (ms0_1 m hO t) fullShare ((dats m hO hH 0 c).after 1 t)
    ∗ owns (c : Thread nD τ) (ms0_2 m hO t) fullShare ((dats m hO hH 0 c).after 2 t)
    ∗ owns (c : Thread nD τ) (ms0_3 m hO t) fullShare ((dats m hO hH 0 c).after 3 t)
    ∗ owns (c : Thread nD τ) (ms0_4 m hO t) fullShare ((dats m hO hH 0 c).after 4 t)
    ∗ owns (c : Thread nD τ) (ms0_5 m hO t) fullShare ((dats m hO hH 0 c).after 5 t)
    ∗ owns (c : Thread nD τ) (ms0_6 m hO t) fullShare ((dats m hO hH 0 c).after 6 t)
    ∗ owns (c : Thread nD τ) (ms0_7 m hO t) fullShare ((dats m hO hH 0 c).after 7 t)
    ∗ owns (c : Thread nD τ) (ms0_8 m hO t) fullShare ((dats m hO hH 0 c).after 8 t)
    ∗ owns (c : Thread nD τ) (ms0_9 m hO t) fullShare ((dats m hO hH 0 c).after 9 t)
    ∗ owns (c : Thread nD τ) (ms0_10 m hO t) fullShare ((dats m hO hH 0 c).after 10 t)
    ∗ owns (c : Thread nD τ) (ms0_11 m hO t) fullShare ((dats m hO hH 0 c).after 11 t)
    ∗ owns (c : Thread nD τ) (ms0_12 m hO t) fullShare ((dats m hO hH 0 c).after 12 t)
    ∗ owns (c : Thread nD τ) (ms0_13 m hO t) fullShare ((dats m hO hH 0 c).after 13 t)
    ∗ owns (c : Thread nD τ) (ms0_14 m hO t) fullShare ((dats m hO hH 0 c).after 14 t)
    ∗ (∃ d, owns (c : Thread nD τ) (ms0_15 m hO t) fullShare d))

set_option maxHeartbeats 12800000 in
theorem sound_body (hO : Ok m) (hH : Hyps m hO) (c : Dev nD) (t : Fin (cfgM m hO).N) :
    bodyPre m hO hH c t ⊢ wp frame (wpE (defs₀ (F := F)) Variants.none c none) Set.univ (bodyAt0 (adm m hO) t) (fun _ => bodyPost m hO hH c t) := by
  unfold bodyPre bodyPost bodyAt0
  simp only [before0_0, before0_1, before0_2, before0_3, before0_4, before0_5, before0_6, before0_7, before0_8, before0_9, before0_10, before0_11, before0_12]
  rw [show (dats m hO hH 0 c).Φ t.succ = PhiS m hO hH c (t.val + 1) t.isLt from rfl, PhiS_succ,
    after0_0, after0_1, after0_2, after0_3, after0_4, after0_5, after0_6, after0_7, after0_8, after0_9, after0_10, after0_11, after0_12, after0_13, after0_14]
  unfold Dat.owesAt Pipeline.owesWithin
  rw [show (dats m hO hH 0 c).owed t.castSucc = 0 from rfl, show (dats m hO hH 0 c).owed t.succ = 0 from rfl]
  have hN : t.val < 32 := lt_of_lt_of_eq t.isLt (show (cfgM m hO).N = 32 from N_0)
  by_cases h0 : t.val % 4 = 0
  · by_cases hz : t.val = 0
    · rw [PhiS_castSucc m hO hH c t, PhiS_zero m hO hH c _ _ hz, PhiT0_eq, PhiD0_eq]
      rw [outsAt0_A m hO hH c t h0]
      unfold out0_A_13 out0_A_14 sout0_A_1; (try dsimp only)
      iintro ⟨⟨⟨⟨HS0, HS1, HS2⟩, Hg, Hq0, Hh0⟩, HT0⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
      iapply ((kernelRun0_A c (grid0.coords t) _ _ _ _ _ _ _ _ _ _ _ _ _ _ _ _ _ _ _ _ _ _ _ _ _ _ _ _ _ _ _ _ _ _ _ _ _ _ ((hcond0_0 t).mpr h0) (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (iblk m hO c 11 t) (iblk m hO c 12 t) (tbl m 0) (V m c main_arg14) (hH c t)).2.2.2.2 W _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexists _; iexact H13
      isplitl [H14]; · iexists _; iexact H14
      isplitl [H15]; · iexists _; iexact H15
      isplitl [HS0]; · iexact HS0
      isplitl [HS1]; · iexact HS1
      isplitl [HS2]; · iexact HS2
      isplitl [HT0]; · iexact HT0
      isplitl [Hq0]; · iexact Hq0
      isplitl [Hh0]; · iexact Hh0
      isplitl [HW]; · iexact HW
      iintro ⟨H0, H1, H2, H3, H4, H5, H6, H7, H8, H9, H10, H11, H12, ⟨%e13, H13⟩, ⟨%e14, H14⟩, H15, ⟨%fT0, HS0⟩, ⟨%es1, HS1⟩, HS2, HT0, Hq0, Hh0, ⟨%W', HW'⟩⟩
      isplitl [HS0 HS1 HS2 Hg Hq0 Hh0 HT0]
      · isplitl [HS0 HS1 HS2 Hg Hq0 Hh0]
        · isplitl [HS0 HS1 HS2]
          · isplitl [HS0]
            · iexists _; unfold owns; iexists _; isplitr
              swap; · iexact HS0
              ipureintro; rfl
            isplitl [HS1]
            · unfold owns; iexists _; isplitr
              swap; · iexact HS1
              ipureintro; exact View.read_writes_of_cover _ _ _ _ _ (scover0_A_1 c _ _ _ _ _ _ _ _ _ _ _ _ _ _ _ _ _ _ _ _ _ _ _ _ _ _ _ _ _ _ _ _ _ _ _ _ _ _ _ _ _ _ _ _ _ _ _ _ _ _ _ _ _ _ _ _)
            iexact HS2
          isplitl [Hg]
          · iexact Hg
          isplitl [Hq0]
          · iexact Hq0
          iexact Hh0
        iexact HT0
      isplitl [HW']
      · iexists W'; isplitr; · ipureintro; exact fun _ _ => Or.inl trivial
        iexact HW'
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]
      · unfold owns; iexists _; isplitr
        swap; · iexact H13
        ipureintro; exact View.read_writes_of_cover _ _ _ _ _ (cover0_A_13 c _ _ _ _ _ _ _ _ _ _ _ _ _ _ _ _ _ _ _ _ _ _ _ _ _ _ _ _ _ _ _ _ _ _ _ _ _ _ _ _ _ _ _ _ _ _ _ _ _ _ _ _ _ _ _ _)
      isplitl [H14]
      · unfold owns; iexists _; isplitr
        swap; · iexact H14
        ipureintro; exact View.read_writes_of_cover _ _ _ _ _ (cover0_A_14 c _ _ _ _ _ _ _ _ _ _ _ _ _ _ _ _ _ _ _ _ _ _ _ _ _ _ _ _ _ _ _ _ _ _ _ _ _ _ _ _ _ _ _ _ _ _ _ _ _ _ _ _ _ _ _ _)
      iexact H15
    · rw [PhiS_castSucc m hO hH c t, PhiS_pos m hO hH c _ _ hz, PhiT0_eq]
      rw [outsAt0_A m hO hH c t h0]
      unfold out0_A_13 out0_A_14 sout0_A_1; (try dsimp only)
      iintro ⟨⟨⟨⟨HS0, HS1, HS2⟩, Hg, Hq0, Hh0⟩, HT0⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
      iapply ((kernelRun0_A c (grid0.coords t) _ _ _ _ _ _ _ _ _ _ _ _ _ _ _ _ _ _ _ _ _ _ _ _ _ _ _ _ _ _ _ _ _ _ _ _ _ _ ((hcond0_0 t).mpr h0) (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (iblk m hO c 11 t) (iblk m hO c 12 t) (tbl m 0) (V m c main_arg14) (hH c t)).2.2.2.2 W _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexists _; iexact H13
      isplitl [H14]; · iexists _; iexact H14
      isplitl [H15]; · iexists _; iexact H15
      isplitl [HS0]; · iexact HS0
      isplitl [HS1]; · iexists _; iexact HS1
      isplitl [HS2]; · iexact HS2
      isplitl [HT0]; · iexact HT0
      isplitl [Hq0]; · iexact Hq0
      isplitl [Hh0]; · iexact Hh0
      isplitl [HW]; · iexact HW
      iintro ⟨H0, H1, H2, H3, H4, H5, H6, H7, H8, H9, H10, H11, H12, ⟨%e13, H13⟩, ⟨%e14, H14⟩, H15, ⟨%fT0, HS0⟩, ⟨%es1, HS1⟩, HS2, HT0, Hq0, Hh0, ⟨%W', HW'⟩⟩
      isplitl [HS0 HS1 HS2 Hg Hq0 Hh0 HT0]
      · isplitl [HS0 HS1 HS2 Hg Hq0 Hh0]
        · isplitl [HS0 HS1 HS2]
          · isplitl [HS0]
            · iexists _; unfold owns; iexists _; isplitr
              swap; · iexact HS0
              ipureintro; rfl
            isplitl [HS1]
            · unfold owns; iexists _; isplitr
              swap; · iexact HS1
              ipureintro; exact View.read_writes_of_cover _ _ _ _ _ (scover0_A_1 c _ _ _ _ _ _ _ _ _ _ _ _ _ _ _ _ _ _ _ _ _ _ _ _ _ _ _ _ _ _ _ _ _ _ _ _ _ _ _ _ _ _ _ _ _ _ _ _ _ _ _ _ _ _ _ _)
            iexact HS2
          isplitl [Hg]
          · iexact Hg
          isplitl [Hq0]
          · iexact Hq0
          iexact Hh0
        iexact HT0
      isplitl [HW']
      · iexists W'; isplitr; · ipureintro; exact fun _ _ => Or.inl trivial
        iexact HW'
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]
      · unfold owns; iexists _; isplitr
        swap; · iexact H13
        ipureintro; exact View.read_writes_of_cover _ _ _ _ _ (cover0_A_13 c _ _ _ _ _ _ _ _ _ _ _ _ _ _ _ _ _ _ _ _ _ _ _ _ _ _ _ _ _ _ _ _ _ _ _ _ _ _ _ _ _ _ _ _ _ _ _ _ _ _ _ _ _ _ _ _)
      isplitl [H14]
      · unfold owns; iexists _; isplitr
        swap; · iexact H14
        ipureintro; exact View.read_writes_of_cover _ _ _ _ _ (cover0_A_14 c _ _ _ _ _ _ _ _ _ _ _ _ _ _ _ _ _ _ _ _ _ _ _ _ _ _ _ _ _ _ _ _ _ _ _ _ _ _ _ _ _ _ _ _ _ _ _ _ _ _ _ _ _ _ _ _)
      iexact H15
  · by_cases hz : t.val = 0
    · exfalso; have hN : t.val < 32 := lt_of_lt_of_eq t.isLt (show (cfgM m hO).N = 32 from N_0); omega
    · rw [PhiS_castSucc m hO hH c t, PhiS_pos m hO hH c _ _ hz, PhiT0_eq]
      rw [outsAt0_B m hO hH c t h0]
      unfold out0_B_13 out0_B_14 sout0_B_1; (try dsimp only)
      iintro ⟨⟨⟨⟨HS0, HS1, HS2⟩, Hg, Hq0, Hh0⟩, HT0⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
      iapply ((kernelRun0_B c (grid0.coords t) _ _ _ _ _ _ _ _ _ _ _ _ _ _ _ _ _ _ _ _ _ _ _ _ _ _ _ _ _ _ _ _ _ _ _ _ _ _ (fun h => h0 ((hcond0_0 t).mp h)) (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (iblk m hO c 11 t) (iblk m hO c 12 t) (tbl m 0) _ (V m c main_arg14) (hH c t)).2.2.2.2 W _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexists _; iexact H13
      isplitl [H14]; · iexists _; iexact H14
      isplitl [H15]; · iexists _; iexact H15
      isplitl [HS0]; · iexact HS0
      isplitl [HS1]; · iexact HS1
      isplitl [HS2]; · iexact HS2
      isplitl [HT0]; · iexact HT0
      isplitl [Hq0]; · iexact Hq0
      isplitl [Hh0]; · iexact Hh0
      isplitl [HW]; · iexact HW
      iintro ⟨H0, H1, H2, H3, H4, H5, H6, H7, H8, H9, H10, H11, H12, ⟨%e13, H13⟩, ⟨%e14, H14⟩, H15, ⟨%fT0, HS0⟩, ⟨%es1, HS1⟩, HS2, HT0, Hq0, Hh0, ⟨%W', HW'⟩⟩
      isplitl [HS0 HS1 HS2 Hg Hq0 Hh0 HT0]
      · isplitl [HS0 HS1 HS2 Hg Hq0 Hh0]
        · isplitl [HS0 HS1 HS2]
          · isplitl [HS0]
            · iexists _; unfold owns; iexists _; isplitr
              swap; · iexact HS0
              ipureintro; rfl
            isplitl [HS1]
            · unfold owns; iexists _; isplitr
              swap; · iexact HS1
              ipureintro; exact View.read_writes_of_cover _ _ _ _ _ (scover0_B_1 c _ _ _ _ _ _ _ _ _ _ _ _ _ _ _ _ _ _ _ _ _ _ _ _ _ _ _ _ _ _ _ _ _ _ _ _ _ _ _ _ _ _ _ _ _ _ _ _ _ _ _ _ _ _ _ _ _)
            iexact HS2
          isplitl [Hg]
          · iexact Hg
          isplitl [Hq0]
          · iexact Hq0
          iexact Hh0
        iexact HT0
      isplitl [HW']
      · iexists W'; isplitr; · ipureintro; exact fun _ _ => Or.inl trivial
        iexact HW'
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]
      · unfold owns; iexists _; isplitr
        swap; · iexact H13
        ipureintro; exact View.read_writes_of_cover _ _ _ _ _ (cover0_B_13 c _ _ _ _ _ _ _ _ _ _ _ _ _ _ _ _ _ _ _ _ _ _ _ _ _ _ _ _ _ _ _ _ _ _ _ _ _ _ _ _ _ _ _ _ _ _ _ _ _ _ _ _ _ _ _ _ _)
      isplitl [H14]
      · unfold owns; iexists _; isplitr
        swap; · iexact H14
        ipureintro; exact View.read_writes_of_cover _ _ _ _ _ (cover0_B_14 c _ _ _ _ _ _ _ _ _ _ _ _ _ _ _ _ _ _ _ _ _ _ _ _ _ _ _ _ _ _ _ _ _ _ _ _ _ _ _ _ _ _ _ _ _ _ _ _ _ _ _ _ _ _ _ _ _)
      iexact H15

theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

theorem body_obligation (hO : Ok m) (hH : Hyps m hO) (c : Dev nD) : BodyObligation (dats (F := F) m hO hH 0 c) (defs₀ (F := F)) Variants.none () Set.univ forgets0 := fun t => by
  rw [bigSep_W0, bigSep_W0, defs₀_row m hO]
  exact triple_restated (sound_body m hO hH c t) rfl .rfl fun _ => .rfl

theorem hin (hO : Ok m) (hH : Hyps m hO) (c : Dev nD) : iprop(Pipeline.ΦD osem0 spec0 H0 (V m) c ∗ Pipeline.ΦT pre0 (tbl m) c) ⊢ (dats m hO hH 0 c).Φ 0 := by
  rw [show (dats m hO hH 0 c).Φ 0 = PhiS m hO hH c 0 (Nat.zero_le _) from rfl, PhiS_zero m hO hH c 0 _ rfl]
  try exact Idealize.SL.BI.Entails.refl _

theorem Phi_out (hO : Ok m) (hH : Hyps m hO) (c : Dev nD) (t : Fin ((cfgM m hO).N + 1)) (ht : t.val ≠ 0) : (dats m hO hH 0 c).Φ t ⊢ Pipeline.ΦD osem0 spec0 H0 (V m) c := by
  rw [show (dats m hO hH 0 c).Φ t = PhiS m hO hH c t.val (Nat.le_of_lt_succ t.isLt) from rfl, PhiS_pos m hO hH c _ _ ht, PhiD0_eq]
  iintro ⟨⟨⟨HS0, HS1, HS2⟩, Hg, Hq0, Hh0⟩, -⟩
  isplitl [HS0 HS1 HS2]
  · isplitl [HS0]
    · iexact HS0
    isplitl [HS1]
    · iexists _; iexact HS1
    iexact HS2
  isplitl [Hg]; · iexact Hg
  isplitl [Hq0]
  · iexact Hq0
  iexact Hh0

theorem hout (hO : Ok m) (hH : Hyps m hO) (c : Dev nD) : (dats m hO hH 0 c).Φ (Fin.last (cfgM m hO).N) ⊢ Pipeline.ΦD osem0 spec0 H0 (V m) c :=
  Phi_out m hO hH c _ (by rw [Fin.val_last]; have : (cfgM m hO).N = 32 := N_0; omega)
set_option backward.isDefEq.respectTransparency.types false in
theorem run_main_quiescent (hO : Ok m) (hH : Hyps m hO) : θ_run defs (onTc (τ := τ) (main (F := F))) (s₀ m ρ) (fun r => (Pipeline.RDat.FramePost ((Pipeline.pin pcfgs fun _ => adm m hO) 0) (fun c => (dats m hO hH 0 c).toRForget forgets0) (V m)) r ∧ r.2.sem = fun _ => 0) :=
  Pipeline.θ_run_frameP_dma_forget (Q' := _) pcfgs (fun _ => adm m hO) (dats m hO hH) (0 : Fin 1) launch0 osem0 defs₀ Variants.none forgets0 ownSemFacts0 H0 H0_sub m ρ main
    (hbody := fun c => (body_obligation m hO hH c).loose) (hshare := fun c => (dats m hO hH 0 c).share_full fun _ => rfl)
    (howed := fun _ _ => rfl) (V := V m) (hmain := hmain m Variants.none) (hA := A_eq m hO hH) (hpf := V_pre m) (hin := hin m hO hH) (hout := hout m hO hH)

theorem run_main (hO : Ok m) (hH : Hyps m hO) : θ_run defs (onTc (τ := τ) (main (F := F))) (s₀ m ρ) (Pipeline.RDat.FramePost ((Pipeline.pin pcfgs fun _ => adm m hO) 0) (fun c => (dats m hO hH 0 c).toRForget forgets0) (V m)) :=
  (θ_run defs _ _).mono (fun _ h => h.1) (run_main_quiescent m ρ hO hH)

theorem frame_ofR (hO : Ok m) (rdat : (c : Dev nD) → Pipeline.RDat τ (Elt F) Unit ℕ (Pipeline.UD sig nD τ) ℕ ((Pipeline.pin pcfgs fun _ => adm m hO) 0) c)
    (hA : ∀ c w, (rdat c).A w = V m c (Pipeline.arrRef spec0 w))
    (h : θ_run defs (onTc (τ := τ) (main (F := F))) (s₀ m ρ) (Pipeline.RDat.FramePost ((Pipeline.pin pcfgs fun _ => adm m hO) 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun _ h c => ⟨((h c).2 main_arg0 (by decide : main_arg0 ∈ Pipeline.restRefs sig spec0)).trans (V_main_arg0 m c),
      ((h c).2 main_arg1 (by decide : main_arg1 ∈ Pipeline.restRefs sig spec0)).trans (V_main_arg1 m c),
      (Pipeline.RDat.FramePost.arr_in h c 2 rfl).trans ((hA c 2).trans (V_main_arg2 m c)),
      (Pipeline.RDat.FramePost.arr_in h c 3 rfl).trans ((hA c 3).trans (V_main_arg3 m c)),
      (Pipeline.RDat.FramePost.arr_in h c 4 rfl).trans ((hA c 4).trans (V_main_arg4 m c)),
      ((h c).2 main_arg5 (by decide : main_arg5 ∈ Pipeline.restRefs sig spec0)).trans (V_main_arg5 m c),
      ((h c).2 main_arg6 (by decide : main_arg6 ∈ Pipeline.restRefs sig spec0)).trans (V_main_arg6 m c),
      ((h c).2 main_arg7 (by decide : main_arg7 ∈ Pipeline.restRefs sig spec0)).trans (V_main_arg7 m c),
      ((h c).2 main_arg8 (by decide : main_arg8 ∈ Pipeline.restRefs sig spec0)).trans (V_main_arg8 m c),
      ((h c).2 main_arg9 (by decide : main_arg9 ∈ Pipeline.restRefs sig spec0)).trans (V_main_arg9 m c),
      ((h c).2 main_arg10 (by decide : main_arg10 ∈ Pipeline.restRefs sig spec0)).trans (V_main_arg10 m c),
      ((h c).2 main_arg11 (by decide : main_arg11 ∈ Pipeline.restRefs sig spec0)).trans (V_main_arg11 m c),
      ((h c).2 main_arg12 (by decide : main_arg12 ∈ Pipeline.restRefs sig spec0)).trans (V_main_arg12 m c),
      ((h c).2 main_arg13 (by decide : main_arg13 ∈ Pipeline.restRefs sig spec0)).trans (V_main_arg13 m c),
      ((h c).2 main_arg14 (by decide : main_arg14 ∈ Pipeline.restRefs sig spec0)).trans (V_main_arg14 m c)⟩) h

theorem unchanged (hO : Ok m) (hH : Hyps m hO) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  frame_ofR m ρ hO (fun c => (dats m hO hH 0 c).toRForget forgets0) (A_eq m hO hH) (run_main m ρ hO hH)

theorem frame (hO : Ok m) (hH : Hyps m hO) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14))
      ∧ r.2.sem = fun _ => 0) :=
  θ_run_and (unchanged m ρ hO hH) ((θ_run defs _ _).mono (fun _ h => h.2) (run_main_quiescent m ρ hO hH))

end Cert.FfnIdeal.Hand

end
-- ==== Proof.FfnIdealWords.lean ====
/- The page numbers of the merge and feed-forward call: the precondition, decoded at every word of the table, gives
   the condition of each of the 32 page numbers a grid point reads. -/
module

public import proofs.«01_k».proof.Defs
public import proofs.«01_k».proof.Proof.FfnIdealRuns
public import proofs.«01_k».proof.Proof.Gen.Pre_pages_in_pool
public import Idealize.ShloMosaic.Lib.Pipeline.ValueKit
import Idealize.ShloMosaic.Lib.ReduceAll
import Idealize.ShloMosaic.Lib.WordCmp

@[expose] public section

set_option maxRecDepth 16384

namespace Cert.FfnIdeal.Words

open Cert.FfnIdeal Cert.FfnIdeal.Gen Cert.FfnIdeal.Hand
open Idealize.ShloMosaic Idealize.ShloMosaic.TcCoe Idealize.SL.Sem

variable (m : (ℓ : Loc nD τ sig) → Buf (Elt Ideal) ℓ)

/-- Under the precondition every page number is below the number of pages. -/
theorem page_lt (h : Cert.Pre_FfnIdeal m) (i : S128x64.Idx) :
    ((show IVec S128x64 32 from m (((0 : Dev nD) : Thread nD τ).loc main_arg12)) i).toNat < 10240 := by
  haveI : Subsingleton Cert.Pre_pages_in_pool.S_.Idx := ⟨fun a b => funext fun k => k.elim0⟩
  have e := Host.reduce_andi_all _ _ _ _ (fun k => k.elim0) (congrFun (h 0) fun k => k.elim0) i
  have e' : IntOp.andi (IntOp.cmpi .sge ((show IVec S128x64 32 from m (((0 : Dev nD) : Thread nD τ).loc main_arg12)) i) 0#32)
      (IntOp.cmpi .slt ((show IVec S128x64 32 from m (((0 : Dev nD) : Thread nD τ).loc main_arg12)) i) (BitVec.ofNat 32 10240)) = 1#1 := e
  rw [WordCmp.andi_sge_zero_slt_ofNat (by decide)] at e'
  have one : ∀ p : Bool, BitVec.ofBool p = 1#1 → p = true := by decide
  exact of_decide_eq_true (one _ e')

set_option maxHeartbeats 2000000 in
/-- Every word of the flat table is a page number. -/
theorem word_lt (h : Cert.Pre_FfnIdeal m) (j : S8192.Idx) : ((show IVec S8192 32 from tbl m 0) j).toNat < 10240 := by
  have e : (show IVec S8192 32 from V m (0 : Dev nD) main_v15)
      = shapeCast S8192 (show IVec S128x64 32 from m (((0 : Dev nD) : Thread nD τ).loc main_arg12)) shapeCasts_S128x64_S8192 := by
    funext j
    show StableHlo.after _ _ _ _ = _
    simp only [List.flatten_cons, List.flatten_nil, List.append_nil, hostOps0, List.cons_append, List.nil_append]
    entry_read
    rfl
  have e' : (show IVec S8192 32 from tbl m 0) = (show IVec S8192 32 from V m (0 : Dev nD) main_v15) := rfl
  rw [e', e]
  exact page_lt m h _

set_option maxHeartbeats 2000000 in
/-- A number below the number of pages names a page of the pool. -/
theorem chk (v : BitVec 32) (h : v.toNat < 10240) : k0_chk1 v := by
  intro a
  show ![0, v.toNat, 0, 0, 0] a + ![1, 1, 8, 64, 128] a ≤ ![1, 10240, 8, 64, 128] a
  match a with
  | 0 => exact Nat.le_of_eq (Nat.zero_add 1)
  | 1 => show v.toNat + 1 ≤ 10240; omega
  | 2 => exact Nat.le_of_eq (Nat.zero_add 8)
  | 3 => exact Nat.le_of_eq (Nat.zero_add 64)
  | 4 => exact Nat.le_of_eq (Nat.zero_add 128)

set_option maxHeartbeats 20000000 in
/-- The page numbers read at every grid point name pages of the pool. -/
theorem hyps (h : Cert.Pre_FfnIdeal m) (hO : Ok m) : Hyps m hO := by
  intro c t
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;>
    exact chk _ (word_lt m h _)

end Cert.FfnIdeal.Words
-- ==== Proof.FfnPure.lean ====
/- The arithmetic of one grid point of the merge and feed-forward call: what each stored value is at one index,
   in the reference's terms. Every block of gate columns is written as the first one is. -/
module

public import proofs.«01_k».proof.Proof.FfnAt
public import proofs.«01_k».proof.Proof.Gen.FfnIdeal.Skeleton

@[expose] public section

set_option maxRecDepth 16384

noncomputable section

open Idealize.ShloMosaic Idealize.ShloMosaic.TcCoe Idealize.SL.Sem
open scoped BigOperators

namespace Cert.FfnIdeal.Pure

open Cert.FfnIdeal Cert.FfnIdeal.Gen Cert.Rows Cert.FfnRow
open Cert.FfnRefIdeal (At.r1 At.up At.z At.gc)

/-- The word one half. -/
abbrev half : Ideal .f32 := Scalar.ofBits .f32 0x3F000000#32

theorem merged_pay (at' si : FVec Ideal S512x512 .bf16) (wa wc ga gb : FVec Ideal S512x1024 .bf16)
    (x : FVec Ideal S512x1024 .f32) (wo : FVec Ideal S1024x1024 .bf16) (r : Fin 512) (j : Fin 1024) :
    k0_pay5 (F := Ideal) (k0_pay2 si wc) (k0_pay3 at' wa ga) (k0_pay4 gb) half x wo (ix2 r j)
      = x1 (fun k => x (ix2 r k)) (mg (fun k => at' (ix2 r k)) (fun k => si (ix2 r k)) (fun k => ga (ix2 r k)) (fun k => gb (ix2 r k))
          (fun k j => wa (ix2 k j)) (fun k j => wc (ix2 k j))) (fun k j => wo (ix2 k j)) j := by
  pointwise [k0_pay5, k0_pay2, k0_pay3, k0_pay4, x1, mg, half, ← half_tanh]

theorem xn_pay (b a t : FVec Ideal S512x1024 .f32) (x : FVec Ideal S512x1024 .f32) (wo : FVec Ideal S1024x1024 .bf16)
    (n : FVec Ideal S1x1024 .f32) (r : Fin 512) (j : Fin 1024) :
    k0_pay6 (F := Ideal) b a t half x wo n (ix2 r j)
      = rms (fun k => k0_pay5 (F := Ideal) b a t half x wo (ix2 r k)) (fun k => n (ix2 0 k)) j := by
  pointwise [k0_pay6, rms]

theorem acc0_pay (b a t : FVec Ideal S512x1024 .f32) (x : FVec Ideal S512x1024 .f32) (wo : FVec Ideal S1024x1024 .bf16)
    (r : Fin 512) (j : Fin 1024) :
    k0_pay7 (F := Ideal) b a t half x wo (ix2 r j) = k0_pay5 (F := Ideal) b a t half x wo (ix2 r j) := by
  pointwise [k0_pay7]

theorem zeros (i : Fin 8) (c : Fin 2816) : k0_pay8 (F := Ideal) (ix2 i c) = 0 := by
  pointwise [k0_pay8]

theorem g_pay (xn : FVec Ideal S512x1024 .bf16) (w : FVec Ideal S1024x256 .bf16) (r : Fin 512) (c : Fin 256) :
    k0_pay9 (F := Ideal) xn w (ix2 r c) = ∑ k, xn (ix2 r k) * w (ix2 k c) := by
  pointwise [k0_pay9]

theorem gc_pay (xn : FVec Ideal S512x1024 .bf16) (w : FVec Ideal S1024x256 .bf16) (f0 f1 f2 : FVec Ideal S1x256 .f32)
    (cr : FVec Ideal S8x256 .f32) (r : Fin 512) (c : Fin 256) :
    k0_pay11 (F := Ideal) xn w f0 f1 f2 cr (ix2 r c)
      = (if h : 6 + r.val < 8 then cr (ix2 ⟨6 + r.val, h⟩ c) else k0_pay9 (F := Ideal) xn w (ix2 ⟨6 + r.val - 8, by omega⟩ c)) * f0 (ix2 0 c)
          + (if h : 7 + r.val < 8 then cr (ix2 ⟨7 + r.val, h⟩ c) else k0_pay9 (F := Ideal) xn w (ix2 ⟨7 + r.val - 8, by omega⟩ c)) * f1 (ix2 0 c)
          + k0_pay9 (F := Ideal) xn w (ix2 r c) * f2 (ix2 0 c) := by
  pointwise [k0_pay11]

theorem last8 (xn : FVec Ideal S512x1024 .bf16) (w : FVec Ideal S1024x256 .bf16) (i : Fin 8) (c : Fin 256) :
    k0_pay12 (F := Ideal) xn w (ix2 i c) = k0_pay9 (F := Ideal) xn w (ix2 ⟨504 + i.val, by omega⟩ c) := by
  pointwise [k0_pay12]

theorem last2 (xn : FVec Ideal S512x1024 .bf16) (w : FVec Ideal S1024x256 .bf16) (i : Fin 2) (c : Fin 256) :
    k0_pay13 (F := Ideal) xn w (ix3 0 i c) = k0_pay9 (F := Ideal) xn w (ix2 ⟨510 + i.val, by omega⟩ c) := by
  pointwise [k0_pay13]

theorem acc_pay (u g : FVec Ideal S512x256 .f32) (acc : FVec Ideal S512x1024 .f32) (wd : FVec Ideal S256x1024 .bf16)
    (r : Fin 512) (j : Fin 1024) :
    k0_pay14 (F := Ideal) u g acc wd (ix2 r j)
      = acc (ix2 r j) + ∑ c, act (g (ix2 r c)) (u (ix2 r c)) * wd (ix2 c j) := by
  pointwise [k0_pay14, act, ← half_tanh]

theorem acc1 (xn : FVec Ideal S512x1024 .bf16) (wg wu : FVec Ideal S1024x256 .bf16) (f0 f1 f2 : FVec Ideal S1x256 .f32) (cr : FVec Ideal S8x256 .f32) (acc : FVec Ideal S512x1024 .f32) (wd : FVec Ideal S256x1024 .bf16) :
    (k0_pay23 (F := Ideal) (k0_pay15 (F := Ideal) xn wg) (k0_pay16 (F := Ideal) xn wu) (k0_pay17 (F := Ideal) f1) (k0_pay18 (F := Ideal) f2) (k0_pay19 (F := Ideal) xn wg cr) (k0_pay20 (F := Ideal) xn wg f0 cr) acc wd) = (k0_pay14 (F := Ideal) (k0_pay10 (F := Ideal) xn wu) (k0_pay11 (F := Ideal) xn wg f0 f1 f2 cr) acc wd) := rfl

theorem last8_1 (xn : FVec Ideal S512x1024 .bf16) (wg : FVec Ideal S1024x256 .bf16) : (k0_pay21 (F := Ideal) (k0_pay15 (F := Ideal) xn wg)) = (k0_pay12 (F := Ideal) xn wg) := rfl

theorem last2_1 (xn : FVec Ideal S512x1024 .bf16) (wg : FVec Ideal S1024x256 .bf16) : (k0_pay22 (F := Ideal) (k0_pay15 (F := Ideal) xn wg)) = (k0_pay13 (F := Ideal) xn wg) := rfl

theorem acc2 (xn : FVec Ideal S512x1024 .bf16) (wg wu : FVec Ideal S1024x256 .bf16) (f0 f1 f2 : FVec Ideal S1x256 .f32) (cr : FVec Ideal S8x256 .f32) (acc : FVec Ideal S512x1024 .f32) (wd : FVec Ideal S256x1024 .bf16) :
    (k0_pay28 (F := Ideal) (k0_pay27 (F := Ideal) xn (k0_pay24 (F := Ideal) xn wg) wu f0 f1 f2 cr) acc wd) = (k0_pay14 (F := Ideal) (k0_pay10 (F := Ideal) xn wu) (k0_pay11 (F := Ideal) xn wg f0 f1 f2 cr) acc wd) := rfl

theorem last8_2 (xn : FVec Ideal S512x1024 .bf16) (wg : FVec Ideal S1024x256 .bf16) : (k0_pay25 (F := Ideal) (k0_pay24 (F := Ideal) xn wg)) = (k0_pay12 (F := Ideal) xn wg) := rfl

theorem last2_2 (xn : FVec Ideal S512x1024 .bf16) (wg : FVec Ideal S1024x256 .bf16) : (k0_pay26 (F := Ideal) (k0_pay24 (F := Ideal) xn wg)) = (k0_pay13 (F := Ideal) xn wg) := rfl

theorem acc3 (xn : FVec Ideal S512x1024 .bf16) (wg wu : FVec Ideal S1024x256 .bf16) (f0 f1 f2 : FVec Ideal S1x256 .f32) (cr : FVec Ideal S8x256 .f32) (acc : FVec Ideal S512x1024 .f32) (wd : FVec Ideal S256x1024 .bf16) :
    (k0_pay35 (F := Ideal) (k0_pay30 (F := Ideal) xn wu) (k0_pay31 (F := Ideal) xn wg f0 f1 f2 cr) acc wd) = (k0_pay14 (F := Ideal) (k0_pay10 (F := Ideal) xn wu) (k0_pay11 (F := Ideal) xn wg f0 f1 f2 cr) acc wd) := rfl

theorem last8_3 (xn : FVec Ideal S512x1024 .bf16) (wg : FVec Ideal S1024x256 .bf16) : (k0_pay32 (F := Ideal) xn wg) = (k0_pay12 (F := Ideal) xn wg) := rfl

theorem last2_3 (xn : FVec Ideal S512x1024 .bf16) (wg : FVec Ideal S1024x256 .bf16) : (k0_pay34 (F := Ideal) (k0_pay33 (F := Ideal) xn wg)) = (k0_pay13 (F := Ideal) xn wg) := rfl

theorem acc4 (xn : FVec Ideal S512x1024 .bf16) (wg wu : FVec Ideal S1024x256 .bf16) (f0 f1 f2 : FVec Ideal S1x256 .f32) (cr : FVec Ideal S8x256 .f32) (acc : FVec Ideal S512x1024 .f32) (wd : FVec Ideal S256x1024 .bf16) :
    (k0_pay43 (F := Ideal) (k0_pay36 (F := Ideal) xn wg) (k0_pay37 (F := Ideal) xn wu) (k0_pay38 (F := Ideal) f0) (k0_pay39 (F := Ideal) f1) (k0_pay40 (F := Ideal) f2) cr acc wd) = (k0_pay14 (F := Ideal) (k0_pay10 (F := Ideal) xn wu) (k0_pay11 (F := Ideal) xn wg f0 f1 f2 cr) acc wd) := rfl

theorem last8_4 (xn : FVec Ideal S512x1024 .bf16) (wg : FVec Ideal S1024x256 .bf16) : (k0_pay41 (F := Ideal) (k0_pay36 (F := Ideal) xn wg)) = (k0_pay12 (F := Ideal) xn wg) := rfl

theorem last2_4 (xn : FVec Ideal S512x1024 .bf16) (wg : FVec Ideal S1024x256 .bf16) : (k0_pay42 (F := Ideal) (k0_pay36 (F := Ideal) xn wg)) = (k0_pay13 (F := Ideal) xn wg) := rfl

theorem acc5 (xn : FVec Ideal S512x1024 .bf16) (wg wu : FVec Ideal S1024x256 .bf16) (f0 f1 f2 : FVec Ideal S1x256 .f32) (cr : FVec Ideal S8x256 .f32) (acc : FVec Ideal S512x1024 .f32) (wd : FVec Ideal S256x1024 .bf16) :
    (k0_pay50 (F := Ideal) (k0_pay45 (F := Ideal) xn wu) (k0_pay46 (F := Ideal) xn wg f0 f1 f2 cr) (k0_pay49 (F := Ideal) xn wg f0 f1 f2 cr) acc wd) = (k0_pay14 (F := Ideal) (k0_pay10 (F := Ideal) xn wu) (k0_pay11 (F := Ideal) xn wg f0 f1 f2 cr) acc wd) := rfl

theorem last8_5 (xn : FVec Ideal S512x1024 .bf16) (wg : FVec Ideal S1024x256 .bf16) : (k0_pay47 (F := Ideal) xn wg) = (k0_pay12 (F := Ideal) xn wg) := rfl

theorem last2_5 (xn : FVec Ideal S512x1024 .bf16) (wg : FVec Ideal S1024x256 .bf16) : (k0_pay48 (F := Ideal) xn wg) = (k0_pay13 (F := Ideal) xn wg) := rfl

theorem acc6 (xn : FVec Ideal S512x1024 .bf16) (wg wu : FVec Ideal S1024x256 .bf16) (f0 f1 f2 : FVec Ideal S1x256 .f32) (cr : FVec Ideal S8x256 .f32) (acc : FVec Ideal S512x1024 .f32) (wd : FVec Ideal S256x1024 .bf16) :
    (k0_pay94 (F := Ideal) (k0_pay89 (F := Ideal) xn wu) (k0_pay90 (F := Ideal) xn wg f0 f1 f2 cr) (k0_pay93 (F := Ideal) xn wg f0 f1 f2 cr) half acc wd) = (k0_pay14 (F := Ideal) (k0_pay10 (F := Ideal) xn wu) (k0_pay11 (F := Ideal) xn wg f0 f1 f2 cr) acc wd) := rfl

theorem last8_6 (xn : FVec Ideal S512x1024 .bf16) (wg : FVec Ideal S1024x256 .bf16) : (k0_pay91 (F := Ideal) xn wg) = (k0_pay12 (F := Ideal) xn wg) := rfl

theorem last2_6 (xn : FVec Ideal S512x1024 .bf16) (wg : FVec Ideal S1024x256 .bf16) : (k0_pay92 (F := Ideal) xn wg) = (k0_pay13 (F := Ideal) xn wg) := rfl

theorem acc7 (xn : FVec Ideal S512x1024 .bf16) (wg wu : FVec Ideal S1024x256 .bf16) (f0 f1 f2 : FVec Ideal S1x256 .f32) (cr : FVec Ideal S8x256 .f32) (acc : FVec Ideal S512x1024 .f32) (wd : FVec Ideal S256x1024 .bf16) :
    (k0_pay101 (F := Ideal) (k0_pay96 (F := Ideal) xn wu) (k0_pay97 (F := Ideal) xn wg f0 f1 f2 cr) acc wd) = (k0_pay14 (F := Ideal) (k0_pay10 (F := Ideal) xn wu) (k0_pay11 (F := Ideal) xn wg f0 f1 f2 cr) acc wd) := rfl

theorem last8_7 (xn : FVec Ideal S512x1024 .bf16) (wg : FVec Ideal S1024x256 .bf16) : (k0_pay99 (F := Ideal) (k0_pay98 (F := Ideal) xn wg)) = (k0_pay12 (F := Ideal) xn wg) := rfl

theorem last2_7 (xn : FVec Ideal S512x1024 .bf16) (wg : FVec Ideal S1024x256 .bf16) : (k0_pay100 (F := Ideal) (k0_pay95 (F := Ideal) xn wg)) = (k0_pay13 (F := Ideal) xn wg) := rfl

theorem acc8 (xn : FVec Ideal S512x1024 .bf16) (wg wu : FVec Ideal S1024x256 .bf16) (f0 f1 f2 : FVec Ideal S1x256 .f32) (cr : FVec Ideal S8x256 .f32) (acc : FVec Ideal S512x1024 .f32) (wd : FVec Ideal S256x1024 .bf16) :
    (k0_pay108 (F := Ideal) (k0_pay107 (F := Ideal) (k0_pay102 (F := Ideal) xn wg) (k0_pay103 (F := Ideal) xn wu) (k0_pay104 (F := Ideal) f0) f1 f2 cr acc wd)) = (k0_pay14 (F := Ideal) (k0_pay10 (F := Ideal) xn wu) (k0_pay11 (F := Ideal) xn wg f0 f1 f2 cr) acc wd) := rfl

theorem last8_8 (xn : FVec Ideal S512x1024 .bf16) (wg : FVec Ideal S1024x256 .bf16) : (k0_pay105 (F := Ideal) (k0_pay102 (F := Ideal) xn wg)) = (k0_pay12 (F := Ideal) xn wg) := rfl

theorem last2_8 (xn : FVec Ideal S512x1024 .bf16) (wg : FVec Ideal S1024x256 .bf16) : (k0_pay106 (F := Ideal) (k0_pay102 (F := Ideal) xn wg)) = (k0_pay13 (F := Ideal) xn wg) := rfl

theorem acc9 (xn : FVec Ideal S512x1024 .bf16) (wg wu : FVec Ideal S1024x256 .bf16) (f0 f1 f2 : FVec Ideal S1x256 .f32) (cr : FVec Ideal S8x256 .f32) (acc : FVec Ideal S512x1024 .f32) (wd : FVec Ideal S256x1024 .bf16) :
    (k0_pay115 (F := Ideal) (k0_pay110 (F := Ideal) xn wu) (k0_pay111 (F := Ideal) xn wg f0 f1 f2 cr) (k0_pay114 (F := Ideal)) acc wd) = (k0_pay14 (F := Ideal) (k0_pay10 (F := Ideal) xn wu) (k0_pay11 (F := Ideal) xn wg f0 f1 f2 cr) acc wd) := rfl

theorem last8_9 (xn : FVec Ideal S512x1024 .bf16) (wg : FVec Ideal S1024x256 .bf16) : (k0_pay112 (F := Ideal) xn wg) = (k0_pay12 (F := Ideal) xn wg) := rfl

theorem last2_9 (xn : FVec Ideal S512x1024 .bf16) (wg : FVec Ideal S1024x256 .bf16) : (k0_pay113 (F := Ideal) xn wg) = (k0_pay13 (F := Ideal) xn wg) := rfl

theorem acc10 (xn : FVec Ideal S512x1024 .bf16) (wg wu : FVec Ideal S1024x256 .bf16) (f0 f1 f2 : FVec Ideal S1x256 .f32) (cr : FVec Ideal S8x256 .f32) (acc : FVec Ideal S512x1024 .f32) (wd : FVec Ideal S256x1024 .bf16) :
    (k0_pay1 (F := Ideal) (k0_pay117 (F := Ideal) xn wu) (k0_pay123 (F := Ideal) (k0_pay116 (F := Ideal) xn wg) (k0_pay118 (F := Ideal) f2) (k0_pay120 (F := Ideal) xn wg f0 cr) (k0_pay121 (F := Ideal) xn wg cr) (k0_pay122 (F := Ideal) f1)) half acc wd) = (k0_pay14 (F := Ideal) (k0_pay10 (F := Ideal) xn wu) (k0_pay11 (F := Ideal) xn wg f0 f1 f2 cr) acc wd) := rfl

theorem last8_10 (xn : FVec Ideal S512x1024 .bf16) (wg : FVec Ideal S1024x256 .bf16) : (k0_pay124 (F := Ideal) (k0_pay116 (F := Ideal) xn wg)) = (k0_pay12 (F := Ideal) xn wg) := rfl

theorem last2_10 (xn : FVec Ideal S512x1024 .bf16) (wg : FVec Ideal S1024x256 .bf16) : (k0_pay125 (F := Ideal) (k0_pay116 (F := Ideal) xn wg)) = (k0_pay13 (F := Ideal) xn wg) := rfl

variable (a0 : FVec Ideal Cert.FfnRefIdeal.S8x2048x1024 .f32) (a1 : FVec Ideal Cert.FfnRefIdeal.S8x2048x512 .bf16) (a2 : FVec Ideal Cert.FfnRefIdeal.S16384x512 .bf16) (a3 : FVec Ideal Cert.FfnRefIdeal.S16384x1024 .bf16) (a4 : FVec Ideal Cert.FfnRefIdeal.S16384x1024 .bf16) (a5 : FVec Ideal Cert.FfnRefIdeal.S1x512x1024 .f32) (a6 : FVec Ideal Cert.FfnRefIdeal.S1x512x1024 .f32) (a7 : FVec Ideal Cert.FfnRefIdeal.S1x1024x1024 .f32) (a8 : FVec Ideal Cert.FfnRefIdeal.S1x1024 .f32) (a9 : FVec Ideal Cert.FfnRefIdeal.S1x1024x5632 .f32) (a10 : FVec Ideal Cert.FfnRefIdeal.S1x3x2816 .f32) (a11 : FVec Ideal Cert.FfnRefIdeal.S1x2816x1024 .f32)

theorem r1_eq (at' si : FVec Ideal S512x512 .bf16) (wa wc ga gb : FVec Ideal S512x1024 .bf16)
    (x : FVec Ideal S512x1024 .f32) (wo : FVec Ideal S1024x1024 .bf16) (b : Fin 8) (s : Fin 512 → Fin 2048)
    (hx : ∀ r k, x (ix2 r k) = a0 (ix3 b (s r) k)) (hat : ∀ r k, at' (ix2 r k) = a1 (ix3 b (s r) k))
    (hsi : ∀ r k, si (ix2 r k) = a2 (ix2 ⟨b.val * 2048 + (s r).val, by omega⟩ k))
    (hga : ∀ r k, ga (ix2 r k) = a3 (ix2 ⟨b.val * 2048 + (s r).val, by omega⟩ k))
    (hgb : ∀ r k, gb (ix2 r k) = a4 (ix2 ⟨b.val * 2048 + (s r).val, by omega⟩ k))
    (hwa : ∀ k j, wa (ix2 k j) = a5 (ix3 0 k j)) (hwc : ∀ k j, wc (ix2 k j) = a6 (ix3 0 k j))
    (hwo : ∀ k j, wo (ix2 k j) = a7 (ix3 0 k j)) (r : Fin 512) (j : Fin 1024) :
    k0_pay5 (F := Ideal) (k0_pay2 si wc) (k0_pay3 at' wa ga) (k0_pay4 gb) half x wo (ix2 r j)
      = At.r1 a0 a1 a2 a3 a4 a5 a6 a7 b (s r) j := by
  rw [merged_pay, At.r1]; simp only [hx, hat, hsi, hga, hgb, hwa, hwc, hwo]

/-- The normalised rows are the reference's. -/
def Normed (xn : FVec Ideal S512x1024 .bf16) (b : Fin 8) (s : Fin 512 → Fin 2048) : Prop :=
  ∀ r k, xn (ix2 r k) = rms (At.r1 a0 a1 a2 a3 a4 a5 a6 a7 b (s r)) (fun k => a8 (ix2 0 k)) k

theorem g_eq (xn : FVec Ideal S512x1024 .bf16) (b : Fin 8) (s : Fin 512 → Fin 2048) (hn : Normed a0 a1 a2 a3 a4 a5 a6 a7 a8 xn b s)
    (o : Nat) (ho : o + 256 ≤ 5632) (w : FVec Ideal S1024x256 .bf16)
    (hw : ∀ (k : Fin 1024) (j : Fin 256), w (ix2 k j) = a9 (ix3 0 k ⟨o + j.val, by omega⟩)) (r : Fin 512) (c : Fin 256) :
    k0_pay9 (F := Ideal) xn w (ix2 r c) = At.up a0 a1 a2 a3 a4 a5 a6 a7 a8 a9 b (s r) ⟨o + c.val, by omega⟩ := by
  rw [g_pay, At.up, pr]; exact Finset.sum_congr rfl fun k _ => by rw [hn, hw]

theorem gc_eq (xn : FVec Ideal S512x1024 .bf16) (b : Fin 8) (s : Fin 512 → Fin 2048) (hn : Normed a0 a1 a2 a3 a4 a5 a6 a7 a8 xn b s)
    (o : Nat) (ho : o + 256 ≤ 2816) (w : FVec Ideal S1024x256 .bf16)
    (hw : ∀ (k : Fin 1024) (j : Fin 256), w (ix2 k j) = a9 (ix3 0 k ⟨o + j.val, by omega⟩))
    (q : Nat) (hs : ∀ r : Fin 512, (s r).val = q + r.val)
    (f0 f1 f2 : FVec Ideal S1x256 .f32)
    (hf0 : ∀ j : Fin 256, f0 (ix2 0 j) = a10 (ix3 0 0 ⟨o + j.val, by omega⟩))
    (hf1 : ∀ j : Fin 256, f1 (ix2 0 j) = a10 (ix3 0 1 ⟨o + j.val, by omega⟩))
    (hf2 : ∀ j : Fin 256, f2 (ix2 0 j) = a10 (ix3 0 2 ⟨o + j.val, by omega⟩))
    (cr : FVec Ideal S8x256 .f32)
    (hc : ∀ (i : Fin 2) (j : Fin 2050) (c : Fin 256), j.val = q + i.val →
      cr (ix2 ⟨6 + i.val, by omega⟩ c) = At.z a0 a1 a2 a3 a4 a5 a6 a7 a8 a9 b j ⟨o + c.val, by omega⟩)
    (r : Fin 512) (c : Fin 256) :
    k0_pay11 (F := Ideal) xn w f0 f1 f2 cr (ix2 r c) = At.gc a0 a1 a2 a3 a4 a5 a6 a7 a8 a9 a10 b (s r) ⟨o + c.val, by omega⟩ := by
  have hu : ∀ (r : Fin 512) (c : Fin 256), k0_pay9 (F := Ideal) xn w (ix2 r c) = At.up a0 a1 a2 a3 a4 a5 a6 a7 a8 a9 b (s r) ⟨o + c.val, by omega⟩ :=
    g_eq a0 a1 a2 a3 a4 a5 a6 a7 a8 a9 xn b s hn o (by omega) w hw
  have e0 : (if h : 6 + r.val < 8 then cr (ix2 ⟨6 + r.val, h⟩ c) else At.up a0 a1 a2 a3 a4 a5 a6 a7 a8 a9 b (s ⟨6 + r.val - 8, by omega⟩) ⟨o + c.val, by omega⟩)
      = At.z a0 a1 a2 a3 a4 a5 a6 a7 a8 a9 b ⟨(s r).val, by omega⟩ ⟨o + c.val, by omega⟩ := by
    have h1 := hs r
    split
    · rename_i h
      exact hc ⟨r.val, by omega⟩ _ c h1
    · rename_i h
      have h2 := hs ⟨6 + r.val - 8, by omega⟩
      simp only at h2
      unfold At.z
      rw [dif_neg (by simp only; omega)]
      exact congrArg (fun i => At.up a0 a1 a2 a3 a4 a5 a6 a7 a8 a9 b i ⟨o + c.val, by omega⟩) (Fin.ext (by simp only; omega))
  have e1 : (if h : 7 + r.val < 8 then cr (ix2 ⟨7 + r.val, h⟩ c) else At.up a0 a1 a2 a3 a4 a5 a6 a7 a8 a9 b (s ⟨7 + r.val - 8, by omega⟩) ⟨o + c.val, by omega⟩)
      = At.z a0 a1 a2 a3 a4 a5 a6 a7 a8 a9 b ⟨1 + (s r).val, by omega⟩ ⟨o + c.val, by omega⟩ := by
    have h1 := hs r
    split
    · rename_i h
      have := hc ⟨1 + r.val, by omega⟩ ⟨1 + (s r).val, by omega⟩ c (by simp only; omega)
      rw [← this]
      exact congrArg (fun i => cr (ix2 i c)) (Fin.ext (by simp only; omega))
    · rename_i h
      have h2 := hs ⟨7 + r.val - 8, by omega⟩
      simp only at h2
      unfold At.z
      rw [dif_neg (by simp only; omega)]
      exact congrArg (fun i => At.up a0 a1 a2 a3 a4 a5 a6 a7 a8 a9 b i ⟨o + c.val, by omega⟩) (Fin.ext (by simp only; omega))
  rw [gc_pay]
  simp only [hu]
  rw [e0, e1, At.gc]
  simp only [hf0, hf1, hf2]

/-- The part of the feed-forward sum that block `n` of 256 hidden columns gives. -/
def part (b : Fin 8) (s : Fin 2048) (j : Fin 1024) (n : Fin 11) : EReal :=
  ∑ c : Fin 256, act (At.gc a0 a1 a2 a3 a4 a5 a6 a7 a8 a9 a10 b s ⟨n.val * 256 + c.val, by omega⟩)
    (At.up a0 a1 a2 a3 a4 a5 a6 a7 a8 a9 b s ⟨2816 + (n.val * 256 + c.val), by omega⟩) * a11 (ix3 0 ⟨n.val * 256 + c.val, by omega⟩ j)

theorem parts (b : Fin 8) (s : Fin 2048) (j : Fin 1024) :
    ∑ c : Fin 2816, act (At.gc a0 a1 a2 a3 a4 a5 a6 a7 a8 a9 a10 b s c) (At.up a0 a1 a2 a3 a4 a5 a6 a7 a8 a9 b s ⟨2816 + c.val, by omega⟩) * a11 (ix3 0 c j)
      = ∑ n : Fin 11, part a0 a1 a2 a3 a4 a5 a6 a7 a8 a9 a10 a11 b s j n := by
  rw [Fin.sum_univ_tiles 11 256 rfl]
  rfl

/-- One block of hidden columns added to the rows so far. -/
theorem acc_eq (xn : FVec Ideal S512x1024 .bf16) (b : Fin 8) (s : Fin 512 → Fin 2048) (hn : Normed a0 a1 a2 a3 a4 a5 a6 a7 a8 xn b s)
    (n : Fin 11) (wg wu : FVec Ideal S1024x256 .bf16)
    (hg : ∀ (k : Fin 1024) (j : Fin 256), wg (ix2 k j) = a9 (ix3 0 k ⟨n.val * 256 + j.val, by omega⟩))
    (hu : ∀ (k : Fin 1024) (j : Fin 256), wu (ix2 k j) = a9 (ix3 0 k ⟨2816 + n.val * 256 + j.val, by omega⟩))
    (q : Nat) (hs : ∀ r : Fin 512, (s r).val = q + r.val)
    (f0 f1 f2 : FVec Ideal S1x256 .f32)
    (hf0 : ∀ j : Fin 256, f0 (ix2 0 j) = a10 (ix3 0 0 ⟨n.val * 256 + j.val, by omega⟩))
    (hf1 : ∀ j : Fin 256, f1 (ix2 0 j) = a10 (ix3 0 1 ⟨n.val * 256 + j.val, by omega⟩))
    (hf2 : ∀ j : Fin 256, f2 (ix2 0 j) = a10 (ix3 0 2 ⟨n.val * 256 + j.val, by omega⟩))
    (cr : FVec Ideal S8x256 .f32)
    (hc : ∀ (i : Fin 2) (j : Fin 2050) (c : Fin 256), j.val = q + i.val →
      cr (ix2 ⟨6 + i.val, by omega⟩ c) = At.z a0 a1 a2 a3 a4 a5 a6 a7 a8 a9 b j ⟨n.val * 256 + c.val, by omega⟩)
    (wd : FVec Ideal S256x1024 .bf16)
    (hd : ∀ (k : Fin 256) (j : Fin 1024), wd (ix2 k j) = a11 (ix3 0 ⟨n.val * 256 + k.val, by omega⟩ j))
    (acc : FVec Ideal S512x1024 .f32) (r : Fin 512) (j : Fin 1024) (v : EReal) (ha : acc (ix2 r j) = v) :
    k0_pay14 (F := Ideal) (k0_pay10 xn wu) (k0_pay11 xn wg f0 f1 f2 cr) acc wd (ix2 r j)
      = v + part a0 a1 a2 a3 a4 a5 a6 a7 a8 a9 a10 a11 b (s r) j n := by
  rw [acc_pay, ha, part]
  refine congrArg (v + ·) (Finset.sum_congr rfl fun c _ => ?_)
  rw [gc_eq a0 a1 a2 a3 a4 a5 a6 a7 a8 a9 a10 xn b s hn (n.val * 256) (by omega) wg hg q hs f0 f1 f2 hf0 hf1 hf2 cr hc r c, hd]
  refine congrArg (fun u => act _ u * _) ((g_eq a0 a1 a2 a3 a4 a5 a6 a7 a8 a9 xn b s hn (2816 + n.val * 256) (by omega) wu hu r c).trans ?_)
  exact congrArg (fun i => At.up a0 a1 a2 a3 a4 a5 a6 a7 a8 a9 b (s r) i) (Fin.ext (by simp only; omega))

end Cert.FfnIdeal.Pure

end

end
-- ==== Proof.FfnBlk.lean ====
/- The blocks of the merge and feed-forward call: what each input block of a grid point holds, index by index, in
   terms of the program's arguments. -/
module

public import proofs.«01_k».proof.Proof.FfnPure
public import proofs.«01_k».proof.Proof.FfnIdealRuns
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)
open scoped BigOperators

namespace Cert.FfnIdeal.Val

open Cert.FfnIdeal Cert.FfnIdeal.Gen Cert.FfnIdeal.Hand Cert.Rows Cert.FfnRow Cert.FfnIdeal.Pure

variable (m : (ℓ : Loc nD τ sig) → Buf (Elt Ideal) ℓ)

theorem idx (hO : Ok m) (t : Fin (cfgM m hO).N) : ((cfgM m hO).win 0).index t = ![t.val, 0]
    ∧ ((cfgM m hO).win 1).index t = ![t.val, 0]
    ∧ ((cfgM m hO).win 2).index t = ![t.val, 0]
    ∧ ((cfgM m hO).win 3).index t = ![t.val, 0]
    ∧ ((cfgM m hO).win 4).index t = ![t.val, 0]
    ∧ ((cfgM m hO).win 5).index t = ![0, 0]
    ∧ ((cfgM m hO).win 6).index t = ![0, 0]
    ∧ ((cfgM m hO).win 7).index t = ![0, 0]
    ∧ ((cfgM m hO).win 8).index t = ![0, 0]
    ∧ ((cfgM m hO).win 9).index t = ![0, 0]
    ∧ ((cfgM m hO).win 10).index t = ![0, 0]
    ∧ ((cfgM m hO).win 11).index t = ![0, 0]
    ∧ ((cfgM m hO).win 13).index t = ![t.val, 0]
    ∧ ((cfgM m hO).win 14).index t = ![t.val / 4, 0, 0] :=
  (by decide +kernel : ∀ t : Fin grid0.N, cc0_transform_0 (grid0.coords t) = ![t.val, 0]
    ∧ cc0_transform_1 (grid0.coords t) = ![t.val, 0]
    ∧ cc0_transform_2 (grid0.coords t) = ![t.val, 0]
    ∧ cc0_transform_3 (grid0.coords t) = ![t.val, 0]
    ∧ cc0_transform_4 (grid0.coords t) = ![t.val, 0]
    ∧ cc0_transform_5 (grid0.coords t) = ![0, 0]
    ∧ cc0_transform_6 (grid0.coords t) = ![0, 0]
    ∧ cc0_transform_7 (grid0.coords t) = ![0, 0]
    ∧ cc0_transform_8 (grid0.coords t) = ![0, 0]
    ∧ cc0_transform_9 (grid0.coords t) = ![0, 0]
    ∧ cc0_transform_10 (grid0.coords t) = ![0, 0]
    ∧ cc0_transform_11 (grid0.coords t) = ![0, 0]
    ∧ cc0_transform_14 (grid0.coords t) = ![t.val, 0]
    ∧ cc0_transform_15 (grid0.coords t) = ![t.val / 4, 0, 0]) t

/-- The sequence a tile belongs to. -/
def sq (t : Fin grid0.N) : Fin 8 := ⟨t.val / 4, by have := lt_of_lt_of_eq t.isLt N_0; omega⟩

/-- The row of its sequence that a tile's row is. -/
def tm (t : Fin grid0.N) (r : Fin 512) : Fin 2048 := ⟨t.val % 4 * 512 + r.val, by omega⟩

theorem xcast (a : FVec Ideal S8x2048x1024 .f32) (r : Fin 16384) (k : Fin 1024) :
    (shapeCast S16384x1024 a shapeCasts_S8x2048x1024_S16384x1024 : FVec Ideal S16384x1024 .f32) (ix2 r k)
      = a (ix3 ⟨r.val / 2048, by omega⟩ ⟨r.val % 2048, by omega⟩ k) := by
  pointwise []

theorem atcast (a : FVec Ideal S8x2048x512 .bf16) (r : Fin 16384) (k : Fin 512) :
    (shapeCast S16384x512 a shapeCasts_S8x2048x512_S16384x512 : FVec Ideal S16384x512 .bf16) (ix2 r k)
      = a (ix3 ⟨r.val / 2048, by omega⟩ ⟨r.val % 2048, by omega⟩ k) := by
  pointwise []

theorem wacast (a : FVec Ideal S1x512x1024 .f32) (k : Fin 512) (j : Fin 1024) :
    (truncf .bf16 (shapeCast S512x1024 a shapeCasts_S1x512x1024_S512x1024) bitsLt_bf16_f32 : FVec Ideal S512x1024 .bf16) (ix2 k j)
      = a (ix3 0 k j) := by
  pointwise []

theorem wocast (a : FVec Ideal S1x1024x1024 .f32) (k : Fin 1024) (j : Fin 1024) :
    (truncf .bf16 (shapeCast S1024x1024 a shapeCasts_S1x1024x1024_S1024x1024) bitsLt_bf16_f32 : FVec Ideal S1024x1024 .bf16) (ix2 k j)
      = a (ix3 0 k j) := by
  pointwise []

theorem wupcast (a : FVec Ideal S1x1024x5632 .f32) (k : Fin 1024) (j : Fin 5632) :
    (truncf .bf16 (shapeCast S1024x5632 a shapeCasts_S1x1024x5632_S1024x5632) bitsLt_bf16_f32 : FVec Ideal S1024x5632 .bf16) (ix2 k j)
      = a (ix3 0 k j) := by
  pointwise []

theorem wdcast (a : FVec Ideal S1x2816x1024 .f32) (k : Fin 2816) (j : Fin 1024) :
    (truncf .bf16 (shapeCast S2816x1024 a shapeCasts_S1x2816x1024_S2816x1024) bitsLt_bf16_f32 : FVec Ideal S2816x1024 .bf16) (ix2 k j)
      = a (ix3 0 k j) := by
  pointwise []

theorem x_at (hO : Ok m) (c : Dev nD) (t : Fin (cfgM m hO).N) (r : Fin 512) (k : Fin 1024) :
    (show FVec Ideal S512x1024 .f32 from iblk m hO c 0 t) (ix2 r k)
      = (show FVec Ideal S8x2048x1024 .f32 from m ((c : Thread nD τ).loc main_arg0)) (ix3 (sq t) (tm t r) k) := by
  have ht : t.val < 32 := lt_of_lt_of_eq t.isLt N_0
  trans (show FVec Ideal S16384x1024 .f32 from V m c (Pipeline.arrRef spec0 0)) (ix2 ⟨t.val * 512 + r.val, by omega⟩ k)
  · blk_ext [iblk, idx m hO t]
  · show StableHlo.after _ _ _ _ = _
    simp only [List.flatten_cons, List.flatten_nil, List.append_nil, hostOps0, List.cons_append, List.nil_append]
    entry_read
    refine (xcast _ _ k).trans ?_
    exact congrArg₂ (fun i j => (show FVec Ideal S8x2048x1024 .f32 from m ((c : Thread nD τ).loc main_arg0)) (ix3 i j k))
      (Fin.ext (by simp only [sq]; omega)) (Fin.ext (by simp only [tm]; omega))

theorem at_at (hO : Ok m) (c : Dev nD) (t : Fin (cfgM m hO).N) (r : Fin 512) (k : Fin 512) :
    (show FVec Ideal S512x512 .bf16 from iblk m hO c 1 t) (ix2 r k)
      = (show FVec Ideal S8x2048x512 .bf16 from m ((c : Thread nD τ).loc main_arg1)) (ix3 (sq t) (tm t r) k) := by
  have ht : t.val < 32 := lt_of_lt_of_eq t.isLt N_0
  trans (show FVec Ideal S16384x512 .bf16 from V m c (Pipeline.arrRef spec0 1)) (ix2 ⟨t.val * 512 + r.val, by omega⟩ k)
  · blk_ext [iblk, idx m hO t]
  · show StableHlo.after _ _ _ _ = _
    simp only [List.flatten_cons, List.flatten_nil, List.append_nil, hostOps0, List.cons_append, List.nil_append]
    entry_read
    refine (atcast _ _ k).trans ?_
    exact congrArg₂ (fun i j => (show FVec Ideal S8x2048x512 .bf16 from m ((c : Thread nD τ).loc main_arg1)) (ix3 i j k))
      (Fin.ext (by simp only [sq]; omega)) (Fin.ext (by simp only [tm]; omega))

theorem si_at (hO : Ok m) (c : Dev nD) (t : Fin (cfgM m hO).N) (r : Fin 512) (k : Fin 512) :
    (show FVec Ideal S512x512 .bf16 from iblk m hO c 2 t) (ix2 r k)
      = (show FVec Ideal S16384x512 .bf16 from m ((c : Thread nD τ).loc main_arg2)) (ix2 ⟨(sq t).val * 2048 + (tm t r).val, by omega⟩ k) := by
  have ht : t.val < 32 := lt_of_lt_of_eq t.isLt N_0
  trans (show FVec Ideal S16384x512 .bf16 from V m c (Pipeline.arrRef spec0 2)) (ix2 ⟨t.val * 512 + r.val, by omega⟩ k)
  · blk_ext [iblk, idx m hO t]
  · rw [show V m c (Pipeline.arrRef spec0 2) = m ((c : Thread nD τ).loc main_arg2) from V_main_arg2 m c]
    exact congrArg (fun i => (show FVec Ideal S16384x512 .bf16 from m ((c : Thread nD τ).loc main_arg2)) (ix2 i k)) (Fin.ext (by simp only [sq, tm]; omega))

theorem ga_at (hO : Ok m) (c : Dev nD) (t : Fin (cfgM m hO).N) (r : Fin 512) (k : Fin 1024) :
    (show FVec Ideal S512x1024 .bf16 from iblk m hO c 3 t) (ix2 r k)
      = (show FVec Ideal S16384x1024 .bf16 from m ((c : Thread nD τ).loc main_arg3)) (ix2 ⟨(sq t).val * 2048 + (tm t r).val, by omega⟩ k) := by
  have ht : t.val < 32 := lt_of_lt_of_eq t.isLt N_0
  trans (show FVec Ideal S16384x1024 .bf16 from V m c (Pipeline.arrRef spec0 3)) (ix2 ⟨t.val * 512 + r.val, by omega⟩ k)
  · blk_ext [iblk, idx m hO t]
  · rw [show V m c (Pipeline.arrRef spec0 3) = m ((c : Thread nD τ).loc main_arg3) from V_main_arg3 m c]
    exact congrArg (fun i => (show FVec Ideal S16384x1024 .bf16 from m ((c : Thread nD τ).loc main_arg3)) (ix2 i k)) (Fin.ext (by simp only [sq, tm]; omega))

theorem gb_at (hO : Ok m) (c : Dev nD) (t : Fin (cfgM m hO).N) (r : Fin 512) (k : Fin 1024) :
    (show FVec Ideal S512x1024 .bf16 from iblk m hO c 4 t) (ix2 r k)
      = (show FVec Ideal S16384x1024 .bf16 from m ((c : Thread nD τ).loc main_arg4)) (ix2 ⟨(sq t).val * 2048 + (tm t r).val, by omega⟩ k) := by
  have ht : t.val < 32 := lt_of_lt_of_eq t.isLt N_0
  trans (show FVec Ideal S16384x1024 .bf16 from V m c (Pipeline.arrRef spec0 4)) (ix2 ⟨t.val * 512 + r.val, by omega⟩ k)
  · blk_ext [iblk, idx m hO t]
  · rw [show V m c (Pipeline.arrRef spec0 4) = m ((c : Thread nD τ).loc main_arg4) from V_main_arg4 m c]
    exact congrArg (fun i => (show FVec Ideal S16384x1024 .bf16 from m ((c : Thread nD τ).loc main_arg4)) (ix2 i k)) (Fin.ext (by simp only [sq, tm]; omega))

theorem wa_at (hO : Ok m) (c : Dev nD) (t : Fin (cfgM m hO).N) (k : Fin 512) (j : Fin 1024) :
    (show FVec Ideal S512x1024 .bf16 from iblk m hO c 5 t) (ix2 k j)
      = (show FVec Ideal S1x512x1024 .f32 from m ((c : Thread nD τ).loc main_arg5)) (ix3 0 k j) := by
  have ht : t.val < 32 := lt_of_lt_of_eq t.isLt N_0
  trans (show FVec Ideal S512x1024 .bf16 from V m c (Pipeline.arrRef spec0 5)) (ix2 k j)
  · blk_ext [iblk, idx m hO t]
  · show StableHlo.after _ _ _ _ = _
    simp only [List.flatten_cons, List.flatten_nil, List.append_nil, hostOps0, List.cons_append, List.nil_append]
    entry_read
    exact wacast _ k j

theorem wc_at (hO : Ok m) (c : Dev nD) (t : Fin (cfgM m hO).N) (k : Fin 512) (j : Fin 1024) :
    (show FVec Ideal S512x1024 .bf16 from iblk m hO c 6 t) (ix2 k j)
      = (show FVec Ideal S1x512x1024 .f32 from m ((c : Thread nD τ).loc main_arg6)) (ix3 0 k j) := by
  have ht : t.val < 32 := lt_of_lt_of_eq t.isLt N_0
  trans (show FVec Ideal S512x1024 .bf16 from V m c (Pipeline.arrRef spec0 6)) (ix2 k j)
  · blk_ext [iblk, idx m hO t]
  · show StableHlo.after _ _ _ _ = _
    simp only [List.flatten_cons, List.flatten_nil, List.append_nil, hostOps0, List.cons_append, List.nil_append]
    entry_read
    exact wacast _ k j

theorem wo_at (hO : Ok m) (c : Dev nD) (t : Fin (cfgM m hO).N) (k : Fin 1024) (j : Fin 1024) :
    (show FVec Ideal S1024x1024 .bf16 from iblk m hO c 7 t) (ix2 k j)
      = (show FVec Ideal S1x1024x1024 .f32 from m ((c : Thread nD τ).loc main_arg7)) (ix3 0 k j) := by
  have ht : t.val < 32 := lt_of_lt_of_eq t.isLt N_0
  trans (show FVec Ideal S1024x1024 .bf16 from V m c (Pipeline.arrRef spec0 7)) (ix2 k j)
  · blk_ext [iblk, idx m hO t]
  · show StableHlo.after _ _ _ _ = _
    simp only [List.flatten_cons, List.flatten_nil, List.append_nil, hostOps0, List.cons_append, List.nil_append]
    entry_read
    exact wocast _ k j

theorem wup_at (hO : Ok m) (c : Dev nD) (t : Fin (cfgM m hO).N) (k : Fin 1024) (j : Fin 5632) :
    (show FVec Ideal S1024x5632 .bf16 from iblk m hO c 9 t) (ix2 k j)
      = (show FVec Ideal S1x1024x5632 .f32 from m ((c : Thread nD τ).loc main_arg9)) (ix3 0 k j) := by
  have ht : t.val < 32 := lt_of_lt_of_eq t.isLt N_0
  trans (show FVec Ideal S1024x5632 .bf16 from V m c (Pipeline.arrRef spec0 9)) (ix2 k j)
  · blk_ext [iblk, idx m hO t]
  · show StableHlo.after _ _ _ _ = _
    simp only [List.flatten_cons, List.flatten_nil, List.append_nil, hostOps0, List.cons_append, List.nil_append]
    entry_read
    exact wupcast _ k j

theorem wd_at (hO : Ok m) (c : Dev nD) (t : Fin (cfgM m hO).N) (k : Fin 2816) (j : Fin 1024) :
    (show FVec Ideal S2816x1024 .bf16 from iblk m hO c 11 t) (ix2 k j)
      = (show FVec Ideal S1x2816x1024 .f32 from m ((c : Thread nD τ).loc main_arg11)) (ix3 0 k j) := by
  have ht : t.val < 32 := lt_of_lt_of_eq t.isLt N_0
  trans (show FVec Ideal S2816x1024 .bf16 from V m c (Pipeline.arrRef spec0 11)) (ix2 k j)
  · blk_ext [iblk, idx m hO t]
  · show StableHlo.after _ _ _ _ = _
    simp only [List.flatten_cons, List.flatten_nil, List.append_nil, hostOps0, List.cons_append, List.nil_append]
    entry_read
    exact wdcast _ k j

theorem n_at (hO : Ok m) (c : Dev nD) (t : Fin (cfgM m hO).N) (k : Fin 1024) :
    (show FVec Ideal S1x1024 .f32 from iblk m hO c 8 t) (ix2 0 k)
      = (show FVec Ideal S1x1024 .f32 from m ((c : Thread nD τ).loc main_arg8)) (ix2 0 k) := by
  have ht : t.val < 32 := lt_of_lt_of_eq t.isLt N_0
  trans (show FVec Ideal S1x1024 .f32 from V m c (Pipeline.arrRef spec0 8)) (ix2 0 k)
  · blk_ext [iblk, idx m hO t]
  · show StableHlo.after _ _ _ _ = _
    simp only [List.flatten_cons, List.flatten_nil, List.append_nil, hostOps0, List.cons_append, List.nil_append]
    entry_read
    pointwise []

theorem f_at (hO : Ok m) (c : Dev nD) (t : Fin (cfgM m hO).N) (k : Fin 3) (j : Fin 2816) :
    (show FVec Ideal S3x2816 .f32 from iblk m hO c 10 t) (ix2 k j)
      = (show FVec Ideal S1x3x2816 .f32 from m ((c : Thread nD τ).loc main_arg10)) (ix3 0 k j) := by
  have ht : t.val < 32 := lt_of_lt_of_eq t.isLt N_0
  trans (show FVec Ideal S3x2816 .f32 from V m c (Pipeline.arrRef spec0 10)) (ix2 k j)
  · blk_ext [iblk, idx m hO t]
  · show StableHlo.after _ _ _ _ = _
    simp only [List.flatten_cons, List.flatten_nil, List.append_nil, hostOps0, List.cons_append, List.nil_append]
    entry_read
    pointwise []

/-- Columns of the up projection from `o` on, read from the block. -/
theorem wcol (hO : Ok m) (c : Dev nD) (t : Fin (cfgM m hO).N) (o : Nat) (h : o + 256 ≤ 5632) {inb} (k : Fin 1024) (j : Fin 256) :
    View.ld (iblk m hO c 9 t) (Rect.unit (s := S1024x5632) ![0, o] ![1024, 256] inb) (ix2 k j)
      = (show FVec Ideal S1x1024x5632 .f32 from m ((c : Thread nD τ).loc main_arg9)) (ix3 0 k ⟨o + j.val, by omega⟩) := by
  refine Eq.trans ?_ (wup_at m hO c t k ⟨o + j.val, by omega⟩)
  exact View.ld_unit_apply_of (S := S1024x5632) (Val := Elt Ideal) (e := .bf16) (iblk m hO c 9 t) ![0, o] ![1024, 256] inb (ix2 k j) (ix2 k ⟨o + j.val, by omega⟩)
    fun a => match a with
    | ⟨0, _⟩ => (Nat.zero_add _).symm
    | ⟨1, _⟩ => rfl

/-- Rows of the down projection from `o` on, read from the block. -/
theorem drow (hO : Ok m) (c : Dev nD) (t : Fin (cfgM m hO).N) (o : Nat) (h : o + 256 ≤ 2816) {inb} (k : Fin 256) (j : Fin 1024) :
    View.ld (iblk m hO c 11 t) (Rect.unit (s := S2816x1024) ![o, 0] ![256, 1024] inb) (ix2 k j)
      = (show FVec Ideal S1x2816x1024 .f32 from m ((c : Thread nD τ).loc main_arg11)) (ix3 0 ⟨o + k.val, by omega⟩ j) := by
  refine Eq.trans ?_ (wd_at m hO c t ⟨o + k.val, by omega⟩ j)
  exact View.ld_unit_apply_of (S := S2816x1024) (Val := Elt Ideal) (e := .bf16) (iblk m hO c 11 t) ![o, 0] ![256, 1024] inb (ix2 k j) (ix2 ⟨o + k.val, by omega⟩ j)
    fun a => match a with
    | ⟨0, _⟩ => rfl
    | ⟨1, _⟩ => (Nat.zero_add _).symm

/-- Columns of one tap of the convolution, read from the block. -/
theorem tap (hO : Ok m) (c : Dev nD) (t : Fin (cfgM m hO).N) (i : Fin 3) (o : Nat) (h : o + 256 ≤ 2816) {inb} (j : Fin 256) :
    View.ld (iblk m hO c 10 t) (Rect.unit (s := S3x2816) ![i.val, o] ![1, 256] inb) (ix2 0 j)
      = (show FVec Ideal S1x3x2816 .f32 from m ((c : Thread nD τ).loc main_arg10)) (ix3 0 i ⟨o + j.val, by omega⟩) := by
  refine Eq.trans ?_ (f_at m hO c t i ⟨o + j.val, by omega⟩)
  exact View.ld_unit_apply_of (S := S3x2816) (Val := Elt Ideal) (e := .f32) (iblk m hO c 10 t) ![i.val, o] ![1, 256] inb (ix2 0 j) (ix2 i ⟨o + j.val, by omega⟩)
    fun a => match a with
    | ⟨0, _⟩ => rfl
    | ⟨1, _⟩ => rfl

end Cert.FfnIdeal.Val

end

end
-- ==== Proof.FfnTile.lean ====
/- One grid point of the merge and feed-forward call, over the blocks it loads: the normalised rows, one block of
   gate columns, and the rows kept for the next tile. -/
module

public import proofs.«01_k».proof.Proof.FfnBlk

@[expose] public section

set_option maxRecDepth 16384

noncomputable section

open Idealize.ShloMosaic Idealize.ShloMosaic.TcCoe Idealize.SL.Sem
open Idealize.ShloMosaic.Pipeline (Dat)
open scoped BigOperators

namespace Cert.FfnIdeal.Val

open Cert.FfnIdeal Cert.FfnIdeal.Gen Cert.FfnIdeal.Hand Cert.Rows Cert.FfnRow Cert.FfnIdeal.Pure

variable (m : (ℓ : Loc nD τ sig) → Buf (Elt Ideal) ℓ)

/-- The merged rows of a tile. -/
abbrev rows (hO : Ok m) (c : Dev nD) (t : Fin (cfgM m hO).N) : FVec Ideal S512x1024 .f32 :=
  k0_pay5 (F := Ideal) (k0_pay2 (iblk m hO c 2 t) (iblk m hO c 6 t)) (k0_pay3 (iblk m hO c 1 t) (iblk m hO c 5 t) (iblk m hO c 3 t)) (k0_pay4 (iblk m hO c 4 t)) half (iblk m hO c 0 t) (iblk m hO c 7 t)

/-- The normalised rows of a tile. -/
abbrev xn (hO : Ok m) (c : Dev nD) (t : Fin (cfgM m hO).N) : FVec Ideal S512x1024 .bf16 :=
  k0_pay6 (F := Ideal) (k0_pay2 (iblk m hO c 2 t) (iblk m hO c 6 t)) (k0_pay3 (iblk m hO c 1 t) (iblk m hO c 5 t) (iblk m hO c 3 t)) (k0_pay4 (iblk m hO c 4 t)) half (iblk m hO c 0 t) (iblk m hO c 7 t) (iblk m hO c 8 t)

theorem rows_eq (hO : Ok m) (c : Dev nD) (t : Fin (cfgM m hO).N) (r : Fin 512) (j : Fin 1024) :
    rows m hO c t (ix2 r j) = Cert.FfnRefIdeal.At.r1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (sq t) (tm t r) j :=
  r1_eq (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) _ _ _ _ _ _ _ _ (sq t) (tm t) (x_at m hO c t) (at_at m hO c t) (si_at m hO c t) (ga_at m hO c t) (gb_at m hO c t)
    (wa_at m hO c t) (wc_at m hO c t) (wo_at m hO c t) r j

theorem normed (hO : Ok m) (c : Dev nD) (t : Fin (cfgM m hO).N) :
    Normed (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (xn m hO c t) (sq t) (tm t) := fun r k => by
  refine (xn_pay _ _ _ _ _ _ r k).trans ?_
  exact congrArg₂ (fun a b => rms a b k) (funext fun k => rows_eq m hO c t r k) (funext fun k => n_at m hO c t k)

/-- The last rows of a tile's gate lanes. -/
def keep (hO : Ok m) (c : Dev nD) (t : Fin (cfgM m hO).N) (y : S8x2816.Idx) : EReal :=
  Cert.FfnRefIdeal.At.up (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (sq t) (tm t ⟨504 + (y 0).val, by have := (y 0).isLt; change (y 0).val < 8 at this; omega⟩) ⟨(y 1).val, by have := (y 1).isLt; change (y 1).val < 2816 at this; omega⟩

/-- The last two rows of a tile's gate lanes. -/
def last (hO : Ok m) (c : Dev nD) (t : Fin (cfgM m hO).N) (y : S1x2x2816.Idx) : EReal :=
  Cert.FfnRefIdeal.At.up (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (sq t) (tm t ⟨510 + (y 1).val, by have := (y 1).isLt; change (y 1).val < 2 at this; omega⟩) ⟨(y 2).val, by have := (y 2).isLt; change (y 2).val < 2816 at this; omega⟩

theorem piece8 (hO : Ok m) (c : Dev nD) (t : Fin (cfgM m hO).N) (o : Nat) (ho : o + 256 ≤ 2816) {inb inb'} (x : (Rect.unit (s := S8x2816) ![0, o] ![8, 256] inb).shape.Idx) :
    k0_pay12 (F := Ideal) (xn m hO c t) (View.ld (iblk m hO c 9 t) (Rect.unit (s := S1024x5632) ![0, o] ![1024, 256] inb')) x
      = keep m hO c t ((Rect.unit (s := S8x2816) ![0, o] ![8, 256] inb).emb x) := by
  obtain ⟨i, j, rfl⟩ : ∃ (i : Fin 8) (j : Fin 256), x = ix2 i j := ⟨x 0, x 1, by blk_ext⟩
  refine (last8 _ _ i j).trans ?_
  refine (g_eq (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (xn m hO c t) (sq t) (tm t) (normed m hO c t) o (by omega) _ (wcol m hO c t o (by omega)) _ j).trans ?_
  unfold keep
  refine congrArg₂ (fun a b => Cert.FfnRefIdeal.At.up (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (sq t) a b) (congrArg (tm t) (Fin.ext ?_)) (Fin.ext ?_)
  · exact congrArg (504 + ·) ((Rect.idx_unit_val (s := S8x2816) ![0, o] ![8, 256] inb (ix2 i j) 0).trans (Nat.zero_add _)).symm
  · exact (Rect.idx_unit_val (s := S8x2816) ![0, o] ![8, 256] inb (ix2 i j) 1).symm

theorem piece2 (hO : Ok m) (c : Dev nD) (t : Fin (cfgM m hO).N) (o : Nat) (ho : o + 256 ≤ 2816) {inb inb'} (x : (Rect.unit (s := S1x2x2816) ![0, 0, o] ![1, 2, 256] inb).shape.Idx) :
    k0_pay13 (F := Ideal) (xn m hO c t) (View.ld (iblk m hO c 9 t) (Rect.unit (s := S1024x5632) ![0, o] ![1024, 256] inb')) x
      = last m hO c t ((Rect.unit (s := S1x2x2816) ![0, 0, o] ![1, 2, 256] inb).emb x) := by
  obtain ⟨i, j, rfl⟩ : ∃ (i : Fin 2) (j : Fin 256), x = ix3 0 i j := ⟨x 1, x 2, by blk_ext⟩
  refine (last2 _ _ i j).trans ?_
  refine (g_eq (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (xn m hO c t) (sq t) (tm t) (normed m hO c t) o (by omega) _ (wcol m hO c t o (by omega)) _ j).trans ?_
  unfold last
  refine congrArg₂ (fun a b => Cert.FfnRefIdeal.At.up (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (sq t) a b) (congrArg (tm t) (Fin.ext ?_)) (Fin.ext ?_)
  · exact congrArg (510 + ·) ((Rect.idx_unit_val (s := S1x2x2816) ![0, 0, o] ![1, 2, 256] inb (ix3 0 i j) 1).trans (Nat.zero_add _)).symm
  · exact (Rect.idx_unit_val (s := S1x2x2816) ![0, 0, o] ![1, 2, 256] inb (ix3 0 i j) 2).symm

/-- What a block of the kept rows must hold for a tile: the two rows before it. -/
def Before (hO : Ok m) (c : Dev nD) (t : Fin (cfgM m hO).N) (n : Fin 11) (cr : FVec Ideal S8x256 .f32) : Prop :=
  ∀ (i : Fin 2) (j : Fin 2050) (e : Fin 256), j.val = t.val % 4 * 512 + i.val →
    cr (ix2 ⟨6 + i.val, by omega⟩ e) = Cert.FfnRefIdeal.At.z (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (sq t) j ⟨n.val * 256 + e.val, by omega⟩

theorem before_first (hO : Ok m) (c : Dev nD) (t : Fin (cfgM m hO).N) (h : t.val % 4 = 0) (n : Fin 11) (cr : FVec Ideal S8x256 .f32)
    (hc : ∀ y, cr y = 0) : Before m hO c t n cr := fun i j e hj => by
  rw [hc]; unfold Cert.FfnRefIdeal.At.z
  rw [dif_pos (by omega)]; exact Ideal.ofBits_zero_f32.symm

theorem before_next (hO : Ok m) (c : Dev nD) (t t' : Fin (cfgM m hO).N) (h : ¬t.val % 4 = 0) (ht : t'.val = t.val - 1) (n : Fin 11) (o : Nat) (ho : o = n.val * 256) {inb}
    (X : FVec Ideal S8x2816 .f32) (hX : ∀ y, X y = keep m hO c t' y) :
    Before m hO c t n (View.ld (Val := Elt Ideal) (e' := .f32) X (Rect.unit (s := S8x2816) ![0, o] ![8, 256] inb)) := fun i j e hj => by
  subst ho
  have := n.isLt
  refine (View.ld_unit_apply_of (S := S8x2816) (Val := Elt Ideal) (e := .f32) X ![0, n.val * 256] ![8, 256] inb (ix2 ⟨6 + i.val, by omega⟩ e) (ix2 ⟨6 + i.val, by omega⟩ ⟨n.val * 256 + e.val, by omega⟩)
    fun a => match a with
    | ⟨0, _⟩ => (Nat.zero_add _).symm
    | ⟨1, _⟩ => rfl).trans ?_
  refine (hX _).trans ?_
  unfold keep Cert.FfnRefIdeal.At.z
  have ht4 : t'.val / 4 = t.val / 4 := by omega
  have ht5 : t'.val % 4 * 512 + 512 = t.val % 4 * 512 := by omega
  rw [dif_neg (by omega)]
  refine congr (congr (congrArg (Cert.FfnRefIdeal.At.up (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) (Fin.ext ?_)) (Fin.ext ?_)) (Fin.ext ?_)
  · exact ht4
  · show t'.val % 4 * 512 + (504 + (6 + i.val)) = j.val - 2
    omega
  · rfl

theorem zero_at (R : Rect S8x2816) (y : R.shape.Idx) : View.ld (Val := Elt Ideal) (e' := .f32) (k0_pay8 (F := Ideal)) R y = 0 := by
  have h : R.emb y = ix2 (R.emb y 0) (R.emb y 1) := by blk_ext
  exact (congrArg (k0_pay8 (F := Ideal)) h).trans (zeros _ _)

/-- One block of gate columns added to the rows so far. -/
theorem step (hO : Ok m) (c : Dev nD) (t : Fin (cfgM m hO).N) (n : Fin 11) (o o' : Nat) (ho : o = n.val * 256) (ho' : o' = 2816 + n.val * 256) {i1 i2 i3 i4 i5 i6}
    (cr : FVec Ideal S8x256 .f32) (hc : Before m hO c t n cr) (acc : FVec Ideal S512x1024 .f32) (r : Fin 512) (j : Fin 1024) (v : EReal) (ha : acc (ix2 r j) = v) :
    k0_pay14 (F := Ideal) (k0_pay10 (xn m hO c t) (View.ld (iblk m hO c 9 t) (Rect.unit (s := S1024x5632) ![0, o'] ![1024, 256] i1)))
      (k0_pay11 (xn m hO c t) (View.ld (iblk m hO c 9 t) (Rect.unit (s := S1024x5632) ![0, o] ![1024, 256] i2))
        (View.ld (iblk m hO c 10 t) (Rect.unit (s := S3x2816) ![0, o] ![1, 256] i3)) (View.ld (iblk m hO c 10 t) (Rect.unit (s := S3x2816) ![1, o] ![1, 256] i4))
        (View.ld (iblk m hO c 10 t) (Rect.unit (s := S3x2816) ![2, o] ![1, 256] i5)) cr)
      acc (View.ld (iblk m hO c 11 t) (Rect.unit (s := S2816x1024) ![o, 0] ![256, 1024] i6)) (ix2 r j)
      = v + part (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (sq t) (tm t r) j n := by
  subst ho; subst ho'
  have := n.isLt
  exact acc_eq (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (xn m hO c t) (sq t) (tm t) (normed m hO c t) n _ _ (wcol m hO c t (n.val * 256) (by omega)) (wcol m hO c t (2816 + n.val * 256) (by omega))
    (t.val % 4 * 512) (fun _ => rfl) _ _ _ (tap m hO c t 0 (n.val * 256) (by omega)) (tap m hO c t 1 (n.val * 256) (by omega)) (tap m hO c t 2 (n.val * 256) (by omega))
    cr hc _ (drow m hO c t (n.val * 256) (by omega)) acc r j v ha

theorem sum11 (f : Fin 11 → EReal) (v : EReal) :
    v + f 0 + f 1 + f 2 + f 3 + f 4 + f 5 + f 6 + f 7 + f 8 + f 9 + f 10 = v + ∑ n, f n := by
  simp only [Fin.sum_univ_castSucc, Fin.sum_univ_zero, zero_add, ← add_assoc]
  rfl

end Cert.FfnIdeal.Val

end

end
-- ==== Proof.FfnVal.lean ====
/- The merge and feed-forward call's results after the run, in the reference's terms. -/
module

public import proofs.«01_k».proof.Proof.FfnTile
public import proofs.«01_k».proof.Proof.FfnIdealFrame
public import Idealize.ShloMosaic.Lib.Pipeline.ReadBack
public import Idealize.ShloMosaic.Lib.Pipeline.Covers

@[expose] public section

set_option maxRecDepth 16384

noncomputable section

open Idealize.ShloMosaic Idealize.ShloMosaic.TcCoe Idealize.SL.Sem
open Idealize.ShloMosaic.Pipeline (Dat)
open scoped BigOperators

namespace Cert.FfnIdeal.Val

open Cert.FfnIdeal Cert.FfnIdeal.Gen Cert.FfnIdeal.Hand Cert.Rows Cert.FfnRow Cert.FfnIdeal.Pure

variable (m : (ℓ : Loc nD τ sig) → Buf (Elt Ideal) ℓ) (hO : Ok m) (hH : Hyps m hO)

set_option maxHeartbeats 6400000 in
/-- The rows kept for the next tile, at a sequence's first tile: the last eight of every gate lane. -/
theorem kept_A (c : Dev nD) (t : Fin (cfgM m hO).N) (y : S8x2816.Idx) (e : t.val % 4 = 0) :
    (outsAt0 m hO hH c t.val t.isLt).2.2 y = keep m hO c t y := by
  rw [outsAt0_A m hO hH c t e]; frame_out
  have e0 : View.read (Elt Ideal) (ms0_0 m hO t).view ((hs0_0 m hO t).unread (iblk m hO c 0 t)) = iblk m hO c 0 t := (hs0_0 m hO t).read_unread _
  have e1 : View.read (Elt Ideal) (ms0_1 m hO t).view ((hs0_1 m hO t).unread (iblk m hO c 1 t)) = iblk m hO c 1 t := (hs0_1 m hO t).read_unread _
  have e2 : View.read (Elt Ideal) (ms0_2 m hO t).view ((hs0_2 m hO t).unread (iblk m hO c 2 t)) = iblk m hO c 2 t := (hs0_2 m hO t).read_unread _
  have e3 : View.read (Elt Ideal) (ms0_3 m hO t).view ((hs0_3 m hO t).unread (iblk m hO c 3 t)) = iblk m hO c 3 t := (hs0_3 m hO t).read_unread _
  have e4 : View.read (Elt Ideal) (ms0_4 m hO t).view ((hs0_4 m hO t).unread (iblk m hO c 4 t)) = iblk m hO c 4 t := (hs0_4 m hO t).read_unread _
  have e5 : View.read (Elt Ideal) (ms0_5 m hO t).view ((hs0_5 m hO t).unread (iblk m hO c 5 t)) = iblk m hO c 5 t := (hs0_5 m hO t).read_unread _
  have e6 : View.read (Elt Ideal) (ms0_6 m hO t).view ((hs0_6 m hO t).unread (iblk m hO c 6 t)) = iblk m hO c 6 t := (hs0_6 m hO t).read_unread _
  have e7 : View.read (Elt Ideal) (ms0_7 m hO t).view ((hs0_7 m hO t).unread (iblk m hO c 7 t)) = iblk m hO c 7 t := (hs0_7 m hO t).read_unread _
  have e8 : View.read (Elt Ideal) (ms0_8 m hO t).view ((hs0_8 m hO t).unread (iblk m hO c 8 t)) = iblk m hO c 8 t := (hs0_8 m hO t).read_unread _
  have e9 : View.read (Elt Ideal) (ms0_9 m hO t).view ((hs0_9 m hO t).unread (iblk m hO c 9 t)) = iblk m hO c 9 t := (hs0_9 m hO t).read_unread _
  have e10 : View.read (Elt Ideal) (ms0_10 m hO t).view ((hs0_10 m hO t).unread (iblk m hO c 10 t)) = iblk m hO c 10 t := (hs0_10 m hO t).read_unread _
  have e11 : View.read (Elt Ideal) (ms0_11 m hO t).view ((hs0_11 m hO t).unread (iblk m hO c 11 t)) = iblk m hO c 11 t := (hs0_11 m hO t).read_unread _
  have eh : FloatOps.ofBits (F := Ideal) FTy.f32 1056964608#32 = half := rfl
  simp only [eh, e0, e1, e2, e3, e4, e5, e6, e7, e8, e9, e10, e11]
  refine View.canon_append_of_piecesOf (Val := Elt Ideal) (e := .f32) (keep m hO c t) [_] [_, _, _, _, _, _, _, _, _, _, _] ?_ y ?_
  refine ⟨fun x => ?_, fun x => ?_, fun x => ?_, fun x => ?_, fun x => ?_, fun x => ?_, fun x => ?_, fun x => ?_, fun x => ?_, fun x => ?_, fun x => ?_, trivial⟩
  · exact (congrFun (last8_10 _ _) _).trans (piece8 m hO c t 2560 (by omega) (inb := inb_S8x2816_S8x256_0_2560) x)
  · exact (congrFun (last8_9 _ _) _).trans (piece8 m hO c t 2304 (by omega) (inb := inb_S8x2816_S8x256_0_2304) x)
  · exact (congrFun (last8_8 _ _) _).trans (piece8 m hO c t 2048 (by omega) (inb := inb_S8x2816_S8x256_0_2048) x)
  · exact (congrFun (last8_7 _ _) _).trans (piece8 m hO c t 1792 (by omega) (inb := inb_S8x2816_S8x256_0_1792) x)
  · exact (congrFun (last8_6 _ _) _).trans (piece8 m hO c t 1536 (by omega) (inb := inb_S8x2816_S8x256_0_1536) x)
  · exact (congrFun (last8_5 _ _) _).trans (piece8 m hO c t 1280 (by omega) (inb := inb_S8x2816_S8x256_0_1280) x)
  · exact (congrFun (last8_4 _ _) _).trans (piece8 m hO c t 1024 (by omega) (inb := inb_S8x2816_S8x256_0_1024) x)
  · exact (congrFun (last8_3 _ _) _).trans (piece8 m hO c t 768 (by omega) (inb := inb_S8x2816_S8x256_0_768) x)
  · exact (congrFun (last8_2 _ _) _).trans (piece8 m hO c t 512 (by omega) (inb := inb_S8x2816_S8x256_0_512) x)
  · exact (congrFun (last8_1 _ _) _).trans (piece8 m hO c t 256 (by omega) (inb := inb_S8x2816_S8x256_0_256) x)
  · exact piece8 m hO c t 0 (by omega) (inb := inb_S8x2816_S8x256_0_0) x
  exact View.cover_of_tiledL _ ![8, 256] (by sl_kernel_rfl) y

set_option maxHeartbeats 6400000 in
/-- The rows kept for the next tile, at a later tile. -/
theorem kept_B (c : Dev nD) (t : Fin (cfgM m hO).N) (y : S8x2816.Idx) (e : ¬t.val % 4 = 0) :
    (outsAt0 m hO hH c t.val t.isLt).2.2 y = keep m hO c t y := by
  rw [outsAt0_B m hO hH c t e]; frame_out
  have e0 : View.read (Elt Ideal) (ms0_0 m hO t).view ((hs0_0 m hO t).unread (iblk m hO c 0 t)) = iblk m hO c 0 t := (hs0_0 m hO t).read_unread _
  have e1 : View.read (Elt Ideal) (ms0_1 m hO t).view ((hs0_1 m hO t).unread (iblk m hO c 1 t)) = iblk m hO c 1 t := (hs0_1 m hO t).read_unread _
  have e2 : View.read (Elt Ideal) (ms0_2 m hO t).view ((hs0_2 m hO t).unread (iblk m hO c 2 t)) = iblk m hO c 2 t := (hs0_2 m hO t).read_unread _
  have e3 : View.read (Elt Ideal) (ms0_3 m hO t).view ((hs0_3 m hO t).unread (iblk m hO c 3 t)) = iblk m hO c 3 t := (hs0_3 m hO t).read_unread _
  have e4 : View.read (Elt Ideal) (ms0_4 m hO t).view ((hs0_4 m hO t).unread (iblk m hO c 4 t)) = iblk m hO c 4 t := (hs0_4 m hO t).read_unread _
  have e5 : View.read (Elt Ideal) (ms0_5 m hO t).view ((hs0_5 m hO t).unread (iblk m hO c 5 t)) = iblk m hO c 5 t := (hs0_5 m hO t).read_unread _
  have e6 : View.read (Elt Ideal) (ms0_6 m hO t).view ((hs0_6 m hO t).unread (iblk m hO c 6 t)) = iblk m hO c 6 t := (hs0_6 m hO t).read_unread _
  have e7 : View.read (Elt Ideal) (ms0_7 m hO t).view ((hs0_7 m hO t).unread (iblk m hO c 7 t)) = iblk m hO c 7 t := (hs0_7 m hO t).read_unread _
  have e8 : View.read (Elt Ideal) (ms0_8 m hO t).view ((hs0_8 m hO t).unread (iblk m hO c 8 t)) = iblk m hO c 8 t := (hs0_8 m hO t).read_unread _
  have e9 : View.read (Elt Ideal) (ms0_9 m hO t).view ((hs0_9 m hO t).unread (iblk m hO c 9 t)) = iblk m hO c 9 t := (hs0_9 m hO t).read_unread _
  have e10 : View.read (Elt Ideal) (ms0_10 m hO t).view ((hs0_10 m hO t).unread (iblk m hO c 10 t)) = iblk m hO c 10 t := (hs0_10 m hO t).read_unread _
  have e11 : View.read (Elt Ideal) (ms0_11 m hO t).view ((hs0_11 m hO t).unread (iblk m hO c 11 t)) = iblk m hO c 11 t := (hs0_11 m hO t).read_unread _
  have eh : FloatOps.ofBits (F := Ideal) FTy.f32 1056964608#32 = half := rfl
  simp only [eh, e0, e1, e2, e3, e4, e5, e6, e7, e8, e9, e10, e11]
  refine View.canon_append_of_piecesOf (Val := Elt Ideal) (e := .f32) (keep m hO c t) [] [_, _, _, _, _, _, _, _, _, _, _] ?_ y ?_
  refine ⟨fun x => ?_, fun x => ?_, fun x => ?_, fun x => ?_, fun x => ?_, fun x => ?_, fun x => ?_, fun x => ?_, fun x => ?_, fun x => ?_, fun x => ?_, trivial⟩
  · exact (congrFun (last8_10 _ _) _).trans (piece8 m hO c t 2560 (by omega) (inb := inb_S8x2816_S8x256_0_2560) x)
  · exact (congrFun (last8_9 _ _) _).trans (piece8 m hO c t 2304 (by omega) (inb := inb_S8x2816_S8x256_0_2304) x)
  · exact (congrFun (last8_8 _ _) _).trans (piece8 m hO c t 2048 (by omega) (inb := inb_S8x2816_S8x256_0_2048) x)
  · exact (congrFun (last8_7 _ _) _).trans (piece8 m hO c t 1792 (by omega) (inb := inb_S8x2816_S8x256_0_1792) x)
  · exact (congrFun (last8_6 _ _) _).trans (piece8 m hO c t 1536 (by omega) (inb := inb_S8x2816_S8x256_0_1536) x)
  · exact (congrFun (last8_5 _ _) _).trans (piece8 m hO c t 1280 (by omega) (inb := inb_S8x2816_S8x256_0_1280) x)
  · exact (congrFun (last8_4 _ _) _).trans (piece8 m hO c t 1024 (by omega) (inb := inb_S8x2816_S8x256_0_1024) x)
  · exact (congrFun (last8_3 _ _) _).trans (piece8 m hO c t 768 (by omega) (inb := inb_S8x2816_S8x256_0_768) x)
  · exact (congrFun (last8_2 _ _) _).trans (piece8 m hO c t 512 (by omega) (inb := inb_S8x2816_S8x256_0_512) x)
  · exact (congrFun (last8_1 _ _) _).trans (piece8 m hO c t 256 (by omega) (inb := inb_S8x2816_S8x256_0_256) x)
  · exact piece8 m hO c t 0 (by omega) (inb := inb_S8x2816_S8x256_0_0) x
  exact View.cover_of_tiledL _ ![8, 256] (by sl_kernel_rfl) y

theorem kept (c : Dev nD) (t : Fin (cfgM m hO).N) (y : S8x2816.Idx) :
    (outsAt0 m hO hH c t.val t.isLt).2.2 y = keep m hO c t y :=
  if e : t.val % 4 = 0 then kept_A m hO hH c t y e else kept_B m hO hH c t y e

set_option maxHeartbeats 6400000 in
/-- The last two rows of every gate lane, as a sequence's first tile leaves them. -/
theorem last_A (c : Dev nD) (t : Fin (cfgM m hO).N) (y : S1x2x2816.Idx) (e : t.val % 4 = 0) :
    (outsAt0 m hO hH c t.val t.isLt).2.1 y = last m hO c t y := by
  rw [outsAt0_A m hO hH c t e]; frame_out
  have e0 : View.read (Elt Ideal) (ms0_0 m hO t).view ((hs0_0 m hO t).unread (iblk m hO c 0 t)) = iblk m hO c 0 t := (hs0_0 m hO t).read_unread _
  have e1 : View.read (Elt Ideal) (ms0_1 m hO t).view ((hs0_1 m hO t).unread (iblk m hO c 1 t)) = iblk m hO c 1 t := (hs0_1 m hO t).read_unread _
  have e2 : View.read (Elt Ideal) (ms0_2 m hO t).view ((hs0_2 m hO t).unread (iblk m hO c 2 t)) = iblk m hO c 2 t := (hs0_2 m hO t).read_unread _
  have e3 : View.read (Elt Ideal) (ms0_3 m hO t).view ((hs0_3 m hO t).unread (iblk m hO c 3 t)) = iblk m hO c 3 t := (hs0_3 m hO t).read_unread _
  have e4 : View.read (Elt Ideal) (ms0_4 m hO t).view ((hs0_4 m hO t).unread (iblk m hO c 4 t)) = iblk m hO c 4 t := (hs0_4 m hO t).read_unread _
  have e5 : View.read (Elt Ideal) (ms0_5 m hO t).view ((hs0_5 m hO t).unread (iblk m hO c 5 t)) = iblk m hO c 5 t := (hs0_5 m hO t).read_unread _
  have e6 : View.read (Elt Ideal) (ms0_6 m hO t).view ((hs0_6 m hO t).unread (iblk m hO c 6 t)) = iblk m hO c 6 t := (hs0_6 m hO t).read_unread _
  have e7 : View.read (Elt Ideal) (ms0_7 m hO t).view ((hs0_7 m hO t).unread (iblk m hO c 7 t)) = iblk m hO c 7 t := (hs0_7 m hO t).read_unread _
  have e8 : View.read (Elt Ideal) (ms0_8 m hO t).view ((hs0_8 m hO t).unread (iblk m hO c 8 t)) = iblk m hO c 8 t := (hs0_8 m hO t).read_unread _
  have e9 : View.read (Elt Ideal) (ms0_9 m hO t).view ((hs0_9 m hO t).unread (iblk m hO c 9 t)) = iblk m hO c 9 t := (hs0_9 m hO t).read_unread _
  have e10 : View.read (Elt Ideal) (ms0_10 m hO t).view ((hs0_10 m hO t).unread (iblk m hO c 10 t)) = iblk m hO c 10 t := (hs0_10 m hO t).read_unread _
  have e11 : View.read (Elt Ideal) (ms0_11 m hO t).view ((hs0_11 m hO t).unread (iblk m hO c 11 t)) = iblk m hO c 11 t := (hs0_11 m hO t).read_unread _
  have eh : FloatOps.ofBits (F := Ideal) FTy.f32 1056964608#32 = half := rfl
  simp only [eh, e0, e1, e2, e3, e4, e5, e6, e7, e8, e9, e10, e11]
  refine View.canon_append_of_piecesOf (Val := Elt Ideal) (e := .f32) (last m hO c t) [] [_, _, _, _, _, _, _, _, _, _, _] ?_ y ?_
  refine ⟨fun x => ?_, fun x => ?_, fun x => ?_, fun x => ?_, fun x => ?_, fun x => ?_, fun x => ?_, fun x => ?_, fun x => ?_, fun x => ?_, fun x => ?_, trivial⟩
  · exact (congrFun (last2_10 _ _) _).trans (piece2 m hO c t 2560 (by omega) (inb := inb_S1x2x2816_S1x2x256_0_0_2560) x)
  · exact (congrFun (last2_9 _ _) _).trans (piece2 m hO c t 2304 (by omega) (inb := inb_S1x2x2816_S1x2x256_0_0_2304) x)
  · exact (congrFun (last2_8 _ _) _).trans (piece2 m hO c t 2048 (by omega) (inb := inb_S1x2x2816_S1x2x256_0_0_2048) x)
  · exact (congrFun (last2_7 _ _) _).trans (piece2 m hO c t 1792 (by omega) (inb := inb_S1x2x2816_S1x2x256_0_0_1792) x)
  · exact (congrFun (last2_6 _ _) _).trans (piece2 m hO c t 1536 (by omega) (inb := inb_S1x2x2816_S1x2x256_0_0_1536) x)
  · exact (congrFun (last2_5 _ _) _).trans (piece2 m hO c t 1280 (by omega) (inb := inb_S1x2x2816_S1x2x256_0_0_1280) x)
  · exact (congrFun (last2_4 _ _) _).trans (piece2 m hO c t 1024 (by omega) (inb := inb_S1x2x2816_S1x2x256_0_0_1024) x)
  · exact (congrFun (last2_3 _ _) _).trans (piece2 m hO c t 768 (by omega) (inb := inb_S1x2x2816_S1x2x256_0_0_768) x)
  · exact (congrFun (last2_2 _ _) _).trans (piece2 m hO c t 512 (by omega) (inb := inb_S1x2x2816_S1x2x256_0_0_512) x)
  · exact (congrFun (last2_1 _ _) _).trans (piece2 m hO c t 256 (by omega) (inb := inb_S1x2x2816_S1x2x256_0_0_256) x)
  · exact piece2 m hO c t 0 (by omega) (inb := inb_S1x2x2816_S1x2x256_0_0_0) x
  exact View.cover_of_tiledL _ ![1, 2, 256] (by sl_kernel_rfl) y

set_option maxHeartbeats 6400000 in
/-- The last two rows of every gate lane, as a later tile leaves them. -/
theorem last_B (c : Dev nD) (t : Fin (cfgM m hO).N) (y : S1x2x2816.Idx) (e : ¬t.val % 4 = 0) :
    (outsAt0 m hO hH c t.val t.isLt).2.1 y = last m hO c t y := by
  rw [outsAt0_B m hO hH c t e]; frame_out
  have e0 : View.read (Elt Ideal) (ms0_0 m hO t).view ((hs0_0 m hO t).unread (iblk m hO c 0 t)) = iblk m hO c 0 t := (hs0_0 m hO t).read_unread _
  have e1 : View.read (Elt Ideal) (ms0_1 m hO t).view ((hs0_1 m hO t).unread (iblk m hO c 1 t)) = iblk m hO c 1 t := (hs0_1 m hO t).read_unread _
  have e2 : View.read (Elt Ideal) (ms0_2 m hO t).view ((hs0_2 m hO t).unread (iblk m hO c 2 t)) = iblk m hO c 2 t := (hs0_2 m hO t).read_unread _
  have e3 : View.read (Elt Ideal) (ms0_3 m hO t).view ((hs0_3 m hO t).unread (iblk m hO c 3 t)) = iblk m hO c 3 t := (hs0_3 m hO t).read_unread _
  have e4 : View.read (Elt Ideal) (ms0_4 m hO t).view ((hs0_4 m hO t).unread (iblk m hO c 4 t)) = iblk m hO c 4 t := (hs0_4 m hO t).read_unread _
  have e5 : View.read (Elt Ideal) (ms0_5 m hO t).view ((hs0_5 m hO t).unread (iblk m hO c 5 t)) = iblk m hO c 5 t := (hs0_5 m hO t).read_unread _
  have e6 : View.read (Elt Ideal) (ms0_6 m hO t).view ((hs0_6 m hO t).unread (iblk m hO c 6 t)) = iblk m hO c 6 t := (hs0_6 m hO t).read_unread _
  have e7 : View.read (Elt Ideal) (ms0_7 m hO t).view ((hs0_7 m hO t).unread (iblk m hO c 7 t)) = iblk m hO c 7 t := (hs0_7 m hO t).read_unread _
  have e8 : View.read (Elt Ideal) (ms0_8 m hO t).view ((hs0_8 m hO t).unread (iblk m hO c 8 t)) = iblk m hO c 8 t := (hs0_8 m hO t).read_unread _
  have e9 : View.read (Elt Ideal) (ms0_9 m hO t).view ((hs0_9 m hO t).unread (iblk m hO c 9 t)) = iblk m hO c 9 t := (hs0_9 m hO t).read_unread _
  have e10 : View.read (Elt Ideal) (ms0_10 m hO t).view ((hs0_10 m hO t).unread (iblk m hO c 10 t)) = iblk m hO c 10 t := (hs0_10 m hO t).read_unread _
  have e11 : View.read (Elt Ideal) (ms0_11 m hO t).view ((hs0_11 m hO t).unread (iblk m hO c 11 t)) = iblk m hO c 11 t := (hs0_11 m hO t).read_unread _
  have eh : FloatOps.ofBits (F := Ideal) FTy.f32 1056964608#32 = half := rfl
  simp only [eh, e0, e1, e2, e3, e4, e5, e6, e7, e8, e9, e10, e11]
  refine View.canon_append_of_piecesOf (Val := Elt Ideal) (e := .f32) (last m hO c t) [] [_, _, _, _, _, _, _, _, _, _, _] ?_ y ?_
  refine ⟨fun x => ?_, fun x => ?_, fun x => ?_, fun x => ?_, fun x => ?_, fun x => ?_, fun x => ?_, fun x => ?_, fun x => ?_, fun x => ?_, fun x => ?_, trivial⟩
  · exact (congrFun (last2_10 _ _) _).trans (piece2 m hO c t 2560 (by omega) (inb := inb_S1x2x2816_S1x2x256_0_0_2560) x)
  · exact (congrFun (last2_9 _ _) _).trans (piece2 m hO c t 2304 (by omega) (inb := inb_S1x2x2816_S1x2x256_0_0_2304) x)
  · exact (congrFun (last2_8 _ _) _).trans (piece2 m hO c t 2048 (by omega) (inb := inb_S1x2x2816_S1x2x256_0_0_2048) x)
  · exact (congrFun (last2_7 _ _) _).trans (piece2 m hO c t 1792 (by omega) (inb := inb_S1x2x2816_S1x2x256_0_0_1792) x)
  · exact (congrFun (last2_6 _ _) _).trans (piece2 m hO c t 1536 (by omega) (inb := inb_S1x2x2816_S1x2x256_0_0_1536) x)
  · exact (congrFun (last2_5 _ _) _).trans (piece2 m hO c t 1280 (by omega) (inb := inb_S1x2x2816_S1x2x256_0_0_1280) x)
  · exact (congrFun (last2_4 _ _) _).trans (piece2 m hO c t 1024 (by omega) (inb := inb_S1x2x2816_S1x2x256_0_0_1024) x)
  · exact (congrFun (last2_3 _ _) _).trans (piece2 m hO c t 768 (by omega) (inb := inb_S1x2x2816_S1x2x256_0_0_768) x)
  · exact (congrFun (last2_2 _ _) _).trans (piece2 m hO c t 512 (by omega) (inb := inb_S1x2x2816_S1x2x256_0_0_512) x)
  · exact (congrFun (last2_1 _ _) _).trans (piece2 m hO c t 256 (by omega) (inb := inb_S1x2x2816_S1x2x256_0_0_256) x)
  · exact piece2 m hO c t 0 (by omega) (inb := inb_S1x2x2816_S1x2x256_0_0_0) x
  exact View.cover_of_tiledL _ ![1, 2, 256] (by sl_kernel_rfl) y

theorem pt_14 (c : Dev nD) (t : Fin (cfgM m hO).N) (y : S1x2x2816.Idx) :
    (outsAt0 m hO hH c t.val t.isLt).2.1 y = last m hO c t y :=
  if e : t.val % 4 = 0 then last_A m hO hH c t y e else last_B m hO hH c t y e

set_option maxHeartbeats 6400000 in
/-- The rows a sequence's first tile writes: the merged rows and the eleven blocks of gate columns. -/
theorem pt_13_A (c : Dev nD) (t : Fin (cfgM m hO).N) (r : Fin 512) (j : Fin 1024) (e : t.val % 4 = 0) :
    (outsAt0 m hO hH c t.val t.isLt).1 (ix2 r j)
      = Cert.FfnRefIdeal.At.r1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (sq t) (tm t r) j + ∑ n, part (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (sq t) (tm t r) j n := by
  rw [outsAt0_A m hO hH c t e]; frame_open
  simp (disch := decide) only [↓ View.readCov_skip, ↓ View.readCov_cons_toLoadRect, ↓ View.readCov_fill]
  frame_out
  have e0 : View.read (Elt Ideal) (ms0_0 m hO t).view ((hs0_0 m hO t).unread (iblk m hO c 0 t)) = iblk m hO c 0 t := (hs0_0 m hO t).read_unread _
  have e1 : View.read (Elt Ideal) (ms0_1 m hO t).view ((hs0_1 m hO t).unread (iblk m hO c 1 t)) = iblk m hO c 1 t := (hs0_1 m hO t).read_unread _
  have e2 : View.read (Elt Ideal) (ms0_2 m hO t).view ((hs0_2 m hO t).unread (iblk m hO c 2 t)) = iblk m hO c 2 t := (hs0_2 m hO t).read_unread _
  have e3 : View.read (Elt Ideal) (ms0_3 m hO t).view ((hs0_3 m hO t).unread (iblk m hO c 3 t)) = iblk m hO c 3 t := (hs0_3 m hO t).read_unread _
  have e4 : View.read (Elt Ideal) (ms0_4 m hO t).view ((hs0_4 m hO t).unread (iblk m hO c 4 t)) = iblk m hO c 4 t := (hs0_4 m hO t).read_unread _
  have e5 : View.read (Elt Ideal) (ms0_5 m hO t).view ((hs0_5 m hO t).unread (iblk m hO c 5 t)) = iblk m hO c 5 t := (hs0_5 m hO t).read_unread _
  have e6 : View.read (Elt Ideal) (ms0_6 m hO t).view ((hs0_6 m hO t).unread (iblk m hO c 6 t)) = iblk m hO c 6 t := (hs0_6 m hO t).read_unread _
  have e7 : View.read (Elt Ideal) (ms0_7 m hO t).view ((hs0_7 m hO t).unread (iblk m hO c 7 t)) = iblk m hO c 7 t := (hs0_7 m hO t).read_unread _
  have e8 : View.read (Elt Ideal) (ms0_8 m hO t).view ((hs0_8 m hO t).unread (iblk m hO c 8 t)) = iblk m hO c 8 t := (hs0_8 m hO t).read_unread _
  have e9 : View.read (Elt Ideal) (ms0_9 m hO t).view ((hs0_9 m hO t).unread (iblk m hO c 9 t)) = iblk m hO c 9 t := (hs0_9 m hO t).read_unread _
  have e10 : View.read (Elt Ideal) (ms0_10 m hO t).view ((hs0_10 m hO t).unread (iblk m hO c 10 t)) = iblk m hO c 10 t := (hs0_10 m hO t).read_unread _
  have e11 : View.read (Elt Ideal) (ms0_11 m hO t).view ((hs0_11 m hO t).unread (iblk m hO c 11 t)) = iblk m hO c 11 t := (hs0_11 m hO t).read_unread _
  have eh : FloatOps.ofBits (F := Ideal) FTy.f32 1056964608#32 = half := rfl
  simp only [eh, e0, e1, e2, e3, e4, e5, e6, e7, e8, e9, e10, e11]
  refine Eq.trans ?_ (sum11 _ _)
  refine (congrFun (acc10 _ _ _ _ _ _ _ _ _) _).trans (step m hO c t 10 2560 5376 rfl rfl _ (before_first m hO c t e 10 _ fun y => zero_at _ _) _ r j _ ?_)
  refine (congrFun (acc9 _ _ _ _ _ _ _ _ _) _).trans (step m hO c t 9 2304 5120 rfl rfl _ (before_first m hO c t e 9 _ fun y => zero_at _ _) _ r j _ ?_)
  refine (congrFun (acc8 _ _ _ _ _ _ _ _ _) _).trans (step m hO c t 8 2048 4864 rfl rfl _ (before_first m hO c t e 8 _ fun y => zero_at _ _) _ r j _ ?_)
  refine (congrFun (acc7 _ _ _ _ _ _ _ _ _) _).trans (step m hO c t 7 1792 4608 rfl rfl _ (before_first m hO c t e 7 _ fun y => zero_at _ _) _ r j _ ?_)
  refine (congrFun (acc6 _ _ _ _ _ _ _ _ _) _).trans (step m hO c t 6 1536 4352 rfl rfl _ (before_first m hO c t e 6 _ fun y => zero_at _ _) _ r j _ ?_)
  refine (congrFun (acc5 _ _ _ _ _ _ _ _ _) _).trans (step m hO c t 5 1280 4096 rfl rfl _ (before_first m hO c t e 5 _ fun y => zero_at _ _) _ r j _ ?_)
  refine (congrFun (acc4 _ _ _ _ _ _ _ _ _) _).trans (step m hO c t 4 1024 3840 rfl rfl _ (before_first m hO c t e 4 _ fun y => zero_at _ _) _ r j _ ?_)
  refine (congrFun (acc3 _ _ _ _ _ _ _ _ _) _).trans (step m hO c t 3 768 3584 rfl rfl _ (before_first m hO c t e 3 _ fun y => zero_at _ _) _ r j _ ?_)
  refine (congrFun (acc2 _ _ _ _ _ _ _ _ _) _).trans (step m hO c t 2 512 3328 rfl rfl _ (before_first m hO c t e 2 _ fun y => zero_at _ _) _ r j _ ?_)
  refine (congrFun (acc1 _ _ _ _ _ _ _ _ _) _).trans (step m hO c t 1 256 3072 rfl rfl _ (before_first m hO c t e 1 _ fun y => zero_at _ _) _ r j _ ?_)
  refine (step m hO c t 0 0 2816 rfl rfl _ (before_first m hO c t e 0 _ fun y => zero_at _ _) _ r j _ ?_)
  exact (acc0_pay _ _ _ _ _ r j).trans (rows_eq m hO c t r j)

set_option maxHeartbeats 6400000 in
/-- The rows a later tile writes. -/
theorem pt_13_B (c : Dev nD) (t : Fin (cfgM m hO).N) (r : Fin 512) (j : Fin 1024) (e : ¬t.val % 4 = 0) :
    (outsAt0 m hO hH c t.val t.isLt).1 (ix2 r j)
      = Cert.FfnRefIdeal.At.r1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (sq t) (tm t r) j + ∑ n, part (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (sq t) (tm t r) j n := by
  rw [outsAt0_B m hO hH c t e]; frame_open
  simp (disch := decide) only [↓ View.readCov_skip, ↓ View.readCov_cons_toLoadRect, ↓ View.readCov_fill]
  frame_out
  have e0 : View.read (Elt Ideal) (ms0_0 m hO t).view ((hs0_0 m hO t).unread (iblk m hO c 0 t)) = iblk m hO c 0 t := (hs0_0 m hO t).read_unread _
  have e1 : View.read (Elt Ideal) (ms0_1 m hO t).view ((hs0_1 m hO t).unread (iblk m hO c 1 t)) = iblk m hO c 1 t := (hs0_1 m hO t).read_unread _
  have e2 : View.read (Elt Ideal) (ms0_2 m hO t).view ((hs0_2 m hO t).unread (iblk m hO c 2 t)) = iblk m hO c 2 t := (hs0_2 m hO t).read_unread _
  have e3 : View.read (Elt Ideal) (ms0_3 m hO t).view ((hs0_3 m hO t).unread (iblk m hO c 3 t)) = iblk m hO c 3 t := (hs0_3 m hO t).read_unread _
  have e4 : View.read (Elt Ideal) (ms0_4 m hO t).view ((hs0_4 m hO t).unread (iblk m hO c 4 t)) = iblk m hO c 4 t := (hs0_4 m hO t).read_unread _
  have e5 : View.read (Elt Ideal) (ms0_5 m hO t).view ((hs0_5 m hO t).unread (iblk m hO c 5 t)) = iblk m hO c 5 t := (hs0_5 m hO t).read_unread _
  have e6 : View.read (Elt Ideal) (ms0_6 m hO t).view ((hs0_6 m hO t).unread (iblk m hO c 6 t)) = iblk m hO c 6 t := (hs0_6 m hO t).read_unread _
  have e7 : View.read (Elt Ideal) (ms0_7 m hO t).view ((hs0_7 m hO t).unread (iblk m hO c 7 t)) = iblk m hO c 7 t := (hs0_7 m hO t).read_unread _
  have e8 : View.read (Elt Ideal) (ms0_8 m hO t).view ((hs0_8 m hO t).unread (iblk m hO c 8 t)) = iblk m hO c 8 t := (hs0_8 m hO t).read_unread _
  have e9 : View.read (Elt Ideal) (ms0_9 m hO t).view ((hs0_9 m hO t).unread (iblk m hO c 9 t)) = iblk m hO c 9 t := (hs0_9 m hO t).read_unread _
  have e10 : View.read (Elt Ideal) (ms0_10 m hO t).view ((hs0_10 m hO t).unread (iblk m hO c 10 t)) = iblk m hO c 10 t := (hs0_10 m hO t).read_unread _
  have e11 : View.read (Elt Ideal) (ms0_11 m hO t).view ((hs0_11 m hO t).unread (iblk m hO c 11 t)) = iblk m hO c 11 t := (hs0_11 m hO t).read_unread _
  have eh : FloatOps.ofBits (F := Ideal) FTy.f32 1056964608#32 = half := rfl
  simp only [eh, e0, e1, e2, e3, e4, e5, e6, e7, e8, e9, e10, e11]
  simp only [read_unread_whole]
  refine Eq.trans ?_ (sum11 _ _)
  refine (congrFun (acc10 _ _ _ _ _ _ _ _ _) _).trans (step m hO c t 10 2560 5376 rfl rfl _ (before_next m hO c t ⟨t.val - 1, by omega⟩ e rfl 10 2560 rfl _ (kept m hO hH c ⟨t.val - 1, by omega⟩)) _ r j _ ?_)
  refine (congrFun (acc9 _ _ _ _ _ _ _ _ _) _).trans (step m hO c t 9 2304 5120 rfl rfl _ (before_next m hO c t ⟨t.val - 1, by omega⟩ e rfl 9 2304 rfl _ (kept m hO hH c ⟨t.val - 1, by omega⟩)) _ r j _ ?_)
  refine (congrFun (acc8 _ _ _ _ _ _ _ _ _) _).trans (step m hO c t 8 2048 4864 rfl rfl _ (before_next m hO c t ⟨t.val - 1, by omega⟩ e rfl 8 2048 rfl _ (kept m hO hH c ⟨t.val - 1, by omega⟩)) _ r j _ ?_)
  refine (congrFun (acc7 _ _ _ _ _ _ _ _ _) _).trans (step m hO c t 7 1792 4608 rfl rfl _ (before_next m hO c t ⟨t.val - 1, by omega⟩ e rfl 7 1792 rfl _ (kept m hO hH c ⟨t.val - 1, by omega⟩)) _ r j _ ?_)
  refine (congrFun (acc6 _ _ _ _ _ _ _ _ _) _).trans (step m hO c t 6 1536 4352 rfl rfl _ (before_next m hO c t ⟨t.val - 1, by omega⟩ e rfl 6 1536 rfl _ (kept m hO hH c ⟨t.val - 1, by omega⟩)) _ r j _ ?_)
  refine (congrFun (acc5 _ _ _ _ _ _ _ _ _) _).trans (step m hO c t 5 1280 4096 rfl rfl _ (before_next m hO c t ⟨t.val - 1, by omega⟩ e rfl 5 1280 rfl _ (kept m hO hH c ⟨t.val - 1, by omega⟩)) _ r j _ ?_)
  refine (congrFun (acc4 _ _ _ _ _ _ _ _ _) _).trans (step m hO c t 4 1024 3840 rfl rfl _ (before_next m hO c t ⟨t.val - 1, by omega⟩ e rfl 4 1024 rfl _ (kept m hO hH c ⟨t.val - 1, by omega⟩)) _ r j _ ?_)
  refine (congrFun (acc3 _ _ _ _ _ _ _ _ _) _).trans (step m hO c t 3 768 3584 rfl rfl _ (before_next m hO c t ⟨t.val - 1, by omega⟩ e rfl 3 768 rfl _ (kept m hO hH c ⟨t.val - 1, by omega⟩)) _ r j _ ?_)
  refine (congrFun (acc2 _ _ _ _ _ _ _ _ _) _).trans (step m hO c t 2 512 3328 rfl rfl _ (before_next m hO c t ⟨t.val - 1, by omega⟩ e rfl 2 512 rfl _ (kept m hO hH c ⟨t.val - 1, by omega⟩)) _ r j _ ?_)
  refine (congrFun (acc1 _ _ _ _ _ _ _ _ _) _).trans (step m hO c t 1 256 3072 rfl rfl _ (before_next m hO c t ⟨t.val - 1, by omega⟩ e rfl 1 256 rfl _ (kept m hO hH c ⟨t.val - 1, by omega⟩)) _ r j _ ?_)
  refine (step m hO c t 0 0 2816 rfl rfl _ (before_next m hO c t ⟨t.val - 1, by omega⟩ e rfl 0 0 rfl _ (kept m hO hH c ⟨t.val - 1, by omega⟩)) _ r j _ ?_)
  exact (acc0_pay _ _ _ _ _ r j).trans (rows_eq m hO c t r j)

theorem pt_13 (c : Dev nD) (t : Fin (cfgM m hO).N) (r : Fin 512) (j : Fin 1024) :
    (outsAt0 m hO hH c t.val t.isLt).1 (ix2 r j)
      = Cert.FfnRefIdeal.At.r1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (sq t) (tm t r) j + ∑ n, part (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (sq t) (tm t r) j n :=
  if e : t.val % 4 = 0 then pt_13_A m hO hH c t r j e else pt_13_B m hO hH c t r j e

theorem covers13 : ((cfgM m hO).win 13).Covers :=
  Pipeline.Window.covers_of_index_surj _ rfl
    (by decide : ∀ a : Fin S16384x1024.rank, 0 < S512x1024.size a)
    (by decide +kernel : ∀ β : (a : Fin S16384x1024.rank) → Fin ((S16384x1024.size a + S512x1024.size a - 1) / S512x1024.size a),
      ∃ t : Fin grid0.N, ∀ a : Fin S16384x1024.rank, cc0_transform_14 (grid0.coords t) a = β a)

/-- The layer's output after the run. -/
theorem final_13 (c : Dev nD) : (dats m hO hH 0 c).arrAt 13 (cfgM m hO).N
    = Cert.FfnRefIdeal.At.Y (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  refine (dats m hO hH 0 c).arrAt_eq_of_covers 13 _ (covers13 m hO) fun t hf (y : S512x1024.Idx) => ?_
  have ht : t.val < 32 := lt_of_lt_of_eq t.isLt N_0
  blk_simp; rw [after0_13]
  obtain ⟨r, b, rfl⟩ : ∃ (r : Fin 512) (b : Fin 1024), y = ix2 r b := ⟨y 0, y 1, by blk_ext⟩
  trans (Cert.FfnRefIdeal.At.Y (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))) (ix2 ⟨t.val * 512 + r.val, by omega⟩ b)
  · rw [Cert.FfnRefIdeal.At.Y_at, parts]
    refine (pt_13 m hO hH c t r b).trans ?_
    have e1 : sq t = ⟨(t.val * 512 + r.val) / 2048, by omega⟩ := Fin.ext (by simp only [sq]; omega)
    have e2 : tm t r = ⟨(t.val * 512 + r.val) % 2048, by omega⟩ := Fin.ext (by simp only [tm]; omega)
    rw [e1, e2]
  · blk_ext [idx m hO t, sq, tm]

theorem covers14 : ((cfgM m hO).win 14).Covers :=
  Pipeline.Window.covers_of_index_surj _ rfl
    (by decide : ∀ a : Fin S8x2x2816.rank, 0 < S1x2x2816.size a)
    (by decide +kernel : ∀ β : (a : Fin S8x2x2816.rank) → Fin ((S8x2x2816.size a + S1x2x2816.size a - 1) / S1x2x2816.size a),
      ∃ t : Fin grid0.N, ∀ a : Fin S8x2x2816.rank, cc0_transform_15 (grid0.coords t) a = β a)

/-- The last two rows of each sequence's gate lanes after the run. -/
theorem final_14 (c : Dev nD) : (dats m hO hH 0 c).arrAt 14 (cfgM m hO).N
    = Cert.FfnRefIdeal.At.ST (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  refine (dats m hO hH 0 c).arrAt_eq_of_covers 14 _ (covers14 m hO) fun t hf (y : S1x2x2816.Idx) => ?_
  have ht : t.val < 32 := lt_of_lt_of_eq t.isLt N_0
  blk_simp; rw [after0_14]
  have h4 := (flush0_14 _ t).mp hf
  obtain ⟨i, b, rfl⟩ : ∃ (i : Fin 2) (b : Fin 2816), y = ix3 0 i b := ⟨y 1, y 2, by blk_ext⟩
  trans (Cert.FfnRefIdeal.At.ST (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) (ix3 (sq t) i b)
  · rw [Cert.FfnRefIdeal.At.ST_at]
    refine (pt_14 m hO hH c t (ix3 0 i b)).trans ?_
    unfold last
    refine congrArg₂ (fun a b => Cert.FfnRefIdeal.At.up (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (sq t) a b) (Fin.ext ?_) (Fin.ext rfl)
    show t.val % 4 * 512 + (510 + i.val) = 2046 + i.val
    omega
  · blk_ext [idx m hO t, sq, tm]

end Cert.FfnIdeal.Val

end

end
-- ==== Proof.lean ====
module

public import proofs.«01_k».proof.Defs
public import proofs.«01_k».proof.Proof.Gen.Ffn
public import proofs.«01_k».proof.Proof.Gen.Ffn.Skeleton
public import proofs.«01_k».proof.Proof.Gen.Ffn.Launch
public import proofs.«01_k».proof.Proof.Gen.FfnIdeal
public import proofs.«01_k».proof.Proof.Gen.FfnIdeal.Skeleton
public import proofs.«01_k».proof.Proof.Gen.FfnIdeal.Launch
public import proofs.«01_k».proof.Proof.Gen.FfnRefIdeal.Run
public import proofs.«01_k».proof.Proof.Gen.Pre_pages_in_pool
public import proofs.«01_k».proof.Proof.Gen.InProj.Frame
public import proofs.«01_k».proof.Proof.Gen.InProjIdeal.Frame
public import proofs.«01_k».proof.Proof.Gen.InProjRefIdeal.Run
public import proofs.«01_k».proof.Proof.Gen.InStep.Frame
public import proofs.«01_k».proof.Proof.Gen.InStepIdeal.Frame
public import proofs.«01_k».proof.Proof.Gen.InStepRefIdeal.Run
public import proofs.«01_k».proof.Proof.Gen.FfnStep.Frame
public import proofs.«01_k».proof.Proof.Gen.FfnStepIdeal.Frame
public import proofs.«01_k».proof.Proof.Gen.FfnStepRefIdeal.Run
public import proofs.«01_k».proof.Proof.InProj
public import proofs.«01_k».proof.Proof.InStep
public import proofs.«01_k».proof.Proof.FfnStep
public import proofs.«01_k».proof.Proof.FfnFrame
public import proofs.«01_k».proof.Proof.FfnWords
public import proofs.«01_k».proof.Proof.FfnIdealFrame
public import proofs.«01_k».proof.Proof.FfnIdealWords
public import proofs.«01_k».proof.Proof.FfnVal
public import Idealize.ShloMosaic.Lib.Claim
public import Idealize.ShloMosaic.Adequacy
public import Idealize.ShloMosaic.Init

@[expose] public section

set_option maxRecDepth 16384

noncomputable section

namespace Cert.Proof

open Idealize.ShloMosaic Idealize.SL.Sem

instance : Cert.Ffn.Facts := Cert.Ffn.Gen.facts
instance : Cert.FfnIdeal.Facts := Cert.FfnIdeal.Gen.facts
instance : Cert.FfnRefIdeal.Facts := Cert.FfnRefIdeal.Gen.facts
instance : Cert.Pre_pages_in_pool.Facts := Cert.Pre_pages_in_pool.Gen.facts
instance : Cert.InProj.Facts := Cert.InProj.Gen.facts
instance : Cert.InProjIdeal.Facts := Cert.InProjIdeal.Gen.facts
instance : Cert.InProjRefIdeal.Facts := Cert.InProjRefIdeal.Gen.facts
instance : Cert.InStep.Facts := Cert.InStep.Gen.facts
instance : Cert.InStepIdeal.Facts := Cert.InStepIdeal.Gen.facts
instance : Cert.InStepRefIdeal.Facts := Cert.InStepRefIdeal.Gen.facts
instance : Cert.FfnStep.Facts := Cert.FfnStep.Gen.facts
instance : Cert.FfnStepIdeal.Facts := Cert.FfnStepIdeal.Gen.facts
instance : Cert.FfnStepRefIdeal.Facts := Cert.FfnStepRefIdeal.Gen.facts

set_option maxHeartbeats 6400000 in
/-- The merge and feed-forward call's named results are its reference's. -/
theorem ffn : algebraic_FfnIdeal_FfnRefIdeal := by
  intro m g m' g' hpre hagree
  have hO : Cert.FfnIdeal.Hand.Ok m := trivial
  have hH : Cert.FfnIdeal.Hand.Hyps m hO := Cert.FfnIdeal.Words.hyps m hpre hO
  refine ⟨fun c => (Cert.FfnIdeal.Hand.dats m hO hH 0 c).arrAt 13 (Cert.FfnIdeal.Hand.cfgM m hO).N, fun c => (Cert.FfnIdeal.Hand.dats m hO hH 0 c).arrAt 14 (Cert.FfnIdeal.Hand.cfgM m hO).N, ?_, ?_⟩
  · refine Idealize.ShloMosaic.θ_run_mono (Idealize.ShloMosaic.θ_run_and (Cert.FfnIdeal.Hand.run_main m g hO hH) (Cert.FfnIdeal.Hand.unchanged m g hO hH)) ?_
    intro r hr c
    exact ⟨((Cert.FfnIdeal.Hand.dats m hO hH 0 c).toRForget_arrAt_iff rfl _ _).mp ((hr.1 c).1 13),
      ((Cert.FfnIdeal.Hand.dats m hO hH 0 c).toRForget_arrAt_iff rfl _ _).mp ((hr.1 c).1 14), hr.2 c⟩
  · refine Idealize.ShloMosaic.θ_run_mono (Cert.FfnRefIdeal.Value.run m' g') ?_
    intro r hr c
    have ha := hagree c
    obtain ⟨h0, h1, hr⟩ := hr c
    obtain ⟨e0, e1, e2, e3, e4, e5, e6, e7, e8, e9, e10, e11, e12, e13, e14⟩ := ha
    refine ⟨h0.trans ?_, h1.trans ?_, hr⟩
    · refine Eq.trans (b := Cert.FfnRefIdeal.At.Y (m' ((c.tc : Thread Cert.FfnRefIdeal.nD Cert.FfnRefIdeal.τ).loc Cert.FfnRefIdeal.main_arg0)) (m' ((c.tc : Thread Cert.FfnRefIdeal.nD Cert.FfnRefIdeal.τ).loc Cert.FfnRefIdeal.main_arg1)) (m' ((c.tc : Thread Cert.FfnRefIdeal.nD Cert.FfnRefIdeal.τ).loc Cert.FfnRefIdeal.main_arg2)) (m' ((c.tc : Thread Cert.FfnRefIdeal.nD Cert.FfnRefIdeal.τ).loc Cert.FfnRefIdeal.main_arg3)) (m' ((c.tc : Thread Cert.FfnRefIdeal.nD Cert.FfnRefIdeal.τ).loc Cert.FfnRefIdeal.main_arg4)) (m' ((c.tc : Thread Cert.FfnRefIdeal.nD Cert.FfnRefIdeal.τ).loc Cert.FfnRefIdeal.main_arg5)) (m' ((c.tc : Thread Cert.FfnRefIdeal.nD Cert.FfnRefIdeal.τ).loc Cert.FfnRefIdeal.main_arg6)) (m' ((c.tc : Thread Cert.FfnRefIdeal.nD Cert.FfnRefIdeal.τ).loc Cert.FfnRefIdeal.main_arg7)) (m' ((c.tc : Thread Cert.FfnRefIdeal.nD Cert.FfnRefIdeal.τ).loc Cert.FfnRefIdeal.main_arg8)) (m' ((c.tc : Thread Cert.FfnRefIdeal.nD Cert.FfnRefIdeal.τ).loc Cert.FfnRefIdeal.main_arg9)) (m' ((c.tc : Thread Cert.FfnRefIdeal.nD Cert.FfnRefIdeal.τ).loc Cert.FfnRefIdeal.main_arg10)) (m' ((c.tc : Thread Cert.FfnRefIdeal.nD Cert.FfnRefIdeal.τ).loc Cert.FfnRefIdeal.main_arg11))) rfl ?_
      rw [e0, e1, e2, e3, e4, e5, e6, e7, e8, e9, e10, e11]
      exact (Cert.FfnIdeal.Val.final_13 m hO hH c).symm
    · refine Eq.trans (b := Cert.FfnRefIdeal.At.ST (m' ((c.tc : Thread Cert.FfnRefIdeal.nD Cert.FfnRefIdeal.τ).loc Cert.FfnRefIdeal.main_arg0)) (m' ((c.tc : Thread Cert.FfnRefIdeal.nD Cert.FfnRefIdeal.τ).loc Cert.FfnRefIdeal.main_arg1)) (m' ((c.tc : Thread Cert.FfnRefIdeal.nD Cert.FfnRefIdeal.τ).loc Cert.FfnRefIdeal.main_arg2)) (m' ((c.tc : Thread Cert.FfnRefIdeal.nD Cert.FfnRefIdeal.τ).loc Cert.FfnRefIdeal.main_arg3)) (m' ((c.tc : Thread Cert.FfnRefIdeal.nD Cert.FfnRefIdeal.τ).loc Cert.FfnRefIdeal.main_arg4)) (m' ((c.tc : Thread Cert.FfnRefIdeal.nD Cert.FfnRefIdeal.τ).loc Cert.FfnRefIdeal.main_arg5)) (m' ((c.tc : Thread Cert.FfnRefIdeal.nD Cert.FfnRefIdeal.τ).loc Cert.FfnRefIdeal.main_arg6)) (m' ((c.tc : Thread Cert.FfnRefIdeal.nD Cert.FfnRefIdeal.τ).loc Cert.FfnRefIdeal.main_arg7)) (m' ((c.tc : Thread Cert.FfnRefIdeal.nD Cert.FfnRefIdeal.τ).loc Cert.FfnRefIdeal.main_arg8)) (m' ((c.tc : Thread Cert.FfnRefIdeal.nD Cert.FfnRefIdeal.τ).loc Cert.FfnRefIdeal.main_arg9))) rfl ?_
      rw [e0, e1, e2, e3, e4, e5, e6, e7, e8, e9]
      exact (Cert.FfnIdeal.Val.final_14 m hO hH c).symm

set_option maxHeartbeats 6400000 in
/-- The merge and feed-forward reference ends and leaves its arguments as they were. -/
theorem ffn_ref : quiescent_FfnRefIdeal := by
  intro m g _
  refine Idealize.ShloMosaic.θ_run_mono (Cert.FfnRefIdeal.Value.run m g) ?_
  intro r hr
  refine ⟨fun c => ?_, sem_eq_zero_of_no_sems rfl _⟩
  obtain ⟨_, _, h⟩ := hr c
  exact h

set_option maxHeartbeats 6400000 in
/-- The prompt projection call's results are its reference's. -/
theorem inproj : algebraic_InProjIdeal_InProjRefIdeal := by
  intro m g m' g' _ hagree
  refine ⟨fun c => (Cert.InProjIdeal.Gen.dats m 0 c).arrAt 7 (Cert.InProjIdeal.cfgs 0).N, fun c => (Cert.InProjIdeal.Gen.dats m 0 c).arrAt 8 (Cert.InProjIdeal.cfgs 0).N, fun c => (Cert.InProjIdeal.Gen.dats m 0 c).arrAt 9 (Cert.InProjIdeal.cfgs 0).N, fun c => (Cert.InProjIdeal.Gen.dats m 0 c).arrAt 10 (Cert.InProjIdeal.cfgs 0).N, fun c => (Cert.InProjIdeal.Gen.dats m 0 c).arrAt 11 (Cert.InProjIdeal.cfgs 0).N, fun c => (Cert.InProjIdeal.Gen.dats m 0 c).arrAt 12 (Cert.InProjIdeal.cfgs 0).N, fun c => (Cert.InProjIdeal.Gen.dats m 0 c).arrAt 13 (Cert.InProjIdeal.cfgs 0).N, fun c => (Cert.InProjIdeal.Gen.dats m 0 c).arrAt 14 (Cert.InProjIdeal.cfgs 0).N, fun c => (Cert.InProjIdeal.Gen.dats m 0 c).arrAt 15 (Cert.InProjIdeal.cfgs 0).N, fun c => (Cert.InProjIdeal.Gen.dats m 0 c).arrAt 16 (Cert.InProjIdeal.cfgs 0).N, ?_, ?_⟩
  · refine Idealize.ShloMosaic.θ_run_mono (Cert.InProjIdeal.Gen.run_main m g) ?_
    intro r hr c
    exact ⟨(hr c).1 7, (hr c).1 8, (hr c).1 9, (hr c).1 10, (hr c).1 11, (hr c).1 12, (hr c).1 13, (hr c).1 14, (hr c).1 15, (hr c).1 16,
      ((hr c).2 Cert.InProjIdeal.main_arg0 (Pipeline.mem_restRefs_of Cert.InProjIdeal.main_arg0 (by decide) (by decide))).trans (Cert.InProjIdeal.Gen.V_main_arg0 m c),
      ((hr c).2 Cert.InProjIdeal.main_arg1 (Pipeline.mem_restRefs_of Cert.InProjIdeal.main_arg1 (by decide) (by decide))).trans (Cert.InProjIdeal.Gen.V_main_arg1 m c),
      ((hr c).2 Cert.InProjIdeal.main_arg2 (Pipeline.mem_restRefs_of Cert.InProjIdeal.main_arg2 (by decide) (by decide))).trans (Cert.InProjIdeal.Gen.V_main_arg2 m c),
      ((hr c).2 Cert.InProjIdeal.main_arg3 (Pipeline.mem_restRefs_of Cert.InProjIdeal.main_arg3 (by decide) (by decide))).trans (Cert.InProjIdeal.Gen.V_main_arg3 m c),
      ((hr c).2 Cert.InProjIdeal.main_arg4 (Pipeline.mem_restRefs_of Cert.InProjIdeal.main_arg4 (by decide) (by decide))).trans (Cert.InProjIdeal.Gen.V_main_arg4 m c),
      ((hr c).2 Cert.InProjIdeal.main_arg5 (Pipeline.mem_restRefs_of Cert.InProjIdeal.main_arg5 (by decide) (by decide))).trans (Cert.InProjIdeal.Gen.V_main_arg5 m c)⟩
  · refine Idealize.ShloMosaic.θ_run_mono (Cert.InProjRefIdeal.Value.run m' g') ?_
    intro r hr c
    have ha := hagree c
    obtain ⟨h0, h1, h2, h3, h4, h5, h6, h7, h8, h9, hr⟩ := hr c
    obtain ⟨e0, e1, e2, e3, e4, e5⟩ := ha
    refine ⟨h0.trans ?_, h1.trans ?_, h2.trans ?_, h3.trans ?_, h4.trans ?_, h5.trans ?_, h6.trans ?_, h7.trans ?_, h8.trans ?_, h9.trans ?_, hr⟩
    · refine Eq.trans (b := Cert.InProjRefIdeal.At.Q (m' ((c.tc : Thread Cert.InProjRefIdeal.nD Cert.InProjRefIdeal.τ).loc Cert.InProjRefIdeal.main_arg0)) (m' ((c.tc : Thread Cert.InProjRefIdeal.nD Cert.InProjRefIdeal.τ).loc Cert.InProjRefIdeal.main_arg1)) (m' ((c.tc : Thread Cert.InProjRefIdeal.nD Cert.InProjRefIdeal.τ).loc Cert.InProjRefIdeal.main_arg2)) (m' ((c.tc : Thread Cert.InProjRefIdeal.nD Cert.InProjRefIdeal.τ).loc Cert.InProjRefIdeal.main_arg3))) rfl ?_
      rw [e0, e1, e2, e3]
      exact (Cert.InProjIdeal.Val.final_7 m c).symm
    · refine Eq.trans (b := Cert.InProjRefIdeal.At.KT (m' ((c.tc : Thread Cert.InProjRefIdeal.nD Cert.InProjRefIdeal.τ).loc Cert.InProjRefIdeal.main_arg0)) (m' ((c.tc : Thread Cert.InProjRefIdeal.nD Cert.InProjRefIdeal.τ).loc Cert.InProjRefIdeal.main_arg1)) (m' ((c.tc : Thread Cert.InProjRefIdeal.nD Cert.InProjRefIdeal.τ).loc Cert.InProjRefIdeal.main_arg2)) (m' ((c.tc : Thread Cert.InProjRefIdeal.nD Cert.InProjRefIdeal.τ).loc Cert.InProjRefIdeal.main_arg4))) rfl ?_
      rw [e0, e1, e2, e4]
      exact (Cert.InProjIdeal.Val.final_8 m c).symm
    · refine Eq.trans (b := Cert.InProjRefIdeal.At.VT (m' ((c.tc : Thread Cert.InProjRefIdeal.nD Cert.InProjRefIdeal.τ).loc Cert.InProjRefIdeal.main_arg0)) (m' ((c.tc : Thread Cert.InProjRefIdeal.nD Cert.InProjRefIdeal.τ).loc Cert.InProjRefIdeal.main_arg1)) (m' ((c.tc : Thread Cert.InProjRefIdeal.nD Cert.InProjRefIdeal.τ).loc Cert.InProjRefIdeal.main_arg2))) rfl ?_
      rw [e0, e1, e2]
      exact (Cert.InProjIdeal.Val.final_9 m c).symm
    · refine Eq.trans (b := Cert.InProjRefIdeal.At.KB (m' ((c.tc : Thread Cert.InProjRefIdeal.nD Cert.InProjRefIdeal.τ).loc Cert.InProjRefIdeal.main_arg0)) (m' ((c.tc : Thread Cert.InProjRefIdeal.nD Cert.InProjRefIdeal.τ).loc Cert.InProjRefIdeal.main_arg1)) (m' ((c.tc : Thread Cert.InProjRefIdeal.nD Cert.InProjRefIdeal.τ).loc Cert.InProjRefIdeal.main_arg2)) (m' ((c.tc : Thread Cert.InProjRefIdeal.nD Cert.InProjRefIdeal.τ).loc Cert.InProjRefIdeal.main_arg4))) rfl ?_
      rw [e0, e1, e2, e4]
      exact (Cert.InProjIdeal.Val.final_10 m c).symm
    · refine Eq.trans (b := Cert.InProjRefIdeal.At.VB (m' ((c.tc : Thread Cert.InProjRefIdeal.nD Cert.InProjRefIdeal.τ).loc Cert.InProjRefIdeal.main_arg0)) (m' ((c.tc : Thread Cert.InProjRefIdeal.nD Cert.InProjRefIdeal.τ).loc Cert.InProjRefIdeal.main_arg1)) (m' ((c.tc : Thread Cert.InProjRefIdeal.nD Cert.InProjRefIdeal.τ).loc Cert.InProjRefIdeal.main_arg2))) rfl ?_
      rw [e0, e1, e2]
      exact (Cert.InProjIdeal.Val.final_11 m c).symm
    · refine Eq.trans (b := Cert.InProjRefIdeal.At.KS (m' ((c.tc : Thread Cert.InProjRefIdeal.nD Cert.InProjRefIdeal.τ).loc Cert.InProjRefIdeal.main_arg0)) (m' ((c.tc : Thread Cert.InProjRefIdeal.nD Cert.InProjRefIdeal.τ).loc Cert.InProjRefIdeal.main_arg1)) (m' ((c.tc : Thread Cert.InProjRefIdeal.nD Cert.InProjRefIdeal.τ).loc Cert.InProjRefIdeal.main_arg2)) (m' ((c.tc : Thread Cert.InProjRefIdeal.nD Cert.InProjRefIdeal.τ).loc Cert.InProjRefIdeal.main_arg4))) rfl ?_
      rw [e0, e1, e2, e4]
      exact (Cert.InProjIdeal.Val.final_12 m c).symm
    · refine Eq.trans (b := Cert.InProjRefIdeal.At.S (m' ((c.tc : Thread Cert.InProjRefIdeal.nD Cert.InProjRefIdeal.τ).loc Cert.InProjRefIdeal.main_arg0)) (m' ((c.tc : Thread Cert.InProjRefIdeal.nD Cert.InProjRefIdeal.τ).loc Cert.InProjRefIdeal.main_arg1)) (m' ((c.tc : Thread Cert.InProjRefIdeal.nD Cert.InProjRefIdeal.τ).loc Cert.InProjRefIdeal.main_arg2)) (m' ((c.tc : Thread Cert.InProjRefIdeal.nD Cert.InProjRefIdeal.τ).loc Cert.InProjRefIdeal.main_arg5))) rfl ?_
      rw [e0, e1, e2, e5]
      exact (Cert.InProjIdeal.Val.final_13 m c).symm
    · refine Eq.trans (b := Cert.InProjRefIdeal.At.GA (m' ((c.tc : Thread Cert.InProjRefIdeal.nD Cert.InProjRefIdeal.τ).loc Cert.InProjRefIdeal.main_arg0)) (m' ((c.tc : Thread Cert.InProjRefIdeal.nD Cert.InProjRefIdeal.τ).loc Cert.InProjRefIdeal.main_arg1)) (m' ((c.tc : Thread Cert.InProjRefIdeal.nD Cert.InProjRefIdeal.τ).loc Cert.InProjRefIdeal.main_arg2))) rfl ?_
      rw [e0, e1, e2]
      exact (Cert.InProjIdeal.Val.final_14 m c).symm
    · refine Eq.trans (b := Cert.InProjRefIdeal.At.GB (m' ((c.tc : Thread Cert.InProjRefIdeal.nD Cert.InProjRefIdeal.τ).loc Cert.InProjRefIdeal.main_arg0)) (m' ((c.tc : Thread Cert.InProjRefIdeal.nD Cert.InProjRefIdeal.τ).loc Cert.InProjRefIdeal.main_arg1)) (m' ((c.tc : Thread Cert.InProjRefIdeal.nD Cert.InProjRefIdeal.τ).loc Cert.InProjRefIdeal.main_arg2))) rfl ?_
      rw [e0, e1, e2]
      exact (Cert.InProjIdeal.Val.final_15 m c).symm
    · refine Eq.trans (b := Cert.InProjRefIdeal.At.CS (m' ((c.tc : Thread Cert.InProjRefIdeal.nD Cert.InProjRefIdeal.τ).loc Cert.InProjRefIdeal.main_arg0)) (m' ((c.tc : Thread Cert.InProjRefIdeal.nD Cert.InProjRefIdeal.τ).loc Cert.InProjRefIdeal.main_arg1)) (m' ((c.tc : Thread Cert.InProjRefIdeal.nD Cert.InProjRefIdeal.τ).loc Cert.InProjRefIdeal.main_arg2))) rfl ?_
      rw [e0, e1, e2]
      exact (Cert.InProjIdeal.Val.final_16 m c).symm

set_option maxHeartbeats 6400000 in
/-- The step projection call's results are its reference's. -/
theorem instep : algebraic_InStepIdeal_InStepRefIdeal := by
  intro m g m' g' _ hagree
  refine ⟨fun c => (Cert.InStepIdeal.Gen.dats m 0 c).arrAt 9 (Cert.InStepIdeal.cfgs 0).N, fun c => (Cert.InStepIdeal.Gen.dats m 0 c).arrAt 10 (Cert.InStepIdeal.cfgs 0).N, fun c => (Cert.InStepIdeal.Gen.dats m 0 c).arrAt 11 (Cert.InStepIdeal.cfgs 0).N, fun c => (Cert.InStepIdeal.Gen.dats m 0 c).arrAt 12 (Cert.InStepIdeal.cfgs 0).N, fun c => (Cert.InStepIdeal.Gen.dats m 0 c).arrAt 13 (Cert.InStepIdeal.cfgs 0).N, fun c => (Cert.InStepIdeal.Gen.dats m 0 c).arrAt 14 (Cert.InStepIdeal.cfgs 0).N, fun c => (Cert.InStepIdeal.Gen.dats m 0 c).arrAt 15 (Cert.InStepIdeal.cfgs 0).N, ?_, ?_⟩
  · refine Idealize.ShloMosaic.θ_run_mono (Cert.InStepIdeal.Gen.run_main m g) ?_
    intro r hr c
    exact ⟨(hr c).1 9, (hr c).1 10, (hr c).1 11, (hr c).1 12, (hr c).1 13, (hr c).1 14, (hr c).1 15,
      ((hr c).2 Cert.InStepIdeal.main_arg0 (Pipeline.mem_restRefs_of Cert.InStepIdeal.main_arg0 (by decide) (by decide))).trans (Cert.InStepIdeal.Gen.V_main_arg0 m c),
      ((hr c).2 Cert.InStepIdeal.main_arg1 (Pipeline.mem_restRefs_of Cert.InStepIdeal.main_arg1 (by decide) (by decide))).trans (Cert.InStepIdeal.Gen.V_main_arg1 m c),
      ((hr c).2 Cert.InStepIdeal.main_arg2 (Pipeline.mem_restRefs_of Cert.InStepIdeal.main_arg2 (by decide) (by decide))).trans (Cert.InStepIdeal.Gen.V_main_arg2 m c),
      ((hr c).2 Cert.InStepIdeal.main_arg3 (Pipeline.mem_restRefs_of Cert.InStepIdeal.main_arg3 (by decide) (by decide))).trans (Cert.InStepIdeal.Gen.V_main_arg3 m c),
      ((hr c).2 Cert.InStepIdeal.main_arg4 (Pipeline.mem_restRefs_of Cert.InStepIdeal.main_arg4 (by decide) (by decide))).trans (Cert.InStepIdeal.Gen.V_main_arg4 m c),
      ((hr c).2 Cert.InStepIdeal.main_arg5 (Pipeline.mem_restRefs_of Cert.InStepIdeal.main_arg5 (by decide) (by decide))).trans (Cert.InStepIdeal.Gen.V_main_arg5 m c),
      ((hr c).2 Cert.InStepIdeal.main_arg6 (Pipeline.mem_restRefs_of Cert.InStepIdeal.main_arg6 (by decide) (by decide))).trans (Cert.InStepIdeal.Gen.V_main_arg6 m c)⟩
  · refine Idealize.ShloMosaic.θ_run_mono (Cert.InStepRefIdeal.Value.run m' g') ?_
    intro r hr c
    have ha := hagree c
    obtain ⟨h0, h1, h2, h3, h4, h5, h6, hr⟩ := hr c
    obtain ⟨e0, e1, e2, e3, e4, e5, e6⟩ := ha
    refine ⟨h0.trans ?_, h1.trans ?_, h2.trans ?_, h3.trans ?_, h4.trans ?_, h5.trans ?_, h6.trans ?_, hr⟩
    · refine Eq.trans (b := Cert.InStepRefIdeal.At.Q (m' ((c.tc : Thread Cert.InStepRefIdeal.nD Cert.InStepRefIdeal.τ).loc Cert.InStepRefIdeal.main_arg0)) (m' ((c.tc : Thread Cert.InStepRefIdeal.nD Cert.InStepRefIdeal.τ).loc Cert.InStepRefIdeal.main_arg1)) (m' ((c.tc : Thread Cert.InStepRefIdeal.nD Cert.InStepRefIdeal.τ).loc Cert.InStepRefIdeal.main_arg2)) (m' ((c.tc : Thread Cert.InStepRefIdeal.nD Cert.InStepRefIdeal.τ).loc Cert.InStepRefIdeal.main_arg3))) rfl ?_
      rw [e0, e1, e2, e3]
      exact (Cert.InStepIdeal.Val.final_9 m c).symm
    · refine Eq.trans (b := Cert.InStepRefIdeal.At.K (m' ((c.tc : Thread Cert.InStepRefIdeal.nD Cert.InStepRefIdeal.τ).loc Cert.InStepRefIdeal.main_arg0)) (m' ((c.tc : Thread Cert.InStepRefIdeal.nD Cert.InStepRefIdeal.τ).loc Cert.InStepRefIdeal.main_arg1)) (m' ((c.tc : Thread Cert.InStepRefIdeal.nD Cert.InStepRefIdeal.τ).loc Cert.InStepRefIdeal.main_arg2)) (m' ((c.tc : Thread Cert.InStepRefIdeal.nD Cert.InStepRefIdeal.τ).loc Cert.InStepRefIdeal.main_arg4))) rfl ?_
      rw [e0, e1, e2, e4]
      exact (Cert.InStepIdeal.Val.final_10 m c).symm
    · refine Eq.trans (b := Cert.InStepRefIdeal.At.V (m' ((c.tc : Thread Cert.InStepRefIdeal.nD Cert.InStepRefIdeal.τ).loc Cert.InStepRefIdeal.main_arg0)) (m' ((c.tc : Thread Cert.InStepRefIdeal.nD Cert.InStepRefIdeal.τ).loc Cert.InStepRefIdeal.main_arg1)) (m' ((c.tc : Thread Cert.InStepRefIdeal.nD Cert.InStepRefIdeal.τ).loc Cert.InStepRefIdeal.main_arg2))) rfl ?_
      rw [e0, e1, e2]
      exact (Cert.InStepIdeal.Val.final_11 m c).symm
    · refine Eq.trans (b := Cert.InStepRefIdeal.At.S (m' ((c.tc : Thread Cert.InStepRefIdeal.nD Cert.InStepRefIdeal.τ).loc Cert.InStepRefIdeal.main_arg0)) (m' ((c.tc : Thread Cert.InStepRefIdeal.nD Cert.InStepRefIdeal.τ).loc Cert.InStepRefIdeal.main_arg1)) (m' ((c.tc : Thread Cert.InStepRefIdeal.nD Cert.InStepRefIdeal.τ).loc Cert.InStepRefIdeal.main_arg2)) (m' ((c.tc : Thread Cert.InStepRefIdeal.nD Cert.InStepRefIdeal.τ).loc Cert.InStepRefIdeal.main_arg5)) (m' ((c.tc : Thread Cert.InStepRefIdeal.nD Cert.InStepRefIdeal.τ).loc Cert.InStepRefIdeal.main_arg6))) rfl ?_
      rw [e0, e1, e2, e5, e6]
      exact (Cert.InStepIdeal.Val.final_12 m c).symm
    · refine Eq.trans (b := Cert.InStepRefIdeal.At.GA (m' ((c.tc : Thread Cert.InStepRefIdeal.nD Cert.InStepRefIdeal.τ).loc Cert.InStepRefIdeal.main_arg0)) (m' ((c.tc : Thread Cert.InStepRefIdeal.nD Cert.InStepRefIdeal.τ).loc Cert.InStepRefIdeal.main_arg1)) (m' ((c.tc : Thread Cert.InStepRefIdeal.nD Cert.InStepRefIdeal.τ).loc Cert.InStepRefIdeal.main_arg2))) rfl ?_
      rw [e0, e1, e2]
      exact (Cert.InStepIdeal.Val.final_13 m c).symm
    · refine Eq.trans (b := Cert.InStepRefIdeal.At.GB (m' ((c.tc : Thread Cert.InStepRefIdeal.nD Cert.InStepRefIdeal.τ).loc Cert.InStepRefIdeal.main_arg0)) (m' ((c.tc : Thread Cert.InStepRefIdeal.nD Cert.InStepRefIdeal.τ).loc Cert.InStepRefIdeal.main_arg1)) (m' ((c.tc : Thread Cert.InStepRefIdeal.nD Cert.InStepRefIdeal.τ).loc Cert.InStepRefIdeal.main_arg2))) rfl ?_
      rw [e0, e1, e2]
      exact (Cert.InStepIdeal.Val.final_14 m c).symm
    · refine Eq.trans (b := Cert.InStepRefIdeal.At.U (m' ((c.tc : Thread Cert.InStepRefIdeal.nD Cert.InStepRefIdeal.τ).loc Cert.InStepRefIdeal.main_arg0)) (m' ((c.tc : Thread Cert.InStepRefIdeal.nD Cert.InStepRefIdeal.τ).loc Cert.InStepRefIdeal.main_arg1)) (m' ((c.tc : Thread Cert.InStepRefIdeal.nD Cert.InStepRefIdeal.τ).loc Cert.InStepRefIdeal.main_arg2))) rfl ?_
      rw [e0, e1, e2]
      exact (Cert.InStepIdeal.Val.final_15 m c).symm

set_option maxHeartbeats 6400000 in
/-- The prompt projection's reference ends and leaves its arguments as they were. -/
theorem inproj_ref : quiescent_InProjRefIdeal := by
  intro m g _
  refine Idealize.ShloMosaic.θ_run_mono (Cert.InProjRefIdeal.Value.run m g) ?_
  intro r hr
  refine ⟨fun c => ?_, sem_eq_zero_of_no_sems rfl _⟩
  obtain ⟨_, _, _, _, _, _, _, _, _, _, h⟩ := hr c
  exact h

set_option maxHeartbeats 6400000 in
/-- The step projection's reference ends and leaves its arguments as they were. -/
theorem instep_ref : quiescent_InStepRefIdeal := by
  intro m g _
  refine Idealize.ShloMosaic.θ_run_mono (Cert.InStepRefIdeal.Value.run m g) ?_
  intro r hr
  refine ⟨fun c => ?_, sem_eq_zero_of_no_sems rfl _⟩
  obtain ⟨_, _, _, _, _, _, _, h⟩ := hr c
  exact h

set_option maxHeartbeats 6400000 in
/-- The step call's merge and feed-forward results are its reference's. -/
theorem ffnstep : algebraic_FfnStepIdeal_FfnStepRefIdeal := by
  intro m g m' g' _ hagree
  refine ⟨fun c => (Cert.FfnStepIdeal.Gen.dats m 0 c).arrAt 14 (Cert.FfnStepIdeal.cfgs 0).N, fun c => (Cert.FfnStepIdeal.Gen.dats m 0 c).arrAt 15 (Cert.FfnStepIdeal.cfgs 0).N, ?_, ?_⟩
  · refine Idealize.ShloMosaic.θ_run_mono (Idealize.ShloMosaic.θ_run_and (Cert.FfnStepIdeal.Gen.run_main m g) (Cert.FfnStepIdeal.Gen.unchanged m g)) ?_
    intro r hr c
    exact ⟨(hr.1 c).1 14, (hr.1 c).1 15, hr.2 c⟩
  · refine Idealize.ShloMosaic.θ_run_mono (Cert.FfnStepRefIdeal.Value.run m' g') ?_
    intro r hr c
    have ha := hagree c
    obtain ⟨h0, h1, hr⟩ := hr c
    obtain ⟨e0, e1, e2, e3, e4, e5, e6, e7, e8, e9, e10, e11, e12⟩ := ha
    refine ⟨h0.trans ?_, h1.trans ?_, hr⟩
    · refine Eq.trans (b := Cert.FfnStepRefIdeal.At.Y (m' ((c.tc : Thread Cert.FfnStepRefIdeal.nD Cert.FfnStepRefIdeal.τ).loc Cert.FfnStepRefIdeal.main_arg0)) (m' ((c.tc : Thread Cert.FfnStepRefIdeal.nD Cert.FfnStepRefIdeal.τ).loc Cert.FfnStepRefIdeal.main_arg1)) (m' ((c.tc : Thread Cert.FfnStepRefIdeal.nD Cert.FfnStepRefIdeal.τ).loc Cert.FfnStepRefIdeal.main_arg2)) (m' ((c.tc : Thread Cert.FfnStepRefIdeal.nD Cert.FfnStepRefIdeal.τ).loc Cert.FfnStepRefIdeal.main_arg3)) (m' ((c.tc : Thread Cert.FfnStepRefIdeal.nD Cert.FfnStepRefIdeal.τ).loc Cert.FfnStepRefIdeal.main_arg4)) (m' ((c.tc : Thread Cert.FfnStepRefIdeal.nD Cert.FfnStepRefIdeal.τ).loc Cert.FfnStepRefIdeal.main_arg5)) (m' ((c.tc : Thread Cert.FfnStepRefIdeal.nD Cert.FfnStepRefIdeal.τ).loc Cert.FfnStepRefIdeal.main_arg6)) (m' ((c.tc : Thread Cert.FfnStepRefIdeal.nD Cert.FfnStepRefIdeal.τ).loc Cert.FfnStepRefIdeal.main_arg7)) (m' ((c.tc : Thread Cert.FfnStepRefIdeal.nD Cert.FfnStepRefIdeal.τ).loc Cert.FfnStepRefIdeal.main_arg8)) (m' ((c.tc : Thread Cert.FfnStepRefIdeal.nD Cert.FfnStepRefIdeal.τ).loc Cert.FfnStepRefIdeal.main_arg9)) (m' ((c.tc : Thread Cert.FfnStepRefIdeal.nD Cert.FfnStepRefIdeal.τ).loc Cert.FfnStepRefIdeal.main_arg10)) (m' ((c.tc : Thread Cert.FfnStepRefIdeal.nD Cert.FfnStepRefIdeal.τ).loc Cert.FfnStepRefIdeal.main_arg11)) (m' ((c.tc : Thread Cert.FfnStepRefIdeal.nD Cert.FfnStepRefIdeal.τ).loc Cert.FfnStepRefIdeal.main_arg12))) rfl ?_
      rw [e0, e1, e2, e3, e4, e5, e6, e7, e8, e9, e10, e11, e12]
      exact (Cert.FfnStepIdeal.Val.final_14 m c).symm
    · refine Eq.trans (b := Cert.FfnStepRefIdeal.At.G (m' ((c.tc : Thread Cert.FfnStepRefIdeal.nD Cert.FfnStepRefIdeal.τ).loc Cert.FfnStepRefIdeal.main_arg0)) (m' ((c.tc : Thread Cert.FfnStepRefIdeal.nD Cert.FfnStepRefIdeal.τ).loc Cert.FfnStepRefIdeal.main_arg1)) (m' ((c.tc : Thread Cert.FfnStepRefIdeal.nD Cert.FfnStepRefIdeal.τ).loc Cert.FfnStepRefIdeal.main_arg2)) (m' ((c.tc : Thread Cert.FfnStepRefIdeal.nD Cert.FfnStepRefIdeal.τ).loc Cert.FfnStepRefIdeal.main_arg3)) (m' ((c.tc : Thread Cert.FfnStepRefIdeal.nD Cert.FfnStepRefIdeal.τ).loc Cert.FfnStepRefIdeal.main_arg4)) (m' ((c.tc : Thread Cert.FfnStepRefIdeal.nD Cert.FfnStepRefIdeal.τ).loc Cert.FfnStepRefIdeal.main_arg5)) (m' ((c.tc : Thread Cert.FfnStepRefIdeal.nD Cert.FfnStepRefIdeal.τ).loc Cert.FfnStepRefIdeal.main_arg6)) (m' ((c.tc : Thread Cert.FfnStepRefIdeal.nD Cert.FfnStepRefIdeal.τ).loc Cert.FfnStepRefIdeal.main_arg7)) (m' ((c.tc : Thread Cert.FfnStepRefIdeal.nD Cert.FfnStepRefIdeal.τ).loc Cert.FfnStepRefIdeal.main_arg8)) (m' ((c.tc : Thread Cert.FfnStepRefIdeal.nD Cert.FfnStepRefIdeal.τ).loc Cert.FfnStepRefIdeal.main_arg9)) (m' ((c.tc : Thread Cert.FfnStepRefIdeal.nD Cert.FfnStepRefIdeal.τ).loc Cert.FfnStepRefIdeal.main_arg12))) rfl ?_
      rw [e0, e1, e2, e3, e4, e5, e6, e7, e8, e9, e12]
      exact (Cert.FfnStepIdeal.Val.final_15 m c).symm

set_option maxHeartbeats 6400000 in
/-- The step call's merge and feed-forward reference ends and leaves its arguments as they were. -/
theorem ffnstep_ref : quiescent_FfnStepRefIdeal := by
  intro m g _
  refine Idealize.ShloMosaic.θ_run_mono (Cert.FfnStepRefIdeal.Value.run m g) ?_
  intro r hr
  refine ⟨fun c => ?_, sem_eq_zero_of_no_sems rfl _⟩
  obtain ⟨_, _, h⟩ := hr c
  exact h

theorem claim : Cert.Claim := ⟨Cert.Ffn.Gen.facts, Cert.FfnIdeal.Gen.facts, Cert.FfnRefIdeal.Gen.facts, Cert.InProj.Gen.facts, Cert.InProjIdeal.Gen.facts, Cert.InProjRefIdeal.Gen.facts, Cert.InStep.Gen.facts, Cert.InStepIdeal.Gen.facts, Cert.InStepRefIdeal.Gen.facts, Cert.FfnStep.Gen.facts, Cert.FfnStepIdeal.Gen.facts, Cert.FfnStepRefIdeal.Gen.facts, Cert.Pre_pages_in_pool.Gen.facts,
  fun m g h => Cert.Ffn.Hand.frame m g trivial (Cert.Ffn.Words.hyps m h trivial),
  fun m g h => Cert.FfnIdeal.Hand.frame m g trivial (Cert.FfnIdeal.Words.hyps m h trivial),
  ffn_ref,
  fun m g _ => ffn_ref m g trivial,
  fun m g _ => Cert.InProj.Gen.frame m g,
  fun m g _ => Cert.InProjIdeal.Gen.frame m g,
  inproj_ref,
  fun m g _ => Cert.InStep.Gen.frame m g,
  fun m g _ => Cert.InStepIdeal.Gen.frame m g,
  instep_ref,
  fun m g _ => Cert.FfnStep.Gen.frame m g,
  fun m g _ => Cert.FfnStepIdeal.Gen.frame m g,
  ffnstep_ref,
  trivial, ffn, trivial, inproj, trivial, instep, trivial, ffnstep⟩

end Cert.Proof

end
